-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v379_0)) (v1 : (c : Dev Cert.KernelIdeal.nD) → Buf (Elt Ideal) ((c.tc : Thread Cert.KernelIdeal.nD Cert.KernelIdeal.τ).loc Cert.KernelIdeal.main_v379_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v379_0) = v0 c
          ∧ r.2.mem ((c.tc : Thread Cert.KernelIdeal.nD Cert.KernelIdeal.τ).loc Cert.KernelIdeal.main_v379_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v957) = v0 c
          ∧ r.2.mem ((c.tc : Thread Cert.ReferenceIdeal.nD Cert.ReferenceIdeal.τ).loc Cert.ReferenceIdeal.main_v956) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v36) = v2 c
          ∧ r.2.mem ((c.tc : Thread Cert.Reference9Ideal.nD Cert.Reference9Ideal.τ).loc Cert.Reference9Ideal.main_v54) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x2048 : Shape := ⟨2, ![4096, 2048]⟩
abbrev S2x512 : Shape := ⟨2, ![2, 512]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  bcast_S_S2x512 : S_.BroadcastsInDim S2x512 (![] : Fin 0 → Fin S2x512.rank)
  bcast_S_S4096x512 : S_.BroadcastsInDim S4096x512 (![] : Fin 0 → Fin S4096x512.rank)

variable [Facts]

def fn {F : FTy → Type} [FloatOps F] (main_arg0 : FVec F S4096x2048 .f32) (main_arg1 : FVec F S2x512 .f32) (main_arg2 : FVec F S4096x512 .f32) : IVec S4096x2048 1 × IVec S2x512 1 × IVec S4096x512 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2x512 .f32 := Host.absf main_arg1
  let main_cst_0 : FVec F S_ .f32 := constant S_ .f32 0x7F800000#32
  let main_v4 : FVec F S2x512 .f32 := broadcastInDim S2x512 ![] bcast_S_S2x512 main_cst_0
  let main_v5 : IVec S2x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Kernel.lean ====
abbrev S4096x2048 : Shape := ⟨2, ![4096, 2048]⟩
abbrev S2x512 : Shape := ⟨2, ![2, 512]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S4x128 : Shape := ⟨2, ![4, 128]⟩
abbrev S4096x4x128 : Shape := ⟨3, ![4096, 4, 128]⟩
abbrev S1x4x128 : Shape := ⟨3, ![1, 4, 128]⟩
abbrev S64x64x4x128 : Shape := ⟨4, ![64, 64, 4, 128]⟩
abbrev S64x1x4x128 : Shape := ⟨4, ![64, 1, 4, 128]⟩
abbrev S64x4x128 : Shape := ⟨3, ![64, 4, 128]⟩
abbrev S64x4x128x128 : Shape := ⟨4, ![64, 4, 128, 128]⟩
abbrev S1x4x128x128 : Shape := ⟨4, ![1, 4, 128, 128]⟩
abbrev S64x4x128x1 : Shape := ⟨4, ![64, 4, 128, 1]⟩
abbrev S1x4x128x1 : Shape := ⟨4, ![1, 4, 128, 1]⟩
abbrev S16x4x128x128 : Shape := ⟨4, ![16, 4, 128, 128]⟩
abbrev S4096x1536 : Shape := ⟨2, ![4096, 1536]⟩
abbrev S256x512 : Shape := ⟨2, ![256, 512]⟩
abbrev S4x4x128x128 : Shape := ⟨4, ![4, 4, 128, 128]⟩
abbrev S256x1536 : Shape := ⟨2, ![256, 1536]⟩
abbrev S4x128x128 : Shape := ⟨3, ![4, 128, 128]⟩
abbrev S128x128 : Shape := ⟨2, ![128, 128]⟩
abbrev S1x128 : Shape := ⟨2, ![1, 128]⟩
abbrev S64x128 : Shape := ⟨2, ![64, 128]⟩
abbrev S128 : Shape := ⟨1, ![128]⟩
abbrev S1x1x128x128 : Shape := ⟨4, ![1, 1, 128, 128]⟩
abbrev S1x128x128 : Shape := ⟨3, ![1, 128, 128]⟩

abbrev nBuf : Space → Nat
  | .hbm => 396
  | .vmem => 16
  | .smem => 0
  | _ => 0

abbrev hbmTy0_0 (i : Nat) : BufTy := match i % 128 with
  | 0 => ⟨S4096x2048, .f32⟩
  | 1 => ⟨S2x512, .f32⟩
  | 2 => ⟨S4096x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S4x128, .f32⟩
  | 23 => ⟨S4096x512, .f32⟩
  | 24 => ⟨S4096x512, .f32⟩
  | 25 => ⟨S4096x4x128, .f32⟩
  | 26 => ⟨S4096x4x128, .f32⟩
  | 27 => ⟨S_, .f32⟩
  | 28 => ⟨S4x128, .f32⟩
  | 29 => ⟨S4x128, .f32⟩
  | 30 => ⟨S4096x4x128, .f32⟩
  | 31 => ⟨S4096x4x128, .f32⟩
  | 32 => ⟨S_, .f32⟩
  | 33 => ⟨S4096x4x128, .f32⟩
  | 34 => ⟨S4096x4x128, .f32⟩
  | 35 => ⟨S_, .f32⟩
  | 36 => ⟨S4096x4x128, .f32⟩
  | 37 => ⟨S4096x4x128, .f32⟩
  | 38 => ⟨S1x4x128, .f32⟩
  | 39 => ⟨S4096x4x128, .f32⟩
  | 40 => ⟨S4096x4x128, .f32⟩
  | 41 => ⟨S1x4x128, .f32⟩
  | 42 => ⟨S4096x4x128, .f32⟩
  | 43 => ⟨S4096x4x128, .f32⟩
  | 44 => ⟨S_, .f32⟩
  | 45 => ⟨S4096x4x128, .f32⟩
  | 46 => ⟨S4096x4x128, .f32⟩
  | 47 => ⟨S64x64x4x128, .f32⟩
  | 48 => ⟨S64x64x4x128, .f32⟩
  | 49 => ⟨S4096x4x128, .f32⟩
  | 50 => ⟨S64x64x4x128, .f32⟩
  | 51 => ⟨S_, .f32⟩
  | 52 => ⟨S_, .f32⟩
  | 53 => ⟨S64x64x4x128, .f32⟩
  | 54 => ⟨S64x1x4x128, .f32⟩
  | 55 => ⟨S64x4x128, .f32⟩
  | 56 => ⟨S64x1x4x128, .f32⟩
  | 57 => ⟨S64x64x4x128, .f32⟩
  | 58 => ⟨S64x64x4x128, .f32⟩
  | 59 => ⟨S64x64x4x128, .f32⟩
  | 60 => ⟨S64x64x4x128, .f32⟩
  | 61 => ⟨S64x4x128x128, .f32⟩
  | 62 => ⟨S64x4x128, .f32⟩
  | 63 => ⟨S_, .f32⟩
  | 64 => ⟨S1x4x128x128, .f32⟩
  | 65 => ⟨S64x4x128x1, .f32⟩
  | 66 => ⟨S1x4x128x1, .f32⟩
  | 67 => ⟨S1x4x128x1, .f32⟩
  | 68 => ⟨S1x4x128x1, .f32⟩
  | 69 => ⟨S1x4x128x1, .f32⟩
  | 70 => ⟨S1x4x128x1, .f32⟩
  | 71 => ⟨S1x4x128x1, .f32⟩
  | 72 => ⟨S1x4x128x1, .f32⟩
  | 73 => ⟨S1x4x128x1, .f32⟩
  | 74 => ⟨S1x4x128x1, .f32⟩
  | 75 => ⟨S1x4x128x1, .f32⟩
  | 76 => ⟨S1x4x128x1, .f32⟩
  | 77 => ⟨S1x4x128x1, .f32⟩
  | 78 => ⟨S1x4x128x1, .f32⟩
  | 79 => ⟨S1x4x128x1, .f32⟩
  | 80 => ⟨S1x4x128x1, .f32⟩
  | 81 => ⟨S1x4x128x1, .f32⟩
  | 82 => ⟨S1x4x128x1, .f32⟩
  | 83 => ⟨S1x4x128x1, .f32⟩
  | 84 => ⟨S1x4x128x1, .f32⟩
  | 85 => ⟨S1x4x128x1, .f32⟩
  | 86 => ⟨S1x4x128x1, .f32⟩
  | 87 => ⟨S1x4x128x1, .f32⟩
  | 88 => ⟨S1x4x128x1, .f32⟩
  | 89 => ⟨S1x4x128x1, .f32⟩
  | 90 => ⟨S1x4x128x1, .f32⟩
  | 91 => ⟨S1x4x128x1, .f32⟩
  | 92 => ⟨S1x4x128x1, .f32⟩
  | 93 => ⟨S1x4x128x1, .f32⟩
  | 94 => ⟨S1x4x128x1, .f32⟩
  | 95 => ⟨S1x4x128x1, .f32⟩
  | 96 => ⟨S1x4x128x1, .f32⟩
  | 97 => ⟨S1x4x128x1, .f32⟩
  | 98 => ⟨S1x4x128x1, .f32⟩
  | 99 => ⟨S1x4x128x1, .f32⟩
  | 100 => ⟨S1x4x128x1, .f32⟩
  | 101 => ⟨S1x4x128x1, .f32⟩
  | 102 => ⟨S1x4x128x1, .f32⟩
  | 103 => ⟨S1x4x128x1, .f32⟩
  | 104 => ⟨S1x4x128x1, .f32⟩
  | 105 => ⟨S1x4x128x1, .f32⟩
  | 106 => ⟨S1x4x128x1, .f32⟩
  | 107 => ⟨S1x4x128x1, .f32⟩
  | 108 => ⟨S1x4x128x1, .f32⟩
  | 109 => ⟨S1x4x128x1, .f32⟩
  | 110 => ⟨S1x4x128x1, .f32⟩
  | 111 => ⟨S1x4x128x1, .f32⟩
  | 112 => ⟨S1x4x128x1, .f32⟩
  | 113 => ⟨S1x4x128x1, .f32⟩
  | 114 => ⟨S1x4x128x1, .f32⟩
  | 115 => ⟨S1x4x128x1, .f32⟩
  | 116 => ⟨S1x4x128x1, .f32⟩
  | 117 => ⟨S1x4x128x1, .f32⟩
  | 118 => ⟨S1x4x128x1, .f32⟩
  | 119 => ⟨S1x4x128x1, .f32⟩
  | 120 => ⟨S1x4x128x1, .f32⟩
  | 121 => ⟨S1x4x128x1, .f32⟩
  | 122 => ⟨S1x4x128x1, .f32⟩
  | 123 => ⟨S1x4x128x1, .f32⟩
  | 124 => ⟨S1x4x128x1, .f32⟩
  | 125 => ⟨S1x4x128x1, .f32⟩
  | 126 => ⟨S1x4x128x1, .f32⟩
  | 127 => ⟨S1x4x128x1, .f32⟩
  | _ => ⟨S4096x2048, .f32⟩

abbrev hbmTy0_1 (i : Nat) : BufTy := match i % 128 with
  | 0 => ⟨S1x4x128x1, .f32⟩
  | 1 => ⟨S1x4x128x1, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S4096x2048, .f32⟩

abbrev hbmTy0_2 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S4096x2048, .f32⟩

abbrev hbmTy0_3 (i : Nat) : BufTy := match i % 128 with
  | 0 => ⟨S1x4x128x128, .f32⟩
  | 1 => ⟨S1x4x128x128, .f32⟩
  | 2 => ⟨S16x4x128x128, .f32⟩
  | 3 => ⟨S16x4x128x128, .f32⟩
  | 4 => ⟨S16x4x128x128, .f32⟩
  | 5 => ⟨S16x4x128x128, .f32⟩
  | 6 => ⟨S64x4x128x128, .f32⟩
  | 7 => ⟨S64x4x128x128, .f32⟩
  | 8 => ⟨S4096x2048, .bf16⟩
  | 9 => ⟨S4096x512, .f32⟩
  | 10 => ⟨S4096x1536, .bf16⟩
  | 11 => ⟨S2x512, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S2x512, .f32⟩
  | .local _ .vmem, ⟨7, _⟩ => ⟨S4x4x128x128, .f32⟩
  | .local _ .vmem, ⟨8, _⟩ => ⟨S4x4x128x128, .f32⟩
  | .local _ .vmem, ⟨9, _⟩ => ⟨S256x512, .f32⟩
  | .local _ .vmem, ⟨10, _⟩ => ⟨S256x512, .f32⟩
  | .local _ .vmem, ⟨11, _⟩ => ⟨S256x1536, .bf16⟩
  | .local _ .vmem, ⟨12, _⟩ => ⟨S256x1536, .bf16⟩
  | .local _ .vmem, ⟨13, _⟩ => ⟨S2x512, .f32⟩
  | .local _ .vmem, ⟨14, _⟩ => ⟨S4x128x128, .f32⟩
  | .local _ .vmem, ⟨15, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_call0_cst : Ref sig .tc := ⟨.hbm, 51, rfl⟩
abbrev main_call1_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_v288 : Ref sig .tc := ⟨.hbm, 303, rfl⟩
abbrev main_v289 : Ref sig .tc := ⟨.hbm, 304, rfl⟩
abbrev main_v290 : Ref sig .tc := ⟨.hbm, 305, rfl⟩
abbrev main_v291 : Ref sig .tc := ⟨.hbm, 306, rfl⟩
abbrev main_v292 : Ref sig .tc := ⟨.hbm, 307, rfl⟩
abbrev main_v293 : Ref sig .tc := ⟨.hbm, 308, rfl⟩
abbrev main_v294 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩
abbrev main_v300 : Ref sig .tc := ⟨.hbm, 315, rfl⟩
abbrev main_v301 : Ref sig .tc := ⟨.hbm, 316, rfl⟩
abbrev main_v302 : Ref sig .tc := ⟨.hbm, 317, rfl⟩
abbrev main_v303 : Ref sig .tc := ⟨.hbm, 318, rfl⟩
abbrev main_v304 : Ref sig .tc := ⟨.hbm, 319, rfl⟩
abbrev main_v305 : Ref sig .tc := ⟨.hbm, 320, rfl⟩
abbrev main_v306 : Ref sig .tc := ⟨.hbm, 321, rfl⟩
abbrev main_v307 : Ref sig .tc := ⟨.hbm, 322, rfl⟩
abbrev main_v308 : Ref sig .tc := ⟨.hbm, 323, rfl⟩
abbrev main_v309 : Ref sig .tc := ⟨.hbm, 324, rfl⟩
abbrev main_v310 : Ref sig .tc := ⟨.hbm, 325, rfl⟩
abbrev main_v311 : Ref sig .tc := ⟨.hbm, 326, rfl⟩
abbrev main_v312 : Ref sig .tc := ⟨.hbm, 327, rfl⟩
abbrev main_v313 : Ref sig .tc := ⟨.hbm, 328, rfl⟩
abbrev main_v314 : Ref sig .tc := ⟨.hbm, 329, rfl⟩
abbrev main_v315 : Ref sig .tc := ⟨.hbm, 330, rfl⟩
abbrev main_v316 : Ref sig .tc := ⟨.hbm, 331, rfl⟩
abbrev main_v317 : Ref sig .tc := ⟨.hbm, 332, rfl⟩
abbrev main_v318 : Ref sig .tc := ⟨.hbm, 333, rfl⟩
abbrev main_v319 : Ref sig .tc := ⟨.hbm, 334, rfl⟩
abbrev main_v320 : Ref sig .tc := ⟨.hbm, 335, rfl⟩
abbrev main_v321 : Ref sig .tc := ⟨.hbm, 336, rfl⟩
abbrev main_v322 : Ref sig .tc := ⟨.hbm, 337, rfl⟩
abbrev main_v323 : Ref sig .tc := ⟨.hbm, 338, rfl⟩
abbrev main_v324 : Ref sig .tc := ⟨.hbm, 339, rfl⟩
abbrev main_v325 : Ref sig .tc := ⟨.hbm, 340, rfl⟩
abbrev main_v326 : Ref sig .tc := ⟨.hbm, 341, rfl⟩
abbrev main_v327 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev main_v332 : Ref sig .tc := ⟨.hbm, 347, rfl⟩
abbrev main_v333 : Ref sig .tc := ⟨.hbm, 348, rfl⟩
abbrev main_v334 : Ref sig .tc := ⟨.hbm, 349, rfl⟩
abbrev main_v335 : Ref sig .tc := ⟨.hbm, 350, rfl⟩
abbrev main_v336 : Ref sig .tc := ⟨.hbm, 351, rfl⟩
abbrev main_v337 : Ref sig .tc := ⟨.hbm, 352, rfl⟩
abbrev main_v338 : Ref sig .tc := ⟨.hbm, 353, rfl⟩
abbrev main_v339 : Ref sig .tc := ⟨.hbm, 354, rfl⟩
abbrev main_v340 : Ref sig .tc := ⟨.hbm, 355, rfl⟩
abbrev main_v341 : Ref sig .tc := ⟨.hbm, 356, rfl⟩
abbrev main_v342 : Ref sig .tc := ⟨.hbm, 357, rfl⟩
abbrev main_v343 : Ref sig .tc := ⟨.hbm, 358, rfl⟩
abbrev main_v344 : Ref sig .tc := ⟨.hbm, 359, rfl⟩
abbrev main_v345 : Ref sig .tc := ⟨.hbm, 360, rfl⟩
abbrev main_v346 : Ref sig .tc := ⟨.hbm, 361, rfl⟩
abbrev main_v347 : Ref sig .tc := ⟨.hbm, 362, rfl⟩
abbrev main_v348 : Ref sig .tc := ⟨.hbm, 363, rfl⟩
abbrev main_v349 : Ref sig .tc := ⟨.hbm, 364, rfl⟩
abbrev main_v350 : Ref sig .tc := ⟨.hbm, 365, rfl⟩
abbrev main_v351 : Ref sig .tc := ⟨.hbm, 366, rfl⟩
abbrev main_v352 : Ref sig .tc := ⟨.hbm, 367, rfl⟩
abbrev main_v353 : Ref sig .tc := ⟨.hbm, 368, rfl⟩
abbrev main_v354 : Ref sig .tc := ⟨.hbm, 369, rfl⟩
abbrev main_v355 : Ref sig .tc := ⟨.hbm, 370, rfl⟩
abbrev main_v356 : Ref sig .tc := ⟨.hbm, 371, rfl⟩
abbrev main_v357 : Ref sig .tc := ⟨.hbm, 372, rfl⟩
abbrev main_v358 : Ref sig .tc := ⟨.hbm, 373, rfl⟩
abbrev main_v359 : Ref sig .tc := ⟨.hbm, 374, rfl⟩
abbrev main_v360 : Ref sig .tc := ⟨.hbm, 375, rfl⟩
abbrev main_v361 : Ref sig .tc := ⟨.hbm, 376, rfl⟩
abbrev main_v362 : Ref sig .tc := ⟨.hbm, 377, rfl⟩
abbrev main_v363 : Ref sig .tc := ⟨.hbm, 378, rfl⟩
abbrev main_v364 : Ref sig .tc := ⟨.hbm, 379, rfl⟩
abbrev main_v365 : Ref sig .tc := ⟨.hbm, 380, rfl⟩
abbrev main_v366 : Ref sig .tc := ⟨.hbm, 381, rfl⟩
abbrev main_v367 : Ref sig .tc := ⟨.hbm, 382, rfl⟩
abbrev main_v368 : Ref sig .tc := ⟨.hbm, 383, rfl⟩
abbrev main_v369 : Ref sig .tc := ⟨.hbm, 384, rfl⟩
abbrev main_v370 : Ref sig .tc := ⟨.hbm, 385, rfl⟩
abbrev main_v371 : Ref sig .tc := ⟨.hbm, 386, rfl⟩
abbrev main_v372 : Ref sig .tc := ⟨.hbm, 387, rfl⟩
abbrev main_v373 : Ref sig .tc := ⟨.hbm, 388, rfl⟩
abbrev main_v374 : Ref sig .tc := ⟨.hbm, 389, rfl⟩
abbrev main_v375 : Ref sig .tc := ⟨.hbm, 390, rfl⟩
abbrev main_v376 : Ref sig .tc := ⟨.hbm, 391, rfl⟩
abbrev main_v377 : Ref sig .tc := ⟨.hbm, 392, rfl⟩
abbrev main_v378 : Ref sig .tc := ⟨.hbm, 393, rfl⟩
abbrev main_v379_0 : Ref sig .tc := ⟨.hbm, 394, rfl⟩
abbrev main_v379_1 : Ref sig .tc := ⟨.hbm, 395, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1514 : BitVec 1 := Scalar.cmpi .eq arg0 c15_i32
  let v1515 : BitVec 32 := Scalar.extui v1514
  let c0_i32_569 : BitVec 32 := 0#32
  let v1516 : BitVec 1 := Scalar.cmpi .ne v1515 c0_i32_569
  v1516

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S2x512 : Shape := ⟨2, ![2, 512]⟩
abbrev S4096x512 : Shape := ⟨2, ![4096, 512]⟩
abbrev S4096x1536 : Shape := ⟨2, ![4096, 1536]⟩
abbrev S_ : Shape := ⟨0, ![]⟩
abbrev S512 : Shape := ⟨1, ![512]⟩
abbrev S1x512 : Shape := ⟨2, ![1, 512]⟩
abbrev S4x128 : Shape := ⟨2, ![4, 128]⟩
abbrev S1x4096x4x128 : Shape := ⟨4, ![1, 4096, 4, 128]⟩
abbrev S1x1x4x128 : Shape := ⟨4, ![1, 1, 4, 128]⟩
abbrev S1x64x64x4x128 : Shape := ⟨5, ![1, 64, 64, 4, 128]⟩
abbrev S1x64x4x64x64 : Shape := ⟨5, ![1, 64, 4, 64, 64]⟩
abbrev S64x64 : Shape := ⟨2, ![64, 64]⟩
abbrev S1x64x4x128x64 : Shape := ⟨5, ![1, 64, 4, 128, 64]⟩
abbrev S1x64x1x4x128 : Shape := ⟨5, ![1, 64, 1, 4, 128]⟩
abbrev S1x64x4x128 : Shape := ⟨4, ![1, 64, 4, 128]⟩
abbrev S1x64x4x128x128 : Shape := ⟨5, ![1, 64, 4, 128, 128]⟩
abbrev S1x1x4x128x128 : Shape := ⟨5, ![1, 1, 4, 128, 128]⟩
abbrev S1x64x4x128x1 : Shape := ⟨5, ![1, 64, 4, 128, 1]⟩
abbrev S1x1x4x128x1 : Shape := ⟨5, ![1, 1, 4, 128, 1]⟩
abbrev S1x16x4x128x128 : Shape := ⟨5, ![1, 16, 4, 128, 128]⟩
abbrev S1x64x4x64x128 : Shape := ⟨5, ![1, 64, 4, 64, 128]⟩
abbrev S1x16x4x128x1 : Shape := ⟨5, ![1, 16, 4, 128, 1]⟩
abbrev S64x4x128 : Shape := ⟨3, ![64, 4, 128]⟩
abbrev S1x4x128 : Shape := ⟨3, ![1, 4, 128]⟩

abbrev nBuf : Space → Nat
  | .hbm => 1094
  | .vmem => 0
  | .smem => 0
  | _ => 0

abbrev hbmTy0_0 (i : Nat) : BufTy := match i % 128 with
  | 0 => ⟨S4096x2048, .f32⟩
  | 1 => ⟨S2x512, .f32⟩
  | 2 => ⟨S4096x512, .f32⟩
  | 3 => ⟨S4096x1536, .f32⟩
  | 4 => ⟨S_, .f32⟩
  | 5 => ⟨S512, .f32⟩
  | 6 => ⟨S1x512, .f32⟩
  | 7 => ⟨S2x512, .f32⟩
  | 8 => ⟨S2x512, .i1⟩
  | 9 => ⟨S2x512, .f32⟩
  | 10 => ⟨S_, .f32⟩
  | 11 => ⟨S512, .f32⟩
  | 12 => ⟨S_, .f32⟩
  | 13 => ⟨S512, .f32⟩
  | 14 => ⟨S512, .f32⟩
  | 15 => ⟨S_, .f32⟩
  | 16 => ⟨S512, .f32⟩
  | 17 => ⟨S512, .i1⟩
  | 18 => ⟨S_, .f32⟩
  | 19 => ⟨S512, .f32⟩
  | 20 => ⟨S512, .i1⟩
  | 21 => ⟨S_, .f32⟩
  | 22 => ⟨S512, .f32⟩
  | 23 => ⟨S_, .f32⟩
  | 24 => ⟨S512, .f32⟩
  | 25 => ⟨S_, .f32⟩
  | 26 => ⟨S512, .f32⟩
  | 27 => ⟨S512, .f32⟩
  | 28 => ⟨S512, .f32⟩
  | 29 => ⟨S1x512, .f32⟩
  | 30 => ⟨S2x512, .f32⟩
  | 31 => ⟨S2x512, .f32⟩
  | 32 => ⟨S2x512, .f32⟩
  | 33 => ⟨S_, .f32⟩
  | 34 => ⟨S512, .f32⟩
  | 35 => ⟨S1x512, .f32⟩
  | 36 => ⟨S2x512, .f32⟩
  | 37 => ⟨S2x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S_, .f32⟩
  | 44 => ⟨S2x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4x128, .f32⟩
  | 51 => ⟨S1x4096x4x128, .f32⟩
  | 52 => ⟨S1x4096x4x128, .f32⟩
  | 53 => ⟨S1x4096x4x128, .f32⟩
  | 54 => ⟨S1x4096x4x128, .f32⟩
  | 55 => ⟨S1x4096x4x128, .f32⟩
  | 56 => ⟨S_, .f32⟩
  | 57 => ⟨S1x4096x4x128, .f32⟩
  | 58 => ⟨S1x4096x4x128, .f32⟩
  | 59 => ⟨S_, .f32⟩
  | 60 => ⟨S1x4096x4x128, .f32⟩
  | 61 => ⟨S1x4096x4x128, .f32⟩
  | 62 => ⟨S_, .f32⟩
  | 63 => ⟨S1x4096x4x128, .f32⟩
  | 64 => ⟨S1x4096x4x128, .f32⟩
  | 65 => ⟨S1x4096x4x128, .f32⟩
  | 66 => ⟨S1x4096x4x128, .f32⟩
  | 67 => ⟨S_, .f32⟩
  | 68 => ⟨S4x128, .f32⟩
  | 69 => ⟨S4x128, .f32⟩
  | 70 => ⟨S1x4096x4x128, .f32⟩
  | 71 => ⟨S1x4096x4x128, .f32⟩
  | 72 => ⟨S_, .f32⟩
  | 73 => ⟨S1x4096x4x128, .f32⟩
  | 74 => ⟨S1x4096x4x128, .f32⟩
  | 75 => ⟨S_, .f32⟩
  | 76 => ⟨S1x4096x4x128, .f32⟩
  | 77 => ⟨S1x4096x4x128, .f32⟩
  | 78 => ⟨S_, .f32⟩
  | 79 => ⟨S1x4096x4x128, .f32⟩
  | 80 => ⟨S1x4096x4x128, .f32⟩
  | 81 => ⟨S1x4096x4x128, .f32⟩
  | 82 => ⟨S1x1x4x128, .f32⟩
  | 83 => ⟨S1x4096x4x128, .f32⟩
  | 84 => ⟨S1x4096x4x128, .f32⟩
  | 85 => ⟨S1x1x4x128, .f32⟩
  | 86 => ⟨S1x4096x4x128, .f32⟩
  | 87 => ⟨S1x4096x4x128, .f32⟩
  | 88 => ⟨S_, .f32⟩
  | 89 => ⟨S1x4096x4x128, .f32⟩
  | 90 => ⟨S1x4096x4x128, .f32⟩
  | 91 => ⟨S1x4096x4x128, .f32⟩
  | 92 => ⟨S1x64x64x4x128, .f32⟩
  | 93 => ⟨S1x64x64x4x128, .f32⟩
  | 94 => ⟨S1x64x64x4x128, .f32⟩
  | 95 => ⟨S1x64x64x4x128, .f32⟩
  | 96 => ⟨S_, .f32⟩
  | 97 => ⟨S_, .f32⟩
  | 98 => ⟨S1x64x64x4x128, .f32⟩
  | 99 => ⟨S1x64x64x4x128, .f32⟩
  | 100 => ⟨S1x64x64x4x128, .f32⟩
  | 101 => ⟨S1x64x64x4x128, .f32⟩
  | 102 => ⟨S1x64x64x4x128, .f32⟩
  | 103 => ⟨S1x64x64x4x128, .f32⟩
  | 104 => ⟨S1x64x4x64x64, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S_, .f32⟩
  | 117 => ⟨S_, .f32⟩
  | 118 => ⟨S1x64x4x64x64, .i1⟩
  | 119 => ⟨S1x64x4x64x64, .f32⟩
  | 120 => ⟨S1x64x4x64x64, .f32⟩
  | 121 => ⟨S_, .f32⟩
  | 122 => ⟨S1x64x4x64x64, .f32⟩
  | 123 => ⟨S1x64x4x128x64, .f32⟩
  | 124 => ⟨S1x64x64x4x128, .f32⟩
  | 125 => ⟨S1x64x1x4x128, .f32⟩
  | 126 => ⟨S1x64x4x128, .f32⟩
  | 127 => ⟨S1x64x1x4x128, .f32⟩
  | _ => ⟨S4096x2048, .f32⟩

abbrev hbmTy0_1 (i : Nat) : BufTy := match i % 128 with
  | 0 => ⟨S1x64x64x4x128, .f32⟩
  | 1 => ⟨S1x64x64x4x128, .f32⟩
  | 2 => ⟨S1x64x64x4x128, .f32⟩
  | 3 => ⟨S1x64x64x4x128, .f32⟩
  | 4 => ⟨S1x64x4x128x128, .f32⟩
  | 5 => ⟨S1x64x4x128, .f32⟩
  | 6 => ⟨S_, .f32⟩
  | 7 => ⟨S1x1x4x128x128, .f32⟩
  | 8 => ⟨S1x64x4x128x1, .f32⟩
  | 9 => ⟨S1x1x4x128x1, .f32⟩
  | 10 => ⟨S1x1x4x128x1, .f32⟩
  | 11 => ⟨S1x1x4x128x1, .f32⟩
  | 12 => ⟨S1x1x4x128x1, .f32⟩
  | 13 => ⟨S1x1x4x128x1, .f32⟩
  | 14 => ⟨S1x1x4x128x1, .f32⟩
  | 15 => ⟨S1x1x4x128x1, .f32⟩
  | 16 => ⟨S1x1x4x128x1, .f32⟩
  | 17 => ⟨S1x1x4x128x1, .f32⟩
  | 18 => ⟨S1x1x4x128x1, .f32⟩
  | 19 => ⟨S1x1x4x128x1, .f32⟩
  | 20 => ⟨S1x1x4x128x1, .f32⟩
  | 21 => ⟨S1x1x4x128x1, .f32⟩
  | 22 => ⟨S1x1x4x128x1, .f32⟩
  | 23 => ⟨S1x1x4x128x1, .f32⟩
  | 24 => ⟨S1x1x4x128x1, .f32⟩
  | 25 => ⟨S1x1x4x128x1, .f32⟩
  | 26 => ⟨S1x1x4x128x1, .f32⟩
  | 27 => ⟨S1x1x4x128x1, .f32⟩
  | 28 => ⟨S1x1x4x128x1, .f32⟩
  | 29 => ⟨S1x1x4x128x1, .f32⟩
  | 30 => ⟨S1x1x4x128x1, .f32⟩
  | 31 => ⟨S1x1x4x128x1, .f32⟩
  | 32 => ⟨S1x1x4x128x1, .f32⟩
  | 33 => ⟨S1x1x4x128x1, .f32⟩
  | 34 => ⟨S1x1x4x128x1, .f32⟩
  | 35 => ⟨S1x1x4x128x1, .f32⟩
  | 36 => ⟨S1x1x4x128x1, .f32⟩
  | 37 => ⟨S1x1x4x128x1, .f32⟩
  | 38 => ⟨S1x1x4x128x1, .f32⟩
  | 39 => ⟨S1x1x4x128x1, .f32⟩
  | 40 => ⟨S1x1x4x128x1, .f32⟩
  | 41 => ⟨S1x1x4x128x1, .f32⟩
  | 42 => ⟨S1x1x4x128x1, .f32⟩
  | 43 => ⟨S1x1x4x128x1, .f32⟩
  | 44 => ⟨S1x1x4x128x1, .f32⟩
  | 45 => ⟨S1x1x4x128x1, .f32⟩
  | 46 => ⟨S1x1x4x128x1, .f32⟩
  | 47 => ⟨S1x1x4x128x1, .f32⟩
  | 48 => ⟨S1x1x4x128x1, .f32⟩
  | 49 => ⟨S1x1x4x128x1, .f32⟩
  | 50 => ⟨S1x1x4x128x1, .f32⟩
  | 51 => ⟨S1x1x4x128x1, .f32⟩
  | 52 => ⟨S1x1x4x128x1, .f32⟩
  | 53 => ⟨S1x1x4x128x1, .f32⟩
  | 54 => ⟨S1x1x4x128x1, .f32⟩
  | 55 => ⟨S1x1x4x128x1, .f32⟩
  | 56 => ⟨S1x1x4x128x1, .f32⟩
  | 57 => ⟨S1x1x4x128x1, .f32⟩
  | 58 => ⟨S1x1x4x128x1, .f32⟩
  | 59 => ⟨S1x1x4x128x1, .f32⟩
  | 60 => ⟨S1x1x4x128x1, .f32⟩
  | 61 => ⟨S1x1x4x128x1, .f32⟩
  | 62 => ⟨S1x1x4x128x1, .f32⟩
  | 63 => ⟨S1x1x4x128x1, .f32⟩
  | 64 => ⟨S1x1x4x128x1, .f32⟩
  | 65 => ⟨S1x1x4x128x1, .f32⟩
  | 66 => ⟨S1x1x4x128x1, .f32⟩
  | 67 => ⟨S1x1x4x128x1, .f32⟩
  | 68 => ⟨S1x1x4x128x1, .f32⟩
  | 69 => ⟨S1x1x4x128x1, .f32⟩
  | 70 => ⟨S1x1x4x128x1, .f32⟩
  | 71 => ⟨S1x1x4x128x1, .f32⟩
  | 72 => ⟨S1x1x4x128x1, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S1x1x4x128x128, .f32⟩
  | 85 => ⟨S1x1x4x128x128, .f32⟩
  | 86 => ⟨S1x1x4x128x128, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S4096x2048, .f32⟩

abbrev hbmTy0_2 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S1x1x4x128x128, .f32⟩
  | 29 => ⟨S1x1x4x128x128, .f32⟩
  | 30 => ⟨S1x1x4x128x128, .f32⟩
  | 31 => ⟨S1x1x4x128x128, .f32⟩
  | 32 => ⟨S1x1x4x128x128, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S1x1x4x128x128, .f32⟩
  | 55 => ⟨S1x1x4x128x128, .f32⟩
  | 56 => ⟨S1x1x4x128x128, .f32⟩
  | 57 => ⟨S1x1x4x128x128, .f32⟩
  | 58 => ⟨S1x1x4x128x128, .f32⟩
  | 59 => ⟨S1x1x4x128x128, .f32⟩
  | 60 => ⟨S1x1x4x128x128, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S1x1x4x128x128, .f32⟩
  | 85 => ⟨S1x1x4x128x128, .f32⟩
  | 86 => ⟨S1x1x4x128x128, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S4096x2048, .f32⟩

abbrev hbmTy0_3 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S1x1x4x128x128, .f32⟩
  | 29 => ⟨S1x1x4x128x128, .f32⟩
  | 30 => ⟨S1x1x4x128x128, .f32⟩
  | 31 => ⟨S1x1x4x128x128, .f32⟩
  | 32 => ⟨S1x1x4x128x128, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S1x1x4x128x128, .f32⟩
  | 55 => ⟨S1x1x4x128x128, .f32⟩
  | 56 => ⟨S1x1x4x128x128, .f32⟩
  | 57 => ⟨S1x1x4x128x128, .f32⟩
  | 58 => ⟨S1x1x4x128x128, .f32⟩
  | 59 => ⟨S1x1x4x128x128, .f32⟩
  | 60 => ⟨S1x1x4x128x128, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x16x4x128x128, .f32⟩
  | 74 => ⟨S1x16x4x128x128, .f32⟩
  | 75 => ⟨S1x16x4x128x128, .f32⟩
  | 76 => ⟨S1x16x4x128x128, .f32⟩
  | 77 => ⟨S1x64x4x128x128, .f32⟩
  | 78 => ⟨S_, .f32⟩
  | 79 => ⟨S1x1x4x128x128, .f32⟩
  | 80 => ⟨S1x64x4x128x64, .f32⟩
  | 81 => ⟨S1x64x64x4x128, .f32⟩
  | 82 => ⟨S1x64x64x4x128, .f32⟩
  | 83 => ⟨S1x4096x4x128, .f32⟩
  | 84 => ⟨S4096x512, .f32⟩
  | 85 => ⟨S1x4096x4x128, .f32⟩
  | 86 => ⟨S1x64x64x4x128, .f32⟩
  | 87 => ⟨S1x64x4x128x64, .f32⟩
  | 88 => ⟨S1x64x4x64x128, .f32⟩
  | 89 => ⟨S1x64x64x4x128, .f32⟩
  | 90 => ⟨S1x64x4x128x128, .f32⟩
  | 91 => ⟨S1x64x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S4096x2048, .f32⟩

abbrev hbmTy0_4 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S1x1x4x128x128, .f32⟩
  | 29 => ⟨S1x1x4x128x128, .f32⟩
  | 30 => ⟨S1x1x4x128x128, .f32⟩
  | 31 => ⟨S1x1x4x128x128, .f32⟩
  | 32 => ⟨S_, .f32⟩
  | 33 => ⟨S1x1x4x128, .f32⟩
  | 34 => ⟨S1x1x4x128x1, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S_, .f32⟩
  | 40 => ⟨S1x1x4x128, .f32⟩
  | 41 => ⟨S1x1x4x128x1, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S_, .f32⟩
  | 47 => ⟨S1x1x4x128, .f32⟩
  | 48 => ⟨S1x1x4x128x1, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S_, .f32⟩
  | 54 => ⟨S1x1x4x128, .f32⟩
  | 55 => ⟨S1x1x4x128x1, .f32⟩
  | 56 => ⟨S1x1x4x128x128, .f32⟩
  | 57 => ⟨S1x1x4x128x128, .f32⟩
  | 58 => ⟨S1x1x4x128x128, .f32⟩
  | 59 => ⟨S1x1x4x128x128, .f32⟩
  | 60 => ⟨S_, .f32⟩
  | 61 => ⟨S1x1x4x128, .f32⟩
  | 62 => ⟨S1x1x4x128x1, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S_, .f32⟩
  | 68 => ⟨S1x1x4x128, .f32⟩
  | 69 => ⟨S1x1x4x128x1, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S_, .f32⟩
  | 75 => ⟨S1x1x4x128, .f32⟩
  | 76 => ⟨S1x1x4x128x1, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S_, .f32⟩
  | 82 => ⟨S1x1x4x128, .f32⟩
  | 83 => ⟨S1x1x4x128x1, .f32⟩
  | 84 => ⟨S1x1x4x128x128, .f32⟩
  | 85 => ⟨S1x1x4x128x128, .f32⟩
  | 86 => ⟨S1x1x4x128x128, .f32⟩
  | 87 => ⟨S1x1x4x128x128, .f32⟩
  | 88 => ⟨S_, .f32⟩
  | 89 => ⟨S1x1x4x128, .f32⟩
  | 90 => ⟨S1x1x4x128x1, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S_, .f32⟩
  | 96 => ⟨S1x1x4x128, .f32⟩
  | 97 => ⟨S1x1x4x128x1, .f32⟩
  | 98 => ⟨S1x1x4x128x128, .f32⟩
  | 99 => ⟨S1x1x4x128x128, .f32⟩
  | 100 => ⟨S1x1x4x128x128, .f32⟩
  | 101 => ⟨S1x1x4x128x128, .f32⟩
  | 102 => ⟨S_, .f32⟩
  | 103 => ⟨S1x1x4x128, .f32⟩
  | 104 => ⟨S1x1x4x128x1, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S_, .f32⟩
  | 110 => ⟨S1x1x4x128, .f32⟩
  | 111 => ⟨S1x1x4x128x1, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S_, .f32⟩
  | 117 => ⟨S1x1x4x128, .f32⟩
  | 118 => ⟨S1x1x4x128x1, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S_, .f32⟩
  | 124 => ⟨S1x1x4x128, .f32⟩
  | 125 => ⟨S1x1x4x128x1, .f32⟩
  | 126 => ⟨S1x1x4x128x128, .f32⟩
  | 127 => ⟨S1x1x4x128x128, .f32⟩
  | _ => ⟨S4096x2048, .f32⟩

abbrev hbmTy0_5 (i : Nat) : BufTy := match i % 128 with
  | 0 => ⟨S1x1x4x128x128, .f32⟩
  | 1 => ⟨S1x1x4x128x128, .f32⟩
  | 2 => ⟨S_, .f32⟩
  | 3 => ⟨S1x1x4x128, .f32⟩
  | 4 => ⟨S1x1x4x128x1, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S_, .f32⟩
  | 10 => ⟨S1x1x4x128, .f32⟩
  | 11 => ⟨S1x1x4x128x1, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S_, .f32⟩
  | 17 => ⟨S1x1x4x128, .f32⟩
  | 18 => ⟨S1x1x4x128x1, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S_, .f32⟩
  | 24 => ⟨S1x1x4x128, .f32⟩
  | 25 => ⟨S1x1x4x128x1, .f32⟩
  | 26 => ⟨S1x1x4x128x128, .f32⟩
  | 27 => ⟨S1x1x4x128x128, .f32⟩
  | 28 => ⟨S1x1x4x128x128, .f32⟩
  | 29 => ⟨S1x1x4x128x128, .f32⟩
  | 30 => ⟨S_, .f32⟩
  | 31 => ⟨S1x1x4x128, .f32⟩
  | 32 => ⟨S1x1x4x128x1, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S_, .f32⟩
  | 38 => ⟨S1x1x4x128, .f32⟩
  | 39 => ⟨S1x1x4x128x1, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S_, .f32⟩
  | 45 => ⟨S1x1x4x128, .f32⟩
  | 46 => ⟨S1x1x4x128x1, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S_, .f32⟩
  | 52 => ⟨S1x1x4x128, .f32⟩
  | 53 => ⟨S1x1x4x128x1, .f32⟩
  | 54 => ⟨S1x1x4x128x128, .f32⟩
  | 55 => ⟨S1x1x4x128x128, .f32⟩
  | 56 => ⟨S1x1x4x128x128, .f32⟩
  | 57 => ⟨S1x1x4x128x128, .f32⟩
  | 58 => ⟨S_, .f32⟩
  | 59 => ⟨S1x1x4x128, .f32⟩
  | 60 => ⟨S1x1x4x128x1, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S_, .f32⟩
  | 66 => ⟨S1x1x4x128, .f32⟩
  | 67 => ⟨S1x1x4x128x1, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S_, .f32⟩
  | 73 => ⟨S1x1x4x128, .f32⟩
  | 74 => ⟨S1x1x4x128x1, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S_, .f32⟩
  | 80 => ⟨S1x1x4x128, .f32⟩
  | 81 => ⟨S1x1x4x128x1, .f32⟩
  | 82 => ⟨S1x1x4x128x128, .f32⟩
  | 83 => ⟨S1x1x4x128x128, .f32⟩
  | 84 => ⟨S1x1x4x128x128, .f32⟩
  | 85 => ⟨S1x1x4x128x128, .f32⟩
  | 86 => ⟨S_, .f32⟩
  | 87 => ⟨S1x1x4x128, .f32⟩
  | 88 => ⟨S1x1x4x128x1, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S_, .f32⟩
  | 94 => ⟨S1x1x4x128, .f32⟩
  | 95 => ⟨S1x1x4x128x1, .f32⟩
  | 96 => ⟨S1x1x4x128x128, .f32⟩
  | 97 => ⟨S1x1x4x128x128, .f32⟩
  | 98 => ⟨S1x1x4x128x128, .f32⟩
  | 99 => ⟨S1x1x4x128x128, .f32⟩
  | 100 => ⟨S_, .f32⟩
  | 101 => ⟨S1x1x4x128, .f32⟩
  | 102 => ⟨S1x1x4x128x1, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S_, .f32⟩
  | 108 => ⟨S1x1x4x128, .f32⟩
  | 109 => ⟨S1x1x4x128x1, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S_, .f32⟩
  | 115 => ⟨S1x1x4x128, .f32⟩
  | 116 => ⟨S1x1x4x128x1, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S_, .f32⟩
  | 122 => ⟨S1x1x4x128, .f32⟩
  | 123 => ⟨S1x1x4x128x1, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S4096x2048, .f32⟩

abbrev hbmTy0_6 (i : Nat) : BufTy := match i % 128 with
  | 0 => ⟨S_, .f32⟩
  | 1 => ⟨S1x1x4x128, .f32⟩
  | 2 => ⟨S1x1x4x128x1, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S_, .f32⟩
  | 8 => ⟨S1x1x4x128, .f32⟩
  | 9 => ⟨S1x1x4x128x1, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S_, .f32⟩
  | 15 => ⟨S1x1x4x128, .f32⟩
  | 16 => ⟨S1x1x4x128x1, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S_, .f32⟩
  | 22 => ⟨S1x1x4x128, .f32⟩
  | 23 => ⟨S1x1x4x128x1, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S_, .f32⟩
  | 29 => ⟨S1x1x4x128, .f32⟩
  | 30 => ⟨S1x1x4x128x1, .f32⟩
  | 31 => ⟨S1x1x4x128x128, .f32⟩
  | 32 => ⟨S1x1x4x128x128, .f32⟩
  | 33 => ⟨S1x1x4x128x128, .f32⟩
  | 34 => ⟨S1x1x4x128x128, .f32⟩
  | 35 => ⟨S_, .f32⟩
  | 36 => ⟨S1x1x4x128, .f32⟩
  | 37 => ⟨S1x1x4x128x1, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S_, .f32⟩
  | 43 => ⟨S1x1x4x128, .f32⟩
  | 44 => ⟨S1x1x4x128x1, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S_, .f32⟩
  | 50 => ⟨S1x1x4x128, .f32⟩
  | 51 => ⟨S1x1x4x128x1, .f32⟩
  | 52 => ⟨S1x1x4x128x128, .f32⟩
  | 53 => ⟨S1x1x4x128x128, .f32⟩
  | 54 => ⟨S1x1x4x128x128, .f32⟩
  | 55 => ⟨S1x1x4x128x128, .f32⟩
  | 56 => ⟨S_, .f32⟩
  | 57 => ⟨S1x1x4x128, .f32⟩
  | 58 => ⟨S1x1x4x128x1, .f32⟩
  | 59 => ⟨S1x1x4x128x128, .f32⟩
  | 60 => ⟨S1x1x4x128x128, .f32⟩
  | 61 => ⟨S1x1x4x128x128, .f32⟩
  | 62 => ⟨S1x1x4x128x128, .f32⟩
  | 63 => ⟨S_, .f32⟩
  | 64 => ⟨S1x1x4x128, .f32⟩
  | 65 => ⟨S1x1x4x128x1, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S_, .f32⟩
  | 71 => ⟨S1x1x4x128, .f32⟩
  | 72 => ⟨S1x1x4x128x1, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S_, .f32⟩
  | 78 => ⟨S1x1x4x128, .f32⟩
  | 79 => ⟨S1x1x4x128x1, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S_, .f32⟩
  | 85 => ⟨S1x1x4x128, .f32⟩
  | 86 => ⟨S1x1x4x128x1, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S_, .f32⟩
  | 92 => ⟨S1x1x4x128, .f32⟩
  | 93 => ⟨S1x1x4x128x1, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S_, .f32⟩
  | 99 => ⟨S1x1x4x128, .f32⟩
  | 100 => ⟨S1x1x4x128x1, .f32⟩
  | 101 => ⟨S1x1x4x128x128, .f32⟩
  | 102 => ⟨S1x1x4x128x128, .f32⟩
  | 103 => ⟨S1x1x4x128x128, .f32⟩
  | 104 => ⟨S1x1x4x128x128, .f32⟩
  | 105 => ⟨S_, .f32⟩
  | 106 => ⟨S1x1x4x128, .f32⟩
  | 107 => ⟨S1x1x4x128x1, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S_, .f32⟩
  | 113 => ⟨S1x1x4x128, .f32⟩
  | 114 => ⟨S1x1x4x128x1, .f32⟩
  | 115 => ⟨S1x1x4x128x128, .f32⟩
  | 116 => ⟨S1x1x4x128x128, .f32⟩
  | 117 => ⟨S1x1x4x128x128, .f32⟩
  | 118 => ⟨S1x1x4x128x128, .f32⟩
  | 119 => ⟨S_, .f32⟩
  | 120 => ⟨S1x1x4x128, .f32⟩
  | 121 => ⟨S1x1x4x128x1, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S_, .f32⟩
  | 127 => ⟨S1x1x4x128, .f32⟩
  | _ => ⟨S4096x2048, .f32⟩

abbrev hbmTy0_7 (i : Nat) : BufTy := match i % 128 with
  | 0 => ⟨S1x1x4x128x1, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S_, .f32⟩
  | 6 => ⟨S1x1x4x128, .f32⟩
  | 7 => ⟨S1x1x4x128x1, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S_, .f32⟩
  | 13 => ⟨S1x1x4x128, .f32⟩
  | 14 => ⟨S1x1x4x128x1, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S_, .f32⟩
  | 20 => ⟨S1x1x4x128, .f32⟩
  | 21 => ⟨S1x1x4x128x1, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S_, .f32⟩
  | 27 => ⟨S1x1x4x128, .f32⟩
  | 28 => ⟨S1x1x4x128x1, .f32⟩
  | 29 => ⟨S1x1x4x128x128, .f32⟩
  | 30 => ⟨S1x1x4x128x128, .f32⟩
  | 31 => ⟨S1x1x4x128x128, .f32⟩
  | 32 => ⟨S1x1x4x128x128, .f32⟩
  | 33 => ⟨S_, .f32⟩
  | 34 => ⟨S1x1x4x128, .f32⟩
  | 35 => ⟨S1x1x4x128x1, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S_, .f32⟩
  | 41 => ⟨S1x1x4x128, .f32⟩
  | 42 => ⟨S1x1x4x128x1, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S_, .f32⟩
  | 48 => ⟨S1x1x4x128, .f32⟩
  | 49 => ⟨S1x1x4x128x1, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S_, .f32⟩
  | 55 => ⟨S1x1x4x128, .f32⟩
  | 56 => ⟨S1x1x4x128x1, .f32⟩
  | 57 => ⟨S1x1x4x128x128, .f32⟩
  | 58 => ⟨S1x1x4x128x128, .f32⟩
  | 59 => ⟨S1x1x4x128x128, .f32⟩
  | 60 => ⟨S1x1x4x128x128, .f32⟩
  | 61 => ⟨S_, .f32⟩
  | 62 => ⟨S1x1x4x128, .f32⟩
  | 63 => ⟨S1x1x4x128x1, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S_, .f32⟩
  | 69 => ⟨S1x1x4x128, .f32⟩
  | 70 => ⟨S1x1x4x128x1, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S_, .f32⟩
  | 76 => ⟨S1x1x4x128, .f32⟩
  | 77 => ⟨S1x1x4x128x1, .f32⟩
  | 78 => ⟨S1x1x4x128x128, .f32⟩
  | 79 => ⟨S_, .f32⟩
  | 80 => ⟨S1x1x4x128, .f32⟩
  | 81 => ⟨S1x1x4x128x1, .f32⟩
  | 82 => ⟨S_, .f32⟩
  | 83 => ⟨S1x1x4x128x128, .f32⟩
  | 84 => ⟨S1x16x4x128x128, .f32⟩
  | 85 => ⟨S1x16x4x128x128, .f32⟩
  | 86 => ⟨S1x16x4x128x128, .f32⟩
  | 87 => ⟨S1x16x4x128x128, .f32⟩
  | 88 => ⟨S1x64x4x128x128, .f32⟩
  | 89 => ⟨S_, .f32⟩
  | 90 => ⟨S1x1x4x128x1, .f32⟩
  | 91 => ⟨S1x16x4x128x1, .f32⟩
  | 92 => ⟨S1x16x4x128x1, .f32⟩
  | 93 => ⟨S1x16x4x128x1, .f32⟩
  | 94 => ⟨S1x16x4x128x1, .f32⟩
  | 95 => ⟨S1x64x4x128x1, .f32⟩
  | 96 => ⟨S_, .f32⟩
  | 97 => ⟨S64x4x128, .f32⟩
  | 98 => ⟨S1x64x4x128, .f32⟩
  | 99 => ⟨S1x64x4x128, .f32⟩
  | 100 => ⟨S1x64x4x128x64, .f32⟩
  | 101 => ⟨S1x64x64x4x128, .f32⟩
  | 102 => ⟨S1x64x4x128x64, .f32⟩
  | 103 => ⟨S1x64x64x4x128, .f32⟩
  | 104 => ⟨S1x64x64x4x128, .f32⟩
  | 105 => ⟨S1x64x64x4x128, .f32⟩
  | 106 => ⟨S1x64x64x4x128, .f32⟩
  | 107 => ⟨S_, .f32⟩
  | 108 => ⟨S1x64x4x128, .f32⟩
  | 109 => ⟨S1x64x1x4x128, .f32⟩
  | 110 => ⟨S1x64x64x4x128, .f32⟩
  | 111 => ⟨S_, .f32⟩
  | 112 => ⟨S64x4x128, .f32⟩
  | 113 => ⟨S1x64x4x128, .f32⟩
  | 114 => ⟨S1x64x4x128, .f32⟩
  | 115 => ⟨S1x64x1x4x128, .f32⟩
  | 116 => ⟨S_, .f32⟩
  | 117 => ⟨S1x64x64x4x128, .f32⟩
  | 118 => ⟨S1x64x64x4x128, .f32⟩
  | 119 => ⟨S1x64x4x128x64, .f32⟩
  | 120 => ⟨S1x64x4x64x64, .f32⟩
  | 121 => ⟨S1x64x4x128x64, .f32⟩
  | 122 => ⟨S1x64x64x4x128, .f32⟩
  | 123 => ⟨S1x64x64x4x128, .f32⟩
  | 124 => ⟨S_, .f32⟩
  | 125 => ⟨S1x64x4x64x64, .f32⟩
  | 126 => ⟨S1x64x4x64x64, .f32⟩
  | 127 => ⟨S1x64x4x64x128, .f32⟩
  | _ => ⟨S4096x2048, .f32⟩

abbrev hbmTy0_8 (i : Nat) : BufTy := match i % 128 with
  | 0 => ⟨S1x64x64x4x128, .f32⟩
  | 1 => ⟨S1x64x4x64x128, .f32⟩
  | 2 => ⟨S1x64x64x4x128, .f32⟩
  | 3 => ⟨S1x64x64x4x128, .f32⟩
  | 4 => ⟨S1x64x64x4x128, .f32⟩
  | 5 => ⟨S1x64x64x4x128, .f32⟩
  | 6 => ⟨S1x64x64x4x128, .f32⟩
  | 7 => ⟨S1x64x64x4x128, .f32⟩
  | 8 => ⟨S1x64x64x4x128, .f32⟩
  | 9 => ⟨S1x64x64x4x128, .f32⟩
  | 10 => ⟨S1x64x64x4x128, .f32⟩
  | 11 => ⟨S1x64x64x4x128, .f32⟩
  | 12 => ⟨S1x64x64x4x128, .f32⟩
  | 13 => ⟨S1x64x64x4x128, .f32⟩
  | 14 => ⟨S_, .f32⟩
  | 15 => ⟨S_, .f32⟩
  | 16 => ⟨S1x64x64x4x128, .f32⟩
  | 17 => ⟨S1x4096x4x128, .f32⟩
  | 18 => ⟨S1x4096x4x128, .f32⟩
  | 19 => ⟨S1x4096x4x128, .f32⟩
  | 20 => ⟨S1x4096x4x128, .f32⟩
  | 21 => ⟨S1x4096x4x128, .f32⟩
  | 22 => ⟨S1x4096x4x128, .f32⟩
  | 23 => ⟨S1x4096x4x128, .f32⟩
  | 24 => ⟨S_, .f32⟩
  | 25 => ⟨S1x4x128, .f32⟩
  | 26 => ⟨S1x1x4x128, .f32⟩
  | 27 => ⟨S_, .f32⟩
  | 28 => ⟨S4x128, .f32⟩
  | 29 => ⟨S1x4096x4x128, .f32⟩
  | 30 => ⟨S1x4096x4x128, .f32⟩
  | 31 => ⟨S1x4096x4x128, .f32⟩
  | 32 => ⟨S_, .f32⟩
  | 33 => ⟨S1x4x128, .f32⟩
  | 34 => ⟨S1x1x4x128, .f32⟩
  | 35 => ⟨S_, .f32⟩
  | 36 => ⟨S4x128, .f32⟩
  | 37 => ⟨S1x4096x4x128, .f32⟩
  | 38 => ⟨S4x128, .f32⟩
  | 39 => ⟨S4x128, .f32⟩
  | 40 => ⟨S1x4096x4x128, .f32⟩
  | 41 => ⟨S1x4096x4x128, .f32⟩
  | 42 => ⟨S1x4096x4x128, .f32⟩
  | 43 => ⟨S1x4096x4x128, .f32⟩
  | 44 => ⟨S4096x512, .f32⟩
  | 45 => ⟨S4096x512, .f32⟩
  | 46 => ⟨S4096x512, .f32⟩
  | 47 => ⟨S512, .f32⟩
  | 48 => ⟨S1x512, .f32⟩
  | 49 => ⟨S_, .f32⟩
  | 50 => ⟨S2x512, .f32⟩
  | 51 => ⟨S4096x1536, .f32⟩
  | 52 => ⟨S_, .f32⟩
  | 53 => ⟨S_, .f32⟩
  | 54 => ⟨S2x512, .f32⟩
  | 55 => ⟨S2x512, .f32⟩
  | 56 => ⟨S2x512, .f32⟩
  | 57 => ⟨S2x512, .f32⟩
  | 58 => ⟨S_, .f32⟩
  | 59 => ⟨S512, .f32⟩
  | 60 => ⟨S1x512, .f32⟩
  | 61 => ⟨S1x512, .f32⟩
  | 62 => ⟨S2x512, .f32⟩
  | 63 => ⟨S2x512, .f32⟩
  | 64 => ⟨S_, .f32⟩
  | 65 => ⟨S512, .f32⟩
  | 66 => ⟨S2x512, .f32⟩
  | 67 => ⟨S2x512, .f32⟩
  | 68 => ⟨S2x512, .f32⟩
  | 69 => ⟨S4096x1536, .bf16⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_call0_call0_cst : Ref sig .tc := ⟨.hbm, 42, rfl⟩
abbrev main_call0_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v39_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v39_1 : Ref sig .tc := ⟨.hbm, 65, rfl⟩
abbrev main_v39_0 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_call0_cst : Ref sig .tc := ⟨.hbm, 96, rfl⟩
abbrev main_call2_call0_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c : Ref sig .tc := ⟨.hbm, 105, rfl⟩
abbrev main_v71 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_0 : Ref sig .tc := ⟨.hbm, 113, rfl⟩
abbrev main_call3_v5 : Ref sig .tc := ⟨.hbm, 114, rfl⟩
abbrev main_v72 : Ref sig .tc := ⟨.hbm, 115, rfl⟩
abbrev main_cst_14 : Ref sig .tc := ⟨.hbm, 116, rfl⟩
abbrev main_call4_v0 : Ref sig .tc := ⟨.hbm, 117, rfl⟩
abbrev main_v73_1 : Ref sig .tc := ⟨.hbm, 118, rfl⟩
abbrev main_call4_v2 : Ref sig .tc := ⟨.hbm, 119, rfl⟩
abbrev main_v73_0 : Ref sig .tc := ⟨.hbm, 120, rfl⟩
abbrev main_call4_cst : Ref sig .tc := ⟨.hbm, 121, rfl⟩
abbrev main_v73_2 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_15 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_v355 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_v408 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_cst_16 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_v417 : Ref sig .tc := ⟨.hbm, 468, rfl⟩
abbrev main_v418 : Ref sig .tc := ⟨.hbm, 469, rfl⟩
abbrev main_v419 : Ref sig .tc := ⟨.hbm, 470, rfl⟩
abbrev main_v420 : Ref sig .tc := ⟨.hbm, 471, rfl⟩
abbrev main_v421 : Ref sig .tc := ⟨.hbm, 472, rfl⟩
abbrev main_v422 : Ref sig .tc := ⟨.hbm, 473, rfl⟩
abbrev main_v423 : Ref sig .tc := ⟨.hbm, 474, rfl⟩
abbrev main_v424 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_v439 : Ref sig .tc := ⟨.hbm, 490, rfl⟩
abbrev main_v440 : Ref sig .tc := ⟨.hbm, 491, rfl⟩
abbrev main_v441 : Ref sig .tc := ⟨.hbm, 492, rfl⟩
abbrev main_v442 : Ref sig .tc := ⟨.hbm, 493, rfl⟩
abbrev main_v443 : Ref sig .tc := ⟨.hbm, 494, rfl⟩
abbrev main_v444 : Ref sig .tc := ⟨.hbm, 495, rfl⟩
abbrev main_v445 : Ref sig .tc := ⟨.hbm, 496, rfl⟩
abbrev main_v446 : Ref sig .tc := ⟨.hbm, 497, rfl⟩
abbrev main_v447 : Ref sig .tc := ⟨.hbm, 498, rfl⟩
abbrev main_v448 : Ref sig .tc := ⟨.hbm, 499, rfl⟩
abbrev main_v449 : Ref sig .tc := ⟨.hbm, 500, rfl⟩
abbrev main_v450 : Ref sig .tc := ⟨.hbm, 501, rfl⟩
abbrev main_v451 : Ref sig .tc := ⟨.hbm, 502, rfl⟩
abbrev main_v452 : Ref sig .tc := ⟨.hbm, 503, rfl⟩
abbrev main_v453 : Ref sig .tc := ⟨.hbm, 504, rfl⟩
abbrev main_v454 : Ref sig .tc := ⟨.hbm, 505, rfl⟩
abbrev main_v455 : Ref sig .tc := ⟨.hbm, 506, rfl⟩
abbrev main_v456 : Ref sig .tc := ⟨.hbm, 507, rfl⟩
abbrev main_v457 : Ref sig .tc := ⟨.hbm, 508, rfl⟩
abbrev main_v458 : Ref sig .tc := ⟨.hbm, 509, rfl⟩
abbrev main_v459 : Ref sig .tc := ⟨.hbm, 510, rfl⟩
abbrev main_v460 : Ref sig .tc := ⟨.hbm, 511, rfl⟩
abbrev main_v461 : Ref sig .tc := ⟨.hbm, 512, rfl⟩
abbrev main_v462 : Ref sig .tc := ⟨.hbm, 513, rfl⟩
abbrev main_v463 : Ref sig .tc := ⟨.hbm, 514, rfl⟩
abbrev main_v464 : Ref sig .tc := ⟨.hbm, 515, rfl⟩
abbrev main_v465 : Ref sig .tc := ⟨.hbm, 516, rfl⟩
abbrev main_v466 : Ref sig .tc := ⟨.hbm, 517, rfl⟩
abbrev main_v467 : Ref sig .tc := ⟨.hbm, 518, rfl⟩
abbrev main_v468 : Ref sig .tc := ⟨.hbm, 519, rfl⟩
abbrev main_v469 : Ref sig .tc := ⟨.hbm, 520, rfl⟩
abbrev main_v470 : Ref sig .tc := ⟨.hbm, 521, rfl⟩
abbrev main_v471 : Ref sig .tc := ⟨.hbm, 522, rfl⟩
abbrev main_v472 : Ref sig .tc := ⟨.hbm, 523, rfl⟩
abbrev main_v473 : Ref sig .tc := ⟨.hbm, 524, rfl⟩
abbrev main_v474 : Ref sig .tc := ⟨.hbm, 525, rfl⟩
abbrev main_v475 : Ref sig .tc := ⟨.hbm, 526, rfl⟩
abbrev main_v476 : Ref sig .tc := ⟨.hbm, 527, rfl⟩
abbrev main_v477 : Ref sig .tc := ⟨.hbm, 528, rfl⟩
abbrev main_v478 : Ref sig .tc := ⟨.hbm, 529, rfl⟩
abbrev main_v479 : Ref sig .tc := ⟨.hbm, 530, rfl⟩
abbrev main_v480 : Ref sig .tc := ⟨.hbm, 531, rfl⟩
abbrev main_v481 : Ref sig .tc := ⟨.hbm, 532, rfl⟩
abbrev main_v482 : Ref sig .tc := ⟨.hbm, 533, rfl⟩
abbrev main_v483 : Ref sig .tc := ⟨.hbm, 534, rfl⟩
abbrev main_v484 : Ref sig .tc := ⟨.hbm, 535, rfl⟩
abbrev main_v485 : Ref sig .tc := ⟨.hbm, 536, rfl⟩
abbrev main_v486 : Ref sig .tc := ⟨.hbm, 537, rfl⟩
abbrev main_v487 : Ref sig .tc := ⟨.hbm, 538, rfl⟩
abbrev main_v488 : Ref sig .tc := ⟨.hbm, 539, rfl⟩
abbrev main_v489 : Ref sig .tc := ⟨.hbm, 540, rfl⟩
abbrev main_v490 : Ref sig .tc := ⟨.hbm, 541, rfl⟩
abbrev main_v491 : Ref sig .tc := ⟨.hbm, 542, rfl⟩
abbrev main_v492 : Ref sig .tc := ⟨.hbm, 543, rfl⟩
abbrev main_cst_17 : Ref sig .tc := ⟨.hbm, 544, rfl⟩
abbrev main_v493 : Ref sig .tc := ⟨.hbm, 545, rfl⟩
abbrev main_v494 : Ref sig .tc := ⟨.hbm, 546, rfl⟩
abbrev main_v495 : Ref sig .tc := ⟨.hbm, 547, rfl⟩
abbrev main_v496 : Ref sig .tc := ⟨.hbm, 548, rfl⟩
abbrev main_v497 : Ref sig .tc := ⟨.hbm, 549, rfl⟩
abbrev main_v498 : Ref sig .tc := ⟨.hbm, 550, rfl⟩
abbrev main_cst_18 : Ref sig .tc := ⟨.hbm, 551, rfl⟩
abbrev main_v499 : Ref sig .tc := ⟨.hbm, 552, rfl⟩
abbrev main_v500 : Ref sig .tc := ⟨.hbm, 553, rfl⟩
abbrev main_v501 : Ref sig .tc := ⟨.hbm, 554, rfl⟩
abbrev main_v502 : Ref sig .tc := ⟨.hbm, 555, rfl⟩
abbrev main_v503 : Ref sig .tc := ⟨.hbm, 556, rfl⟩
abbrev main_v504 : Ref sig .tc := ⟨.hbm, 557, rfl⟩
abbrev main_cst_19 : Ref sig .tc := ⟨.hbm, 558, rfl⟩
abbrev main_v505 : Ref sig .tc := ⟨.hbm, 559, rfl⟩
abbrev main_v506 : Ref sig .tc := ⟨.hbm, 560, rfl⟩
abbrev main_v507 : Ref sig .tc := ⟨.hbm, 561, rfl⟩
abbrev main_v508 : Ref sig .tc := ⟨.hbm, 562, rfl⟩
abbrev main_v509 : Ref sig .tc := ⟨.hbm, 563, rfl⟩
abbrev main_v510 : Ref sig .tc := ⟨.hbm, 564, rfl⟩
abbrev main_cst_20 : Ref sig .tc := ⟨.hbm, 565, rfl⟩
abbrev main_v511 : Ref sig .tc := ⟨.hbm, 566, rfl⟩
abbrev main_v512 : Ref sig .tc := ⟨.hbm, 567, rfl⟩
abbrev main_v513 : Ref sig .tc := ⟨.hbm, 568, rfl⟩
abbrev main_v514 : Ref sig .tc := ⟨.hbm, 569, rfl⟩
abbrev main_v515 : Ref sig .tc := ⟨.hbm, 570, rfl⟩
abbrev main_v516 : Ref sig .tc := ⟨.hbm, 571, rfl⟩
abbrev main_cst_21 : Ref sig .tc := ⟨.hbm, 572, rfl⟩
abbrev main_v517 : Ref sig .tc := ⟨.hbm, 573, rfl⟩
abbrev main_v518 : Ref sig .tc := ⟨.hbm, 574, rfl⟩
abbrev main_v519 : Ref sig .tc := ⟨.hbm, 575, rfl⟩
abbrev main_v520 : Ref sig .tc := ⟨.hbm, 576, rfl⟩
abbrev main_v521 : Ref sig .tc := ⟨.hbm, 577, rfl⟩
abbrev main_v522 : Ref sig .tc := ⟨.hbm, 578, rfl⟩
abbrev main_cst_22 : Ref sig .tc := ⟨.hbm, 579, rfl⟩
abbrev main_v523 : Ref sig .tc := ⟨.hbm, 580, rfl⟩
abbrev main_v524 : Ref sig .tc := ⟨.hbm, 581, rfl⟩
abbrev main_v525 : Ref sig .tc := ⟨.hbm, 582, rfl⟩
abbrev main_v526 : Ref sig .tc := ⟨.hbm, 583, rfl⟩
abbrev main_v527 : Ref sig .tc := ⟨.hbm, 584, rfl⟩
abbrev main_v528 : Ref sig .tc := ⟨.hbm, 585, rfl⟩
abbrev main_cst_23 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_cst_24 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539 : Ref sig .tc := ⟨.hbm, 598, rfl⟩
abbrev main_v540 : Ref sig .tc := ⟨.hbm, 599, rfl⟩
abbrev main_cst_25 : Ref sig .tc := ⟨.hbm, 600, rfl⟩
abbrev main_v541 : Ref sig .tc := ⟨.hbm, 601, rfl⟩
abbrev main_v542 : Ref sig .tc := ⟨.hbm, 602, rfl⟩
abbrev main_v543 : Ref sig .tc := ⟨.hbm, 603, rfl⟩
abbrev main_v544 : Ref sig .tc := ⟨.hbm, 604, rfl⟩
abbrev main_v545 : Ref sig .tc := ⟨.hbm, 605, rfl⟩
abbrev main_v546 : Ref sig .tc := ⟨.hbm, 606, rfl⟩
abbrev main_cst_26 : Ref sig .tc := ⟨.hbm, 607, rfl⟩
abbrev main_v547 : Ref sig .tc := ⟨.hbm, 608, rfl⟩
abbrev main_v548 : Ref sig .tc := ⟨.hbm, 609, rfl⟩
abbrev main_v549 : Ref sig .tc := ⟨.hbm, 610, rfl⟩
abbrev main_v550 : Ref sig .tc := ⟨.hbm, 611, rfl⟩
abbrev main_v551 : Ref sig .tc := ⟨.hbm, 612, rfl⟩
abbrev main_v552 : Ref sig .tc := ⟨.hbm, 613, rfl⟩
abbrev main_cst_27 : Ref sig .tc := ⟨.hbm, 614, rfl⟩
abbrev main_v553 : Ref sig .tc := ⟨.hbm, 615, rfl⟩
abbrev main_v554 : Ref sig .tc := ⟨.hbm, 616, rfl⟩
abbrev main_v555 : Ref sig .tc := ⟨.hbm, 617, rfl⟩
abbrev main_v556 : Ref sig .tc := ⟨.hbm, 618, rfl⟩
abbrev main_v557 : Ref sig .tc := ⟨.hbm, 619, rfl⟩
abbrev main_v558 : Ref sig .tc := ⟨.hbm, 620, rfl⟩
abbrev main_cst_28 : Ref sig .tc := ⟨.hbm, 621, rfl⟩
abbrev main_v559 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_v563 : Ref sig .tc := ⟨.hbm, 626, rfl⟩
abbrev main_v564 : Ref sig .tc := ⟨.hbm, 627, rfl⟩
abbrev main_cst_29 : Ref sig .tc := ⟨.hbm, 628, rfl⟩
abbrev main_v565 : Ref sig .tc := ⟨.hbm, 629, rfl⟩
abbrev main_v566 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_cst_30 : Ref sig .tc := ⟨.hbm, 635, rfl⟩
abbrev main_v571 : Ref sig .tc := ⟨.hbm, 636, rfl⟩
abbrev main_v572 : Ref sig .tc := ⟨.hbm, 637, rfl⟩
abbrev main_v573 : Ref sig .tc := ⟨.hbm, 638, rfl⟩
abbrev main_v574 : Ref sig .tc := ⟨.hbm, 639, rfl⟩
abbrev main_v575 : Ref sig .tc := ⟨.hbm, 640, rfl⟩
abbrev main_v576 : Ref sig .tc := ⟨.hbm, 641, rfl⟩
abbrev main_cst_31 : Ref sig .tc := ⟨.hbm, 642, rfl⟩
abbrev main_v577 : Ref sig .tc := ⟨.hbm, 643, rfl⟩
abbrev main_v578 : Ref sig .tc := ⟨.hbm, 644, rfl⟩
abbrev main_v579 : Ref sig .tc := ⟨.hbm, 645, rfl⟩
abbrev main_v580 : Ref sig .tc := ⟨.hbm, 646, rfl⟩
abbrev main_v581 : Ref sig .tc := ⟨.hbm, 647, rfl⟩
abbrev main_v582 : Ref sig .tc := ⟨.hbm, 648, rfl⟩
abbrev main_cst_32 : Ref sig .tc := ⟨.hbm, 649, rfl⟩
abbrev main_v583 : Ref sig .tc := ⟨.hbm, 650, rfl⟩
abbrev main_v584 : Ref sig .tc := ⟨.hbm, 651, rfl⟩
abbrev main_v585 : Ref sig .tc := ⟨.hbm, 652, rfl⟩
abbrev main_v586 : Ref sig .tc := ⟨.hbm, 653, rfl⟩
abbrev main_v587 : Ref sig .tc := ⟨.hbm, 654, rfl⟩
abbrev main_v588 : Ref sig .tc := ⟨.hbm, 655, rfl⟩
abbrev main_cst_33 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_v594 : Ref sig .tc := ⟨.hbm, 662, rfl⟩
abbrev main_cst_34 : Ref sig .tc := ⟨.hbm, 663, rfl⟩
abbrev main_v595 : Ref sig .tc := ⟨.hbm, 664, rfl⟩
abbrev main_v596 : Ref sig .tc := ⟨.hbm, 665, rfl⟩
abbrev main_v597 : Ref sig .tc := ⟨.hbm, 666, rfl⟩
abbrev main_v598 : Ref sig .tc := ⟨.hbm, 667, rfl⟩
abbrev main_v599 : Ref sig .tc := ⟨.hbm, 668, rfl⟩
abbrev main_v600 : Ref sig .tc := ⟨.hbm, 669, rfl⟩
abbrev main_cst_35 : Ref sig .tc := ⟨.hbm, 670, rfl⟩
abbrev main_v601 : Ref sig .tc := ⟨.hbm, 671, rfl⟩
abbrev main_v602 : Ref sig .tc := ⟨.hbm, 672, rfl⟩
abbrev main_v603 : Ref sig .tc := ⟨.hbm, 673, rfl⟩
abbrev main_v604 : Ref sig .tc := ⟨.hbm, 674, rfl⟩
abbrev main_v605 : Ref sig .tc := ⟨.hbm, 675, rfl⟩
abbrev main_v606 : Ref sig .tc := ⟨.hbm, 676, rfl⟩
abbrev main_cst_36 : Ref sig .tc := ⟨.hbm, 677, rfl⟩
abbrev main_v607 : Ref sig .tc := ⟨.hbm, 678, rfl⟩
abbrev main_v608 : Ref sig .tc := ⟨.hbm, 679, rfl⟩
abbrev main_v609 : Ref sig .tc := ⟨.hbm, 680, rfl⟩
abbrev main_v610 : Ref sig .tc := ⟨.hbm, 681, rfl⟩
abbrev main_v611 : Ref sig .tc := ⟨.hbm, 682, rfl⟩
abbrev main_v612 : Ref sig .tc := ⟨.hbm, 683, rfl⟩
abbrev main_cst_37 : Ref sig .tc := ⟨.hbm, 684, rfl⟩
abbrev main_v613 : Ref sig .tc := ⟨.hbm, 685, rfl⟩
abbrev main_v614 : Ref sig .tc := ⟨.hbm, 686, rfl⟩
abbrev main_v615 : Ref sig .tc := ⟨.hbm, 687, rfl⟩
abbrev main_v616 : Ref sig .tc := ⟨.hbm, 688, rfl⟩
abbrev main_v617 : Ref sig .tc := ⟨.hbm, 689, rfl⟩
abbrev main_v618 : Ref sig .tc := ⟨.hbm, 690, rfl⟩
abbrev main_cst_38 : Ref sig .tc := ⟨.hbm, 691, rfl⟩
abbrev main_v619 : Ref sig .tc := ⟨.hbm, 692, rfl⟩
abbrev main_v620 : Ref sig .tc := ⟨.hbm, 693, rfl⟩
abbrev main_v621 : Ref sig .tc := ⟨.hbm, 694, rfl⟩
abbrev main_v622 : Ref sig .tc := ⟨.hbm, 695, rfl⟩
abbrev main_v623 : Ref sig .tc := ⟨.hbm, 696, rfl⟩
abbrev main_v624 : Ref sig .tc := ⟨.hbm, 697, rfl⟩
abbrev main_cst_39 : Ref sig .tc := ⟨.hbm, 698, rfl⟩
abbrev main_v625 : Ref sig .tc := ⟨.hbm, 699, rfl⟩
abbrev main_v626 : Ref sig .tc := ⟨.hbm, 700, rfl⟩
abbrev main_v627 : Ref sig .tc := ⟨.hbm, 701, rfl⟩
abbrev main_v628 : Ref sig .tc := ⟨.hbm, 702, rfl⟩
abbrev main_v629 : Ref sig .tc := ⟨.hbm, 703, rfl⟩
abbrev main_v630 : Ref sig .tc := ⟨.hbm, 704, rfl⟩
abbrev main_cst_40 : Ref sig .tc := ⟨.hbm, 705, rfl⟩
abbrev main_v631 : Ref sig .tc := ⟨.hbm, 706, rfl⟩
abbrev main_v632 : Ref sig .tc := ⟨.hbm, 707, rfl⟩
abbrev main_v633 : Ref sig .tc := ⟨.hbm, 708, rfl⟩
abbrev main_v634 : Ref sig .tc := ⟨.hbm, 709, rfl⟩
abbrev main_v635 : Ref sig .tc := ⟨.hbm, 710, rfl⟩
abbrev main_v636 : Ref sig .tc := ⟨.hbm, 711, rfl⟩
abbrev main_cst_41 : Ref sig .tc := ⟨.hbm, 712, rfl⟩
abbrev main_v637 : Ref sig .tc := ⟨.hbm, 713, rfl⟩
abbrev main_v638 : Ref sig .tc := ⟨.hbm, 714, rfl⟩
abbrev main_v639 : Ref sig .tc := ⟨.hbm, 715, rfl⟩
abbrev main_v640 : Ref sig .tc := ⟨.hbm, 716, rfl⟩
abbrev main_v641 : Ref sig .tc := ⟨.hbm, 717, rfl⟩
abbrev main_v642 : Ref sig .tc := ⟨.hbm, 718, rfl⟩
abbrev main_cst_42 : Ref sig .tc := ⟨.hbm, 719, rfl⟩
abbrev main_v643 : Ref sig .tc := ⟨.hbm, 720, rfl⟩
abbrev main_v644 : Ref sig .tc := ⟨.hbm, 721, rfl⟩
abbrev main_v645 : Ref sig .tc := ⟨.hbm, 722, rfl⟩
abbrev main_v646 : Ref sig .tc := ⟨.hbm, 723, rfl⟩
abbrev main_v647 : Ref sig .tc := ⟨.hbm, 724, rfl⟩
abbrev main_v648 : Ref sig .tc := ⟨.hbm, 725, rfl⟩
abbrev main_cst_43 : Ref sig .tc := ⟨.hbm, 726, rfl⟩
abbrev main_v649 : Ref sig .tc := ⟨.hbm, 727, rfl⟩
abbrev main_v650 : Ref sig .tc := ⟨.hbm, 728, rfl⟩
abbrev main_v651 : Ref sig .tc := ⟨.hbm, 729, rfl⟩
abbrev main_v652 : Ref sig .tc := ⟨.hbm, 730, rfl⟩
abbrev main_v653 : Ref sig .tc := ⟨.hbm, 731, rfl⟩
abbrev main_v654 : Ref sig .tc := ⟨.hbm, 732, rfl⟩
abbrev main_cst_44 : Ref sig .tc := ⟨.hbm, 733, rfl⟩
abbrev main_v655 : Ref sig .tc := ⟨.hbm, 734, rfl⟩
abbrev main_v656 : Ref sig .tc := ⟨.hbm, 735, rfl⟩
abbrev main_v657 : Ref sig .tc := ⟨.hbm, 736, rfl⟩
abbrev main_v658 : Ref sig .tc := ⟨.hbm, 737, rfl⟩
abbrev main_v659 : Ref sig .tc := ⟨.hbm, 738, rfl⟩
abbrev main_v660 : Ref sig .tc := ⟨.hbm, 739, rfl⟩
abbrev main_cst_45 : Ref sig .tc := ⟨.hbm, 740, rfl⟩
abbrev main_v661 : Ref sig .tc := ⟨.hbm, 741, rfl⟩
abbrev main_v662 : Ref sig .tc := ⟨.hbm, 742, rfl⟩
abbrev main_v663 : Ref sig .tc := ⟨.hbm, 743, rfl⟩
abbrev main_v664 : Ref sig .tc := ⟨.hbm, 744, rfl⟩
abbrev main_v665 : Ref sig .tc := ⟨.hbm, 745, rfl⟩
abbrev main_v666 : Ref sig .tc := ⟨.hbm, 746, rfl⟩
abbrev main_cst_46 : Ref sig .tc := ⟨.hbm, 747, rfl⟩
abbrev main_v667 : Ref sig .tc := ⟨.hbm, 748, rfl⟩
abbrev main_v668 : Ref sig .tc := ⟨.hbm, 749, rfl⟩
abbrev main_v669 : Ref sig .tc := ⟨.hbm, 750, rfl⟩
abbrev main_v670 : Ref sig .tc := ⟨.hbm, 751, rfl⟩
abbrev main_v671 : Ref sig .tc := ⟨.hbm, 752, rfl⟩
abbrev main_v672 : Ref sig .tc := ⟨.hbm, 753, rfl⟩
abbrev main_cst_47 : Ref sig .tc := ⟨.hbm, 754, rfl⟩
abbrev main_v673 : Ref sig .tc := ⟨.hbm, 755, rfl⟩
abbrev main_v674 : Ref sig .tc := ⟨.hbm, 756, rfl⟩
abbrev main_v675 : Ref sig .tc := ⟨.hbm, 757, rfl⟩
abbrev main_v676 : Ref sig .tc := ⟨.hbm, 758, rfl⟩
abbrev main_v677 : Ref sig .tc := ⟨.hbm, 759, rfl⟩
abbrev main_v678 : Ref sig .tc := ⟨.hbm, 760, rfl⟩
abbrev main_cst_48 : Ref sig .tc := ⟨.hbm, 761, rfl⟩
abbrev main_v679 : Ref sig .tc := ⟨.hbm, 762, rfl⟩
abbrev main_v680 : Ref sig .tc := ⟨.hbm, 763, rfl⟩
abbrev main_v681 : Ref sig .tc := ⟨.hbm, 764, rfl⟩
abbrev main_v682 : Ref sig .tc := ⟨.hbm, 765, rfl⟩
abbrev main_v683 : Ref sig .tc := ⟨.hbm, 766, rfl⟩
abbrev main_v684 : Ref sig .tc := ⟨.hbm, 767, rfl⟩
abbrev main_cst_49 : Ref sig .tc := ⟨.hbm, 768, rfl⟩
abbrev main_v685 : Ref sig .tc := ⟨.hbm, 769, rfl⟩
abbrev main_v686 : Ref sig .tc := ⟨.hbm, 770, rfl⟩
abbrev main_v687 : Ref sig .tc := ⟨.hbm, 771, rfl⟩
abbrev main_v688 : Ref sig .tc := ⟨.hbm, 772, rfl⟩
abbrev main_v689 : Ref sig .tc := ⟨.hbm, 773, rfl⟩
abbrev main_v690 : Ref sig .tc := ⟨.hbm, 774, rfl⟩
abbrev main_cst_50 : Ref sig .tc := ⟨.hbm, 775, rfl⟩
abbrev main_v691 : Ref sig .tc := ⟨.hbm, 776, rfl⟩
abbrev main_v692 : Ref sig .tc := ⟨.hbm, 777, rfl⟩
abbrev main_v693 : Ref sig .tc := ⟨.hbm, 778, rfl⟩
abbrev main_v694 : Ref sig .tc := ⟨.hbm, 779, rfl⟩
abbrev main_v695 : Ref sig .tc := ⟨.hbm, 780, rfl⟩
abbrev main_v696 : Ref sig .tc := ⟨.hbm, 781, rfl⟩
abbrev main_cst_51 : Ref sig .tc := ⟨.hbm, 782, rfl⟩
abbrev main_v697 : Ref sig .tc := ⟨.hbm, 783, rfl⟩
abbrev main_v698 : Ref sig .tc := ⟨.hbm, 784, rfl⟩
abbrev main_v699 : Ref sig .tc := ⟨.hbm, 785, rfl⟩
abbrev main_v700 : Ref sig .tc := ⟨.hbm, 786, rfl⟩
abbrev main_v701 : Ref sig .tc := ⟨.hbm, 787, rfl⟩
abbrev main_v702 : Ref sig .tc := ⟨.hbm, 788, rfl⟩
abbrev main_cst_52 : Ref sig .tc := ⟨.hbm, 789, rfl⟩
abbrev main_v703 : Ref sig .tc := ⟨.hbm, 790, rfl⟩
abbrev main_v704 : Ref sig .tc := ⟨.hbm, 791, rfl⟩
abbrev main_v705 : Ref sig .tc := ⟨.hbm, 792, rfl⟩
abbrev main_v706 : Ref sig .tc := ⟨.hbm, 793, rfl⟩
abbrev main_v707 : Ref sig .tc := ⟨.hbm, 794, rfl⟩
abbrev main_v708 : Ref sig .tc := ⟨.hbm, 795, rfl⟩
abbrev main_cst_53 : Ref sig .tc := ⟨.hbm, 796, rfl⟩
abbrev main_v709 : Ref sig .tc := ⟨.hbm, 797, rfl⟩
abbrev main_v710 : Ref sig .tc := ⟨.hbm, 798, rfl⟩
abbrev main_v711 : Ref sig .tc := ⟨.hbm, 799, rfl⟩
abbrev main_v712 : Ref sig .tc := ⟨.hbm, 800, rfl⟩
abbrev main_v713 : Ref sig .tc := ⟨.hbm, 801, rfl⟩
abbrev main_v714 : Ref sig .tc := ⟨.hbm, 802, rfl⟩
abbrev main_cst_54 : Ref sig .tc := ⟨.hbm, 803, rfl⟩
abbrev main_v715 : Ref sig .tc := ⟨.hbm, 804, rfl⟩
abbrev main_v716 : Ref sig .tc := ⟨.hbm, 805, rfl⟩
abbrev main_v717 : Ref sig .tc := ⟨.hbm, 806, rfl⟩
abbrev main_v718 : Ref sig .tc := ⟨.hbm, 807, rfl⟩
abbrev main_v719 : Ref sig .tc := ⟨.hbm, 808, rfl⟩
abbrev main_v720 : Ref sig .tc := ⟨.hbm, 809, rfl⟩
abbrev main_cst_55 : Ref sig .tc := ⟨.hbm, 810, rfl⟩
abbrev main_v721 : Ref sig .tc := ⟨.hbm, 811, rfl⟩
abbrev main_v722 : Ref sig .tc := ⟨.hbm, 812, rfl⟩
abbrev main_v723 : Ref sig .tc := ⟨.hbm, 813, rfl⟩
abbrev main_v724 : Ref sig .tc := ⟨.hbm, 814, rfl⟩
abbrev main_v725 : Ref sig .tc := ⟨.hbm, 815, rfl⟩
abbrev main_v726 : Ref sig .tc := ⟨.hbm, 816, rfl⟩
abbrev main_cst_56 : Ref sig .tc := ⟨.hbm, 817, rfl⟩
abbrev main_v727 : Ref sig .tc := ⟨.hbm, 818, rfl⟩
abbrev main_v728 : Ref sig .tc := ⟨.hbm, 819, rfl⟩
abbrev main_v729 : Ref sig .tc := ⟨.hbm, 820, rfl⟩
abbrev main_v730 : Ref sig .tc := ⟨.hbm, 821, rfl⟩
abbrev main_v731 : Ref sig .tc := ⟨.hbm, 822, rfl⟩
abbrev main_v732 : Ref sig .tc := ⟨.hbm, 823, rfl⟩
abbrev main_cst_57 : Ref sig .tc := ⟨.hbm, 824, rfl⟩
abbrev main_v733 : Ref sig .tc := ⟨.hbm, 825, rfl⟩
abbrev main_v734 : Ref sig .tc := ⟨.hbm, 826, rfl⟩
abbrev main_v735 : Ref sig .tc := ⟨.hbm, 827, rfl⟩
abbrev main_v736 : Ref sig .tc := ⟨.hbm, 828, rfl⟩
abbrev main_v737 : Ref sig .tc := ⟨.hbm, 829, rfl⟩
abbrev main_v738 : Ref sig .tc := ⟨.hbm, 830, rfl⟩
abbrev main_cst_58 : Ref sig .tc := ⟨.hbm, 831, rfl⟩
abbrev main_v739 : Ref sig .tc := ⟨.hbm, 832, rfl⟩
abbrev main_v740 : Ref sig .tc := ⟨.hbm, 833, rfl⟩
abbrev main_v741 : Ref sig .tc := ⟨.hbm, 834, rfl⟩
abbrev main_v742 : Ref sig .tc := ⟨.hbm, 835, rfl⟩
abbrev main_v743 : Ref sig .tc := ⟨.hbm, 836, rfl⟩
abbrev main_v744 : Ref sig .tc := ⟨.hbm, 837, rfl⟩
abbrev main_cst_59 : Ref sig .tc := ⟨.hbm, 838, rfl⟩
abbrev main_v745 : Ref sig .tc := ⟨.hbm, 839, rfl⟩
abbrev main_v746 : Ref sig .tc := ⟨.hbm, 840, rfl⟩
abbrev main_v747 : Ref sig .tc := ⟨.hbm, 841, rfl⟩
abbrev main_v748 : Ref sig .tc := ⟨.hbm, 842, rfl⟩
abbrev main_v749 : Ref sig .tc := ⟨.hbm, 843, rfl⟩
abbrev main_v750 : Ref sig .tc := ⟨.hbm, 844, rfl⟩
abbrev main_cst_60 : Ref sig .tc := ⟨.hbm, 845, rfl⟩
abbrev main_v751 : Ref sig .tc := ⟨.hbm, 846, rfl⟩
abbrev main_v752 : Ref sig .tc := ⟨.hbm, 847, rfl⟩
abbrev main_v753 : Ref sig .tc := ⟨.hbm, 848, rfl⟩
abbrev main_v754 : Ref sig .tc := ⟨.hbm, 849, rfl⟩
abbrev main_v755 : Ref sig .tc := ⟨.hbm, 850, rfl⟩
abbrev main_v756 : Ref sig .tc := ⟨.hbm, 851, rfl⟩
abbrev main_cst_61 : Ref sig .tc := ⟨.hbm, 852, rfl⟩
abbrev main_v757 : Ref sig .tc := ⟨.hbm, 853, rfl⟩
abbrev main_v758 : Ref sig .tc := ⟨.hbm, 854, rfl⟩
abbrev main_v759 : Ref sig .tc := ⟨.hbm, 855, rfl⟩
abbrev main_v760 : Ref sig .tc := ⟨.hbm, 856, rfl⟩
abbrev main_v761 : Ref sig .tc := ⟨.hbm, 857, rfl⟩
abbrev main_v762 : Ref sig .tc := ⟨.hbm, 858, rfl⟩
abbrev main_cst_62 : Ref sig .tc := ⟨.hbm, 859, rfl⟩
abbrev main_v763 : Ref sig .tc := ⟨.hbm, 860, rfl⟩
abbrev main_v764 : Ref sig .tc := ⟨.hbm, 861, rfl⟩
abbrev main_v765 : Ref sig .tc := ⟨.hbm, 862, rfl⟩
abbrev main_v766 : Ref sig .tc := ⟨.hbm, 863, rfl⟩
abbrev main_v767 : Ref sig .tc := ⟨.hbm, 864, rfl⟩
abbrev main_v768 : Ref sig .tc := ⟨.hbm, 865, rfl⟩
abbrev main_cst_63 : Ref sig .tc := ⟨.hbm, 866, rfl⟩
abbrev main_v769 : Ref sig .tc := ⟨.hbm, 867, rfl⟩
abbrev main_v770 : Ref sig .tc := ⟨.hbm, 868, rfl⟩
abbrev main_v771 : Ref sig .tc := ⟨.hbm, 869, rfl⟩
abbrev main_v772 : Ref sig .tc := ⟨.hbm, 870, rfl⟩
abbrev main_v773 : Ref sig .tc := ⟨.hbm, 871, rfl⟩
abbrev main_v774 : Ref sig .tc := ⟨.hbm, 872, rfl⟩
abbrev main_cst_64 : Ref sig .tc := ⟨.hbm, 873, rfl⟩
abbrev main_v775 : Ref sig .tc := ⟨.hbm, 874, rfl⟩
abbrev main_v776 : Ref sig .tc := ⟨.hbm, 875, rfl⟩
abbrev main_v777 : Ref sig .tc := ⟨.hbm, 876, rfl⟩
abbrev main_v778 : Ref sig .tc := ⟨.hbm, 877, rfl⟩
abbrev main_v779 : Ref sig .tc := ⟨.hbm, 878, rfl⟩
abbrev main_v780 : Ref sig .tc := ⟨.hbm, 879, rfl⟩
abbrev main_cst_65 : Ref sig .tc := ⟨.hbm, 880, rfl⟩
abbrev main_v781 : Ref sig .tc := ⟨.hbm, 881, rfl⟩
abbrev main_v782 : Ref sig .tc := ⟨.hbm, 882, rfl⟩
abbrev main_v783 : Ref sig .tc := ⟨.hbm, 883, rfl⟩
abbrev main_v784 : Ref sig .tc := ⟨.hbm, 884, rfl⟩
abbrev main_v785 : Ref sig .tc := ⟨.hbm, 885, rfl⟩
abbrev main_v786 : Ref sig .tc := ⟨.hbm, 886, rfl⟩
abbrev main_cst_66 : Ref sig .tc := ⟨.hbm, 887, rfl⟩
abbrev main_v787 : Ref sig .tc := ⟨.hbm, 888, rfl⟩
abbrev main_v788 : Ref sig .tc := ⟨.hbm, 889, rfl⟩
abbrev main_v789 : Ref sig .tc := ⟨.hbm, 890, rfl⟩
abbrev main_v790 : Ref sig .tc := ⟨.hbm, 891, rfl⟩
abbrev main_v791 : Ref sig .tc := ⟨.hbm, 892, rfl⟩
abbrev main_v792 : Ref sig .tc := ⟨.hbm, 893, rfl⟩
abbrev main_cst_67 : Ref sig .tc := ⟨.hbm, 894, rfl⟩
abbrev main_v793 : Ref sig .tc := ⟨.hbm, 895, rfl⟩
abbrev main_v794 : Ref sig .tc := ⟨.hbm, 896, rfl⟩
abbrev main_v795 : Ref sig .tc := ⟨.hbm, 897, rfl⟩
abbrev main_v796 : Ref sig .tc := ⟨.hbm, 898, rfl⟩
abbrev main_v797 : Ref sig .tc := ⟨.hbm, 899, rfl⟩
abbrev main_v798 : Ref sig .tc := ⟨.hbm, 900, rfl⟩
abbrev main_cst_68 : Ref sig .tc := ⟨.hbm, 901, rfl⟩
abbrev main_v799 : Ref sig .tc := ⟨.hbm, 902, rfl⟩
abbrev main_v800 : Ref sig .tc := ⟨.hbm, 903, rfl⟩
abbrev main_v801 : Ref sig .tc := ⟨.hbm, 904, rfl⟩
abbrev main_v802 : Ref sig .tc := ⟨.hbm, 905, rfl⟩
abbrev main_v803 : Ref sig .tc := ⟨.hbm, 906, rfl⟩
abbrev main_v804 : Ref sig .tc := ⟨.hbm, 907, rfl⟩
abbrev main_cst_69 : Ref sig .tc := ⟨.hbm, 908, rfl⟩
abbrev main_v805 : Ref sig .tc := ⟨.hbm, 909, rfl⟩
abbrev main_v806 : Ref sig .tc := ⟨.hbm, 910, rfl⟩
abbrev main_v807 : Ref sig .tc := ⟨.hbm, 911, rfl⟩
abbrev main_v808 : Ref sig .tc := ⟨.hbm, 912, rfl⟩
abbrev main_v809 : Ref sig .tc := ⟨.hbm, 913, rfl⟩
abbrev main_v810 : Ref sig .tc := ⟨.hbm, 914, rfl⟩
abbrev main_cst_70 : Ref sig .tc := ⟨.hbm, 915, rfl⟩
abbrev main_v811 : Ref sig .tc := ⟨.hbm, 916, rfl⟩
abbrev main_v812 : Ref sig .tc := ⟨.hbm, 917, rfl⟩
abbrev main_v813 : Ref sig .tc := ⟨.hbm, 918, rfl⟩
abbrev main_v814 : Ref sig .tc := ⟨.hbm, 919, rfl⟩
abbrev main_v815 : Ref sig .tc := ⟨.hbm, 920, rfl⟩
abbrev main_v816 : Ref sig .tc := ⟨.hbm, 921, rfl⟩
abbrev main_cst_71 : Ref sig .tc := ⟨.hbm, 922, rfl⟩
abbrev main_v817 : Ref sig .tc := ⟨.hbm, 923, rfl⟩
abbrev main_v818 : Ref sig .tc := ⟨.hbm, 924, rfl⟩
abbrev main_v819 : Ref sig .tc := ⟨.hbm, 925, rfl⟩
abbrev main_v820 : Ref sig .tc := ⟨.hbm, 926, rfl⟩
abbrev main_v821 : Ref sig .tc := ⟨.hbm, 927, rfl⟩
abbrev main_v822 : Ref sig .tc := ⟨.hbm, 928, rfl⟩
abbrev main_cst_72 : Ref sig .tc := ⟨.hbm, 929, rfl⟩
abbrev main_v823 : Ref sig .tc := ⟨.hbm, 930, rfl⟩
abbrev main_v824 : Ref sig .tc := ⟨.hbm, 931, rfl⟩
abbrev main_v825 : Ref sig .tc := ⟨.hbm, 932, rfl⟩
abbrev main_v826 : Ref sig .tc := ⟨.hbm, 933, rfl⟩
abbrev main_v827 : Ref sig .tc := ⟨.hbm, 934, rfl⟩
abbrev main_v828 : Ref sig .tc := ⟨.hbm, 935, rfl⟩
abbrev main_cst_73 : Ref sig .tc := ⟨.hbm, 936, rfl⟩
abbrev main_v829 : Ref sig .tc := ⟨.hbm, 937, rfl⟩
abbrev main_v830 : Ref sig .tc := ⟨.hbm, 938, rfl⟩
abbrev main_v831 : Ref sig .tc := ⟨.hbm, 939, rfl⟩
abbrev main_v832 : Ref sig .tc := ⟨.hbm, 940, rfl⟩
abbrev main_v833 : Ref sig .tc := ⟨.hbm, 941, rfl⟩
abbrev main_v834 : Ref sig .tc := ⟨.hbm, 942, rfl⟩
abbrev main_cst_74 : Ref sig .tc := ⟨.hbm, 943, rfl⟩
abbrev main_v835 : Ref sig .tc := ⟨.hbm, 944, rfl⟩
abbrev main_v836 : Ref sig .tc := ⟨.hbm, 945, rfl⟩
abbrev main_v837 : Ref sig .tc := ⟨.hbm, 946, rfl⟩
abbrev main_v838 : Ref sig .tc := ⟨.hbm, 947, rfl⟩
abbrev main_v839 : Ref sig .tc := ⟨.hbm, 948, rfl⟩
abbrev main_v840 : Ref sig .tc := ⟨.hbm, 949, rfl⟩
abbrev main_cst_75 : Ref sig .tc := ⟨.hbm, 950, rfl⟩
abbrev main_v841 : Ref sig .tc := ⟨.hbm, 951, rfl⟩
abbrev main_v842 : Ref sig .tc := ⟨.hbm, 952, rfl⟩
abbrev main_v843 : Ref sig .tc := ⟨.hbm, 953, rfl⟩
abbrev main_v844 : Ref sig .tc := ⟨.hbm, 954, rfl⟩
abbrev main_v845 : Ref sig .tc := ⟨.hbm, 955, rfl⟩
abbrev main_v846 : Ref sig .tc := ⟨.hbm, 956, rfl⟩
abbrev main_cst_76 : Ref sig .tc := ⟨.hbm, 957, rfl⟩
abbrev main_v847 : Ref sig .tc := ⟨.hbm, 958, rfl⟩
abbrev main_v848 : Ref sig .tc := ⟨.hbm, 959, rfl⟩
abbrev main_v849 : Ref sig .tc := ⟨.hbm, 960, rfl⟩
abbrev main_v850 : Ref sig .tc := ⟨.hbm, 961, rfl⟩
abbrev main_v851 : Ref sig .tc := ⟨.hbm, 962, rfl⟩
abbrev main_v852 : Ref sig .tc := ⟨.hbm, 963, rfl⟩
abbrev main_cst_77 : Ref sig .tc := ⟨.hbm, 964, rfl⟩
abbrev main_v853 : Ref sig .tc := ⟨.hbm, 965, rfl⟩
abbrev main_v854 : Ref sig .tc := ⟨.hbm, 966, rfl⟩
abbrev main_v855 : Ref sig .tc := ⟨.hbm, 967, rfl⟩
abbrev main_v856 : Ref sig .tc := ⟨.hbm, 968, rfl⟩
abbrev main_v857 : Ref sig .tc := ⟨.hbm, 969, rfl⟩
abbrev main_v858 : Ref sig .tc := ⟨.hbm, 970, rfl⟩
abbrev main_cst_78 : Ref sig .tc := ⟨.hbm, 971, rfl⟩
abbrev main_v859 : Ref sig .tc := ⟨.hbm, 972, rfl⟩
abbrev main_v860 : Ref sig .tc := ⟨.hbm, 973, rfl⟩
abbrev main_v861 : Ref sig .tc := ⟨.hbm, 974, rfl⟩
abbrev main_cst_79 : Ref sig .tc := ⟨.hbm, 975, rfl⟩
abbrev main_v862 : Ref sig .tc := ⟨.hbm, 976, rfl⟩
abbrev main_v863 : Ref sig .tc := ⟨.hbm, 977, rfl⟩
abbrev main_cst_80 : Ref sig .tc := ⟨.hbm, 978, rfl⟩
abbrev main_v864 : Ref sig .tc := ⟨.hbm, 979, rfl⟩
abbrev main_v865 : Ref sig .tc := ⟨.hbm, 980, rfl⟩
abbrev main_v866 : Ref sig .tc := ⟨.hbm, 981, rfl⟩
abbrev main_v867 : Ref sig .tc := ⟨.hbm, 982, rfl⟩
abbrev main_v868 : Ref sig .tc := ⟨.hbm, 983, rfl⟩
abbrev main_v869 : Ref sig .tc := ⟨.hbm, 984, rfl⟩
abbrev main_cst_81 : Ref sig .tc := ⟨.hbm, 985, rfl⟩
abbrev main_v870 : Ref sig .tc := ⟨.hbm, 986, rfl⟩
abbrev main_v871 : Ref sig .tc := ⟨.hbm, 987, rfl⟩
abbrev main_v872 : Ref sig .tc := ⟨.hbm, 988, rfl⟩
abbrev main_v873 : Ref sig .tc := ⟨.hbm, 989, rfl⟩
abbrev main_v874 : Ref sig .tc := ⟨.hbm, 990, rfl⟩
abbrev main_v875 : Ref sig .tc := ⟨.hbm, 991, rfl⟩
abbrev main_cst_82 : Ref sig .tc := ⟨.hbm, 992, rfl⟩
abbrev main_v876 : Ref sig .tc := ⟨.hbm, 993, rfl⟩
abbrev main_v877 : Ref sig .tc := ⟨.hbm, 994, rfl⟩
abbrev main_v878 : Ref sig .tc := ⟨.hbm, 995, rfl⟩
abbrev main_v879 : Ref sig .tc := ⟨.hbm, 996, rfl⟩
abbrev main_v880 : Ref sig .tc := ⟨.hbm, 997, rfl⟩
abbrev main_v881 : Ref sig .tc := ⟨.hbm, 998, rfl⟩
abbrev main_v882 : Ref sig .tc := ⟨.hbm, 999, rfl⟩
abbrev main_v883 : Ref sig .tc := ⟨.hbm, 1000, rfl⟩
abbrev main_v884 : Ref sig .tc := ⟨.hbm, 1001, rfl⟩
abbrev main_v885 : Ref sig .tc := ⟨.hbm, 1002, rfl⟩
abbrev main_cst_83 : Ref sig .tc := ⟨.hbm, 1003, rfl⟩
abbrev main_v886 : Ref sig .tc := ⟨.hbm, 1004, rfl⟩
abbrev main_v887 : Ref sig .tc := ⟨.hbm, 1005, rfl⟩
abbrev main_v888 : Ref sig .tc := ⟨.hbm, 1006, rfl⟩
abbrev main_cst_84 : Ref sig .tc := ⟨.hbm, 1007, rfl⟩
abbrev main_v889 : Ref sig .tc := ⟨.hbm, 1008, rfl⟩
abbrev main_v890 : Ref sig .tc := ⟨.hbm, 1009, rfl⟩
abbrev main_v891 : Ref sig .tc := ⟨.hbm, 1010, rfl⟩
abbrev main_v892 : Ref sig .tc := ⟨.hbm, 1011, rfl⟩
abbrev main_cst_85 : Ref sig .tc := ⟨.hbm, 1012, rfl⟩
abbrev main_v893 : Ref sig .tc := ⟨.hbm, 1013, rfl⟩
abbrev main_v894 : Ref sig .tc := ⟨.hbm, 1014, rfl⟩
abbrev main_v895 : Ref sig .tc := ⟨.hbm, 1015, rfl⟩
abbrev main_v896 : Ref sig .tc := ⟨.hbm, 1016, rfl⟩
abbrev main_v897 : Ref sig .tc := ⟨.hbm, 1017, rfl⟩
abbrev main_v898 : Ref sig .tc := ⟨.hbm, 1018, rfl⟩
abbrev main_v899 : Ref sig .tc := ⟨.hbm, 1019, rfl⟩
abbrev main_call5_cst : Ref sig .tc := ⟨.hbm, 1020, rfl⟩
abbrev main_call5_v0 : Ref sig .tc := ⟨.hbm, 1021, rfl⟩
abbrev main_v900 : Ref sig .tc := ⟨.hbm, 1022, rfl⟩
abbrev main_v901 : Ref sig .tc := ⟨.hbm, 1023, rfl⟩
abbrev main_v902 : Ref sig .tc := ⟨.hbm, 1024, rfl⟩
abbrev main_v903 : Ref sig .tc := ⟨.hbm, 1025, rfl⟩
abbrev main_v904 : Ref sig .tc := ⟨.hbm, 1026, rfl⟩
abbrev main_v905 : Ref sig .tc := ⟨.hbm, 1027, rfl⟩
abbrev main_v906 : Ref sig .tc := ⟨.hbm, 1028, rfl⟩
abbrev main_v907 : Ref sig .tc := ⟨.hbm, 1029, rfl⟩
abbrev main_v908 : Ref sig .tc := ⟨.hbm, 1030, rfl⟩
abbrev main_v909 : Ref sig .tc := ⟨.hbm, 1031, rfl⟩
abbrev main_v910 : Ref sig .tc := ⟨.hbm, 1032, rfl⟩
abbrev main_v911 : Ref sig .tc := ⟨.hbm, 1033, rfl⟩
abbrev main_v912 : Ref sig .tc := ⟨.hbm, 1034, rfl⟩
abbrev main_v913 : Ref sig .tc := ⟨.hbm, 1035, rfl⟩
abbrev main_v914 : Ref sig .tc := ⟨.hbm, 1036, rfl⟩
abbrev main_v915 : Ref sig .tc := ⟨.hbm, 1037, rfl⟩
abbrev main_call6_call0_cst : Ref sig .tc := ⟨.hbm, 1038, rfl⟩
abbrev main_call6_call0_v0 : Ref sig .tc := ⟨.hbm, 1039, rfl⟩
abbrev main_v916 : Ref sig .tc := ⟨.hbm, 1040, rfl⟩
abbrev main_v917 : Ref sig .tc := ⟨.hbm, 1041, rfl⟩
abbrev main_v918 : Ref sig .tc := ⟨.hbm, 1042, rfl⟩
abbrev main_v919 : Ref sig .tc := ⟨.hbm, 1043, rfl⟩
abbrev main_v920 : Ref sig .tc := ⟨.hbm, 1044, rfl⟩
abbrev main_v921 : Ref sig .tc := ⟨.hbm, 1045, rfl⟩
abbrev main_v922 : Ref sig .tc := ⟨.hbm, 1046, rfl⟩
abbrev main_v923 : Ref sig .tc := ⟨.hbm, 1047, rfl⟩
abbrev main_cst_86 : Ref sig .tc := ⟨.hbm, 1048, rfl⟩
abbrev main_v924 : Ref sig .tc := ⟨.hbm, 1049, rfl⟩
abbrev main_v925 : Ref sig .tc := ⟨.hbm, 1050, rfl⟩
abbrev main_cst_87 : Ref sig .tc := ⟨.hbm, 1051, rfl⟩
abbrev main_v926 : Ref sig .tc := ⟨.hbm, 1052, rfl⟩
abbrev main_v927 : Ref sig .tc := ⟨.hbm, 1053, rfl⟩
abbrev main_v928 : Ref sig .tc := ⟨.hbm, 1054, rfl⟩
abbrev main_v929 : Ref sig .tc := ⟨.hbm, 1055, rfl⟩
abbrev main_cst_88 : Ref sig .tc := ⟨.hbm, 1056, rfl⟩
abbrev main_v930 : Ref sig .tc := ⟨.hbm, 1057, rfl⟩
abbrev main_v931 : Ref sig .tc := ⟨.hbm, 1058, rfl⟩
abbrev main_cst_89 : Ref sig .tc := ⟨.hbm, 1059, rfl⟩
abbrev main_v932 : Ref sig .tc := ⟨.hbm, 1060, rfl⟩
abbrev main_v933 : Ref sig .tc := ⟨.hbm, 1061, rfl⟩
abbrev main_v934 : Ref sig .tc := ⟨.hbm, 1062, rfl⟩
abbrev main_v935 : Ref sig .tc := ⟨.hbm, 1063, rfl⟩
abbrev main_call7_v0 : Ref sig .tc := ⟨.hbm, 1064, rfl⟩
abbrev main_call7_v1 : Ref sig .tc := ⟨.hbm, 1065, rfl⟩
abbrev main_call7_v2 : Ref sig .tc := ⟨.hbm, 1066, rfl⟩
abbrev main_v936 : Ref sig .tc := ⟨.hbm, 1067, rfl⟩
abbrev main_v937 : Ref sig .tc := ⟨.hbm, 1068, rfl⟩
abbrev main_v938 : Ref sig .tc := ⟨.hbm, 1069, rfl⟩
abbrev main_v939 : Ref sig .tc := ⟨.hbm, 1070, rfl⟩
abbrev main_v940 : Ref sig .tc := ⟨.hbm, 1071, rfl⟩
abbrev main_v941 : Ref sig .tc := ⟨.hbm, 1072, rfl⟩
abbrev main_cst_90 : Ref sig .tc := ⟨.hbm, 1073, rfl⟩
abbrev main_v942 : Ref sig .tc := ⟨.hbm, 1074, rfl⟩
abbrev main_v943 : Ref sig .tc := ⟨.hbm, 1075, rfl⟩
abbrev main_call8_call0_cst : Ref sig .tc := ⟨.hbm, 1076, rfl⟩
abbrev main_call8_call0_v0 : Ref sig .tc := ⟨.hbm, 1077, rfl⟩
abbrev main_v944 : Ref sig .tc := ⟨.hbm, 1078, rfl⟩
abbrev main_v945 : Ref sig .tc := ⟨.hbm, 1079, rfl⟩
abbrev main_v946 : Ref sig .tc := ⟨.hbm, 1080, rfl⟩
abbrev main_v947 : Ref sig .tc := ⟨.hbm, 1081, rfl⟩
abbrev main_cst_91 : Ref sig .tc := ⟨.hbm, 1082, rfl⟩
abbrev main_v948 : Ref sig .tc := ⟨.hbm, 1083, rfl⟩
abbrev main_v949 : Ref sig .tc := ⟨.hbm, 1084, rfl⟩
abbrev main_v950 : Ref sig .tc := ⟨.hbm, 1085, rfl⟩
abbrev main_v951 : Ref sig .tc := ⟨.hbm, 1086, rfl⟩
abbrev main_v952 : Ref sig .tc := ⟨.hbm, 1087, rfl⟩
abbrev main_cst_92 : Ref sig .tc := ⟨.hbm, 1088, rfl⟩
abbrev main_v953 : Ref sig .tc := ⟨.hbm, 1089, rfl⟩
abbrev main_v954 : Ref sig .tc := ⟨.hbm, 1090, rfl⟩
abbrev main_v955 : Ref sig .tc := ⟨.hbm, 1091, rfl⟩
abbrev main_v956 : Ref sig .tc := ⟨.hbm, 1092, rfl⟩
abbrev main_v957 : Ref sig .tc := ⟨.hbm, 1093, rfl⟩

abbrev nD : Nat := 1
abbrev τ : Topo := Topo.v7x

variable {F : FTy → Type} [FloatOps F]
-- ==== Kernel2.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v79 : BitVec 1 := Scalar.cmpi .eq arg0 c0_i32
  let v80 : BitVec 32 := Scalar.extui v79
  let c0_i32_48 : BitVec 32 := 0#32
  let v81 : BitVec 1 := Scalar.cmpi .ne v80 c0_i32_48
  v81

def k0_cond2 (i : grid0.Coords) : BitVec 1 :=
  let arg0 : BitVec 32 := BitVec.ofNat 32 (i 0).val
  let c0_i32 : BitVec 32 := 0#32
  let v79 : BitVec 1 := Scalar.cmpi .eq arg0 c0_i32
  let v_true : BitVec 1 := 1#1
  let v82 : BitVec 1 := Scalar.xori v79 v_true
  let v83 : BitVec 32 := Scalar.extui v82
  let c0_i32_49 : BitVec 32 := 0#32
  let v84 : BitVec 1 := Scalar.cmpi .ne v83 c0_i32_49
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S5632x1024 : Shape := ⟨2, ![5632, 1024]⟩
abbrev S4096x256 : Shape := ⟨2, ![4096, 256]⟩
abbrev S256x1024 : Shape := ⟨2, ![256, 1024]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x4096, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1536 : Shape := ⟨2, ![4096, 1536]⟩
abbrev S4096x512 : Shape := ⟨2, ![4096, 512]⟩
abbrev S4096x1024 : Shape := ⟨2, ![4096, 1024]⟩
abbrev S3584x1024 : Shape := ⟨2, ![3584, 1024]⟩
abbrev S4096x256 : Shape := ⟨2, ![4096, 256]⟩
abbrev S256x1024 : Shape := ⟨2, ![256, 1024]⟩
abbrev S256x4096 : Shape := ⟨2, ![256, 4096]⟩

abbrev nBuf : Space → Nat
  | .hbm => 5
  | .vmem => 8
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x1024, .bf16⟩
  | .hbm, ⟨3, _⟩ => ⟨S3584x1024, .bf16⟩
  | .hbm, ⟨4, _⟩ => ⟨S3584x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  ![v0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x1536 : Shape := ⟨2, ![4096, 1536]⟩
abbrev S4096x512 : Shape := ⟨2, ![4096, 512]⟩
abbrev S4096x1024 : Shape := ⟨2, ![4096, 1024]⟩
abbrev S3584x1024 : Shape := ⟨2, ![3584, 1024]⟩
abbrev S_ : Shape := ⟨0, ![]⟩
abbrev S1024x2048 : Shape := ⟨2, ![1024, 2048]⟩
abbrev S4096x2048 : Shape := ⟨2, ![4096, 2048]⟩
abbrev S2048x1024 : Shape := ⟨2, ![2048, 1024]⟩
abbrev S1536x1024 : Shape := ⟨2, ![1536, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x1024, .bf16⟩
  | .hbm, ⟨3, _⟩ => ⟨S3584x1024, .bf16⟩
  | .hbm, ⟨4, _⟩ => ⟨S4096x1024, .f32⟩
  | .hbm, ⟨5, _⟩ => ⟨S_, .f32⟩
  | .hbm, ⟨6, _⟩ => ⟨S1024x2048, .f32⟩
  | .hbm, ⟨7, _⟩ => ⟨S4096x2048, .f32⟩
  | .hbm, ⟨8, _⟩ => ⟨S4096x1536, .f32⟩
  | .hbm, ⟨9, _⟩ => ⟨S4096x512, .f32⟩
  | .hbm, ⟨10, _⟩ => ⟨S4096x1536, .f32⟩
  | .hbm, ⟨11, _⟩ => ⟨S4096x512, .f32⟩
  | .hbm, ⟨12, _⟩ => ⟨S_, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S2048x1024, .f32⟩
  | .hbm, ⟨18, _⟩ => ⟨S1024x2048, .f32⟩
  | .hbm, ⟨19, _⟩ => ⟨S1536x1024, .bf16⟩
  | .hbm, ⟨20, _⟩ => ⟨S2048x1024, .f32⟩
  | .hbm, ⟨21, _⟩ => ⟨S2048x1024, .bf16⟩
  | .hbm, ⟨22, _⟩ => ⟨S3584x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S4096x1536 : Shape := ⟨2, ![4096, 1536]⟩
abbrev S4096x512 : Shape := ⟨2, ![4096, 512]⟩
abbrev S3584x1024 : Shape := ⟨2, ![3584, 1024]⟩
abbrev S4096x1024 : Shape := ⟨2, ![4096, 1024]⟩
abbrev S1x1024 : Shape := ⟨2, ![1, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S512x1536 : Shape := ⟨2, ![512, 1536]⟩
abbrev S512x512 : Shape := ⟨2, ![512, 512]⟩
abbrev S512x1024 : Shape := ⟨2, ![512, 1024]⟩
abbrev S256x1536 : Shape := ⟨2, ![256, 1536]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4096x1536, .bf16⟩
  | .hbm, ⟨1, _⟩ => ⟨S4096x1536, .bf16⟩
  | .hbm, ⟨2, _⟩ => ⟨S4096x512, .bf16⟩
  | .hbm, ⟨3, _⟩ => ⟨S3584x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1536x1024, .bf16⟩
  | .hbm, ⟨8, _⟩ => ⟨S3x4x128x1024, .bf16⟩
  | .hbm, ⟨9, _⟩ => ⟨S4x3x128x1024, .bf16⟩
  | .hbm, ⟨10, _⟩ => ⟨S1536x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S1536x1024, .bf16⟩
  | .local _ .vmem, ⟨7, _⟩ => ⟨S3584x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v89 : BitVec 1 := Scalar.cmpi .eq arg0 c0_i32
  let v90 : BitVec 32 := Scalar.extui v89
  let c0_i32_57 : BitVec 32 := 0#32
  let v91 : BitVec 1 := Scalar.cmpi .ne v90 c0_i32_57
  v91

def k0_cond2 (i : grid0.Coords) : BitVec 1 :=
  let arg0 : BitVec 32 := BitVec.ofNat 32 (i 0).val
  let c0_i32 : BitVec 32 := 0#32
  let v89 : BitVec 1 := Scalar.cmpi .eq arg0 c0_i32
  let v_true : BitVec 1 := 1#1
  let v92 : BitVec 1 := Scalar.xori v89 v_true
  let v93 : BitVec 32 := Scalar.extui v92
  let c0_i32_58 : BitVec 32 := 0#32
  let v94 : BitVec 1 := Scalar.cmpi .ne v93 c0_i32_58
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S4096x1536 : Shape := ⟨2, ![4096, 1536]⟩
abbrev S4096x512 : Shape := ⟨2, ![4096, 512]⟩
abbrev S3584x1024 : Shape := ⟨2, ![3584, 1024]⟩
abbrev S4096x1024 : Shape := ⟨2, ![4096, 1024]⟩
abbrev S1x1024 : Shape := ⟨2, ![1, 1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x3x4x128 : Shape := ⟨4, ![4096, 3, 4, 128]⟩
abbrev S4096x4x3x128 : Shape := ⟨4, ![4096, 4, 3, 128]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1536, .bf16⟩
  | .hbm, ⟨2, _⟩ => ⟨S4096x512, .bf16⟩
  | .hbm, ⟨3, _⟩ => ⟨S3584x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S3584x1024, .f32⟩
  | .hbm, ⟨8, _⟩ => ⟨S1024x3584, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x3584, .f32⟩
  | .hbm, ⟨29, _⟩ => ⟨S4096x1536, .f32⟩
  | .hbm, ⟨30, _⟩ => ⟨S4096x3x4x128, .f32⟩
  | .hbm, ⟨31, _⟩ => ⟨S4096x4x3x128, .f32⟩
  | .hbm, ⟨32, _⟩ => ⟨S4096x1536, .f32⟩
  | .hbm, ⟨33, _⟩ => ⟨S4096x1536, .f32⟩
  | .hbm, ⟨34, _⟩ => ⟨S4096x512, .f32⟩
  | .hbm, ⟨35, _⟩ => ⟨S4096x1536, .f32⟩
  | .hbm, ⟨36, _⟩ => ⟨S4096x1536, .f32⟩
  | .hbm, ⟨37, _⟩ => ⟨S4096x512, .f32⟩
  | .hbm, ⟨38, _⟩ => ⟨S_, .f32⟩
  | .hbm, ⟨39, _⟩ => ⟨S4096x3584, .f32⟩
  | .hbm, ⟨40, _⟩ => ⟨S_, .f32⟩
  | .hbm, ⟨41, _⟩ => ⟨S4096x3584, .f32⟩
  | .hbm, ⟨42, _⟩ => ⟨S4096x3584, .f32⟩
  | .hbm, ⟨43, _⟩ => ⟨S4096x4x3x128, .f32⟩
  | .hbm, ⟨44, _⟩ => ⟨S4096x3x4x128, .f32⟩
  | .hbm, ⟨45, _⟩ => ⟨S4096x1536, .f32⟩
  | .hbm, ⟨46, _⟩ => ⟨S_, .f32⟩
  | .hbm, ⟨47, _⟩ => ⟨S4096x3584, .f32⟩
  | .hbm, ⟨48, _⟩ => ⟨S4096x3584, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S3584x1024 : Shape := ⟨2, ![3584, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S4096x1536 : Shape := ⟨2, ![4096, 1536]⟩
abbrev S4096x2048 : Shape := ⟨2, ![4096, 2048]⟩
abbrev S4096x512 : Shape := ⟨2, ![4096, 512]⟩
abbrev S512x1024 : Shape := ⟨2, ![512, 1024]⟩
abbrev S512x1536 : Shape := ⟨2, ![512, 1536]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S2048x1024 : Shape := ⟨2, ![2048, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3584x1024, .bf16⟩
  | .hbm, ⟨3, _⟩ => ⟨S1536x1024, .bf16⟩
  | .hbm, ⟨4, _⟩ => ⟨S3x4x128x1024, .bf16⟩
  | .hbm, ⟨5, _⟩ => ⟨S4x3x128x1024, .bf16⟩
  | .hbm, ⟨6, _⟩ => ⟨S1536x1024, .bf16⟩
  | .hbm, ⟨7, _⟩ => ⟨S4096x1024, .bf16⟩
  | .hbm, ⟨8, _⟩ => ⟨S4096x1536, .bf16⟩
  | .hbm, ⟨9, _⟩ => ⟨S4096x2048, .bf16⟩
  | .hbm, ⟨10, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S3584x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | .local _ .vmem, ⟨9, _⟩ => ⟨S512x2048, .bf16⟩
  | .local _ .vmem, ⟨10, _⟩ => ⟨S512x2048, .bf16⟩
  | .local _ .vmem, ⟨11, _⟩ => ⟨S512x512, .f32⟩
  | .local _ .vmem, ⟨12, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S1x1024 : Shape := ⟨2, ![1, 1024]⟩
abbrev S3584x1024 : Shape := ⟨2, ![3584, 1024]⟩
abbrev S_ : Shape := ⟨0, ![]⟩
abbrev S4096 : Shape := ⟨1, ![4096]⟩
abbrev S4096x1 : Shape := ⟨2, ![4096, 1]⟩
abbrev S1024x3584 : Shape := ⟨2, ![1024, 3584]⟩
abbrev S4096x3584 : Shape := ⟨2, ![4096, 3584]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩
abbrev S4096x512 : Shape := ⟨2, ![4096, 512]⟩
abbrev S4096x2048 : Shape := ⟨2, ![4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3584x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S3584x1024, .f32⟩
  | .hbm, ⟨19, _⟩ => ⟨S1024x3584, .f32⟩
  | .hbm, ⟨20, _⟩ => ⟨S4096x3584, .f32⟩
  | .hbm, ⟨21, _⟩ => ⟨S4096x1536, .f32⟩
  | .hbm, ⟨22, _⟩ => ⟨S4096x3x4x128, .f32⟩
  | .hbm, ⟨23, _⟩ => ⟨S4096x4x3x128, .f32⟩
  | .hbm, ⟨24, _⟩ => ⟨S4096x1536, .f32⟩
  | .hbm, ⟨25, _⟩ => ⟨S4096x512, .f32⟩
  | .hbm, ⟨26, _⟩ => ⟨S4096x1024, .bf16⟩
  | .hbm, ⟨27, _⟩ => ⟨S4096x1536, .bf16⟩
  | .hbm, ⟨28, _⟩ => ⟨S4096x2048, .f32⟩
  | .hbm, ⟨29, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v50 : BitVec 32 := Scalar.extui v0
  let c0_i32_24 : BitVec 32 := 0#32
  let v51 : BitVec 1 := Scalar.cmpi .ne v50 c0_i32_24
  v51

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v52 : BitVec 1 := Scalar.xori v0 v_true
  let v53 : BitVec 32 := Scalar.extui v52
  let c0_i32_25 : BitVec 32 := 0#32
  let v54 : BitVec 1 := Scalar.cmpi .ne v53 c0_i32_25
  v54

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v57 : BitVec 32 := Scalar.extui v0
  let c0_i32_26 : BitVec 32 := 0#32
  let v58 : BitVec 1 := Scalar.cmpi .ne v57 c0_i32_26
  v58

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v59 : BitVec 1 := Scalar.xori v0 true_27
  let v60 : BitVec 32 := Scalar.extui v59
  let c0_i32_28 : BitVec 32 := 0#32
  let v61 : BitVec 1 := Scalar.cmpi .ne v60 c0_i32_28
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel10.lean ====
abbrev S4096x1536 : Shape := ⟨2, ![4096, 1536]⟩
abbrev S4096x1024 : Shape := ⟨2, ![4096, 1024]⟩
abbrev S3584x1024 : Shape := ⟨2, ![3584, 1024]⟩
abbrev S4096x128 : Shape := ⟨2, ![4096, 128]⟩
abbrev S128x1024 : Shape := ⟨2, ![128, 1024]⟩
abbrev S128x4096 : Shape := ⟨2, ![128, 4096]⟩
abbrev S1536x1024 : Shape := ⟨2, ![1536, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S3584x1024, .bf16⟩
  | .hbm, ⟨3, _⟩ => ⟨S1536x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | .local _ .vmem, ⟨5, _⟩ => ⟨S128x4096, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c11_i32 : BitVec 32 := 11#32
  let v1 : BitVec 32 := Scalar.maxsi c0_i32_0 v0
  let v2 : BitVec 32 := Scalar.minsi c11_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c3_i32_3 : BitVec 32 := 3#32
  let v11 : BitVec 32 := Scalar.divsi arg0 c3_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c3_i32_3 c0_i32_6
  let v18 : BitVec 32 := Scalar.extui v17
  let c0_i32_7 : BitVec 32 := 0#32
  let v19 : BitVec 1 := Scalar.cmpi .slt c3_i32_3 c0_i32_7
  let v20 : BitVec 32 := Scalar.extui v19
  let v21 : BitVec 32 := Scalar.subi v18 v20
  let v22 : BitVec 1 := Scalar.cmpi .ne v16 v21
  let v23 : BitVec 32 := Scalar.remsi arg0 c3_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![v28.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S4096x3x4x128 : Shape := ⟨4, ![4096, 3, 4, 128]⟩
abbrev S4096x4x3x128 : Shape := ⟨4, ![4096, 4, 3, 128]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1536, .f32⟩
  | .hbm, ⟨5, _⟩ => ⟨S4096x1536, .f32⟩
  | .hbm, ⟨6, _⟩ => ⟨S4096x3x4x128, .f32⟩
  | .hbm, ⟨7, _⟩ => ⟨S4096x4x3x128, .f32⟩
  | .hbm, ⟨8, _⟩ => ⟨S4096x1536, .f32⟩
  | .hbm, ⟨9, _⟩ => ⟨S4096x1536, .f32⟩
  | .hbm, ⟨10, _⟩ => ⟨S4096x4x3x128, .f32⟩
  | .hbm, ⟨11, _⟩ => ⟨S4096x3x4x128, .f32⟩
  | .hbm, ⟨12, _⟩ => ⟨S4096x1536, .f32⟩
  | .hbm, ⟨13, _⟩ => ⟨S1536x1024, .f32⟩
  | .hbm, ⟨14, _⟩ => ⟨S1024x1536, .f32⟩
  | .hbm, ⟨15, _⟩ => ⟨S1536x1024, .f32⟩
  | .hbm, ⟨16, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Fix.lean ====
/- A list of operations in which every buffer is written once, after the buffers it is computed from: after the list,
   each written buffer holds its operation's value of the final contents. -/
module

public import Idealize.ShloMosaic.Lib.StableHlo.Run
public import Idealize.ShloMosaic.Lib.Pipeline.Frame

@[expose] public section

noncomputable section

namespace Cert

open Idealize.ShloMosaic Idealize.ShloMosaic.TcCoe Idealize.SL.Sem Idealize.ShloMosaic.StableHlo

variable {τ : Topo} {sig : RefSig} {Val : EltTy → Type}

/-- One operation that writes the buffer numbered `y`, not below `n`, from buffers numbered below it. -/
structure Step (n : ℕ) (op : HloOp τ sig Val) (k : ℕ) : Prop where
  ex : ∃ (y : Ref sig .tc) (R : List (Ref sig .tc)), op.writes = {Proc.devRef .tc y} ∧ n ≤ y.idx.val ∧ k = y.idx.val + 1
    ∧ (∀ r ∈ R, r.idx.val < y.idx.val)
    ∧ ∀ V W : Valuation τ sig Val, (∀ r ∈ R, V (Proc.devRef .tc r) = W (Proc.devRef .tc r)) →
        op.result V (Proc.devRef .tc y) = op.result W (Proc.devRef .tc y)
  sub : op.bufs ⊆ tcRefs τ sig
  fresh : op.fresh = ∅

/-- A list of such operations, with rising numbers from `n` on, below `k`. -/
inductive Line : ℕ → List (HloOp τ sig Val) → ℕ → Prop
  | nil (n : ℕ) : Line n [] n
  | cons {n k l : ℕ} {op : HloOp τ sig Val} {ops : List (HloOp τ sig Val)} : Step n op k → Line k ops l → Line n (op :: ops) l

theorem Line.stop {n k : ℕ} (h : n = k) : Line (τ := τ) (sig := sig) (Val := Val) n [] k := h ▸ .nil n

theorem Line.append {n k l : ℕ} {a b : List (HloOp τ sig Val)} (ha : Line n a k) (hb : Line k b l) : Line n (a ++ b) l := by
  induction ha with
  | nil => exact hb
  | cons s _ ih => exact .cons s (ih hb)

theorem Line.sub {n k : ℕ} {a : List (HloOp τ sig Val)} (h : Line n a k) : a.Forall fun op => op.bufs ⊆ tcRefs τ sig := by
  refine List.forall_iff_forall_mem.mpr ?_
  induction h with
  | nil => intro op h; cases h
  | cons s _ ih =>
    intro op h
    rcases List.mem_cons.mp h with rfl | h
    · exact s.sub
    · exact ih op h

theorem Line.fresh {n k : ℕ} {a : List (HloOp τ sig Val)} (h : Line n a k) : ∀ op ∈ a, op.fresh = ∅ := by
  induction h with
  | nil => intro op h; cases h
  | cons s _ ih =>
    intro op h
    rcases List.mem_cons.mp h with rfl | h
    · exact s.fresh
    · exact ih op h

theorem idx_ne {r y : Ref sig .tc} (h : r.idx.val < y.idx.val) : (Proc.devRef .tc r : DevRef τ sig) ≠ Proc.devRef .tc y := by
  apply devRef_ne_of_ne
  rintro rfl
  exact lt_irrefl _ h

/-- A buffer numbered below the list's start keeps its contents. -/
theorem Line.keep {n k : ℕ} {a : List (HloOp τ sig Val)} (h : Line n a k) :
    ∀ (V : Valuation τ sig Val) (r : Ref sig .tc), r.idx.val < n → after a V (Proc.devRef .tc r) = V (Proc.devRef .tc r) := by
  induction h with
  | nil => intro V r _; rfl
  | cons s _ ih =>
    intro V r hr
    obtain ⟨y, R, hw, hn, hk, -, -⟩ := s.ex
    rw [after_cons, ih _ r (by omega)]
    refine HloOp.result_of_not_mem _ _ ?_
    rw [hw, Finset.mem_singleton]
    exact idx_ne (lt_of_lt_of_le hr hn)

/-- The contents `g` satisfy every operation of the list. -/
def Solved (g : Valuation τ sig Val) (a : List (HloOp τ sig Val)) : Prop :=
  ∀ op ∈ a, ∀ y : Ref sig .tc, Proc.devRef .tc y ∈ op.writes → g (Proc.devRef .tc y) = op.result g (Proc.devRef .tc y)

/-- After the list, its operations are satisfied. -/
theorem Line.solved {n k : ℕ} {a : List (HloOp τ sig Val)} (h : Line n a k) (V : Valuation τ sig Val) : Solved (after a V) a := by
  induction h generalizing V with
  | nil => intro op h; cases h
  | @cons n k l op ops s t ih =>
    intro op' h x hx
    rcases List.mem_cons.mp h with rfl | h
    · obtain ⟨y, R, hw, hn, hk, hR, hf⟩ := s.ex
      rw [hw, Finset.mem_singleton] at hx
      rw [hx, after_cons, t.keep _ y (by omega)]
      refine hf _ _ fun r hr => ?_
      have hlt := hR r hr
      rw [t.keep _ r (by omega)]
      refine (HloOp.result_of_not_mem _ _ ?_).symm
      rw [hw, Finset.mem_singleton]
      exact idx_ne hlt
    · exact ih _ op' h x hx

theorem Solved.of_append {g : Valuation τ sig Val} {a b : List (HloOp τ sig Val)} (h : Solved g (a ++ b)) : Solved g a ∧ Solved g b :=
  ⟨fun op m => h op (List.mem_append_left _ m), fun op m => h op (List.mem_append_right _ m)⟩

section Builders

variable {x a b c y : Ref sig .tc} {n : ℕ}

theorem step0 (v : y.ty.Contents Val) (hy) (h : n ≤ y.idx.val) : Step n (nullary (τ := τ) y v hy) (y.idx.val + 1) :=
  ⟨⟨y, [], rfl, h, rfl, (by intro r hr; cases hr), by intro V W _; rw [nullary_result, nullary_result]⟩, nullary_bufs_sub .., rfl⟩

theorem step1 (f : x.ty.Contents Val → y.ty.Contents Val) (hx hy) (h : n ≤ y.idx.val) (h1 : x.idx.val < y.idx.val) :
    Step n (unary (τ := τ) x y f hx hy) (y.idx.val + 1) :=
  ⟨⟨y, [x], rfl, h, rfl, fun r hr => by rw [List.mem_singleton.mp hr]; exact h1,
    fun V W e => by rw [unary_result, unary_result, e x (List.mem_singleton_self x)]⟩, unary_bufs_sub .., rfl⟩

theorem stepR (he hn hx hy) (h : n ≤ y.idx.val) (h1 : x.idx.val < y.idx.val) :
    Step n (reshape (τ := τ) (Val := Val) x y he hn hx hy) (y.idx.val + 1) :=
  ⟨⟨y, [x], rfl, h, rfl, fun r hr => by rw [List.mem_singleton.mp hr]; exact h1,
    fun V W e => by rw [reshape_result, reshape_result, e x (List.mem_singleton_self x)]⟩, reshape_bufs_sub .., rfl⟩

theorem step2 (f : a.ty.Contents Val → b.ty.Contents Val → y.ty.Contents Val) (ha hb hy) (h : n ≤ y.idx.val)
    (h1 : a.idx.val < y.idx.val) (h2 : b.idx.val < y.idx.val) : Step n (binary (τ := τ) a b y f ha hb hy) (y.idx.val + 1) :=
  ⟨⟨y, [a, b], rfl, h, rfl, by
      intro r hr
      rcases List.mem_cons.mp hr with rfl | hr
      · exact h1
      · rw [List.mem_singleton.mp hr]; exact h2,
    fun V W e => by
      rw [binary_result, binary_result, e a (by simp), e b (by simp)]⟩, binary_bufs_sub .., rfl⟩

theorem step3 (f : c.ty.Contents Val → a.ty.Contents Val → b.ty.Contents Val → y.ty.Contents Val) (hc ha hb hy) (h : n ≤ y.idx.val)
    (h0 : c.idx.val < y.idx.val) (h1 : a.idx.val < y.idx.val) (h2 : b.idx.val < y.idx.val) :
    Step n (ternary (τ := τ) c a b y f hc ha hb hy) (y.idx.val + 1) :=
  ⟨⟨y, [c, a, b], rfl, h, rfl, by
      intro r hr
      simp only [List.mem_cons, List.not_mem_nil, or_false] at hr
      rcases hr with rfl | rfl | rfl
      · exact h0
      · exact h1
      · exact h2,
    fun V W e => by
      rw [ternary_result, ternary_result, e c (by simp), e a (by simp), e b (by simp)]⟩, ternary_bufs_sub .., rfl⟩

theorem stepN {k : ℕ} (xs : Fin k → Ref sig .tc) (f : ((k : Fin k) → (xs k).ty.Contents Val) → y.ty.Contents Val) (hxs hy)
    (h : n ≤ y.idx.val) (h1 : ∀ i, (xs i).idx.val < y.idx.val) : Step n (nary (τ := τ) xs y f hxs hy) (y.idx.val + 1) :=
  ⟨⟨y, List.ofFn xs, rfl, h, rfl, by
      intro r hr
      obtain ⟨i, rfl⟩ := List.mem_ofFn.mp hr
      exact h1 i,
    fun V W e => by
      rw [nary_result, nary_result]
      exact congrArg f (funext fun i => e (xs i) (List.mem_ofFn.mpr ⟨i, rfl⟩))⟩, nary_bufs_sub .., rfl⟩

variable {g : Valuation τ sig Val} {l : List (HloOp τ sig Val)} (H : Solved g l) (i : ℕ)
include H

theorem Solved.get0 {v : y.ty.Contents Val} {hy} (e : l[i]? = some (nullary (τ := τ) y v hy)) : g (Proc.devRef .tc y) = v := by
  rw [H _ (List.mem_of_getElem? e) y (by rw [nullary_writes]; exact Finset.mem_singleton_self _), nullary_result]

theorem Solved.get1 {f : x.ty.Contents Val → y.ty.Contents Val} {hx hy} (e : l[i]? = some (unary (τ := τ) x y f hx hy)) :
    g (Proc.devRef .tc y) = f (g (Proc.devRef .tc x)) := by
  rw [H _ (List.mem_of_getElem? e) y (by rw [unary_writes]; exact Finset.mem_singleton_self _), unary_result]

theorem Solved.getR {he hn hx hy} (e : l[i]? = some (reshape (τ := τ) (Val := Val) x y he hn hx hy)) :
    g (Proc.devRef .tc y) = fun j => he ▸ shapeCast y.ty.shape (g (Proc.devRef .tc x)) hn j := by
  rw [H _ (List.mem_of_getElem? e) y (by rw [reshape_writes]; exact Finset.mem_singleton_self _), reshape_result]

theorem Solved.get2 {f : a.ty.Contents Val → b.ty.Contents Val → y.ty.Contents Val} {ha hb hy}
    (e : l[i]? = some (binary (τ := τ) a b y f ha hb hy)) :
    g (Proc.devRef .tc y) = f (g (Proc.devRef .tc a)) (g (Proc.devRef .tc b)) := by
  rw [H _ (List.mem_of_getElem? e) y (by rw [binary_writes]; exact Finset.mem_singleton_self _), binary_result]

theorem Solved.get3 {f : c.ty.Contents Val → a.ty.Contents Val → b.ty.Contents Val → y.ty.Contents Val} {hc ha hb hy}
    (e : l[i]? = some (ternary (τ := τ) c a b y f hc ha hb hy)) :
    g (Proc.devRef .tc y) = f (g (Proc.devRef .tc c)) (g (Proc.devRef .tc a)) (g (Proc.devRef .tc b)) := by
  rw [H _ (List.mem_of_getElem? e) y (by rw [ternary_writes]; exact Finset.mem_singleton_self _), ternary_result]

theorem Solved.getN {k : ℕ} {xs : Fin k → Ref sig .tc} {f : ((k : Fin k) → (xs k).ty.Contents Val) → y.ty.Contents Val} {hxs hy}
    (e : l[i]? = some (nary (τ := τ) xs y f hxs hy)) : g (Proc.devRef .tc y) = f (fun j => g (Proc.devRef .tc (xs j))) := by
  rw [H _ (List.mem_of_getElem? e) y (by rw [nary_writes]; exact Finset.mem_singleton_self _), nary_result]

end Builders

end Cert
-- ==== Proof.Prefix.lean ====
/- The host operations before the call, as one list of single assignments. -/
module

public import proofs.«01_k».proof.Proof.Fix
public import proofs.«01_k».proof.Proof.Gen.KernelIdeal.Launch

@[expose] public section

noncomputable section

namespace Cert.KernelIdeal.Chain

open Cert.KernelIdeal Cert.KernelIdeal.Gen Idealize.ShloMosaic Idealize.ShloMosaic.TcCoe Idealize.SL.Sem

variable {F : FTy → Type} [FloatOps F]

set_option maxRecDepth 8192 in
theorem line0 : Line 3 (hostOps0 (F := F)) 17 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (stepN _ _ _ _ ?_ ?_) ?_
    | decide

set_option maxRecDepth 8192 in
theorem line1 : Line 17 (hostOps0_1 (F := F)) 20 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (stepN _ _ _ _ ?_ ?_) ?_
    | decide

set_option maxRecDepth 8192 in
theorem line2 : Line 20 (hostOps0_2 (F := F)) 51 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (stepN _ _ _ _ ?_ ?_) ?_
    | decide

set_option maxRecDepth 8192 in
theorem line3 : Line 51 (hostOps0_3 (F := F)) 54 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (stepN _ _ _ _ ?_ ?_) ?_
    | decide

set_option maxRecDepth 8192 in
set_option maxHeartbeats 4000000 in
theorem line4 : Line 54 (hostOps0_4 (F := F)) 394 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (stepN _ _ _ _ ?_ ?_) ?_
    | decide

theorem line : Line 3 (List.flatten [hostOps0 (F := F), hostOps0_1, hostOps0_2, hostOps0_3, hostOps0_4]) 394 := by
  simp only [List.flatten_cons, List.flatten_nil, List.append_nil]
  exact line0.append (line1.append (line2.append (line3.append line4)))

end Cert.KernelIdeal.Chain
-- ==== Proof.Chain.lean ====
/- One chain of the gradient kernel, as the kernel computes it: what it makes of one 128-row tile of one head.
   The kernel treats a block of 256 rows and four heads as eight chains, two row tiles by four heads, which differ
   only in where they load and store. Each quantity is named here once, over any float values, as a function of what
   a chain loads. A row tile holds two chunks of 64 positions: rows 0 to 63 and rows 64 to 127. -/
module

public import proofs.«01_k».proof.Proof.Gen.KernelIdeal

@[expose] public section

noncomputable section

namespace Cert.KernelIdeal.Chain

open Idealize.ShloMosaic Cert.KernelIdeal.Gen

variable {F : FTy → Type} [FloatOps F]

/-- What a chain loads: the tiles of the gate input `q`, the decay input `f`, the value input `i` and the cotangent
    `o`, the head's lower bounds `lb`, the states `s0` and `s1` that enter the tile's two chunks, and the cotangent `c`
    of the state that leaves the tile. -/
structure Tile (F : FTy → Type) where
  q : Vec F S128x128 .bf16
  f : Vec F S128x128 .f32
  i : Vec F S128x128 .bf16
  o : Vec F S128x128 .f32
  lb : FVec F S1x128 .f32
  s0 : Vec F S1x1x128x128 .f32
  s1 : Vec F S1x1x128x128 .f32
  c : FVec F S128x128 .f32

/-- The tile of one number. -/
def all (r : BitVec 32) : FVec F S128x128 .f32 := broadcast S128x128 (Scalar.ofBits .f32 r)
def one : FVec F S128x128 .f32 := broadcast S128x128 (Scalar.ofBits .f32 0x3F800000#32)
def zero : FVec F S128x128 .f32 := broadcast S128x128 (Scalar.ofBits .f32 0x00000000#32)
def nul : FVec F S128x128 .f32 := constant S128x128 .f32 0x00000000#32
def nul64 : FVec F S64x128 .f32 := constant S64x128 .f32 0x00000000#32

/-- Row and column numbers, and the two masks: the column not after the row, or not before it, in the same chunk. -/
def rowNo : IVec S128x128 32 := iota .tc S128x128 32 [0] iota_S128x128_d0_w32
def colNo : IVec S128x128 32 := iota .tc S128x128 32 [1] iota_S128x128_d1_w32
def sameChunk : IVec S128x128 1 :=
  xori (xori (cmpi .sge rowNo (broadcast S128x128 64#32)) (cmpi .sge colNo (broadcast S128x128 64#32)))
    (constantI S128x128 1 1#1)
def causal : IVec S128x128 1 := andi sameChunk (cmpi .sle colNo rowNo)
def anti : IVec S128x128 1 := andi sameChunk (cmpi .sge colNo rowNo)

def sigmoid (x : FVec F S128x128 .f32) : FVec F S128x128 .f32 := divf one (addf one (exp (subf zero x)))

/-- Products of two tiles: plain, with the second transposed, with the first transposed. -/
def mm (p : Option ContractPrecision) (ty : FTy) (x y : FVec F S128x128 ty) : FVec F S128x128 .f32 :=
  matmul dot_S128x128_S128x128_S128x128_1_0_0_1_n_n p x y nul
def mmNT (x y : FVec F S128x128 .bf16) : FVec F S128x128 .f32 :=
  matmul dot_S128x128_S128x128_S128x128_1_1_0_0_n_n none x y nul
def mmTN (x y : FVec F S128x128 .bf16) : FVec F S128x128 .f32 :=
  matmul dot_S128x128_S128x128_S128x128_0_0_1_1_n_n none x y nul

def spread (x : FVec F S1x128 .f32) : FVec F S128x128 .f32 := broadcastTo S128x128 x broadcasts_S1x128_S128x128
def again (x : FVec F S1x128 .f32) : FVec F S1x128 .f32 := shapeCast S1x128 x shapeCasts_S1x128_S1x128
def colSum (x : FVec F S128x128 .f32) : FVec F S1x128 .f32 :=
  shapeCast S1x128 (multiReduction .add [0] S128 x 0x00000000#32 reduces_S128x128_S128 (.inl rfl) rfl) shapeCasts_S128_S1x128
def top {ty : FTy} (x : FVec F S128x128 ty) : FVec F S64x128 ty :=
  extractStridedSlice S64x128 ![0, 0] x slices_S128x128_o0_0_S64x128
def bot {ty : FTy} (x : FVec F S128x128 ty) : FVec F S64x128 ty :=
  extractStridedSlice S64x128 ![64, 0] x slices_S128x128_o64_0_S64x128
def halfSum (x : FVec F S64x128 .f32) : FVec F S1x128 .f32 :=
  shapeCast S1x128 (multiReduction .add [0] S128 x 0x00000000#32 reduces_S64x128_S128 (.inl rfl) rfl) shapeCasts_S128_S1x128
def cat (x y : FVec F S64x128 .f32) : FVec F S128x128 .f32 :=
  concatenate S128x128 0 [⟨S64x128, x⟩, ⟨S64x128, y⟩] concatenates_S64x128_S64x128_S128x128_d0
/-- A half tile times a matrix: plain, with the matrix transposed; and two half tiles, the first transposed. -/
def hm (x : FVec F S64x128 .bf16) (y : FVec F S128x128 .bf16) : FVec F S64x128 .f32 :=
  matmul dot_S64x128_S128x128_S64x128_1_0_0_1_n_n none x y nul64
def hmNT (x : FVec F S64x128 .bf16) (y : FVec F S128x128 .bf16) : FVec F S64x128 .f32 :=
  matmul dot_S64x128_S128x128_S64x128_1_1_0_0_n_n none x y nul64
def hhTN (x y : FVec F S64x128 .bf16) : FVec F S128x128 .f32 :=
  matmul dot_S64x128_S64x128_S128x128_0_0_1_1_n_n none x y nul
def rnd {s : Shape} (x : FVec F s .f32) : FVec F s .bf16 := truncf .bf16 x bitsLt_bf16_f32
def keep (m : IVec S128x128 1) (x : FVec F S128x128 .f32) : FVec F S128x128 .bf16 := rnd (select m x zero)

namespace Tile
variable (T : Tile F)

def qx : FVec F S128x128 .f32 := extf .f32 (shapeCast S128x128 T.q shapeCasts_S128x128_S128x128) bitsLt_bf16_f32
def fx : FVec F S128x128 .f32 := shapeCast S128x128 T.f shapeCasts_S128x128_S128x128
def ix : FVec F S128x128 .bf16 := shapeCast S128x128 T.i shapeCasts_S128x128_S128x128
def ob : FVec F S128x128 .bf16 := truncf .bf16 T.o bitsLt_bf16_f32
def st0 : FVec F S128x128 .f32 := shapeCast S128x128 T.s0 shapeCasts_S1x1x128x128_S128x128
def st1 : FVec F S128x128 .f32 := shapeCast S128x128 T.s1 shapeCasts_S1x1x128x128_S128x128
def sg : FVec F S128x128 .f32 := sigmoid T.fx
def rest : FVec F S128x128 .f32 := spread (subf (broadcast S1x128 (Scalar.ofBits .f32 0x3F800000#32)) T.lb)
def forget : FVec F S128x128 .f32 := addf (spread T.lb) (mulf T.rest T.sg)
def lf : FVec F S128x128 .f32 := log T.forget
def b : FVec F S128x128 .f32 := mm (some .fp32) .f32 (select causal one zero) T.lf
def key : FVec F S128x128 .f32 := subf one T.forget
def bend0 : FVec F S1x128 .f32 := halfSum (top T.lf)
def bend1 : FVec F S1x128 .f32 := halfSum (bot T.lf)
def bend : FVec F S128x128 .f32 :=
  select (cmpi .slt rowNo (broadcast S128x128 64#32)) (spread (again T.bend0)) (spread (again T.bend1))
def eb : FVec F S128x128 .f32 := exp T.b
def emb : FVec F S128x128 .f32 := exp (subf zero T.b)
def eend : FVec F S128x128 .f32 := exp (subf T.bend T.b)
def sq : FVec F S128x128 .f32 := sigmoid T.qx
def qd : FVec F S128x128 .f32 := mulf (mulf T.qx T.sq) T.eb
def ki : FVec F S128x128 .f32 := mulf T.key T.emb
def ke : FVec F S128x128 .f32 := mulf T.key T.eend
def dec0 : FVec F S1x128 .f32 := exp T.bend0
def dec1 : FVec F S1x128 .f32 := exp T.bend1
def a : FVec F S128x128 .bf16 := keep causal (mmNT (rnd T.qd) (rnd T.ki))
def da : FVec F S128x128 .bf16 := keep causal (mmNT T.ob T.ix)
/-- The cotangent of the state between the tile's chunks, and of the state that enters the tile. -/
def mid : FVec F S128x128 .f32 := addf (mulf (spread T.dec1) T.c) (hhTN (bot T.ob) (bot (rnd T.qd)))
def next : FVec F S128x128 .f32 := addf (mulf (spread T.dec0) T.mid) (hhTN (top T.ob) (top (rnd T.qd)))
def dqd : FVec F S128x128 .f32 :=
  addf (mm none .bf16 T.da (rnd T.ki)) (cat (hm (top T.ob) (rnd T.st0)) (hm (bot T.ob) (rnd T.st1)))
def dki : FVec F S128x128 .f32 := mmTN T.da (rnd T.qd)
def di : FVec F S128x128 .f32 :=
  addf (mmTN T.a T.ob) (cat (hmNT (top (rnd T.ke)) (rnd T.mid)) (hmNT (bot (rnd T.ke)) (rnd T.c)))
def dke : FVec F S128x128 .f32 := cat (hm (top T.ix) (rnd T.mid)) (hm (bot T.ix) (rnd T.c))
def gke : FVec F S128x128 .f32 := mulf T.dke T.ke
def dbend0 : FVec F S1x128 .f32 := addf (halfSum (top T.gke)) (mulf (colSum (mulf T.mid T.st0)) T.dec0)
def dbend1 : FVec F S1x128 .f32 := addf (halfSum (bot T.gke)) (mulf (colSum (mulf T.c T.st1)) T.dec1)
def db : FVec F S128x128 .f32 :=
  addf (addf (subf (subf (mulf T.dqd T.qd) (mulf T.dki T.ki)) T.gke)
      (select (cmpi .eq rowNo (broadcast S128x128 63#32)) (spread (again T.dbend0)) zero))
    (select (cmpi .eq rowNo (broadcast S128x128 127#32)) (spread (again T.dbend1)) zero)
def dlogf : FVec F S128x128 .f32 := mm (some .fp32) .f32 (select anti one zero) T.db
def dforget : FVec F S128x128 .f32 :=
  subf (divf T.dlogf T.forget) (addf (mulf T.dki T.emb) (mulf T.dke T.eend))
/-- What the chain stores: the gradients of `q`, `f` and `i`, and what it adds to the gradient of the lower bounds. -/
def outQ : FVec F S128x128 .bf16 :=
  rnd (mulf (mulf (mulf T.dqd T.eb) T.sq) (addf one (mulf T.qx (subf one T.sq))))
def outF : FVec F S128x128 .bf16 := rnd (mulf (mulf (mulf T.dforget T.rest) T.sg) (subf one T.sg))
def outI : FVec F S128x128 .bf16 := rnd T.di
def outLb (old : FVec F S1x128 .f32) : FVec F S1x128 .f32 :=
  again (addf old (colSum (mulf T.dforget (subf one T.sg))))
def outC : FVec F S1x128x128 .f32 := shapeCast S1x128x128 T.next shapeCasts_S128x128_S1x128x128
end Tile

/-- A carried cotangent as the tile that a chain loads. -/
def carry (x : Vec F S1x128x128 .f32) : FVec F S128x128 .f32 := shapeCast S128x128 x shapeCasts_S1x128x128_S128x128

/-- The first row's softmax of two rows of logits, and the gradients of the two rows of logits. -/
def soft (x y : Vec F S1x512 .f32) : FVec F S1x512 .f32 :=
  divf (exp (subf x (maximumf x y))) (addf (exp (subf x (maximumf x y))) (exp (subf y (maximumf x y))))
def logit0 (lb dlb : FVec F S1x512 .f32) : FVec F S1x512 .f32 :=
  mulf (mulf dlb lb) (subf (broadcast S1x512 (Scalar.ofBits .f32 0x3F800000#32)) lb)
def logit1 (lb dlb : FVec F S1x512 .f32) : FVec F S1x512 .f32 :=
  subf (broadcast S1x512 (Scalar.ofBits .f32 0x00000000#32)) (logit0 lb dlb)

end Cert.KernelIdeal.Chain
-- ==== Proof.Pieces.lean ====
/- What one grid point of the gradient kernel stores, as lists of pieces over the chains of `Chain`. A block of 256
   rows and 512 lanes is eight chains `(g, h)`: row tile `g` and head `h`. The chain `(1, h)` takes the cotangent that
   the point before left for the head, the chain `(0, h)` takes what the chain `(1, h)` leaves. -/
module

public import proofs.«01_k».proof.Proof.Chain
public import proofs.«01_k».proof.Proof.Gen.KernelIdeal.Value

@[expose] public section

set_option maxRecDepth 16384

noncomputable section

namespace Cert.KernelIdeal.Chain

open Idealize.ShloMosaic Idealize.ShloMosaic.TcCoe Idealize.ShloMosaic.Tactic Idealize.SL.Sem Cert.KernelIdeal.Gen

variable {F : FTy → Type} [FloatOps F]

/-- The input buffers of a grid point and what they hold. -/
structure Args (F : FTy → Type) where
  arg1 : Memref sig .tc .vmem S256x512 .bf16
  harg1 : arg1.IsWhole
  arg2 : Memref sig .tc .vmem S256x512 .f32
  harg2 : arg2.IsWhole
  arg3 : Memref sig .tc .vmem S256x512 .bf16
  harg3 : arg3.IsWhole
  arg4 : Memref sig .tc .vmem S2x512 .f32
  harg4 : arg4.IsWhole
  arg5 : Memref sig .tc .vmem S4x4x128x128 .f32
  harg5 : arg5.IsWhole
  arg6 : Memref sig .tc .vmem S256x512 .f32
  harg6 : arg6.IsWhole
  x0 : Vec F S256x512 .bf16
  x1 : Vec F S256x512 .f32
  x2 : Vec F S256x512 .bf16
  x3 : Vec F S2x512 .f32
  x4 : Vec F S4x4x128x128 .f32
  x5 : Vec F S256x512 .f32

theorem fit (g : Fin 2) (h : Fin 4) : ∀ a, (![128 * g.val, 128 * h.val] : Fin 2 → ℕ) a + S128x128.size a ≤ S256x512.size a := by
  revert g h; decide
theorem fitS (n : Fin 4) (h : Fin 4) : ∀ a, (![n.val, h.val, 0, 0] : Fin 4 → ℕ) a + S1x1x128x128.size a ≤ S4x4x128x128.size a := by
  revert n h; decide
theorem fitL (n : Fin 2) : ∀ a, (![n.val, 0] : Fin 2 → ℕ) a + S1x512.size a ≤ S2x512.size a := by
  revert n; decide
theorem fitLb (h : Fin 4) : S1x512.Slices ![0, 128 * h.val] S1x128 := by
  revert h; decide
theorem fitB (h : Fin 4) : ∀ a, (![0, 128 * h.val] : Fin 2 → ℕ) a + S1x128.size a ≤ S1x512.size a := by
  revert h; decide
theorem fitC (h : Fin 4) : ∀ a, (![h.val, 0, 0] : Fin 3 → ℕ) a + S1x128x128.size a ≤ S4x128x128.size a := by
  revert h; decide
theorem fitO (p : Fin 3) (g : Fin 2) (h : Fin 4) :
    ∀ a, (![128 * g.val, 512 * p.val + 128 * h.val] : Fin 2 → ℕ) a + S128x128.size a ≤ S256x1536.size a := by
  revert p g h; decide

abbrev rIn (g : Fin 2) (h : Fin 4) : Rect S256x512 := Rect.unit ![128 * g.val, 128 * h.val] S128x128.size (fit g h)
abbrev rSt (n : Fin 4) (h : Fin 4) : Rect S4x4x128x128 := Rect.unit ![n.val, h.val, 0, 0] S1x1x128x128.size (fitS n h)
abbrev rLog (n : Fin 2) : Rect S2x512 := Rect.unit ![n.val, 0] S1x512.size (fitL n)
abbrev rLb (h : Fin 4) : Rect S1x512 := Rect.unit ![0, 128 * h.val] S1x128.size (fitB h)
abbrev rC (h : Fin 4) : Rect S4x128x128 := Rect.unit ![h.val, 0, 0] S1x128x128.size (fitC h)
abbrev rOut (p : Fin 3) (g : Fin 2) (h : Fin 4) : Rect S256x1536 :=
  Rect.unit ![128 * g.val, 512 * p.val + 128 * h.val] S128x128.size (fitO p g h)
/-- The state that enters a row tile's first chunk is the block's state `2g`, that of its second chunk `2g + 1`. -/
abbrev n0 (g : Fin 2) : Fin 4 := ⟨2 * g.val, by omega⟩
abbrev n1 (g : Fin 2) : Fin 4 := ⟨2 * g.val + 1, by omega⟩

namespace Args
variable (A : Args F) (cs : Fin 4 → FVec F S128x128 .f32)

/-- The lower bounds of all lanes. -/
def lbs : FVec F S1x512 .f32 :=
  soft (View.readAt (Elt F) A.arg4.view (rLog 0).toLoadRect (A.harg4.unread A.x3))
    (View.readAt (Elt F) A.arg4.view (rLog 1).toLoadRect (A.harg4.unread A.x3))
/-- What chain `(g, h)` loads, with the cotangent that it is given. -/
def tile (g : Fin 2) (h : Fin 4) (c : FVec F S128x128 .f32) : Tile F where
  q := View.readAt (Elt F) A.arg1.view (rIn g h).toLoadRect (A.harg1.unread A.x0)
  f := View.readAt (Elt F) A.arg2.view (rIn g h).toLoadRect (A.harg2.unread A.x1)
  i := View.readAt (Elt F) A.arg3.view (rIn g h).toLoadRect (A.harg3.unread A.x2)
  o := View.readAt (Elt F) A.arg6.view (rIn g h).toLoadRect (A.harg6.unread A.x5)
  lb := extractStridedSlice S1x128 ![0, 128 * h.val] A.lbs (fitLb h)
  s0 := View.readAt (Elt F) A.arg5.view (rSt (n0 g) h).toLoadRect (A.harg5.unread A.x4)
  s1 := View.readAt (Elt F) A.arg5.view (rSt (n1 g) h).toLoadRect (A.harg5.unread A.x4)
  c := c
/-- Chain `(g, h)`, the cotangents that enter the block being `cs`. -/
def chain (g : Fin 2) (h : Fin 4) : Tile F :=
  match g with
  | 1 => A.tile 1 h (cs h)
  | 0 => A.tile 0 h (A.tile 1 h (cs h)).next
end Args

/-- The three stores of a chain into the block of gradients. -/
def Tile.out (T : Tile F) (p : Fin 3) : FVec F S128x128 .bf16 :=
  match p with
  | 0 => T.outQ
  | 1 => T.outF
  | 2 => T.outI

namespace Args
variable (A : Args F) (cs : Fin 4 → FVec F S128x128 .f32)

abbrev piece (p : Fin 3) (g : Fin 2) (h : Fin 4) : View.Piece (Elt F) S256x1536 .bf16 :=
  ⟨rOut p g h, (A.chain cs g h).out p⟩
/-- All stores of a point into the block of gradients, the last first. -/
def pieces : List (View.Piece (Elt F) S256x1536 .bf16) :=
  [A.piece cs 0 1 3, A.piece cs 1 1 3, A.piece cs 0 1 2, A.piece cs 1 1 2,
   A.piece cs 0 1 1, A.piece cs 1 1 1, A.piece cs 0 1 0, A.piece cs 1 1 0,
   A.piece cs 0 0 3, A.piece cs 1 0 3, A.piece cs 0 0 2, A.piece cs 1 0 2,
   A.piece cs 0 0 1, A.piece cs 1 0 1, A.piece cs 0 0 0, A.piece cs 1 0 0,
   A.piece cs 2 1 3, A.piece cs 2 1 2, A.piece cs 2 1 1, A.piece cs 2 1 0,
   A.piece cs 2 0 3, A.piece cs 2 0 2, A.piece cs 2 0 1, A.piece cs 2 0 0]
abbrev pieceC (h : Fin 4) : View.Piece (Elt F) S4x128x128 .f32 := ⟨rC h, (A.chain cs 0 h).outC⟩
/-- The stores of the carried cotangents, the last first. -/
def piecesC : List (View.Piece (Elt F) S4x128x128 .f32) :=
  [A.pieceC cs 3, A.pieceC cs 2, A.pieceC cs 1, A.pieceC cs 0]
abbrev pieceLb (old : FVec F S1x128 .f32) (g : Fin 2) (h : Fin 4) : View.Piece (Elt F) S1x512 .f32 :=
  ⟨rLb h, (A.chain cs g h).outLb old⟩
end Args

section Loads
variable (arg9 : Memref sig .tc .vmem S4x128x128 .f32) (harg9 : arg9.IsWhole) (xs0 : Vec F S4x128x128 .f32)
  (arg10 : Memref sig .tc .vmem S1x512 .f32) (harg10 : arg10.IsWhole) (xs1 : Vec F S1x512 .f32)
def csB (h : Fin 4) : FVec F S128x128 .f32 :=
  carry (View.readAt (Elt F) arg9.view (rC h).toLoadRect (harg9.unread xs0))
def zeroC : List (View.Piece (Elt F) S4x128x128 .f32) := [⟨Rect.unit ![0, 0, 0] S4x128x128.size inb_S4x128x128_S4x128x128_0_0_0, k0_pay4⟩]
def zeroLb : List (View.Piece (Elt F) S1x512 .f32) := [⟨Rect.unit ![0, 0] S1x512.size inb_S1x512_S1x512_0_0, k0_pay5⟩]
def csA (h : Fin 4) : FVec F S128x128 .f32 := carry (arg9.view.readCov zeroC (rC h).toLoadRect)
variable (A : Args F) (cs : Fin 4 → FVec F S128x128 .f32)
/-- One more store of a sum, over what the stores before it left. -/
def addLb (L : List (View.Piece (Elt F) S1x512 .f32)) (g : Fin 2) (h : Fin 4) : List (View.Piece (Elt F) S1x512 .f32) :=
  A.pieceLb cs (arg10.view.readCov L (rLb h).toLoadRect) g h :: L
def oldB (h : Fin 4) : FVec F S1x128 .f32 := View.readAt (Elt F) arg10.view (rLb h).toLoadRect (harg10.unread xs1)
/-- The first row tile's sums, over the old contents. -/
def lbB : List (View.Piece (Elt F) S1x512 .f32) :=
  [A.pieceLb cs (oldB arg10 harg10 xs1 3) 0 3, A.pieceLb cs (oldB arg10 harg10 xs1 2) 0 2,
   A.pieceLb cs (oldB arg10 harg10 xs1 1) 0 1, A.pieceLb cs (oldB arg10 harg10 xs1 0) 0 0]
def lbA : List (View.Piece (Elt F) S1x512 .f32) :=
  addLb arg10 A cs (addLb arg10 A cs (addLb arg10 A cs (addLb arg10 A cs zeroLb 0 0) 0 1) 0 2) 0 3
def lbNext (L : List (View.Piece (Elt F) S1x512 .f32)) : List (View.Piece (Elt F) S1x512 .f32) :=
  addLb arg10 A cs (addLb arg10 A cs (addLb arg10 A cs (addLb arg10 A cs L 1 0) 1 1) 1 2) 1 3
end Loads

/-- The stores of a point of case A. -/
theorem runA (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : cond0_0 i) (hc1 : ¬cond0_1 i)
    (x0 : Vec F S256x512 .bf16) (x1 : Vec F S256x512 .f32) (x2 : Vec F S256x512 .bf16) (x3 : Vec F S2x512 .f32) (x4 : Vec F S4x4x128x128 .f32) (x5 : Vec F S256x512 .f32) :
    (kernelRun0_A c i arg1 harg1 arg2 harg2 arg3 harg3 arg4 harg4 arg5 harg5 arg6 harg6 arg7 harg7 arg8 harg8 arg9 harg9 arg10 harg10 hc0 hc1 x0 x1 x2 x3 x4 x5).1 = Args.pieces (Args.mk arg1 harg1 arg2 harg2 arg3 harg3 arg4 harg4 arg5 harg5 arg6 harg6 x0 x1 x2 x3 x4 x5) (csA arg9)
    ∧ (kernelRun0_A c i arg1 harg1 arg2 harg2 arg3 harg3 arg4 harg4 arg5 harg5 arg6 harg6 arg7 harg7 arg8 harg8 arg9 harg9 arg10 harg10 hc0 hc1 x0 x1 x2 x3 x4 x5).2.2.1 = Args.piecesC (Args.mk arg1 harg1 arg2 harg2 arg3 harg3 arg4 harg4 arg5 harg5 arg6 harg6 x0 x1 x2 x3 x4 x5) (csA arg9) ++ zeroC
    ∧ (kernelRun0_A c i arg1 harg1 arg2 harg2 arg3 harg3 arg4 harg4 arg5 harg5 arg6 harg6 arg7 harg7 arg8 harg8 arg9 harg9 arg10 harg10 hc0 hc1 x0 x1 x2 x3 x4 x5).2.2.2.1 = lbNext arg10 (Args.mk arg1 harg1 arg2 harg2 arg3 harg3 arg4 harg4 arg5 harg5 arg6 harg6 x0 x1 x2 x3 x4 x5) (csA arg9) (lbA arg10 (Args.mk arg1 harg1 arg2 harg2 arg3 harg3 arg4 harg4 arg5 harg5 arg6 harg6 x0 x1 x2 x3 x4 x5) (csA arg9)) :=
  ⟨by sl_kernel_rfl, by sl_kernel_rfl, by sl_kernel_rfl⟩

/-- The stores of a point of case B. -/
theorem runB (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : ¬cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).1 = Args.pieces (Args.mk arg1 harg1 arg2 harg2 arg3 harg3 arg4 harg4 arg5 harg5 arg6 harg6 x0 x1 x2 x3 x4 x5) (csB arg9 harg9 xs0)
    ∧ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1 = Args.piecesC (Args.mk arg1 harg1 arg2 harg2 arg3 harg3 arg4 harg4 arg5 harg5 arg6 harg6 x0 x1 x2 x3 x4 x5) (csB arg9 harg9 xs0)
    ∧ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 = lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0)) :=
  ⟨by sl_kernel_rfl, by sl_kernel_rfl, by sl_kernel_rfl⟩

/-- The stores of a point of case C. -/
theorem runC (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1 = Args.pieces (Args.mk arg1 harg1 arg2 harg2 arg3 harg3 arg4 harg4 arg5 harg5 arg6 harg6 x0 x1 x2 x3 x4 x5) (csB arg9 harg9 xs0)
    ∧ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1 = Args.piecesC (Args.mk arg1 harg1 arg2 harg2 arg3 harg3 arg4 harg4 arg5 harg5 arg6 harg6 x0 x1 x2 x3 x4 x5) (csB arg9 harg9 xs0)
    ∧ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 = lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0)) :=
  ⟨by sl_kernel_rfl, by sl_kernel_rfl, by sl_kernel_rfl⟩

/-- The two rows of logit gradients that the last point stores. -/
theorem runC_logits (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1 =
      [⟨rLog 1, logit1 (Args.lbs (Args.mk arg1 harg1 arg2 harg2 arg3 harg3 arg4 harg4 arg5 harg5 arg6 harg6 x0 x1 x2 x3 x4 x5)) (arg10.view.readCov (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) (Rect.unit ![0, 0] S1x512.size inb_S1x512_S1x512_0_0).toLoadRect)⟩,
       ⟨rLog 0, logit0 (Args.lbs (Args.mk arg1 harg1 arg2 harg2 arg3 harg3 arg4 harg4 arg5 harg5 arg6 harg6 x0 x1 x2 x3 x4 x5)) (arg10.view.readCov (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) (Rect.unit ![0, 0] S1x512.size inb_S1x512_S1x512_0_0).toLoadRect)⟩] := by
  sl_kernel_rfl

end Cert.KernelIdeal.Chain
-- ==== Proof.Chunk.lean ====
/- The mathematics of one chunk of one head, over the reals: 64 positions, 128 key lanes and 128 value lanes. -/
module

public import Mathlib.Analysis.SpecialFunctions.Log.Basic
public import Mathlib.Analysis.SpecialFunctions.Exp

@[expose] public section

noncomputable section

namespace Cert.Chunk

open scoped BigOperators

/-- The logistic function. -/
def sig (x : ℝ) : ℝ := 1 / (1 + Real.exp (-x))

theorem sig_pos (x : ℝ) : 0 < sig x := by unfold sig; positivity
theorem sig_lt_one (x : ℝ) : sig x < 1 := by
  unfold sig; rw [div_lt_one (by positivity)]; linarith [Real.exp_pos (-x)]

/-- What a chunk is given: the gate input `q`, the decay input `f`, the value input `i`, the cotangent `o` of the
    chunk's output, the lower bounds `lb`, the state `S` that enters the chunk and the cotangent `D` of the state that
    leaves it, both indexed by the value lane first. -/
structure _root_.Cert.Chunk where
  q : Fin 64 → Fin 128 → ℝ
  f : Fin 64 → Fin 128 → ℝ
  i : Fin 64 → Fin 128 → ℝ
  o : Fin 64 → Fin 128 → ℝ
  lb : Fin 128 → ℝ
  S : Fin 128 → Fin 128 → ℝ
  D : Fin 128 → Fin 128 → ℝ

variable (C : Cert.Chunk) (s t : Fin 64) (k v : Fin 128)

def sg : ℝ := sig (C.f t k)
/-- The forget gate, its logarithm, and the logarithm's running sum. -/
def forget : ℝ := C.lb k + (1 - C.lb k) * C.sg t k
def lf : ℝ := Real.log (C.forget t k)
def b : ℝ := ∑ s, if s ≤ t then C.lf s k else 0
def key : ℝ := 1 - C.forget t k
def bend : ℝ := ∑ s, C.lf s k
def eb : ℝ := Real.exp (C.b t k)
def emb : ℝ := Real.exp (-C.b t k)
def eend : ℝ := Real.exp (C.bend k - C.b t k)
def sq : ℝ := sig (C.q t k)
def qd : ℝ := C.q t k * C.sq t k * C.eb t k
def ki : ℝ := C.key t k * C.emb t k
def ke : ℝ := C.key t k * C.eend t k
def dec : ℝ := Real.exp (C.bend k)
def a : ℝ := if s ≤ t then ∑ k, C.qd t k * C.ki s k else 0
def da : ℝ := if s ≤ t then ∑ v, C.o t v * C.i s v else 0
/-- What the chunk adds to the state, and to the cotangent of the state. -/
def U : ℝ := ∑ s, C.i s v * C.ke s k
def T : ℝ := ∑ t, C.o t v * C.qd t k
/-- The cotangent of the state that enters the chunk. -/
def prev : ℝ := C.dec k * C.D v k + C.T k v
def dqd : ℝ := (∑ s, C.da s t * C.ki s k) + ∑ v, C.o t v * C.S v k
def dki : ℝ := ∑ s, C.da t s * C.qd s k
def di : ℝ := (∑ s, C.a t s * C.o s v) + ∑ k, C.ke t k * C.D v k
def dke : ℝ := ∑ v, C.i t v * C.D v k
def gke : ℝ := C.dke t k * C.ke t k
def dbend : ℝ := (∑ s, C.gke s k) + (∑ v, C.D v k * C.S v k) * C.dec k
def db : ℝ := C.dqd t k * C.qd t k - C.dki t k * C.ki t k - C.gke t k + if t = 63 then C.dbend k else 0
def dlogf : ℝ := ∑ s, if t ≤ s then C.db s k else 0
def dforget : ℝ := C.dlogf t k / C.forget t k - (C.dki t k * C.emb t k + C.dke t k * C.eend t k)
/-- The gradients of `q`, `f` and `i`, and the chunk's part of the gradient of the lower bounds. -/
def gq : ℝ := C.dqd t k * C.eb t k * C.sq t k * (1 + C.q t k * (1 - C.sq t k))
def gf : ℝ := C.dforget t k * (1 - C.lb k) * C.sg t k * (1 - C.sg t k)
def glb : ℝ := ∑ t, C.dforget t k * (1 - C.sg t k)

/-- The lower bounds are strictly between zero and one. -/
def Proper : Prop := ∀ k, 0 < C.lb k ∧ C.lb k < 1

theorem forget_pos (h : C.Proper) : 0 < C.forget t k := by
  have h1 := h k; have h2 := sig_pos (C.f t k)
  unfold forget sg; nlinarith [h1.1, h1.2]
theorem forget_ne (h : C.Proper) : C.forget t k ≠ 0 := (C.forget_pos t k h).ne'

end Cert.Chunk
-- ==== Proof.Read.lean ====
/- The chain's building blocks read at an index, over the extended reals. -/
module

public import proofs.«01_k».proof.Proof.Chain
public import proofs.«01_k».proof.Proof.Chunk
public import Idealize.ShloMosaic.Lib.Pointwise
public import Idealize.ShloMosaic.Lib.IdealHost
public import Idealize.ShloMosaic.Lib.ValueIdx

@[expose] public section

noncomputable section

namespace Cert.KernelIdeal.Chain

open Idealize.ShloMosaic Cert.KernelIdeal.Gen

/-- Row `t` of chunk `c` of a row tile. -/
def row (c : Fin 2) (t : Fin 64) : Fin 128 := ⟨64 * c.val + t.val, by omega⟩

theorem sum_row {M : Type} [AddCommMonoid M] (f : Fin 128 → M) : ∑ r, f r = ∑ c, ∑ t, f (row c t) := by
  rw [← Fintype.sum_prod_type']
  refine (Fintype.sum_equiv (finProdFinEquiv (m := 2) (n := 64)) _ _ fun p => congrArg f (Fin.ext ?_)).symm
  simp [row, finProdFinEquiv]; omega

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem one_apply (j : S128x128.Idx) : (one (F := Ideal)) j = (1 : EReal) := by
  pointwise [one]
theorem zero_apply (j : S128x128.Idx) : (zero (F := Ideal)) j = (0 : EReal) := by
  pointwise [zero]

theorem sigmoid_apply (x : FVec Ideal S128x128 .f32) (j : S128x128.Idx) (r : ℝ) (h : x j = (r : EReal)) :
    sigmoid x j = ((Chunk.sig r : ℝ) : EReal) := by
  have h1 : (1 + Real.exp (-r)) ≠ 0 := by positivity
  pointwise [sigmoid, one, zero]
  rw [h, zero_sub, ← EReal.coe_neg, Ideal.exp_coe, ← EReal.coe_one, ← EReal.coe_add, Ideal.div_coe h1, ← EReal.coe_mul, one_mul, Chunk.sig]

theorem mm_apply (p : Option ContractPrecision) (ty : FTy) (x y : FVec Ideal S128x128 ty) (r l : Fin 128) :
    mm p ty x y (ix2 r l) = ∑ k : Fin 128, (x (ix2 r k) : EReal) * y (ix2 k l) := by
  pointwise [mm, nul]; try simp
theorem mmNT_apply (x y : FVec Ideal S128x128 .bf16) (r l : Fin 128) :
    mmNT x y (ix2 r l) = ∑ k : Fin 128, (x (ix2 r k) : EReal) * y (ix2 l k) := by
  pointwise [mmNT, nul]; try simp
theorem mmTN_apply (x y : FVec Ideal S128x128 .bf16) (r l : Fin 128) :
    mmTN x y (ix2 r l) = ∑ k : Fin 128, (x (ix2 k r) : EReal) * y (ix2 k l) := by
  pointwise [mmTN, nul]; try simp
theorem hm_apply (x : FVec Ideal S64x128 .bf16) (y : FVec Ideal S128x128 .bf16) (r : Fin 64) (l : Fin 128) :
    hm x y (ix2 r l) = ∑ k : Fin 128, (x (ix2 r k) : EReal) * y (ix2 k l) := by
  pointwise [hm, nul64]; try simp
theorem hmNT_apply (x : FVec Ideal S64x128 .bf16) (y : FVec Ideal S128x128 .bf16) (r : Fin 64) (l : Fin 128) :
    hmNT x y (ix2 r l) = ∑ k : Fin 128, (x (ix2 r k) : EReal) * y (ix2 l k) := by
  pointwise [hmNT, nul64]; try simp
theorem hhTN_apply (x y : FVec Ideal S64x128 .bf16) (r l : Fin 128) :
    hhTN x y (ix2 r l) = ∑ k : Fin 64, (x (ix2 k r) : EReal) * y (ix2 k l) := by
  pointwise [hhTN, nul]; try simp
theorem spread_apply (x : FVec Ideal S1x128 .f32) (r l : Fin 128) : spread x (ix2 r l) = x (ix2 0 l) := by
  pointwise [spread]
theorem again_eq (x : FVec Ideal S1x128 .f32) : again x = x := by
  unfold again; exact shapeCast_self _ _
theorem colSum_apply (x : FVec Ideal S128x128 .f32) (l : Fin 128) :
    colSum x (ix2 0 l) = ∑ r : Fin 128, (x (ix2 r l) : EReal) := by
  pointwise [colSum]; try simp
theorem halfSum_apply (x : FVec Ideal S64x128 .f32) (l : Fin 128) :
    halfSum x (ix2 0 l) = ∑ r : Fin 64, (x (ix2 r l) : EReal) := by
  pointwise [halfSum]; try simp
theorem top_apply {ty : FTy} (x : FVec Ideal S128x128 ty) (t : Fin 64) (l : Fin 128) :
    top x (ix2 t l) = x (ix2 (row 0 t) l) := by
  unfold top
  refine congrArg x (funext fun a => Fin.ext ?_)
  match a with
  | ⟨0, _⟩ => show 0 + t.val = 64 * 0 + t.val; omega
  | ⟨1, _⟩ => show 0 + l.val = l.val; omega
theorem bot_apply {ty : FTy} (x : FVec Ideal S128x128 ty) (t : Fin 64) (l : Fin 128) :
    bot x (ix2 t l) = x (ix2 (row 1 t) l) := by
  unfold bot
  refine congrArg x (funext fun a => Fin.ext ?_)
  match a with
  | ⟨0, _⟩ => show 64 + t.val = 64 * 1 + t.val; omega
  | ⟨1, _⟩ => show 0 + l.val = l.val; omega
theorem cat_apply (x y : FVec Ideal S64x128 .f32) (c : Fin 2) (t : Fin 64) (l : Fin 128) :
    cat x y (ix2 (row c t) l) = if c = 0 then x (ix2 t l) else y (ix2 t l) := by
  pointwise [cat]
  match c with
  | 0 =>
    rw [dif_pos (by show 64 * 0 + t.val < 64; omega), if_pos rfl]
    exact congrArg (fun r => x (ix2 r l)) (Fin.ext (by show 64 * 0 + t.val = t.val; omega))
  | 1 =>
    rw [dif_neg (by show ¬ (64 * 1 + t.val < 64); omega)]
    refine Eq.trans ?_ (if_neg (by decide : ¬ ((1 : Fin 2) = 0))).symm
    exact congrArg (fun r => y (ix2 r l)) (Fin.ext (by show 64 * 1 + t.val - 64 = t.val; omega))
theorem rnd_eq {s : Shape} (x : FVec Ideal s .f32) : (rnd x : s.Idx → EReal) = x := rfl
theorem keep_apply (m : IVec S128x128 1) (x : FVec Ideal S128x128 .f32) (j : S128x128.Idx) :
    (keep m x j : EReal) = if m j = 1 then x j else 0 := by
  pointwise [keep, rnd, zero]
  unfold Scalar.select
  rcases BitVec.eq_zero_or_eq_one (m j) with h | h <;> simp [h]
theorem causal_apply (c c' : Fin 2) (t t' : Fin 64) :
    causal (ix2 (row c t) (row c' t')) = if c = c' ∧ t' ≤ t then 1 else 0 := by
  pointwise [causal, sameChunk, rowNo, colNo]
  revert c c' t t'
  decide +kernel
theorem anti_apply (c c' : Fin 2) (t t' : Fin 64) :
    anti (ix2 (row c t) (row c' t')) = if c = c' ∧ t ≤ t' then 1 else 0 := by
  pointwise [anti, sameChunk, rowNo, colNo]
  revert c c' t t'
  decide +kernel

end Cert.KernelIdeal.Chain
-- ==== Proof.Global.lean ====
/- The whole sequence over the reals: 64 chunks of 4 heads, the states that pass from chunk to chunk, and the cotangents
   of the states that pass back. -/
module

public import proofs.«01_k».proof.Proof.Chunk

@[expose] public section

noncomputable section

namespace Cert

open scoped BigOperators

/-- Lane `k` of head `h` among the 512 lanes, and in part `p` of the 2048 columns. -/
def lane (h : Fin 4) (k : Fin 128) : Fin 512 := ⟨128 * h.val + k.val, by omega⟩
def part (p : Fin 4) (l : Fin 512) : Fin 2048 := ⟨512 * p.val + l.val, by omega⟩
/-- Position `t` of chunk `n`. -/
def pos (n t : Fin 64) : Fin 4096 := ⟨64 * n.val + t.val, by omega⟩
def chunkNo (n : ℕ) : Fin 64 := ⟨n % 64, Nat.mod_lt _ (by decide)⟩

/-- The first of two softmax weights. -/
def softR (x y : ℝ) : ℝ := Real.exp (x - max x y) / (Real.exp (x - max x y) + Real.exp (y - max x y))
theorem softR_pos (x y : ℝ) : 0 < softR x y := by unfold softR; positivity
theorem softR_lt_one (x y : ℝ) : softR x y < 1 := by
  unfold softR; rw [div_lt_one (by positivity)]; linarith [Real.exp_pos (y - max x y)]

/-- The inputs: the projection, the two rows of logits, and the cotangent of the recurrence's output. -/
structure Data where
  P : Fin 4096 → Fin 2048 → ℝ
  G : Fin 2 → Fin 512 → ℝ
  O : Fin 4096 → Fin 512 → ℝ

namespace Data
variable (X : Data)

def lbv (l : Fin 512) : ℝ := softR (X.G 0 l) (X.G 1 l)
/-- Chunk `n` of head `h`, with no state and no cotangent. -/
def base (n : Fin 64) (h : Fin 4) : Chunk where
  q t k := X.P (pos n t) (part 0 (lane h k))
  f t k := X.P (pos n t) (part 1 (lane h k))
  i t k := X.P (pos n t) (part 2 (lane h k))
  o t k := X.O (pos n t) (lane h k)
  lb k := X.lbv (lane h k)
  S _ _ := 0
  D _ _ := 0
/-- The state that enters chunk `n`. -/
def st (h : Fin 4) : ℕ → Fin 128 → Fin 128 → ℝ
  | 0 => fun _ _ => 0
  | n + 1 => fun v k => (X.base (chunkNo n) h).dec k * st h n v k + (X.base (chunkNo n) h).U k v
/-- The cotangent of the state that leaves the chunk before which `j` chunks remain. -/
def ct (h : Fin 4) : ℕ → Fin 128 → Fin 128 → ℝ
  | 0 => fun _ _ => 0
  | j + 1 => fun v k => (X.base (chunkNo (63 - j)) h).dec k * ct h j v k + (X.base (chunkNo (63 - j)) h).T k v
/-- Chunk `n` of head `h`. -/
def chunk (n : Fin 64) (h : Fin 4) : Chunk :=
  { X.base n h with S := X.st h n.val, D := X.ct h (63 - n.val) }

theorem proper (n : Fin 64) (h : Fin 4) : (X.chunk n h).Proper := fun _ => ⟨softR_pos _ _, softR_lt_one _ _⟩

theorem chunkNo_val (n : Fin 64) : chunkNo n.val = n := Fin.ext (Nat.mod_eq_of_lt n.isLt)

theorem prev_eq (n : Fin 64) (h : Fin 4) (v k : Fin 128) : (X.chunk n h).prev k v = X.ct h (64 - n.val) v k := by
  have e : 64 - n.val = (63 - n.val) + 1 := by omega
  rw [e]
  show _ = (X.base (chunkNo (63 - (63 - n.val))) h).dec k * X.ct h (63 - n.val) v k + (X.base (chunkNo (63 - (63 - n.val))) h).T k v
  have e2 : 63 - (63 - n.val) = n.val := by omega
  rw [e2, chunkNo_val]; rfl

/-- The sum for the gradient of the lower bounds after the last `4 * τ` chunks. -/
def part4 (h : Fin 4) (k : Fin 128) (n : ℕ) : ℝ :=
  (X.chunk (chunkNo n) h).glb k
def acc (h : Fin 4) (k : Fin 128) : ℕ → ℝ
  | 0 => 0
  | τ + 1 => acc h k τ + (X.part4 h k (60 - 4 * τ) + X.part4 h k (61 - 4 * τ)) + (X.part4 h k (62 - 4 * τ) + X.part4 h k (63 - 4 * τ))
/-- The gradient of the lower bounds. -/
def glb (h : Fin 4) (k : Fin 128) : ℝ := ∑ n, (X.chunk n h).glb k

theorem acc_eq (h : Fin 4) (k : Fin 128) (τ : ℕ) (hτ : τ ≤ 16) : X.acc h k τ = ∑ j ∈ Finset.range (4 * τ), X.part4 h k (63 - j) := by
  induction τ with
  | zero => simp [acc]
  | succ τ ih =>
    rw [acc, ih (by omega), show 4 * (τ + 1) = 4 * τ + 1 + 1 + 1 + 1 by ring]
    simp only [Finset.sum_range_succ]
    rw [show 63 - (4 * τ + 1) = 62 - 4 * τ by omega, show 63 - (4 * τ + 1 + 1) = 61 - 4 * τ by omega,
      show 63 - (4 * τ + 1 + 1 + 1) = 60 - 4 * τ by omega]
    ring
theorem acc_all (h : Fin 4) (k : Fin 128) : X.acc h k 16 = X.glb h k := by
  rw [acc_eq X h k 16 le_rfl, show 4 * 16 = 64 from rfl, ← Finset.sum_range_reflect, Finset.sum_range, glb]
  refine Finset.sum_congr rfl fun n _ => ?_
  have e : 63 - (64 - 1 - n.val) = n.val := by omega
  rw [e, part4, chunkNo_val]

end Data

end Cert
-- ==== Proof.Store.lean ====
/- The stores of a grid point, read at an index. -/
module

public import proofs.«01_k».proof.Proof.Pieces
public import Idealize.ShloMosaic.Lib.Pipeline.ValueKit
public import proofs.«01_k».proof.Proof.Read
public import proofs.«01_k».proof.Proof.Global

@[expose] public section

noncomputable section

namespace Cert.KernelIdeal.Chain

open Idealize.ShloMosaic Idealize.ShloMosaic.TcCoe Idealize.SL.Sem Cert.KernelIdeal.Gen

variable {F : FTy → Type} [FloatOps F]
variable (A : Args F) (cs : Fin 4 → FVec F S128x128 .f32)

/-- The block of gradients, at row `r` of tile `g` and lane `k` of head `h` of part `p`. -/
theorem canon_pieces (y : S256x1536.Idx) (p : Fin 3) (g : Fin 2) (h : Fin 4) (r k : Fin 128)
    (h0 : (y 0).val = 128 * g.val + r.val) (h1 : (y 1).val = 512 * p.val + 128 * h.val + k.val) :
    View.canon (A.pieces cs) y = (A.chain cs g h).out p (ix2 r k) := by
  have hy : (rOut p g h).emb (ix2 r k) = y := by
    funext a; apply Fin.ext
    match a with
    | ⟨0, _⟩ => show 128 * g.val + 1 * r.val = (y 0).val; omega
    | ⟨1, _⟩ => show 512 * p.val + 128 * h.val + 1 * k.val = (y 1).val; omega
  have hmem : A.piece cs p g h ∈ A.pieces cs := by
    unfold Args.pieces; revert p g h; intro p g h _ _ _
    fin_cases p <;> fin_cases g <;> fin_cases h <;> simp
  have hform : ∀ q ∈ A.pieces cs, ∃ p' g' h', q = A.piece cs p' g' h' := by
    intro q hq
    simp only [Args.pieces, List.mem_cons, List.not_mem_nil, or_false] at hq
    rcases hq with rfl | rfl | rfl | rfl | rfl | rfl | rfl | rfl | rfl | rfl | rfl | rfl | rfl | rfl | rfl | rfl | rfl | rfl | rfl | rfl | rfl | rfl | rfl | rfl <;> exact ⟨_, _, _, rfl⟩
  refine View.canon_eq_of_allAt _ y _ ⟨_, hmem, by rw [← hy]; exact (rOut p g h).idx_mem _⟩ fun q hq x hx => ?_
  obtain ⟨p', g', h', rfl⟩ := hform q hq
  have e0 : 128 * g'.val + 1 * (x 0).val = (y 0).val := congrArg (fun z : S256x1536.Idx => (z 0).val) hx
  have e1 : 512 * p'.val + 128 * h'.val + 1 * (x 1).val = (y 1).val := congrArg (fun z : S256x1536.Idx => (z 1).val) hx
  have b0 : (x 0).val < 128 := (x 0).isLt
  have b1 : (x 1).val < 128 := (x 1).isLt
  obtain rfl : g' = g := Fin.ext (by omega)
  obtain rfl : p' = p := Fin.ext (by omega)
  obtain rfl : h' = h := Fin.ext (by omega)
  refine congrArg ((A.chain cs g' h').out p') (funext fun a => Fin.ext ?_)
  match a with
  | ⟨0, _⟩ => show (x 0).val = r.val; omega
  | ⟨1, _⟩ => show (x 1).val = k.val; omega

/-- The carried cotangents. -/
theorem canon_piecesC (L : List (View.Piece (Elt F) S4x128x128 .f32)) (h : Fin 4) (v k : Fin 128) :
    View.canon (A.piecesC cs ++ L) (ix3 h v k) = (A.chain cs 0 h).outC (ix3 0 v k) := by
  have hit : ∀ (h : Fin 4) w L, View.canon ((⟨rC h, w⟩ : View.Piece (Elt F) S4x128x128 .f32) :: L) (ix3 h v k) = w (ix3 0 v k) := by
    intro h w L
    have hy : (rC h).emb (ix3 0 v k) = ix3 h v k := by
      funext a; apply Fin.ext
      match a with
      | ⟨0, _⟩ => show h.val + 1 * 0 = h.val; omega
      | ⟨1, _⟩ => show 0 + 1 * v.val = v.val; omega
      | ⟨2, _⟩ => show 0 + 1 * k.val = k.val; omega
    rw [← hy]; exact View.canon_cons_emb _ _ _ _
  have skip : ∀ (h' h : Fin 4) w L, h' ≠ h → View.canon ((⟨rC h', w⟩ : View.Piece (Elt F) S4x128x128 .f32) :: L) (ix3 h v k) = View.canon L (ix3 h v k) := by
    intro h' h w L hne
    refine View.canon_cons_of_not_mem _ _ fun hm => hne ?_
    have e1 : h'.val ≤ h.val ∧ h.val < h'.val + 1 := (Rect.mem_set_unit (inb := fitC h')).mp hm 0
    exact Fin.ext (by omega)
  unfold Args.piecesC
  simp only [List.cons_append]
  match h with
  | 3 => rw [hit]
  | 2 => rw [skip _ _ _ _ (by decide), hit]
  | 1 => rw [skip _ _ _ _ (by decide), skip _ _ _ _ (by decide), hit]
  | 0 => rw [skip _ _ _ _ (by decide), skip _ _ _ _ (by decide), skip _ _ _ _ (by decide), hit]

theorem canon_lb_hit (h : Fin 4) (k : Fin 128) (w) (L : List (View.Piece (Elt F) S1x512 .f32)) :
    View.canon ((⟨rLb h, w⟩ : View.Piece (Elt F) S1x512 .f32) :: L) (ix2 0 (lane h k)) = w (ix2 0 k) := by
  have hy : (rLb h).emb (ix2 0 k) = ix2 0 (lane h k) := by
    funext a; apply Fin.ext
    match a with
    | ⟨0, _⟩ => show 0 + 1 * 0 = 0; omega
    | ⟨1, _⟩ => show 128 * h.val + 1 * k.val = 128 * h.val + k.val; omega
  rw [← hy]; exact View.canon_cons_emb _ _ _ _
theorem canon_lb_skip (h' h : Fin 4) (k : Fin 128) (w) (L : List (View.Piece (Elt F) S1x512 .f32)) (hne : h' ≠ h) :
    View.canon ((⟨rLb h', w⟩ : View.Piece (Elt F) S1x512 .f32) :: L) (ix2 0 (lane h k)) = View.canon L (ix2 0 (lane h k)) := by
  refine View.canon_cons_of_not_mem _ _ fun hm => hne ?_
  have e1 : 128 * h'.val ≤ 128 * h.val + k.val ∧ 128 * h.val + k.val < 128 * h'.val + 128 :=
    (Rect.mem_set_unit (inb := fitB h')).mp hm 1
  exact Fin.ext (by omega)

variable (arg10 : Memref sig .tc .vmem S1x512 .f32)

/-- A load of a head's lanes after stores that cover all lanes. -/
theorem readCov_lb (L : List (View.Piece (Elt F) S1x512 .f32)) (hc : ∀ y : S1x512.Idx, ∃ q ∈ L, y ∈ q.1.set) (h : Fin 4) (k : Fin 128) :
    arg10.view.readCov L (rLb h).toLoadRect (ix2 0 k) = View.canon L (ix2 0 (lane h k)) := by
  have hy : (rLb h).idx (ix2 0 k) = ix2 0 (lane h k) := by
    funext a; apply Fin.ext
    match a with
    | ⟨0, _⟩ => show 0 + 1 * 0 = 0; omega
    | ⟨1, _⟩ => show 128 * h.val + 1 * k.val = 128 * h.val + k.val; omega
  show (arg10.view.read (Elt F) (arg10.view.writes (Elt F) arg10.view.junk L)) ((rLb h).idx (ix2 0 k)) = _
  rw [View.read_writes_eq_canon _ _ _ hc, hy]

theorem cover_addLb (L : List (View.Piece (Elt F) S1x512 .f32)) (hc : ∀ y : S1x512.Idx, ∃ q ∈ L, y ∈ q.1.set) (g : Fin 2) (h : Fin 4) (y : S1x512.Idx) :
    ∃ q ∈ addLb arg10 A cs L g h, y ∈ q.1.set := by
  obtain ⟨q, hq, hy⟩ := hc y
  exact ⟨q, List.mem_cons_of_mem _ hq, hy⟩

/-- One more store of a sum: the head's lanes have it added, the other lanes are as they were. -/
theorem canon_addLb (L : List (View.Piece (Elt F) S1x512 .f32)) (g : Fin 2) (h' h : Fin 4) (k : Fin 128) :
    View.canon (addLb arg10 A cs L g h') (ix2 0 (lane h k)) =
      if h' = h then (A.chain cs g h).outLb (arg10.view.readCov L (rLb h).toLoadRect) (ix2 0 k)
      else View.canon L (ix2 0 (lane h k)) := by
  unfold addLb
  by_cases e : h' = h
  · subst e; rw [if_pos rfl, canon_lb_hit]
  · rw [if_neg e, canon_lb_skip _ _ _ _ _ e]

theorem cover_zeroLb (y : S1x512.Idx) : ∃ q ∈ zeroLb (F := F), y ∈ q.1.set := by
  refine ⟨_, List.mem_singleton.mpr rfl, ?_⟩
  exact (Rect.mem_set_unit (inb := inb_S1x512_S1x512_0_0)).mpr fun a => by
    match a with
    | ⟨0, _⟩ => exact ⟨Nat.zero_le _, lt_of_lt_of_eq (y 0).isLt (show 1 = 0 + 1 from rfl)⟩
    | ⟨1, _⟩ => exact ⟨Nat.zero_le _, lt_of_lt_of_eq (y 1).isLt (show 512 = 0 + 512 from rfl)⟩
theorem canon_zeroLb (y : S1x512.Idx) : View.canon (zeroLb (F := F)) y = k0_pay5 y := by
  unfold zeroLb
  refine congrFun (View.canon_cons_unit_zero ?_ _ _ _) y
  funext a; fin_cases a <;> rfl

theorem cover_lbA (y : S1x512.Idx) : ∃ q ∈ lbA arg10 A cs, y ∈ q.1.set :=
  cover_addLb A cs arg10 _ (cover_addLb A cs arg10 _ (cover_addLb A cs arg10 _ (cover_addLb A cs arg10 _ cover_zeroLb _ _) _ _) _ _) _ _ y

theorem cover_lbB (harg10 : arg10.IsWhole) (xs1 : Vec F S1x512 .f32) (y : S1x512.Idx) : ∃ q ∈ lbB arg10 harg10 xs1 A cs, y ∈ q.1.set := by
  have key : ∀ h : Fin 4, 128 * h.val ≤ (y 1).val → (y 1).val < 128 * h.val + 128 → y ∈ (rLb h).set := by
    intro h h1 h2
    refine (Rect.mem_set_unit (inb := fitB h)).mpr fun a => ?_
    match a with
    | ⟨0, _⟩ => exact ⟨Nat.zero_le _, lt_of_lt_of_eq (y 0).isLt (show 1 = 0 + 1 from rfl)⟩
    | ⟨1, _⟩ => exact ⟨h1, h2⟩
  have hb : (y 1).val < 512 := (y 1).isLt
  have has : ∀ h : Fin 4, A.pieceLb cs (oldB arg10 harg10 xs1 h) 0 h ∈ lbB arg10 harg10 xs1 A cs := by
    intro h
    unfold lbB
    match h with
    | 3 => exact List.mem_cons_self
    | 2 => exact List.mem_cons_of_mem _ List.mem_cons_self
    | 1 => exact List.mem_cons_of_mem _ (List.mem_cons_of_mem _ List.mem_cons_self)
    | 0 => exact List.mem_cons_of_mem _ (List.mem_cons_of_mem _ (List.mem_cons_of_mem _ List.mem_cons_self))
  exact ⟨_, has ⟨(y 1).val / 128, by omega⟩, key ⟨(y 1).val / 128, by omega⟩ (Nat.mul_div_le _ _) (by show _ < 128 * ((y 1).val / 128) + 128; omega)⟩

/-- The first row tile's sums at the first point. -/
theorem canon_lbA (h : Fin 4) (k : Fin 128) : ∃ old, old (ix2 0 k) = k0_pay5 (F := F) (ix2 0 (lane h k)) ∧
    View.canon (lbA arg10 A cs) (ix2 0 (lane h k)) = (A.chain cs 0 h).outLb old (ix2 0 k) := by
  have c0 := fun y => cover_zeroLb (F := F) y
  have c1 := fun y => cover_addLb A cs arg10 _ c0 0 0 y
  have c2 := fun y => cover_addLb A cs arg10 _ c1 0 1 y
  have c3 := fun y => cover_addLb A cs arg10 _ c2 0 2 y
  unfold lbA
  match h with
  | 3 => refine ⟨_, ?_, by rw [canon_addLb, if_pos rfl]⟩
         rw [readCov_lb _ _ c3, canon_addLb, if_neg (by decide), canon_addLb, if_neg (by decide), canon_addLb, if_neg (by decide), canon_zeroLb]
  | 2 => refine ⟨_, ?_, by rw [canon_addLb, if_neg (by decide), canon_addLb, if_pos rfl]⟩
         rw [readCov_lb _ _ c2, canon_addLb, if_neg (by decide), canon_addLb, if_neg (by decide), canon_zeroLb]
  | 1 => refine ⟨_, ?_, by rw [canon_addLb, if_neg (by decide), canon_addLb, if_neg (by decide), canon_addLb, if_pos rfl]⟩
         rw [readCov_lb _ _ c1, canon_addLb, if_neg (by decide), canon_zeroLb]
  | 0 => refine ⟨_, ?_, by rw [canon_addLb, if_neg (by decide), canon_addLb, if_neg (by decide), canon_addLb, if_neg (by decide), canon_addLb, if_pos rfl]⟩
         rw [readCov_lb _ _ c0, canon_zeroLb]

/-- The first row tile's sums at a later point. -/
theorem canon_lbB (harg10 : arg10.IsWhole) (xs1 : Vec F S1x512 .f32) (h : Fin 4) (k : Fin 128) : ∃ old, old (ix2 0 k) = xs1 (ix2 0 (lane h k)) ∧
    View.canon (lbB arg10 harg10 xs1 A cs) (ix2 0 (lane h k)) = (A.chain cs 0 h).outLb old (ix2 0 k) := by
  refine ⟨oldB arg10 harg10 xs1 h, ?_, ?_⟩
  · unfold oldB
    rw [View.readAt_eq_ld, harg10.read_unread]
    exact View.ld_unit_apply_of xs1 _ _ (fitB h) (ix2 0 k) (ix2 0 (lane h k)) fun a => by
      match a with
      | ⟨0, _⟩ => rfl
      | ⟨1, _⟩ => rfl
  · unfold lbB
    match h with
    | 3 => rw [canon_lb_hit]
    | 2 => rw [canon_lb_skip _ _ _ _ _ (by decide), canon_lb_hit]
    | 1 => rw [canon_lb_skip _ _ _ _ _ (by decide), canon_lb_skip _ _ _ _ _ (by decide), canon_lb_hit]
    | 0 => rw [canon_lb_skip _ _ _ _ _ (by decide), canon_lb_skip _ _ _ _ _ (by decide), canon_lb_skip _ _ _ _ _ (by decide), canon_lb_hit]

theorem cover_lbNext (L : List (View.Piece (Elt F) S1x512 .f32)) (hc : ∀ y : S1x512.Idx, ∃ q ∈ L, y ∈ q.1.set) (y : S1x512.Idx) :
    ∃ q ∈ lbNext arg10 A cs L, y ∈ q.1.set :=
  cover_addLb A cs arg10 _ (cover_addLb A cs arg10 _ (cover_addLb A cs arg10 _ (cover_addLb A cs arg10 _ hc _ _) _ _) _ _) _ _ y

/-- The second row tile's sums, over the first's. -/
theorem canon_lbNext (L : List (View.Piece (Elt F) S1x512 .f32)) (c0 : ∀ y : S1x512.Idx, ∃ q ∈ L, y ∈ q.1.set) (h : Fin 4) (k : Fin 128) :
    ∃ old, old (ix2 0 k) = View.canon L (ix2 0 (lane h k)) ∧
    View.canon (lbNext arg10 A cs L) (ix2 0 (lane h k)) = (A.chain cs 1 h).outLb old (ix2 0 k) := by
  have c1 := fun y => cover_addLb A cs arg10 _ c0 1 0 y
  have c2 := fun y => cover_addLb A cs arg10 _ c1 1 1 y
  have c3 := fun y => cover_addLb A cs arg10 _ c2 1 2 y
  unfold lbNext
  match h with
  | 3 => refine ⟨_, ?_, by rw [canon_addLb, if_pos rfl]⟩
         rw [readCov_lb _ _ c3, canon_addLb, if_neg (by decide), canon_addLb, if_neg (by decide), canon_addLb, if_neg (by decide)]
  | 2 => refine ⟨_, ?_, by rw [canon_addLb, if_neg (by decide), canon_addLb, if_pos rfl]⟩
         rw [readCov_lb _ _ c2, canon_addLb, if_neg (by decide), canon_addLb, if_neg (by decide)]
  | 1 => refine ⟨_, ?_, by rw [canon_addLb, if_neg (by decide), canon_addLb, if_neg (by decide), canon_addLb, if_pos rfl]⟩
         rw [readCov_lb _ _ c1, canon_addLb, if_neg (by decide)]
  | 0 => refine ⟨_, ?_, by rw [canon_addLb, if_neg (by decide), canon_addLb, if_neg (by decide), canon_addLb, if_neg (by decide), canon_addLb, if_pos rfl]⟩
         rw [readCov_lb _ _ c0]

/-- The cotangents that a later point takes from the point before. -/
theorem csB_apply (arg9 : Memref sig .tc .vmem S4x128x128 .f32) (harg9 : arg9.IsWhole) (xs0 : Vec F S4x128x128 .f32) (h : Fin 4) (v k : Fin 128) :
    csB arg9 harg9 xs0 h (ix2 v k) = xs0 (ix3 h v k) := by
  have e : View.readAt (Elt F) arg9.view (rC h).toLoadRect (harg9.unread xs0) (ix3 0 v k) = xs0 (ix3 h v k) := by
    rw [View.readAt_eq_ld, harg9.read_unread]
    exact View.ld_unit_apply_of xs0 _ _ (fitC h) (ix3 0 v k) (ix3 h v k) fun a => by
      match a with
      | ⟨0, _⟩ => show h.val = h.val + 0; omega
      | ⟨1, _⟩ => show v.val = 0 + v.val; omega
      | ⟨2, _⟩ => show k.val = 0 + k.val; omega
  unfold csB carry
  rw [← e]
  pointwise

/-- The first point takes zeros. -/
theorem csA_apply (arg9 : Memref sig .tc .vmem S4x128x128 .f32) (h : Fin 4) (v k : Fin 128) :
    csA (F := F) arg9 h (ix2 v k) = k0_pay4 (F := F) (ix3 h v k) := by
  have hc : ∀ y : S4x128x128.Idx, ∃ q ∈ zeroC (F := F), y ∈ q.1.set := by
    intro y
    refine ⟨_, List.mem_singleton.mpr rfl, ?_⟩
    exact (Rect.mem_set_unit (inb := inb_S4x128x128_S4x128x128_0_0_0)).mpr fun a => by
      match a with
      | ⟨0, _⟩ => exact ⟨Nat.zero_le _, lt_of_lt_of_eq (y 0).isLt (show 4 = 0 + 4 from rfl)⟩
      | ⟨1, _⟩ => exact ⟨Nat.zero_le _, lt_of_lt_of_eq (y 1).isLt (show 128 = 0 + 128 from rfl)⟩
      | ⟨2, _⟩ => exact ⟨Nat.zero_le _, lt_of_lt_of_eq (y 2).isLt (show 128 = 0 + 128 from rfl)⟩
  have hy : (rC h).idx (ix3 0 v k) = ix3 h v k := by
    funext a; apply Fin.ext
    match a with
    | ⟨0, _⟩ => show h.val + 1 * 0 = h.val; omega
    | ⟨1, _⟩ => show 0 + 1 * v.val = v.val; omega
    | ⟨2, _⟩ => show 0 + 1 * k.val = k.val; omega
  have e : arg9.view.readCov (zeroC (F := F)) (rC h).toLoadRect (ix3 0 v k) = k0_pay4 (F := F) (ix3 h v k) := by
    show (arg9.view.read (Elt F) (arg9.view.writes (Elt F) arg9.view.junk zeroC)) ((rC h).idx (ix3 0 v k)) = _
    rw [View.read_writes_eq_canon _ _ _ hc, hy]
    refine congrFun (View.canon_cons_unit_zero ?_ _ _ _) _
    funext a; fin_cases a <;> rfl
  unfold csA carry
  rw [← e]
  pointwise

end Cert.KernelIdeal.Chain
-- ==== Proof.Lift.lean ====
/- One chain of the kernel at real inputs computes the chunk's mathematics: each quantity of `Chain`, read at row `t`
   of chunk `c` of the row tile, is the quantity of the same name of `Chunk`, as an extended real. -/
module

public import proofs.«01_k».proof.Proof.Read

@[expose] public section

noncomputable section

namespace Cert.KernelIdeal.Chain

open Idealize.ShloMosaic Cert.KernelIdeal.Gen

/-- The tile's inputs are real, those of its two chunks being `C 0` and `C 1`; the chunks share the lower bounds, and
    the cotangent that leaves the first chunk is the one that enters the second. -/
structure Lifts (T : Tile Ideal) (C : Fin 2 → Cert.Chunk) : Prop where
  q : ∀ c t k, T.q (ix2 (row c t) k) = (((C c).q t k : ℝ) : EReal)
  f : ∀ c t k, T.f (ix2 (row c t) k) = (((C c).f t k : ℝ) : EReal)
  i : ∀ c t k, T.i (ix2 (row c t) k) = (((C c).i t k : ℝ) : EReal)
  o : ∀ c t k, T.o (ix2 (row c t) k) = (((C c).o t k : ℝ) : EReal)
  lb : ∀ c k, T.lb (ix2 0 k) = (((C c).lb k : ℝ) : EReal)
  s0 : ∀ v k, T.s0 (ix4 0 0 v k) = (((C 0).S v k : ℝ) : EReal)
  s1 : ∀ v k, T.s1 (ix4 0 0 v k) = (((C 1).S v k : ℝ) : EReal)
  c : ∀ v k, T.c (ix2 v k) = (((C 1).D v k : ℝ) : EReal)
  join : ∀ v k, (C 0).D v k = (C 1).prev k v
  proper : ∀ c, (C c).Proper

theorem sum_causal (c : Fin 2) (t : Fin 64) (g : Fin 2 → Fin 64 → ℝ) :
    (∑ c', ∑ t', if c = c' ∧ t' ≤ t then g c' t' else 0) = ∑ t', if t' ≤ t then g c t' else 0 := by
  rw [Finset.sum_eq_single c]
  · simp
  · intro c' _ hc; simp [Ne.symm hc]
  · simp
theorem sum_causal' (c : Fin 2) (t : Fin 64) (g : Fin 2 → Fin 64 → ℝ) :
    (∑ c', ∑ t', if c = c' ∧ t ≤ t' then g c' t' else 0) = ∑ t', if t ≤ t' then g c t' else 0 := by
  rw [Finset.sum_eq_single c]
  · simp
  · intro c' _ hc; simp [Ne.symm hc]
  · simp
theorem sum_one (c : Fin 2) (g : Fin 2 → Fin 64 → ℝ) (h : ∀ c' t, c' ≠ c → g c' t = 0) :
    (∑ c', ∑ t', g c' t') = ∑ t', g c t' := by
  rw [Finset.sum_eq_single c]
  · intro c' _ hc; exact Finset.sum_eq_zero fun t _ => h c' t hc
  · simp

theorem rowNo_lt (c : Fin 2) (t : Fin 64) (k : Fin 128) :
    IntOp.cmpi .slt (rowNo (ix2 (row c t) k)) 64#32 = if c = 0 then 1 else 0 := by
  pointwise [rowNo]; revert c t; decide +kernel
theorem rowNo_63 (c : Fin 2) (t : Fin 64) (k : Fin 128) :
    IntOp.cmpi .eq (rowNo (ix2 (row c t) k)) 63#32 = if c = 0 ∧ t = 63 then 1 else 0 := by
  pointwise [rowNo]; revert c t; decide +kernel
theorem rowNo_127 (c : Fin 2) (t : Fin 64) (k : Fin 128) :
    IntOp.cmpi .eq (rowNo (ix2 (row c t) k)) 127#32 = if c = 1 ∧ t = 63 then 1 else 0 := by
  pointwise [rowNo]; revert c t; decide +kernel

namespace Lifts
variable {T : Tile Ideal} {C : Fin 2 → Cert.Chunk} (H : Lifts T C) (c : Fin 2) (t : Fin 64) (k v : Fin 128)
include H

theorem qx : T.qx (ix2 (row c t) k) = (((C c).q t k : ℝ) : EReal) := by
  unfold Tile.qx; rw [shapeCast_self]; exact H.q c t k
theorem fx : T.fx (ix2 (row c t) k) = (((C c).f t k : ℝ) : EReal) := by
  unfold Tile.fx; rw [shapeCast_self]; exact H.f c t k
theorem ix : T.ix (ix2 (row c t) k) = (((C c).i t k : ℝ) : EReal) := by
  unfold Tile.ix; rw [shapeCast_self]; exact H.i c t k
theorem ob : T.ob (ix2 (row c t) k) = (((C c).o t k : ℝ) : EReal) := H.o c t k
theorem st0 : T.st0 (ix2 v k) = (((C 0).S v k : ℝ) : EReal) := by
  pointwise [Tile.st0]; exact H.s0 v k
theorem st1 : T.st1 (ix2 v k) = (((C 1).S v k : ℝ) : EReal) := by
  pointwise [Tile.st1]; exact H.s1 v k
theorem sg : T.sg (ix2 (row c t) k) = (((C c).sg t k : ℝ) : EReal) := sigmoid_apply _ _ _ (H.fx c t k)
theorem sq : T.sq (ix2 (row c t) k) = (((C c).sq t k : ℝ) : EReal) := sigmoid_apply _ _ _ (H.qx c t k)
theorem rest (r : Fin 128) : T.rest (ix2 r k) = ((1 - (C c).lb k : ℝ) : EReal) := by
  unfold Tile.rest; rw [spread_apply]; pointwise; rw [H.lb c k]; norm_cast
theorem forget : T.forget (ix2 (row c t) k) = (((C c).forget t k : ℝ) : EReal) := by
  unfold Tile.forget; pointwise
  rw [spread_apply, H.rest c, H.sg, H.lb c k]; norm_cast
theorem lf : T.lf (ix2 (row c t) k) = (((C c).lf t k : ℝ) : EReal) := by
  unfold Tile.lf; pointwise
  rw [H.forget, Ideal.log_coe, if_neg (not_le.mpr ((C c).forget_pos t k (H.proper c)))]; rfl
theorem key : T.key (ix2 (row c t) k) = (((C c).key t k : ℝ) : EReal) := by
  unfold Tile.key; pointwise [one]; rw [H.forget]; norm_cast

theorem b : T.b (ix2 (row c t) k) = (((C c).b t k : ℝ) : EReal) := by
  unfold Tile.b
  rw [mm_apply, sum_row]
  have e : ∀ c' t', ((select causal (one (F := Ideal)) (zero (F := Ideal)) : FVec Ideal S128x128 .f32) (ix2 (row c t) (row c' t')) : EReal) * T.lf (ix2 (row c' t') k)
      = ((if c = c' ∧ t' ≤ t then (C c').lf t' k else 0 : ℝ) : EReal) := fun c' t' => by
    rw [H.lf]; pointwise; rw [causal_apply, one_apply, zero_apply]
    split_ifs <;> simp [Scalar.select]
  simp only [e, ← coe_sum, sum_causal]; rfl
theorem bend0 : T.bend0 (ix2 0 k) = (((C 0).bend k : ℝ) : EReal) := by
  unfold Tile.bend0; rw [halfSum_apply]; simp only [top_apply, H.lf, ← coe_sum]; rfl
theorem bend1 : T.bend1 (ix2 0 k) = (((C 1).bend k : ℝ) : EReal) := by
  unfold Tile.bend1; rw [halfSum_apply]; simp only [bot_apply, H.lf, ← coe_sum]; rfl
theorem bend : T.bend (ix2 (row c t) k) = (((C c).bend k : ℝ) : EReal) := by
  unfold Tile.bend
  pointwise
  rw [spread_apply, spread_apply, again_eq, again_eq, H.bend0, H.bend1, rowNo_lt]
  fin_cases c <;> simp [Scalar.select]
theorem eb : T.eb (ix2 (row c t) k) = (((C c).eb t k : ℝ) : EReal) := by
  unfold Tile.eb; pointwise; rw [H.b, Ideal.exp_coe]; rfl
theorem emb : T.emb (ix2 (row c t) k) = (((C c).emb t k : ℝ) : EReal) := by
  unfold Tile.emb; pointwise [zero]; rw [H.b, zero_sub, ← EReal.coe_neg, Ideal.exp_coe]; rfl
theorem eend : T.eend (ix2 (row c t) k) = (((C c).eend t k : ℝ) : EReal) := by
  unfold Tile.eend; pointwise; rw [H.b, H.bend, ← EReal.coe_sub, Ideal.exp_coe]; rfl
theorem qd : T.qd (ix2 (row c t) k) = (((C c).qd t k : ℝ) : EReal) := by
  unfold Tile.qd; pointwise; rw [H.qx, H.sq, H.eb]; norm_cast
theorem ki : T.ki (ix2 (row c t) k) = (((C c).ki t k : ℝ) : EReal) := by
  unfold Tile.ki; pointwise; rw [H.key, H.emb]; norm_cast
theorem ke : T.ke (ix2 (row c t) k) = (((C c).ke t k : ℝ) : EReal) := by
  unfold Tile.ke; pointwise; rw [H.key, H.eend]; norm_cast
theorem dec0 : T.dec0 (ix2 0 k) = (((C 0).dec k : ℝ) : EReal) := by
  unfold Tile.dec0; pointwise; rw [H.bend0, Ideal.exp_coe]; rfl
theorem dec1 : T.dec1 (ix2 0 k) = (((C 1).dec k : ℝ) : EReal) := by
  unfold Tile.dec1; pointwise; rw [H.bend1, Ideal.exp_coe]; rfl

theorem a (c' : Fin 2) (s : Fin 64) :
    T.a (ix2 (row c t) (row c' s)) = ((if c = c' then (C c).a s t else 0 : ℝ) : EReal) := by
  unfold Tile.a
  rw [keep_apply, causal_apply, mmNT_apply]
  simp only [rnd_eq, H.qd, H.ki, ← EReal.coe_mul, ← coe_sum]
  by_cases h : c = c'
  · subst h; by_cases hs : s ≤ t <;> simp [hs, Chunk.a]
  · simp [h]
theorem da (c' : Fin 2) (s : Fin 64) :
    T.da (ix2 (row c t) (row c' s)) = ((if c = c' then (C c).da s t else 0 : ℝ) : EReal) := by
  unfold Tile.da
  rw [keep_apply, causal_apply, mmNT_apply]
  simp only [H.ob, H.ix, ← EReal.coe_mul, ← coe_sum]
  by_cases h : c = c'
  · subst h; by_cases hs : s ≤ t <;> simp [hs, Chunk.da]
  · simp [h]
theorem mid : T.mid (ix2 v k) = (((C 0).D v k : ℝ) : EReal) := by
  unfold Tile.mid
  pointwise
  rw [spread_apply, hhTN_apply, H.dec1, H.c, H.join]
  simp only [bot_apply, rnd_eq, H.ob, H.qd, ← EReal.coe_mul, ← coe_sum, ← EReal.coe_add]; rfl
theorem next : T.next (ix2 v k) = (((C 0).prev k v : ℝ) : EReal) := by
  unfold Tile.next
  pointwise
  rw [spread_apply, hhTN_apply, H.dec0, H.mid]
  simp only [top_apply, rnd_eq, H.ob, H.qd, ← EReal.coe_mul, ← coe_sum, ← EReal.coe_add]; rfl
theorem dqd : T.dqd (ix2 (row c t) k) = (((C c).dqd t k : ℝ) : EReal) := by
  unfold Tile.dqd
  pointwise
  rw [mm_apply, cat_apply, hm_apply, hm_apply, sum_row]
  simp only [top_apply, bot_apply, rnd_eq, H.ob, H.ki, H.da, H.st0, H.st1, ← EReal.coe_mul, ← coe_sum]
  rw [sum_one c _ (fun c' t' h => by simp [Ne.symm h])]
  fin_cases c <;> simp [Chunk.dqd]
theorem dki : T.dki (ix2 (row c t) k) = (((C c).dki t k : ℝ) : EReal) := by
  unfold Tile.dki
  rw [mmTN_apply, sum_row]
  simp only [rnd_eq, H.qd, H.da, ← EReal.coe_mul, ← coe_sum]
  rw [sum_one c _ (fun c' t' h => by simp [h])]
  simp [Chunk.dki]
theorem di : T.di (ix2 (row c t) k) = (((C c).di t k : ℝ) : EReal) := by
  unfold Tile.di
  pointwise
  rw [mmTN_apply, cat_apply, hmNT_apply, hmNT_apply, sum_row]
  simp only [top_apply, bot_apply, rnd_eq, H.ob, H.ke, H.a, H.mid, H.c, ← EReal.coe_mul, ← coe_sum]
  rw [sum_one c _ (fun c' t' h => by simp [h])]
  fin_cases c <;> simp [Chunk.di]
theorem dke : T.dke (ix2 (row c t) k) = (((C c).dke t k : ℝ) : EReal) := by
  unfold Tile.dke
  rw [cat_apply, hm_apply, hm_apply]
  simp only [top_apply, bot_apply, rnd_eq, H.ix, H.mid, H.c, ← EReal.coe_mul, ← coe_sum]
  fin_cases c <;> simp [Chunk.dke]
theorem gke : T.gke (ix2 (row c t) k) = (((C c).gke t k : ℝ) : EReal) := by
  unfold Tile.gke; pointwise; rw [H.dke, H.ke]; norm_cast
theorem dbend0 : T.dbend0 (ix2 0 k) = (((C 0).dbend k : ℝ) : EReal) := by
  unfold Tile.dbend0
  pointwise
  rw [halfSum_apply, colSum_apply, H.dec0]
  pointwise
  simp only [top_apply, H.gke, H.mid, H.st0, ← EReal.coe_mul, ← coe_sum, ← EReal.coe_add]; rfl
theorem dbend1 : T.dbend1 (ix2 0 k) = (((C 1).dbend k : ℝ) : EReal) := by
  unfold Tile.dbend1
  pointwise
  rw [halfSum_apply, colSum_apply, H.dec1]
  pointwise
  simp only [bot_apply, H.gke, H.c, H.st1, ← EReal.coe_mul, ← coe_sum, ← EReal.coe_add]; rfl
theorem db : T.db (ix2 (row c t) k) = (((C c).db t k : ℝ) : EReal) := by
  unfold Tile.db
  pointwise
  rw [H.dqd, H.qd, H.dki, H.ki, H.gke, spread_apply, spread_apply, again_eq, again_eq, H.dbend0, H.dbend1, zero_apply, rowNo_63,
    rowNo_127]
  simp only [← EReal.coe_mul, ← EReal.coe_sub]
  unfold Chunk.db
  match c with
  | 0 => by_cases h : t = 63 <;> simp [h, Scalar.select]
  | 1 => by_cases h : t = 63 <;> simp [h, Scalar.select]
theorem dlogf : T.dlogf (ix2 (row c t) k) = (((C c).dlogf t k : ℝ) : EReal) := by
  unfold Tile.dlogf
  rw [mm_apply, sum_row]
  have e : ∀ c' t', ((select anti (one (F := Ideal)) (zero (F := Ideal)) : FVec Ideal S128x128 .f32) (ix2 (row c t) (row c' t')) : EReal) * T.db (ix2 (row c' t') k)
      = ((if c = c' ∧ t ≤ t' then (C c').db t' k else 0 : ℝ) : EReal) := fun c' t' => by
    rw [H.db]; pointwise; rw [anti_apply, one_apply, zero_apply]
    split_ifs <;> simp [Scalar.select]
  simp only [e, ← coe_sum, sum_causal']; rfl
theorem dforget : T.dforget (ix2 (row c t) k) = (((C c).dforget t k : ℝ) : EReal) := by
  unfold Tile.dforget
  pointwise
  rw [H.dlogf, H.forget, H.dki, H.emb, H.dke, H.eend, Ideal.div_coe ((C c).forget_ne t k (H.proper c))]
  simp only [← EReal.coe_mul, ← EReal.coe_add, ← EReal.coe_sub, mul_one_div]; rfl
theorem outQ : T.outQ (ix2 (row c t) k) = (((C c).gq t k : ℝ) : EReal) := by
  unfold Tile.outQ
  rw [rnd_eq]; pointwise [one]
  rw [H.dqd, H.eb, H.sq, H.qx]; norm_cast
theorem outF : T.outF (ix2 (row c t) k) = (((C c).gf t k : ℝ) : EReal) := by
  unfold Tile.outF
  rw [rnd_eq]; pointwise [one]
  rw [H.dforget, H.rest c, H.sg]; norm_cast
theorem outI : T.outI (ix2 (row c t) k) = (((C c).di t k : ℝ) : EReal) := H.di c t k
theorem outLb (old : FVec Ideal S1x128 .f32) (x : ℝ) (hx : old (ix2 0 k) = (x : EReal)) :
    T.outLb old (ix2 0 k) = ((x + ((C 0).glb k + (C 1).glb k) : ℝ) : EReal) := by
  unfold Tile.outLb
  rw [again_eq]; pointwise; rw [hx, colSum_apply, sum_row]
  pointwise [one]
  simp only [H.dforget, H.sg, Fin.sum_univ_two]
  norm_cast
theorem outC : T.outC (ix3 0 v k) = (((C 0).prev k v : ℝ) : EReal) := by
  pointwise [Tile.outC]; exact H.next k v
end Lifts

end Cert.KernelIdeal.Chain
-- ==== Proof.Block.lean ====
/- One grid point at real inputs: the block's four chunks of each head, and what the point's stores hold. -/
module

public import proofs.«01_k».proof.Proof.Store
public import proofs.«01_k».proof.Proof.Lift

@[expose] public section

noncomputable section

namespace Cert.KernelIdeal.Chain

open Idealize.ShloMosaic Idealize.ShloMosaic.TcCoe Idealize.SL.Sem Cert.KernelIdeal.Gen

/-- Position `t` of chunk `j` of a block, the column of lane `k` of head `h` in part `p`, and chunk `c` of row tile `g`. -/
def brow (j : Fin 4) (t : Fin 64) : Fin 256 := ⟨64 * j.val + t.val, by omega⟩
def col (p : Fin 3) (h : Fin 4) (k : Fin 128) : Fin 1536 := ⟨512 * p.val + 128 * h.val + k.val, by omega⟩
def jn (g c : Fin 2) : Fin 4 := ⟨2 * g.val + c.val, by omega⟩

/-- The point's inputs are real, and the chunks' states and cotangents are chained within the block. -/
structure Given (A : Args Ideal) (cs : Fin 4 → FVec Ideal S128x128 .f32) (Ch : Fin 4 → Fin 4 → Cert.Chunk) : Prop where
  q : ∀ j h t k, A.x0 (ix2 (brow j t) (lane h k)) = (((Ch j h).q t k : ℝ) : EReal)
  f : ∀ j h t k, A.x1 (ix2 (brow j t) (lane h k)) = (((Ch j h).f t k : ℝ) : EReal)
  i : ∀ j h t k, A.x2 (ix2 (brow j t) (lane h k)) = (((Ch j h).i t k : ℝ) : EReal)
  o : ∀ j h t k, A.x5 (ix2 (brow j t) (lane h k)) = (((Ch j h).o t k : ℝ) : EReal)
  lb : ∀ j h k, A.lbs (ix2 0 (lane h k)) = (((Ch j h).lb k : ℝ) : EReal)
  s : ∀ j h v k, A.x4 (ix4 j h v k) = (((Ch j h).S v k : ℝ) : EReal)
  c : ∀ h v k, cs h (ix2 v k) = (((Ch 3 h).D v k : ℝ) : EReal)
  join2 : ∀ h v k, (Ch 2 h).D v k = (Ch 3 h).prev k v
  join1 : ∀ h v k, (Ch 1 h).D v k = (Ch 2 h).prev k v
  join0 : ∀ h v k, (Ch 0 h).D v k = (Ch 1 h).prev k v
  proper : ∀ j h, (Ch j h).Proper

theorem load_tile {e : EltTy} (arg : Memref sig .tc .vmem S256x512 e) (harg : arg.IsWhole) (x : Vec Ideal S256x512 e)
    (g c : Fin 2) (h : Fin 4) (t : Fin 64) (k : Fin 128) :
    View.readAt (Elt Ideal) arg.view (rIn g h).toLoadRect (harg.unread x) (ix2 (row c t) k) = x (ix2 (brow (jn g c) t) (lane h k)) := by
  rw [View.readAt_eq_ld, harg.read_unread]
  exact View.ld_unit_apply_of x _ _ (fit g h) (ix2 (row c t) k) (ix2 (brow (jn g c) t) (lane h k)) fun a => by
    match a with
    | ⟨0, _⟩ => show 64 * (2 * g.val + c.val) + t.val = 128 * g.val + (64 * c.val + t.val); omega
    | ⟨1, _⟩ => rfl
theorem load_state (arg : Memref sig .tc .vmem S4x4x128x128 .f32) (harg : arg.IsWhole) (x : Vec Ideal S4x4x128x128 .f32)
    (n h : Fin 4) (v k : Fin 128) :
    View.readAt (Elt Ideal) arg.view (rSt n h).toLoadRect (harg.unread x) (ix4 0 0 v k) = x (ix4 n h v k) := by
  rw [View.readAt_eq_ld, harg.read_unread]
  exact View.ld_unit_apply_of x _ _ (fitS n h) (ix4 0 0 v k) (ix4 n h v k) fun a => by
    match a with
    | ⟨0, _⟩ => show n.val = n.val + 0; omega
    | ⟨1, _⟩ => show h.val = h.val + 0; omega
    | ⟨2, _⟩ => show v.val = 0 + v.val; omega
    | ⟨3, _⟩ => show k.val = 0 + k.val; omega
theorem load_logits (arg : Memref sig .tc .vmem S2x512 .f32) (harg : arg.IsWhole) (x : Vec Ideal S2x512 .f32) (n : Fin 2) (l : Fin 512) :
    View.readAt (Elt Ideal) arg.view (rLog n).toLoadRect (harg.unread x) (ix2 0 l) = x (ix2 n l) := by
  rw [View.readAt_eq_ld, harg.read_unread]
  exact View.ld_unit_apply_of x _ _ (fitL n) (ix2 0 l) (ix2 n l) fun a => by
    match a with
    | ⟨0, _⟩ => show n.val = n.val + 0; omega
    | ⟨1, _⟩ => show l.val = 0 + l.val; omega

theorem soft_apply (x y : Vec Ideal S1x512 .f32) (l : Fin 512) (a b : ℝ) (hx : x (ix2 0 l) = (a : EReal)) (hy : y (ix2 0 l) = (b : EReal)) :
    soft x y (ix2 0 l) = ((softR a b : ℝ) : EReal) := by
  have hm : max (a : EReal) (b : EReal) = ((max a b : ℝ) : EReal) :=
    (EReal.coe_strictMono.monotone.map_max (a := a) (b := b)).symm
  pointwise [soft]
  rw [hx, hy]
  simp only [hm, ← EReal.coe_sub, Ideal.exp_coe, ← EReal.coe_add]
  rw [Ideal.div_coe (by positivity), ← EReal.coe_mul, softR]
  congr 1; ring

theorem lbs_apply (A : Args Ideal) (l : Fin 512) (a b : ℝ) (hx : A.x3 (ix2 0 l) = (a : EReal)) (hy : A.x3 (ix2 1 l) = (b : EReal)) :
    A.lbs (ix2 0 l) = ((softR a b : ℝ) : EReal) :=
  soft_apply _ _ l a b ((load_logits _ _ _ 0 l).trans hx) ((load_logits _ _ _ 1 l).trans hy)

namespace Given
variable {A : Args Ideal} {cs : Fin 4 → FVec Ideal S128x128 .f32} {Ch : Fin 4 → Fin 4 → Cert.Chunk} (H : Given A cs Ch)
include H

theorem tile_lifts (g : Fin 2) (h : Fin 4) (c : FVec Ideal S128x128 .f32)
    (hc : ∀ v k, c (ix2 v k) = (((Ch (jn g 1) h).D v k : ℝ) : EReal)) (hj : ∀ v k, (Ch (jn g 0) h).D v k = (Ch (jn g 1) h).prev k v) :
    Lifts (A.tile g h c) (fun d => Ch (jn g d) h) where
  q d t k := (load_tile _ _ _ g d h t k).trans (H.q _ h t k)
  f d t k := (load_tile _ _ _ g d h t k).trans (H.f _ h t k)
  i d t k := (load_tile _ _ _ g d h t k).trans (H.i _ h t k)
  o d t k := (load_tile _ _ _ g d h t k).trans (H.o _ h t k)
  lb d k := by
    rw [← H.lb (jn g d) h k]
    show extractStridedSlice S1x128 ![0, 128 * h.val] A.lbs (fitLb h) (ix2 0 k) = _
    refine congrArg A.lbs (funext fun a => Fin.ext ?_)
    match a with
    | ⟨0, _⟩ => rfl
    | ⟨1, _⟩ => rfl
  s0 v k := (load_state _ _ _ _ h v k).trans (H.s _ h v k)
  s1 v k := (load_state _ _ _ _ h v k).trans (H.s _ h v k)
  c := hc
  join := hj
  proper d := H.proper _ h

theorem lifts (g : Fin 2) (h : Fin 4) : Lifts (A.chain cs g h) (fun d => Ch (jn g d) h) := by
  have h1 := H.tile_lifts 1 h (cs h) (H.c h) (H.join2 h)
  match g with
  | 1 => exact h1
  | 0 => exact H.tile_lifts 0 h _ (fun v k => (h1.next k v).trans (congrArg (fun r : ℝ => (r : EReal)) (H.join1 h v k).symm)) (H.join0 h)

/-- The gradients of the block. -/
theorem outs (j : Fin 4) (t : Fin 64) (p : Fin 3) (h : Fin 4) (k : Fin 128) :
    View.canon (A.pieces cs) (ix2 (brow j t) (col p h k)) =
      (((match p with | 0 => (Ch j h).gq t k | 1 => (Ch j h).gf t k | 2 => (Ch j h).di t k : ℝ)) : EReal) := by
  obtain ⟨g, d, rfl⟩ : ∃ g d : Fin 2, jn g d = j := by revert j; decide
  rw [canon_pieces A cs _ p g h (row d t) k (by show 64 * (2 * g.val + d.val) + t.val = 128 * g.val + (64 * d.val + t.val); omega) rfl]
  match p with
  | 0 => exact (H.lifts g h).outQ d t k
  | 1 => exact (H.lifts g h).outF d t k
  | 2 => exact (H.lifts g h).outI d t k

/-- The cotangents left for the point that follows. -/
theorem carried (L : List (View.Piece (Elt Ideal) S4x128x128 .f32)) (h : Fin 4) (v k : Fin 128) :
    View.canon (A.piecesC cs ++ L) (ix3 h v k) = (((Ch 0 h).prev k v : ℝ) : EReal) := by
  rw [canon_piecesC]; exact (H.lifts 0 h).outC k v

/-- The sums for the gradient of the lower bounds. -/
theorem sums (arg10 : Memref sig .tc .vmem S1x512 .f32) (L : List (View.Piece (Elt Ideal) S1x512 .f32))
    (hc : ∀ y : S1x512.Idx, ∃ q ∈ L, y ∈ q.1.set) (h : Fin 4) (k : Fin 128) (old : FVec Ideal S1x128 .f32) (x : ℝ)
    (hx : old (ix2 0 k) = (x : EReal)) (hL : View.canon L (ix2 0 (lane h k)) = (A.chain cs 0 h).outLb old (ix2 0 k)) :
    View.canon (lbNext arg10 A cs L) (ix2 0 (lane h k)) =
      ((x + ((Ch 0 h).glb k + (Ch 1 h).glb k) + ((Ch 2 h).glb k + (Ch 3 h).glb k) : ℝ) : EReal) := by
  obtain ⟨old', e, e'⟩ := canon_lbNext A cs arg10 L hc h k
  rw [e']
  rw [hL, (H.lifts 0 h).outLb k old x hx] at e
  exact (H.lifts 1 h).outLb k old' _ e

end Given

end Cert.KernelIdeal.Chain
-- ==== Proof.Grid.lean ====
/- The sixteen grid points in turn, at real inputs: what each point leaves in the carried buffers and stores. -/
module

public import proofs.«01_k».proof.Proof.Block

@[expose] public section

noncomputable section

namespace Cert.KernelIdeal.Chain

open Idealize.ShloMosaic Idealize.ShloMosaic.TcCoe Idealize.SL.Sem Cert.KernelIdeal.Gen

variable (m : (ℓ : Loc nD τ sig) → Buf (Elt Ideal) ℓ) (c : Dev nD) (X : Data)

/-- The arrays that the call takes are real. -/
structure RealIn : Prop where
  p : ∀ r l, (V m c main_v377 : S4096x2048.Idx → EReal) (ix2 r l) = ((X.P r l : ℝ) : EReal)
  f : ∀ r l, (V m c main_v378 : S4096x512.Idx → EReal) (ix2 r l) = ((X.P r (part 1 l) : ℝ) : EReal)
  g : ∀ r l, (V m c main_arg1 : S2x512.Idx → EReal) (ix2 r l) = ((X.G r l : ℝ) : EReal)
  s : ∀ n h v k, (V m c main_v376 : S64x4x128x128.Idx → EReal) (ix4 n h v k) = ((X.st h n.val v k : ℝ) : EReal)
  o : ∀ r l, (V m c main_arg2 : S4096x512.Idx → EReal) (ix2 r l) = ((X.O r l : ℝ) : EReal)

/-- Chunk `j` of the block of point `t`. -/
def bn (t : ℕ) (j : Fin 4) : Fin 64 := chunkNo (60 - 4 * t + j.val)
theorem bn_val (t : ℕ) (ht : t < 16) (j : Fin 4) : (bn t j).val = 60 - 4 * t + j.val := by
  show (60 - 4 * t + j.val) % 64 = _; omega

theorem idx : ∀ t : Fin cfg0.N, win0_0.index t = ![15 - t.val, 0] ∧ win0_1.index t = ![15 - t.val, 0] ∧ win0_2.index t = ![15 - t.val, 2]
    ∧ win0_3.index t = ![0, 0] ∧ win0_4.index t = ![15 - t.val, 0, 0, 0] ∧ win0_5.index t = ![15 - t.val, 0] ∧ win0_6.index t = ![15 - t.val, 0] :=
  (by decide +kernel : ∀ t : Fin grid0.N, win0_0.index t = ![15 - t.val, 0] ∧ win0_1.index t = ![15 - t.val, 0] ∧ win0_2.index t = ![15 - t.val, 2]
    ∧ win0_3.index t = ![0, 0] ∧ win0_4.index t = ![15 - t.val, 0, 0, 0] ∧ win0_5.index t = ![15 - t.val, 0] ∧ win0_6.index t = ![15 - t.val, 0])

theorem lt16 (t : Fin cfg0.N) : t.val < 16 := lt_of_lt_of_eq t.isLt (show cfg0.N = 16 from N_0)

section Blocks
variable (t : Fin cfg0.N) (j : Fin 4) (u : Fin 64) (l : Fin 512)
theorem blk0 : (iblk m c 0 t : S256x512.Idx → EReal) (ix2 (brow j u) l) = (V m c main_v377 : S4096x2048.Idx → EReal) (ix2 (pos (bn t.val j) u) (part 0 l)) := by
  have hb := bn_val t.val (lt16 t) j
  have ht := lt16 t
  have e0 : (brow j u).val = 64 * j.val + u.val := rfl
  have e1 : (pos (bn t.val j) u).val = 64 * (bn t.val j).val + u.val := rfl
  have e2 : (part 0 l).val = l.val := by show 512 * 0 + l.val = l.val; omega
  blk_ext [iblk, idx t]
theorem blk1 : (iblk m c 1 t : S256x512.Idx → EReal) (ix2 (brow j u) l) = (V m c main_v378 : S4096x512.Idx → EReal) (ix2 (pos (bn t.val j) u) l) := by
  have hb := bn_val t.val (lt16 t) j
  have ht := lt16 t
  have e0 : (brow j u).val = 64 * j.val + u.val := rfl
  have e1 : (pos (bn t.val j) u).val = 64 * (bn t.val j).val + u.val := rfl
  blk_ext [iblk, idx t]
theorem blk2 : (iblk m c 2 t : S256x512.Idx → EReal) (ix2 (brow j u) l) = (V m c main_v377 : S4096x2048.Idx → EReal) (ix2 (pos (bn t.val j) u) (part 2 l)) := by
  have hb := bn_val t.val (lt16 t) j
  have ht := lt16 t
  have e0 : (brow j u).val = 64 * j.val + u.val := rfl
  have e1 : (pos (bn t.val j) u).val = 64 * (bn t.val j).val + u.val := rfl
  have e2 : (part 2 l).val = 1024 + l.val := by show 512 * 2 + l.val = 1024 + l.val; omega
  blk_ext [iblk, idx t]
theorem blk3 (n : Fin 2) : (iblk m c 3 t : S2x512.Idx → EReal) (ix2 n l) = (V m c main_arg1 : S2x512.Idx → EReal) (ix2 n l) := by
  blk_ext [iblk, idx t]
theorem blk4 (h : Fin 4) (v k : Fin 128) : (iblk m c 4 t : S4x4x128x128.Idx → EReal) (ix4 j h v k) = (V m c main_v376 : S64x4x128x128.Idx → EReal) (ix4 (bn t.val j) h v k) := by
  have hb := bn_val t.val (lt16 t) j
  have ht := lt16 t
  blk_ext [iblk, idx t]
theorem blk5 : (iblk m c 5 t : S256x512.Idx → EReal) (ix2 (brow j u) l) = (V m c main_arg2 : S4096x512.Idx → EReal) (ix2 (pos (bn t.val j) u) l) := by
  have hb := bn_val t.val (lt16 t) j
  have ht := lt16 t
  have e0 : (brow j u).val = 64 * j.val + u.val := rfl
  have e1 : (pos (bn t.val j) u).val = 64 * (bn t.val j).val + u.val := rfl
  blk_ext [iblk, idx t]
end Blocks

/-- The inputs of point `t`. -/
def argsAt (t : Fin cfg0.N) : Args Ideal :=
  Args.mk (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

variable {m c X} (R : RealIn m c X)
include R

theorem RealIn.x0 (t : Fin cfg0.N) (j : Fin 4) (u : Fin 64) (l : Fin 512) :
    (argsAt m c t).x0 (ix2 (brow j u) l) = ((X.P (pos (bn t.val j) u) (part 0 l) : ℝ) : EReal) := by
  rw [← R.p]; exact blk0 m c t j u l
theorem RealIn.x1 (t : Fin cfg0.N) (j : Fin 4) (u : Fin 64) (l : Fin 512) :
    (argsAt m c t).x1 (ix2 (brow j u) l) = ((X.P (pos (bn t.val j) u) (part 1 l) : ℝ) : EReal) := by
  rw [← R.f]; exact blk1 m c t j u l
theorem RealIn.x2 (t : Fin cfg0.N) (j : Fin 4) (u : Fin 64) (l : Fin 512) :
    (argsAt m c t).x2 (ix2 (brow j u) l) = ((X.P (pos (bn t.val j) u) (part 2 l) : ℝ) : EReal) := by
  rw [← R.p]; exact blk2 m c t j u l
theorem RealIn.x3 (t : Fin cfg0.N) (n : Fin 2) (l : Fin 512) :
    (argsAt m c t).x3 (ix2 n l) = ((X.G n l : ℝ) : EReal) := by
  rw [← R.g]; exact blk3 m c t l n
theorem RealIn.x4 (t : Fin cfg0.N) (j h : Fin 4) (v k : Fin 128) :
    (argsAt m c t).x4 (ix4 j h v k) = ((X.st h (bn t.val j).val v k : ℝ) : EReal) := by
  rw [← R.s]; exact blk4 m c t j h v k
theorem RealIn.x5 (t : Fin cfg0.N) (j : Fin 4) (u : Fin 64) (l : Fin 512) :
    (argsAt m c t).x5 (ix2 (brow j u) l) = ((X.O (pos (bn t.val j) u) l : ℝ) : EReal) := by
  rw [← R.o]; exact blk5 m c t j u l

theorem RealIn.lbs (t : Fin cfg0.N) (l : Fin 512) : (argsAt m c t).lbs (ix2 0 l) = ((X.lbv l : ℝ) : EReal) :=
  lbs_apply _ l _ _ (R.x3 t 0 l) (R.x3 t 1 l)

/-- A point whose incoming cotangents are the sequence's is given real inputs. -/
theorem RealIn.given (t : Fin cfg0.N) (cs : Fin 4 → FVec Ideal S128x128 .f32)
    (hc : ∀ h v k, cs h (ix2 v k) = ((X.ct h (4 * t.val) v k : ℝ) : EReal)) :
    Given (argsAt m c t) cs (fun j h => X.chunk (bn t.val j) h) := by
  have ht := lt16 t
  have link : ∀ (i j : Fin 4) (_ : j.val = i.val + 1) (h : Fin 4) (v k : Fin 128),
      (X.chunk (bn t.val i) h).D v k = (X.chunk (bn t.val j) h).prev k v := by
    intro i j hij h v k
    rw [Data.prev_eq]
    show X.ct h (63 - (bn t.val i).val) v k = _
    rw [bn_val _ ht, bn_val _ ht, show 63 - (60 - 4 * t.val + i.val) = 64 - (60 - 4 * t.val + j.val) by omega]
  exact
    { q := fun j h u k => R.x0 t j u (lane h k)
      f := fun j h u k => R.x1 t j u (lane h k)
      i := fun j h u k => R.x2 t j u (lane h k)
      o := fun j h u k => R.x5 t j u (lane h k)
      lb := fun j h k => R.lbs t (lane h k)
      s := fun j h v k => R.x4 t j h v k
      c := fun h v k => by
        rw [hc]
        show _ = ((X.ct h (63 - (bn t.val 3).val) v k : ℝ) : EReal)
        rw [bn_val _ ht]
        have e : 63 - (60 - 4 * t.val + (3 : Fin 4).val) = 4 * t.val := by show 63 - (60 - 4 * t.val + 3) = _; omega
        rw [e]
      join2 := link 2 3 rfl
      join1 := link 1 2 rfl
      join0 := link 0 1 rfl
      proper := fun j h => X.proper _ _ }

end Cert.KernelIdeal.Chain
-- ==== Proof.Window.lean ====
/- Running sums along one axis, over the extended reals. -/
module

public import Idealize.ShloMosaic.Lib.Pointwise
public import Idealize.ShloMosaic.Lib.IdealHost
public import Idealize.ShloMosaic.Lib.ValueIdx

@[expose] public section

noncomputable section

namespace Cert

open Idealize.ShloMosaic
open scoped BigOperators

/-- A window's sum is the sum over the window's positions, positions outside the array counting nothing. -/
theorem window_sum {s t u : Shape} (w st lo hi : Fin s.rank → ℕ) (x : s.Idx → EReal) (init : u.Idx → EReal)
    (h : s.ReduceWindows w st lo hi t) (hu : 0 < u.numel) (h0 : init (Shape.Idx.first hu) = 0) (j : t.Idx) :
    Host.reduceWindowAdd (F := Ideal) (φ := .f32) w st lo hi x init h hu j
      = ∑ i : (⟨s.rank, w⟩ : Shape).Idx,
          if hin : ∀ a, lo a ≤ (j (a.cast h.1.symm)).val * st a + (i a).val ∧ (j (a.cast h.1.symm)).val * st a + (i a).val - lo a < s.size a
          then x (fun a => ⟨(j (a.cast h.1.symm)).val * st a + (i a).val - lo a, (hin a).2⟩) else (0 : EReal) := by
  show Host.reduceWindow (fun a b : EReal => a + b) w st lo hi x init h hu j = _
  unfold Host.reduceWindow
  simp only [h0]
  have key : ∀ (l : List (Fin (⟨s.rank, w⟩ : Shape).numel)) (f : Fin (⟨s.rank, w⟩ : Shape).numel → EReal) (a : EReal),
      l.foldl (fun r n => r + f n) a = a + (l.map f).sum := by
    intro l f
    induction l with
    | nil => intro a; simp
    | cons b l ih => intro a; simp [ih, add_assoc]
  rw [key, zero_add, ← Fin.sum_univ_def]
  exact Equiv.sum_comp (⟨s.rank, w⟩ : Shape).rowMajor.symm (fun i : (⟨s.rank, w⟩ : Shape).Idx =>
    if hin : ∀ a, lo a ≤ (j (a.cast h.1.symm)).val * st a + (i a).val ∧ (j (a.cast h.1.symm)).val * st a + (i a).val - lo a < s.size a
    then x (fun a => ⟨(j (a.cast h.1.symm)).val * st a + (i a).val - lo a, (hin a).2⟩) else (0 : EReal))

/-- The positions of a window that is long on its middle axis only, and of one on its first of two axes. -/
def mid5 (n : ℕ) : Fin n ≃ (⟨5, ![1, 1, n, 1, 1]⟩ : Shape).Idx where
  toFun u := ix5 (0 : Fin 1) (0 : Fin 1) u (0 : Fin 1) (0 : Fin 1)
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
def mid4 (n : ℕ) : Fin n ≃ (⟨4, ![1, n, 1, 1]⟩ : Shape).Idx where
  toFun u := ix4 (0 : Fin 1) u (0 : Fin 1) (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
def top2 (n : ℕ) : Fin n ≃ (⟨2, ![n, 1]⟩ : Shape).Idx where
  toFun u := ix2 u (0 : Fin 1)
  invFun i := i 0
  left_inv _ := rfl
  right_inv i := by
    funext a
    match a with
    | ⟨0, _⟩ => rfl
    | ⟨1, _⟩ => exact Subsingleton.elim (α := Fin 1) _ _

theorem turn (t : Fin 64) (f : Fin 64 → EReal) :
    (∑ u : Fin 64, if h : 63 ≤ t.val + u.val then f ⟨t.val + u.val - 63, by omega⟩ else 0) = ∑ s, if s ≤ t then f s else 0 := by
  refine Finset.sum_equiv (Equiv.addRight (t + 1)) (fun _ => by simp) fun u _ => ?_
  have e : (Equiv.addRight (t + 1) u).val = (u.val + (t.val + 1)) % 64 := by
    show (u + (t + 1)).val = _
    rw [Fin.val_add, Fin.val_add]; simp
  by_cases h : 63 ≤ t.val + u.val
  · have e2 : Equiv.addRight (t + 1) u = ⟨t.val + u.val - 63, by omega⟩ := Fin.ext (by rw [e]; show _ = t.val + u.val - 63; omega)
    rw [dif_pos h, e2, if_pos]
    show t.val + u.val - 63 ≤ t.val; omega
  · rw [dif_neg h, if_neg]
    intro hle
    have : (Equiv.addRight (t + 1) u).val ≤ t.val := hle
    rw [e] at this; omega
theorem turnBack (t : Fin 64) (f : Fin 64 → EReal) :
    (∑ u : Fin 64, if h : t.val + u.val < 64 then f ⟨t.val + u.val, h⟩ else 0) = ∑ s, if t ≤ s then f s else 0 := by
  refine Finset.sum_equiv (Equiv.addRight t) (fun _ => by simp) fun u _ => ?_
  have e : (Equiv.addRight t u).val = (u.val + t.val) % 64 := by
    show (u + t).val = _
    rw [Fin.val_add]
  by_cases h : t.val + u.val < 64
  · have e2 : Equiv.addRight t u = ⟨t.val + u.val, h⟩ := Fin.ext (by rw [e]; show _ = t.val + u.val; omega)
    rw [dif_pos h, e2, if_pos]
    show t.val ≤ t.val + u.val; omega
  · rw [dif_neg h, if_neg]
    intro hle
    have : t.val ≤ (Equiv.addRight t u).val := hle
    rw [e] at this; omega

/-- The running sum over a chunk's positions, forwards and backwards. -/
theorem run_sum (x : (⟨5, ![1, 64, 64, 4, 128]⟩ : Shape).Idx → EReal) (init : (⟨0, ![]⟩ : Shape).Idx → EReal) (h hu)
    (h0 : init ix0 = 0) (n t : Fin 64) (a : Fin 4) (k : Fin 128) :
    Host.reduceWindowAdd (F := Ideal) (φ := .f32) (t := ⟨5, ![1, 64, 64, 4, 128]⟩) ![1, 1, 64, 1, 1] ![1, 1, 1, 1, 1] ![0, 0, 63, 0, 0] ![0, 0, 0, 0, 0] x init h hu
        (ix5 (0 : Fin 1) n t a k)
      = ∑ s, if s ≤ t then x (ix5 0 n s a k) else 0 := by
  rw [window_sum _ _ _ _ _ _ _ _ ((congrArg init (funext fun a => a.elim0)).trans h0), ← turn t (fun s => x (ix5 0 n s a k))]
  refine ((Equiv.sum_comp (mid5 64) _).symm).trans (Finset.sum_congr rfl fun u _ => ?_)
  by_cases hc : 63 ≤ t.val + u.val
  · have hin : ∀ b : Fin 5, (![0, 0, 63, 0, 0] : Fin 5 → ℕ) b ≤ ((ix5 (0 : Fin 1) n t a k : (⟨5, ![1, 64, 64, 4, 128]⟩ : Shape).Idx) b).val * (![1, 1, 1, 1, 1] : Fin 5 → ℕ) b + (mid5 64 u b).val
        ∧ ((ix5 (0 : Fin 1) n t a k : (⟨5, ![1, 64, 64, 4, 128]⟩ : Shape).Idx) b).val * (![1, 1, 1, 1, 1] : Fin 5 → ℕ) b + (mid5 64 u b).val - (![0, 0, 63, 0, 0] : Fin 5 → ℕ) b < (![1, 64, 64, 4, 128] : Fin 5 → ℕ) b := by
      intro b
      match b with
      | ⟨0, _⟩ => exact ⟨Nat.zero_le _, (by decide : 0 * 1 + 0 - 0 < 1)⟩
      | ⟨1, _⟩ => exact ⟨Nat.zero_le _, (by omega : n.val * 1 + 0 - 0 < 64)⟩
      | ⟨2, _⟩ => exact ⟨(by omega : 63 ≤ t.val * 1 + u.val), (by omega : t.val * 1 + u.val - 63 < 64)⟩
      | ⟨3, _⟩ => exact ⟨Nat.zero_le _, (by omega : a.val * 1 + 0 - 0 < 4)⟩
      | ⟨4, _⟩ => exact ⟨Nat.zero_le _, (by omega : k.val * 1 + 0 - 0 < 128)⟩
    rw [dif_pos hc]
    refine (dif_pos hin).trans (congrArg x (funext fun b => Fin.ext ?_))
    match b with
    | ⟨0, _⟩ => rfl
    | ⟨1, _⟩ => show n.val * 1 + 0 - 0 = n.val; omega
    | ⟨2, _⟩ => show t.val * 1 + u.val - 63 = t.val + u.val - 63; omega
    | ⟨3, _⟩ => show a.val * 1 + 0 - 0 = a.val; omega
    | ⟨4, _⟩ => show k.val * 1 + 0 - 0 = k.val; omega
  · rw [dif_neg hc]
    refine dif_neg fun hin => hc ?_
    have h2 : 63 ≤ t.val * 1 + u.val := (hin (2 : Fin 5)).1
    omega
theorem run_sum_back (x : (⟨5, ![1, 64, 64, 4, 128]⟩ : Shape).Idx → EReal) (init : (⟨0, ![]⟩ : Shape).Idx → EReal) (h hu)
    (h0 : init ix0 = 0) (n t : Fin 64) (a : Fin 4) (k : Fin 128) :
    Host.reduceWindowAdd (F := Ideal) (φ := .f32) (t := ⟨5, ![1, 64, 64, 4, 128]⟩) ![1, 1, 64, 1, 1] ![1, 1, 1, 1, 1] ![0, 0, 0, 0, 0] ![0, 0, 63, 0, 0] x init h hu
        (ix5 (0 : Fin 1) n t a k)
      = ∑ s, if t ≤ s then x (ix5 0 n s a k) else 0 := by
  rw [window_sum _ _ _ _ _ _ _ _ ((congrArg init (funext fun a => a.elim0)).trans h0), ← turnBack t (fun s => x (ix5 0 n s a k))]
  refine ((Equiv.sum_comp (mid5 64) _).symm).trans (Finset.sum_congr rfl fun u _ => ?_)
  by_cases hc : t.val + u.val < 64
  · have hin : ∀ b : Fin 5, (![0, 0, 0, 0, 0] : Fin 5 → ℕ) b ≤ ((ix5 (0 : Fin 1) n t a k : (⟨5, ![1, 64, 64, 4, 128]⟩ : Shape).Idx) b).val * (![1, 1, 1, 1, 1] : Fin 5 → ℕ) b + (mid5 64 u b).val
        ∧ ((ix5 (0 : Fin 1) n t a k : (⟨5, ![1, 64, 64, 4, 128]⟩ : Shape).Idx) b).val * (![1, 1, 1, 1, 1] : Fin 5 → ℕ) b + (mid5 64 u b).val - (![0, 0, 0, 0, 0] : Fin 5 → ℕ) b < (![1, 64, 64, 4, 128] : Fin 5 → ℕ) b := by
      intro b
      match b with
      | ⟨0, _⟩ => exact ⟨Nat.zero_le _, (by decide : 0 * 1 + 0 - 0 < 1)⟩
      | ⟨1, _⟩ => exact ⟨Nat.zero_le _, (by omega : n.val * 1 + 0 - 0 < 64)⟩
      | ⟨2, _⟩ => exact ⟨Nat.zero_le _, (by omega : t.val * 1 + u.val - 0 < 64)⟩
      | ⟨3, _⟩ => exact ⟨Nat.zero_le _, (by omega : a.val * 1 + 0 - 0 < 4)⟩
      | ⟨4, _⟩ => exact ⟨Nat.zero_le _, (by omega : k.val * 1 + 0 - 0 < 128)⟩
    rw [dif_pos hc]
    refine (dif_pos hin).trans (congrArg x (funext fun b => Fin.ext ?_))
    match b with
    | ⟨0, _⟩ => rfl
    | ⟨1, _⟩ => show n.val * 1 + 0 - 0 = n.val; omega
    | ⟨2, _⟩ => show t.val * 1 + u.val - 0 = t.val + u.val; omega
    | ⟨3, _⟩ => show a.val * 1 + 0 - 0 = a.val; omega
    | ⟨4, _⟩ => show k.val * 1 + 0 - 0 = k.val; omega
  · rw [dif_neg hc]
    refine dif_neg fun hin => hc ?_
    have h2 : t.val * 1 + u.val - 0 < 64 := (hin (2 : Fin 5)).2
    omega

/-- The forward sum where the chunks are the outermost axis. -/
theorem run_sum4 (x : (⟨4, ![64, 64, 4, 128]⟩ : Shape).Idx → EReal) (init : (⟨0, ![]⟩ : Shape).Idx → EReal) (h hu)
    (h0 : init ix0 = 0) (n t : Fin 64) (a : Fin 4) (k : Fin 128) :
    Host.reduceWindowAdd (F := Ideal) (φ := .f32) (t := ⟨4, ![64, 64, 4, 128]⟩) ![1, 64, 1, 1] ![1, 1, 1, 1] ![0, 63, 0, 0] ![0, 0, 0, 0] x init h hu
        (ix4 n t a k)
      = ∑ s, if s ≤ t then x (ix4 n s a k) else 0 := by
  rw [window_sum _ _ _ _ _ _ _ _ ((congrArg init (funext fun a => a.elim0)).trans h0), ← turn t (fun s => x (ix4 n s a k))]
  refine ((Equiv.sum_comp (mid4 64) _).symm).trans (Finset.sum_congr rfl fun u _ => ?_)
  by_cases hc : 63 ≤ t.val + u.val
  · have hin : ∀ b : Fin 4, (![0, 63, 0, 0] : Fin 4 → ℕ) b ≤ ((ix4 n t a k : (⟨4, ![64, 64, 4, 128]⟩ : Shape).Idx) b).val * (![1, 1, 1, 1] : Fin 4 → ℕ) b + (mid4 64 u b).val
        ∧ ((ix4 n t a k : (⟨4, ![64, 64, 4, 128]⟩ : Shape).Idx) b).val * (![1, 1, 1, 1] : Fin 4 → ℕ) b + (mid4 64 u b).val - (![0, 63, 0, 0] : Fin 4 → ℕ) b < (![64, 64, 4, 128] : Fin 4 → ℕ) b := by
      intro b
      match b with
      | ⟨0, _⟩ => exact ⟨Nat.zero_le _, (by omega : n.val * 1 + 0 - 0 < 64)⟩
      | ⟨1, _⟩ => exact ⟨(by omega : 63 ≤ t.val * 1 + u.val), (by omega : t.val * 1 + u.val - 63 < 64)⟩
      | ⟨2, _⟩ => exact ⟨Nat.zero_le _, (by omega : a.val * 1 + 0 - 0 < 4)⟩
      | ⟨3, _⟩ => exact ⟨Nat.zero_le _, (by omega : k.val * 1 + 0 - 0 < 128)⟩
    rw [dif_pos hc]
    refine (dif_pos hin).trans (congrArg x (funext fun b => Fin.ext ?_))
    match b with
    | ⟨0, _⟩ => show n.val * 1 + 0 - 0 = n.val; omega
    | ⟨1, _⟩ => show t.val * 1 + u.val - 63 = t.val + u.val - 63; omega
    | ⟨2, _⟩ => show a.val * 1 + 0 - 0 = a.val; omega
    | ⟨3, _⟩ => show k.val * 1 + 0 - 0 = k.val; omega
  · rw [dif_neg hc]
    refine dif_neg fun hin => hc ?_
    have h2 : 63 ≤ t.val * 1 + u.val := (hin (1 : Fin 4)).1
    omega

/-- The first row of the running sum over two rows, and both rows of the sum run backwards. -/
theorem run_two (x : (⟨2, ![2, 512]⟩ : Shape).Idx → EReal) (init : (⟨0, ![]⟩ : Shape).Idx → EReal) (h hu)
    (h0 : init ix0 = 0) (l : Fin 512) :
    Host.reduceWindowAdd (F := Ideal) (φ := .f32) (t := ⟨2, ![2, 512]⟩) ![2, 1] ![1, 1] ![1, 0] ![0, 0] x init h hu (ix2 (0 : Fin 2) l)
      = x (ix2 0 l) := by
  rw [window_sum _ _ _ _ _ _ _ _ ((congrArg init (funext fun a => a.elim0)).trans h0)]
  refine ((Equiv.sum_comp (top2 2) _).symm).trans ?_
  rw [Fin.sum_univ_two, dif_neg, zero_add, dif_pos]
  · refine congrArg x (funext fun b => Fin.ext ?_)
    match b with
    | ⟨0, _⟩ => rfl
    | ⟨1, _⟩ => show l.val * 1 + 0 - 0 = l.val; omega
  · intro b
    match b with
    | ⟨0, _⟩ => exact ⟨(by decide : 1 ≤ 0 * 1 + 1), (by decide : 0 * 1 + 1 - 1 < 2)⟩
    | ⟨1, _⟩ => exact ⟨Nat.zero_le _, (by omega : l.val * 1 + 0 - 0 < 512)⟩
  · intro hin
    have h2 : 1 ≤ 0 * 1 + 0 := (hin (0 : Fin 2)).1
    omega
theorem run_two_back0 (x : (⟨2, ![2, 512]⟩ : Shape).Idx → EReal) (init : (⟨0, ![]⟩ : Shape).Idx → EReal) (h hu)
    (h0 : init ix0 = 0) (l : Fin 512) :
    Host.reduceWindowAdd (F := Ideal) (φ := .f32) (t := ⟨2, ![2, 512]⟩) ![2, 1] ![1, 1] ![0, 0] ![1, 0] x init h hu (ix2 (0 : Fin 2) l)
      = x (ix2 0 l) + x (ix2 1 l) := by
  rw [window_sum _ _ _ _ _ _ _ _ ((congrArg init (funext fun a => a.elim0)).trans h0)]
  refine ((Equiv.sum_comp (top2 2) _).symm).trans ?_
  rw [Fin.sum_univ_two, dif_pos, dif_pos]
  · congr 1 <;> refine congrArg x (funext fun b => Fin.ext ?_)
    all_goals
      match b with
      | ⟨0, _⟩ => rfl
      | ⟨1, _⟩ => show l.val * 1 + 0 - 0 = l.val; omega
  · intro b
    match b with
    | ⟨0, _⟩ => exact ⟨Nat.zero_le _, (by decide : 0 * 1 + 1 - 0 < 2)⟩
    | ⟨1, _⟩ => exact ⟨Nat.zero_le _, (by omega : l.val * 1 + 0 - 0 < 512)⟩
  · intro b
    match b with
    | ⟨0, _⟩ => exact ⟨Nat.zero_le _, (by decide : 0 * 1 + 0 - 0 < 2)⟩
    | ⟨1, _⟩ => exact ⟨Nat.zero_le _, (by omega : l.val * 1 + 0 - 0 < 512)⟩
theorem run_two_back1 (x : (⟨2, ![2, 512]⟩ : Shape).Idx → EReal) (init : (⟨0, ![]⟩ : Shape).Idx → EReal) (h hu)
    (h0 : init ix0 = 0) (l : Fin 512) :
    Host.reduceWindowAdd (F := Ideal) (φ := .f32) (t := ⟨2, ![2, 512]⟩) ![2, 1] ![1, 1] ![0, 0] ![1, 0] x init h hu (ix2 (1 : Fin 2) l)
      = x (ix2 1 l) := by
  rw [window_sum _ _ _ _ _ _ _ _ ((congrArg init (funext fun a => a.elim0)).trans h0)]
  refine ((Equiv.sum_comp (top2 2) _).symm).trans ?_
  rw [Fin.sum_univ_two, dif_pos, dif_neg, add_zero]
  · refine congrArg x (funext fun b => Fin.ext ?_)
    match b with
    | ⟨0, _⟩ => rfl
    | ⟨1, _⟩ => show l.val * 1 + 0 - 0 = l.val; omega
  · intro hin
    have h2 : 1 * 1 + 1 - 0 < 2 := (hin (0 : Fin 2)).2
    omega
  · intro b
    match b with
    | ⟨0, _⟩ => exact ⟨Nat.zero_le _, (by decide : 1 * 1 + 0 - 0 < 2)⟩
    | ⟨1, _⟩ => exact ⟨Nat.zero_le _, (by omega : l.val * 1 + 0 - 0 < 512)⟩

/-- Sixteen arrays of one state each, one after the other. -/
theorem run_concat {α : Type} (f : Fin 16 → (⟨5, ![1, 1, 4, 128, 128]⟩ : Shape).Idx → α)
    (hc : Shape.Concatenates ((List.ofFn fun n : Fin 16 => (⟨⟨5, ![1, 1, 4, 128, 128]⟩, f n⟩ : (s : Shape) × (s.Idx → α))).map (·.1))
      (⟨5, ![1, 16, 4, 128, 128]⟩ : Shape) 1)
    (j : Fin 16) (h : Fin 4) (k v : Fin 128) :
    concatenate (⟨5, ![1, 16, 4, 128, 128]⟩ : Shape) 1 (List.ofFn fun n : Fin 16 => (⟨⟨5, ![1, 1, 4, 128, 128]⟩, f n⟩ : (s : Shape) × (s.Idx → α))) hc
      (ix5 (0 : Fin 1) j h k v) = f j (ix5 (0 : Fin 1) (0 : Fin 1) h k v) :=
  concatenate_ofFn_unit_apply (s₁ := ⟨5, ![1, 1, 4, 128, 128]⟩) (N := 16) 1 f hc rfl rfl (ix5 (0 : Fin 1) j h k v) j rfl
    (ix5 (0 : Fin 1) (0 : Fin 1) h k v) (by intro b hb; fin_cases b <;> first | rfl | exact absurd rfl hb)
theorem run_concat4 {α : Type} (f : Fin 16 → (⟨4, ![1, 4, 128, 128]⟩ : Shape).Idx → α)
    (hc : Shape.Concatenates ((List.ofFn fun n : Fin 16 => (⟨⟨4, ![1, 4, 128, 128]⟩, f n⟩ : (s : Shape) × (s.Idx → α))).map (·.1))
      (⟨4, ![16, 4, 128, 128]⟩ : Shape) 0)
    (j : Fin 16) (h : Fin 4) (k v : Fin 128) :
    concatenate (⟨4, ![16, 4, 128, 128]⟩ : Shape) 0 (List.ofFn fun n : Fin 16 => (⟨⟨4, ![1, 4, 128, 128]⟩, f n⟩ : (s : Shape) × (s.Idx → α))) hc
      (ix4 j h k v) = f j (ix4 (0 : Fin 1) h k v) :=
  concatenate_ofFn_unit_apply (s₁ := ⟨4, ![1, 4, 128, 128]⟩) (N := 16) 0 f hc rfl rfl (ix4 j h k v) j rfl
    (ix4 (0 : Fin 1) h k v) (by intro b hb; fin_cases b <;> first | rfl | exact absurd rfl hb)

end Cert
-- ==== Proof.Scalar.lean ====
/- The scalar functions of the host's programs, on real arguments. -/
module

public import proofs.«01_k».proof.Proof.Global
public import proofs.«01_k».proof.Proof.Fix
public import Idealize.ShloMosaic.Lib.IdealHost
public import Idealize.ShloMosaic.Lib.Pointwise
public import Idealize.ShloMosaic.Lib.ValueIdx

@[expose] public section

noncomputable section

namespace Cert

open Idealize.ShloMosaic
open scoped BigOperators

theorem lane_mk (h : Fin 4) (k : Fin 128) (p : h.val * 128 + k.val < 512) : (⟨h.val * 128 + k.val, p⟩ : Fin 512) = lane h k :=
  Fin.ext (by show h.val * 128 + k.val = 128 * h.val + k.val; omega)
theorem pos_mk (n t : Fin 64) (p : n.val * 64 + t.val < 4096) : (⟨n.val * 64 + t.val, p⟩ : Fin 4096) = pos n t :=
  Fin.ext (by show n.val * 64 + t.val = 64 * n.val + t.val; omega)

theorem pos_div (n t : Fin 64) (p : (pos n t).val / 64 < 64) : (⟨(pos n t).val / 64, p⟩ : Fin 64) = n :=
  Fin.ext (by show (64 * n.val + t.val) / 64 = n.val; omega)
theorem pos_mod (n t : Fin 64) (p : (pos n t).val % 64 < 64) : (⟨(pos n t).val % 64, p⟩ : Fin 64) = t :=
  Fin.ext (by show (64 * n.val + t.val) % 64 = t.val; omega)
theorem lane_div (h : Fin 4) (k : Fin 128) (p : (lane h k).val / 128 < 4) : (⟨(lane h k).val / 128, p⟩ : Fin 4) = h :=
  Fin.ext (by show (128 * h.val + k.val) / 128 = h.val; omega)
theorem lane_mod (h : Fin 4) (k : Fin 128) (p : (lane h k).val % 128 < 128) : (⟨(lane h k).val % 128, p⟩ : Fin 128) = k :=
  Fin.ext (by show (128 * h.val + k.val) % 128 = k.val; omega)
/-- A sum over the positions, chunk by chunk. -/
theorem sum_pos {M : Type} [AddCommMonoid M] (f : Fin 4096 → M) : ∑ r, f r = ∑ n, ∑ t, f (pos n t) := by
  rw [← Fintype.sum_prod_type']
  refine (Fintype.sum_equiv (finProdFinEquiv (m := 64) (n := 64)) _ _ fun p => congrArg f (Fin.ext ?_)).symm
  simp [pos, finProdFinEquiv]; omega
/-- A reduction over axes of one position is that position's element. -/
theorem lone {s t : Shape} {axes : List (Fin s.rank)} (h : s.ReducesTo axes t) (x : s.Idx → EReal) (j : t.Idx) (i : s.Idx)
    (h0 : h.drop i = j) (h1 : ∀ i', h.drop i' = j → i' = i) : Ideal.hostReduceAdd h x 0 j = x i := by
  unfold Ideal.hostReduceAdd
  rw [zero_add, show Finset.univ.filter (fun i' => h.drop i' = j) = {i} from by
    ext i'; simp only [Finset.mem_filter, Finset.mem_univ, true_and, Finset.mem_singleton]
    exact ⟨h1 i', fun e => e ▸ h0⟩, Finset.sum_singleton]

theorem coe_total {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem neg_inf : Ideal.ofBits FTy.f32 4286578688#32 = (⊥ : EReal) := by
  simp [Ideal.ofBits, Ideal.ieee]
theorem pos_inf : Ideal.ofBits FTy.f32 2139095040#32 = (⊤ : EReal) := by
  simp [Ideal.ofBits, Ideal.ieee]
theorem fold_two (f : Fin 2 → ℝ) : Finset.univ.fold max (⊥ : EReal) (fun x => (f x : EReal)) = ((max (f 0) (f 1) : ℝ) : EReal) := by
  rw [show (Finset.univ : Finset (Fin 2)) = {0, 1} from rfl, Finset.fold_insert (by decide), Finset.fold_singleton]
  simp [EReal.coe_strictMono.monotone.map_max]

theorem one_sub' (x : ℝ) : (1 : EReal) - (x : EReal) = ((1 - x : ℝ) : EReal) := by
  rw [← EReal.coe_one, ← EReal.coe_sub]
theorem logistic' (x : ℝ) : Ideal.div (1 : EReal) (1 + Ideal.exp (-(x : EReal))) = ((Chunk.sig x : ℝ) : EReal) := by
  have h1 : (1 + Real.exp (-x)) ≠ 0 := by positivity
  rw [← EReal.coe_neg, Ideal.exp_coe, ← EReal.coe_one, ← EReal.coe_add, Ideal.div_coe h1, ← EReal.coe_mul, one_mul, Chunk.sig]
/-- The first of two softmax weights. -/
theorem weight (y : Fin 2 → ℝ) : Ideal.div (Ideal.exp ((y 0 - max (y 0) (y 1) : ℝ) : EReal)) (∑ i, Ideal.exp ((y i - max (y 0) (y 1) : ℝ) : EReal))
    = ((softR (y 0) (y 1) : ℝ) : EReal) := by
  have h1 : Real.exp (y 0 - max (y 0) (y 1)) + Real.exp (y 1 - max (y 0) (y 1)) ≠ 0 := by positivity
  rw [Fin.sum_univ_two, Ideal.exp_coe, Ideal.exp_coe, ← EReal.coe_add, Ideal.div_coe h1, ← EReal.coe_mul, softR, mul_one_div]
theorem log_pos' (x : ℝ) (h : 0 < x) : Ideal.log (x : EReal) = ((Real.log x : ℝ) : EReal) := by
  rw [Ideal.log_coe, if_neg (not_le.mpr h)]

theorem Data.base_proper (X : Data) (n : Fin 64) (h : Fin 4) : (X.base n h).Proper := fun _ => ⟨softR_pos _ _, softR_lt_one _ _⟩
/-- The running sum of the logarithms at the last position is their total. -/
theorem Chunk.b_last (C : Chunk) (k : Fin 128) : C.b 63 k = C.bend k := by
  unfold Chunk.b Chunk.bend
  exact Finset.sum_congr rfl fun s _ => if_pos (Nat.le_of_lt_succ s.isLt)

section ByBuffer
open Idealize.ShloMosaic.StableHlo Idealize.SL.Sem Idealize.ShloMosaic.TcCoe
variable {τ : Topo} {sig : RefSig} {Val : EltTy → Type} {g : Valuation τ sig Val} {l : List (HloOp τ sig Val)} (H : Solved g l) (st : ℕ)
  {a b x y : Ref sig .tc}
include H

/-- In a list whose buffers are numbered from `st` on, the operation that writes a buffer is found by the buffer. -/
theorem Solved.by1 {f : x.ty.Contents Val → y.ty.Contents Val} {hx hy} (e : l[y.idx.val - st]? = some (unary (τ := τ) x y f hx hy)) :
    g (Proc.devRef .tc y) = f (g (Proc.devRef .tc x)) := H.get1 _ e
theorem Solved.by2 {f : a.ty.Contents Val → b.ty.Contents Val → y.ty.Contents Val} {ha hb hy}
    (e : l[y.idx.val - st]? = some (binary (τ := τ) a b y f ha hb hy)) :
    g (Proc.devRef .tc y) = f (g (Proc.devRef .tc a)) (g (Proc.devRef .tc b)) := H.get2 _ e
theorem Solved.byR {he hn hx hy} (e : l[y.idx.val - st]? = some (reshape (τ := τ) (Val := Val) x y he hn hx hy)) :
    g (Proc.devRef .tc y) = fun j => he ▸ shapeCast y.ty.shape (g (Proc.devRef .tc x)) hn j := H.getR _ e
theorem Solved.by0 {v : y.ty.Contents Val} {hy} (e : l[y.idx.val - st]? = some (nullary (τ := τ) y v hy)) : g (Proc.devRef .tc y) = v :=
  H.get0 _ e

end ByBuffer

end Cert
-- ==== Proof.Entry.lean ====
module

public import proofs.«01_k».proof.Proof.Prefix
public import proofs.«01_k».proof.Proof.Grid
public import proofs.«01_k».proof.Proof.Window
public import proofs.«01_k».proof.Proof.Scalar

@[expose] public section

noncomputable section

namespace Cert.KernelIdeal.Chain

open Idealize.ShloMosaic Idealize.ShloMosaic.TcCoe Idealize.SL.Sem Cert.KernelIdeal.Gen Cert.KernelIdeal.Value Idealize.ShloMosaic.StableHlo

/-- The solved host lines, from real arguments. -/
structure Args₀ (g : Valuation τ sig (Elt Ideal)) (X : Data) : Prop where
  s0 : Solved g hostOps0
  s1 : Solved g hostOps0_1
  s2 : Solved g hostOps0_2
  s3 : Solved g hostOps0_3
  s4 : Solved g hostOps0_4
  p : ∀ r l, (g main_arg0 : S4096x2048.Idx → EReal) (ix2 r l) = ((X.P r l : ℝ) : EReal)
  g : ∀ r l, (g main_arg1 : S2x512.Idx → EReal) (ix2 r l) = ((X.G r l : ℝ) : EReal)

namespace Args₀
variable {g : Valuation τ sig (Elt Ideal)} {X : Data} (A : Args₀ g X)
include A

theorem v0 (l : Fin 512) : (g main_v0 : S512.Idx → EReal) (ix1 l) = ((max (X.G 0 l) (X.G 1 l) : ℝ) : EReal) := by
  refine (congrFun (A.s0.get2 1 rfl) _).trans ?_
  pointwise
  rw [A.s0.get0 0 rfl]
  simp only [A.g]
  pointwise
  rw [neg_inf]
  exact fold_two fun x => X.G x l
theorem v5 (r : Fin 2) (l : Fin 512) : (g main_v5 : S2x512.Idx → EReal) (ix2 r l) = ((X.G r l - max (X.G 0 l) (X.G 1 l) : ℝ) : EReal) := by
  refine (congrFun (A.s0.get2 7 rfl) _).trans ?_
  pointwise
  rw [A.s0.get1 6 rfl, A.s0.get1 5 rfl, A.s0.get2 4 rfl, A.s0.get1 3 rfl, A.s0.get0 2 rfl]
  pointwise
  rw [A.v0, A.g, neg_inf, max_eq_right bot_le, EReal.coe_sub]
theorem v10 (l : Fin 512) : (g main_v10 : S2x512.Idx → EReal) (ix2 0 l) = ((X.lbv l : ℝ) : EReal) := by
  refine (congrFun (A.s0.get2 13 rfl) _).trans ?_
  pointwise
  rw [A.s0.get1 12 rfl, A.s0.get1 11 rfl, A.s0.get2 10 rfl, A.s0.get1 8 rfl, A.s0.get0 9 rfl]
  pointwise
  simp only [A.v5, Ideal.ofBits_zero_f32, zero_add]
  exact weight fun r => X.G r l
theorem v11 (l : Fin 512) : (g main_v11 : S2x512.Idx → EReal) (ix2 0 l) = ((X.lbv l : ℝ) : EReal) := by
  refine (congrFun (A.s1.get2 2 rfl) _).trans ((run_two _ _ _ _ ?_ l).trans (A.v10 l))
  rw [A.s1.get1 1 rfl, A.s1.get0 0 rfl]
  exact Ideal.ofBits_zero_f32
theorem v14 (h : Fin 4) (k : Fin 128) : (g main_v14 : S4x128.Idx → EReal) (ix2 h k) = ((X.lbv (lane h k) : ℝ) : EReal) := by
  refine (congrFun (A.s2.getR 2 rfl) _).trans ?_
  pointwise
  rw [A.s2.getR 1 rfl, A.s2.get1 0 rfl]
  pointwise
  rw [lane_mk]; exact A.v11 _
theorem v17 (r : Fin 4096) (h : Fin 4) (k : Fin 128) : (g main_v17 : S4096x4x128.Idx → EReal) (ix3 r h k) = ((X.P r (part 1 (lane h k)) : ℝ) : EReal) := by
  refine (congrFun (A.s2.getR 5 rfl) _).trans ?_
  pointwise
  rw [A.s2.get1 3 rfl]
  pointwise
  refine (congrArg (fun l => (g main_arg0 : S4096x2048.Idx → EReal) (ix2 r l)) ?_).trans (A.p r _)
  exact Fin.ext (by simp only [part, lane]; fin_omega)
theorem v18 (r : Fin 4096) (h : Fin 4) (k : Fin 128) : (g main_v18 : S4096x4x128.Idx → EReal) (ix3 r h k) = ((X.P r (part 2 (lane h k)) : ℝ) : EReal) := by
  refine (congrFun (A.s2.getR 6 rfl) _).trans ?_
  pointwise
  rw [A.s2.get1 4 rfl]
  pointwise
  refine (congrArg (fun l => (g main_arg0 : S4096x2048.Idx → EReal) (ix2 r l)) ?_).trans (A.p r _)
  exact Fin.ext (by simp only [part, lane]; fin_omega)
theorem v26 (n t : Fin 64) (h : Fin 4) (k : Fin 128) : (g main_v26 : S4096x4x128.Idx → EReal) (ix3 (pos n t) h k) = (((X.base n h).sg t k : ℝ) : EReal) := by
  refine (congrFun (A.s2.get2 17 rfl) _).trans ?_
  pointwise
  rw [A.s2.get1 16 rfl, A.s2.get0 15 rfl, A.s2.get2 14 rfl, A.s2.get1 13 rfl, A.s2.get0 12 rfl, A.s2.get1 11 rfl, A.s2.get1 10 rfl]
  pointwise
  rw [A.v17]
  exact logistic' _
theorem v32 (n t : Fin 64) (h : Fin 4) (k : Fin 128) : (g main_v32 : S4096x4x128.Idx → EReal) (ix3 (pos n t) h k) = (((X.base n h).forget t k : ℝ) : EReal) := by
  refine (congrFun (A.s2.get2 23 rfl) _).trans ?_
  pointwise
  rw [A.s2.get1 22 rfl, A.s2.get1 21 rfl, A.s2.get2 20 rfl, A.s2.get1 19 rfl, A.s2.get1 18 rfl, A.s2.get2 9 rfl, A.s2.get1 8 rfl, A.s2.get0 7 rfl]
  pointwise
  rw [A.v14, A.v26, one_sub', ← EReal.coe_mul, ← EReal.coe_add]
  rfl
theorem v35 (n t : Fin 64) (h : Fin 4) (k : Fin 128) : (g main_v35 : S64x64x4x128.Idx → EReal) (ix4 n t h k) = (((X.base n h).key t k : ℝ) : EReal) := by
  refine (congrFun (A.s2.getR 27 rfl) _).trans ?_
  pointwise
  rw [A.s2.get2 26 rfl, A.s2.get1 25 rfl, A.s2.get0 24 rfl]
  pointwise
  rw [pos_mk, A.v32, one_sub']
  rfl
theorem v36 (n t : Fin 64) (h : Fin 4) (k : Fin 128) : (g main_v36 : S64x64x4x128.Idx → EReal) (ix4 n t h k) = (((X.base n h).i t k : ℝ) : EReal) := by
  refine (congrFun (A.s2.getR 28 rfl) _).trans ?_
  pointwise
  rw [pos_mk, A.v18]
  rfl
theorem v38 (n t : Fin 64) (h : Fin 4) (k : Fin 128) : (g main_v38 : S64x64x4x128.Idx → EReal) (ix4 n t h k) = (((X.base n h).lf t k : ℝ) : EReal) := by
  refine (congrFun (A.s2.getR 30 rfl) _).trans ?_
  pointwise
  rw [A.s2.get1 29 rfl]
  pointwise
  rw [pos_mk, A.v32, log_pos' _ (Chunk.forget_pos _ t k (X.base_proper n h))]
  rfl
theorem v39 (n t : Fin 64) (h : Fin 4) (k : Fin 128) : (g main_v39 : S64x64x4x128.Idx → EReal) (ix4 n t h k) = (((X.base n h).b t k : ℝ) : EReal) := by
  refine (congrFun (A.s3.get2 2 rfl) _).trans ((run_sum4 _ _ _ _ ?_ n t h k).trans ?_)
  · rw [A.s3.get1 1 rfl, A.s3.get0 0 rfl]
    exact Ideal.ofBits_zero_f32
  · rw [Chunk.b, coe_total]
    refine Finset.sum_congr rfl fun s _ => ?_
    rw [apply_ite (fun x : ℝ => (x : EReal)), ← A.v38, EReal.coe_zero]
    rfl
theorem v41 (n : Fin 64) (h : Fin 4) (k : Fin 128) : (g main_v41 : S64x4x128.Idx → EReal) (ix3 n h k) = (((X.base n h).bend k : ℝ) : EReal) := by
  refine (congrFun (A.s4.getR 1 rfl) _).trans ?_
  pointwise
  rw [A.s4.get1 0 rfl]
  pointwise
  rw [← Chunk.b_last]; exact A.v39 n 63 h k
theorem v46 (n t : Fin 64) (h : Fin 4) (k : Fin 128) : (g main_v46 : S64x64x4x128.Idx → EReal) (ix4 n t h k) = (((X.base n h).ke t k : ℝ) : EReal) := by
  refine (congrFun (A.s4.get2 6 rfl) _).trans ?_
  pointwise
  rw [A.s4.get1 5 rfl, A.s4.get2 4 rfl, A.s4.get1 3 rfl, A.s4.get1 2 rfl]
  pointwise
  rw [A.v35, A.v41, A.v39, ← EReal.coe_sub, Ideal.exp_coe, ← EReal.coe_mul]
  rfl

omit A in
/-- The factors and the summands of the recurrence of the states. -/
noncomputable def decs (g : Valuation τ sig (Elt Ideal)) : S64x4x128x1.Idx → EReal := g main_v50
omit A in
noncomputable def incs (g : Valuation τ sig (Elt Ideal)) : S64x4x128x128.Idx → EReal := g main_v47

theorem v50 (n : Fin 64) (h : Fin 4) (k : Fin 128) : decs g (ix4 n h k 0) = (((X.base n h).dec k : ℝ) : EReal) := by
  refine (congrFun (A.s4.get1 11 rfl) _).trans ?_
  pointwise
  rw [A.s4.get1 8 rfl]
  pointwise
  rw [A.v41, Ideal.exp_coe]
  rfl
theorem v47 (n : Fin 64) (h : Fin 4) (k v : Fin 128) : incs g (ix4 n h k v) = (((X.base n h).U k v : ℝ) : EReal) := by
  refine (congrFun (A.s4.get2 7 rfl) _).trans ?_
  pointwise
  simp only [A.v46, A.v36, ← EReal.coe_mul, ← coe_total]
  exact congrArg _ (Finset.sum_congr rfl fun s _ => mul_comm _ _)

omit A in
/-- The states that enter the chunks. -/
noncomputable def states (g : Valuation τ sig (Elt Ideal)) : Fin 64 → S1x4x128x128.Idx → EReal :=
  ![
    g main_v49, g main_v181, g main_v184, g main_v187, g main_v190, g main_v193, g main_v196, g main_v199,
    g main_v202, g main_v205, g main_v208, g main_v211, g main_v214, g main_v217, g main_v220, g main_v223,
    g main_v226, g main_v229, g main_v232, g main_v235, g main_v238, g main_v241, g main_v244, g main_v247,
    g main_v250, g main_v253, g main_v256, g main_v259, g main_v262, g main_v265, g main_v268, g main_v271,
    g main_v274, g main_v277, g main_v280, g main_v283, g main_v286, g main_v289, g main_v292, g main_v295,
    g main_v298, g main_v301, g main_v304, g main_v307, g main_v310, g main_v313, g main_v316, g main_v319,
    g main_v322, g main_v325, g main_v328, g main_v331, g main_v334, g main_v337, g main_v340, g main_v343,
    g main_v346, g main_v349, g main_v352, g main_v355, g main_v358, g main_v361, g main_v364, g main_v367]

set_option maxHeartbeats 4000000 in
/-- The states follow one another by the recurrence. -/
theorem states_step (n : Fin 63) (h : Fin 4) (k v : Fin 128) : states g n.succ (ix4 0 h k v)
    = decs g (ix4 n.castSucc h k 0) * states g n.castSucc (ix4 0 h k v) + incs g (ix4 n.castSucc h k v) := by
  obtain ⟨n, hn⟩ := n
  interval_cases n
  all_goals
    refine (congrFun (A.s4.by2 54 rfl) _).trans ?_
    pointwise
    refine congrArg₂ (· + ·) ?_ ?_
    · refine (congrFun (A.s4.by2 54 rfl) _).trans ?_
      pointwise
      refine congrArg₂ (· * ·) ?_ rfl
      refine (congrFun (A.s4.by1 54 rfl) _).trans ?_
      pointwise
      refine (congrFun (A.s4.by1 54 rfl) _).trans ?_
      pointwise
      rfl
    · refine (congrFun (A.s4.by1 54 rfl) _).trans ?_
      pointwise
      rfl
theorem states_zero (h : Fin 4) (k v : Fin 128) : states g 0 (ix4 0 h k v) = 0 := by
  refine (congrFun (A.s4.get1 10 rfl) _).trans ?_
  pointwise
  rw [A.s4.get0 9 rfl]
  pointwise
theorem states_eq (n : ℕ) (hn : n < 64) (h : Fin 4) (k v : Fin 128) : states g ⟨n, hn⟩ (ix4 0 h k v) = ((X.st h n v k : ℝ) : EReal) := by
  induction n with
  | zero => exact A.states_zero h k v
  | succ n ih =>
    refine (A.states_step ⟨n, by omega⟩ h k v).trans ?_
    show decs g (ix4 ⟨n, _⟩ h k 0) * states g ⟨n, _⟩ (ix4 0 h k v) + incs g (ix4 ⟨n, _⟩ h k v) = _
    rw [ih (by omega), A.v50, A.v47, ← EReal.coe_mul, ← EReal.coe_add, Data.st, show chunkNo n = ⟨n, by omega⟩ from Data.chunkNo_val ⟨n, by omega⟩]
theorem v371 (j : Fin 16) (h : Fin 4) (k v : Fin 128) : (g main_v371 : S16x4x128x128.Idx → EReal) (ix4 j h k v) = states g ⟨0 + j.val, by omega⟩ (ix4 0 h k v) := by
  refine (congrFun (A.s4.getN 332 rfl) _).trans ?_
  exact run_concat4 (fun j => states g ⟨0 + j.val, by omega⟩) _ j h k v
theorem v372 (j : Fin 16) (h : Fin 4) (k v : Fin 128) : (g main_v372 : S16x4x128x128.Idx → EReal) (ix4 j h k v) = states g ⟨16 + j.val, by omega⟩ (ix4 0 h k v) := by
  refine (congrFun (A.s4.getN 333 rfl) _).trans ?_
  exact run_concat4 (fun j => states g ⟨16 + j.val, by omega⟩) _ j h k v
theorem v373 (j : Fin 16) (h : Fin 4) (k v : Fin 128) : (g main_v373 : S16x4x128x128.Idx → EReal) (ix4 j h k v) = states g ⟨32 + j.val, by omega⟩ (ix4 0 h k v) := by
  refine (congrFun (A.s4.getN 334 rfl) _).trans ?_
  exact run_concat4 (fun j => states g ⟨32 + j.val, by omega⟩) _ j h k v
theorem v374 (j : Fin 16) (h : Fin 4) (k v : Fin 128) : (g main_v374 : S16x4x128x128.Idx → EReal) (ix4 j h k v) = states g ⟨48 + j.val, by omega⟩ (ix4 0 h k v) := by
  refine (congrFun (A.s4.getN 335 rfl) _).trans ?_
  exact run_concat4 (fun j => states g ⟨48 + j.val, by omega⟩) _ j h k v
theorem v376 (n : Fin 64) (h : Fin 4) (k v : Fin 128) : (g main_v376 : S64x4x128x128.Idx → EReal) (ix4 n h v k) = ((X.st h n.val v k : ℝ) : EReal) := by
  refine (congrFun (A.s4.get1 337 rfl) _).trans ?_
  pointwise
  rw [A.s4.getN 336 rfl]
  pointwise
  refine Eq.trans ?_ (A.states_eq n.val n.isLt h k v)
  by_cases h1 : n.val < 16
  · rw [dif_pos h1]
    exact (A.v371 ⟨n.val, h1⟩ h k v).trans (congrArg (fun m => states g m (ix4 0 h k v)) (Fin.ext (by show 0 + n.val = n.val; omega)))
  rw [dif_neg h1]
  by_cases h2 : n.val - 16 < 16
  · rw [dif_pos h2]
    exact (A.v372 ⟨n.val - 16, h2⟩ h k v).trans (congrArg (fun m => states g m (ix4 0 h k v)) (Fin.ext (by show 16 + (n.val - 16) = n.val; omega)))
  rw [dif_neg h2]
  by_cases h3 : n.val - 16 - 16 < 16
  · rw [dif_pos h3]
    exact (A.v373 ⟨n.val - 16 - 16, h3⟩ h k v).trans (congrArg (fun m => states g m (ix4 0 h k v)) (Fin.ext (by show 32 + (n.val - 16 - 16) = n.val; omega)))
  rw [dif_neg h3]
  exact (A.v374 ⟨n.val - 16 - 16 - 16, by omega⟩ h k v).trans (congrArg (fun m => states g m (ix4 0 h k v)) (Fin.ext (by show 48 + (n.val - 16 - 16 - 16) = n.val; omega)))
theorem v377 (r : Fin 4096) (l : Fin 2048) : (g main_v377 : S4096x2048.Idx → EReal) (ix2 r l) = ((X.P r l : ℝ) : EReal) := by
  refine (congrFun (A.s4.get1 338 rfl) _).trans ?_
  pointwise
  exact A.p r l
theorem v378 (r : Fin 4096) (l : Fin 512) : (g main_v378 : S4096x512.Idx → EReal) (ix2 r l) = ((X.P r (part 1 l) : ℝ) : EReal) := by
  refine (congrFun (A.s4.get1 339 rfl) _).trans ?_
  pointwise
  exact A.p r _

end Args₀

variable (m : (ℓ : Loc nD τ sig) → Buf (Elt Ideal) ℓ) (c : Dev nD) (X : Data)

/-- Real arguments leave real arrays at the call. -/
theorem realIn (p : ∀ r l, (m ((c.tc : Thread nD τ).loc main_arg0) : S4096x2048.Idx → EReal) (ix2 r l) = ((X.P r l : ℝ) : EReal))
    (g : ∀ r l, (m ((c.tc : Thread nD τ).loc main_arg1) : S2x512.Idx → EReal) (ix2 r l) = ((X.G r l : ℝ) : EReal))
    (o : ∀ r l, (m ((c.tc : Thread nD τ).loc main_arg2) : S4096x512.Idx → EReal) (ix2 r l) = ((X.O r l : ℝ) : EReal)) : RealIn m c X := by
  have k0 : V m c main_arg0 = m ((c.tc : Thread nD τ).loc main_arg0) := line.keep (fun b => m (c, b)) main_arg0 (by decide)
  have k1 : V m c main_arg1 = m ((c.tc : Thread nD τ).loc main_arg1) := line.keep (fun b => m (c, b)) main_arg1 (by decide)
  have k2 : V m c main_arg2 = m ((c.tc : Thread nD τ).loc main_arg2) := line.keep (fun b => m (c, b)) main_arg2 (by decide)
  have H := line.solved (fun b => m (c, b))
  generalize hg : StableHlo.after (List.flatten [hostOps0 (F := Ideal), hostOps0_1, hostOps0_2, hostOps0_3, hostOps0_4]) (fun b => m (c, b)) = W at H
  have e : ∀ b, V m c b = W b := fun b => congrFun hg b
  simp only [List.flatten_cons, List.flatten_nil, List.append_nil] at H
  have a0 := H.of_append
  have a1 := a0.2.of_append
  have a2 := a1.2.of_append
  have a3 := a2.2.of_append
  have A : Args₀ W X :=
    { s0 := a0.1, s1 := a1.1, s2 := a2.1, s3 := a3.1, s4 := a3.2
      p := fun r l => (congrFun ((e _).symm.trans k0) _).trans (p r l)
      g := fun r l => (congrFun ((e _).symm.trans k1) _).trans (g r l) }
  exact
    { p := fun r l => (congrFun (e _) _).trans (A.v377 r l)
      f := fun r l => (congrFun (e _) _).trans (A.v378 r l)
      g := fun r l => (congrFun k1 _).trans (g r l)
      s := fun n h v k => (congrFun (e _) _).trans (A.v376 n h k v)
      o := fun r l => (congrFun k2 _).trans (o r l) }

end Cert.KernelIdeal.Chain
-- ==== Proof.Left.lean ====
/- What the buffers hold after a grid point: the point's stores, read back. -/
module

public import proofs.«01_k».proof.Proof.Store

@[expose] public section

noncomputable section

namespace Cert.KernelIdeal.Chain

open Idealize.ShloMosaic Idealize.ShloMosaic.TcCoe Idealize.SL.Sem Cert.KernelIdeal.Gen

variable {F : FTy → Type} [FloatOps F]

/-- What a point of case A leaves. -/
theorem leftA (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : cond0_0 i) (hc1 : ¬cond0_1 i)
    (x0 : Vec F S256x512 .bf16) (x1 : Vec F S256x512 .f32) (x2 : Vec F S256x512 .bf16) (x3 : Vec F S2x512 .f32) (x4 : Vec F S4x4x128x128 .f32) (x5 : Vec F S256x512 .f32) :
    out0_A_6 c i arg1 harg1 arg2 harg2 arg3 harg3 arg4 harg4 arg5 harg5 arg6 harg6 arg7 harg7 arg8 harg8 arg9 harg9 arg10 harg10 hc0 hc1 x0 x1 x2 x3 x4 x5 = View.canon (Args.pieces (Args.mk arg1 harg1 arg2 harg2 arg3 harg3 arg4 harg4 arg5 harg5 arg6 harg6 x0 x1 x2 x3 x4 x5) (csA arg9))
    ∧ sout0_A_0 c i arg1 harg1 arg2 harg2 arg3 harg3 arg4 harg4 arg5 harg5 arg6 harg6 arg7 harg7 arg8 harg8 arg9 harg9 arg10 harg10 hc0 hc1 x0 x1 x2 x3 x4 x5 = View.canon (Args.piecesC (Args.mk arg1 harg1 arg2 harg2 arg3 harg3 arg4 harg4 arg5 harg5 arg6 harg6 x0 x1 x2 x3 x4 x5) (csA arg9) ++ zeroC)
    ∧ sout0_A_1 c i arg1 harg1 arg2 harg2 arg3 harg3 arg4 harg4 arg5 harg5 arg6 harg6 arg7 harg7 arg8 harg8 arg9 harg9 arg10 harg10 hc0 hc1 x0 x1 x2 x3 x4 x5 = View.canon (lbNext arg10 (Args.mk arg1 harg1 arg2 harg2 arg3 harg3 arg4 harg4 arg5 harg5 arg6 harg6 x0 x1 x2 x3 x4 x5) (csA arg9) (lbA arg10 (Args.mk arg1 harg1 arg2 harg2 arg3 harg3 arg4 harg4 arg5 harg5 arg6 harg6 x0 x1 x2 x3 x4 x5) (csA arg9))) := by
  have r := runA c i arg1 harg1 arg2 harg2 arg3 harg3 arg4 harg4 arg5 harg5 arg6 harg6 arg7 harg7 arg8 harg8 arg9 harg9 arg10 harg10 hc0 hc1 x0 x1 x2 x3 x4 x5
  exact ⟨(View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4 x5)).trans (congrArg View.canon r.1),
    (View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)).trans (congrArg View.canon r.2.1),
    (View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)).trans (congrArg View.canon r.2.2)⟩

/-- What a point of case B leaves. -/
theorem leftB (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : ¬cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    out0_B_6 c i arg1 harg1 arg2 harg2 arg3 harg3 arg4 harg4 arg5 harg5 arg6 harg6 arg7 harg7 arg8 harg8 arg9 harg9 arg10 harg10 hc0 hc1 x0 x1 x2 x3 x4 x5 xs0 xs1 = View.canon (Args.pieces (Args.mk arg1 harg1 arg2 harg2 arg3 harg3 arg4 harg4 arg5 harg5 arg6 harg6 x0 x1 x2 x3 x4 x5) (csB arg9 harg9 xs0))
    ∧ sout0_B_0 c i arg1 harg1 arg2 harg2 arg3 harg3 arg4 harg4 arg5 harg5 arg6 harg6 arg7 harg7 arg8 harg8 arg9 harg9 arg10 harg10 hc0 hc1 x0 x1 x2 x3 x4 x5 xs0 xs1 = View.canon (Args.piecesC (Args.mk arg1 harg1 arg2 harg2 arg3 harg3 arg4 harg4 arg5 harg5 arg6 harg6 x0 x1 x2 x3 x4 x5) (csB arg9 harg9 xs0) ++ [])
    ∧ sout0_B_1 c i arg1 harg1 arg2 harg2 arg3 harg3 arg4 harg4 arg5 harg5 arg6 harg6 arg7 harg7 arg8 harg8 arg9 harg9 arg10 harg10 hc0 hc1 x0 x1 x2 x3 x4 x5 xs0 xs1 = View.canon (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) := by
  have r := runB c i arg1 harg1 arg2 harg2 arg3 harg3 arg4 harg4 arg5 harg5 arg6 harg6 arg7 harg7 arg8 harg8 arg9 harg9 arg10 harg10 hc0 hc1 x0 x1 x2 x3 x4 x5 xs0 xs1
  exact ⟨(View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon r.1),
    (View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon (r.2.1.trans (List.append_nil _).symm)),
    (View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon r.2.2)⟩

/-- What a point of case C leaves. -/
theorem leftC (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 = View.canon (Args.pieces (Args.mk arg1 harg1 arg2 harg2 arg3 harg3 arg4 harg4 arg5 harg5 arg6 harg6 x0 x1 x2 x3 x4 x5) (csB arg9 harg9 xs0))
    ∧ sout0_C_0 c i arg1 harg1 arg2 harg2 arg3 harg3 arg4 harg4 arg5 harg5 arg6 harg6 arg7 harg7 arg8 harg8 arg9 harg9 arg10 harg10 hc0 hc1 x0 x1 x2 x3 x4 x5 xs0 xs1 = View.canon (Args.piecesC (Args.mk arg1 harg1 arg2 harg2 arg3 harg3 arg4 harg4 arg5 harg5 arg6 harg6 x0 x1 x2 x3 x4 x5) (csB arg9 harg9 xs0) ++ [])
    ∧ sout0_C_1 c i arg1 harg1 arg2 harg2 arg3 harg3 arg4 harg4 arg5 harg5 arg6 harg6 arg7 harg7 arg8 harg8 arg9 harg9 arg10 harg10 hc0 hc1 x0 x1 x2 x3 x4 x5 xs0 xs1 = View.canon (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) := by
  have r := runC c i arg1 harg1 arg2 harg2 arg3 harg3 arg4 harg4 arg5 harg5 arg6 harg6 arg7 harg7 arg8 harg8 arg9 harg9 arg10 harg10 hc0 hc1 x0 x1 x2 x3 x4 x5 xs0 xs1
  exact ⟨(View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon r.1),
    (View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon (r.2.1.trans (List.append_nil _).symm)),
    (View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon r.2.2)⟩

theorem leftC_logits (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S2x512 .f32) (harg4 : arg4.IsWhole) (arg5 : Memref sig .tc .vmem S4x4x128x128 .f32) (harg5 : arg5.IsWhole) (arg6 : Memref sig .tc .vmem S256x512 .f32) (harg6 : arg6.IsWhole) (arg7 : Memref sig .tc .vmem S256x1536 .bf16) (harg7 : arg7.IsWhole) (arg8 : Memref sig .tc .vmem S2x512 .f32) (harg8 : arg8.IsWhole) (arg9 : Memref sig .tc .vmem S4x128x128 .f32) (harg9 : arg9.IsWhole) (arg10 : Memref sig .tc .vmem S1x512 .f32) (harg10 : arg10.IsWhole) (hc0 : ¬cond0_0 i) (hc1 : cond0_1 i)
    (x0 : Vec F S256x512 .bf16) (x1 : Vec F S256x512 .f32) (x2 : Vec F S256x512 .bf16) (x3 : Vec F S2x512 .f32) (x4 : Vec F S4x4x128x128 .f32) (x5 : Vec F S256x512 .f32) (xs0 : Vec F S4x128x128 .f32) (xs1 : Vec F S1x512 .f32) :
    out0_C_7 c i arg1 harg1 arg2 harg2 arg3 harg3 arg4 harg4 arg5 harg5 arg6 harg6 arg7 harg7 arg8 harg8 arg9 harg9 arg10 harg10 hc0 hc1 x0 x1 x2 x3 x4 x5 xs0 xs1 = View.canon
      [⟨rLog 1, logit1 (Args.lbs (Args.mk arg1 harg1 arg2 harg2 arg3 harg3 arg4 harg4 arg5 harg5 arg6 harg6 x0 x1 x2 x3 x4 x5)) (arg10.view.readCov (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) (Rect.unit ![0, 0] S1x512.size inb_S1x512_S1x512_0_0).toLoadRect)⟩,
       ⟨rLog 0, logit0 (Args.lbs (Args.mk arg1 harg1 arg2 harg2 arg3 harg3 arg4 harg4 arg5 harg5 arg6 harg6 x0 x1 x2 x3 x4 x5)) (arg10.view.readCov (lbNext arg10 (Args.mk arg1 harg1 arg2 harg2 arg3 harg3 arg4 harg4 arg5 harg5 arg6 harg6 x0 x1 x2 x3 x4 x5) (csB arg9 harg9 xs0) (lbB arg10 harg10 xs1 (Args.mk arg1 harg1 arg2 harg2 arg3 harg3 arg4 harg4 arg5 harg5 arg6 harg6 x0 x1 x2 x3 x4 x5) (csB arg9 harg9 xs0))) (Rect.unit ![0, 0] S1x512.size inb_S1x512_S1x512_0_0).toLoadRect)⟩] :=
  (View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0 xs1)).trans (congrArg View.canon (runC_logits c i arg1 harg1 arg2 harg2 arg3 harg3 arg4 harg4 arg5 harg5 arg6 harg6 arg7 harg7 arg8 harg8 arg9 harg9 arg10 harg10 hc0 hc1 x0 x1 x2 x3 x4 x5 xs0 xs1))

end Cert.KernelIdeal.Chain
-- ==== Proof.Sweep.lean ====
/- The grid points by induction: after every point the carried buffers hold the sequence's cotangents and sums. -/
module

public import proofs.«01_k».proof.Proof.Grid
public import proofs.«01_k».proof.Proof.Left

@[expose] public section

noncomputable section

namespace Cert

/-- The gradient of the projection in part `p`: of the gate input, the decay input and the value input. -/
def Data.grad (X : Data) (p : Fin 3) (n : Fin 64) (h : Fin 4) (t : Fin 64) (k : Fin 128) : ℝ :=
  match p with
  | 0 => (X.chunk n h).gq t k
  | 1 => (X.chunk n h).gf t k
  | 2 => (X.chunk n h).di t k
/-- The gradient of the first row of logits. -/
def Data.gl (X : Data) (h : Fin 4) (k : Fin 128) : ℝ := X.glb h k * X.lbv (lane h k) * (1 - X.lbv (lane h k))

end Cert

namespace Cert.KernelIdeal.Chain

open Idealize.ShloMosaic Idealize.ShloMosaic.TcCoe Idealize.SL.Sem Cert.KernelIdeal.Gen

variable {m : (ℓ : Loc nD τ sig) → Buf (Elt Ideal) ℓ} {c : Dev nD} {X : Data}

/-- What the point `τ` leaves. -/
structure After (X : Data) (τ : ℕ) (o0 : Vec Ideal S256x1536 .bf16) (s0 : Vec Ideal S4x128x128 .f32) (s1 : Vec Ideal S1x512 .f32) : Prop where
  g : ∀ j u p h k, o0 (ix2 (brow j u) (col p h k)) = ((X.grad p (bn τ j) h u k : ℝ) : EReal)
  c : ∀ h v k, s0 (ix3 h v k) = ((X.ct h (4 * (τ + 1)) v k : ℝ) : EReal)
  l : ∀ h k, s1 (ix2 0 (lane h k)) = ((X.acc h k (τ + 1) : ℝ) : EReal)

theorem zeros4 (y : S4x128x128.Idx) : k0_pay4 (F := Ideal) y = ((0 : ℝ) : EReal) := by
  have e : k0_pay4 (F := Ideal) y = Scalar.ofBits (F := Ideal) .f32 0x00000000#32 := rfl
  rw [e]; exact Ideal.ofBits_zero_f32.trans EReal.coe_zero.symm
theorem zeros5 (y : S1x512.Idx) : k0_pay5 (F := Ideal) y = ((0 : ℝ) : EReal) := by
  have e : k0_pay5 (F := Ideal) y = Scalar.ofBits (F := Ideal) .f32 0x00000000#32 := rfl
  rw [e]; exact Ideal.ofBits_zero_f32.trans EReal.coe_zero.symm

/-- The stores of a point that is given real inputs leave what the sequence has there. -/
theorem after_of {A : Args Ideal} {cs : Fin 4 → FVec Ideal S128x128 .f32} (τ : ℕ) (hτ : τ < 16)
    (G : Given A cs (fun j h => X.chunk (bn τ j) h)) (L0 : List (View.Piece (Elt Ideal) S4x128x128 .f32))
    (arg10 : Memref sig .tc .vmem S1x512 .f32) (L : List (View.Piece (Elt Ideal) S1x512 .f32))
    (hc : ∀ y : S1x512.Idx, ∃ q ∈ L, y ∈ q.1.set)
    (hL : ∀ (h : Fin 4) (k : Fin 128), ∃ old : FVec Ideal S1x128 .f32, old (ix2 0 k) = ((X.acc h k τ : ℝ) : EReal) ∧
      View.canon L (ix2 0 (lane h k)) = (A.chain cs 0 h).outLb old (ix2 0 k)) :
    After X τ (View.canon (A.pieces cs)) (View.canon (A.piecesC cs ++ L0)) (View.canon (lbNext arg10 A cs L)) where
  g j u p h k := by
    rw [G.outs]
    match p with
    | 0 => rfl
    | 1 => rfl
    | 2 => rfl
  c h v k := by
    rw [G.carried, Data.prev_eq, bn_val _ hτ]
    have e : 64 - (60 - 4 * τ + (0 : Fin 4).val) = 4 * (τ + 1) := by show 64 - (60 - 4 * τ + 0) = _; omega
    rw [e]
  l h k := by
    obtain ⟨old, e, e'⟩ := hL h k
    rw [G.sums arg10 L hc h k old _ e e']
    have e0 : 60 - 4 * τ + (1 : Fin 4).val = 61 - 4 * τ := by show 60 - 4 * τ + 1 = _; omega
    have e1 : 60 - 4 * τ + (2 : Fin 4).val = 62 - 4 * τ := by show 60 - 4 * τ + 2 = _; omega
    have e2 : 60 - 4 * τ + (3 : Fin 4).val = 63 - 4 * τ := by show 60 - 4 * τ + 3 = _; omega
    rw [Data.acc, Data.part4, Data.part4, Data.part4, Data.part4, ← e0, ← e1, ← e2]
    rfl

section Cases
variable (R : RealIn m c X) (t : Fin cfg0.N)
include R

theorem RealIn.afterA (h0 : t.val % 16 = 0) (h1 : ¬t.val % 16 = 15) :
    After X t.val (outsAt0 m c t.val t.isLt).1 (outsAt0 m c t.val t.isLt).2.2.1 (outsAt0 m c t.val t.isLt).2.2.2 := by
  have ht0 : t.val = 0 := by have := lt16 t; omega
  have G := R.given t (csA scM0_0) fun h v k => by
    rw [csA_apply, zeros4, ht0]; rfl
  have key := after_of t.val (lt16 t) G zeroC scM0_1 _ (cover_lbA _ _ scM0_1) fun h k => by
    obtain ⟨old, e, e'⟩ := canon_lbA (argsAt m c t) (csA scM0_0) scM0_1 h k
    refine ⟨old, ?_, e'⟩
    rw [e, zeros5, ht0]; rfl
  have r := leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)
  rw [outsAt0_A m c t h0 h1]
  dsimp only
  rw [r.1, r.2.1, r.2.2]
  exact key

/-- A later point, over what the point before left. -/
theorem RealIn.afterLater (arg9 : Memref sig .tc .vmem S4x128x128 .f32) (harg9 : arg9.IsWhole) (arg10 : Memref sig .tc .vmem S1x512 .f32) (harg10 : arg10.IsWhole)
    (h0 : t.val ≠ 0) {o0 : Vec Ideal S256x1536 .bf16} {s0 : Vec Ideal S4x128x128 .f32} {s1 : Vec Ideal S1x512 .f32} (P : After X (t.val - 1) o0 s0 s1) :
    After X t.val (View.canon ((argsAt m c t).pieces (csB arg9 harg9 s0))) (View.canon ((argsAt m c t).piecesC (csB arg9 harg9 s0) ++ []))
      (View.canon (lbNext arg10 (argsAt m c t) (csB arg9 harg9 s0) (lbB arg10 harg10 s1 (argsAt m c t) (csB arg9 harg9 s0)))) := by
  have e : t.val - 1 + 1 = t.val := by omega
  have G := R.given t (csB arg9 harg9 s0) fun h v k => by rw [csB_apply, P.c, e]
  refine after_of t.val (lt16 t) G [] arg10 _ (cover_lbB _ _ arg10 harg10 s1) fun h k => ?_
  obtain ⟨old, e1, e2⟩ := canon_lbB (argsAt m c t) (csB arg9 harg9 s0) arg10 harg10 s1 h k
  refine ⟨old, ?_, e2⟩
  rw [e1, P.l, e]

theorem RealIn.afterB (h0 : ¬t.val % 16 = 0) (h1 : ¬t.val % 16 = 15)
    (P : After X (t.val - 1) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) :
    After X t.val (outsAt0 m c t.val t.isLt).1 (outsAt0 m c t.val t.isLt).2.2.1 (outsAt0 m c t.val t.isLt).2.2.2 := by
  have key := R.afterLater t scM0_0 (Memref.isWhole_whole _) scM0_1 (Memref.isWhole_whole _) (fun e => h0 (by rw [e])) P
  have r := leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_B m c t h0 h1]
  dsimp only
  rw [r.1, r.2.1, r.2.2]
  exact key

theorem RealIn.afterC (h0 : ¬t.val % 16 = 0) (h1 : t.val % 16 = 15)
    (P : After X (t.val - 1) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) :
    After X t.val (outsAt0 m c t.val t.isLt).1 (outsAt0 m c t.val t.isLt).2.2.1 (outsAt0 m c t.val t.isLt).2.2.2 := by
  have key := R.afterLater t scM0_0 (Memref.isWhole_whole _) scM0_1 (Memref.isWhole_whole _) (fun e => h0 (by rw [e])) P
  have r := leftC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_C m c t h0 h1]
  dsimp only
  rw [r.1, r.2.1, r.2.2]
  exact key

end Cases

/-- After every point. -/
theorem RealIn.after (R : RealIn m c X) : ∀ (n : ℕ) (hn : n < cfg0.N), After X n (outsAt0 m c n hn).1 (outsAt0 m c n hn).2.2.1 (outsAt0 m c n hn).2.2.2 := by
  intro n
  induction n with
  | zero => intro hn; exact R.afterA ⟨0, hn⟩ rfl (by show ¬0 % 16 = 15; decide)
  | succ n ih =>
    intro hn
    have hN := lt_of_lt_of_eq hn (show cfg0.N = 16 from N_0)
    by_cases h1 : (n + 1) % 16 = 15
    · exact R.afterC ⟨n + 1, hn⟩ (by show ¬(n + 1) % 16 = 0; omega) h1 (ih (by omega))
    · exact R.afterB ⟨n + 1, hn⟩ (by show ¬(n + 1) % 16 = 0; omega) h1 (ih (by omega))

end Cert.KernelIdeal.Chain
-- ==== Proof.Output.lean ====
/- The two result arrays of the call, at real inputs. -/
module

public import proofs.«01_k».proof.Proof.Sweep

@[expose] public section

noncomputable section

namespace Cert.KernelIdeal.Chain

open Idealize.ShloMosaic Idealize.ShloMosaic.TcCoe Idealize.SL.Sem Cert.KernelIdeal.Gen Cert.KernelIdeal.Value

variable {m : (ℓ : Loc nD τ sig) → Buf (Elt Ideal) ℓ} {c : Dev nD} {X : Data} (R : RealIn m c X)
include R

/-- The gradient of the projection. -/
theorem RealIn.result0 (n u : Fin 64) (p : Fin 3) (h : Fin 4) (k : Fin 128) :
    ((dats m 0 c).arrAt 6 cfg0.N : S4096x1536.Idx → EReal) (ix2 (pos n u) (col p h k)) = ((X.grad p n h u k : ℝ) : EReal) := by
  have hN : 15 - n.val / 4 < cfg0.N := lt_of_lt_of_eq (show 15 - n.val / 4 < 16 by omega) (show 16 = cfg0.N from N_0.symm)
  let t : Fin cfg0.N := ⟨15 - n.val / 4, hN⟩
  let j : Fin 4 := ⟨n.val % 4, by omega⟩
  have hbn : bn t.val j = n := Fin.ext (by rw [bn_val t.val (lt16 t) j]; show 60 - 4 * (15 - n.val / 4) + n.val % 4 = n.val; omega)
  have e := congrFun (blocks6 m c t (flush0_6 t)) (ix2 (brow j u) (col p h k))
  rw [flushed6] at e
  have a := (R.after t.val t.isLt).g j u p h k
  rw [hbn] at a
  rw [← a]
  refine Eq.trans ?_ (e.trans ?_)
  · have e0 : (brow j u).val = 64 * (n.val % 4) + u.val := rfl
    have e1 : (pos n u).val = 64 * n.val + u.val := rfl
    have ht : t.val = 15 - n.val / 4 := rfl
    symm
    blk_ext [idx t]
  · blk_ext [idx t]

omit R in
/-- The two stores of the logit gradients, read back. -/
theorem canon_logits (y0 y1 : FVec Ideal S1x512 .f32) (l : Fin 512) :
    View.canon ([⟨rLog 1, y1⟩, ⟨rLog 0, y0⟩] : List (View.Piece (Elt Ideal) S2x512 .f32)) (ix2 0 l) = y0 (ix2 0 l)
    ∧ View.canon ([⟨rLog 1, y1⟩, ⟨rLog 0, y0⟩] : List (View.Piece (Elt Ideal) S2x512 .f32)) (ix2 1 l) = y1 (ix2 0 l) := by
  have hy : ∀ n : Fin 2, (rLog n).emb (ix2 0 l) = ix2 n l := by
    intro n; funext a; apply Fin.ext
    match a with
    | ⟨0, _⟩ => show n.val + 1 * 0 = n.val; omega
    | ⟨1, _⟩ => show 0 + 1 * l.val = l.val; omega
  constructor
  · rw [View.canon_cons_of_not_mem _ _ fun hm => ?_, ← hy 0]
    · exact View.canon_cons_emb _ _ _ _
    · have e1 : 1 ≤ 0 ∧ _ := (Rect.mem_set_unit (inb := fitL 1)).mp hm 0
      exact absurd e1.1 (by decide)
  · rw [← hy 1]; exact View.canon_cons_emb _ _ _ _

omit R in
theorem logit0_apply (lb d : FVec Ideal S1x512 .f32) (l : Fin 512) (a b : ℝ) (ha : lb (ix2 0 l) = (a : EReal)) (hb : d (ix2 0 l) = (b : EReal)) :
    logit0 lb d (ix2 0 l) = ((b * a * (1 - a) : ℝ) : EReal) := by
  pointwise [logit0]
  rw [ha, hb]; norm_cast
omit R in
theorem logit1_apply (lb d : FVec Ideal S1x512 .f32) (l : Fin 512) (a b : ℝ) (ha : lb (ix2 0 l) = (a : EReal)) (hb : d (ix2 0 l) = (b : EReal)) :
    logit1 lb d (ix2 0 l) = ((0 - b * a * (1 - a) : ℝ) : EReal) := by
  have e := logit0_apply lb d l a b ha hb
  pointwise [logit1]
  rw [e]; norm_cast

omit R in
theorem readCov_whole (arg10 : Memref sig .tc .vmem S1x512 .f32) (L : List (View.Piece (Elt Ideal) S1x512 .f32))
    (hc : ∀ y : S1x512.Idx, ∃ q ∈ L, y ∈ q.1.set) (l : Fin 512) :
    arg10.view.readCov L (Rect.unit (s := S1x512) ![0, 0] S1x512.size inb_S1x512_S1x512_0_0).toLoadRect (ix2 0 l) = View.canon L (ix2 0 l) := by
  refine (congrFun (View.readCov_eq_canon arg10.view L (Rect.unit (s := S1x512) ![0, 0] S1x512.size inb_S1x512_S1x512_0_0).toLoadRect fun y => hc _) (ix2 0 l)).trans ?_
  refine congrArg (View.canon _) (funext fun a => Fin.ext ?_)
  match a with
  | ⟨0, _⟩ => rfl
  | ⟨1, _⟩ => show 0 + 1 * l.val = l.val; omega

variable (m c) in
omit R in
/-- The sums of point `t`, over what the point before left. -/
def sumsAt (t : Fin cfg0.N) : List (View.Piece (Elt Ideal) S1x512 .f32) :=
  lbNext scM0_1 (argsAt m c t) (csB scM0_0 (Memref.isWhole_whole _) (outsAt0 m c (t.val - 1) (Nat.lt_of_le_of_lt (Nat.sub_le _ _) t.isLt)).2.2.1)
    (lbB scM0_1 (Memref.isWhole_whole _) (outsAt0 m c (t.val - 1) (Nat.lt_of_le_of_lt (Nat.sub_le _ _) t.isLt)).2.2.2 (argsAt m c t) (csB scM0_0 (Memref.isWhole_whole _) (outsAt0 m c (t.val - 1) (Nat.lt_of_le_of_lt (Nat.sub_le _ _) t.isLt)).2.2.1))
omit R in
theorem cover_sumsAt (t : Fin cfg0.N) (y : S1x512.Idx) : ∃ q ∈ sumsAt m c t, y ∈ q.1.set :=
  cover_lbNext _ _ _ _ (cover_lbB _ _ _ _ _) y

theorem RealIn.logits (t : Fin cfg0.N) (h0 : ¬t.val % 16 = 0) (h1 : t.val % 16 = 15) (h : Fin 4) (k : Fin 128) :
    (outsAt0 m c t.val t.isLt).2.1 (ix2 0 (lane h k)) = ((X.gl h k : ℝ) : EReal)
    ∧ (outsAt0 m c t.val t.isLt).2.1 (ix2 1 (lane h k)) = ((0 - X.gl h k : ℝ) : EReal) := by
  have ht : t.val = 15 := by have := lt16 t; omega
  have hl := (R.after t.val t.isLt).l h k
  have r := leftC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2
  have q := leftC_logits c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

  have o1 : (outsAt0 m c t.val t.isLt).2.1 = View.canon
      [⟨rLog 1, logit1 (argsAt m c t).lbs (scM0_1.view.readCov (sumsAt m c t) (Rect.unit (s := S1x512) ![0, 0] S1x512.size inb_S1x512_S1x512_0_0).toLoadRect)⟩,
       ⟨rLog 0, logit0 (argsAt m c t).lbs (scM0_1.view.readCov (sumsAt m c t) (Rect.unit (s := S1x512) ![0, 0] S1x512.size inb_S1x512_S1x512_0_0).toLoadRect)⟩] :=
    by
    have hA : Args.mk (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) (iblk m c 5 t) = argsAt m c t := rfl
    rw [hA] at q
    unfold sumsAt
    rw [← q, outsAt0_C m c t h0 h1]
  have o2 : (outsAt0 m c t.val t.isLt).2.2.2 = View.canon (sumsAt m c t) := (congrArg (fun o => o.2.2.2) (outsAt0_C m c t h0 h1)).trans r.2.2
  rw [o2] at hl
  rw [o1]
  have hs := (readCov_whole scM0_1 _ (cover_sumsAt t) (lane h k)).trans hl
  have e16 : X.acc h k (t.val + 1) = X.glb h k := by rw [ht]; exact X.acc_all h k
  rw [e16] at hs
  have hlb := R.lbs t (lane h k)
  exact ⟨(canon_logits _ _ _).1.trans (logit0_apply _ _ _ _ _ hlb hs), (canon_logits _ _ _).2.trans (logit1_apply _ _ _ _ _ hlb hs)⟩

/-- The gradient of the logits. -/
theorem RealIn.result1 (h : Fin 4) (k : Fin 128) :
    ((dats m 0 c).arrAt 7 cfg0.N : S2x512.Idx → EReal) (ix2 0 (lane h k)) = ((X.gl h k : ℝ) : EReal)
    ∧ ((dats m 0 c).arrAt 7 cfg0.N : S2x512.Idx → EReal) (ix2 1 (lane h k)) = ((0 - X.gl h k : ℝ) : EReal) := by
  have e : (dats m 0 c).arrAt 7 cfg0.N = (outsAt0 m c t0_15.val t0_15.isLt).2.1 := by
    refine (dats m 0 c).arrAt_eq_of_after_last 7 t0_15 (by decide +kernel) _ fun j => ?_
    rw [after0_7]
    blk_simp
    rfl
  rw [e]
  exact R.logits t0_15 (by decide) (by decide) h k

end Cert.KernelIdeal.Chain
-- ==== Proof.StepsA.lean ====
/- The reference's operations in order, first part. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

/-- The arrays of a shape and an element type, the operations on one array and on two arrays of numbers, and the arrays that a buffer holds. -/
abbrev Arr (F : FTy → Type) (s : Shape) (e : EltTy) : Type := (⟨s, e⟩ : BufTy).Contents (Elt F)
abbrev Un (F : FTy → Type) (s t : Shape) : Type := Arr F s .f32 → Arr F t .f32
abbrev Bin (F : FTy → Type) (s : Shape) : Type := Arr F s .f32 → Arr F s .f32 → Arr F s .f32
abbrev At (F : FTy → Type) (r : Ref sig .tc) : Type := r.ty.Contents (Elt F)

variable {F : FTy → Type} [FloatOps F]

/-- @main's operations 1 … 30 of 1091 (window `main_part0`). -/
abbrev ops_part0_0 : List (HloOp τ sig (Elt F)) :=
  [ unary main_arg0 main_v0 ((extractStridedSlice S4096x1536 ![0, 0] · slices_S4096x2048_S4096x1536_0_0) : Un F S4096x2048 S4096x1536),
    nullary main_cst (constant S_ .f32 0xFF800000#32),
    binary main_arg1 main_cst main_v1 ((fun x v => Host.reduce FloatOps.maximumf x v reducesTo_S2x512_S512_d0 h_S_) : Arr F S2x512 .f32 → Un F S_ S512),
    reshape main_v1 main_v2 (rfl : (.f32 : EltTy) = .f32) shapeCasts_S512_S1x512,
    unary main_v2 main_v3 (broadcastInDim S2x512 ![0, 1] bcast_S1x512_S2x512_0_1 : Un F S1x512 S2x512),
    binary main_arg1 main_v3 main_v4 (cmpf .oeq : Arr F S2x512 .f32 → Arr F S2x512 .f32 → Arr F S2x512 .i1),
    unary main_v4 main_v5 (uitofp .f32 : Arr F S2x512 .i1 → Arr F S2x512 .f32),
    nullary main_cst_0 (constant S_ .f32 0x00000000#32),
    binary main_v5 main_cst_0 main_v6 ((fun x v => Host.reduceAdd x v reducesTo_S2x512_S512_d0 h_S_) : Arr F S2x512 .f32 → Un F S_ S512),
    nullary main_cst_1 (constant S_ .f32 0xFF800000#32),
    unary main_cst_1 main_v7 (broadcastInDim S512 ![] bcast_S_S512 : Un F S_ S512),
    binary main_v7 main_v1 main_v8 (maximumf : Bin F S512),
    nullary main_cst_2 (constant S_ .f32 0xFF800000#32),
    unary main_cst_2 main_v9 (broadcastInDim S512 ![] bcast_S_S512 : Un F S_ S512),
    binary main_v1 main_v9 main_v10 (cmpf .ogt : Arr F S512 .f32 → Arr F S512 .f32 → Arr F S512 .i1),
    nullary main_cst_3 (constant S_ .f32 0xFF800000#32),
    unary main_cst_3 main_v11 (broadcastInDim S512 ![] bcast_S_S512 : Un F S_ S512),
    binary main_v1 main_v11 main_v12 (cmpf .oeq : Arr F S512 .f32 → Arr F S512 .f32 → Arr F S512 .i1),
    nullary main_cst_4 (constant S_ .f32 0x3F800000#32),
    unary main_cst_4 main_v13 (broadcastInDim S512 ![] bcast_S_S512 : Un F S_ S512),
    nullary main_cst_5 (constant S_ .f32 0x00000000#32),
    unary main_cst_5 main_v14 (broadcastInDim S512 ![] bcast_S_S512 : Un F S_ S512),
    nullary main_cst_6 (constant S_ .f32 0x3F000000#32),
    unary main_cst_6 main_v15 (broadcastInDim S512 ![] bcast_S_S512 : Un F S_ S512),
    ternary main_v12 main_v15 main_v14 main_v16 (select : Arr F S512 .i1 → Bin F S512),
    ternary main_v10 main_v13 main_v16 main_v17 (select : Arr F S512 .i1 → Bin F S512),
    unary main_v8 main_v18 (broadcastInDim S1x512 ![1] bcast_S512_S1x512_1 : Un F S512 S1x512),
    unary main_v18 main_v19 (broadcastInDim S2x512 ![0, 1] bcast_S1x512_S2x512_0_1 : Un F S1x512 S2x512),
    binary main_arg1 main_v19 main_v20 (subf : Bin F S2x512),
    unary main_v20 main_v21 (Host.exp : Un F S2x512 S2x512) ]

/-- @main's operations 31 … 60 of 1091 (window `main_part0`). -/
abbrev ops_part0_1 : List (HloOp τ sig (Elt F)) :=
  [ nullary main_cst_7 (constant S_ .f32 0x00000000#32),
    binary main_v21 main_cst_7 main_v22 ((fun x v => Host.reduceAdd x v reducesTo_S2x512_S512_d0 h_S_) : Arr F S2x512 .f32 → Un F S_ S512),
    unary main_v22 main_v23 (broadcastInDim S1x512 ![1] bcast_S512_S1x512_1 : Un F S512 S1x512),
    unary main_v23 main_v24 (broadcastInDim S2x512 ![0, 1] bcast_S1x512_S2x512_0_1 : Un F S1x512 S2x512),
    binary main_v21 main_v24 main_v25 (Host.divf : Bin F S2x512),
    binary main_v23 main_v23 main_v26 (mulf : Bin F S1x512),
    nullary main_cst_8 (constant S_ .f32 0x3F800000#32),
    unary main_cst_8 main_v27 (broadcastInDim S1x512 ![] bcast_S_S1x512 : Un F S_ S1x512),
    binary main_v27 main_v26 main_v28 (Host.divf : Bin F S1x512),
    TRef.nullary (TRef.of (T := ⟨S_, .f32⟩) main_call0_call0_cst) (constant S_ .f32 0x00000000#32),
    TRef.unary (TRef.of (T := ⟨S_, .f32⟩) main_call0_call0_cst) (TRef.of (T := ⟨S_, .f32⟩) main_call0_call0_v0) (broadcastInDim S_ ![] bcast_S_S_),
    TRef.binary (TRef.of (T := ⟨S2x512, .f32⟩) main_v25) (TRef.of (T := ⟨S_, .f32⟩) main_call0_call0_v0) (TRef.of (T := ⟨S2x512, .f32⟩) main_v29) (fun x v => Host.reduceWindowAdd ![2, 1] ![1, 1] ![1, 0] ![0, 0] x v reduceWindows_S2x512_S2x512_w2s1p1_0_w1s1p0_0 h_S_),
    unary main_v0 main_v30 ((extractStridedSlice S4096x512 ![0, 0] · slices_S4096x1536_S4096x512_0_0) : Un F S4096x1536 S4096x512),
    unary main_v0 main_v31 ((extractStridedSlice S4096x512 ![0, 512] · slices_S4096x1536_S4096x512_0_512) : Un F S4096x1536 S4096x512),
    unary main_v0 main_v32 ((extractStridedSlice S4096x512 ![0, 1024] · slices_S4096x1536_S4096x512_0_1024) : Un F S4096x1536 S4096x512),
    unary main_v29 main_v33 ((extractStridedSlice S1x512 ![0, 0] · slices_S2x512_S1x512_0_0) : Un F S2x512 S1x512),
    reshape main_v33 main_v34 (rfl : (.f32 : EltTy) = .f32) shapeCasts_S1x512_S512,
    reshape main_v34 main_v35 (rfl : (.f32 : EltTy) = .f32) shapeCasts_S512_S4x128,
    reshape main_v30 main_v36 (rfl : (.f32 : EltTy) = .f32) shapeCasts_S4096x512_S1x4096x4x128,
    reshape main_v31 main_v37 (rfl : (.f32 : EltTy) = .f32) shapeCasts_S4096x512_S1x4096x4x128,
    reshape main_v32 main_v38 (rfl : (.f32 : EltTy) = .f32) shapeCasts_S4096x512_S1x4096x4x128,
    TRef.unary (TRef.of (T := ⟨S1x4096x4x128, .f32⟩) main_v36) (TRef.of (T := ⟨S1x4096x4x128, .f32⟩) main_call1_v0) Host.negf,
    TRef.unary (TRef.of (T := ⟨S1x4096x4x128, .f32⟩) main_call1_v0) (TRef.of (T := ⟨S1x4096x4x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S1x4096x4x128, .f32⟩) main_call1_v2) (broadcastInDim S1x4096x4x128 ![] bcast_S_S1x4096x4x128),
    TRef.binary (TRef.of (T := ⟨S1x4096x4x128, .f32⟩) main_call1_v2) (TRef.of (T := ⟨S1x4096x4x128, .f32⟩) main_call1_v1) (TRef.of (T := ⟨S1x4096x4x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S1x4096x4x128, .f32⟩) main_call1_v4) (broadcastInDim S1x4096x4x128 ![] bcast_S_S1x4096x4x128),
    TRef.binary (TRef.of (T := ⟨S1x4096x4x128, .f32⟩) main_call1_v4) (TRef.of (T := ⟨S1x4096x4x128, .f32⟩) main_call1_v3) (TRef.of (T := ⟨S1x4096x4x128, .f32⟩) main_v39_2) Host.divf,
    TRef.nullary (TRef.of (T := ⟨S_, .f32⟩) main_call1_cst_1) (constant S_ .f32 0x3F800000#32) ]

/-- @main's operations 61 … 74 of 1091 (window `main_part0`). -/
abbrev ops_part0_2 : List (HloOp τ sig (Elt F)) :=
  [ TRef.unary (TRef.of (T := ⟨S_, .f32⟩) main_call1_cst_1) (TRef.of (T := ⟨S1x4096x4x128, .f32⟩) main_call1_v6) (broadcastInDim S1x4096x4x128 ![] bcast_S_S1x4096x4x128),
    TRef.binary (TRef.of (T := ⟨S1x4096x4x128, .f32⟩) main_call1_v6) (TRef.of (T := ⟨S1x4096x4x128, .f32⟩) main_v39_2) (TRef.of (T := ⟨S1x4096x4x128, .f32⟩) main_call1_v7) subf,
    TRef.binary (TRef.of (T := ⟨S1x4096x4x128, .f32⟩) main_v39_2) (TRef.of (T := ⟨S1x4096x4x128, .f32⟩) main_call1_v7) (TRef.of (T := ⟨S1x4096x4x128, .f32⟩) main_v39_1) mulf,
    TRef.binary (TRef.of (T := ⟨S1x4096x4x128, .f32⟩) main_v36) (TRef.of (T := ⟨S1x4096x4x128, .f32⟩) main_v39_2) (TRef.of (T := ⟨S1x4096x4x128, .f32⟩) main_v39_0) mulf,
    nullary main_cst_9 (constant S_ .f32 0x3F800000#32),
    unary main_cst_9 main_v40 (broadcastInDim S4x128 ![] bcast_S_S4x128 : Un F S_ S4x128),
    binary main_v40 main_v35 main_v41 (subf : Bin F S4x128),
    unary main_v37 main_v42 (Host.negf : Un F S1x4096x4x128 S1x4096x4x128),
    unary main_v42 main_v43 (Host.exp : Un F S1x4096x4x128 S1x4096x4x128),
    nullary main_cst_10 (constant S_ .f32 0x3F800000#32),
    unary main_cst_10 main_v44 (broadcastInDim S1x4096x4x128 ![] bcast_S_S1x4096x4x128 : Un F S_ S1x4096x4x128),
    binary main_v44 main_v43 main_v45 (addf : Bin F S1x4096x4x128),
    nullary main_cst_11 (constant S_ .f32 0x3F800000#32),
    unary main_cst_11 main_v46 (broadcastInDim S1x4096x4x128 ![] bcast_S_S1x4096x4x128 : Un F S_ S1x4096x4x128) ]

/-- Window `main_part0`'s operations. -/
def ops_part0 : List (HloOp τ sig (Elt F)) :=
  ops_part0_0 ++ (ops_part0_1 ++ (ops_part0_2))

/-- @main's operations 75 … 104 of 1091 (window `main_part1`). -/
abbrev ops_part1_0 : List (HloOp τ sig (Elt F)) :=
  [ binary main_v46 main_v45 main_v47 (Host.divf : Bin F S1x4096x4x128),
    nullary main_cst_12 (constant S_ .f32 0x3F800000#32),
    unary main_cst_12 main_v48 (broadcastInDim S1x4096x4x128 ![] bcast_S_S1x4096x4x128 : Un F S_ S1x4096x4x128),
    binary main_v48 main_v47 main_v49 (subf : Bin F S1x4096x4x128),
    binary main_v47 main_v49 main_v50 (mulf : Bin F S1x4096x4x128),
    unary main_v41 main_v51 (broadcastInDim S1x1x4x128 ![2, 3] bcast_S4x128_S1x1x4x128_2_3 : Un F S4x128 S1x1x4x128),
    unary main_v51 main_v52 (broadcastInDim S1x4096x4x128 ![0, 1, 2, 3] bcast_S1x1x4x128_S1x4096x4x128_0_1_2_3 : Un F S1x1x4x128 S1x4096x4x128),
    binary main_v52 main_v47 main_v53 (mulf : Bin F S1x4096x4x128),
    unary main_v35 main_v54 (broadcastInDim S1x1x4x128 ![2, 3] bcast_S4x128_S1x1x4x128_2_3 : Un F S4x128 S1x1x4x128),
    unary main_v54 main_v55 (broadcastInDim S1x4096x4x128 ![0, 1, 2, 3] bcast_S1x1x4x128_S1x4096x4x128_0_1_2_3 : Un F S1x1x4x128 S1x4096x4x128),
    binary main_v55 main_v53 main_v56 (addf : Bin F S1x4096x4x128),
    nullary main_cst_13 (constant S_ .f32 0x3F800000#32),
    unary main_cst_13 main_v57 (broadcastInDim S1x4096x4x128 ![] bcast_S_S1x4096x4x128 : Un F S_ S1x4096x4x128),
    binary main_v57 main_v56 main_v58 (subf : Bin F S1x4096x4x128),
    unary main_v56 main_v59 (Host.log : Un F S1x4096x4x128 S1x4096x4x128),
    reshape main_v39_0 main_v60 (rfl : (.f32 : EltTy) = .f32) shapeCasts_S1x4096x4x128_S1x64x64x4x128,
    reshape main_v58 main_v61 (rfl : (.f32 : EltTy) = .f32) shapeCasts_S1x4096x4x128_S1x64x64x4x128,
    reshape main_v59 main_v62 (rfl : (.f32 : EltTy) = .f32) shapeCasts_S1x4096x4x128_S1x64x64x4x128,
    reshape main_v38 main_v63 (rfl : (.f32 : EltTy) = .f32) shapeCasts_S1x4096x4x128_S1x64x64x4x128,
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S1x64x64x4x128, .f32⟩) main_v62) (TRef.of (T := ⟨S_, .f32⟩) main_call2_call0_v0) (TRef.of (T := ⟨S1x64x64x4x128, .f32⟩) main_v64) (fun x v => Host.reduceWindowAdd ![1, 1, 64, 1, 1] ![1, 1, 1, 1, 1] ![0, 0, 63, 0, 0] ![0, 0, 0, 0, 0] x v reduceWindows_S1x64x64x4x128_S1x64x64x4x128_w1s1p0_0_w1s1p0_0_w64s1p63_0_w1s1p0_0_w1s1p0_0 h_S_),
    unary main_v64 main_v65 (Host.exp : Un F S1x64x64x4x128 S1x64x64x4x128),
    binary main_v60 main_v65 main_v66 (mulf : Bin F S1x64x64x4x128),
    unary main_v64 main_v67 (Host.negf : Un F S1x64x64x4x128 S1x64x64x4x128),
    unary main_v67 main_v68 (Host.exp : Un F S1x64x64x4x128 S1x64x64x4x128),
    binary main_v61 main_v68 main_v69 (mulf : Bin F S1x64x64x4x128),
    binary main_v66 main_v69 main_v70 ((fun l r => Host.dotGeneral dot_S1x64x64x4x128_S1x64x64x4x128_S1x64x4x64x64_4_4_2_2_013_013 none l r) : Arr F S1x64x64x4x128 .f32 → Un F S1x64x64x4x128 S1x64x4x64x64),
    nullary main_c (constantI S_ 1 1#1),
    unary main_c main_v71 (broadcastInDim S64x64 ![] bcast_S_S64x64 : Arr F S_ .i1 → Arr F S64x64 .i1) ]

/-- @main's operations 105 … 134 of 1091 (window `main_part1`). -/
abbrev ops_part1_1 : List (HloOp τ sig (Elt F)) :=
  [ TRef.nullary (TRef.of (T := ⟨S64x64, .i32⟩) main_call3_v0) (iotaInDim S64x64 32 0),
    TRef.nullary (TRef.of (T := ⟨S_, .i32⟩) main_call3_c) (constantI S_ 32 0#32),
    TRef.unary (TRef.of (T := ⟨S_, .i32⟩) main_call3_c) (TRef.of (T := ⟨S64x64, .i32⟩) main_call3_v1) (broadcastInDim S64x64 ![] bcast_S_S64x64),
    TRef.binary (TRef.of (T := ⟨S64x64, .i32⟩) main_call3_v0) (TRef.of (T := ⟨S64x64, .i32⟩) main_call3_v1) (TRef.of (T := ⟨S64x64, .i32⟩) main_call3_v2) addi,
    TRef.nullary (TRef.of (T := ⟨S64x64, .i32⟩) main_call3_v3) (iotaInDim S64x64 32 1),
    TRef.binary (TRef.of (T := ⟨S64x64, .i32⟩) main_call3_v2) (TRef.of (T := ⟨S64x64, .i32⟩) main_call3_v3) (TRef.of (T := ⟨S64x64, .i1⟩) main_call3_v4) (cmpi .sge),
    TRef.nullary (TRef.of (T := ⟨S_, .i1⟩) main_call3_c_0) (constantI S_ 1 0#1),
    TRef.unary (TRef.of (T := ⟨S_, .i1⟩) main_call3_c_0) (TRef.of (T := ⟨S64x64, .i1⟩) main_call3_v5) (broadcastInDim S64x64 ![] bcast_S_S64x64),
    TRef.ternary (TRef.of (T := ⟨S64x64, .i1⟩) main_call3_v4) (TRef.of (T := ⟨S64x64, .i1⟩) main_v71) (TRef.of (T := ⟨S64x64, .i1⟩) main_call3_v5) (TRef.of (T := ⟨S64x64, .i1⟩) main_v72) select,
    nullary main_cst_14 (constant S_ .f32 0x00000000#32),
    TRef.unary (TRef.of (T := ⟨S_, .f32⟩) main_cst_14) (TRef.of (T := ⟨S_, .f32⟩) main_call4_v0) id,
    TRef.unary (TRef.of (T := ⟨S64x64, .i1⟩) main_v72) (TRef.of (T := ⟨S1x64x4x64x64, .i1⟩) main_v73_1) (broadcastInDim S1x64x4x64x64 ![3, 4] bcast_S64x64_S1x64x4x64x64_3_4),
    TRef.unary (TRef.of (T := ⟨S_, .f32⟩) main_call4_v0) (TRef.of (T := ⟨S1x64x4x64x64, .f32⟩) main_call4_v2) (broadcastInDim S1x64x4x64x64 ![] bcast_S_S1x64x4x64x64),
    TRef.ternary (TRef.of (T := ⟨S1x64x4x64x64, .i1⟩) main_v73_1) (TRef.of (T := ⟨S1x64x4x64x64, .f32⟩) main_v70) (TRef.of (T := ⟨S1x64x4x64x64, .f32⟩) main_call4_v2) (TRef.of (T := ⟨S1x64x4x64x64, .f32⟩) main_v73_0) select,
    TRef.nullary (TRef.of (T := ⟨S_, .f32⟩) main_call4_cst) (constant S_ .f32 0x00000000#32),
    TRef.unary (TRef.of (T := ⟨S_, .f32⟩) main_call4_cst) (TRef.of (T := ⟨S1x64x4x64x64, .f32⟩) main_v73_2) (broadcastInDim S1x64x4x64x64 ![] bcast_S_S1x64x4x64x64),
    binary main_v63 main_v73_0 main_v74 ((fun l r => Host.dotGeneral dot_S1x64x64x4x128_S1x64x4x64x64_S1x64x4x128x64_2_4_4_3_013_012 none l r) : Arr F S1x64x64x4x128 .f32 → Un F S1x64x4x64x64 S1x64x4x128x64),
    unary main_v74 main_v75 ((transpose S1x64x64x4x128 [0, 1, 4, 2, 3] · transposes_S1x64x4x128x64_S1x64x64x4x128_0_1_4_2_3) : Un F S1x64x4x128x64 S1x64x64x4x128),
    unary main_v64 main_v76 ((extractStridedSlice S1x64x1x4x128 ![0, 0, 63, 0, 0] · slices_S1x64x64x4x128_S1x64x1x4x128_0_0_63_0_0) : Un F S1x64x64x4x128 S1x64x1x4x128),
    reshape main_v76 main_v77 (rfl : (.f32 : EltTy) = .f32) shapeCasts_S1x64x1x4x128_S1x64x4x128,
    unary main_v77 main_v78 (broadcastInDim S1x64x1x4x128 ![0, 1, 3, 4] bcast_S1x64x4x128_S1x64x1x4x128_0_1_3_4 : Un F S1x64x4x128 S1x64x1x4x128),
    unary main_v78 main_v79 (broadcastInDim S1x64x64x4x128 ![0, 1, 2, 3, 4] bcast_S1x64x1x4x128_S1x64x64x4x128_0_1_2_3_4 : Un F S1x64x1x4x128 S1x64x64x4x128),
    binary main_v79 main_v64 main_v80 (subf : Bin F S1x64x64x4x128),
    unary main_v80 main_v81 (Host.exp : Un F S1x64x64x4x128 S1x64x64x4x128),
    binary main_v61 main_v81 main_v82 (mulf : Bin F S1x64x64x4x128),
    binary main_v82 main_v63 main_v83 ((fun l r => Host.dotGeneral dot_S1x64x64x4x128_S1x64x64x4x128_S1x64x4x128x128_2_2_4_4_013_013 none l r) : Arr F S1x64x64x4x128 .f32 → Un F S1x64x64x4x128 S1x64x4x128x128),
    unary main_v77 main_v84 (Host.exp : Un F S1x64x4x128 S1x64x4x128),
    nullary main_cst_15 (constant S_ .f32 0x00000000#32),
    unary main_cst_15 main_v85 (broadcastInDim S1x1x4x128x128 ![] bcast_S_S1x1x4x128x128 : Un F S_ S1x1x4x128x128),
    unary main_v84 main_v86 (broadcastInDim S1x64x4x128x1 ![0, 1, 2, 3] bcast_S1x64x4x128_S1x64x4x128x1_0_1_2_3 : Un F S1x64x4x128 S1x64x4x128x1) ]

/-- @main's operations 135 … 149 of 1091 (window `main_part1`). -/
abbrev ops_part1_2 : List (HloOp τ sig (Elt F)) :=
  [ unary main_v86 main_v87 ((extractStridedSlice S1x1x4x128x1 ![0, 0, 0, 0, 0] · slices_S1x64x4x128x1_S1x1x4x128x1_0_0_0_0_0) : Un F S1x64x4x128x1 S1x1x4x128x1),
    unary main_v86 main_v88 ((extractStridedSlice S1x1x4x128x1 ![0, 1, 0, 0, 0] · slices_S1x64x4x128x1_S1x1x4x128x1_0_1_0_0_0) : Un F S1x64x4x128x1 S1x1x4x128x1),
    unary main_v86 main_v89 ((extractStridedSlice S1x1x4x128x1 ![0, 2, 0, 0, 0] · slices_S1x64x4x128x1_S1x1x4x128x1_0_2_0_0_0) : Un F S1x64x4x128x1 S1x1x4x128x1),
    unary main_v86 main_v90 ((extractStridedSlice S1x1x4x128x1 ![0, 3, 0, 0, 0] · slices_S1x64x4x128x1_S1x1x4x128x1_0_3_0_0_0) : Un F S1x64x4x128x1 S1x1x4x128x1),
    unary main_v86 main_v91 ((extractStridedSlice S1x1x4x128x1 ![0, 4, 0, 0, 0] · slices_S1x64x4x128x1_S1x1x4x128x1_0_4_0_0_0) : Un F S1x64x4x128x1 S1x1x4x128x1),
    unary main_v86 main_v92 ((extractStridedSlice S1x1x4x128x1 ![0, 5, 0, 0, 0] · slices_S1x64x4x128x1_S1x1x4x128x1_0_5_0_0_0) : Un F S1x64x4x128x1 S1x1x4x128x1),
    unary main_v86 main_v93 ((extractStridedSlice S1x1x4x128x1 ![0, 6, 0, 0, 0] · slices_S1x64x4x128x1_S1x1x4x128x1_0_6_0_0_0) : Un F S1x64x4x128x1 S1x1x4x128x1),
    unary main_v86 main_v94 ((extractStridedSlice S1x1x4x128x1 ![0, 7, 0, 0, 0] · slices_S1x64x4x128x1_S1x1x4x128x1_0_7_0_0_0) : Un F S1x64x4x128x1 S1x1x4x128x1),
    unary main_v86 main_v95 ((extractStridedSlice S1x1x4x128x1 ![0, 8, 0, 0, 0] · slices_S1x64x4x128x1_S1x1x4x128x1_0_8_0_0_0) : Un F S1x64x4x128x1 S1x1x4x128x1),
    unary main_v86 main_v96 ((extractStridedSlice S1x1x4x128x1 ![0, 9, 0, 0, 0] · slices_S1x64x4x128x1_S1x1x4x128x1_0_9_0_0_0) : Un F S1x64x4x128x1 S1x1x4x128x1),
    unary main_v86 main_v97 ((extractStridedSlice S1x1x4x128x1 ![0, 10, 0, 0, 0] · slices_S1x64x4x128x1_S1x1x4x128x1_0_10_0_0_0) : Un F S1x64x4x128x1 S1x1x4x128x1),
    unary main_v86 main_v98 ((extractStridedSlice S1x1x4x128x1 ![0, 11, 0, 0, 0] · slices_S1x64x4x128x1_S1x1x4x128x1_0_11_0_0_0) : Un F S1x64x4x128x1 S1x1x4x128x1),
    unary main_v86 main_v99 ((extractStridedSlice S1x1x4x128x1 ![0, 12, 0, 0, 0] · slices_S1x64x4x128x1_S1x1x4x128x1_0_12_0_0_0) : Un F S1x64x4x128x1 S1x1x4x128x1),
    unary main_v86 main_v100 ((extractStridedSlice S1x1x4x128x1 ![0, 13, 0, 0, 0] · slices_S1x64x4x128x1_S1x1x4x128x1_0_13_0_0_0) : Un F S1x64x4x128x1 S1x1x4x128x1),
    unary main_v86 main_v101 ((extractStridedSlice S1x1x4x128x1 ![0, 14, 0, 0, 0] · slices_S1x64x4x128x1_S1x1x4x128x1_0_14_0_0_0) : Un F S1x64x4x128x1 S1x1x4x128x1) ]

/-- Window `main_part1`'s operations. -/
def ops_part1 : List (HloOp τ sig (Elt F)) :=
  ops_part1_0 ++ (ops_part1_1 ++ (ops_part1_2))

/-- @main's operations 150 … 209 of 1091 (window `main_part2`). -/
abbrev ops_part2 : List (HloOp τ sig (Elt F)) :=
  [ unary main_v86 main_v102 ((extractStridedSlice S1x1x4x128x1 ![0, 15, 0, 0, 0] · slices_S1x64x4x128x1_S1x1x4x128x1_0_15_0_0_0) : Un F S1x64x4x128x1 S1x1x4x128x1),
    unary main_v86 main_v103 ((extractStridedSlice S1x1x4x128x1 ![0, 16, 0, 0, 0] · slices_S1x64x4x128x1_S1x1x4x128x1_0_16_0_0_0) : Un F S1x64x4x128x1 S1x1x4x128x1),
    unary main_v86 main_v104 ((extractStridedSlice S1x1x4x128x1 ![0, 17, 0, 0, 0] · slices_S1x64x4x128x1_S1x1x4x128x1_0_17_0_0_0) : Un F S1x64x4x128x1 S1x1x4x128x1),
    unary main_v86 main_v105 ((extractStridedSlice S1x1x4x128x1 ![0, 18, 0, 0, 0] · slices_S1x64x4x128x1_S1x1x4x128x1_0_18_0_0_0) : Un F S1x64x4x128x1 S1x1x4x128x1),
    unary main_v86 main_v106 ((extractStridedSlice S1x1x4x128x1 ![0, 19, 0, 0, 0] · slices_S1x64x4x128x1_S1x1x4x128x1_0_19_0_0_0) : Un F S1x64x4x128x1 S1x1x4x128x1),
    unary main_v86 main_v107 ((extractStridedSlice S1x1x4x128x1 ![0, 20, 0, 0, 0] · slices_S1x64x4x128x1_S1x1x4x128x1_0_20_0_0_0) : Un F S1x64x4x128x1 S1x1x4x128x1),
    unary main_v86 main_v108 ((extractStridedSlice S1x1x4x128x1 ![0, 21, 0, 0, 0] · slices_S1x64x4x128x1_S1x1x4x128x1_0_21_0_0_0) : Un F S1x64x4x128x1 S1x1x4x128x1),
    unary main_v86 main_v109 ((extractStridedSlice S1x1x4x128x1 ![0, 22, 0, 0, 0] · slices_S1x64x4x128x1_S1x1x4x128x1_0_22_0_0_0) : Un F S1x64x4x128x1 S1x1x4x128x1),
    unary main_v86 main_v110 ((extractStridedSlice S1x1x4x128x1 ![0, 23, 0, 0, 0] · slices_S1x64x4x128x1_S1x1x4x128x1_0_23_0_0_0) : Un F S1x64x4x128x1 S1x1x4x128x1),
    unary main_v86 main_v111 ((extractStridedSlice S1x1x4x128x1 ![0, 24, 0, 0, 0] · slices_S1x64x4x128x1_S1x1x4x128x1_0_24_0_0_0) : Un F S1x64x4x128x1 S1x1x4x128x1),
    unary main_v86 main_v112 ((extractStridedSlice S1x1x4x128x1 ![0, 25, 0, 0, 0] · slices_S1x64x4x128x1_S1x1x4x128x1_0_25_0_0_0) : Un F S1x64x4x128x1 S1x1x4x128x1),
    unary main_v86 main_v113 ((extractStridedSlice S1x1x4x128x1 ![0, 26, 0, 0, 0] · slices_S1x64x4x128x1_S1x1x4x128x1_0_26_0_0_0) : Un F S1x64x4x128x1 S1x1x4x128x1),
    unary main_v86 main_v114 ((extractStridedSlice S1x1x4x128x1 ![0, 27, 0, 0, 0] · slices_S1x64x4x128x1_S1x1x4x128x1_0_27_0_0_0) : Un F S1x64x4x128x1 S1x1x4x128x1),
    unary main_v86 main_v115 ((extractStridedSlice S1x1x4x128x1 ![0, 28, 0, 0, 0] · slices_S1x64x4x128x1_S1x1x4x128x1_0_28_0_0_0) : Un F S1x64x4x128x1 S1x1x4x128x1),
    unary main_v86 main_v116 ((extractStridedSlice S1x1x4x128x1 ![0, 29, 0, 0, 0] · slices_S1x64x4x128x1_S1x1x4x128x1_0_29_0_0_0) : Un F S1x64x4x128x1 S1x1x4x128x1),
    unary main_v86 main_v117 ((extractStridedSlice S1x1x4x128x1 ![0, 30, 0, 0, 0] · slices_S1x64x4x128x1_S1x1x4x128x1_0_30_0_0_0) : Un F S1x64x4x128x1 S1x1x4x128x1),
    unary main_v86 main_v118 ((extractStridedSlice S1x1x4x128x1 ![0, 31, 0, 0, 0] · slices_S1x64x4x128x1_S1x1x4x128x1_0_31_0_0_0) : Un F S1x64x4x128x1 S1x1x4x128x1),
    unary main_v86 main_v119 ((extractStridedSlice S1x1x4x128x1 ![0, 32, 0, 0, 0] · slices_S1x64x4x128x1_S1x1x4x128x1_0_32_0_0_0) : Un F S1x64x4x128x1 S1x1x4x128x1),
    unary main_v86 main_v120 ((extractStridedSlice S1x1x4x128x1 ![0, 33, 0, 0, 0] · slices_S1x64x4x128x1_S1x1x4x128x1_0_33_0_0_0) : Un F S1x64x4x128x1 S1x1x4x128x1),
    unary main_v86 main_v121 ((extractStridedSlice S1x1x4x128x1 ![0, 34, 0, 0, 0] · slices_S1x64x4x128x1_S1x1x4x128x1_0_34_0_0_0) : Un F S1x64x4x128x1 S1x1x4x128x1),
    unary main_v86 main_v122 ((extractStridedSlice S1x1x4x128x1 ![0, 35, 0, 0, 0] · slices_S1x64x4x128x1_S1x1x4x128x1_0_35_0_0_0) : Un F S1x64x4x128x1 S1x1x4x128x1),
    unary main_v86 main_v123 ((extractStridedSlice S1x1x4x128x1 ![0, 36, 0, 0, 0] · slices_S1x64x4x128x1_S1x1x4x128x1_0_36_0_0_0) : Un F S1x64x4x128x1 S1x1x4x128x1),
    unary main_v86 main_v124 ((extractStridedSlice S1x1x4x128x1 ![0, 37, 0, 0, 0] · slices_S1x64x4x128x1_S1x1x4x128x1_0_37_0_0_0) : Un F S1x64x4x128x1 S1x1x4x128x1),
    unary main_v86 main_v125 ((extractStridedSlice S1x1x4x128x1 ![0, 38, 0, 0, 0] · slices_S1x64x4x128x1_S1x1x4x128x1_0_38_0_0_0) : Un F S1x64x4x128x1 S1x1x4x128x1),
    unary main_v86 main_v126 ((extractStridedSlice S1x1x4x128x1 ![0, 39, 0, 0, 0] · slices_S1x64x4x128x1_S1x1x4x128x1_0_39_0_0_0) : Un F S1x64x4x128x1 S1x1x4x128x1),
    unary main_v86 main_v127 ((extractStridedSlice S1x1x4x128x1 ![0, 40, 0, 0, 0] · slices_S1x64x4x128x1_S1x1x4x128x1_0_40_0_0_0) : Un F S1x64x4x128x1 S1x1x4x128x1),
    unary main_v86 main_v128 ((extractStridedSlice S1x1x4x128x1 ![0, 41, 0, 0, 0] · slices_S1x64x4x128x1_S1x1x4x128x1_0_41_0_0_0) : Un F S1x64x4x128x1 S1x1x4x128x1),
    unary main_v86 main_v129 ((extractStridedSlice S1x1x4x128x1 ![0, 42, 0, 0, 0] · slices_S1x64x4x128x1_S1x1x4x128x1_0_42_0_0_0) : Un F S1x64x4x128x1 S1x1x4x128x1),
    unary main_v86 main_v130 ((extractStridedSlice S1x1x4x128x1 ![0, 43, 0, 0, 0] · slices_S1x64x4x128x1_S1x1x4x128x1_0_43_0_0_0) : Un F S1x64x4x128x1 S1x1x4x128x1),
    unary main_v86 main_v131 ((extractStridedSlice S1x1x4x128x1 ![0, 44, 0, 0, 0] · slices_S1x64x4x128x1_S1x1x4x128x1_0_44_0_0_0) : Un F S1x64x4x128x1 S1x1x4x128x1),
    unary main_v86 main_v132 ((extractStridedSlice S1x1x4x128x1 ![0, 45, 0, 0, 0] · slices_S1x64x4x128x1_S1x1x4x128x1_0_45_0_0_0) : Un F S1x64x4x128x1 S1x1x4x128x1),
    unary main_v86 main_v133 ((extractStridedSlice S1x1x4x128x1 ![0, 46, 0, 0, 0] · slices_S1x64x4x128x1_S1x1x4x128x1_0_46_0_0_0) : Un F S1x64x4x128x1 S1x1x4x128x1),
    unary main_v86 main_v134 ((extractStridedSlice S1x1x4x128x1 ![0, 47, 0, 0, 0] · slices_S1x64x4x128x1_S1x1x4x128x1_0_47_0_0_0) : Un F S1x64x4x128x1 S1x1x4x128x1),
    unary main_v86 main_v135 ((extractStridedSlice S1x1x4x128x1 ![0, 48, 0, 0, 0] · slices_S1x64x4x128x1_S1x1x4x128x1_0_48_0_0_0) : Un F S1x64x4x128x1 S1x1x4x128x1),
    unary main_v86 main_v136 ((extractStridedSlice S1x1x4x128x1 ![0, 49, 0, 0, 0] · slices_S1x64x4x128x1_S1x1x4x128x1_0_49_0_0_0) : Un F S1x64x4x128x1 S1x1x4x128x1),
    unary main_v86 main_v137 ((extractStridedSlice S1x1x4x128x1 ![0, 50, 0, 0, 0] · slices_S1x64x4x128x1_S1x1x4x128x1_0_50_0_0_0) : Un F S1x64x4x128x1 S1x1x4x128x1),
    unary main_v86 main_v138 ((extractStridedSlice S1x1x4x128x1 ![0, 51, 0, 0, 0] · slices_S1x64x4x128x1_S1x1x4x128x1_0_51_0_0_0) : Un F S1x64x4x128x1 S1x1x4x128x1),
    unary main_v86 main_v139 ((extractStridedSlice S1x1x4x128x1 ![0, 52, 0, 0, 0] · slices_S1x64x4x128x1_S1x1x4x128x1_0_52_0_0_0) : Un F S1x64x4x128x1 S1x1x4x128x1),
    unary main_v86 main_v140 ((extractStridedSlice S1x1x4x128x1 ![0, 53, 0, 0, 0] · slices_S1x64x4x128x1_S1x1x4x128x1_0_53_0_0_0) : Un F S1x64x4x128x1 S1x1x4x128x1),
    unary main_v86 main_v141 ((extractStridedSlice S1x1x4x128x1 ![0, 54, 0, 0, 0] · slices_S1x64x4x128x1_S1x1x4x128x1_0_54_0_0_0) : Un F S1x64x4x128x1 S1x1x4x128x1),
    unary main_v86 main_v142 ((extractStridedSlice S1x1x4x128x1 ![0, 55, 0, 0, 0] · slices_S1x64x4x128x1_S1x1x4x128x1_0_55_0_0_0) : Un F S1x64x4x128x1 S1x1x4x128x1),
    unary main_v86 main_v143 ((extractStridedSlice S1x1x4x128x1 ![0, 56, 0, 0, 0] · slices_S1x64x4x128x1_S1x1x4x128x1_0_56_0_0_0) : Un F S1x64x4x128x1 S1x1x4x128x1),
    unary main_v86 main_v144 ((extractStridedSlice S1x1x4x128x1 ![0, 57, 0, 0, 0] · slices_S1x64x4x128x1_S1x1x4x128x1_0_57_0_0_0) : Un F S1x64x4x128x1 S1x1x4x128x1),
    unary main_v86 main_v145 ((extractStridedSlice S1x1x4x128x1 ![0, 58, 0, 0, 0] · slices_S1x64x4x128x1_S1x1x4x128x1_0_58_0_0_0) : Un F S1x64x4x128x1 S1x1x4x128x1),
    unary main_v86 main_v146 ((extractStridedSlice S1x1x4x128x1 ![0, 59, 0, 0, 0] · slices_S1x64x4x128x1_S1x1x4x128x1_0_59_0_0_0) : Un F S1x64x4x128x1 S1x1x4x128x1),
    unary main_v86 main_v147 ((extractStridedSlice S1x1x4x128x1 ![0, 60, 0, 0, 0] · slices_S1x64x4x128x1_S1x1x4x128x1_0_60_0_0_0) : Un F S1x64x4x128x1 S1x1x4x128x1),
    unary main_v86 main_v148 ((extractStridedSlice S1x1x4x128x1 ![0, 61, 0, 0, 0] · slices_S1x64x4x128x1_S1x1x4x128x1_0_61_0_0_0) : Un F S1x64x4x128x1 S1x1x4x128x1),
    unary main_v86 main_v149 ((extractStridedSlice S1x1x4x128x1 ![0, 62, 0, 0, 0] · slices_S1x64x4x128x1_S1x1x4x128x1_0_62_0_0_0) : Un F S1x64x4x128x1 S1x1x4x128x1),
    unary main_v86 main_v150 ((extractStridedSlice S1x1x4x128x1 ![0, 63, 0, 0, 0] · slices_S1x64x4x128x1_S1x1x4x128x1_0_63_0_0_0) : Un F S1x64x4x128x1 S1x1x4x128x1),
    unary main_v83 main_v151 ((extractStridedSlice S1x1x4x128x128 ![0, 0, 0, 0, 0] · slices_S1x64x4x128x128_S1x1x4x128x128_0_0_0_0_0) : Un F S1x64x4x128x128 S1x1x4x128x128),
    unary main_v83 main_v152 ((extractStridedSlice S1x1x4x128x128 ![0, 1, 0, 0, 0] · slices_S1x64x4x128x128_S1x1x4x128x128_0_1_0_0_0) : Un F S1x64x4x128x128 S1x1x4x128x128),
    unary main_v83 main_v153 ((extractStridedSlice S1x1x4x128x128 ![0, 2, 0, 0, 0] · slices_S1x64x4x128x128_S1x1x4x128x128_0_2_0_0_0) : Un F S1x64x4x128x128 S1x1x4x128x128),
    unary main_v83 main_v154 ((extractStridedSlice S1x1x4x128x128 ![0, 3, 0, 0, 0] · slices_S1x64x4x128x128_S1x1x4x128x128_0_3_0_0_0) : Un F S1x64x4x128x128 S1x1x4x128x128),
    unary main_v83 main_v155 ((extractStridedSlice S1x1x4x128x128 ![0, 4, 0, 0, 0] · slices_S1x64x4x128x128_S1x1x4x128x128_0_4_0_0_0) : Un F S1x64x4x128x128 S1x1x4x128x128),
    unary main_v83 main_v156 ((extractStridedSlice S1x1x4x128x128 ![0, 5, 0, 0, 0] · slices_S1x64x4x128x128_S1x1x4x128x128_0_5_0_0_0) : Un F S1x64x4x128x128 S1x1x4x128x128),
    unary main_v83 main_v157 ((extractStridedSlice S1x1x4x128x128 ![0, 6, 0, 0, 0] · slices_S1x64x4x128x128_S1x1x4x128x128_0_6_0_0_0) : Un F S1x64x4x128x128 S1x1x4x128x128),
    unary main_v83 main_v158 ((extractStridedSlice S1x1x4x128x128 ![0, 7, 0, 0, 0] · slices_S1x64x4x128x128_S1x1x4x128x128_0_7_0_0_0) : Un F S1x64x4x128x128 S1x1x4x128x128),
    unary main_v83 main_v159 ((extractStridedSlice S1x1x4x128x128 ![0, 8, 0, 0, 0] · slices_S1x64x4x128x128_S1x1x4x128x128_0_8_0_0_0) : Un F S1x64x4x128x128 S1x1x4x128x128),
    unary main_v83 main_v160 ((extractStridedSlice S1x1x4x128x128 ![0, 9, 0, 0, 0] · slices_S1x64x4x128x128_S1x1x4x128x128_0_9_0_0_0) : Un F S1x64x4x128x128 S1x1x4x128x128),
    unary main_v83 main_v161 ((extractStridedSlice S1x1x4x128x128 ![0, 10, 0, 0, 0] · slices_S1x64x4x128x128_S1x1x4x128x128_0_10_0_0_0) : Un F S1x64x4x128x128 S1x1x4x128x128) ]

/-- @main's operations 210 … 269 of 1091 (window `main_part3`). -/
abbrev ops_part3 : List (HloOp τ sig (Elt F)) :=
  [ unary main_v83 main_v162 ((extractStridedSlice S1x1x4x128x128 ![0, 11, 0, 0, 0] · slices_S1x64x4x128x128_S1x1x4x128x128_0_11_0_0_0) : Un F S1x64x4x128x128 S1x1x4x128x128),
    unary main_v83 main_v163 ((extractStridedSlice S1x1x4x128x128 ![0, 12, 0, 0, 0] · slices_S1x64x4x128x128_S1x1x4x128x128_0_12_0_0_0) : Un F S1x64x4x128x128 S1x1x4x128x128),
    unary main_v83 main_v164 ((extractStridedSlice S1x1x4x128x128 ![0, 13, 0, 0, 0] · slices_S1x64x4x128x128_S1x1x4x128x128_0_13_0_0_0) : Un F S1x64x4x128x128 S1x1x4x128x128),
    unary main_v83 main_v165 ((extractStridedSlice S1x1x4x128x128 ![0, 14, 0, 0, 0] · slices_S1x64x4x128x128_S1x1x4x128x128_0_14_0_0_0) : Un F S1x64x4x128x128 S1x1x4x128x128),
    unary main_v83 main_v166 ((extractStridedSlice S1x1x4x128x128 ![0, 15, 0, 0, 0] · slices_S1x64x4x128x128_S1x1x4x128x128_0_15_0_0_0) : Un F S1x64x4x128x128 S1x1x4x128x128),
    unary main_v83 main_v167 ((extractStridedSlice S1x1x4x128x128 ![0, 16, 0, 0, 0] · slices_S1x64x4x128x128_S1x1x4x128x128_0_16_0_0_0) : Un F S1x64x4x128x128 S1x1x4x128x128),
    unary main_v83 main_v168 ((extractStridedSlice S1x1x4x128x128 ![0, 17, 0, 0, 0] · slices_S1x64x4x128x128_S1x1x4x128x128_0_17_0_0_0) : Un F S1x64x4x128x128 S1x1x4x128x128),
    unary main_v83 main_v169 ((extractStridedSlice S1x1x4x128x128 ![0, 18, 0, 0, 0] · slices_S1x64x4x128x128_S1x1x4x128x128_0_18_0_0_0) : Un F S1x64x4x128x128 S1x1x4x128x128),
    unary main_v83 main_v170 ((extractStridedSlice S1x1x4x128x128 ![0, 19, 0, 0, 0] · slices_S1x64x4x128x128_S1x1x4x128x128_0_19_0_0_0) : Un F S1x64x4x128x128 S1x1x4x128x128),
    unary main_v83 main_v171 ((extractStridedSlice S1x1x4x128x128 ![0, 20, 0, 0, 0] · slices_S1x64x4x128x128_S1x1x4x128x128_0_20_0_0_0) : Un F S1x64x4x128x128 S1x1x4x128x128),
    unary main_v83 main_v172 ((extractStridedSlice S1x1x4x128x128 ![0, 21, 0, 0, 0] · slices_S1x64x4x128x128_S1x1x4x128x128_0_21_0_0_0) : Un F S1x64x4x128x128 S1x1x4x128x128),
    unary main_v83 main_v173 ((extractStridedSlice S1x1x4x128x128 ![0, 22, 0, 0, 0] · slices_S1x64x4x128x128_S1x1x4x128x128_0_22_0_0_0) : Un F S1x64x4x128x128 S1x1x4x128x128),
    unary main_v83 main_v174 ((extractStridedSlice S1x1x4x128x128 ![0, 23, 0, 0, 0] · slices_S1x64x4x128x128_S1x1x4x128x128_0_23_0_0_0) : Un F S1x64x4x128x128 S1x1x4x128x128),
    unary main_v83 main_v175 ((extractStridedSlice S1x1x4x128x128 ![0, 24, 0, 0, 0] · slices_S1x64x4x128x128_S1x1x4x128x128_0_24_0_0_0) : Un F S1x64x4x128x128 S1x1x4x128x128),
    unary main_v83 main_v176 ((extractStridedSlice S1x1x4x128x128 ![0, 25, 0, 0, 0] · slices_S1x64x4x128x128_S1x1x4x128x128_0_25_0_0_0) : Un F S1x64x4x128x128 S1x1x4x128x128),
    unary main_v83 main_v177 ((extractStridedSlice S1x1x4x128x128 ![0, 26, 0, 0, 0] · slices_S1x64x4x128x128_S1x1x4x128x128_0_26_0_0_0) : Un F S1x64x4x128x128 S1x1x4x128x128),
    unary main_v83 main_v178 ((extractStridedSlice S1x1x4x128x128 ![0, 27, 0, 0, 0] · slices_S1x64x4x128x128_S1x1x4x128x128_0_27_0_0_0) : Un F S1x64x4x128x128 S1x1x4x128x128),
    unary main_v83 main_v179 ((extractStridedSlice S1x1x4x128x128 ![0, 28, 0, 0, 0] · slices_S1x64x4x128x128_S1x1x4x128x128_0_28_0_0_0) : Un F S1x64x4x128x128 S1x1x4x128x128),
    unary main_v83 main_v180 ((extractStridedSlice S1x1x4x128x128 ![0, 29, 0, 0, 0] · slices_S1x64x4x128x128_S1x1x4x128x128_0_29_0_0_0) : Un F S1x64x4x128x128 S1x1x4x128x128),
    unary main_v83 main_v181 ((extractStridedSlice S1x1x4x128x128 ![0, 30, 0, 0, 0] · slices_S1x64x4x128x128_S1x1x4x128x128_0_30_0_0_0) : Un F S1x64x4x128x128 S1x1x4x128x128),
    unary main_v83 main_v182 ((extractStridedSlice S1x1x4x128x128 ![0, 31, 0, 0, 0] · slices_S1x64x4x128x128_S1x1x4x128x128_0_31_0_0_0) : Un F S1x64x4x128x128 S1x1x4x128x128),
    unary main_v83 main_v183 ((extractStridedSlice S1x1x4x128x128 ![0, 32, 0, 0, 0] · slices_S1x64x4x128x128_S1x1x4x128x128_0_32_0_0_0) : Un F S1x64x4x128x128 S1x1x4x128x128),
    unary main_v83 main_v184 ((extractStridedSlice S1x1x4x128x128 ![0, 33, 0, 0, 0] · slices_S1x64x4x128x128_S1x1x4x128x128_0_33_0_0_0) : Un F S1x64x4x128x128 S1x1x4x128x128),
    unary main_v83 main_v185 ((extractStridedSlice S1x1x4x128x128 ![0, 34, 0, 0, 0] · slices_S1x64x4x128x128_S1x1x4x128x128_0_34_0_0_0) : Un F S1x64x4x128x128 S1x1x4x128x128),
    unary main_v83 main_v186 ((extractStridedSlice S1x1x4x128x128 ![0, 35, 0, 0, 0] · slices_S1x64x4x128x128_S1x1x4x128x128_0_35_0_0_0) : Un F S1x64x4x128x128 S1x1x4x128x128),
    unary main_v83 main_v187 ((extractStridedSlice S1x1x4x128x128 ![0, 36, 0, 0, 0] · slices_S1x64x4x128x128_S1x1x4x128x128_0_36_0_0_0) : Un F S1x64x4x128x128 S1x1x4x128x128),
    unary main_v83 main_v188 ((extractStridedSlice S1x1x4x128x128 ![0, 37, 0, 0, 0] · slices_S1x64x4x128x128_S1x1x4x128x128_0_37_0_0_0) : Un F S1x64x4x128x128 S1x1x4x128x128),
    unary main_v83 main_v189 ((extractStridedSlice S1x1x4x128x128 ![0, 38, 0, 0, 0] · slices_S1x64x4x128x128_S1x1x4x128x128_0_38_0_0_0) : Un F S1x64x4x128x128 S1x1x4x128x128),
    unary main_v83 main_v190 ((extractStridedSlice S1x1x4x128x128 ![0, 39, 0, 0, 0] · slices_S1x64x4x128x128_S1x1x4x128x128_0_39_0_0_0) : Un F S1x64x4x128x128 S1x1x4x128x128),
    unary main_v83 main_v191 ((extractStridedSlice S1x1x4x128x128 ![0, 40, 0, 0, 0] · slices_S1x64x4x128x128_S1x1x4x128x128_0_40_0_0_0) : Un F S1x64x4x128x128 S1x1x4x128x128),
    unary main_v83 main_v192 ((extractStridedSlice S1x1x4x128x128 ![0, 41, 0, 0, 0] · slices_S1x64x4x128x128_S1x1x4x128x128_0_41_0_0_0) : Un F S1x64x4x128x128 S1x1x4x128x128),
    unary main_v83 main_v193 ((extractStridedSlice S1x1x4x128x128 ![0, 42, 0, 0, 0] · slices_S1x64x4x128x128_S1x1x4x128x128_0_42_0_0_0) : Un F S1x64x4x128x128 S1x1x4x128x128),
    unary main_v83 main_v194 ((extractStridedSlice S1x1x4x128x128 ![0, 43, 0, 0, 0] · slices_S1x64x4x128x128_S1x1x4x128x128_0_43_0_0_0) : Un F S1x64x4x128x128 S1x1x4x128x128),
    unary main_v83 main_v195 ((extractStridedSlice S1x1x4x128x128 ![0, 44, 0, 0, 0] · slices_S1x64x4x128x128_S1x1x4x128x128_0_44_0_0_0) : Un F S1x64x4x128x128 S1x1x4x128x128),
    unary main_v83 main_v196 ((extractStridedSlice S1x1x4x128x128 ![0, 45, 0, 0, 0] · slices_S1x64x4x128x128_S1x1x4x128x128_0_45_0_0_0) : Un F S1x64x4x128x128 S1x1x4x128x128),
    unary main_v83 main_v197 ((extractStridedSlice S1x1x4x128x128 ![0, 46, 0, 0, 0] · slices_S1x64x4x128x128_S1x1x4x128x128_0_46_0_0_0) : Un F S1x64x4x128x128 S1x1x4x128x128),
    unary main_v83 main_v198 ((extractStridedSlice S1x1x4x128x128 ![0, 47, 0, 0, 0] · slices_S1x64x4x128x128_S1x1x4x128x128_0_47_0_0_0) : Un F S1x64x4x128x128 S1x1x4x128x128),
    unary main_v83 main_v199 ((extractStridedSlice S1x1x4x128x128 ![0, 48, 0, 0, 0] · slices_S1x64x4x128x128_S1x1x4x128x128_0_48_0_0_0) : Un F S1x64x4x128x128 S1x1x4x128x128),
    unary main_v83 main_v200 ((extractStridedSlice S1x1x4x128x128 ![0, 49, 0, 0, 0] · slices_S1x64x4x128x128_S1x1x4x128x128_0_49_0_0_0) : Un F S1x64x4x128x128 S1x1x4x128x128),
    unary main_v83 main_v201 ((extractStridedSlice S1x1x4x128x128 ![0, 50, 0, 0, 0] · slices_S1x64x4x128x128_S1x1x4x128x128_0_50_0_0_0) : Un F S1x64x4x128x128 S1x1x4x128x128),
    unary main_v83 main_v202 ((extractStridedSlice S1x1x4x128x128 ![0, 51, 0, 0, 0] · slices_S1x64x4x128x128_S1x1x4x128x128_0_51_0_0_0) : Un F S1x64x4x128x128 S1x1x4x128x128),
    unary main_v83 main_v203 ((extractStridedSlice S1x1x4x128x128 ![0, 52, 0, 0, 0] · slices_S1x64x4x128x128_S1x1x4x128x128_0_52_0_0_0) : Un F S1x64x4x128x128 S1x1x4x128x128),
    unary main_v83 main_v204 ((extractStridedSlice S1x1x4x128x128 ![0, 53, 0, 0, 0] · slices_S1x64x4x128x128_S1x1x4x128x128_0_53_0_0_0) : Un F S1x64x4x128x128 S1x1x4x128x128),
    unary main_v83 main_v205 ((extractStridedSlice S1x1x4x128x128 ![0, 54, 0, 0, 0] · slices_S1x64x4x128x128_S1x1x4x128x128_0_54_0_0_0) : Un F S1x64x4x128x128 S1x1x4x128x128),
    unary main_v83 main_v206 ((extractStridedSlice S1x1x4x128x128 ![0, 55, 0, 0, 0] · slices_S1x64x4x128x128_S1x1x4x128x128_0_55_0_0_0) : Un F S1x64x4x128x128 S1x1x4x128x128),
    unary main_v83 main_v207 ((extractStridedSlice S1x1x4x128x128 ![0, 56, 0, 0, 0] · slices_S1x64x4x128x128_S1x1x4x128x128_0_56_0_0_0) : Un F S1x64x4x128x128 S1x1x4x128x128),
    unary main_v83 main_v208 ((extractStridedSlice S1x1x4x128x128 ![0, 57, 0, 0, 0] · slices_S1x64x4x128x128_S1x1x4x128x128_0_57_0_0_0) : Un F S1x64x4x128x128 S1x1x4x128x128),
    unary main_v83 main_v209 ((extractStridedSlice S1x1x4x128x128 ![0, 58, 0, 0, 0] · slices_S1x64x4x128x128_S1x1x4x128x128_0_58_0_0_0) : Un F S1x64x4x128x128 S1x1x4x128x128),
    unary main_v83 main_v210 ((extractStridedSlice S1x1x4x128x128 ![0, 59, 0, 0, 0] · slices_S1x64x4x128x128_S1x1x4x128x128_0_59_0_0_0) : Un F S1x64x4x128x128 S1x1x4x128x128),
    unary main_v83 main_v211 ((extractStridedSlice S1x1x4x128x128 ![0, 60, 0, 0, 0] · slices_S1x64x4x128x128_S1x1x4x128x128_0_60_0_0_0) : Un F S1x64x4x128x128 S1x1x4x128x128),
    unary main_v83 main_v212 ((extractStridedSlice S1x1x4x128x128 ![0, 61, 0, 0, 0] · slices_S1x64x4x128x128_S1x1x4x128x128_0_61_0_0_0) : Un F S1x64x4x128x128 S1x1x4x128x128),
    unary main_v83 main_v213 ((extractStridedSlice S1x1x4x128x128 ![0, 62, 0, 0, 0] · slices_S1x64x4x128x128_S1x1x4x128x128_0_62_0_0_0) : Un F S1x64x4x128x128 S1x1x4x128x128),
    unary main_v83 main_v214 ((extractStridedSlice S1x1x4x128x128 ![0, 63, 0, 0, 0] · slices_S1x64x4x128x128_S1x1x4x128x128_0_63_0_0_0) : Un F S1x64x4x128x128 S1x1x4x128x128),
    unary main_v87 main_v215 (broadcastInDim S1x1x4x128x128 ![0, 1, 2, 3, 4] bcast_S1x1x4x128x1_S1x1x4x128x128_0_1_2_3_4 : Un F S1x1x4x128x1 S1x1x4x128x128),
    binary main_v215 main_v85 main_v216 (mulf : Bin F S1x1x4x128x128),
    binary main_v216 main_v151 main_v217 (addf : Bin F S1x1x4x128x128),
    unary main_v88 main_v218 (broadcastInDim S1x1x4x128x128 ![0, 1, 2, 3, 4] bcast_S1x1x4x128x1_S1x1x4x128x128_0_1_2_3_4 : Un F S1x1x4x128x1 S1x1x4x128x128),
    binary main_v218 main_v217 main_v219 (mulf : Bin F S1x1x4x128x128),
    binary main_v219 main_v152 main_v220 (addf : Bin F S1x1x4x128x128),
    unary main_v89 main_v221 (broadcastInDim S1x1x4x128x128 ![0, 1, 2, 3, 4] bcast_S1x1x4x128x1_S1x1x4x128x128_0_1_2_3_4 : Un F S1x1x4x128x1 S1x1x4x128x128) ]

/-- @main's operations 270 … 329 of 1091 (window `main_part4`). -/
abbrev ops_part4 : List (HloOp τ sig (Elt F)) :=
  [ binary main_v221 main_v220 main_v222 (mulf : Bin F S1x1x4x128x128),
    binary main_v222 main_v153 main_v223 (addf : Bin F S1x1x4x128x128),
    unary main_v90 main_v224 (broadcastInDim S1x1x4x128x128 ![0, 1, 2, 3, 4] bcast_S1x1x4x128x1_S1x1x4x128x128_0_1_2_3_4 : Un F S1x1x4x128x1 S1x1x4x128x128),
    binary main_v224 main_v223 main_v225 (mulf : Bin F S1x1x4x128x128),
    binary main_v225 main_v154 main_v226 (addf : Bin F S1x1x4x128x128),
    unary main_v91 main_v227 (broadcastInDim S1x1x4x128x128 ![0, 1, 2, 3, 4] bcast_S1x1x4x128x1_S1x1x4x128x128_0_1_2_3_4 : Un F S1x1x4x128x1 S1x1x4x128x128),
    binary main_v227 main_v226 main_v228 (mulf : Bin F S1x1x4x128x128),
    binary main_v228 main_v155 main_v229 (addf : Bin F S1x1x4x128x128),
    unary main_v92 main_v230 (broadcastInDim S1x1x4x128x128 ![0, 1, 2, 3, 4] bcast_S1x1x4x128x1_S1x1x4x128x128_0_1_2_3_4 : Un F S1x1x4x128x1 S1x1x4x128x128),
    binary main_v230 main_v229 main_v231 (mulf : Bin F S1x1x4x128x128),
    binary main_v231 main_v156 main_v232 (addf : Bin F S1x1x4x128x128),
    unary main_v93 main_v233 (broadcastInDim S1x1x4x128x128 ![0, 1, 2, 3, 4] bcast_S1x1x4x128x1_S1x1x4x128x128_0_1_2_3_4 : Un F S1x1x4x128x1 S1x1x4x128x128),
    binary main_v233 main_v232 main_v234 (mulf : Bin F S1x1x4x128x128),
    binary main_v234 main_v157 main_v235 (addf : Bin F S1x1x4x128x128),
    unary main_v94 main_v236 (broadcastInDim S1x1x4x128x128 ![0, 1, 2, 3, 4] bcast_S1x1x4x128x1_S1x1x4x128x128_0_1_2_3_4 : Un F S1x1x4x128x1 S1x1x4x128x128),
    binary main_v236 main_v235 main_v237 (mulf : Bin F S1x1x4x128x128),
    binary main_v237 main_v158 main_v238 (addf : Bin F S1x1x4x128x128),
    unary main_v95 main_v239 (broadcastInDim S1x1x4x128x128 ![0, 1, 2, 3, 4] bcast_S1x1x4x128x1_S1x1x4x128x128_0_1_2_3_4 : Un F S1x1x4x128x1 S1x1x4x128x128),
    binary main_v239 main_v238 main_v240 (mulf : Bin F S1x1x4x128x128),
    binary main_v240 main_v159 main_v241 (addf : Bin F S1x1x4x128x128),
    unary main_v96 main_v242 (broadcastInDim S1x1x4x128x128 ![0, 1, 2, 3, 4] bcast_S1x1x4x128x1_S1x1x4x128x128_0_1_2_3_4 : Un F S1x1x4x128x1 S1x1x4x128x128),
    binary main_v242 main_v241 main_v243 (mulf : Bin F S1x1x4x128x128),
    binary main_v243 main_v160 main_v244 (addf : Bin F S1x1x4x128x128),
    unary main_v97 main_v245 (broadcastInDim S1x1x4x128x128 ![0, 1, 2, 3, 4] bcast_S1x1x4x128x1_S1x1x4x128x128_0_1_2_3_4 : Un F S1x1x4x128x1 S1x1x4x128x128),
    binary main_v245 main_v244 main_v246 (mulf : Bin F S1x1x4x128x128),
    binary main_v246 main_v161 main_v247 (addf : Bin F S1x1x4x128x128),
    unary main_v98 main_v248 (broadcastInDim S1x1x4x128x128 ![0, 1, 2, 3, 4] bcast_S1x1x4x128x1_S1x1x4x128x128_0_1_2_3_4 : Un F S1x1x4x128x1 S1x1x4x128x128),
    binary main_v248 main_v247 main_v249 (mulf : Bin F S1x1x4x128x128),
    binary main_v249 main_v162 main_v250 (addf : Bin F S1x1x4x128x128),
    unary main_v99 main_v251 (broadcastInDim S1x1x4x128x128 ![0, 1, 2, 3, 4] bcast_S1x1x4x128x1_S1x1x4x128x128_0_1_2_3_4 : Un F S1x1x4x128x1 S1x1x4x128x128),
    binary main_v251 main_v250 main_v252 (mulf : Bin F S1x1x4x128x128),
    binary main_v252 main_v163 main_v253 (addf : Bin F S1x1x4x128x128),
    unary main_v100 main_v254 (broadcastInDim S1x1x4x128x128 ![0, 1, 2, 3, 4] bcast_S1x1x4x128x1_S1x1x4x128x128_0_1_2_3_4 : Un F S1x1x4x128x1 S1x1x4x128x128),
    binary main_v254 main_v253 main_v255 (mulf : Bin F S1x1x4x128x128),
    binary main_v255 main_v164 main_v256 (addf : Bin F S1x1x4x128x128),
    unary main_v101 main_v257 (broadcastInDim S1x1x4x128x128 ![0, 1, 2, 3, 4] bcast_S1x1x4x128x1_S1x1x4x128x128_0_1_2_3_4 : Un F S1x1x4x128x1 S1x1x4x128x128),
    binary main_v257 main_v256 main_v258 (mulf : Bin F S1x1x4x128x128),
    binary main_v258 main_v165 main_v259 (addf : Bin F S1x1x4x128x128),
    unary main_v102 main_v260 (broadcastInDim S1x1x4x128x128 ![0, 1, 2, 3, 4] bcast_S1x1x4x128x1_S1x1x4x128x128_0_1_2_3_4 : Un F S1x1x4x128x1 S1x1x4x128x128),
    binary main_v260 main_v259 main_v261 (mulf : Bin F S1x1x4x128x128),
    binary main_v261 main_v166 main_v262 (addf : Bin F S1x1x4x128x128),
    unary main_v103 main_v263 (broadcastInDim S1x1x4x128x128 ![0, 1, 2, 3, 4] bcast_S1x1x4x128x1_S1x1x4x128x128_0_1_2_3_4 : Un F S1x1x4x128x1 S1x1x4x128x128),
    binary main_v263 main_v262 main_v264 (mulf : Bin F S1x1x4x128x128),
    binary main_v264 main_v167 main_v265 (addf : Bin F S1x1x4x128x128),
    unary main_v104 main_v266 (broadcastInDim S1x1x4x128x128 ![0, 1, 2, 3, 4] bcast_S1x1x4x128x1_S1x1x4x128x128_0_1_2_3_4 : Un F S1x1x4x128x1 S1x1x4x128x128),
    binary main_v266 main_v265 main_v267 (mulf : Bin F S1x1x4x128x128),
    binary main_v267 main_v168 main_v268 (addf : Bin F S1x1x4x128x128),
    unary main_v105 main_v269 (broadcastInDim S1x1x4x128x128 ![0, 1, 2, 3, 4] bcast_S1x1x4x128x1_S1x1x4x128x128_0_1_2_3_4 : Un F S1x1x4x128x1 S1x1x4x128x128),
    binary main_v269 main_v268 main_v270 (mulf : Bin F S1x1x4x128x128),
    binary main_v270 main_v169 main_v271 (addf : Bin F S1x1x4x128x128),
    unary main_v106 main_v272 (broadcastInDim S1x1x4x128x128 ![0, 1, 2, 3, 4] bcast_S1x1x4x128x1_S1x1x4x128x128_0_1_2_3_4 : Un F S1x1x4x128x1 S1x1x4x128x128),
    binary main_v272 main_v271 main_v273 (mulf : Bin F S1x1x4x128x128),
    binary main_v273 main_v170 main_v274 (addf : Bin F S1x1x4x128x128),
    unary main_v107 main_v275 (broadcastInDim S1x1x4x128x128 ![0, 1, 2, 3, 4] bcast_S1x1x4x128x1_S1x1x4x128x128_0_1_2_3_4 : Un F S1x1x4x128x1 S1x1x4x128x128),
    binary main_v275 main_v274 main_v276 (mulf : Bin F S1x1x4x128x128),
    binary main_v276 main_v171 main_v277 (addf : Bin F S1x1x4x128x128),
    unary main_v108 main_v278 (broadcastInDim S1x1x4x128x128 ![0, 1, 2, 3, 4] bcast_S1x1x4x128x1_S1x1x4x128x128_0_1_2_3_4 : Un F S1x1x4x128x1 S1x1x4x128x128),
    binary main_v278 main_v277 main_v279 (mulf : Bin F S1x1x4x128x128),
    binary main_v279 main_v172 main_v280 (addf : Bin F S1x1x4x128x128),
    unary main_v109 main_v281 (broadcastInDim S1x1x4x128x128 ![0, 1, 2, 3, 4] bcast_S1x1x4x128x1_S1x1x4x128x128_0_1_2_3_4 : Un F S1x1x4x128x1 S1x1x4x128x128) ]

end Cert.ReferenceIdeal.Steps
-- ==== Proof.LineA.lean ====
/- Each window of the reference's operations assigns rising buffers. -/
module

public import proofs.«01_k».proof.Proof.Fix
public import proofs.«01_k».proof.Proof.StepsA

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem line0_0 : Line 3 (ops_part0_0 (F := F)) 33 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line0_1 : Line 33 (ops_part0_1 (F := F)) 63 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line0_2 : Line 63 (ops_part0_2 (F := F)) 77 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line1_0 : Line 77 (ops_part1_0 (F := F)) 107 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line1_1 : Line 107 (ops_part1_1 (F := F)) 137 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line1_2 : Line 137 (ops_part1_2 (F := F)) 152 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line2 : Line 152 (ops_part2 (F := F)) 212 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line3 : Line 212 (ops_part3 (F := F)) 272 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line4 : Line 272 (ops_part4 (F := F)) 332 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

end Cert.ReferenceIdeal.Steps
-- ==== Proof.StepsB.lean ====
/- The reference's operations in order, second part. -/
module

public import proofs.«01_k».proof.Proof.StepsA
public import Idealize.ShloMosaic.Lib.StableHlo.Run
public import Idealize.ShloMosaic.Lib.Pipeline.Frame

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The joining of the pieces of `main_v407`. -/
def fn_main_v407 : At F main_v85 → At F main_v217 → At F main_v220 → At F main_v223 → At F main_v226 → At F main_v229 → At F main_v232 → At F main_v235 → At F main_v238 → At F main_v241 → At F main_v244 → At F main_v247 → At F main_v250 → At F main_v253 → At F main_v256 → At F main_v259 → At F main_v407 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v408`. -/
def fn_main_v408 : At F main_v262 → At F main_v265 → At F main_v268 → At F main_v271 → At F main_v274 → At F main_v277 → At F main_v280 → At F main_v283 → At F main_v286 → At F main_v289 → At F main_v292 → At F main_v295 → At F main_v298 → At F main_v301 → At F main_v304 → At F main_v307 → At F main_v408 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v409`. -/
def fn_main_v409 : At F main_v310 → At F main_v313 → At F main_v316 → At F main_v319 → At F main_v322 → At F main_v325 → At F main_v328 → At F main_v331 → At F main_v334 → At F main_v337 → At F main_v340 → At F main_v343 → At F main_v346 → At F main_v349 → At F main_v352 → At F main_v355 → At F main_v409 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v410`. -/
def fn_main_v410 : At F main_v358 → At F main_v361 → At F main_v364 → At F main_v367 → At F main_v370 → At F main_v373 → At F main_v376 → At F main_v379 → At F main_v382 → At F main_v385 → At F main_v388 → At F main_v391 → At F main_v394 → At F main_v397 → At F main_v400 → At F main_v403 → At F main_v410 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v411`. -/
def fn_main_v411 : At F main_v407 → At F main_v408 → At F main_v409 → At F main_v410 → At F main_v411 :=
  (fun u0 u1 u2 u3 => (concatenate S1x64x4x128x128 1 [⟨S1x16x4x128x128, u0⟩, ⟨S1x16x4x128x128, u1⟩, ⟨S1x16x4x128x128, u2⟩, ⟨S1x16x4x128x128, u3⟩] concatenates_S1x16x4x128x128_S1x16x4x128x128_S1x16x4x128x128_S1x16x4x128x128_S1x64x4x128x128_d1 : Arr F S1x64x4x128x128 .f32))

/-- @main's operations 330 … 389 of 1091 (window `main_part5`). -/
abbrev ops_part5 : List (HloOp τ sig (Elt F)) :=
  [ binary main_v281 main_v280 main_v282 (mulf : Bin F S1x1x4x128x128),
    binary main_v282 main_v173 main_v283 (addf : Bin F S1x1x4x128x128),
    unary main_v110 main_v284 (broadcastInDim S1x1x4x128x128 ![0, 1, 2, 3, 4] bcast_S1x1x4x128x1_S1x1x4x128x128_0_1_2_3_4 : Un F S1x1x4x128x1 S1x1x4x128x128),
    binary main_v284 main_v283 main_v285 (mulf : Bin F S1x1x4x128x128),
    binary main_v285 main_v174 main_v286 (addf : Bin F S1x1x4x128x128),
    unary main_v111 main_v287 (broadcastInDim S1x1x4x128x128 ![0, 1, 2, 3, 4] bcast_S1x1x4x128x1_S1x1x4x128x128_0_1_2_3_4 : Un F S1x1x4x128x1 S1x1x4x128x128),
    binary main_v287 main_v286 main_v288 (mulf : Bin F S1x1x4x128x128),
    binary main_v288 main_v175 main_v289 (addf : Bin F S1x1x4x128x128),
    unary main_v112 main_v290 (broadcastInDim S1x1x4x128x128 ![0, 1, 2, 3, 4] bcast_S1x1x4x128x1_S1x1x4x128x128_0_1_2_3_4 : Un F S1x1x4x128x1 S1x1x4x128x128),
    binary main_v290 main_v289 main_v291 (mulf : Bin F S1x1x4x128x128),
    binary main_v291 main_v176 main_v292 (addf : Bin F S1x1x4x128x128),
    unary main_v113 main_v293 (broadcastInDim S1x1x4x128x128 ![0, 1, 2, 3, 4] bcast_S1x1x4x128x1_S1x1x4x128x128_0_1_2_3_4 : Un F S1x1x4x128x1 S1x1x4x128x128),
    binary main_v293 main_v292 main_v294 (mulf : Bin F S1x1x4x128x128),
    binary main_v294 main_v177 main_v295 (addf : Bin F S1x1x4x128x128),
    unary main_v114 main_v296 (broadcastInDim S1x1x4x128x128 ![0, 1, 2, 3, 4] bcast_S1x1x4x128x1_S1x1x4x128x128_0_1_2_3_4 : Un F S1x1x4x128x1 S1x1x4x128x128),
    binary main_v296 main_v295 main_v297 (mulf : Bin F S1x1x4x128x128),
    binary main_v297 main_v178 main_v298 (addf : Bin F S1x1x4x128x128),
    unary main_v115 main_v299 (broadcastInDim S1x1x4x128x128 ![0, 1, 2, 3, 4] bcast_S1x1x4x128x1_S1x1x4x128x128_0_1_2_3_4 : Un F S1x1x4x128x1 S1x1x4x128x128),
    binary main_v299 main_v298 main_v300 (mulf : Bin F S1x1x4x128x128),
    binary main_v300 main_v179 main_v301 (addf : Bin F S1x1x4x128x128),
    unary main_v116 main_v302 (broadcastInDim S1x1x4x128x128 ![0, 1, 2, 3, 4] bcast_S1x1x4x128x1_S1x1x4x128x128_0_1_2_3_4 : Un F S1x1x4x128x1 S1x1x4x128x128),
    binary main_v302 main_v301 main_v303 (mulf : Bin F S1x1x4x128x128),
    binary main_v303 main_v180 main_v304 (addf : Bin F S1x1x4x128x128),
    unary main_v117 main_v305 (broadcastInDim S1x1x4x128x128 ![0, 1, 2, 3, 4] bcast_S1x1x4x128x1_S1x1x4x128x128_0_1_2_3_4 : Un F S1x1x4x128x1 S1x1x4x128x128),
    binary main_v305 main_v304 main_v306 (mulf : Bin F S1x1x4x128x128),
    binary main_v306 main_v181 main_v307 (addf : Bin F S1x1x4x128x128),
    unary main_v118 main_v308 (broadcastInDim S1x1x4x128x128 ![0, 1, 2, 3, 4] bcast_S1x1x4x128x1_S1x1x4x128x128_0_1_2_3_4 : Un F S1x1x4x128x1 S1x1x4x128x128),
    binary main_v308 main_v307 main_v309 (mulf : Bin F S1x1x4x128x128),
    binary main_v309 main_v182 main_v310 (addf : Bin F S1x1x4x128x128),
    unary main_v119 main_v311 (broadcastInDim S1x1x4x128x128 ![0, 1, 2, 3, 4] bcast_S1x1x4x128x1_S1x1x4x128x128_0_1_2_3_4 : Un F S1x1x4x128x1 S1x1x4x128x128),
    binary main_v311 main_v310 main_v312 (mulf : Bin F S1x1x4x128x128),
    binary main_v312 main_v183 main_v313 (addf : Bin F S1x1x4x128x128),
    unary main_v120 main_v314 (broadcastInDim S1x1x4x128x128 ![0, 1, 2, 3, 4] bcast_S1x1x4x128x1_S1x1x4x128x128_0_1_2_3_4 : Un F S1x1x4x128x1 S1x1x4x128x128),
    binary main_v314 main_v313 main_v315 (mulf : Bin F S1x1x4x128x128),
    binary main_v315 main_v184 main_v316 (addf : Bin F S1x1x4x128x128),
    unary main_v121 main_v317 (broadcastInDim S1x1x4x128x128 ![0, 1, 2, 3, 4] bcast_S1x1x4x128x1_S1x1x4x128x128_0_1_2_3_4 : Un F S1x1x4x128x1 S1x1x4x128x128),
    binary main_v317 main_v316 main_v318 (mulf : Bin F S1x1x4x128x128),
    binary main_v318 main_v185 main_v319 (addf : Bin F S1x1x4x128x128),
    unary main_v122 main_v320 (broadcastInDim S1x1x4x128x128 ![0, 1, 2, 3, 4] bcast_S1x1x4x128x1_S1x1x4x128x128_0_1_2_3_4 : Un F S1x1x4x128x1 S1x1x4x128x128),
    binary main_v320 main_v319 main_v321 (mulf : Bin F S1x1x4x128x128),
    binary main_v321 main_v186 main_v322 (addf : Bin F S1x1x4x128x128),
    unary main_v123 main_v323 (broadcastInDim S1x1x4x128x128 ![0, 1, 2, 3, 4] bcast_S1x1x4x128x1_S1x1x4x128x128_0_1_2_3_4 : Un F S1x1x4x128x1 S1x1x4x128x128),
    binary main_v323 main_v322 main_v324 (mulf : Bin F S1x1x4x128x128),
    binary main_v324 main_v187 main_v325 (addf : Bin F S1x1x4x128x128),
    unary main_v124 main_v326 (broadcastInDim S1x1x4x128x128 ![0, 1, 2, 3, 4] bcast_S1x1x4x128x1_S1x1x4x128x128_0_1_2_3_4 : Un F S1x1x4x128x1 S1x1x4x128x128),
    binary main_v326 main_v325 main_v327 (mulf : Bin F S1x1x4x128x128),
    binary main_v327 main_v188 main_v328 (addf : Bin F S1x1x4x128x128),
    unary main_v125 main_v329 (broadcastInDim S1x1x4x128x128 ![0, 1, 2, 3, 4] bcast_S1x1x4x128x1_S1x1x4x128x128_0_1_2_3_4 : Un F S1x1x4x128x1 S1x1x4x128x128),
    binary main_v329 main_v328 main_v330 (mulf : Bin F S1x1x4x128x128),
    binary main_v330 main_v189 main_v331 (addf : Bin F S1x1x4x128x128),
    unary main_v126 main_v332 (broadcastInDim S1x1x4x128x128 ![0, 1, 2, 3, 4] bcast_S1x1x4x128x1_S1x1x4x128x128_0_1_2_3_4 : Un F S1x1x4x128x1 S1x1x4x128x128),
    binary main_v332 main_v331 main_v333 (mulf : Bin F S1x1x4x128x128),
    binary main_v333 main_v190 main_v334 (addf : Bin F S1x1x4x128x128),
    unary main_v127 main_v335 (broadcastInDim S1x1x4x128x128 ![0, 1, 2, 3, 4] bcast_S1x1x4x128x1_S1x1x4x128x128_0_1_2_3_4 : Un F S1x1x4x128x1 S1x1x4x128x128),
    binary main_v335 main_v334 main_v336 (mulf : Bin F S1x1x4x128x128),
    binary main_v336 main_v191 main_v337 (addf : Bin F S1x1x4x128x128),
    unary main_v128 main_v338 (broadcastInDim S1x1x4x128x128 ![0, 1, 2, 3, 4] bcast_S1x1x4x128x1_S1x1x4x128x128_0_1_2_3_4 : Un F S1x1x4x128x1 S1x1x4x128x128),
    binary main_v338 main_v337 main_v339 (mulf : Bin F S1x1x4x128x128),
    binary main_v339 main_v192 main_v340 (addf : Bin F S1x1x4x128x128),
    unary main_v129 main_v341 (broadcastInDim S1x1x4x128x128 ![0, 1, 2, 3, 4] bcast_S1x1x4x128x1_S1x1x4x128x128_0_1_2_3_4 : Un F S1x1x4x128x1 S1x1x4x128x128) ]

/-- @main's operations 390 … 449 of 1091 (window `main_part6`). -/
abbrev ops_part6 : List (HloOp τ sig (Elt F)) :=
  [ binary main_v341 main_v340 main_v342 (mulf : Bin F S1x1x4x128x128),
    binary main_v342 main_v193 main_v343 (addf : Bin F S1x1x4x128x128),
    unary main_v130 main_v344 (broadcastInDim S1x1x4x128x128 ![0, 1, 2, 3, 4] bcast_S1x1x4x128x1_S1x1x4x128x128_0_1_2_3_4 : Un F S1x1x4x128x1 S1x1x4x128x128),
    binary main_v344 main_v343 main_v345 (mulf : Bin F S1x1x4x128x128),
    binary main_v345 main_v194 main_v346 (addf : Bin F S1x1x4x128x128),
    unary main_v131 main_v347 (broadcastInDim S1x1x4x128x128 ![0, 1, 2, 3, 4] bcast_S1x1x4x128x1_S1x1x4x128x128_0_1_2_3_4 : Un F S1x1x4x128x1 S1x1x4x128x128),
    binary main_v347 main_v346 main_v348 (mulf : Bin F S1x1x4x128x128),
    binary main_v348 main_v195 main_v349 (addf : Bin F S1x1x4x128x128),
    unary main_v132 main_v350 (broadcastInDim S1x1x4x128x128 ![0, 1, 2, 3, 4] bcast_S1x1x4x128x1_S1x1x4x128x128_0_1_2_3_4 : Un F S1x1x4x128x1 S1x1x4x128x128),
    binary main_v350 main_v349 main_v351 (mulf : Bin F S1x1x4x128x128),
    binary main_v351 main_v196 main_v352 (addf : Bin F S1x1x4x128x128),
    unary main_v133 main_v353 (broadcastInDim S1x1x4x128x128 ![0, 1, 2, 3, 4] bcast_S1x1x4x128x1_S1x1x4x128x128_0_1_2_3_4 : Un F S1x1x4x128x1 S1x1x4x128x128),
    binary main_v353 main_v352 main_v354 (mulf : Bin F S1x1x4x128x128),
    binary main_v354 main_v197 main_v355 (addf : Bin F S1x1x4x128x128),
    unary main_v134 main_v356 (broadcastInDim S1x1x4x128x128 ![0, 1, 2, 3, 4] bcast_S1x1x4x128x1_S1x1x4x128x128_0_1_2_3_4 : Un F S1x1x4x128x1 S1x1x4x128x128),
    binary main_v356 main_v355 main_v357 (mulf : Bin F S1x1x4x128x128),
    binary main_v357 main_v198 main_v358 (addf : Bin F S1x1x4x128x128),
    unary main_v135 main_v359 (broadcastInDim S1x1x4x128x128 ![0, 1, 2, 3, 4] bcast_S1x1x4x128x1_S1x1x4x128x128_0_1_2_3_4 : Un F S1x1x4x128x1 S1x1x4x128x128),
    binary main_v359 main_v358 main_v360 (mulf : Bin F S1x1x4x128x128),
    binary main_v360 main_v199 main_v361 (addf : Bin F S1x1x4x128x128),
    unary main_v136 main_v362 (broadcastInDim S1x1x4x128x128 ![0, 1, 2, 3, 4] bcast_S1x1x4x128x1_S1x1x4x128x128_0_1_2_3_4 : Un F S1x1x4x128x1 S1x1x4x128x128),
    binary main_v362 main_v361 main_v363 (mulf : Bin F S1x1x4x128x128),
    binary main_v363 main_v200 main_v364 (addf : Bin F S1x1x4x128x128),
    unary main_v137 main_v365 (broadcastInDim S1x1x4x128x128 ![0, 1, 2, 3, 4] bcast_S1x1x4x128x1_S1x1x4x128x128_0_1_2_3_4 : Un F S1x1x4x128x1 S1x1x4x128x128),
    binary main_v365 main_v364 main_v366 (mulf : Bin F S1x1x4x128x128),
    binary main_v366 main_v201 main_v367 (addf : Bin F S1x1x4x128x128),
    unary main_v138 main_v368 (broadcastInDim S1x1x4x128x128 ![0, 1, 2, 3, 4] bcast_S1x1x4x128x1_S1x1x4x128x128_0_1_2_3_4 : Un F S1x1x4x128x1 S1x1x4x128x128),
    binary main_v368 main_v367 main_v369 (mulf : Bin F S1x1x4x128x128),
    binary main_v369 main_v202 main_v370 (addf : Bin F S1x1x4x128x128),
    unary main_v139 main_v371 (broadcastInDim S1x1x4x128x128 ![0, 1, 2, 3, 4] bcast_S1x1x4x128x1_S1x1x4x128x128_0_1_2_3_4 : Un F S1x1x4x128x1 S1x1x4x128x128),
    binary main_v371 main_v370 main_v372 (mulf : Bin F S1x1x4x128x128),
    binary main_v372 main_v203 main_v373 (addf : Bin F S1x1x4x128x128),
    unary main_v140 main_v374 (broadcastInDim S1x1x4x128x128 ![0, 1, 2, 3, 4] bcast_S1x1x4x128x1_S1x1x4x128x128_0_1_2_3_4 : Un F S1x1x4x128x1 S1x1x4x128x128),
    binary main_v374 main_v373 main_v375 (mulf : Bin F S1x1x4x128x128),
    binary main_v375 main_v204 main_v376 (addf : Bin F S1x1x4x128x128),
    unary main_v141 main_v377 (broadcastInDim S1x1x4x128x128 ![0, 1, 2, 3, 4] bcast_S1x1x4x128x1_S1x1x4x128x128_0_1_2_3_4 : Un F S1x1x4x128x1 S1x1x4x128x128),
    binary main_v377 main_v376 main_v378 (mulf : Bin F S1x1x4x128x128),
    binary main_v378 main_v205 main_v379 (addf : Bin F S1x1x4x128x128),
    unary main_v142 main_v380 (broadcastInDim S1x1x4x128x128 ![0, 1, 2, 3, 4] bcast_S1x1x4x128x1_S1x1x4x128x128_0_1_2_3_4 : Un F S1x1x4x128x1 S1x1x4x128x128),
    binary main_v380 main_v379 main_v381 (mulf : Bin F S1x1x4x128x128),
    binary main_v381 main_v206 main_v382 (addf : Bin F S1x1x4x128x128),
    unary main_v143 main_v383 (broadcastInDim S1x1x4x128x128 ![0, 1, 2, 3, 4] bcast_S1x1x4x128x1_S1x1x4x128x128_0_1_2_3_4 : Un F S1x1x4x128x1 S1x1x4x128x128),
    binary main_v383 main_v382 main_v384 (mulf : Bin F S1x1x4x128x128),
    binary main_v384 main_v207 main_v385 (addf : Bin F S1x1x4x128x128),
    unary main_v144 main_v386 (broadcastInDim S1x1x4x128x128 ![0, 1, 2, 3, 4] bcast_S1x1x4x128x1_S1x1x4x128x128_0_1_2_3_4 : Un F S1x1x4x128x1 S1x1x4x128x128),
    binary main_v386 main_v385 main_v387 (mulf : Bin F S1x1x4x128x128),
    binary main_v387 main_v208 main_v388 (addf : Bin F S1x1x4x128x128),
    unary main_v145 main_v389 (broadcastInDim S1x1x4x128x128 ![0, 1, 2, 3, 4] bcast_S1x1x4x128x1_S1x1x4x128x128_0_1_2_3_4 : Un F S1x1x4x128x1 S1x1x4x128x128),
    binary main_v389 main_v388 main_v390 (mulf : Bin F S1x1x4x128x128),
    binary main_v390 main_v209 main_v391 (addf : Bin F S1x1x4x128x128),
    unary main_v146 main_v392 (broadcastInDim S1x1x4x128x128 ![0, 1, 2, 3, 4] bcast_S1x1x4x128x1_S1x1x4x128x128_0_1_2_3_4 : Un F S1x1x4x128x1 S1x1x4x128x128),
    binary main_v392 main_v391 main_v393 (mulf : Bin F S1x1x4x128x128),
    binary main_v393 main_v210 main_v394 (addf : Bin F S1x1x4x128x128),
    unary main_v147 main_v395 (broadcastInDim S1x1x4x128x128 ![0, 1, 2, 3, 4] bcast_S1x1x4x128x1_S1x1x4x128x128_0_1_2_3_4 : Un F S1x1x4x128x1 S1x1x4x128x128),
    binary main_v395 main_v394 main_v396 (mulf : Bin F S1x1x4x128x128),
    binary main_v396 main_v211 main_v397 (addf : Bin F S1x1x4x128x128),
    unary main_v148 main_v398 (broadcastInDim S1x1x4x128x128 ![0, 1, 2, 3, 4] bcast_S1x1x4x128x1_S1x1x4x128x128_0_1_2_3_4 : Un F S1x1x4x128x1 S1x1x4x128x128),
    binary main_v398 main_v397 main_v399 (mulf : Bin F S1x1x4x128x128),
    binary main_v399 main_v212 main_v400 (addf : Bin F S1x1x4x128x128),
    unary main_v149 main_v401 (broadcastInDim S1x1x4x128x128 ![0, 1, 2, 3, 4] bcast_S1x1x4x128x1_S1x1x4x128x128_0_1_2_3_4 : Un F S1x1x4x128x1 S1x1x4x128x128) ]

/-- @main's operations 450 … 509 of 1091 (window `main_part7`). -/
abbrev ops_part7 : List (HloOp τ sig (Elt F)) :=
  [ binary main_v401 main_v400 main_v402 (mulf : Bin F S1x1x4x128x128),
    binary main_v402 main_v213 main_v403 (addf : Bin F S1x1x4x128x128),
    unary main_v150 main_v404 (broadcastInDim S1x1x4x128x128 ![0, 1, 2, 3, 4] bcast_S1x1x4x128x1_S1x1x4x128x128_0_1_2_3_4 : Un F S1x1x4x128x1 S1x1x4x128x128),
    binary main_v404 main_v403 main_v405 (mulf : Bin F S1x1x4x128x128),
    binary main_v405 main_v214 main_v406 (addf : Bin F S1x1x4x128x128),
    nary ![main_v85, main_v217, main_v220, main_v223, main_v226, main_v229, main_v232, main_v235, main_v238, main_v241, main_v244, main_v247, main_v250, main_v253, main_v256, main_v259] main_v407 (fun u => fn_main_v407 (F := F) (u 0) (u 1) (u 2) (u 3) (u 4) (u 5) (u 6) (u 7) (u 8) (u 9) (u 10) (u 11) (u 12) (u 13) (u 14) (u 15)),
    nary ![main_v262, main_v265, main_v268, main_v271, main_v274, main_v277, main_v280, main_v283, main_v286, main_v289, main_v292, main_v295, main_v298, main_v301, main_v304, main_v307] main_v408 (fun u => fn_main_v408 (F := F) (u 0) (u 1) (u 2) (u 3) (u 4) (u 5) (u 6) (u 7) (u 8) (u 9) (u 10) (u 11) (u 12) (u 13) (u 14) (u 15)),
    nary ![main_v310, main_v313, main_v316, main_v319, main_v322, main_v325, main_v328, main_v331, main_v334, main_v337, main_v340, main_v343, main_v346, main_v349, main_v352, main_v355] main_v409 (fun u => fn_main_v409 (F := F) (u 0) (u 1) (u 2) (u 3) (u 4) (u 5) (u 6) (u 7) (u 8) (u 9) (u 10) (u 11) (u 12) (u 13) (u 14) (u 15)),
    nary ![main_v358, main_v361, main_v364, main_v367, main_v370, main_v373, main_v376, main_v379, main_v382, main_v385, main_v388, main_v391, main_v394, main_v397, main_v400, main_v403] main_v410 (fun u => fn_main_v410 (F := F) (u 0) (u 1) (u 2) (u 3) (u 4) (u 5) (u 6) (u 7) (u 8) (u 9) (u 10) (u 11) (u 12) (u 13) (u 14) (u 15)),
    nary ![main_v407, main_v408, main_v409, main_v410] main_v411 (fun u => fn_main_v411 (F := F) (u 0) (u 1) (u 2) (u 3)),
    nullary main_cst_16 (constant S_ .f32 0x00000000#32),
    unary main_cst_16 main_v412 (broadcastInDim S1x1x4x128x128 ![] bcast_S_S1x1x4x128x128 : Un F S_ S1x1x4x128x128),
    binary main_v411 main_v66 main_v413 ((fun l r => Host.dotGeneral dot_S1x64x4x128x128_S1x64x64x4x128_S1x64x4x128x64_3_4_4_2_012_013 none l r) : Arr F S1x64x4x128x128 .f32 → Un F S1x64x64x4x128 S1x64x4x128x64),
    unary main_v413 main_v414 ((transpose S1x64x64x4x128 [0, 1, 4, 2, 3] · transposes_S1x64x4x128x64_S1x64x64x4x128_0_1_4_2_3) : Un F S1x64x4x128x64 S1x64x64x4x128),
    binary main_v75 main_v414 main_v415 (addf : Bin F S1x64x64x4x128),
    reshape main_v415 main_v416 (rfl : (.f32 : EltTy) = .f32) shapeCasts_S1x64x64x4x128_S1x4096x4x128,
    reshape main_v416 main_v417 (rfl : (.f32 : EltTy) = .f32) shapeCasts_S1x4096x4x128_S4096x512,
    reshape main_arg2 main_v418 (rfl : (.f32 : EltTy) = .f32) shapeCasts_S4096x512_S1x4096x4x128,
    reshape main_v418 main_v419 (rfl : (.f32 : EltTy) = .f32) shapeCasts_S1x4096x4x128_S1x64x64x4x128,
    unary main_v419 main_v420 ((transpose S1x64x4x128x64 [0, 1, 3, 4, 2] · transposes_S1x64x64x4x128_S1x64x4x128x64_0_1_3_4_2) : Un F S1x64x64x4x128 S1x64x4x128x64),
    binary main_v420 main_v411 main_v421 ((fun l r => Host.dotGeneral dot_S1x64x4x128x64_S1x64x4x128x128_S1x64x4x64x128_3_4_4_3_012_012 none l r) : Arr F S1x64x4x128x64 .f32 → Un F S1x64x4x128x128 S1x64x4x64x128),
    unary main_v421 main_v422 ((transpose S1x64x64x4x128 [0, 1, 3, 2, 4] · transposes_S1x64x4x64x128_S1x64x64x4x128_0_1_3_2_4) : Un F S1x64x4x64x128 S1x64x64x4x128),
    binary main_v420 main_v66 main_v423 ((fun l r => Host.dotGeneral dot_S1x64x4x128x64_S1x64x64x4x128_S1x64x4x128x128_4_2_3_4_012_013 none l r) : Arr F S1x64x4x128x64 .f32 → Un F S1x64x64x4x128 S1x64x4x128x128),
    unary main_v423 main_v424 ((transpose S1x64x4x128x128 [0, 1, 2, 4, 3] · transposes_S1x64x4x128x128_S1x64x4x128x128_0_1_2_4_3) : Un F S1x64x4x128x128 S1x64x4x128x128),
    unary main_v424 main_v425 ((extractStridedSlice S1x1x4x128x128 ![0, 0, 0, 0, 0] · slices_S1x64x4x128x128_S1x1x4x128x128_0_0_0_0_0) : Un F S1x64x4x128x128 S1x1x4x128x128),
    unary main_v424 main_v426 ((extractStridedSlice S1x1x4x128x128 ![0, 1, 0, 0, 0] · slices_S1x64x4x128x128_S1x1x4x128x128_0_1_0_0_0) : Un F S1x64x4x128x128 S1x1x4x128x128),
    unary main_v424 main_v427 ((extractStridedSlice S1x1x4x128x128 ![0, 2, 0, 0, 0] · slices_S1x64x4x128x128_S1x1x4x128x128_0_2_0_0_0) : Un F S1x64x4x128x128 S1x1x4x128x128),
    unary main_v424 main_v428 ((extractStridedSlice S1x1x4x128x128 ![0, 3, 0, 0, 0] · slices_S1x64x4x128x128_S1x1x4x128x128_0_3_0_0_0) : Un F S1x64x4x128x128 S1x1x4x128x128),
    unary main_v424 main_v429 ((extractStridedSlice S1x1x4x128x128 ![0, 4, 0, 0, 0] · slices_S1x64x4x128x128_S1x1x4x128x128_0_4_0_0_0) : Un F S1x64x4x128x128 S1x1x4x128x128),
    unary main_v424 main_v430 ((extractStridedSlice S1x1x4x128x128 ![0, 5, 0, 0, 0] · slices_S1x64x4x128x128_S1x1x4x128x128_0_5_0_0_0) : Un F S1x64x4x128x128 S1x1x4x128x128),
    unary main_v424 main_v431 ((extractStridedSlice S1x1x4x128x128 ![0, 6, 0, 0, 0] · slices_S1x64x4x128x128_S1x1x4x128x128_0_6_0_0_0) : Un F S1x64x4x128x128 S1x1x4x128x128),
    unary main_v424 main_v432 ((extractStridedSlice S1x1x4x128x128 ![0, 7, 0, 0, 0] · slices_S1x64x4x128x128_S1x1x4x128x128_0_7_0_0_0) : Un F S1x64x4x128x128 S1x1x4x128x128),
    unary main_v424 main_v433 ((extractStridedSlice S1x1x4x128x128 ![0, 8, 0, 0, 0] · slices_S1x64x4x128x128_S1x1x4x128x128_0_8_0_0_0) : Un F S1x64x4x128x128 S1x1x4x128x128),
    unary main_v424 main_v434 ((extractStridedSlice S1x1x4x128x128 ![0, 9, 0, 0, 0] · slices_S1x64x4x128x128_S1x1x4x128x128_0_9_0_0_0) : Un F S1x64x4x128x128 S1x1x4x128x128),
    unary main_v424 main_v435 ((extractStridedSlice S1x1x4x128x128 ![0, 10, 0, 0, 0] · slices_S1x64x4x128x128_S1x1x4x128x128_0_10_0_0_0) : Un F S1x64x4x128x128 S1x1x4x128x128),
    unary main_v424 main_v436 ((extractStridedSlice S1x1x4x128x128 ![0, 11, 0, 0, 0] · slices_S1x64x4x128x128_S1x1x4x128x128_0_11_0_0_0) : Un F S1x64x4x128x128 S1x1x4x128x128),
    unary main_v424 main_v437 ((extractStridedSlice S1x1x4x128x128 ![0, 12, 0, 0, 0] · slices_S1x64x4x128x128_S1x1x4x128x128_0_12_0_0_0) : Un F S1x64x4x128x128 S1x1x4x128x128),
    unary main_v424 main_v438 ((extractStridedSlice S1x1x4x128x128 ![0, 13, 0, 0, 0] · slices_S1x64x4x128x128_S1x1x4x128x128_0_13_0_0_0) : Un F S1x64x4x128x128 S1x1x4x128x128),
    unary main_v424 main_v439 ((extractStridedSlice S1x1x4x128x128 ![0, 14, 0, 0, 0] · slices_S1x64x4x128x128_S1x1x4x128x128_0_14_0_0_0) : Un F S1x64x4x128x128 S1x1x4x128x128),
    unary main_v424 main_v440 ((extractStridedSlice S1x1x4x128x128 ![0, 15, 0, 0, 0] · slices_S1x64x4x128x128_S1x1x4x128x128_0_15_0_0_0) : Un F S1x64x4x128x128 S1x1x4x128x128),
    unary main_v424 main_v441 ((extractStridedSlice S1x1x4x128x128 ![0, 16, 0, 0, 0] · slices_S1x64x4x128x128_S1x1x4x128x128_0_16_0_0_0) : Un F S1x64x4x128x128 S1x1x4x128x128),
    unary main_v424 main_v442 ((extractStridedSlice S1x1x4x128x128 ![0, 17, 0, 0, 0] · slices_S1x64x4x128x128_S1x1x4x128x128_0_17_0_0_0) : Un F S1x64x4x128x128 S1x1x4x128x128),
    unary main_v424 main_v443 ((extractStridedSlice S1x1x4x128x128 ![0, 18, 0, 0, 0] · slices_S1x64x4x128x128_S1x1x4x128x128_0_18_0_0_0) : Un F S1x64x4x128x128 S1x1x4x128x128),
    unary main_v424 main_v444 ((extractStridedSlice S1x1x4x128x128 ![0, 19, 0, 0, 0] · slices_S1x64x4x128x128_S1x1x4x128x128_0_19_0_0_0) : Un F S1x64x4x128x128 S1x1x4x128x128),
    unary main_v424 main_v445 ((extractStridedSlice S1x1x4x128x128 ![0, 20, 0, 0, 0] · slices_S1x64x4x128x128_S1x1x4x128x128_0_20_0_0_0) : Un F S1x64x4x128x128 S1x1x4x128x128),
    unary main_v424 main_v446 ((extractStridedSlice S1x1x4x128x128 ![0, 21, 0, 0, 0] · slices_S1x64x4x128x128_S1x1x4x128x128_0_21_0_0_0) : Un F S1x64x4x128x128 S1x1x4x128x128),
    unary main_v424 main_v447 ((extractStridedSlice S1x1x4x128x128 ![0, 22, 0, 0, 0] · slices_S1x64x4x128x128_S1x1x4x128x128_0_22_0_0_0) : Un F S1x64x4x128x128 S1x1x4x128x128),
    unary main_v424 main_v448 ((extractStridedSlice S1x1x4x128x128 ![0, 23, 0, 0, 0] · slices_S1x64x4x128x128_S1x1x4x128x128_0_23_0_0_0) : Un F S1x64x4x128x128 S1x1x4x128x128),
    unary main_v424 main_v449 ((extractStridedSlice S1x1x4x128x128 ![0, 24, 0, 0, 0] · slices_S1x64x4x128x128_S1x1x4x128x128_0_24_0_0_0) : Un F S1x64x4x128x128 S1x1x4x128x128),
    unary main_v424 main_v450 ((extractStridedSlice S1x1x4x128x128 ![0, 25, 0, 0, 0] · slices_S1x64x4x128x128_S1x1x4x128x128_0_25_0_0_0) : Un F S1x64x4x128x128 S1x1x4x128x128),
    unary main_v424 main_v451 ((extractStridedSlice S1x1x4x128x128 ![0, 26, 0, 0, 0] · slices_S1x64x4x128x128_S1x1x4x128x128_0_26_0_0_0) : Un F S1x64x4x128x128 S1x1x4x128x128),
    unary main_v424 main_v452 ((extractStridedSlice S1x1x4x128x128 ![0, 27, 0, 0, 0] · slices_S1x64x4x128x128_S1x1x4x128x128_0_27_0_0_0) : Un F S1x64x4x128x128 S1x1x4x128x128),
    unary main_v424 main_v453 ((extractStridedSlice S1x1x4x128x128 ![0, 28, 0, 0, 0] · slices_S1x64x4x128x128_S1x1x4x128x128_0_28_0_0_0) : Un F S1x64x4x128x128 S1x1x4x128x128),
    unary main_v424 main_v454 ((extractStridedSlice S1x1x4x128x128 ![0, 29, 0, 0, 0] · slices_S1x64x4x128x128_S1x1x4x128x128_0_29_0_0_0) : Un F S1x64x4x128x128 S1x1x4x128x128),
    unary main_v424 main_v455 ((extractStridedSlice S1x1x4x128x128 ![0, 30, 0, 0, 0] · slices_S1x64x4x128x128_S1x1x4x128x128_0_30_0_0_0) : Un F S1x64x4x128x128 S1x1x4x128x128),
    unary main_v424 main_v456 ((extractStridedSlice S1x1x4x128x128 ![0, 31, 0, 0, 0] · slices_S1x64x4x128x128_S1x1x4x128x128_0_31_0_0_0) : Un F S1x64x4x128x128 S1x1x4x128x128),
    unary main_v424 main_v457 ((extractStridedSlice S1x1x4x128x128 ![0, 32, 0, 0, 0] · slices_S1x64x4x128x128_S1x1x4x128x128_0_32_0_0_0) : Un F S1x64x4x128x128 S1x1x4x128x128),
    unary main_v424 main_v458 ((extractStridedSlice S1x1x4x128x128 ![0, 33, 0, 0, 0] · slices_S1x64x4x128x128_S1x1x4x128x128_0_33_0_0_0) : Un F S1x64x4x128x128 S1x1x4x128x128),
    unary main_v424 main_v459 ((extractStridedSlice S1x1x4x128x128 ![0, 34, 0, 0, 0] · slices_S1x64x4x128x128_S1x1x4x128x128_0_34_0_0_0) : Un F S1x64x4x128x128 S1x1x4x128x128),
    unary main_v424 main_v460 ((extractStridedSlice S1x1x4x128x128 ![0, 35, 0, 0, 0] · slices_S1x64x4x128x128_S1x1x4x128x128_0_35_0_0_0) : Un F S1x64x4x128x128 S1x1x4x128x128) ]

/-- @main's operations 510 … 569 of 1091 (window `main_part8`). -/
abbrev ops_part8 : List (HloOp τ sig (Elt F)) :=
  [ unary main_v424 main_v461 ((extractStridedSlice S1x1x4x128x128 ![0, 36, 0, 0, 0] · slices_S1x64x4x128x128_S1x1x4x128x128_0_36_0_0_0) : Un F S1x64x4x128x128 S1x1x4x128x128),
    unary main_v424 main_v462 ((extractStridedSlice S1x1x4x128x128 ![0, 37, 0, 0, 0] · slices_S1x64x4x128x128_S1x1x4x128x128_0_37_0_0_0) : Un F S1x64x4x128x128 S1x1x4x128x128),
    unary main_v424 main_v463 ((extractStridedSlice S1x1x4x128x128 ![0, 38, 0, 0, 0] · slices_S1x64x4x128x128_S1x1x4x128x128_0_38_0_0_0) : Un F S1x64x4x128x128 S1x1x4x128x128),
    unary main_v424 main_v464 ((extractStridedSlice S1x1x4x128x128 ![0, 39, 0, 0, 0] · slices_S1x64x4x128x128_S1x1x4x128x128_0_39_0_0_0) : Un F S1x64x4x128x128 S1x1x4x128x128),
    unary main_v424 main_v465 ((extractStridedSlice S1x1x4x128x128 ![0, 40, 0, 0, 0] · slices_S1x64x4x128x128_S1x1x4x128x128_0_40_0_0_0) : Un F S1x64x4x128x128 S1x1x4x128x128),
    unary main_v424 main_v466 ((extractStridedSlice S1x1x4x128x128 ![0, 41, 0, 0, 0] · slices_S1x64x4x128x128_S1x1x4x128x128_0_41_0_0_0) : Un F S1x64x4x128x128 S1x1x4x128x128),
    unary main_v424 main_v467 ((extractStridedSlice S1x1x4x128x128 ![0, 42, 0, 0, 0] · slices_S1x64x4x128x128_S1x1x4x128x128_0_42_0_0_0) : Un F S1x64x4x128x128 S1x1x4x128x128),
    unary main_v424 main_v468 ((extractStridedSlice S1x1x4x128x128 ![0, 43, 0, 0, 0] · slices_S1x64x4x128x128_S1x1x4x128x128_0_43_0_0_0) : Un F S1x64x4x128x128 S1x1x4x128x128),
    unary main_v424 main_v469 ((extractStridedSlice S1x1x4x128x128 ![0, 44, 0, 0, 0] · slices_S1x64x4x128x128_S1x1x4x128x128_0_44_0_0_0) : Un F S1x64x4x128x128 S1x1x4x128x128),
    unary main_v424 main_v470 ((extractStridedSlice S1x1x4x128x128 ![0, 45, 0, 0, 0] · slices_S1x64x4x128x128_S1x1x4x128x128_0_45_0_0_0) : Un F S1x64x4x128x128 S1x1x4x128x128),
    unary main_v424 main_v471 ((extractStridedSlice S1x1x4x128x128 ![0, 46, 0, 0, 0] · slices_S1x64x4x128x128_S1x1x4x128x128_0_46_0_0_0) : Un F S1x64x4x128x128 S1x1x4x128x128),
    unary main_v424 main_v472 ((extractStridedSlice S1x1x4x128x128 ![0, 47, 0, 0, 0] · slices_S1x64x4x128x128_S1x1x4x128x128_0_47_0_0_0) : Un F S1x64x4x128x128 S1x1x4x128x128),
    unary main_v424 main_v473 ((extractStridedSlice S1x1x4x128x128 ![0, 48, 0, 0, 0] · slices_S1x64x4x128x128_S1x1x4x128x128_0_48_0_0_0) : Un F S1x64x4x128x128 S1x1x4x128x128),
    unary main_v424 main_v474 ((extractStridedSlice S1x1x4x128x128 ![0, 49, 0, 0, 0] · slices_S1x64x4x128x128_S1x1x4x128x128_0_49_0_0_0) : Un F S1x64x4x128x128 S1x1x4x128x128),
    unary main_v424 main_v475 ((extractStridedSlice S1x1x4x128x128 ![0, 50, 0, 0, 0] · slices_S1x64x4x128x128_S1x1x4x128x128_0_50_0_0_0) : Un F S1x64x4x128x128 S1x1x4x128x128),
    unary main_v424 main_v476 ((extractStridedSlice S1x1x4x128x128 ![0, 51, 0, 0, 0] · slices_S1x64x4x128x128_S1x1x4x128x128_0_51_0_0_0) : Un F S1x64x4x128x128 S1x1x4x128x128),
    unary main_v424 main_v477 ((extractStridedSlice S1x1x4x128x128 ![0, 52, 0, 0, 0] · slices_S1x64x4x128x128_S1x1x4x128x128_0_52_0_0_0) : Un F S1x64x4x128x128 S1x1x4x128x128),
    unary main_v424 main_v478 ((extractStridedSlice S1x1x4x128x128 ![0, 53, 0, 0, 0] · slices_S1x64x4x128x128_S1x1x4x128x128_0_53_0_0_0) : Un F S1x64x4x128x128 S1x1x4x128x128),
    unary main_v424 main_v479 ((extractStridedSlice S1x1x4x128x128 ![0, 54, 0, 0, 0] · slices_S1x64x4x128x128_S1x1x4x128x128_0_54_0_0_0) : Un F S1x64x4x128x128 S1x1x4x128x128),
    unary main_v424 main_v480 ((extractStridedSlice S1x1x4x128x128 ![0, 55, 0, 0, 0] · slices_S1x64x4x128x128_S1x1x4x128x128_0_55_0_0_0) : Un F S1x64x4x128x128 S1x1x4x128x128),
    unary main_v424 main_v481 ((extractStridedSlice S1x1x4x128x128 ![0, 56, 0, 0, 0] · slices_S1x64x4x128x128_S1x1x4x128x128_0_56_0_0_0) : Un F S1x64x4x128x128 S1x1x4x128x128),
    unary main_v424 main_v482 ((extractStridedSlice S1x1x4x128x128 ![0, 57, 0, 0, 0] · slices_S1x64x4x128x128_S1x1x4x128x128_0_57_0_0_0) : Un F S1x64x4x128x128 S1x1x4x128x128),
    unary main_v424 main_v483 ((extractStridedSlice S1x1x4x128x128 ![0, 58, 0, 0, 0] · slices_S1x64x4x128x128_S1x1x4x128x128_0_58_0_0_0) : Un F S1x64x4x128x128 S1x1x4x128x128),
    unary main_v424 main_v484 ((extractStridedSlice S1x1x4x128x128 ![0, 59, 0, 0, 0] · slices_S1x64x4x128x128_S1x1x4x128x128_0_59_0_0_0) : Un F S1x64x4x128x128 S1x1x4x128x128),
    unary main_v424 main_v485 ((extractStridedSlice S1x1x4x128x128 ![0, 60, 0, 0, 0] · slices_S1x64x4x128x128_S1x1x4x128x128_0_60_0_0_0) : Un F S1x64x4x128x128 S1x1x4x128x128),
    unary main_v424 main_v486 ((extractStridedSlice S1x1x4x128x128 ![0, 61, 0, 0, 0] · slices_S1x64x4x128x128_S1x1x4x128x128_0_61_0_0_0) : Un F S1x64x4x128x128 S1x1x4x128x128),
    unary main_v424 main_v487 ((extractStridedSlice S1x1x4x128x128 ![0, 62, 0, 0, 0] · slices_S1x64x4x128x128_S1x1x4x128x128_0_62_0_0_0) : Un F S1x64x4x128x128 S1x1x4x128x128),
    unary main_v424 main_v488 ((extractStridedSlice S1x1x4x128x128 ![0, 63, 0, 0, 0] · slices_S1x64x4x128x128_S1x1x4x128x128_0_63_0_0_0) : Un F S1x64x4x128x128 S1x1x4x128x128),
    unary main_v149 main_v489 (broadcastInDim S1x1x4x128x128 ![0, 1, 2, 3, 4] bcast_S1x1x4x128x1_S1x1x4x128x128_0_1_2_3_4 : Un F S1x1x4x128x1 S1x1x4x128x128),
    binary main_v489 main_v488 main_v490 (mulf : Bin F S1x1x4x128x128),
    binary main_v487 main_v490 main_v491 (addf : Bin F S1x1x4x128x128),
    binary main_v488 main_v400 main_v492 (mulf : Bin F S1x1x4x128x128),
    nullary main_cst_17 (constant S_ .f32 0x00000000#32),
    binary main_v492 main_cst_17 main_v493 ((fun x v => Host.reduceAdd x v reducesTo_S1x1x4x128x128_S1x1x4x128_d4 h_S_) : Arr F S1x1x4x128x128 .f32 → Un F S_ S1x1x4x128),
    reshape main_v493 main_v494 (rfl : (.f32 : EltTy) = .f32) shapeCasts_S1x1x4x128_S1x1x4x128x1,
    unary main_v148 main_v495 (broadcastInDim S1x1x4x128x128 ![0, 1, 2, 3, 4] bcast_S1x1x4x128x1_S1x1x4x128x128_0_1_2_3_4 : Un F S1x1x4x128x1 S1x1x4x128x128),
    binary main_v495 main_v491 main_v496 (mulf : Bin F S1x1x4x128x128),
    binary main_v486 main_v496 main_v497 (addf : Bin F S1x1x4x128x128),
    binary main_v491 main_v397 main_v498 (mulf : Bin F S1x1x4x128x128),
    nullary main_cst_18 (constant S_ .f32 0x00000000#32),
    binary main_v498 main_cst_18 main_v499 ((fun x v => Host.reduceAdd x v reducesTo_S1x1x4x128x128_S1x1x4x128_d4 h_S_) : Arr F S1x1x4x128x128 .f32 → Un F S_ S1x1x4x128),
    reshape main_v499 main_v500 (rfl : (.f32 : EltTy) = .f32) shapeCasts_S1x1x4x128_S1x1x4x128x1,
    unary main_v147 main_v501 (broadcastInDim S1x1x4x128x128 ![0, 1, 2, 3, 4] bcast_S1x1x4x128x1_S1x1x4x128x128_0_1_2_3_4 : Un F S1x1x4x128x1 S1x1x4x128x128),
    binary main_v501 main_v497 main_v502 (mulf : Bin F S1x1x4x128x128),
    binary main_v485 main_v502 main_v503 (addf : Bin F S1x1x4x128x128),
    binary main_v497 main_v394 main_v504 (mulf : Bin F S1x1x4x128x128),
    nullary main_cst_19 (constant S_ .f32 0x00000000#32),
    binary main_v504 main_cst_19 main_v505 ((fun x v => Host.reduceAdd x v reducesTo_S1x1x4x128x128_S1x1x4x128_d4 h_S_) : Arr F S1x1x4x128x128 .f32 → Un F S_ S1x1x4x128),
    reshape main_v505 main_v506 (rfl : (.f32 : EltTy) = .f32) shapeCasts_S1x1x4x128_S1x1x4x128x1,
    unary main_v146 main_v507 (broadcastInDim S1x1x4x128x128 ![0, 1, 2, 3, 4] bcast_S1x1x4x128x1_S1x1x4x128x128_0_1_2_3_4 : Un F S1x1x4x128x1 S1x1x4x128x128),
    binary main_v507 main_v503 main_v508 (mulf : Bin F S1x1x4x128x128),
    binary main_v484 main_v508 main_v509 (addf : Bin F S1x1x4x128x128),
    binary main_v503 main_v391 main_v510 (mulf : Bin F S1x1x4x128x128),
    nullary main_cst_20 (constant S_ .f32 0x00000000#32),
    binary main_v510 main_cst_20 main_v511 ((fun x v => Host.reduceAdd x v reducesTo_S1x1x4x128x128_S1x1x4x128_d4 h_S_) : Arr F S1x1x4x128x128 .f32 → Un F S_ S1x1x4x128),
    reshape main_v511 main_v512 (rfl : (.f32 : EltTy) = .f32) shapeCasts_S1x1x4x128_S1x1x4x128x1,
    unary main_v145 main_v513 (broadcastInDim S1x1x4x128x128 ![0, 1, 2, 3, 4] bcast_S1x1x4x128x1_S1x1x4x128x128_0_1_2_3_4 : Un F S1x1x4x128x1 S1x1x4x128x128),
    binary main_v513 main_v509 main_v514 (mulf : Bin F S1x1x4x128x128),
    binary main_v483 main_v514 main_v515 (addf : Bin F S1x1x4x128x128),
    binary main_v509 main_v388 main_v516 (mulf : Bin F S1x1x4x128x128) ]

/-- @main's operations 570 … 629 of 1091 (window `main_part9`). -/
abbrev ops_part9 : List (HloOp τ sig (Elt F)) :=
  [ nullary main_cst_21 (constant S_ .f32 0x00000000#32),
    binary main_v516 main_cst_21 main_v517 ((fun x v => Host.reduceAdd x v reducesTo_S1x1x4x128x128_S1x1x4x128_d4 h_S_) : Arr F S1x1x4x128x128 .f32 → Un F S_ S1x1x4x128),
    reshape main_v517 main_v518 (rfl : (.f32 : EltTy) = .f32) shapeCasts_S1x1x4x128_S1x1x4x128x1,
    unary main_v144 main_v519 (broadcastInDim S1x1x4x128x128 ![0, 1, 2, 3, 4] bcast_S1x1x4x128x1_S1x1x4x128x128_0_1_2_3_4 : Un F S1x1x4x128x1 S1x1x4x128x128),
    binary main_v519 main_v515 main_v520 (mulf : Bin F S1x1x4x128x128),
    binary main_v482 main_v520 main_v521 (addf : Bin F S1x1x4x128x128),
    binary main_v515 main_v385 main_v522 (mulf : Bin F S1x1x4x128x128),
    nullary main_cst_22 (constant S_ .f32 0x00000000#32),
    binary main_v522 main_cst_22 main_v523 ((fun x v => Host.reduceAdd x v reducesTo_S1x1x4x128x128_S1x1x4x128_d4 h_S_) : Arr F S1x1x4x128x128 .f32 → Un F S_ S1x1x4x128),
    reshape main_v523 main_v524 (rfl : (.f32 : EltTy) = .f32) shapeCasts_S1x1x4x128_S1x1x4x128x1,
    unary main_v143 main_v525 (broadcastInDim S1x1x4x128x128 ![0, 1, 2, 3, 4] bcast_S1x1x4x128x1_S1x1x4x128x128_0_1_2_3_4 : Un F S1x1x4x128x1 S1x1x4x128x128),
    binary main_v525 main_v521 main_v526 (mulf : Bin F S1x1x4x128x128),
    binary main_v481 main_v526 main_v527 (addf : Bin F S1x1x4x128x128),
    binary main_v521 main_v382 main_v528 (mulf : Bin F S1x1x4x128x128),
    nullary main_cst_23 (constant S_ .f32 0x00000000#32),
    binary main_v528 main_cst_23 main_v529 ((fun x v => Host.reduceAdd x v reducesTo_S1x1x4x128x128_S1x1x4x128_d4 h_S_) : Arr F S1x1x4x128x128 .f32 → Un F S_ S1x1x4x128),
    reshape main_v529 main_v530 (rfl : (.f32 : EltTy) = .f32) shapeCasts_S1x1x4x128_S1x1x4x128x1,
    unary main_v142 main_v531 (broadcastInDim S1x1x4x128x128 ![0, 1, 2, 3, 4] bcast_S1x1x4x128x1_S1x1x4x128x128_0_1_2_3_4 : Un F S1x1x4x128x1 S1x1x4x128x128),
    binary main_v531 main_v527 main_v532 (mulf : Bin F S1x1x4x128x128),
    binary main_v480 main_v532 main_v533 (addf : Bin F S1x1x4x128x128),
    binary main_v527 main_v379 main_v534 (mulf : Bin F S1x1x4x128x128),
    nullary main_cst_24 (constant S_ .f32 0x00000000#32),
    binary main_v534 main_cst_24 main_v535 ((fun x v => Host.reduceAdd x v reducesTo_S1x1x4x128x128_S1x1x4x128_d4 h_S_) : Arr F S1x1x4x128x128 .f32 → Un F S_ S1x1x4x128),
    reshape main_v535 main_v536 (rfl : (.f32 : EltTy) = .f32) shapeCasts_S1x1x4x128_S1x1x4x128x1,
    unary main_v141 main_v537 (broadcastInDim S1x1x4x128x128 ![0, 1, 2, 3, 4] bcast_S1x1x4x128x1_S1x1x4x128x128_0_1_2_3_4 : Un F S1x1x4x128x1 S1x1x4x128x128),
    binary main_v537 main_v533 main_v538 (mulf : Bin F S1x1x4x128x128),
    binary main_v479 main_v538 main_v539 (addf : Bin F S1x1x4x128x128),
    binary main_v533 main_v376 main_v540 (mulf : Bin F S1x1x4x128x128),
    nullary main_cst_25 (constant S_ .f32 0x00000000#32),
    binary main_v540 main_cst_25 main_v541 ((fun x v => Host.reduceAdd x v reducesTo_S1x1x4x128x128_S1x1x4x128_d4 h_S_) : Arr F S1x1x4x128x128 .f32 → Un F S_ S1x1x4x128),
    reshape main_v541 main_v542 (rfl : (.f32 : EltTy) = .f32) shapeCasts_S1x1x4x128_S1x1x4x128x1,
    unary main_v140 main_v543 (broadcastInDim S1x1x4x128x128 ![0, 1, 2, 3, 4] bcast_S1x1x4x128x1_S1x1x4x128x128_0_1_2_3_4 : Un F S1x1x4x128x1 S1x1x4x128x128),
    binary main_v543 main_v539 main_v544 (mulf : Bin F S1x1x4x128x128),
    binary main_v478 main_v544 main_v545 (addf : Bin F S1x1x4x128x128),
    binary main_v539 main_v373 main_v546 (mulf : Bin F S1x1x4x128x128),
    nullary main_cst_26 (constant S_ .f32 0x00000000#32),
    binary main_v546 main_cst_26 main_v547 ((fun x v => Host.reduceAdd x v reducesTo_S1x1x4x128x128_S1x1x4x128_d4 h_S_) : Arr F S1x1x4x128x128 .f32 → Un F S_ S1x1x4x128),
    reshape main_v547 main_v548 (rfl : (.f32 : EltTy) = .f32) shapeCasts_S1x1x4x128_S1x1x4x128x1,
    unary main_v139 main_v549 (broadcastInDim S1x1x4x128x128 ![0, 1, 2, 3, 4] bcast_S1x1x4x128x1_S1x1x4x128x128_0_1_2_3_4 : Un F S1x1x4x128x1 S1x1x4x128x128),
    binary main_v549 main_v545 main_v550 (mulf : Bin F S1x1x4x128x128),
    binary main_v477 main_v550 main_v551 (addf : Bin F S1x1x4x128x128),
    binary main_v545 main_v370 main_v552 (mulf : Bin F S1x1x4x128x128),
    nullary main_cst_27 (constant S_ .f32 0x00000000#32),
    binary main_v552 main_cst_27 main_v553 ((fun x v => Host.reduceAdd x v reducesTo_S1x1x4x128x128_S1x1x4x128_d4 h_S_) : Arr F S1x1x4x128x128 .f32 → Un F S_ S1x1x4x128),
    reshape main_v553 main_v554 (rfl : (.f32 : EltTy) = .f32) shapeCasts_S1x1x4x128_S1x1x4x128x1,
    unary main_v138 main_v555 (broadcastInDim S1x1x4x128x128 ![0, 1, 2, 3, 4] bcast_S1x1x4x128x1_S1x1x4x128x128_0_1_2_3_4 : Un F S1x1x4x128x1 S1x1x4x128x128),
    binary main_v555 main_v551 main_v556 (mulf : Bin F S1x1x4x128x128),
    binary main_v476 main_v556 main_v557 (addf : Bin F S1x1x4x128x128),
    binary main_v551 main_v367 main_v558 (mulf : Bin F S1x1x4x128x128),
    nullary main_cst_28 (constant S_ .f32 0x00000000#32),
    binary main_v558 main_cst_28 main_v559 ((fun x v => Host.reduceAdd x v reducesTo_S1x1x4x128x128_S1x1x4x128_d4 h_S_) : Arr F S1x1x4x128x128 .f32 → Un F S_ S1x1x4x128),
    reshape main_v559 main_v560 (rfl : (.f32 : EltTy) = .f32) shapeCasts_S1x1x4x128_S1x1x4x128x1,
    unary main_v137 main_v561 (broadcastInDim S1x1x4x128x128 ![0, 1, 2, 3, 4] bcast_S1x1x4x128x1_S1x1x4x128x128_0_1_2_3_4 : Un F S1x1x4x128x1 S1x1x4x128x128),
    binary main_v561 main_v557 main_v562 (mulf : Bin F S1x1x4x128x128),
    binary main_v475 main_v562 main_v563 (addf : Bin F S1x1x4x128x128),
    binary main_v557 main_v364 main_v564 (mulf : Bin F S1x1x4x128x128),
    nullary main_cst_29 (constant S_ .f32 0x00000000#32),
    binary main_v564 main_cst_29 main_v565 ((fun x v => Host.reduceAdd x v reducesTo_S1x1x4x128x128_S1x1x4x128_d4 h_S_) : Arr F S1x1x4x128x128 .f32 → Un F S_ S1x1x4x128),
    reshape main_v565 main_v566 (rfl : (.f32 : EltTy) = .f32) shapeCasts_S1x1x4x128_S1x1x4x128x1,
    unary main_v136 main_v567 (broadcastInDim S1x1x4x128x128 ![0, 1, 2, 3, 4] bcast_S1x1x4x128x1_S1x1x4x128x128_0_1_2_3_4 : Un F S1x1x4x128x1 S1x1x4x128x128) ]

end Cert.ReferenceIdeal.Steps
-- ==== Proof.LineB.lean ====
/- Each window of the reference's operations assigns rising buffers. -/
module

public import proofs.«01_k».proof.Proof.Fix
public import proofs.«01_k».proof.Proof.StepsB

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem line5 : Line 332 (ops_part5 (F := F)) 392 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line6 : Line 392 (ops_part6 (F := F)) 452 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
set_option maxHeartbeats 4000000 in
theorem line7 : Line 452 (ops_part7 (F := F)) 512 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line8 : Line 512 (ops_part8 (F := F)) 572 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line9 : Line 572 (ops_part9 (F := F)) 632 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

end Cert.ReferenceIdeal.Steps
-- ==== Proof.StepsC.lean ====
/- The reference's operations in order, third part. -/
module

public import proofs.«01_k».proof.Proof.StepsA
public import Idealize.ShloMosaic.Lib.StableHlo.Run
public import Idealize.ShloMosaic.Lib.Pipeline.Frame

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The joining of the pieces of `main_v865`. -/
def fn_main_v865 : At F main_v857 → At F main_v851 → At F main_v845 → At F main_v839 → At F main_v833 → At F main_v827 → At F main_v821 → At F main_v815 → At F main_v809 → At F main_v803 → At F main_v797 → At F main_v791 → At F main_v785 → At F main_v779 → At F main_v773 → At F main_v767 → At F main_v865 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v866`. -/
def fn_main_v866 : At F main_v761 → At F main_v755 → At F main_v749 → At F main_v743 → At F main_v737 → At F main_v731 → At F main_v725 → At F main_v719 → At F main_v713 → At F main_v707 → At F main_v701 → At F main_v695 → At F main_v689 → At F main_v683 → At F main_v677 → At F main_v671 → At F main_v866 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v867`. -/
def fn_main_v867 : At F main_v665 → At F main_v659 → At F main_v653 → At F main_v647 → At F main_v641 → At F main_v635 → At F main_v629 → At F main_v623 → At F main_v617 → At F main_v611 → At F main_v605 → At F main_v599 → At F main_v593 → At F main_v587 → At F main_v581 → At F main_v575 → At F main_v867 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v868`. -/
def fn_main_v868 : At F main_v569 → At F main_v563 → At F main_v557 → At F main_v551 → At F main_v545 → At F main_v539 → At F main_v533 → At F main_v527 → At F main_v521 → At F main_v515 → At F main_v509 → At F main_v503 → At F main_v497 → At F main_v491 → At F main_v488 → At F main_v864 → At F main_v868 :=
  (fun u0 u1 u2 u3 u4 u5 u6 u7 u8 u9 u10 u11 u12 u13 u14 u15 => (concatenate S1x16x4x128x128 1 [⟨S1x1x4x128x128, u0⟩, ⟨S1x1x4x128x128, u1⟩, ⟨S1x1x4x128x128, u2⟩, ⟨S1x1x4x128x128, u3⟩, ⟨S1x1x4x128x128, u4⟩, ⟨S1x1x4x128x128, u5⟩, ⟨S1x1x4x128x128, u6⟩, ⟨S1x1x4x128x128, u7⟩, ⟨S1x1x4x128x128, u8⟩, ⟨S1x1x4x128x128, u9⟩, ⟨S1x1x4x128x128, u10⟩, ⟨S1x1x4x128x128, u11⟩, ⟨S1x1x4x128x128, u12⟩, ⟨S1x1x4x128x128, u13⟩, ⟨S1x1x4x128x128, u14⟩, ⟨S1x1x4x128x128, u15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x16x4x128x128_d1 : Arr F S1x16x4x128x128 .f32))

/-- The joining of the pieces of `main_v869`. -/
def fn_main_v869 : At F main_v865 → At F main_v866 → At F main_v867 → At F main_v868 → At F main_v869 :=
  (fun u0 u1 u2 u3 => (concatenate S1x64x4x128x128 1 [⟨S1x16x4x128x128, u0⟩, ⟨S1x16x4x128x128, u1⟩, ⟨S1x16x4x128x128, u2⟩, ⟨S1x16x4x128x128, u3⟩] concatenates_S1x16x4x128x128_S1x16x4x128x128_S1x16x4x128x128_S1x16x4x128x128_S1x64x4x128x128_d1 : Arr F S1x64x4x128x128 .f32))

/-- The joining of the pieces of `main_v871`. -/
def fn_main_v871 : At F main_v863 → At F main_v860 → At F main_v854 → At F main_v848 → At F main_v842 → At F main_v836 → At F main_v830 → At F main_v824 → At F main_v818 → At F main_v812 → At F main_v806 → At F main_v800 → At F main_v794 → At F main_v788 → At F main_v782 → At F main_v776 → At F main_v871 :=
  (fun u0 u1 u2 u3 u4 u5 u6 u7 u8 u9 u10 u11 u12 u13 u14 u15 => (concatenate S1x16x4x128x1 1 [⟨S1x1x4x128x1, u0⟩, ⟨S1x1x4x128x1, u1⟩, ⟨S1x1x4x128x1, u2⟩, ⟨S1x1x4x128x1, u3⟩, ⟨S1x1x4x128x1, u4⟩, ⟨S1x1x4x128x1, u5⟩, ⟨S1x1x4x128x1, u6⟩, ⟨S1x1x4x128x1, u7⟩, ⟨S1x1x4x128x1, u8⟩, ⟨S1x1x4x128x1, u9⟩, ⟨S1x1x4x128x1, u10⟩, ⟨S1x1x4x128x1, u11⟩, ⟨S1x1x4x128x1, u12⟩, ⟨S1x1x4x128x1, u13⟩, ⟨S1x1x4x128x1, u14⟩, ⟨S1x1x4x128x1, u15⟩] concatenates_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x16x4x128x1_d1 : Arr F S1x16x4x128x1 .f32))

/-- The joining of the pieces of `main_v872`. -/
def fn_main_v872 : At F main_v770 → At F main_v764 → At F main_v758 → At F main_v752 → At F main_v746 → At F main_v740 → At F main_v734 → At F main_v728 → At F main_v722 → At F main_v716 → At F main_v710 → At F main_v704 → At F main_v698 → At F main_v692 → At F main_v686 → At F main_v680 → At F main_v872 :=
  (fun u0 u1 u2 u3 u4 u5 u6 u7 u8 u9 u10 u11 u12 u13 u14 u15 => (concatenate S1x16x4x128x1 1 [⟨S1x1x4x128x1, u0⟩, ⟨S1x1x4x128x1, u1⟩, ⟨S1x1x4x128x1, u2⟩, ⟨S1x1x4x128x1, u3⟩, ⟨S1x1x4x128x1, u4⟩, ⟨S1x1x4x128x1, u5⟩, ⟨S1x1x4x128x1, u6⟩, ⟨S1x1x4x128x1, u7⟩, ⟨S1x1x4x128x1, u8⟩, ⟨S1x1x4x128x1, u9⟩, ⟨S1x1x4x128x1, u10⟩, ⟨S1x1x4x128x1, u11⟩, ⟨S1x1x4x128x1, u12⟩, ⟨S1x1x4x128x1, u13⟩, ⟨S1x1x4x128x1, u14⟩, ⟨S1x1x4x128x1, u15⟩] concatenates_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x16x4x128x1_d1 : Arr F S1x16x4x128x1 .f32))

/-- The joining of the pieces of `main_v873`. -/
def fn_main_v873 : At F main_v674 → At F main_v668 → At F main_v662 → At F main_v656 → At F main_v650 → At F main_v644 → At F main_v638 → At F main_v632 → At F main_v626 → At F main_v620 → At F main_v614 → At F main_v608 → At F main_v602 → At F main_v596 → At F main_v590 → At F main_v584 → At F main_v873 :=
  (fun u0 u1 u2 u3 u4 u5 u6 u7 u8 u9 u10 u11 u12 u13 u14 u15 => (concatenate S1x16x4x128x1 1 [⟨S1x1x4x128x1, u0⟩, ⟨S1x1x4x128x1, u1⟩, ⟨S1x1x4x128x1, u2⟩, ⟨S1x1x4x128x1, u3⟩, ⟨S1x1x4x128x1, u4⟩, ⟨S1x1x4x128x1, u5⟩, ⟨S1x1x4x128x1, u6⟩, ⟨S1x1x4x128x1, u7⟩, ⟨S1x1x4x128x1, u8⟩, ⟨S1x1x4x128x1, u9⟩, ⟨S1x1x4x128x1, u10⟩, ⟨S1x1x4x128x1, u11⟩, ⟨S1x1x4x128x1, u12⟩, ⟨S1x1x4x128x1, u13⟩, ⟨S1x1x4x128x1, u14⟩, ⟨S1x1x4x128x1, u15⟩] concatenates_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x16x4x128x1_d1 : Arr F S1x16x4x128x1 .f32))

/-- The joining of the pieces of `main_v874`. -/
def fn_main_v874 : At F main_v578 → At F main_v572 → At F main_v566 → At F main_v560 → At F main_v554 → At F main_v548 → At F main_v542 → At F main_v536 → At F main_v530 → At F main_v524 → At F main_v518 → At F main_v512 → At F main_v506 → At F main_v500 → At F main_v494 → At F main_v870 → At F main_v874 :=
  (fun u0 u1 u2 u3 u4 u5 u6 u7 u8 u9 u10 u11 u12 u13 u14 u15 => (concatenate S1x16x4x128x1 1 [⟨S1x1x4x128x1, u0⟩, ⟨S1x1x4x128x1, u1⟩, ⟨S1x1x4x128x1, u2⟩, ⟨S1x1x4x128x1, u3⟩, ⟨S1x1x4x128x1, u4⟩, ⟨S1x1x4x128x1, u5⟩, ⟨S1x1x4x128x1, u6⟩, ⟨S1x1x4x128x1, u7⟩, ⟨S1x1x4x128x1, u8⟩, ⟨S1x1x4x128x1, u9⟩, ⟨S1x1x4x128x1, u10⟩, ⟨S1x1x4x128x1, u11⟩, ⟨S1x1x4x128x1, u12⟩, ⟨S1x1x4x128x1, u13⟩, ⟨S1x1x4x128x1, u14⟩, ⟨S1x1x4x128x1, u15⟩] concatenates_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x1x4x128x1_S1x16x4x128x1_d1 : Arr F S1x16x4x128x1 .f32))

/-- The joining of the pieces of `main_v875`. -/
def fn_main_v875 : At F main_v871 → At F main_v872 → At F main_v873 → At F main_v874 → At F main_v875 :=
  (fun u0 u1 u2 u3 => (concatenate S1x64x4x128x1 1 [⟨S1x16x4x128x1, u0⟩, ⟨S1x16x4x128x1, u1⟩, ⟨S1x16x4x128x1, u2⟩, ⟨S1x16x4x128x1, u3⟩] concatenates_S1x16x4x128x1_S1x16x4x128x1_S1x16x4x128x1_S1x16x4x128x1_S1x64x4x128x1_d1 : Arr F S1x64x4x128x1 .f32))

/-- The joining of the pieces of `main_v943`. -/
def fn_main_v943 : At F main_v939 → At F main_v938 → At F main_v937 → At F main_v943 :=
  (fun u0 u1 u2 => (concatenate S4096x1536 1 [⟨S4096x512, u0⟩, ⟨S4096x512, u1⟩, ⟨S4096x512, u2⟩] concatenates_S4096x512_S4096x512_S4096x512_S4096x1536_d1 : Arr F S4096x1536 .f32))

/-- @main's operations 630 … 689 of 1091 (window `main_part10`). -/
abbrev ops_part10 : List (HloOp τ sig (Elt F)) :=
  [ binary main_v567 main_v563 main_v568 (mulf : Bin F S1x1x4x128x128),
    binary main_v474 main_v568 main_v569 (addf : Bin F S1x1x4x128x128),
    binary main_v563 main_v361 main_v570 (mulf : Bin F S1x1x4x128x128),
    nullary main_cst_30 (constant S_ .f32 0x00000000#32),
    binary main_v570 main_cst_30 main_v571 ((fun x v => Host.reduceAdd x v reducesTo_S1x1x4x128x128_S1x1x4x128_d4 h_S_) : Arr F S1x1x4x128x128 .f32 → Un F S_ S1x1x4x128),
    reshape main_v571 main_v572 (rfl : (.f32 : EltTy) = .f32) shapeCasts_S1x1x4x128_S1x1x4x128x1,
    unary main_v135 main_v573 (broadcastInDim S1x1x4x128x128 ![0, 1, 2, 3, 4] bcast_S1x1x4x128x1_S1x1x4x128x128_0_1_2_3_4 : Un F S1x1x4x128x1 S1x1x4x128x128),
    binary main_v573 main_v569 main_v574 (mulf : Bin F S1x1x4x128x128),
    binary main_v473 main_v574 main_v575 (addf : Bin F S1x1x4x128x128),
    binary main_v569 main_v358 main_v576 (mulf : Bin F S1x1x4x128x128),
    nullary main_cst_31 (constant S_ .f32 0x00000000#32),
    binary main_v576 main_cst_31 main_v577 ((fun x v => Host.reduceAdd x v reducesTo_S1x1x4x128x128_S1x1x4x128_d4 h_S_) : Arr F S1x1x4x128x128 .f32 → Un F S_ S1x1x4x128),
    reshape main_v577 main_v578 (rfl : (.f32 : EltTy) = .f32) shapeCasts_S1x1x4x128_S1x1x4x128x1,
    unary main_v134 main_v579 (broadcastInDim S1x1x4x128x128 ![0, 1, 2, 3, 4] bcast_S1x1x4x128x1_S1x1x4x128x128_0_1_2_3_4 : Un F S1x1x4x128x1 S1x1x4x128x128),
    binary main_v579 main_v575 main_v580 (mulf : Bin F S1x1x4x128x128),
    binary main_v472 main_v580 main_v581 (addf : Bin F S1x1x4x128x128),
    binary main_v575 main_v355 main_v582 (mulf : Bin F S1x1x4x128x128),
    nullary main_cst_32 (constant S_ .f32 0x00000000#32),
    binary main_v582 main_cst_32 main_v583 ((fun x v => Host.reduceAdd x v reducesTo_S1x1x4x128x128_S1x1x4x128_d4 h_S_) : Arr F S1x1x4x128x128 .f32 → Un F S_ S1x1x4x128),
    reshape main_v583 main_v584 (rfl : (.f32 : EltTy) = .f32) shapeCasts_S1x1x4x128_S1x1x4x128x1,
    unary main_v133 main_v585 (broadcastInDim S1x1x4x128x128 ![0, 1, 2, 3, 4] bcast_S1x1x4x128x1_S1x1x4x128x128_0_1_2_3_4 : Un F S1x1x4x128x1 S1x1x4x128x128),
    binary main_v585 main_v581 main_v586 (mulf : Bin F S1x1x4x128x128),
    binary main_v471 main_v586 main_v587 (addf : Bin F S1x1x4x128x128),
    binary main_v581 main_v352 main_v588 (mulf : Bin F S1x1x4x128x128),
    nullary main_cst_33 (constant S_ .f32 0x00000000#32),
    binary main_v588 main_cst_33 main_v589 ((fun x v => Host.reduceAdd x v reducesTo_S1x1x4x128x128_S1x1x4x128_d4 h_S_) : Arr F S1x1x4x128x128 .f32 → Un F S_ S1x1x4x128),
    reshape main_v589 main_v590 (rfl : (.f32 : EltTy) = .f32) shapeCasts_S1x1x4x128_S1x1x4x128x1,
    unary main_v132 main_v591 (broadcastInDim S1x1x4x128x128 ![0, 1, 2, 3, 4] bcast_S1x1x4x128x1_S1x1x4x128x128_0_1_2_3_4 : Un F S1x1x4x128x1 S1x1x4x128x128),
    binary main_v591 main_v587 main_v592 (mulf : Bin F S1x1x4x128x128),
    binary main_v470 main_v592 main_v593 (addf : Bin F S1x1x4x128x128),
    binary main_v587 main_v349 main_v594 (mulf : Bin F S1x1x4x128x128),
    nullary main_cst_34 (constant S_ .f32 0x00000000#32),
    binary main_v594 main_cst_34 main_v595 ((fun x v => Host.reduceAdd x v reducesTo_S1x1x4x128x128_S1x1x4x128_d4 h_S_) : Arr F S1x1x4x128x128 .f32 → Un F S_ S1x1x4x128),
    reshape main_v595 main_v596 (rfl : (.f32 : EltTy) = .f32) shapeCasts_S1x1x4x128_S1x1x4x128x1,
    unary main_v131 main_v597 (broadcastInDim S1x1x4x128x128 ![0, 1, 2, 3, 4] bcast_S1x1x4x128x1_S1x1x4x128x128_0_1_2_3_4 : Un F S1x1x4x128x1 S1x1x4x128x128),
    binary main_v597 main_v593 main_v598 (mulf : Bin F S1x1x4x128x128),
    binary main_v469 main_v598 main_v599 (addf : Bin F S1x1x4x128x128),
    binary main_v593 main_v346 main_v600 (mulf : Bin F S1x1x4x128x128),
    nullary main_cst_35 (constant S_ .f32 0x00000000#32),
    binary main_v600 main_cst_35 main_v601 ((fun x v => Host.reduceAdd x v reducesTo_S1x1x4x128x128_S1x1x4x128_d4 h_S_) : Arr F S1x1x4x128x128 .f32 → Un F S_ S1x1x4x128),
    reshape main_v601 main_v602 (rfl : (.f32 : EltTy) = .f32) shapeCasts_S1x1x4x128_S1x1x4x128x1,
    unary main_v130 main_v603 (broadcastInDim S1x1x4x128x128 ![0, 1, 2, 3, 4] bcast_S1x1x4x128x1_S1x1x4x128x128_0_1_2_3_4 : Un F S1x1x4x128x1 S1x1x4x128x128),
    binary main_v603 main_v599 main_v604 (mulf : Bin F S1x1x4x128x128),
    binary main_v468 main_v604 main_v605 (addf : Bin F S1x1x4x128x128),
    binary main_v599 main_v343 main_v606 (mulf : Bin F S1x1x4x128x128),
    nullary main_cst_36 (constant S_ .f32 0x00000000#32),
    binary main_v606 main_cst_36 main_v607 ((fun x v => Host.reduceAdd x v reducesTo_S1x1x4x128x128_S1x1x4x128_d4 h_S_) : Arr F S1x1x4x128x128 .f32 → Un F S_ S1x1x4x128),
    reshape main_v607 main_v608 (rfl : (.f32 : EltTy) = .f32) shapeCasts_S1x1x4x128_S1x1x4x128x1,
    unary main_v129 main_v609 (broadcastInDim S1x1x4x128x128 ![0, 1, 2, 3, 4] bcast_S1x1x4x128x1_S1x1x4x128x128_0_1_2_3_4 : Un F S1x1x4x128x1 S1x1x4x128x128),
    binary main_v609 main_v605 main_v610 (mulf : Bin F S1x1x4x128x128),
    binary main_v467 main_v610 main_v611 (addf : Bin F S1x1x4x128x128),
    binary main_v605 main_v340 main_v612 (mulf : Bin F S1x1x4x128x128),
    nullary main_cst_37 (constant S_ .f32 0x00000000#32),
    binary main_v612 main_cst_37 main_v613 ((fun x v => Host.reduceAdd x v reducesTo_S1x1x4x128x128_S1x1x4x128_d4 h_S_) : Arr F S1x1x4x128x128 .f32 → Un F S_ S1x1x4x128),
    reshape main_v613 main_v614 (rfl : (.f32 : EltTy) = .f32) shapeCasts_S1x1x4x128_S1x1x4x128x1,
    unary main_v128 main_v615 (broadcastInDim S1x1x4x128x128 ![0, 1, 2, 3, 4] bcast_S1x1x4x128x1_S1x1x4x128x128_0_1_2_3_4 : Un F S1x1x4x128x1 S1x1x4x128x128),
    binary main_v615 main_v611 main_v616 (mulf : Bin F S1x1x4x128x128),
    binary main_v466 main_v616 main_v617 (addf : Bin F S1x1x4x128x128),
    binary main_v611 main_v337 main_v618 (mulf : Bin F S1x1x4x128x128),
    nullary main_cst_38 (constant S_ .f32 0x00000000#32) ]

/-- @main's operations 690 … 749 of 1091 (window `main_part11`). -/
abbrev ops_part11 : List (HloOp τ sig (Elt F)) :=
  [ binary main_v618 main_cst_38 main_v619 ((fun x v => Host.reduceAdd x v reducesTo_S1x1x4x128x128_S1x1x4x128_d4 h_S_) : Arr F S1x1x4x128x128 .f32 → Un F S_ S1x1x4x128),
    reshape main_v619 main_v620 (rfl : (.f32 : EltTy) = .f32) shapeCasts_S1x1x4x128_S1x1x4x128x1,
    unary main_v127 main_v621 (broadcastInDim S1x1x4x128x128 ![0, 1, 2, 3, 4] bcast_S1x1x4x128x1_S1x1x4x128x128_0_1_2_3_4 : Un F S1x1x4x128x1 S1x1x4x128x128),
    binary main_v621 main_v617 main_v622 (mulf : Bin F S1x1x4x128x128),
    binary main_v465 main_v622 main_v623 (addf : Bin F S1x1x4x128x128),
    binary main_v617 main_v334 main_v624 (mulf : Bin F S1x1x4x128x128),
    nullary main_cst_39 (constant S_ .f32 0x00000000#32),
    binary main_v624 main_cst_39 main_v625 ((fun x v => Host.reduceAdd x v reducesTo_S1x1x4x128x128_S1x1x4x128_d4 h_S_) : Arr F S1x1x4x128x128 .f32 → Un F S_ S1x1x4x128),
    reshape main_v625 main_v626 (rfl : (.f32 : EltTy) = .f32) shapeCasts_S1x1x4x128_S1x1x4x128x1,
    unary main_v126 main_v627 (broadcastInDim S1x1x4x128x128 ![0, 1, 2, 3, 4] bcast_S1x1x4x128x1_S1x1x4x128x128_0_1_2_3_4 : Un F S1x1x4x128x1 S1x1x4x128x128),
    binary main_v627 main_v623 main_v628 (mulf : Bin F S1x1x4x128x128),
    binary main_v464 main_v628 main_v629 (addf : Bin F S1x1x4x128x128),
    binary main_v623 main_v331 main_v630 (mulf : Bin F S1x1x4x128x128),
    nullary main_cst_40 (constant S_ .f32 0x00000000#32),
    binary main_v630 main_cst_40 main_v631 ((fun x v => Host.reduceAdd x v reducesTo_S1x1x4x128x128_S1x1x4x128_d4 h_S_) : Arr F S1x1x4x128x128 .f32 → Un F S_ S1x1x4x128),
    reshape main_v631 main_v632 (rfl : (.f32 : EltTy) = .f32) shapeCasts_S1x1x4x128_S1x1x4x128x1,
    unary main_v125 main_v633 (broadcastInDim S1x1x4x128x128 ![0, 1, 2, 3, 4] bcast_S1x1x4x128x1_S1x1x4x128x128_0_1_2_3_4 : Un F S1x1x4x128x1 S1x1x4x128x128),
    binary main_v633 main_v629 main_v634 (mulf : Bin F S1x1x4x128x128),
    binary main_v463 main_v634 main_v635 (addf : Bin F S1x1x4x128x128),
    binary main_v629 main_v328 main_v636 (mulf : Bin F S1x1x4x128x128),
    nullary main_cst_41 (constant S_ .f32 0x00000000#32),
    binary main_v636 main_cst_41 main_v637 ((fun x v => Host.reduceAdd x v reducesTo_S1x1x4x128x128_S1x1x4x128_d4 h_S_) : Arr F S1x1x4x128x128 .f32 → Un F S_ S1x1x4x128),
    reshape main_v637 main_v638 (rfl : (.f32 : EltTy) = .f32) shapeCasts_S1x1x4x128_S1x1x4x128x1,
    unary main_v124 main_v639 (broadcastInDim S1x1x4x128x128 ![0, 1, 2, 3, 4] bcast_S1x1x4x128x1_S1x1x4x128x128_0_1_2_3_4 : Un F S1x1x4x128x1 S1x1x4x128x128),
    binary main_v639 main_v635 main_v640 (mulf : Bin F S1x1x4x128x128),
    binary main_v462 main_v640 main_v641 (addf : Bin F S1x1x4x128x128),
    binary main_v635 main_v325 main_v642 (mulf : Bin F S1x1x4x128x128),
    nullary main_cst_42 (constant S_ .f32 0x00000000#32),
    binary main_v642 main_cst_42 main_v643 ((fun x v => Host.reduceAdd x v reducesTo_S1x1x4x128x128_S1x1x4x128_d4 h_S_) : Arr F S1x1x4x128x128 .f32 → Un F S_ S1x1x4x128),
    reshape main_v643 main_v644 (rfl : (.f32 : EltTy) = .f32) shapeCasts_S1x1x4x128_S1x1x4x128x1,
    unary main_v123 main_v645 (broadcastInDim S1x1x4x128x128 ![0, 1, 2, 3, 4] bcast_S1x1x4x128x1_S1x1x4x128x128_0_1_2_3_4 : Un F S1x1x4x128x1 S1x1x4x128x128),
    binary main_v645 main_v641 main_v646 (mulf : Bin F S1x1x4x128x128),
    binary main_v461 main_v646 main_v647 (addf : Bin F S1x1x4x128x128),
    binary main_v641 main_v322 main_v648 (mulf : Bin F S1x1x4x128x128),
    nullary main_cst_43 (constant S_ .f32 0x00000000#32),
    binary main_v648 main_cst_43 main_v649 ((fun x v => Host.reduceAdd x v reducesTo_S1x1x4x128x128_S1x1x4x128_d4 h_S_) : Arr F S1x1x4x128x128 .f32 → Un F S_ S1x1x4x128),
    reshape main_v649 main_v650 (rfl : (.f32 : EltTy) = .f32) shapeCasts_S1x1x4x128_S1x1x4x128x1,
    unary main_v122 main_v651 (broadcastInDim S1x1x4x128x128 ![0, 1, 2, 3, 4] bcast_S1x1x4x128x1_S1x1x4x128x128_0_1_2_3_4 : Un F S1x1x4x128x1 S1x1x4x128x128),
    binary main_v651 main_v647 main_v652 (mulf : Bin F S1x1x4x128x128),
    binary main_v460 main_v652 main_v653 (addf : Bin F S1x1x4x128x128),
    binary main_v647 main_v319 main_v654 (mulf : Bin F S1x1x4x128x128),
    nullary main_cst_44 (constant S_ .f32 0x00000000#32),
    binary main_v654 main_cst_44 main_v655 ((fun x v => Host.reduceAdd x v reducesTo_S1x1x4x128x128_S1x1x4x128_d4 h_S_) : Arr F S1x1x4x128x128 .f32 → Un F S_ S1x1x4x128),
    reshape main_v655 main_v656 (rfl : (.f32 : EltTy) = .f32) shapeCasts_S1x1x4x128_S1x1x4x128x1,
    unary main_v121 main_v657 (broadcastInDim S1x1x4x128x128 ![0, 1, 2, 3, 4] bcast_S1x1x4x128x1_S1x1x4x128x128_0_1_2_3_4 : Un F S1x1x4x128x1 S1x1x4x128x128),
    binary main_v657 main_v653 main_v658 (mulf : Bin F S1x1x4x128x128),
    binary main_v459 main_v658 main_v659 (addf : Bin F S1x1x4x128x128),
    binary main_v653 main_v316 main_v660 (mulf : Bin F S1x1x4x128x128),
    nullary main_cst_45 (constant S_ .f32 0x00000000#32),
    binary main_v660 main_cst_45 main_v661 ((fun x v => Host.reduceAdd x v reducesTo_S1x1x4x128x128_S1x1x4x128_d4 h_S_) : Arr F S1x1x4x128x128 .f32 → Un F S_ S1x1x4x128),
    reshape main_v661 main_v662 (rfl : (.f32 : EltTy) = .f32) shapeCasts_S1x1x4x128_S1x1x4x128x1,
    unary main_v120 main_v663 (broadcastInDim S1x1x4x128x128 ![0, 1, 2, 3, 4] bcast_S1x1x4x128x1_S1x1x4x128x128_0_1_2_3_4 : Un F S1x1x4x128x1 S1x1x4x128x128),
    binary main_v663 main_v659 main_v664 (mulf : Bin F S1x1x4x128x128),
    binary main_v458 main_v664 main_v665 (addf : Bin F S1x1x4x128x128),
    binary main_v659 main_v313 main_v666 (mulf : Bin F S1x1x4x128x128),
    nullary main_cst_46 (constant S_ .f32 0x00000000#32),
    binary main_v666 main_cst_46 main_v667 ((fun x v => Host.reduceAdd x v reducesTo_S1x1x4x128x128_S1x1x4x128_d4 h_S_) : Arr F S1x1x4x128x128 .f32 → Un F S_ S1x1x4x128),
    reshape main_v667 main_v668 (rfl : (.f32 : EltTy) = .f32) shapeCasts_S1x1x4x128_S1x1x4x128x1,
    unary main_v119 main_v669 (broadcastInDim S1x1x4x128x128 ![0, 1, 2, 3, 4] bcast_S1x1x4x128x1_S1x1x4x128x128_0_1_2_3_4 : Un F S1x1x4x128x1 S1x1x4x128x128),
    binary main_v669 main_v665 main_v670 (mulf : Bin F S1x1x4x128x128) ]

/-- @main's operations 750 … 809 of 1091 (window `main_part12`). -/
abbrev ops_part12 : List (HloOp τ sig (Elt F)) :=
  [ binary main_v457 main_v670 main_v671 (addf : Bin F S1x1x4x128x128),
    binary main_v665 main_v310 main_v672 (mulf : Bin F S1x1x4x128x128),
    nullary main_cst_47 (constant S_ .f32 0x00000000#32),
    binary main_v672 main_cst_47 main_v673 ((fun x v => Host.reduceAdd x v reducesTo_S1x1x4x128x128_S1x1x4x128_d4 h_S_) : Arr F S1x1x4x128x128 .f32 → Un F S_ S1x1x4x128),
    reshape main_v673 main_v674 (rfl : (.f32 : EltTy) = .f32) shapeCasts_S1x1x4x128_S1x1x4x128x1,
    unary main_v118 main_v675 (broadcastInDim S1x1x4x128x128 ![0, 1, 2, 3, 4] bcast_S1x1x4x128x1_S1x1x4x128x128_0_1_2_3_4 : Un F S1x1x4x128x1 S1x1x4x128x128),
    binary main_v675 main_v671 main_v676 (mulf : Bin F S1x1x4x128x128),
    binary main_v456 main_v676 main_v677 (addf : Bin F S1x1x4x128x128),
    binary main_v671 main_v307 main_v678 (mulf : Bin F S1x1x4x128x128),
    nullary main_cst_48 (constant S_ .f32 0x00000000#32),
    binary main_v678 main_cst_48 main_v679 ((fun x v => Host.reduceAdd x v reducesTo_S1x1x4x128x128_S1x1x4x128_d4 h_S_) : Arr F S1x1x4x128x128 .f32 → Un F S_ S1x1x4x128),
    reshape main_v679 main_v680 (rfl : (.f32 : EltTy) = .f32) shapeCasts_S1x1x4x128_S1x1x4x128x1,
    unary main_v117 main_v681 (broadcastInDim S1x1x4x128x128 ![0, 1, 2, 3, 4] bcast_S1x1x4x128x1_S1x1x4x128x128_0_1_2_3_4 : Un F S1x1x4x128x1 S1x1x4x128x128),
    binary main_v681 main_v677 main_v682 (mulf : Bin F S1x1x4x128x128),
    binary main_v455 main_v682 main_v683 (addf : Bin F S1x1x4x128x128),
    binary main_v677 main_v304 main_v684 (mulf : Bin F S1x1x4x128x128),
    nullary main_cst_49 (constant S_ .f32 0x00000000#32),
    binary main_v684 main_cst_49 main_v685 ((fun x v => Host.reduceAdd x v reducesTo_S1x1x4x128x128_S1x1x4x128_d4 h_S_) : Arr F S1x1x4x128x128 .f32 → Un F S_ S1x1x4x128),
    reshape main_v685 main_v686 (rfl : (.f32 : EltTy) = .f32) shapeCasts_S1x1x4x128_S1x1x4x128x1,
    unary main_v116 main_v687 (broadcastInDim S1x1x4x128x128 ![0, 1, 2, 3, 4] bcast_S1x1x4x128x1_S1x1x4x128x128_0_1_2_3_4 : Un F S1x1x4x128x1 S1x1x4x128x128),
    binary main_v687 main_v683 main_v688 (mulf : Bin F S1x1x4x128x128),
    binary main_v454 main_v688 main_v689 (addf : Bin F S1x1x4x128x128),
    binary main_v683 main_v301 main_v690 (mulf : Bin F S1x1x4x128x128),
    nullary main_cst_50 (constant S_ .f32 0x00000000#32),
    binary main_v690 main_cst_50 main_v691 ((fun x v => Host.reduceAdd x v reducesTo_S1x1x4x128x128_S1x1x4x128_d4 h_S_) : Arr F S1x1x4x128x128 .f32 → Un F S_ S1x1x4x128),
    reshape main_v691 main_v692 (rfl : (.f32 : EltTy) = .f32) shapeCasts_S1x1x4x128_S1x1x4x128x1,
    unary main_v115 main_v693 (broadcastInDim S1x1x4x128x128 ![0, 1, 2, 3, 4] bcast_S1x1x4x128x1_S1x1x4x128x128_0_1_2_3_4 : Un F S1x1x4x128x1 S1x1x4x128x128),
    binary main_v693 main_v689 main_v694 (mulf : Bin F S1x1x4x128x128),
    binary main_v453 main_v694 main_v695 (addf : Bin F S1x1x4x128x128),
    binary main_v689 main_v298 main_v696 (mulf : Bin F S1x1x4x128x128),
    nullary main_cst_51 (constant S_ .f32 0x00000000#32),
    binary main_v696 main_cst_51 main_v697 ((fun x v => Host.reduceAdd x v reducesTo_S1x1x4x128x128_S1x1x4x128_d4 h_S_) : Arr F S1x1x4x128x128 .f32 → Un F S_ S1x1x4x128),
    reshape main_v697 main_v698 (rfl : (.f32 : EltTy) = .f32) shapeCasts_S1x1x4x128_S1x1x4x128x1,
    unary main_v114 main_v699 (broadcastInDim S1x1x4x128x128 ![0, 1, 2, 3, 4] bcast_S1x1x4x128x1_S1x1x4x128x128_0_1_2_3_4 : Un F S1x1x4x128x1 S1x1x4x128x128),
    binary main_v699 main_v695 main_v700 (mulf : Bin F S1x1x4x128x128),
    binary main_v452 main_v700 main_v701 (addf : Bin F S1x1x4x128x128),
    binary main_v695 main_v295 main_v702 (mulf : Bin F S1x1x4x128x128),
    nullary main_cst_52 (constant S_ .f32 0x00000000#32),
    binary main_v702 main_cst_52 main_v703 ((fun x v => Host.reduceAdd x v reducesTo_S1x1x4x128x128_S1x1x4x128_d4 h_S_) : Arr F S1x1x4x128x128 .f32 → Un F S_ S1x1x4x128),
    reshape main_v703 main_v704 (rfl : (.f32 : EltTy) = .f32) shapeCasts_S1x1x4x128_S1x1x4x128x1,
    unary main_v113 main_v705 (broadcastInDim S1x1x4x128x128 ![0, 1, 2, 3, 4] bcast_S1x1x4x128x1_S1x1x4x128x128_0_1_2_3_4 : Un F S1x1x4x128x1 S1x1x4x128x128),
    binary main_v705 main_v701 main_v706 (mulf : Bin F S1x1x4x128x128),
    binary main_v451 main_v706 main_v707 (addf : Bin F S1x1x4x128x128),
    binary main_v701 main_v292 main_v708 (mulf : Bin F S1x1x4x128x128),
    nullary main_cst_53 (constant S_ .f32 0x00000000#32),
    binary main_v708 main_cst_53 main_v709 ((fun x v => Host.reduceAdd x v reducesTo_S1x1x4x128x128_S1x1x4x128_d4 h_S_) : Arr F S1x1x4x128x128 .f32 → Un F S_ S1x1x4x128),
    reshape main_v709 main_v710 (rfl : (.f32 : EltTy) = .f32) shapeCasts_S1x1x4x128_S1x1x4x128x1,
    unary main_v112 main_v711 (broadcastInDim S1x1x4x128x128 ![0, 1, 2, 3, 4] bcast_S1x1x4x128x1_S1x1x4x128x128_0_1_2_3_4 : Un F S1x1x4x128x1 S1x1x4x128x128),
    binary main_v711 main_v707 main_v712 (mulf : Bin F S1x1x4x128x128),
    binary main_v450 main_v712 main_v713 (addf : Bin F S1x1x4x128x128),
    binary main_v707 main_v289 main_v714 (mulf : Bin F S1x1x4x128x128),
    nullary main_cst_54 (constant S_ .f32 0x00000000#32),
    binary main_v714 main_cst_54 main_v715 ((fun x v => Host.reduceAdd x v reducesTo_S1x1x4x128x128_S1x1x4x128_d4 h_S_) : Arr F S1x1x4x128x128 .f32 → Un F S_ S1x1x4x128),
    reshape main_v715 main_v716 (rfl : (.f32 : EltTy) = .f32) shapeCasts_S1x1x4x128_S1x1x4x128x1,
    unary main_v111 main_v717 (broadcastInDim S1x1x4x128x128 ![0, 1, 2, 3, 4] bcast_S1x1x4x128x1_S1x1x4x128x128_0_1_2_3_4 : Un F S1x1x4x128x1 S1x1x4x128x128),
    binary main_v717 main_v713 main_v718 (mulf : Bin F S1x1x4x128x128),
    binary main_v449 main_v718 main_v719 (addf : Bin F S1x1x4x128x128),
    binary main_v713 main_v286 main_v720 (mulf : Bin F S1x1x4x128x128),
    nullary main_cst_55 (constant S_ .f32 0x00000000#32),
    binary main_v720 main_cst_55 main_v721 ((fun x v => Host.reduceAdd x v reducesTo_S1x1x4x128x128_S1x1x4x128_d4 h_S_) : Arr F S1x1x4x128x128 .f32 → Un F S_ S1x1x4x128) ]

/-- @main's operations 810 … 869 of 1091 (window `main_part13`). -/
abbrev ops_part13 : List (HloOp τ sig (Elt F)) :=
  [ reshape main_v721 main_v722 (rfl : (.f32 : EltTy) = .f32) shapeCasts_S1x1x4x128_S1x1x4x128x1,
    unary main_v110 main_v723 (broadcastInDim S1x1x4x128x128 ![0, 1, 2, 3, 4] bcast_S1x1x4x128x1_S1x1x4x128x128_0_1_2_3_4 : Un F S1x1x4x128x1 S1x1x4x128x128),
    binary main_v723 main_v719 main_v724 (mulf : Bin F S1x1x4x128x128),
    binary main_v448 main_v724 main_v725 (addf : Bin F S1x1x4x128x128),
    binary main_v719 main_v283 main_v726 (mulf : Bin F S1x1x4x128x128),
    nullary main_cst_56 (constant S_ .f32 0x00000000#32),
    binary main_v726 main_cst_56 main_v727 ((fun x v => Host.reduceAdd x v reducesTo_S1x1x4x128x128_S1x1x4x128_d4 h_S_) : Arr F S1x1x4x128x128 .f32 → Un F S_ S1x1x4x128),
    reshape main_v727 main_v728 (rfl : (.f32 : EltTy) = .f32) shapeCasts_S1x1x4x128_S1x1x4x128x1,
    unary main_v109 main_v729 (broadcastInDim S1x1x4x128x128 ![0, 1, 2, 3, 4] bcast_S1x1x4x128x1_S1x1x4x128x128_0_1_2_3_4 : Un F S1x1x4x128x1 S1x1x4x128x128),
    binary main_v729 main_v725 main_v730 (mulf : Bin F S1x1x4x128x128),
    binary main_v447 main_v730 main_v731 (addf : Bin F S1x1x4x128x128),
    binary main_v725 main_v280 main_v732 (mulf : Bin F S1x1x4x128x128),
    nullary main_cst_57 (constant S_ .f32 0x00000000#32),
    binary main_v732 main_cst_57 main_v733 ((fun x v => Host.reduceAdd x v reducesTo_S1x1x4x128x128_S1x1x4x128_d4 h_S_) : Arr F S1x1x4x128x128 .f32 → Un F S_ S1x1x4x128),
    reshape main_v733 main_v734 (rfl : (.f32 : EltTy) = .f32) shapeCasts_S1x1x4x128_S1x1x4x128x1,
    unary main_v108 main_v735 (broadcastInDim S1x1x4x128x128 ![0, 1, 2, 3, 4] bcast_S1x1x4x128x1_S1x1x4x128x128_0_1_2_3_4 : Un F S1x1x4x128x1 S1x1x4x128x128),
    binary main_v735 main_v731 main_v736 (mulf : Bin F S1x1x4x128x128),
    binary main_v446 main_v736 main_v737 (addf : Bin F S1x1x4x128x128),
    binary main_v731 main_v277 main_v738 (mulf : Bin F S1x1x4x128x128),
    nullary main_cst_58 (constant S_ .f32 0x00000000#32),
    binary main_v738 main_cst_58 main_v739 ((fun x v => Host.reduceAdd x v reducesTo_S1x1x4x128x128_S1x1x4x128_d4 h_S_) : Arr F S1x1x4x128x128 .f32 → Un F S_ S1x1x4x128),
    reshape main_v739 main_v740 (rfl : (.f32 : EltTy) = .f32) shapeCasts_S1x1x4x128_S1x1x4x128x1,
    unary main_v107 main_v741 (broadcastInDim S1x1x4x128x128 ![0, 1, 2, 3, 4] bcast_S1x1x4x128x1_S1x1x4x128x128_0_1_2_3_4 : Un F S1x1x4x128x1 S1x1x4x128x128),
    binary main_v741 main_v737 main_v742 (mulf : Bin F S1x1x4x128x128),
    binary main_v445 main_v742 main_v743 (addf : Bin F S1x1x4x128x128),
    binary main_v737 main_v274 main_v744 (mulf : Bin F S1x1x4x128x128),
    nullary main_cst_59 (constant S_ .f32 0x00000000#32),
    binary main_v744 main_cst_59 main_v745 ((fun x v => Host.reduceAdd x v reducesTo_S1x1x4x128x128_S1x1x4x128_d4 h_S_) : Arr F S1x1x4x128x128 .f32 → Un F S_ S1x1x4x128),
    reshape main_v745 main_v746 (rfl : (.f32 : EltTy) = .f32) shapeCasts_S1x1x4x128_S1x1x4x128x1,
    unary main_v106 main_v747 (broadcastInDim S1x1x4x128x128 ![0, 1, 2, 3, 4] bcast_S1x1x4x128x1_S1x1x4x128x128_0_1_2_3_4 : Un F S1x1x4x128x1 S1x1x4x128x128),
    binary main_v747 main_v743 main_v748 (mulf : Bin F S1x1x4x128x128),
    binary main_v444 main_v748 main_v749 (addf : Bin F S1x1x4x128x128),
    binary main_v743 main_v271 main_v750 (mulf : Bin F S1x1x4x128x128),
    nullary main_cst_60 (constant S_ .f32 0x00000000#32),
    binary main_v750 main_cst_60 main_v751 ((fun x v => Host.reduceAdd x v reducesTo_S1x1x4x128x128_S1x1x4x128_d4 h_S_) : Arr F S1x1x4x128x128 .f32 → Un F S_ S1x1x4x128),
    reshape main_v751 main_v752 (rfl : (.f32 : EltTy) = .f32) shapeCasts_S1x1x4x128_S1x1x4x128x1,
    unary main_v105 main_v753 (broadcastInDim S1x1x4x128x128 ![0, 1, 2, 3, 4] bcast_S1x1x4x128x1_S1x1x4x128x128_0_1_2_3_4 : Un F S1x1x4x128x1 S1x1x4x128x128),
    binary main_v753 main_v749 main_v754 (mulf : Bin F S1x1x4x128x128),
    binary main_v443 main_v754 main_v755 (addf : Bin F S1x1x4x128x128),
    binary main_v749 main_v268 main_v756 (mulf : Bin F S1x1x4x128x128),
    nullary main_cst_61 (constant S_ .f32 0x00000000#32),
    binary main_v756 main_cst_61 main_v757 ((fun x v => Host.reduceAdd x v reducesTo_S1x1x4x128x128_S1x1x4x128_d4 h_S_) : Arr F S1x1x4x128x128 .f32 → Un F S_ S1x1x4x128),
    reshape main_v757 main_v758 (rfl : (.f32 : EltTy) = .f32) shapeCasts_S1x1x4x128_S1x1x4x128x1,
    unary main_v104 main_v759 (broadcastInDim S1x1x4x128x128 ![0, 1, 2, 3, 4] bcast_S1x1x4x128x1_S1x1x4x128x128_0_1_2_3_4 : Un F S1x1x4x128x1 S1x1x4x128x128),
    binary main_v759 main_v755 main_v760 (mulf : Bin F S1x1x4x128x128),
    binary main_v442 main_v760 main_v761 (addf : Bin F S1x1x4x128x128),
    binary main_v755 main_v265 main_v762 (mulf : Bin F S1x1x4x128x128),
    nullary main_cst_62 (constant S_ .f32 0x00000000#32),
    binary main_v762 main_cst_62 main_v763 ((fun x v => Host.reduceAdd x v reducesTo_S1x1x4x128x128_S1x1x4x128_d4 h_S_) : Arr F S1x1x4x128x128 .f32 → Un F S_ S1x1x4x128),
    reshape main_v763 main_v764 (rfl : (.f32 : EltTy) = .f32) shapeCasts_S1x1x4x128_S1x1x4x128x1,
    unary main_v103 main_v765 (broadcastInDim S1x1x4x128x128 ![0, 1, 2, 3, 4] bcast_S1x1x4x128x1_S1x1x4x128x128_0_1_2_3_4 : Un F S1x1x4x128x1 S1x1x4x128x128),
    binary main_v765 main_v761 main_v766 (mulf : Bin F S1x1x4x128x128),
    binary main_v441 main_v766 main_v767 (addf : Bin F S1x1x4x128x128),
    binary main_v761 main_v262 main_v768 (mulf : Bin F S1x1x4x128x128),
    nullary main_cst_63 (constant S_ .f32 0x00000000#32),
    binary main_v768 main_cst_63 main_v769 ((fun x v => Host.reduceAdd x v reducesTo_S1x1x4x128x128_S1x1x4x128_d4 h_S_) : Arr F S1x1x4x128x128 .f32 → Un F S_ S1x1x4x128),
    reshape main_v769 main_v770 (rfl : (.f32 : EltTy) = .f32) shapeCasts_S1x1x4x128_S1x1x4x128x1,
    unary main_v102 main_v771 (broadcastInDim S1x1x4x128x128 ![0, 1, 2, 3, 4] bcast_S1x1x4x128x1_S1x1x4x128x128_0_1_2_3_4 : Un F S1x1x4x128x1 S1x1x4x128x128),
    binary main_v771 main_v767 main_v772 (mulf : Bin F S1x1x4x128x128),
    binary main_v440 main_v772 main_v773 (addf : Bin F S1x1x4x128x128) ]

/-- @main's operations 870 … 929 of 1091 (window `main_part14`). -/
abbrev ops_part14 : List (HloOp τ sig (Elt F)) :=
  [ binary main_v767 main_v259 main_v774 (mulf : Bin F S1x1x4x128x128),
    nullary main_cst_64 (constant S_ .f32 0x00000000#32),
    binary main_v774 main_cst_64 main_v775 ((fun x v => Host.reduceAdd x v reducesTo_S1x1x4x128x128_S1x1x4x128_d4 h_S_) : Arr F S1x1x4x128x128 .f32 → Un F S_ S1x1x4x128),
    reshape main_v775 main_v776 (rfl : (.f32 : EltTy) = .f32) shapeCasts_S1x1x4x128_S1x1x4x128x1,
    unary main_v101 main_v777 (broadcastInDim S1x1x4x128x128 ![0, 1, 2, 3, 4] bcast_S1x1x4x128x1_S1x1x4x128x128_0_1_2_3_4 : Un F S1x1x4x128x1 S1x1x4x128x128),
    binary main_v777 main_v773 main_v778 (mulf : Bin F S1x1x4x128x128),
    binary main_v439 main_v778 main_v779 (addf : Bin F S1x1x4x128x128),
    binary main_v773 main_v256 main_v780 (mulf : Bin F S1x1x4x128x128),
    nullary main_cst_65 (constant S_ .f32 0x00000000#32),
    binary main_v780 main_cst_65 main_v781 ((fun x v => Host.reduceAdd x v reducesTo_S1x1x4x128x128_S1x1x4x128_d4 h_S_) : Arr F S1x1x4x128x128 .f32 → Un F S_ S1x1x4x128),
    reshape main_v781 main_v782 (rfl : (.f32 : EltTy) = .f32) shapeCasts_S1x1x4x128_S1x1x4x128x1,
    unary main_v100 main_v783 (broadcastInDim S1x1x4x128x128 ![0, 1, 2, 3, 4] bcast_S1x1x4x128x1_S1x1x4x128x128_0_1_2_3_4 : Un F S1x1x4x128x1 S1x1x4x128x128),
    binary main_v783 main_v779 main_v784 (mulf : Bin F S1x1x4x128x128),
    binary main_v438 main_v784 main_v785 (addf : Bin F S1x1x4x128x128),
    binary main_v779 main_v253 main_v786 (mulf : Bin F S1x1x4x128x128),
    nullary main_cst_66 (constant S_ .f32 0x00000000#32),
    binary main_v786 main_cst_66 main_v787 ((fun x v => Host.reduceAdd x v reducesTo_S1x1x4x128x128_S1x1x4x128_d4 h_S_) : Arr F S1x1x4x128x128 .f32 → Un F S_ S1x1x4x128),
    reshape main_v787 main_v788 (rfl : (.f32 : EltTy) = .f32) shapeCasts_S1x1x4x128_S1x1x4x128x1,
    unary main_v99 main_v789 (broadcastInDim S1x1x4x128x128 ![0, 1, 2, 3, 4] bcast_S1x1x4x128x1_S1x1x4x128x128_0_1_2_3_4 : Un F S1x1x4x128x1 S1x1x4x128x128),
    binary main_v789 main_v785 main_v790 (mulf : Bin F S1x1x4x128x128),
    binary main_v437 main_v790 main_v791 (addf : Bin F S1x1x4x128x128),
    binary main_v785 main_v250 main_v792 (mulf : Bin F S1x1x4x128x128),
    nullary main_cst_67 (constant S_ .f32 0x00000000#32),
    binary main_v792 main_cst_67 main_v793 ((fun x v => Host.reduceAdd x v reducesTo_S1x1x4x128x128_S1x1x4x128_d4 h_S_) : Arr F S1x1x4x128x128 .f32 → Un F S_ S1x1x4x128),
    reshape main_v793 main_v794 (rfl : (.f32 : EltTy) = .f32) shapeCasts_S1x1x4x128_S1x1x4x128x1,
    unary main_v98 main_v795 (broadcastInDim S1x1x4x128x128 ![0, 1, 2, 3, 4] bcast_S1x1x4x128x1_S1x1x4x128x128_0_1_2_3_4 : Un F S1x1x4x128x1 S1x1x4x128x128),
    binary main_v795 main_v791 main_v796 (mulf : Bin F S1x1x4x128x128),
    binary main_v436 main_v796 main_v797 (addf : Bin F S1x1x4x128x128),
    binary main_v791 main_v247 main_v798 (mulf : Bin F S1x1x4x128x128),
    nullary main_cst_68 (constant S_ .f32 0x00000000#32),
    binary main_v798 main_cst_68 main_v799 ((fun x v => Host.reduceAdd x v reducesTo_S1x1x4x128x128_S1x1x4x128_d4 h_S_) : Arr F S1x1x4x128x128 .f32 → Un F S_ S1x1x4x128),
    reshape main_v799 main_v800 (rfl : (.f32 : EltTy) = .f32) shapeCasts_S1x1x4x128_S1x1x4x128x1,
    unary main_v97 main_v801 (broadcastInDim S1x1x4x128x128 ![0, 1, 2, 3, 4] bcast_S1x1x4x128x1_S1x1x4x128x128_0_1_2_3_4 : Un F S1x1x4x128x1 S1x1x4x128x128),
    binary main_v801 main_v797 main_v802 (mulf : Bin F S1x1x4x128x128),
    binary main_v435 main_v802 main_v803 (addf : Bin F S1x1x4x128x128),
    binary main_v797 main_v244 main_v804 (mulf : Bin F S1x1x4x128x128),
    nullary main_cst_69 (constant S_ .f32 0x00000000#32),
    binary main_v804 main_cst_69 main_v805 ((fun x v => Host.reduceAdd x v reducesTo_S1x1x4x128x128_S1x1x4x128_d4 h_S_) : Arr F S1x1x4x128x128 .f32 → Un F S_ S1x1x4x128),
    reshape main_v805 main_v806 (rfl : (.f32 : EltTy) = .f32) shapeCasts_S1x1x4x128_S1x1x4x128x1,
    unary main_v96 main_v807 (broadcastInDim S1x1x4x128x128 ![0, 1, 2, 3, 4] bcast_S1x1x4x128x1_S1x1x4x128x128_0_1_2_3_4 : Un F S1x1x4x128x1 S1x1x4x128x128),
    binary main_v807 main_v803 main_v808 (mulf : Bin F S1x1x4x128x128),
    binary main_v434 main_v808 main_v809 (addf : Bin F S1x1x4x128x128),
    binary main_v803 main_v241 main_v810 (mulf : Bin F S1x1x4x128x128),
    nullary main_cst_70 (constant S_ .f32 0x00000000#32),
    binary main_v810 main_cst_70 main_v811 ((fun x v => Host.reduceAdd x v reducesTo_S1x1x4x128x128_S1x1x4x128_d4 h_S_) : Arr F S1x1x4x128x128 .f32 → Un F S_ S1x1x4x128),
    reshape main_v811 main_v812 (rfl : (.f32 : EltTy) = .f32) shapeCasts_S1x1x4x128_S1x1x4x128x1,
    unary main_v95 main_v813 (broadcastInDim S1x1x4x128x128 ![0, 1, 2, 3, 4] bcast_S1x1x4x128x1_S1x1x4x128x128_0_1_2_3_4 : Un F S1x1x4x128x1 S1x1x4x128x128),
    binary main_v813 main_v809 main_v814 (mulf : Bin F S1x1x4x128x128),
    binary main_v433 main_v814 main_v815 (addf : Bin F S1x1x4x128x128),
    binary main_v809 main_v238 main_v816 (mulf : Bin F S1x1x4x128x128),
    nullary main_cst_71 (constant S_ .f32 0x00000000#32),
    binary main_v816 main_cst_71 main_v817 ((fun x v => Host.reduceAdd x v reducesTo_S1x1x4x128x128_S1x1x4x128_d4 h_S_) : Arr F S1x1x4x128x128 .f32 → Un F S_ S1x1x4x128),
    reshape main_v817 main_v818 (rfl : (.f32 : EltTy) = .f32) shapeCasts_S1x1x4x128_S1x1x4x128x1,
    unary main_v94 main_v819 (broadcastInDim S1x1x4x128x128 ![0, 1, 2, 3, 4] bcast_S1x1x4x128x1_S1x1x4x128x128_0_1_2_3_4 : Un F S1x1x4x128x1 S1x1x4x128x128),
    binary main_v819 main_v815 main_v820 (mulf : Bin F S1x1x4x128x128),
    binary main_v432 main_v820 main_v821 (addf : Bin F S1x1x4x128x128),
    binary main_v815 main_v235 main_v822 (mulf : Bin F S1x1x4x128x128),
    nullary main_cst_72 (constant S_ .f32 0x00000000#32),
    binary main_v822 main_cst_72 main_v823 ((fun x v => Host.reduceAdd x v reducesTo_S1x1x4x128x128_S1x1x4x128_d4 h_S_) : Arr F S1x1x4x128x128 .f32 → Un F S_ S1x1x4x128),
    reshape main_v823 main_v824 (rfl : (.f32 : EltTy) = .f32) shapeCasts_S1x1x4x128_S1x1x4x128x1 ]

/-- @main's operations 930 … 989 of 1091 (window `main_part15`). -/
abbrev ops_part15 : List (HloOp τ sig (Elt F)) :=
  [ unary main_v93 main_v825 (broadcastInDim S1x1x4x128x128 ![0, 1, 2, 3, 4] bcast_S1x1x4x128x1_S1x1x4x128x128_0_1_2_3_4 : Un F S1x1x4x128x1 S1x1x4x128x128),
    binary main_v825 main_v821 main_v826 (mulf : Bin F S1x1x4x128x128),
    binary main_v431 main_v826 main_v827 (addf : Bin F S1x1x4x128x128),
    binary main_v821 main_v232 main_v828 (mulf : Bin F S1x1x4x128x128),
    nullary main_cst_73 (constant S_ .f32 0x00000000#32),
    binary main_v828 main_cst_73 main_v829 ((fun x v => Host.reduceAdd x v reducesTo_S1x1x4x128x128_S1x1x4x128_d4 h_S_) : Arr F S1x1x4x128x128 .f32 → Un F S_ S1x1x4x128),
    reshape main_v829 main_v830 (rfl : (.f32 : EltTy) = .f32) shapeCasts_S1x1x4x128_S1x1x4x128x1,
    unary main_v92 main_v831 (broadcastInDim S1x1x4x128x128 ![0, 1, 2, 3, 4] bcast_S1x1x4x128x1_S1x1x4x128x128_0_1_2_3_4 : Un F S1x1x4x128x1 S1x1x4x128x128),
    binary main_v831 main_v827 main_v832 (mulf : Bin F S1x1x4x128x128),
    binary main_v430 main_v832 main_v833 (addf : Bin F S1x1x4x128x128),
    binary main_v827 main_v229 main_v834 (mulf : Bin F S1x1x4x128x128),
    nullary main_cst_74 (constant S_ .f32 0x00000000#32),
    binary main_v834 main_cst_74 main_v835 ((fun x v => Host.reduceAdd x v reducesTo_S1x1x4x128x128_S1x1x4x128_d4 h_S_) : Arr F S1x1x4x128x128 .f32 → Un F S_ S1x1x4x128),
    reshape main_v835 main_v836 (rfl : (.f32 : EltTy) = .f32) shapeCasts_S1x1x4x128_S1x1x4x128x1,
    unary main_v91 main_v837 (broadcastInDim S1x1x4x128x128 ![0, 1, 2, 3, 4] bcast_S1x1x4x128x1_S1x1x4x128x128_0_1_2_3_4 : Un F S1x1x4x128x1 S1x1x4x128x128),
    binary main_v837 main_v833 main_v838 (mulf : Bin F S1x1x4x128x128),
    binary main_v429 main_v838 main_v839 (addf : Bin F S1x1x4x128x128),
    binary main_v833 main_v226 main_v840 (mulf : Bin F S1x1x4x128x128),
    nullary main_cst_75 (constant S_ .f32 0x00000000#32),
    binary main_v840 main_cst_75 main_v841 ((fun x v => Host.reduceAdd x v reducesTo_S1x1x4x128x128_S1x1x4x128_d4 h_S_) : Arr F S1x1x4x128x128 .f32 → Un F S_ S1x1x4x128),
    reshape main_v841 main_v842 (rfl : (.f32 : EltTy) = .f32) shapeCasts_S1x1x4x128_S1x1x4x128x1,
    unary main_v90 main_v843 (broadcastInDim S1x1x4x128x128 ![0, 1, 2, 3, 4] bcast_S1x1x4x128x1_S1x1x4x128x128_0_1_2_3_4 : Un F S1x1x4x128x1 S1x1x4x128x128),
    binary main_v843 main_v839 main_v844 (mulf : Bin F S1x1x4x128x128),
    binary main_v428 main_v844 main_v845 (addf : Bin F S1x1x4x128x128),
    binary main_v839 main_v223 main_v846 (mulf : Bin F S1x1x4x128x128),
    nullary main_cst_76 (constant S_ .f32 0x00000000#32),
    binary main_v846 main_cst_76 main_v847 ((fun x v => Host.reduceAdd x v reducesTo_S1x1x4x128x128_S1x1x4x128_d4 h_S_) : Arr F S1x1x4x128x128 .f32 → Un F S_ S1x1x4x128),
    reshape main_v847 main_v848 (rfl : (.f32 : EltTy) = .f32) shapeCasts_S1x1x4x128_S1x1x4x128x1,
    unary main_v89 main_v849 (broadcastInDim S1x1x4x128x128 ![0, 1, 2, 3, 4] bcast_S1x1x4x128x1_S1x1x4x128x128_0_1_2_3_4 : Un F S1x1x4x128x1 S1x1x4x128x128),
    binary main_v849 main_v845 main_v850 (mulf : Bin F S1x1x4x128x128),
    binary main_v427 main_v850 main_v851 (addf : Bin F S1x1x4x128x128),
    binary main_v845 main_v220 main_v852 (mulf : Bin F S1x1x4x128x128),
    nullary main_cst_77 (constant S_ .f32 0x00000000#32),
    binary main_v852 main_cst_77 main_v853 ((fun x v => Host.reduceAdd x v reducesTo_S1x1x4x128x128_S1x1x4x128_d4 h_S_) : Arr F S1x1x4x128x128 .f32 → Un F S_ S1x1x4x128),
    reshape main_v853 main_v854 (rfl : (.f32 : EltTy) = .f32) shapeCasts_S1x1x4x128_S1x1x4x128x1,
    unary main_v88 main_v855 (broadcastInDim S1x1x4x128x128 ![0, 1, 2, 3, 4] bcast_S1x1x4x128x1_S1x1x4x128x128_0_1_2_3_4 : Un F S1x1x4x128x1 S1x1x4x128x128),
    binary main_v855 main_v851 main_v856 (mulf : Bin F S1x1x4x128x128),
    binary main_v426 main_v856 main_v857 (addf : Bin F S1x1x4x128x128),
    binary main_v851 main_v217 main_v858 (mulf : Bin F S1x1x4x128x128),
    nullary main_cst_78 (constant S_ .f32 0x00000000#32),
    binary main_v858 main_cst_78 main_v859 ((fun x v => Host.reduceAdd x v reducesTo_S1x1x4x128x128_S1x1x4x128_d4 h_S_) : Arr F S1x1x4x128x128 .f32 → Un F S_ S1x1x4x128),
    reshape main_v859 main_v860 (rfl : (.f32 : EltTy) = .f32) shapeCasts_S1x1x4x128_S1x1x4x128x1,
    binary main_v857 main_v85 main_v861 (mulf : Bin F S1x1x4x128x128),
    nullary main_cst_79 (constant S_ .f32 0x00000000#32),
    binary main_v861 main_cst_79 main_v862 ((fun x v => Host.reduceAdd x v reducesTo_S1x1x4x128x128_S1x1x4x128_d4 h_S_) : Arr F S1x1x4x128x128 .f32 → Un F S_ S1x1x4x128),
    reshape main_v862 main_v863 (rfl : (.f32 : EltTy) = .f32) shapeCasts_S1x1x4x128_S1x1x4x128x1,
    nullary main_cst_80 (constant S_ .f32 0x00000000#32),
    unary main_cst_80 main_v864 (broadcastInDim S1x1x4x128x128 ![] bcast_S_S1x1x4x128x128 : Un F S_ S1x1x4x128x128),
    nary ![main_v857, main_v851, main_v845, main_v839, main_v833, main_v827, main_v821, main_v815, main_v809, main_v803, main_v797, main_v791, main_v785, main_v779, main_v773, main_v767] main_v865 (fun u => fn_main_v865 (F := F) (u 0) (u 1) (u 2) (u 3) (u 4) (u 5) (u 6) (u 7) (u 8) (u 9) (u 10) (u 11) (u 12) (u 13) (u 14) (u 15)),
    nary ![main_v761, main_v755, main_v749, main_v743, main_v737, main_v731, main_v725, main_v719, main_v713, main_v707, main_v701, main_v695, main_v689, main_v683, main_v677, main_v671] main_v866 (fun u => fn_main_v866 (F := F) (u 0) (u 1) (u 2) (u 3) (u 4) (u 5) (u 6) (u 7) (u 8) (u 9) (u 10) (u 11) (u 12) (u 13) (u 14) (u 15)),
    nary ![main_v665, main_v659, main_v653, main_v647, main_v641, main_v635, main_v629, main_v623, main_v617, main_v611, main_v605, main_v599, main_v593, main_v587, main_v581, main_v575] main_v867 (fun u => fn_main_v867 (F := F) (u 0) (u 1) (u 2) (u 3) (u 4) (u 5) (u 6) (u 7) (u 8) (u 9) (u 10) (u 11) (u 12) (u 13) (u 14) (u 15)),
    nary ![main_v569, main_v563, main_v557, main_v551, main_v545, main_v539, main_v533, main_v527, main_v521, main_v515, main_v509, main_v503, main_v497, main_v491, main_v488, main_v864] main_v868 (fun u => fn_main_v868 (F := F) (u 0) (u 1) (u 2) (u 3) (u 4) (u 5) (u 6) (u 7) (u 8) (u 9) (u 10) (u 11) (u 12) (u 13) (u 14) (u 15)),
    nary ![main_v865, main_v866, main_v867, main_v868] main_v869 (fun u => fn_main_v869 (F := F) (u 0) (u 1) (u 2) (u 3)),
    nullary main_cst_81 (constant S_ .f32 0x00000000#32),
    unary main_cst_81 main_v870 (broadcastInDim S1x1x4x128x1 ![] bcast_S_S1x1x4x128x1 : Un F S_ S1x1x4x128x1),
    nary ![main_v863, main_v860, main_v854, main_v848, main_v842, main_v836, main_v830, main_v824, main_v818, main_v812, main_v806, main_v800, main_v794, main_v788, main_v782, main_v776] main_v871 (fun u => fn_main_v871 (F := F) (u 0) (u 1) (u 2) (u 3) (u 4) (u 5) (u 6) (u 7) (u 8) (u 9) (u 10) (u 11) (u 12) (u 13) (u 14) (u 15)),
    nary ![main_v770, main_v764, main_v758, main_v752, main_v746, main_v740, main_v734, main_v728, main_v722, main_v716, main_v710, main_v704, main_v698, main_v692, main_v686, main_v680] main_v872 (fun u => fn_main_v872 (F := F) (u 0) (u 1) (u 2) (u 3) (u 4) (u 5) (u 6) (u 7) (u 8) (u 9) (u 10) (u 11) (u 12) (u 13) (u 14) (u 15)),
    nary ![main_v674, main_v668, main_v662, main_v656, main_v650, main_v644, main_v638, main_v632, main_v626, main_v620, main_v614, main_v608, main_v602, main_v596, main_v590, main_v584] main_v873 (fun u => fn_main_v873 (F := F) (u 0) (u 1) (u 2) (u 3) (u 4) (u 5) (u 6) (u 7) (u 8) (u 9) (u 10) (u 11) (u 12) (u 13) (u 14) (u 15)),
    nary ![main_v578, main_v572, main_v566, main_v560, main_v554, main_v548, main_v542, main_v536, main_v530, main_v524, main_v518, main_v512, main_v506, main_v500, main_v494, main_v870] main_v874 (fun u => fn_main_v874 (F := F) (u 0) (u 1) (u 2) (u 3) (u 4) (u 5) (u 6) (u 7) (u 8) (u 9) (u 10) (u 11) (u 12) (u 13) (u 14) (u 15)),
    nary ![main_v871, main_v872, main_v873, main_v874] main_v875 (fun u => fn_main_v875 (F := F) (u 0) (u 1) (u 2) (u 3)) ]

/-- @main's operations 990 … 1019 of 1091 (window `main_part16`). -/
abbrev ops_part16_0 : List (HloOp τ sig (Elt F)) :=
  [ nullary main_cst_82 (constant S_ .f32 0x00000000#32),
    binary main_v875 main_cst_82 main_v876 ((fun x v => Host.reduceAdd x v reducesTo_S1x64x4x128x1_S64x4x128_d0_4 h_S_) : Arr F S1x64x4x128x1 .f32 → Un F S_ S64x4x128),
    unary main_v876 main_v877 (broadcastInDim S1x64x4x128 ![1, 2, 3] bcast_S64x4x128_S1x64x4x128_1_2_3 : Un F S64x4x128 S1x64x4x128),
    binary main_v877 main_v84 main_v878 (mulf : Bin F S1x64x4x128),
    binary main_v869 main_v82 main_v879 ((fun l r => Host.dotGeneral dot_S1x64x4x128x128_S1x64x64x4x128_S1x64x4x128x64_3_4_4_2_012_013 none l r) : Arr F S1x64x4x128x128 .f32 → Un F S1x64x64x4x128 S1x64x4x128x64),
    unary main_v879 main_v880 ((transpose S1x64x64x4x128 [0, 1, 4, 2, 3] · transposes_S1x64x4x128x64_S1x64x64x4x128_0_1_4_2_3) : Un F S1x64x4x128x64 S1x64x64x4x128),
    binary main_v869 main_v63 main_v881 ((fun l r => Host.dotGeneral dot_S1x64x4x128x128_S1x64x64x4x128_S1x64x4x128x64_4_4_3_2_012_013 none l r) : Arr F S1x64x4x128x128 .f32 → Un F S1x64x64x4x128 S1x64x4x128x64),
    unary main_v881 main_v882 ((transpose S1x64x64x4x128 [0, 1, 4, 2, 3] · transposes_S1x64x4x128x64_S1x64x64x4x128_0_1_4_2_3) : Un F S1x64x4x128x64 S1x64x64x4x128),
    binary main_v61 main_v882 main_v883 (mulf : Bin F S1x64x64x4x128),
    binary main_v882 main_v81 main_v884 (mulf : Bin F S1x64x64x4x128),
    binary main_v883 main_v81 main_v885 (mulf : Bin F S1x64x64x4x128),
    nullary main_cst_83 (constant S_ .f32 0x00000000#32),
    binary main_v885 main_cst_83 main_v886 ((fun x v => Host.reduceAdd x v reducesTo_S1x64x64x4x128_S1x64x4x128_d2 h_S_) : Arr F S1x64x64x4x128 .f32 → Un F S_ S1x64x4x128),
    reshape main_v886 main_v887 (rfl : (.f32 : EltTy) = .f32) shapeCasts_S1x64x4x128_S1x64x1x4x128,
    unary main_v885 main_v888 (Host.negf : Un F S1x64x64x4x128 S1x64x64x4x128),
    nullary main_cst_84 (constant S_ .f32 0x00000000#32),
    binary main_v887 main_cst_84 main_v889 ((fun x v => Host.reduceAdd x v reducesTo_S1x64x1x4x128_S64x4x128_d0_2 h_S_) : Arr F S1x64x1x4x128 .f32 → Un F S_ S64x4x128),
    unary main_v889 main_v890 (broadcastInDim S1x64x4x128 ![1, 2, 3] bcast_S64x4x128_S1x64x4x128_1_2_3 : Un F S64x4x128 S1x64x4x128),
    binary main_v878 main_v890 main_v891 (addf : Bin F S1x64x4x128),
    unary main_v891 main_v892 (broadcastInDim S1x64x1x4x128 ![0, 1, 3, 4] bcast_S1x64x4x128_S1x64x1x4x128_0_1_3_4 : Un F S1x64x4x128 S1x64x1x4x128),
    nullary main_cst_85 (constant S_ .f32 0x00000000#32),
    binary main_v892 main_cst_85 main_v893 ((fun x v => pad S1x64x64x4x128 ![0, 0, 63, 0, 0] ![0, 0, 0, 0, 0] ![0, 0, 0, 0, 0] x v pads_S1x64x1x4x128_S1x64x64x4x128_000_000_6300_000_000 h_S_) : Arr F S1x64x1x4x128 .f32 → Un F S_ S1x64x64x4x128),
    binary main_v888 main_v893 main_v894 (addf : Bin F S1x64x64x4x128),
    unary main_v419 main_v895 ((transpose S1x64x4x128x64 [0, 1, 3, 4, 2] · transposes_S1x64x64x4x128_S1x64x4x128x64_0_1_3_4_2) : Un F S1x64x64x4x128 S1x64x4x128x64),
    binary main_v895 main_v63 main_v896 ((fun l r => Host.dotGeneral dot_S1x64x4x128x64_S1x64x64x4x128_S1x64x4x64x64_3_4_4_2_012_013 none l r) : Arr F S1x64x4x128x64 .f32 → Un F S1x64x64x4x128 S1x64x4x64x64),
    binary main_v895 main_v73_0 main_v897 ((fun l r => Host.dotGeneral dot_S1x64x4x128x64_S1x64x4x64x64_S1x64x4x128x64_4_3_3_4_012_012 none l r) : Arr F S1x64x4x128x64 .f32 → Un F S1x64x4x64x64 S1x64x4x128x64),
    unary main_v897 main_v898 ((transpose S1x64x64x4x128 [0, 1, 4, 2, 3] · transposes_S1x64x4x128x64_S1x64x64x4x128_0_1_4_2_3) : Un F S1x64x4x128x64 S1x64x64x4x128),
    binary main_v880 main_v898 main_v899 (addf : Bin F S1x64x64x4x128),
    TRef.nullary (TRef.of (T := ⟨S_, .f32⟩) main_call5_cst) (constant S_ .f32 0x00000000#32),
    TRef.unary (TRef.of (T := ⟨S_, .f32⟩) main_call5_cst) (TRef.of (T := ⟨S1x64x4x64x64, .f32⟩) main_call5_v0) (broadcastInDim S1x64x4x64x64 ![] bcast_S_S1x64x4x64x64) ]

/-- @main's operations 1020 … 1049 of 1091 (window `main_part16`). -/
abbrev ops_part16_1 : List (HloOp τ sig (Elt F)) :=
  [ TRef.ternary (TRef.of (T := ⟨S1x64x4x64x64, .i1⟩) main_v73_1) (TRef.of (T := ⟨S1x64x4x64x64, .f32⟩) main_v896) (TRef.of (T := ⟨S1x64x4x64x64, .f32⟩) main_call5_v0) (TRef.of (T := ⟨S1x64x4x64x64, .f32⟩) main_v900) select,
    binary main_v900 main_v66 main_v901 ((fun l r => Host.dotGeneral dot_S1x64x4x64x64_S1x64x64x4x128_S1x64x4x64x128_3_2_4_4_012_013 none l r) : Arr F S1x64x4x64x64 .f32 → Un F S1x64x64x4x128 S1x64x4x64x128),
    unary main_v901 main_v902 ((transpose S1x64x64x4x128 [0, 1, 3, 2, 4] · transposes_S1x64x4x64x128_S1x64x64x4x128_0_1_3_2_4) : Un F S1x64x4x64x128 S1x64x64x4x128),
    binary main_v900 main_v69 main_v903 ((fun l r => Host.dotGeneral dot_S1x64x4x64x64_S1x64x64x4x128_S1x64x4x64x128_4_2_3_4_012_013 none l r) : Arr F S1x64x4x64x64 .f32 → Un F S1x64x64x4x128 S1x64x4x64x128),
    unary main_v903 main_v904 ((transpose S1x64x64x4x128 [0, 1, 3, 2, 4] · transposes_S1x64x4x64x128_S1x64x64x4x128_0_1_3_2_4) : Un F S1x64x4x64x128 S1x64x64x4x128),
    binary main_v422 main_v904 main_v905 (addf : Bin F S1x64x64x4x128),
    binary main_v61 main_v902 main_v906 (mulf : Bin F S1x64x64x4x128),
    binary main_v902 main_v68 main_v907 (mulf : Bin F S1x64x64x4x128),
    binary main_v884 main_v907 main_v908 (addf : Bin F S1x64x64x4x128),
    binary main_v906 main_v68 main_v909 (mulf : Bin F S1x64x64x4x128),
    unary main_v909 main_v910 (Host.negf : Un F S1x64x64x4x128 S1x64x64x4x128),
    binary main_v894 main_v910 main_v911 (addf : Bin F S1x64x64x4x128),
    binary main_v60 main_v905 main_v912 (mulf : Bin F S1x64x64x4x128),
    binary main_v905 main_v65 main_v913 (mulf : Bin F S1x64x64x4x128),
    binary main_v912 main_v65 main_v914 (mulf : Bin F S1x64x64x4x128),
    binary main_v911 main_v914 main_v915 (addf : Bin F S1x64x64x4x128),
    TRef.nullary (TRef.of (T := ⟨S_, .f32⟩) main_call6_call0_cst) (constant S_ .f32 0x00000000#32),
    TRef.unary (TRef.of (T := ⟨S_, .f32⟩) main_call6_call0_cst) (TRef.of (T := ⟨S_, .f32⟩) main_call6_call0_v0) (broadcastInDim S_ ![] bcast_S_S_),
    TRef.binary (TRef.of (T := ⟨S1x64x64x4x128, .f32⟩) main_v915) (TRef.of (T := ⟨S_, .f32⟩) main_call6_call0_v0) (TRef.of (T := ⟨S1x64x64x4x128, .f32⟩) main_v916) (fun x v => Host.reduceWindowAdd ![1, 1, 64, 1, 1] ![1, 1, 1, 1, 1] ![0, 0, 0, 0, 0] ![0, 0, 63, 0, 0] x v reduceWindows_S1x64x64x4x128_S1x64x64x4x128_w1s1p0_0_w1s1p0_0_w64s1p0_63_w1s1p0_0_w1s1p0_0 h_S_),
    reshape main_v899 main_v917 (rfl : (.f32 : EltTy) = .f32) shapeCasts_S1x64x64x4x128_S1x4096x4x128,
    reshape main_v916 main_v918 (rfl : (.f32 : EltTy) = .f32) shapeCasts_S1x64x64x4x128_S1x4096x4x128,
    reshape main_v908 main_v919 (rfl : (.f32 : EltTy) = .f32) shapeCasts_S1x64x64x4x128_S1x4096x4x128,
    reshape main_v913 main_v920 (rfl : (.f32 : EltTy) = .f32) shapeCasts_S1x64x64x4x128_S1x4096x4x128,
    binary main_v918 main_v56 main_v921 (Host.divf : Bin F S1x4096x4x128),
    unary main_v919 main_v922 (Host.negf : Un F S1x4096x4x128 S1x4096x4x128),
    binary main_v921 main_v922 main_v923 (addf : Bin F S1x4096x4x128),
    nullary main_cst_86 (constant S_ .f32 0x00000000#32),
    binary main_v923 main_cst_86 main_v924 ((fun x v => Host.reduceAdd x v reducesTo_S1x4096x4x128_S1x4x128_d1 h_S_) : Arr F S1x4096x4x128 .f32 → Un F S_ S1x4x128),
    reshape main_v924 main_v925 (rfl : (.f32 : EltTy) = .f32) shapeCasts_S1x4x128_S1x1x4x128,
    nullary main_cst_87 (constant S_ .f32 0x00000000#32) ]

/-- @main's operations 1050 … 1053 of 1091 (window `main_part16`). -/
abbrev ops_part16_2 : List (HloOp τ sig (Elt F)) :=
  [ binary main_v925 main_cst_87 main_v926 ((fun x v => Host.reduceAdd x v reducesTo_S1x1x4x128_S4x128_d0_1 h_S_) : Arr F S1x1x4x128 .f32 → Un F S_ S4x128),
    unary main_v51 main_v927 (broadcastInDim S1x4096x4x128 ![0, 1, 2, 3] bcast_S1x1x4x128_S1x4096x4x128_0_1_2_3 : Un F S1x1x4x128 S1x4096x4x128),
    binary main_v927 main_v923 main_v928 (mulf : Bin F S1x4096x4x128),
    binary main_v923 main_v47 main_v929 (mulf : Bin F S1x4096x4x128) ]

/-- Window `main_part16`'s operations. -/
def ops_part16 : List (HloOp τ sig (Elt F)) :=
  ops_part16_0 ++ (ops_part16_1 ++ (ops_part16_2))

/-- @main's operations 1054 … 1091 of 1091 (window `main_part17`). -/
abbrev ops_part17 : List (HloOp τ sig (Elt F)) :=
  [ nullary main_cst_88 (constant S_ .f32 0x00000000#32),
    binary main_v929 main_cst_88 main_v930 ((fun x v => Host.reduceAdd x v reducesTo_S1x4096x4x128_S1x4x128_d1 h_S_) : Arr F S1x4096x4x128 .f32 → Un F S_ S1x4x128),
    reshape main_v930 main_v931 (rfl : (.f32 : EltTy) = .f32) shapeCasts_S1x4x128_S1x1x4x128,
    nullary main_cst_89 (constant S_ .f32 0x00000000#32),
    binary main_v931 main_cst_89 main_v932 ((fun x v => Host.reduceAdd x v reducesTo_S1x1x4x128_S4x128_d0_1 h_S_) : Arr F S1x1x4x128 .f32 → Un F S_ S4x128),
    binary main_v928 main_v50 main_v933 (mulf : Bin F S1x4096x4x128),
    unary main_v932 main_v934 (Host.negf : Un F S4x128 S4x128),
    binary main_v926 main_v934 main_v935 (addf : Bin F S4x128),
    TRef.binary (TRef.of (T := ⟨S1x4096x4x128, .f32⟩) main_v36) (TRef.of (T := ⟨S1x4096x4x128, .f32⟩) main_v920) (TRef.of (T := ⟨S1x4096x4x128, .f32⟩) main_call7_v0) mulf,
    TRef.binary (TRef.of (T := ⟨S1x4096x4x128, .f32⟩) main_v920) (TRef.of (T := ⟨S1x4096x4x128, .f32⟩) main_v39_2) (TRef.of (T := ⟨S1x4096x4x128, .f32⟩) main_call7_v1) mulf,
    TRef.binary (TRef.of (T := ⟨S1x4096x4x128, .f32⟩) main_call7_v0) (TRef.of (T := ⟨S1x4096x4x128, .f32⟩) main_v39_1) (TRef.of (T := ⟨S1x4096x4x128, .f32⟩) main_call7_v2) mulf,
    TRef.binary (TRef.of (T := ⟨S1x4096x4x128, .f32⟩) main_call7_v1) (TRef.of (T := ⟨S1x4096x4x128, .f32⟩) main_call7_v2) (TRef.of (T := ⟨S1x4096x4x128, .f32⟩) main_v936) addf,
    reshape main_v917 main_v937 (rfl : (.f32 : EltTy) = .f32) shapeCasts_S1x4096x4x128_S4096x512,
    reshape main_v933 main_v938 (rfl : (.f32 : EltTy) = .f32) shapeCasts_S1x4096x4x128_S4096x512,
    reshape main_v936 main_v939 (rfl : (.f32 : EltTy) = .f32) shapeCasts_S1x4096x4x128_S4096x512,
    reshape main_v935 main_v940 (rfl : (.f32 : EltTy) = .f32) shapeCasts_S4x128_S512,
    unary main_v940 main_v941 (broadcastInDim S1x512 ![1] bcast_S512_S1x512_1 : Un F S512 S1x512),
    nullary main_cst_90 (constant S_ .f32 0x00000000#32),
    binary main_v941 main_cst_90 main_v942 ((fun x v => pad S2x512 ![0, 0] ![1, 0] ![0, 0] x v pads_S1x512_S2x512_010_000 h_S_) : Arr F S1x512 .f32 → Un F S_ S2x512),
    nary ![main_v939, main_v938, main_v937] main_v943 (fun u => fn_main_v943 (F := F) (u 0) (u 1) (u 2)),
    TRef.nullary (TRef.of (T := ⟨S_, .f32⟩) main_call8_call0_cst) (constant S_ .f32 0x00000000#32),
    TRef.unary (TRef.of (T := ⟨S_, .f32⟩) main_call8_call0_cst) (TRef.of (T := ⟨S_, .f32⟩) main_call8_call0_v0) (broadcastInDim S_ ![] bcast_S_S_),
    TRef.binary (TRef.of (T := ⟨S2x512, .f32⟩) main_v942) (TRef.of (T := ⟨S_, .f32⟩) main_call8_call0_v0) (TRef.of (T := ⟨S2x512, .f32⟩) main_v944) (fun x v => Host.reduceWindowAdd ![2, 1] ![1, 1] ![0, 0] ![1, 0] x v reduceWindows_S2x512_S2x512_w2s1p0_1_w1s1p0_0 h_S_),
    unary main_v28 main_v945 (broadcastInDim S2x512 ![0, 1] bcast_S1x512_S2x512_0_1 : Un F S1x512 S2x512),
    binary main_v944 main_v945 main_v946 (mulf : Bin F S2x512),
    binary main_v946 main_v21 main_v947 (mulf : Bin F S2x512),
    nullary main_cst_91 (constant S_ .f32 0x00000000#32),
    binary main_v947 main_cst_91 main_v948 ((fun x v => Host.reduceAdd x v reducesTo_S2x512_S512_d0 h_S_) : Arr F S2x512 .f32 → Un F S_ S512),
    reshape main_v948 main_v949 (rfl : (.f32 : EltTy) = .f32) shapeCasts_S512_S1x512,
    unary main_v949 main_v950 (Host.negf : Un F S1x512 S1x512),
    unary main_v23 main_v951 (broadcastInDim S2x512 ![0, 1] bcast_S1x512_S2x512_0_1 : Un F S1x512 S2x512),
    binary main_v944 main_v951 main_v952 (Host.divf : Bin F S2x512),
    nullary main_cst_92 (constant S_ .f32 0x00000000#32),
    binary main_v950 main_cst_92 main_v953 ((fun x v => Host.reduceAdd x v reducesTo_S1x512_S512_d0 h_S_) : Arr F S1x512 .f32 → Un F S_ S512),
    unary main_v953 main_v954 (broadcastInDim S2x512 ![1] bcast_S512_S2x512_1 : Un F S512 S2x512),
    binary main_v952 main_v954 main_v955 (addf : Bin F S2x512),
    binary main_v955 main_v21 main_v956 (mulf : Bin F S2x512),
    unary main_v943 main_v957 ((truncf .bf16 · bitsLt_bf16_f32) : Arr F S4096x1536 .f32 → Arr F S4096x1536 .bf16) ]

end Cert.ReferenceIdeal.Steps
-- ==== Proof.LineC.lean ====
/- Each window of the reference's operations assigns rising buffers. -/
module

public import proofs.«01_k».proof.Proof.Fix
public import proofs.«01_k».proof.Proof.StepsC

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem line10 : Line 632 (ops_part10 (F := F)) 692 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line11 : Line 692 (ops_part11 (F := F)) 752 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line12 : Line 752 (ops_part12 (F := F)) 812 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line13 : Line 812 (ops_part13 (F := F)) 872 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line14 : Line 872 (ops_part14 (F := F)) 932 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
set_option maxHeartbeats 4000000 in
theorem line15 : Line 932 (ops_part15 (F := F)) 992 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line16_0 : Line 992 (ops_part16_0 (F := F)) 1022 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line16_1 : Line 1022 (ops_part16_1 (F := F)) 1052 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line16_2 : Line 1052 (ops_part16_2 (F := F)) 1056 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

set_option maxRecDepth 8192 in
theorem line17 : Line 1056 (ops_part17 (F := F)) 1094 := by
  repeat' with_reducible first
    | refine .stop ?_
    | refine .cons (step2 _ _ _ _ ?_ ?_ ?_) ?_
    | refine .cons (step1 _ _ _ ?_ ?_) ?_
    | refine .cons (stepR _ _ _ _ ?_ ?_) ?_
    | refine .cons (step0 _ _ ?_) ?_
    | refine .cons (step3 _ _ _ _ _ ?_ ?_ ?_ ?_) ?_
    | refine .cons (stepN _ _ _ _ ?_ ?_) ?_
    | decide

end Cert.ReferenceIdeal.Steps
-- ==== Proof.RefRun.lean ====
/- The reference's run: it ends with the contents its list of operations leaves. -/
module

public import proofs.«01_k».proof.Proof.LineA
public import proofs.«01_k».proof.Proof.LineB
public import proofs.«01_k».proof.Proof.LineC

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17)))))))))))))))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_part7_eq (c : Dev nD) : main_part7 (F := F) c = seq ops_part7 := rfl
set_option maxRecDepth 8192 in
theorem main_part8_eq (c : Dev nD) : main_part8 (F := F) c = seq ops_part8 := rfl
set_option maxRecDepth 8192 in
theorem main_part9_eq (c : Dev nD) : main_part9 (F := F) c = seq ops_part9 := rfl
set_option maxRecDepth 8192 in
theorem main_part10_eq (c : Dev nD) : main_part10 (F := F) c = seq ops_part10 := rfl
set_option maxRecDepth 8192 in
theorem main_part11_eq (c : Dev nD) : main_part11 (F := F) c = seq ops_part11 := rfl
set_option maxRecDepth 8192 in
theorem main_part12_eq (c : Dev nD) : main_part12 (F := F) c = seq ops_part12 := rfl
set_option maxRecDepth 8192 in
theorem main_part13_eq (c : Dev nD) : main_part13 (F := F) c = seq ops_part13 := rfl
set_option maxRecDepth 8192 in
theorem main_part14_eq (c : Dev nD) : main_part14 (F := F) c = seq ops_part14 := rfl
set_option maxRecDepth 8192 in
theorem main_part15_eq (c : Dev nD) : main_part15 (F := F) c = seq ops_part15 := rfl
set_option maxRecDepth 8192 in
set_option maxHeartbeats 4000000 in
theorem main_part16_eq (c : Dev nD) : main_part16 (F := F) c = seq ops_part16 := rfl
set_option maxRecDepth 8192 in
theorem main_part17_eq (c : Dev nD) : main_part17 (F := F) c = seq ops_part17 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c]
  rfl
theorem scopedRefs_eq : (Finset.univ.filter fun b : Ref sig .tc => b.isScoped) = ∅ := by decide
theorem scopedSems_eq : (Finset.univ.filter fun sm : SemLoc sig => sm.isScoped .tc) = ∅ := by decide

theorem lineW0 : Line 3 (ops_part0 (F := F)) 77 := line0_0.append (line0_1.append line0_2)
theorem lineW1 : Line 77 (ops_part1 (F := F)) 152 := line1_0.append (line1_1.append line1_2)
theorem lineW16 : Line 992 (ops_part16 (F := F)) 1056 := line16_0.append (line16_1.append line16_2)

theorem line : Line 3 (ops (F := F)) 1094 :=
  lineW0.append (lineW1.append (line2.append (line3.append (line4.append (line5.append (line6.append (line7.append (line8.append (line9.append (line10.append (line11.append (line12.append (line13.append (line14.append (line15.append (lineW16.append (line17)))))))))))))))))

/-- Every execution ends with each buffer at what the operations leave there. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => line.sub) m ρ fun _ => line.fresh

end Cert.ReferenceIdeal.Steps
-- ==== Proof.RefA.lean ====
/- The reference's forward stages, read at an index. -/
module

public import proofs.«01_k».proof.Proof.RefRun
public import proofs.«01_k».proof.Proof.Window
public import proofs.«01_k».proof.Proof.Scalar

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators

/-- The solved host lines, from real arguments. -/
structure Args₀ (g : Valuation τ sig (Elt Ideal)) (X : Data) : Prop where
  all : Solved g ops
  w0_0 : Solved g ops_part0_0
  w0_1 : Solved g ops_part0_1
  w0_2 : Solved g ops_part0_2
  w1_0 : Solved g ops_part1_0
  w1_1 : Solved g ops_part1_1
  w1_2 : Solved g ops_part1_2
  w2 : Solved g ops_part2
  w3 : Solved g ops_part3
  w4 : Solved g ops_part4
  w5 : Solved g ops_part5
  w6 : Solved g ops_part6
  w7 : Solved g ops_part7
  w8 : Solved g ops_part8
  w9 : Solved g ops_part9
  w10 : Solved g ops_part10
  w11 : Solved g ops_part11
  w12 : Solved g ops_part12
  w13 : Solved g ops_part13
  w14 : Solved g ops_part14
  w15 : Solved g ops_part15
  w16_0 : Solved g ops_part16_0
  w16_1 : Solved g ops_part16_1
  w16_2 : Solved g ops_part16_2
  w17 : Solved g ops_part17
  p : ∀ r l, (g main_arg0 : S4096x2048.Idx → EReal) (ix2 r l) = ((X.P r l : ℝ) : EReal)
  o : ∀ r l, (g main_arg2 : S4096x512.Idx → EReal) (ix2 r l) = ((X.O r l : ℝ) : EReal)
  g : ∀ r l, (g main_arg1 : S2x512.Idx → EReal) (ix2 r l) = ((X.G r l : ℝ) : EReal)

namespace Args₀
variable {g : Valuation τ sig (Elt Ideal)} {X : Data} (A : Args₀ g X)
include A

theorem v0 (r : Fin 4096) (l : Fin 1536) : (g main_v0 : S4096x1536.Idx → EReal) (ix2 r l) = ((X.P r ⟨l.val, by omega⟩ : ℝ) : EReal) := by
  refine (congrFun (A.w0_0.get1 0 rfl) _).trans ?_
  pointwise
  exact A.p r _

theorem v1 (l : Fin 512) : (g main_v1 : S512.Idx → EReal) (ix1 l) = ((max (X.G 0 l) (X.G 1 l) : ℝ) : EReal) := by
  refine (congrFun (A.w0_0.get2 2 rfl) _).trans ?_
  pointwise
  rw [A.w0_0.get0 1 rfl]
  pointwise
  simp only [A.g]
  pointwise
  rw [neg_inf]
  exact fold_two fun x => X.G x l

omit A in
/-- The weights of the softmax before they are divided by their sum, and the sum. -/
def ex (X : Data) (r : Fin 2) (l : Fin 512) : ℝ := Real.exp (X.G r l - max (X.G 0 l) (X.G 1 l))
omit A in
def den (X : Data) (l : Fin 512) : ℝ := ex X 0 l + ex X 1 l
omit A in
theorem den_pos (X : Data) (l : Fin 512) : 0 < den X l := by unfold den ex; positivity

theorem v21 (r : Fin 2) (l : Fin 512) : (g main_v21 : S2x512.Idx → EReal) (ix2 r l) = ((ex X r l : ℝ) : EReal) := by
  refine (congrFun (A.w0_0.get1 29 rfl) _).trans ?_
  pointwise
  rw [A.w0_0.get2 28 rfl, A.w0_0.get1 27 rfl, A.w0_0.get1 26 rfl, A.w0_0.get2 11 rfl, A.w0_0.get1 10 rfl, A.w0_0.get0 9 rfl]
  pointwise
  rw [A.v1, A.g, neg_inf, max_eq_right bot_le, ← EReal.coe_sub, Ideal.exp_coe]
  rfl

theorem v23 (l : Fin 512) : (g main_v23 : S1x512.Idx → EReal) (ix2 0 l) = ((den X l : ℝ) : EReal) := by
  refine (congrFun (A.w0_1.get1 2 rfl) _).trans ?_
  pointwise
  rw [A.w0_1.get2 1 rfl, A.w0_1.get0 0 rfl]
  pointwise
  simp only [A.v21]
  rw [Fin.sum_univ_two, ← EReal.coe_add]
  rfl

theorem v25 (l : Fin 512) : (g main_v25 : S2x512.Idx → EReal) (ix2 0 l) = ((X.lbv l : ℝ) : EReal) := by
  refine (congrFun (A.w0_1.get2 4 rfl) _).trans ?_
  pointwise
  rw [A.w0_1.get1 3 rfl]
  pointwise
  rw [A.v21, A.v23, Ideal.div_coe (den_pos X l).ne', ← EReal.coe_mul, mul_one_div]
  rfl

theorem v28 (l : Fin 512) : (g main_v28 : S1x512.Idx → EReal) (ix2 0 l) = ((1 / (den X l * den X l) : ℝ) : EReal) := by
  refine (congrFun (A.w0_1.get2 8 rfl) _).trans ?_
  pointwise
  rw [A.w0_1.get1 7 rfl, A.w0_1.get0 6 rfl, A.w0_1.get2 5 rfl]
  pointwise
  have h := (mul_pos (den_pos X l) (den_pos X l)).ne'
  rw [A.v23, ← EReal.coe_mul, Ideal.div_coe h, ← EReal.coe_one, ← EReal.coe_mul, one_mul]

theorem v29 (l : Fin 512) : (g main_v29 : S2x512.Idx → EReal) (ix2 0 l) = ((X.lbv l : ℝ) : EReal) := by
  refine (congrFun ((by exact A.w0_1.get2 11 rfl : g main_v29 = ((fun x v => Host.reduceWindowAdd (F := Ideal) (φ := .f32) ![2, 1] ![1, 1] ![1, 0] ![0, 0] x v reduceWindows_S2x512_S2x512_w2s1p1_0_w1s1p0_0 h_S_) : (⟨S2x512, .f32⟩ : BufTy).Contents (Elt Ideal) → (⟨S_, .f32⟩ : BufTy).Contents (Elt Ideal) → (⟨S2x512, .f32⟩ : BufTy).Contents (Elt Ideal)) (g main_v25) (g main_call0_call0_v0))) _).trans ((run_two _ _ _ _ ?_ l).trans (A.v25 l))
  rw [(by exact A.w0_1.get1 10 rfl : g main_call0_call0_v0 = ((broadcastInDim S_ ![] bcast_S_S_) : (⟨S_, .f32⟩ : BufTy).Contents (Elt Ideal) → (⟨S_, .f32⟩ : BufTy).Contents (Elt Ideal)) (g main_call0_call0_cst)), (by exact A.w0_1.get0 9 rfl : g main_call0_call0_cst = ((constant (F := Ideal) S_ .f32 0x00000000#32) : (⟨S_, .f32⟩ : BufTy).Contents (Elt Ideal)) )]
  exact Ideal.ofBits_zero_f32

theorem v35 (h : Fin 4) (k : Fin 128) : (g main_v35 : S4x128.Idx → EReal) (ix2 h k) = ((X.lbv (lane h k) : ℝ) : EReal) := by
  refine (congrFun (A.w0_1.getR 17 rfl) _).trans ?_
  pointwise
  rw [A.w0_1.getR 16 rfl, A.w0_1.get1 15 rfl]
  pointwise
  rw [lane_mk]; exact A.v29 _

theorem v36 (r : Fin 4096) (h : Fin 4) (k : Fin 128) : (g main_v36 : S1x4096x4x128.Idx → EReal) (ix4 0 r h k) = ((X.P r (part 0 (lane h k)) : ℝ) : EReal) := by
  refine (congrFun (A.w0_1.getR 18 rfl) _).trans ?_
  pointwise
  rw [A.w0_1.get1 12 rfl]
  pointwise
  refine (A.v0 r _).trans (congrArg (fun l => ((X.P r l : ℝ) : EReal)) (Fin.ext ?_))
  simp only [part, lane]; fin_omega

theorem v37 (r : Fin 4096) (h : Fin 4) (k : Fin 128) : (g main_v37 : S1x4096x4x128.Idx → EReal) (ix4 0 r h k) = ((X.P r (part 1 (lane h k)) : ℝ) : EReal) := by
  refine (congrFun (A.w0_1.getR 19 rfl) _).trans ?_
  pointwise
  rw [A.w0_1.get1 13 rfl]
  pointwise
  refine (A.v0 r _).trans (congrArg (fun l => ((X.P r l : ℝ) : EReal)) (Fin.ext ?_))
  simp only [part, lane]; fin_omega

theorem v38 (r : Fin 4096) (h : Fin 4) (k : Fin 128) : (g main_v38 : S1x4096x4x128.Idx → EReal) (ix4 0 r h k) = ((X.P r (part 2 (lane h k)) : ℝ) : EReal) := by
  refine (congrFun (A.w0_1.getR 20 rfl) _).trans ?_
  pointwise
  rw [A.w0_1.get1 14 rfl]
  pointwise
  refine (A.v0 r _).trans (congrArg (fun l => ((X.P r l : ℝ) : EReal)) (Fin.ext ?_))
  simp only [part, lane]; fin_omega

theorem v39_2 (n t : Fin 64) (h : Fin 4) (k : Fin 128) : (g main_v39_2 : S1x4096x4x128.Idx → EReal) (ix4 0 (pos n t) h k) = (((X.chunk n h).sq t k : ℝ) : EReal) := by
  refine (congrFun ((by exact A.w0_1.get2 28 rfl : g main_v39_2 = (Host.divf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_call1_v4) (g main_call1_v3))) _).trans ?_
  pointwise
  rw [(by exact A.w0_1.get1 27 rfl : g main_call1_v4 = ((broadcastInDim S1x4096x4x128 ![] bcast_S_S1x4096x4x128) : (⟨S_, .f32⟩ : BufTy).Contents (Elt Ideal) → (⟨S1x4096x4x128, .f32⟩ : BufTy).Contents (Elt Ideal)) (g main_call1_cst_0)), (by exact A.w0_1.get0 26 rfl : g main_call1_cst_0 = ((constant (F := Ideal) S_ .f32 0x3F800000#32) : (⟨S_, .f32⟩ : BufTy).Contents (Elt Ideal)) ), (by exact A.w0_1.get2 25 rfl : g main_call1_v3 = (addf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_call1_v2) (g main_call1_v1)), (by exact A.w0_1.get1 24 rfl : g main_call1_v2 = ((broadcastInDim S1x4096x4x128 ![] bcast_S_S1x4096x4x128) : (⟨S_, .f32⟩ : BufTy).Contents (Elt Ideal) → (⟨S1x4096x4x128, .f32⟩ : BufTy).Contents (Elt Ideal)) (g main_call1_cst)), (by exact A.w0_1.get0 23 rfl : g main_call1_cst = ((constant (F := Ideal) S_ .f32 0x3F800000#32) : (⟨S_, .f32⟩ : BufTy).Contents (Elt Ideal)) ), (by exact A.w0_1.get1 22 rfl : g main_call1_v1 = (Host.exp (F := Ideal) (φ := .f32) : (⟨S1x4096x4x128, .f32⟩ : BufTy).Contents (Elt Ideal) → (⟨S1x4096x4x128, .f32⟩ : BufTy).Contents (Elt Ideal)) (g main_call1_v0)), (by exact A.w0_1.get1 21 rfl : g main_call1_v0 = (Host.negf (F := Ideal) (φ := .f32) : (⟨S1x4096x4x128, .f32⟩ : BufTy).Contents (Elt Ideal) → (⟨S1x4096x4x128, .f32⟩ : BufTy).Contents (Elt Ideal)) (g main_v36))]
  pointwise
  rw [A.v36]
  exact logistic' _

theorem v39_1 (n t : Fin 64) (h : Fin 4) (k : Fin 128) : (g main_v39_1 : S1x4096x4x128.Idx → EReal) (ix4 0 (pos n t) h k) = (((X.chunk n h).sq t k * (1 - (X.chunk n h).sq t k) : ℝ) : EReal) := by
  refine (congrFun ((by exact A.w0_2.get2 2 rfl : g main_v39_1 = (mulf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_v39_2) (g main_call1_v7))) _).trans ?_
  pointwise
  rw [(by exact A.w0_2.get2 1 rfl : g main_call1_v7 = (subf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_call1_v6) (g main_v39_2)), (by exact A.w0_2.get1 0 rfl : g main_call1_v6 = ((broadcastInDim S1x4096x4x128 ![] bcast_S_S1x4096x4x128) : (⟨S_, .f32⟩ : BufTy).Contents (Elt Ideal) → (⟨S1x4096x4x128, .f32⟩ : BufTy).Contents (Elt Ideal)) (g main_call1_cst_1)), (by exact A.w0_1.get0 29 rfl : g main_call1_cst_1 = ((constant (F := Ideal) S_ .f32 0x3F800000#32) : (⟨S_, .f32⟩ : BufTy).Contents (Elt Ideal)) )]
  pointwise
  rw [A.v39_2, one_sub', ← EReal.coe_mul]

theorem v39_0 (n t : Fin 64) (h : Fin 4) (k : Fin 128) : (g main_v39_0 : S1x4096x4x128.Idx → EReal) (ix4 0 (pos n t) h k) = (((X.chunk n h).q t k * (X.chunk n h).sq t k : ℝ) : EReal) := by
  refine (congrFun ((by exact A.w0_2.get2 3 rfl : g main_v39_0 = (mulf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_v36) (g main_v39_2))) _).trans ?_
  pointwise
  rw [A.v36, A.v39_2, ← EReal.coe_mul]
  rfl

theorem v41 (h : Fin 4) (k : Fin 128) : (g main_v41 : S4x128.Idx → EReal) (ix2 h k) = ((1 - X.lbv (lane h k) : ℝ) : EReal) := by
  refine (congrFun (A.w0_2.get2 6 rfl) _).trans ?_
  pointwise
  rw [A.w0_2.get1 5 rfl, A.w0_2.get0 4 rfl]
  pointwise
  rw [A.v35, one_sub']

theorem v47 (n t : Fin 64) (h : Fin 4) (k : Fin 128) : (g main_v47 : S1x4096x4x128.Idx → EReal) (ix4 0 (pos n t) h k) = (((X.chunk n h).sg t k : ℝ) : EReal) := by
  refine (congrFun (A.w1_0.get2 0 rfl) _).trans ?_
  pointwise
  rw [A.w0_2.get1 13 rfl, A.w0_2.get0 12 rfl, A.w0_2.get2 11 rfl, A.w0_2.get1 10 rfl, A.w0_2.get0 9 rfl, A.w0_2.get1 8 rfl, A.w0_2.get1 7 rfl]
  pointwise
  rw [A.v37]
  exact logistic' _

theorem v50 (n t : Fin 64) (h : Fin 4) (k : Fin 128) : (g main_v50 : S1x4096x4x128.Idx → EReal) (ix4 0 (pos n t) h k) = (((X.chunk n h).sg t k * (1 - (X.chunk n h).sg t k) : ℝ) : EReal) := by
  refine (congrFun (A.w1_0.get2 4 rfl) _).trans ?_
  pointwise
  rw [A.w1_0.get2 3 rfl, A.w1_0.get1 2 rfl, A.w1_0.get0 1 rfl]
  pointwise
  rw [A.v47, one_sub', ← EReal.coe_mul]

theorem v51 (h : Fin 4) (k : Fin 128) : (g main_v51 : S1x1x4x128.Idx → EReal) (ix4 0 0 h k) = ((1 - X.lbv (lane h k) : ℝ) : EReal) := by
  refine (congrFun (A.w1_0.get1 5 rfl) _).trans ?_
  pointwise
  rw [A.v41]

theorem v56 (n t : Fin 64) (h : Fin 4) (k : Fin 128) : (g main_v56 : S1x4096x4x128.Idx → EReal) (ix4 0 (pos n t) h k) = (((X.chunk n h).forget t k : ℝ) : EReal) := by
  refine (congrFun (A.w1_0.get2 10 rfl) _).trans ?_
  pointwise
  rw [A.w1_0.get1 9 rfl, A.w1_0.get1 8 rfl, A.w1_0.get2 7 rfl, A.w1_0.get1 6 rfl]
  pointwise
  rw [A.v35, A.v51, A.v47, ← EReal.coe_mul, ← EReal.coe_add]
  rfl

theorem v58 (n t : Fin 64) (h : Fin 4) (k : Fin 128) : (g main_v58 : S1x4096x4x128.Idx → EReal) (ix4 0 (pos n t) h k) = (((X.chunk n h).key t k : ℝ) : EReal) := by
  refine (congrFun (A.w1_0.get2 13 rfl) _).trans ?_
  pointwise
  rw [A.w1_0.get1 12 rfl, A.w1_0.get0 11 rfl]
  pointwise
  rw [A.v56, one_sub']
  rfl

theorem v59 (n t : Fin 64) (h : Fin 4) (k : Fin 128) : (g main_v59 : S1x4096x4x128.Idx → EReal) (ix4 0 (pos n t) h k) = (((X.chunk n h).lf t k : ℝ) : EReal) := by
  refine (congrFun (A.w1_0.get1 14 rfl) _).trans ?_
  pointwise
  rw [A.v56, log_pos' _ (Chunk.forget_pos _ t k (X.proper n h))]
  rfl

theorem v60 (n t : Fin 64) (h : Fin 4) (k : Fin 128) : (g main_v60 : S1x64x64x4x128.Idx → EReal) (ix5 0 n t h k) = (((X.chunk n h).q t k * (X.chunk n h).sq t k : ℝ) : EReal) := by
  refine (congrFun (A.w1_0.getR 15 rfl) _).trans ?_
  pointwise
  rw [pos_mk, A.v39_0]

theorem v61 (n t : Fin 64) (h : Fin 4) (k : Fin 128) : (g main_v61 : S1x64x64x4x128.Idx → EReal) (ix5 0 n t h k) = (((X.chunk n h).key t k : ℝ) : EReal) := by
  refine (congrFun (A.w1_0.getR 16 rfl) _).trans ?_
  pointwise
  rw [pos_mk, A.v58]

theorem v62 (n t : Fin 64) (h : Fin 4) (k : Fin 128) : (g main_v62 : S1x64x64x4x128.Idx → EReal) (ix5 0 n t h k) = (((X.chunk n h).lf t k : ℝ) : EReal) := by
  refine (congrFun (A.w1_0.getR 17 rfl) _).trans ?_
  pointwise
  rw [pos_mk, A.v59]

theorem v63 (n t : Fin 64) (h : Fin 4) (k : Fin 128) : (g main_v63 : S1x64x64x4x128.Idx → EReal) (ix5 0 n t h k) = (((X.chunk n h).i t k : ℝ) : EReal) := by
  refine (congrFun (A.w1_0.getR 18 rfl) _).trans ?_
  pointwise
  rw [pos_mk, A.v38]
  rfl

theorem v64 (n t : Fin 64) (h : Fin 4) (k : Fin 128) : (g main_v64 : S1x64x64x4x128.Idx → EReal) (ix5 0 n t h k) = (((X.chunk n h).b t k : ℝ) : EReal) := by
  refine (congrFun ((by exact A.w1_0.get2 21 rfl : g main_v64 = ((fun x v => Host.reduceWindowAdd (F := Ideal) (φ := .f32) ![1, 1, 64, 1, 1] ![1, 1, 1, 1, 1] ![0, 0, 63, 0, 0] ![0, 0, 0, 0, 0] x v reduceWindows_S1x64x64x4x128_S1x64x64x4x128_w1s1p0_0_w1s1p0_0_w64s1p63_0_w1s1p0_0_w1s1p0_0 h_S_) : (⟨S1x64x64x4x128, .f32⟩ : BufTy).Contents (Elt Ideal) → (⟨S_, .f32⟩ : BufTy).Contents (Elt Ideal) → (⟨S1x64x64x4x128, .f32⟩ : BufTy).Contents (Elt Ideal)) (g main_v62) (g main_call2_call0_v0))) _).trans ((run_sum _ _ _ _ ?_ n t h k).trans ?_)
  · rw [(by exact A.w1_0.get1 20 rfl : g main_call2_call0_v0 = ((broadcastInDim S_ ![] bcast_S_S_) : (⟨S_, .f32⟩ : BufTy).Contents (Elt Ideal) → (⟨S_, .f32⟩ : BufTy).Contents (Elt Ideal)) (g main_call2_call0_cst)), (by exact A.w1_0.get0 19 rfl : g main_call2_call0_cst = ((constant (F := Ideal) S_ .f32 0x00000000#32) : (⟨S_, .f32⟩ : BufTy).Contents (Elt Ideal)) )]
    exact Ideal.ofBits_zero_f32
  · rw [Chunk.b, coe_total]
    refine Finset.sum_congr rfl fun s _ => ?_
    rw [apply_ite (fun x : ℝ => (x : EReal)), ← A.v62, EReal.coe_zero]

theorem v65 (n t : Fin 64) (h : Fin 4) (k : Fin 128) : (g main_v65 : S1x64x64x4x128.Idx → EReal) (ix5 0 n t h k) = (((X.chunk n h).eb t k : ℝ) : EReal) := by
  refine (congrFun (A.w1_0.get1 22 rfl) _).trans ?_
  pointwise
  rw [A.v64, Ideal.exp_coe]
  rfl

theorem v66 (n t : Fin 64) (h : Fin 4) (k : Fin 128) : (g main_v66 : S1x64x64x4x128.Idx → EReal) (ix5 0 n t h k) = (((X.chunk n h).qd t k : ℝ) : EReal) := by
  refine (congrFun (A.w1_0.get2 23 rfl) _).trans ?_
  pointwise
  rw [A.v60, A.v65, ← EReal.coe_mul]
  rfl

theorem v68 (n t : Fin 64) (h : Fin 4) (k : Fin 128) : (g main_v68 : S1x64x64x4x128.Idx → EReal) (ix5 0 n t h k) = (((X.chunk n h).emb t k : ℝ) : EReal) := by
  refine (congrFun (A.w1_0.get1 25 rfl) _).trans ?_
  pointwise
  rw [A.w1_0.get1 24 rfl]
  pointwise
  rw [A.v64, ← EReal.coe_neg, Ideal.exp_coe]
  rfl

theorem v69 (n t : Fin 64) (h : Fin 4) (k : Fin 128) : (g main_v69 : S1x64x64x4x128.Idx → EReal) (ix5 0 n t h k) = (((X.chunk n h).ki t k : ℝ) : EReal) := by
  refine (congrFun (A.w1_0.get2 26 rfl) _).trans ?_
  pointwise
  rw [A.v61, A.v68, ← EReal.coe_mul]
  rfl

theorem v70 (n s t : Fin 64) (h : Fin 4) : (g main_v70 : S1x64x4x64x64.Idx → EReal) (ix5 0 n h t s) = ((∑ k, (X.chunk n h).qd t k * (X.chunk n h).ki s k : ℝ) : EReal) := by
  refine (congrFun (A.w1_0.get2 27 rfl) _).trans ?_
  pointwise
  simp only [A.v66, A.v69, ← EReal.coe_mul, ← coe_total]

theorem v72 (s t : Fin 64) : (g main_v72 : S64x64.Idx → BitVec 1) (ix2 t s) = (if s ≤ t then 1 else 0 : BitVec 1) := by
  refine (congrFun ((by exact A.w1_1.get3 8 rfl : g main_v72 = (select : (⟨S64x64, .i1⟩ : BufTy).Contents (Elt Ideal) → (⟨S64x64, .i1⟩ : BufTy).Contents (Elt Ideal) → (⟨S64x64, .i1⟩ : BufTy).Contents (Elt Ideal) → (⟨S64x64, .i1⟩ : BufTy).Contents (Elt Ideal)) (g main_call3_v4) (g main_v71) (g main_call3_v5))) _).trans ?_
  pointwise
  rw [(by exact A.w1_1.get2 5 rfl : g main_call3_v4 = ((cmpi .sge) : (⟨S64x64, .i32⟩ : BufTy).Contents (Elt Ideal) → (⟨S64x64, .i32⟩ : BufTy).Contents (Elt Ideal) → (⟨S64x64, .i1⟩ : BufTy).Contents (Elt Ideal)) (g main_call3_v2) (g main_call3_v3)), (by exact A.w1_1.get0 4 rfl : g main_call3_v3 = ((iotaInDim S64x64 32 1) : (⟨S64x64, .i32⟩ : BufTy).Contents (Elt Ideal)) ), (by exact A.w1_1.get2 3 rfl : g main_call3_v2 = (addi : (⟨S64x64, .i32⟩ : BufTy).Contents (Elt Ideal) → (⟨S64x64, .i32⟩ : BufTy).Contents (Elt Ideal) → (⟨S64x64, .i32⟩ : BufTy).Contents (Elt Ideal)) (g main_call3_v0) (g main_call3_v1)), (by exact A.w1_1.get1 2 rfl : g main_call3_v1 = ((broadcastInDim S64x64 ![] bcast_S_S64x64) : (⟨S_, .i32⟩ : BufTy).Contents (Elt Ideal) → (⟨S64x64, .i32⟩ : BufTy).Contents (Elt Ideal)) (g main_call3_c)), (by exact A.w1_1.get0 1 rfl : g main_call3_c = ((constantI S_ 32 0#32) : (⟨S_, .i32⟩ : BufTy).Contents (Elt Ideal)) ), (by exact A.w1_1.get0 0 rfl : g main_call3_v0 = ((iotaInDim S64x64 32 0) : (⟨S64x64, .i32⟩ : BufTy).Contents (Elt Ideal)) ), A.w1_0.get1 29 rfl, A.w1_0.get0 28 rfl, (by exact A.w1_1.get1 7 rfl : g main_call3_v5 = ((broadcastInDim S64x64 ![] bcast_S_S64x64) : (⟨S_, .i1⟩ : BufTy).Contents (Elt Ideal) → (⟨S64x64, .i1⟩ : BufTy).Contents (Elt Ideal)) (g main_call3_c_0)), (by exact A.w1_1.get0 6 rfl : g main_call3_c_0 = ((constantI S_ 1 0#1) : (⟨S_, .i1⟩ : BufTy).Contents (Elt Ideal)) )]
  pointwise
  revert s t
  decide +kernel

theorem v73_1 (n s t : Fin 64) (h : Fin 4) : (g main_v73_1 : S1x64x4x64x64.Idx → BitVec 1) (ix5 0 n h t s) = (if s ≤ t then 1 else 0 : BitVec 1) := by
  refine (congrFun ((by exact A.w1_1.get1 11 rfl : g main_v73_1 = ((broadcastInDim S1x64x4x64x64 ![3, 4] bcast_S64x64_S1x64x4x64x64_3_4) : (⟨S64x64, .i1⟩ : BufTy).Contents (Elt Ideal) → (⟨S1x64x4x64x64, .i1⟩ : BufTy).Contents (Elt Ideal)) (g main_v72))) _).trans ?_
  pointwise
  exact A.v72 s t

theorem v73_0 (n s t : Fin 64) (h : Fin 4) : (g main_v73_0 : S1x64x4x64x64.Idx → EReal) (ix5 0 n h t s) = (((X.chunk n h).a s t : ℝ) : EReal) := by
  refine (congrFun ((by exact A.w1_1.get3 13 rfl : g main_v73_0 = (select : (⟨S1x64x4x64x64, .i1⟩ : BufTy).Contents (Elt Ideal) → (⟨S1x64x4x64x64, .f32⟩ : BufTy).Contents (Elt Ideal) → (⟨S1x64x4x64x64, .f32⟩ : BufTy).Contents (Elt Ideal) → (⟨S1x64x4x64x64, .f32⟩ : BufTy).Contents (Elt Ideal)) (g main_v73_1) (g main_v70) (g main_call4_v2))) _).trans ?_
  pointwise
  rw [(by exact A.w1_1.get1 12 rfl : g main_call4_v2 = ((broadcastInDim S1x64x4x64x64 ![] bcast_S_S1x64x4x64x64) : (⟨S_, .f32⟩ : BufTy).Contents (Elt Ideal) → (⟨S1x64x4x64x64, .f32⟩ : BufTy).Contents (Elt Ideal)) (g main_call4_v0)), (by exact A.w1_1.get1 10 rfl : g main_call4_v0 = (id : (⟨S_, .f32⟩ : BufTy).Contents (Elt Ideal) → (⟨S_, .f32⟩ : BufTy).Contents (Elt Ideal)) (g main_cst_14)), A.w1_1.get0 9 rfl]
  pointwise
  rw [A.v73_1, A.v70]
  unfold Scalar.select Chunk.a
  by_cases hs : s ≤ t
  · simp [hs]
  · simp only [hs, if_false]
    exact Ideal.ofBits_zero_f32

theorem v77 (n : Fin 64) (h : Fin 4) (k : Fin 128) : (g main_v77 : S1x64x4x128.Idx → EReal) (ix4 0 n h k) = (((X.chunk n h).bend k : ℝ) : EReal) := by
  refine (congrFun (A.w1_1.getR 19 rfl) _).trans ?_
  pointwise
  rw [A.w1_1.get1 18 rfl]
  pointwise
  rw [← Chunk.b_last]; exact A.v64 n 63 h k

theorem v81 (n t : Fin 64) (h : Fin 4) (k : Fin 128) : (g main_v81 : S1x64x64x4x128.Idx → EReal) (ix5 0 n t h k) = (((X.chunk n h).eend t k : ℝ) : EReal) := by
  refine (congrFun (A.w1_1.get1 23 rfl) _).trans ?_
  pointwise
  rw [A.w1_1.get2 22 rfl, A.w1_1.get1 21 rfl, A.w1_1.get1 20 rfl]
  pointwise
  rw [A.v77, A.v64, ← EReal.coe_sub, Ideal.exp_coe]
  rfl

theorem v82 (n t : Fin 64) (h : Fin 4) (k : Fin 128) : (g main_v82 : S1x64x64x4x128.Idx → EReal) (ix5 0 n t h k) = (((X.chunk n h).ke t k : ℝ) : EReal) := by
  refine (congrFun (A.w1_1.get2 24 rfl) _).trans ?_
  pointwise
  rw [A.v61, A.v81, ← EReal.coe_mul]
  rfl

omit A in
/-- The factors and the summands of the recurrence of the states. -/
noncomputable def decs (g : Valuation τ sig (Elt Ideal)) : S1x64x4x128x1.Idx → EReal := g main_v86
omit A in
noncomputable def incs (g : Valuation τ sig (Elt Ideal)) : S1x64x4x128x128.Idx → EReal := g main_v83

theorem v83 (n : Fin 64) (h : Fin 4) (k v : Fin 128) : incs g (ix5 0 n h k v) = (((X.base n h).U k v : ℝ) : EReal) := by
  refine (congrFun (A.w1_1.get2 25 rfl) _).trans ?_
  pointwise
  simp only [A.v82, A.v63, ← EReal.coe_mul, ← coe_total]
  exact congrArg _ (Finset.sum_congr rfl fun s _ => mul_comm _ _)

theorem v84 (n : Fin 64) (h : Fin 4) (k : Fin 128) : (g main_v84 : S1x64x4x128.Idx → EReal) (ix4 0 n h k) = (((X.chunk n h).dec k : ℝ) : EReal) := by
  refine (congrFun (A.w1_1.get1 26 rfl) _).trans ?_
  pointwise
  rw [A.v77, Ideal.exp_coe]
  rfl

theorem v86 (n : Fin 64) (h : Fin 4) (k : Fin 128) : decs g (ix5 0 n h k 0) = (((X.base n h).dec k : ℝ) : EReal) := by
  refine (congrFun (A.w1_1.get1 29 rfl) _).trans ?_
  pointwise
  rw [A.v84]
  rfl

omit A in
/-- The states that enter the chunks. -/
noncomputable def states (g : Valuation τ sig (Elt Ideal)) : Fin 64 → S1x1x4x128x128.Idx → EReal :=
  ![
    g main_v85, g main_v217, g main_v220, g main_v223, g main_v226, g main_v229, g main_v232, g main_v235,
    g main_v238, g main_v241, g main_v244, g main_v247, g main_v250, g main_v253, g main_v256, g main_v259,
    g main_v262, g main_v265, g main_v268, g main_v271, g main_v274, g main_v277, g main_v280, g main_v283,
    g main_v286, g main_v289, g main_v292, g main_v295, g main_v298, g main_v301, g main_v304, g main_v307,
    g main_v310, g main_v313, g main_v316, g main_v319, g main_v322, g main_v325, g main_v328, g main_v331,
    g main_v334, g main_v337, g main_v340, g main_v343, g main_v346, g main_v349, g main_v352, g main_v355,
    g main_v358, g main_v361, g main_v364, g main_v367, g main_v370, g main_v373, g main_v376, g main_v379,
    g main_v382, g main_v385, g main_v388, g main_v391, g main_v394, g main_v397, g main_v400, g main_v403]

theorem states_zero (h : Fin 4) (k v : Fin 128) : states g 0 (ix5 0 0 h k v) = 0 := by
  refine (congrFun (A.w1_1.get1 28 rfl) _).trans ?_
  pointwise
  rw [A.w1_1.get0 27 rfl]
  pointwise

set_option maxHeartbeats 4000000 in
/-- The states follow one another by the recurrence. -/
theorem states_step (n : Fin 63) (h : Fin 4) (k v : Fin 128) : states g n.succ (ix5 0 0 h k v)
    = decs g (ix5 0 n.castSucc h k 0) * states g n.castSucc (ix5 0 0 h k v) + incs g (ix5 0 n.castSucc h k v) := by
  obtain ⟨n, hn⟩ := n
  interval_cases n
  all_goals
    refine (congrFun (A.all.by2 3 rfl) _).trans ?_
    pointwise
    refine congrArg₂ (· + ·) ?_ ?_
    · refine (congrFun (A.all.by2 3 rfl) _).trans ?_
      pointwise
      refine congrArg₂ (· * ·) ?_ rfl
      refine (congrFun (A.all.by1 3 rfl) _).trans ?_
      pointwise
      refine (congrFun (A.all.by1 3 rfl) _).trans ?_
      pointwise
      rfl
    · refine (congrFun (A.all.by1 3 rfl) _).trans ?_
      pointwise
      rfl
theorem states_eq (n : ℕ) (hn : n < 64) (h : Fin 4) (k v : Fin 128) : states g ⟨n, hn⟩ (ix5 0 0 h k v) = ((X.st h n v k : ℝ) : EReal) := by
  induction n with
  | zero => exact A.states_zero h k v
  | succ n ih =>
    refine (A.states_step ⟨n, by omega⟩ h k v).trans ?_
    show decs g (ix5 0 ⟨n, _⟩ h k 0) * states g ⟨n, _⟩ (ix5 0 0 h k v) + incs g (ix5 0 ⟨n, _⟩ h k v) = _
    rw [ih (by omega), A.v86, A.v83, ← EReal.coe_mul, ← EReal.coe_add, Data.st, show chunkNo n = ⟨n, by omega⟩ from Data.chunkNo_val ⟨n, by omega⟩]

end Args₀

end Cert.ReferenceIdeal.Steps
-- ==== Proof.RefB.lean ====
/- The reference's backward stages, read at an index. -/
module

public import proofs.«01_k».proof.Proof.RefA

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators

/-- Sixteen arrays of one column each, one after the other. -/
theorem run_concat_one {α : Type} (f : Fin 16 → S1x1x4x128x1.Idx → α)
    (hc : Shape.Concatenates ((List.ofFn fun n : Fin 16 => (⟨S1x1x4x128x1, f n⟩ : (s : Shape) × (s.Idx → α))).map (·.1)) S1x16x4x128x1 1)
    (j : Fin 16) (h : Fin 4) (k : Fin 128) :
    concatenate S1x16x4x128x1 1 (List.ofFn fun n : Fin 16 => (⟨S1x1x4x128x1, f n⟩ : (s : Shape) × (s.Idx → α))) hc
      (ix5 (0 : Fin 1) j h k (0 : Fin 1)) = f j (ix5 (0 : Fin 1) (0 : Fin 1) h k (0 : Fin 1)) :=
  concatenate_ofFn_unit_apply (s₁ := S1x1x4x128x1) (N := 16) 1 f hc rfl rfl (ix5 (0 : Fin 1) j h k (0 : Fin 1)) j rfl
    (ix5 (0 : Fin 1) (0 : Fin 1) h k (0 : Fin 1)) (by intro b hb; fin_cases b <;> first | rfl | exact absurd rfl hb)

/-- The product of two arrays, element by element. -/
noncomputable def prod2 (a b : S1x4096x4x128.Idx → EReal) (i : S1x4096x4x128.Idx) : EReal := a i * b i
theorem tally {a : EReal} {f e : Fin 128 → EReal} (ha : a = 0) (h : ∀ x, f x = e x) : a + ∑ x, f x = ∑ x, e x := by
  rw [ha, zero_add]; exact Finset.sum_congr rfl fun x _ => h x
theorem ct_zero (X : Data) (h : Fin 4) (v k : Fin 128) : X.ct h 0 v k = 0 := rfl
theorem ct_succ (X : Data) (h : Fin 4) (j : ℕ) (v k : Fin 128) :
    X.ct h (j + 1) v k = (X.base (chunkNo (63 - j)) h).dec k * X.ct h j v k + (X.base (chunkNo (63 - j)) h).T k v := rfl
theorem lone5 (h : S1x64x4x128x1.ReducesTo [0, 4] S64x4x128) (x : S1x64x4x128x1.Idx → EReal) (n : Fin 64) (a : Fin 4) (k : Fin 128) :
    Ideal.hostReduceAdd h x 0 (ix3 n a k) = x (ix5 (0 : Fin 1) n a k (0 : Fin 1)) :=
  lone h x _ _ (funext fun b => match b with | ⟨0, _⟩ => rfl | ⟨1, _⟩ => rfl | ⟨2, _⟩ => rfl)
    fun i e => funext fun b => match b with
      | ⟨0, _⟩ => Subsingleton.elim (α := Fin 1) _ _
      | ⟨1, _⟩ => Fin.ext (congrArg Fin.val (congrFun e 0))
      | ⟨2, _⟩ => Fin.ext (congrArg Fin.val (congrFun e 1))
      | ⟨3, _⟩ => Fin.ext (congrArg Fin.val (congrFun e 2))
      | ⟨4, _⟩ => Subsingleton.elim (α := Fin 1) _ _
theorem lone5' (h : S1x64x1x4x128.ReducesTo [0, 2] S64x4x128) (x : S1x64x1x4x128.Idx → EReal) (n : Fin 64) (a : Fin 4) (k : Fin 128) :
    Ideal.hostReduceAdd h x 0 (ix3 n a k) = x (ix5 (0 : Fin 1) n (0 : Fin 1) a k) :=
  lone h x _ _ (funext fun b => match b with | ⟨0, _⟩ => rfl | ⟨1, _⟩ => rfl | ⟨2, _⟩ => rfl)
    fun i e => funext fun b => match b with
      | ⟨0, _⟩ => Subsingleton.elim (α := Fin 1) _ _
      | ⟨1, _⟩ => Fin.ext (congrArg Fin.val (congrFun e 0))
      | ⟨2, _⟩ => Subsingleton.elim (α := Fin 1) _ _
      | ⟨3, _⟩ => Fin.ext (congrArg Fin.val (congrFun e 1))
      | ⟨4, _⟩ => Fin.ext (congrArg Fin.val (congrFun e 2))
theorem lone4 (h : S1x1x4x128.ReducesTo [0, 1] S4x128) (x : S1x1x4x128.Idx → EReal) (a : Fin 4) (k : Fin 128) :
    Ideal.hostReduceAdd h x 0 (ix2 a k) = x (ix4 (0 : Fin 1) (0 : Fin 1) a k) :=
  lone h x _ _ (funext fun b => match b with | ⟨0, _⟩ => rfl | ⟨1, _⟩ => rfl)
    fun i e => funext fun b => match b with
      | ⟨0, _⟩ => Subsingleton.elim (α := Fin 1) _ _
      | ⟨1, _⟩ => Subsingleton.elim (α := Fin 1) _ _
      | ⟨2, _⟩ => Fin.ext (congrArg Fin.val (congrFun e 0))
      | ⟨3, _⟩ => Fin.ext (congrArg Fin.val (congrFun e 1))

namespace Args₀
variable {g : Valuation τ sig (Elt Ideal)} {X : Data} (A : Args₀ g X)
include A

theorem v407 (j : Fin 16) (h : Fin 4) (k v : Fin 128) : (g main_v407 : S1x16x4x128x128.Idx → EReal) (ix5 0 j h k v) = states g ⟨0 + j.val, by omega⟩ (ix5 0 0 h k v) := by
  refine (congrFun (A.w7.getN 5 rfl) _).trans ?_
  exact run_concat (fun j => states g ⟨0 + j.val, by omega⟩) _ j h k v

theorem v408 (j : Fin 16) (h : Fin 4) (k v : Fin 128) : (g main_v408 : S1x16x4x128x128.Idx → EReal) (ix5 0 j h k v) = states g ⟨16 + j.val, by omega⟩ (ix5 0 0 h k v) := by
  refine (congrFun (A.w7.getN 6 rfl) _).trans ?_
  exact run_concat (fun j => states g ⟨16 + j.val, by omega⟩) _ j h k v

theorem v409 (j : Fin 16) (h : Fin 4) (k v : Fin 128) : (g main_v409 : S1x16x4x128x128.Idx → EReal) (ix5 0 j h k v) = states g ⟨32 + j.val, by omega⟩ (ix5 0 0 h k v) := by
  refine (congrFun (A.w7.getN 7 rfl) _).trans ?_
  exact run_concat (fun j => states g ⟨32 + j.val, by omega⟩) _ j h k v

theorem v410 (j : Fin 16) (h : Fin 4) (k v : Fin 128) : (g main_v410 : S1x16x4x128x128.Idx → EReal) (ix5 0 j h k v) = states g ⟨48 + j.val, by omega⟩ (ix5 0 0 h k v) := by
  refine (congrFun (A.w7.getN 8 rfl) _).trans ?_
  exact run_concat (fun j => states g ⟨48 + j.val, by omega⟩) _ j h k v

theorem v411 (n : Fin 64) (h : Fin 4) (k v : Fin 128) : (g main_v411 : S1x64x4x128x128.Idx → EReal) (ix5 0 n h k v) = states g ⟨n.val, by omega⟩ (ix5 0 0 h k v) := by
  refine (congrFun (A.w7.getN 9 rfl) _).trans ?_
  pointwise [fn_main_v411]
  by_cases h0 : n.val < 16
  · rw [dif_pos h0]
    exact (A.v407 ⟨n.val, h0⟩ h k v).trans (congrArg (fun m => states g m (ix5 0 0 h k v)) (Fin.ext (by show (0 + (n.val)) = n.val; omega)))
  rw [dif_neg h0]
  by_cases h1 : n.val - 16 < 16
  · rw [dif_pos h1]
    exact (A.v408 ⟨n.val - 16, h1⟩ h k v).trans (congrArg (fun m => states g m (ix5 0 0 h k v)) (Fin.ext (by show (16 + (n.val - 16)) = n.val; omega)))
  rw [dif_neg h1]
  by_cases h2 : n.val - 16 - 16 < 16
  · rw [dif_pos h2]
    exact (A.v409 ⟨n.val - 16 - 16, h2⟩ h k v).trans (congrArg (fun m => states g m (ix5 0 0 h k v)) (Fin.ext (by show (32 + (n.val - 16 - 16)) = n.val; omega)))
  rw [dif_neg h2]
  exact (A.v410 ⟨n.val - 16 - 16 - 16, by omega⟩ h k v).trans (congrArg (fun m => states g m (ix5 0 0 h k v)) (Fin.ext (by show (48 + (n.val - 16 - 16 - 16)) = n.val; omega)))

theorem v419 (n t : Fin 64) (h : Fin 4) (v : Fin 128) : (g main_v419 : S1x64x64x4x128.Idx → EReal) (ix5 0 n t h v) = (((X.chunk n h).o t v : ℝ) : EReal) := by
  refine (congrFun (A.w7.getR 18 rfl) _).trans ?_
  pointwise
  rw [A.w7.getR 17 rfl]
  pointwise
  rw [pos_mk, lane_mk, A.o]
  rfl

theorem v420 (n t : Fin 64) (h : Fin 4) (v : Fin 128) : (g main_v420 : S1x64x4x128x64.Idx → EReal) (ix5 0 n h v t) = (((X.chunk n h).o t v : ℝ) : EReal) := by
  refine (congrFun (A.w7.get1 19 rfl) _).trans ?_
  pointwise
  rw [A.v419]

theorem v422 (n t : Fin 64) (h : Fin 4) (k : Fin 128) : (g main_v422 : S1x64x64x4x128.Idx → EReal) (ix5 0 n t h k) = ((∑ v, (X.chunk n h).o t v * (X.chunk n h).S v k : ℝ) : EReal) := by
  refine (congrFun (A.w7.get1 21 rfl) _).trans ?_
  pointwise
  rw [A.w7.get2 20 rfl]
  pointwise
  simp only [A.v420, A.v411, A.states_eq, ← EReal.coe_mul, ← coe_total]
  rfl

omit A in
/-- The summands of the recurrence of the cotangents. -/
noncomputable def incT (g : Valuation τ sig (Elt Ideal)) : S1x64x4x128x128.Idx → EReal := g main_v424
theorem v424 (n : Fin 64) (h : Fin 4) (k v : Fin 128) : incT g (ix5 0 n h k v) = (((X.base n h).T k v : ℝ) : EReal) := by
  refine (congrFun (A.w7.get1 23 rfl) _).trans ?_
  pointwise
  rw [A.w7.get2 22 rfl]
  pointwise
  simp only [A.v420, A.v66, ← EReal.coe_mul, ← coe_total]
  rfl

omit A in
/-- The cotangents of the states, from the last chunk back. -/
noncomputable def cts (g : Valuation τ sig (Elt Ideal)) : Fin 64 → S1x1x4x128x128.Idx → EReal :=
  ![
    g main_v864, g main_v488, g main_v491, g main_v497, g main_v503, g main_v509, g main_v515, g main_v521,
    g main_v527, g main_v533, g main_v539, g main_v545, g main_v551, g main_v557, g main_v563, g main_v569,
    g main_v575, g main_v581, g main_v587, g main_v593, g main_v599, g main_v605, g main_v611, g main_v617,
    g main_v623, g main_v629, g main_v635, g main_v641, g main_v647, g main_v653, g main_v659, g main_v665,
    g main_v671, g main_v677, g main_v683, g main_v689, g main_v695, g main_v701, g main_v707, g main_v713,
    g main_v719, g main_v725, g main_v731, g main_v737, g main_v743, g main_v749, g main_v755, g main_v761,
    g main_v767, g main_v773, g main_v779, g main_v785, g main_v791, g main_v797, g main_v803, g main_v809,
    g main_v815, g main_v821, g main_v827, g main_v833, g main_v839, g main_v845, g main_v851, g main_v857]

omit A in
/-- Each chunk's part of the gradient of its decay. -/
noncomputable def dds (g : Valuation τ sig (Elt Ideal)) : Fin 64 → S1x1x4x128x1.Idx → EReal :=
  ![
    g main_v863, g main_v860, g main_v854, g main_v848, g main_v842, g main_v836, g main_v830, g main_v824,
    g main_v818, g main_v812, g main_v806, g main_v800, g main_v794, g main_v788, g main_v782, g main_v776,
    g main_v770, g main_v764, g main_v758, g main_v752, g main_v746, g main_v740, g main_v734, g main_v728,
    g main_v722, g main_v716, g main_v710, g main_v704, g main_v698, g main_v692, g main_v686, g main_v680,
    g main_v674, g main_v668, g main_v662, g main_v656, g main_v650, g main_v644, g main_v638, g main_v632,
    g main_v626, g main_v620, g main_v614, g main_v608, g main_v602, g main_v596, g main_v590, g main_v584,
    g main_v578, g main_v572, g main_v566, g main_v560, g main_v554, g main_v548, g main_v542, g main_v536,
    g main_v530, g main_v524, g main_v518, g main_v512, g main_v506, g main_v500, g main_v494, g main_v870]

theorem cts_zero (h : Fin 4) (k v : Fin 128) : cts g 0 (ix5 0 0 h k v) = 0 := by
  refine (congrFun (A.w15.get1 47 rfl) _).trans ?_
  pointwise
  rw [A.w15.get0 46 rfl]
  pointwise
theorem cts_one (h : Fin 4) (k v : Fin 128) : cts g 1 (ix5 0 0 h k v) = incT g (ix5 0 63 h k v) := by
  refine (congrFun (A.w8.get1 27 rfl) _).trans ?_
  pointwise
  rfl
set_option maxHeartbeats 4000000 in
theorem cts_step (n : Fin 62) (h : Fin 4) (k v : Fin 128) : cts g n.succ.succ (ix5 0 0 h k v)
    = incT g (ix5 0 ⟨62 - n.val, by omega⟩ h k v) + decs g (ix5 0 ⟨62 - n.val, by omega⟩ h k 0) * cts g n.succ.castSucc (ix5 0 0 h k v) := by
  obtain ⟨n, hn⟩ := n
  interval_cases n
  all_goals
    refine (congrFun (A.all.by2 3 rfl) _).trans ?_
    pointwise
    refine congrArg₂ (· + ·) ?_ ?_
    · refine (congrFun (A.all.by1 3 rfl) _).trans ?_
      pointwise
      rfl
    · refine (congrFun (A.all.by2 3 rfl) _).trans ?_
      pointwise
      refine congrArg₂ (· * ·) ?_ rfl
      refine (congrFun (A.all.by1 3 rfl) _).trans ?_
      pointwise
      refine (congrFun (A.all.by1 3 rfl) _).trans ?_
      pointwise
      rfl
theorem cts_eq (j : ℕ) (hj : j < 64) (h : Fin 4) (k v : Fin 128) : cts g ⟨j, hj⟩ (ix5 0 0 h k v) = ((X.ct h j v k : ℝ) : EReal) := by
  induction j with
  | zero => exact A.cts_zero h k v
  | succ j ih =>
    have e : chunkNo (63 - j) = ⟨63 - j, by omega⟩ := Data.chunkNo_val ⟨63 - j, by omega⟩
    match j, hj, ih, e with
    | 0, _, _, e =>
      refine (A.cts_one h k v).trans ?_
      rw [A.v424, ct_succ, ct_zero, mul_zero, zero_add, e]
      rfl
    | j + 1, hj, ih, e =>
      refine (A.cts_step ⟨j, by omega⟩ h k v).trans ?_
      show incT g (ix5 0 ⟨62 - j, _⟩ h k v) + decs g (ix5 0 ⟨62 - j, _⟩ h k 0) * cts g ⟨j + 1, _⟩ (ix5 0 0 h k v) = _
      rw [ih (by omega), A.v86, A.v424, ← EReal.coe_mul, ← EReal.coe_add, ct_succ X h (j + 1), e, add_comm]
      have e2 : 63 - (j + 1) = 62 - j := by omega
      simp only [e2]
set_option maxHeartbeats 4000000 in
theorem dds_step (n : Fin 63) (h : Fin 4) (k : Fin 128) : dds g n.castSucc (ix5 0 0 h k 0)
    = ∑ v, cts g ⟨63 - n.val, by omega⟩ (ix5 0 0 h k v) * states g n.castSucc (ix5 0 0 h k v) := by
  obtain ⟨n, hn⟩ := n
  interval_cases n
  all_goals
    refine (congrFun (A.all.byR 3 rfl) _).trans ?_
    pointwise
    refine (congrFun (A.all.by2 3 rfl) _).trans ?_
    pointwise
    refine tally ((congrFun (A.all.by0 3 rfl) _).trans Ideal.ofBits_zero_f32) fun v => ?_
    refine (congrFun (A.all.by2 3 rfl) _).trans ?_
    pointwise
    rfl

theorem v870 (h : Fin 4) (k : Fin 128) : (g main_v870 : S1x1x4x128x1.Idx → EReal) (ix5 0 0 h k 0) = ((0 : ℝ) : EReal) := by
  refine (congrFun (A.w15.get1 54 rfl) _).trans ?_
  pointwise
  rw [A.w15.get0 53 rfl]
  pointwise
  exact EReal.coe_zero.symm

theorem dds_eq (n : Fin 64) (h : Fin 4) (k : Fin 128) : dds g n (ix5 0 0 h k 0)
    = ((∑ v, (X.chunk n h).D v k * (X.chunk n h).S v k : ℝ) : EReal) := by
  obtain ⟨n, hn⟩ := n
  by_cases h63 : n = 63
  · subst h63
    refine (A.v870 h k).trans ?_
    refine congrArg _ (Finset.sum_eq_zero fun v _ => ?_).symm
    show X.ct h 0 v k * _ = 0
    rw [ct_zero, zero_mul]
  · refine (A.dds_step ⟨n, by omega⟩ h k).trans ?_
    rw [coe_total]
    refine Finset.sum_congr rfl fun v _ => ?_
    rw [EReal.coe_mul]
    exact congrArg₂ (· * ·) (A.cts_eq _ _ h k v) (A.states_eq _ _ h k v)

theorem v865 (j : Fin 16) (h : Fin 4) (k v : Fin 128) : (g main_v865 : S1x16x4x128x128.Idx → EReal) (ix5 0 j h k v) = cts g ⟨63 - (0 + j.val), by omega⟩ (ix5 0 0 h k v) := by
  refine (congrFun (A.w15.getN 48 rfl) _).trans ?_
  exact run_concat (fun j => cts g ⟨63 - (0 + j.val), by omega⟩) _ j h k v

theorem v866 (j : Fin 16) (h : Fin 4) (k v : Fin 128) : (g main_v866 : S1x16x4x128x128.Idx → EReal) (ix5 0 j h k v) = cts g ⟨63 - (16 + j.val), by omega⟩ (ix5 0 0 h k v) := by
  refine (congrFun (A.w15.getN 49 rfl) _).trans ?_
  exact run_concat (fun j => cts g ⟨63 - (16 + j.val), by omega⟩) _ j h k v

theorem v867 (j : Fin 16) (h : Fin 4) (k v : Fin 128) : (g main_v867 : S1x16x4x128x128.Idx → EReal) (ix5 0 j h k v) = cts g ⟨63 - (32 + j.val), by omega⟩ (ix5 0 0 h k v) := by
  refine (congrFun (A.w15.getN 50 rfl) _).trans ?_
  exact run_concat (fun j => cts g ⟨63 - (32 + j.val), by omega⟩) _ j h k v

theorem v868 (j : Fin 16) (h : Fin 4) (k v : Fin 128) : (g main_v868 : S1x16x4x128x128.Idx → EReal) (ix5 0 j h k v) = cts g ⟨63 - (48 + j.val), by omega⟩ (ix5 0 0 h k v) := by
  refine (congrFun (A.w15.getN 51 rfl) _).trans ?_
  exact run_concat (fun j => cts g ⟨63 - (48 + j.val), by omega⟩) _ j h k v

theorem v869 (n : Fin 64) (h : Fin 4) (k v : Fin 128) : (g main_v869 : S1x64x4x128x128.Idx → EReal) (ix5 0 n h k v) = cts g ⟨63 - n.val, by omega⟩ (ix5 0 0 h k v) := by
  refine (congrFun (A.w15.getN 52 rfl) _).trans ?_
  pointwise [fn_main_v869]
  by_cases h0 : n.val < 16
  · rw [dif_pos h0]
    exact (A.v865 ⟨n.val, h0⟩ h k v).trans (congrArg (fun m => cts g m (ix5 0 0 h k v)) (Fin.ext (by show 63 - (0 + (n.val)) = 63 - n.val; omega)))
  rw [dif_neg h0]
  by_cases h1 : n.val - 16 < 16
  · rw [dif_pos h1]
    exact (A.v866 ⟨n.val - 16, h1⟩ h k v).trans (congrArg (fun m => cts g m (ix5 0 0 h k v)) (Fin.ext (by show 63 - (16 + (n.val - 16)) = 63 - n.val; omega)))
  rw [dif_neg h1]
  by_cases h2 : n.val - 16 - 16 < 16
  · rw [dif_pos h2]
    exact (A.v867 ⟨n.val - 16 - 16, h2⟩ h k v).trans (congrArg (fun m => cts g m (ix5 0 0 h k v)) (Fin.ext (by show 63 - (32 + (n.val - 16 - 16)) = 63 - n.val; omega)))
  rw [dif_neg h2]
  exact (A.v868 ⟨n.val - 16 - 16 - 16, by omega⟩ h k v).trans (congrArg (fun m => cts g m (ix5 0 0 h k v)) (Fin.ext (by show 63 - (48 + (n.val - 16 - 16 - 16)) = 63 - n.val; omega)))

theorem v871 (j : Fin 16) (h : Fin 4) (k : Fin 128) : (g main_v871 : S1x16x4x128x1.Idx → EReal) (ix5 0 j h k 0) = dds g ⟨0 + j.val, by omega⟩ (ix5 0 0 h k 0) := by
  refine (congrFun (A.w15.getN 55 rfl) _).trans ?_
  exact run_concat_one (fun j => dds g ⟨0 + j.val, by omega⟩) _ j h k

theorem v872 (j : Fin 16) (h : Fin 4) (k : Fin 128) : (g main_v872 : S1x16x4x128x1.Idx → EReal) (ix5 0 j h k 0) = dds g ⟨16 + j.val, by omega⟩ (ix5 0 0 h k 0) := by
  refine (congrFun (A.w15.getN 56 rfl) _).trans ?_
  exact run_concat_one (fun j => dds g ⟨16 + j.val, by omega⟩) _ j h k

theorem v873 (j : Fin 16) (h : Fin 4) (k : Fin 128) : (g main_v873 : S1x16x4x128x1.Idx → EReal) (ix5 0 j h k 0) = dds g ⟨32 + j.val, by omega⟩ (ix5 0 0 h k 0) := by
  refine (congrFun (A.w15.getN 57 rfl) _).trans ?_
  exact run_concat_one (fun j => dds g ⟨32 + j.val, by omega⟩) _ j h k

theorem v874 (j : Fin 16) (h : Fin 4) (k : Fin 128) : (g main_v874 : S1x16x4x128x1.Idx → EReal) (ix5 0 j h k 0) = dds g ⟨48 + j.val, by omega⟩ (ix5 0 0 h k 0) := by
  refine (congrFun (A.w15.getN 58 rfl) _).trans ?_
  exact run_concat_one (fun j => dds g ⟨48 + j.val, by omega⟩) _ j h k

theorem v875 (n : Fin 64) (h : Fin 4) (k : Fin 128) : (g main_v875 : S1x64x4x128x1.Idx → EReal) (ix5 0 n h k 0) = dds g ⟨n.val, by omega⟩ (ix5 0 0 h k 0) := by
  refine (congrFun (A.w15.getN 59 rfl) _).trans ?_
  pointwise [fn_main_v875]
  by_cases h0 : n.val < 16
  · rw [dif_pos h0]
    exact (A.v871 ⟨n.val, h0⟩ h k).trans (congrArg (fun m => dds g m (ix5 0 0 h k 0)) (Fin.ext (by show (0 + (n.val)) = n.val; omega)))
  rw [dif_neg h0]
  by_cases h1 : n.val - 16 < 16
  · rw [dif_pos h1]
    exact (A.v872 ⟨n.val - 16, h1⟩ h k).trans (congrArg (fun m => dds g m (ix5 0 0 h k 0)) (Fin.ext (by show (16 + (n.val - 16)) = n.val; omega)))
  rw [dif_neg h1]
  by_cases h2 : n.val - 16 - 16 < 16
  · rw [dif_pos h2]
    exact (A.v873 ⟨n.val - 16 - 16, h2⟩ h k).trans (congrArg (fun m => dds g m (ix5 0 0 h k 0)) (Fin.ext (by show (32 + (n.val - 16 - 16)) = n.val; omega)))
  rw [dif_neg h2]
  exact (A.v874 ⟨n.val - 16 - 16 - 16, by omega⟩ h k).trans (congrArg (fun m => dds g m (ix5 0 0 h k 0)) (Fin.ext (by show (48 + (n.val - 16 - 16 - 16)) = n.val; omega)))

theorem v876 (n : Fin 64) (h : Fin 4) (k : Fin 128) : (g main_v876 : S64x4x128.Idx → EReal) (ix3 n h k) = ((∑ v, (X.chunk n h).D v k * (X.chunk n h).S v k : ℝ) : EReal) := by
  refine (congrFun (A.w16_0.get2 1 rfl) _).trans ?_
  pointwise
  rw [A.w16_0.get0 0 rfl]
  pointwise
  rw [lone5]
  exact (A.v875 n h k).trans (A.dds_eq n h k)

theorem v878 (n : Fin 64) (h : Fin 4) (k : Fin 128) : (g main_v878 : S1x64x4x128.Idx → EReal) (ix4 0 n h k) = (((∑ v, (X.chunk n h).D v k * (X.chunk n h).S v k) * (X.chunk n h).dec k : ℝ) : EReal) := by
  refine (congrFun (A.w16_0.get2 3 rfl) _).trans ?_
  pointwise
  rw [A.w16_0.get1 2 rfl]
  pointwise
  rw [A.v876, A.v84, ← EReal.coe_mul]

theorem D_eq (n : Fin 64) (h : Fin 4) (k v : Fin 128) : (g main_v869 : S1x64x4x128x128.Idx → EReal) (ix5 0 n h k v) = (((X.chunk n h).D v k : ℝ) : EReal) :=
  (A.v869 n h k v).trans (A.cts_eq _ _ h k v)

theorem v880 (n t : Fin 64) (h : Fin 4) (v : Fin 128) : (g main_v880 : S1x64x64x4x128.Idx → EReal) (ix5 0 n t h v) = ((∑ k, (X.chunk n h).ke t k * (X.chunk n h).D v k : ℝ) : EReal) := by
  refine (congrFun (A.w16_0.get1 5 rfl) _).trans ?_
  pointwise
  rw [A.w16_0.get2 4 rfl]
  pointwise
  simp only [A.D_eq, A.v82, ← EReal.coe_mul, ← coe_total]
  exact congrArg _ (Finset.sum_congr rfl fun _ _ => mul_comm _ _)

theorem v882 (n t : Fin 64) (h : Fin 4) (k : Fin 128) : (g main_v882 : S1x64x64x4x128.Idx → EReal) (ix5 0 n t h k) = (((X.chunk n h).dke t k : ℝ) : EReal) := by
  refine (congrFun (A.w16_0.get1 7 rfl) _).trans ?_
  pointwise
  rw [A.w16_0.get2 6 rfl]
  pointwise
  simp only [A.D_eq, A.v63, ← EReal.coe_mul, ← coe_total]
  exact congrArg _ (Finset.sum_congr rfl fun _ _ => mul_comm _ _)

theorem v884 (n t : Fin 64) (h : Fin 4) (k : Fin 128) : (g main_v884 : S1x64x64x4x128.Idx → EReal) (ix5 0 n t h k) = (((X.chunk n h).dke t k * (X.chunk n h).eend t k : ℝ) : EReal) := by
  refine (congrFun (A.w16_0.get2 9 rfl) _).trans ?_
  pointwise
  rw [A.v882, A.v81, ← EReal.coe_mul]

theorem v885 (n t : Fin 64) (h : Fin 4) (k : Fin 128) : (g main_v885 : S1x64x64x4x128.Idx → EReal) (ix5 0 n t h k) = (((X.chunk n h).gke t k : ℝ) : EReal) := by
  refine (congrFun (A.w16_0.get2 10 rfl) _).trans ?_
  pointwise
  rw [A.w16_0.get2 8 rfl]
  pointwise
  rw [A.v882, A.v81, A.v61, ← EReal.coe_mul, ← EReal.coe_mul]
  refine congrArg _ ?_
  unfold Chunk.gke Chunk.ke; ring

theorem v887 (n : Fin 64) (h : Fin 4) (k : Fin 128) : (g main_v887 : S1x64x1x4x128.Idx → EReal) (ix5 0 n 0 h k) = ((∑ s, (X.chunk n h).gke s k : ℝ) : EReal) := by
  refine (congrFun (A.w16_0.getR 13 rfl) _).trans ?_
  pointwise
  rw [A.w16_0.get2 12 rfl, A.w16_0.get0 11 rfl]
  pointwise
  simp only [A.v885, ← coe_total]

theorem v889 (n : Fin 64) (h : Fin 4) (k : Fin 128) : (g main_v889 : S64x4x128.Idx → EReal) (ix3 n h k) = ((∑ s, (X.chunk n h).gke s k : ℝ) : EReal) := by
  refine (congrFun (A.w16_0.get2 16 rfl) _).trans ?_
  pointwise
  rw [A.w16_0.get0 15 rfl]
  pointwise
  rw [lone5']
  exact A.v887 n h k

theorem v892 (n : Fin 64) (h : Fin 4) (k : Fin 128) : (g main_v892 : S1x64x1x4x128.Idx → EReal) (ix5 0 n 0 h k) = (((X.chunk n h).dbend k : ℝ) : EReal) := by
  refine (congrFun (A.w16_0.get1 19 rfl) _).trans ?_
  pointwise
  rw [A.w16_0.get2 18 rfl, A.w16_0.get1 17 rfl]
  pointwise
  rw [A.v878, A.v889, ← EReal.coe_add]
  refine congrArg _ ?_
  unfold Chunk.dbend; ring

theorem v893 (n t : Fin 64) (h : Fin 4) (k : Fin 128) : (g main_v893 : S1x64x64x4x128.Idx → EReal) (ix5 0 n t h k) = ((if t = 63 then (X.chunk n h).dbend k else 0 : ℝ) : EReal) := by
  refine (congrFun (A.w16_0.get2 21 rfl) _).trans ?_
  pointwise
  rw [A.w16_0.get0 20 rfl]
  pointwise
  by_cases ht : t = 63
  · subst ht
    rw [if_pos rfl, ← A.v892]
    rfl
  · have ht' : ¬ (63 ≤ t.val ∧ t.val - 63 < 1) := fun e => ht (Fin.ext (by have := t.isLt; show t.val = 63; omega))
    rw [dif_neg ht', if_neg ht, EReal.coe_zero]

theorem v894 (n t : Fin 64) (h : Fin 4) (k : Fin 128) : (g main_v894 : S1x64x64x4x128.Idx → EReal) (ix5 0 n t h k) = ((-(X.chunk n h).gke t k + if t = 63 then (X.chunk n h).dbend k else 0 : ℝ) : EReal) := by
  refine (congrFun (A.w16_0.get2 22 rfl) _).trans ?_
  pointwise
  rw [A.w16_0.get1 14 rfl]
  pointwise
  rw [A.v885, A.v893, ← EReal.coe_neg, ← EReal.coe_add]

theorem v895 (n t : Fin 64) (h : Fin 4) (v : Fin 128) : (g main_v895 : S1x64x4x128x64.Idx → EReal) (ix5 0 n h v t) = (((X.chunk n h).o t v : ℝ) : EReal) := by
  refine (congrFun (A.w16_0.get1 23 rfl) _).trans ?_
  pointwise
  rw [A.v419]

theorem v896 (n s t : Fin 64) (h : Fin 4) : (g main_v896 : S1x64x4x64x64.Idx → EReal) (ix5 0 n h t s) = ((∑ v, (X.chunk n h).o t v * (X.chunk n h).i s v : ℝ) : EReal) := by
  refine (congrFun (A.w16_0.get2 24 rfl) _).trans ?_
  pointwise
  simp only [A.v895, A.v63, ← EReal.coe_mul, ← coe_total]

theorem v899 (n t : Fin 64) (h : Fin 4) (v : Fin 128) : (g main_v899 : S1x64x64x4x128.Idx → EReal) (ix5 0 n t h v) = (((X.chunk n h).di t v : ℝ) : EReal) := by
  refine (congrFun (A.w16_0.get2 27 rfl) _).trans ?_
  pointwise
  rw [A.w16_0.get1 26 rfl, A.w16_0.get2 25 rfl]
  pointwise
  rw [A.v880]
  simp only [A.v895, A.v73_0, ← EReal.coe_mul, ← coe_total]
  rw [← EReal.coe_add]
  refine congrArg _ ?_
  unfold Chunk.di
  rw [add_comm]
  exact congrArg (· + _) (Finset.sum_congr rfl fun _ _ => mul_comm _ _)

theorem v900 (n s t : Fin 64) (h : Fin 4) : (g main_v900 : S1x64x4x64x64.Idx → EReal) (ix5 0 n h t s) = (((X.chunk n h).da s t : ℝ) : EReal) := by
  refine (congrFun ((by exact A.w16_1.get3 0 rfl : g main_v900 = (select : (⟨S1x64x4x64x64, .i1⟩ : BufTy).Contents (Elt Ideal) → (⟨S1x64x4x64x64, .f32⟩ : BufTy).Contents (Elt Ideal) → (⟨S1x64x4x64x64, .f32⟩ : BufTy).Contents (Elt Ideal) → (⟨S1x64x4x64x64, .f32⟩ : BufTy).Contents (Elt Ideal)) (g main_v73_1) (g main_v896) (g main_call5_v0))) _).trans ?_
  pointwise
  rw [(by exact A.w16_0.get1 29 rfl : g main_call5_v0 = ((broadcastInDim S1x64x4x64x64 ![] bcast_S_S1x64x4x64x64) : (⟨S_, .f32⟩ : BufTy).Contents (Elt Ideal) → (⟨S1x64x4x64x64, .f32⟩ : BufTy).Contents (Elt Ideal)) (g main_call5_cst)), (by exact A.w16_0.get0 28 rfl : g main_call5_cst = ((constant (F := Ideal) S_ .f32 0x00000000#32) : (⟨S_, .f32⟩ : BufTy).Contents (Elt Ideal)) )]
  pointwise
  rw [A.v73_1, A.v896]
  unfold Scalar.select Chunk.da
  by_cases hs : s ≤ t <;> simp [hs]

theorem v902 (n t : Fin 64) (h : Fin 4) (k : Fin 128) : (g main_v902 : S1x64x64x4x128.Idx → EReal) (ix5 0 n t h k) = (((X.chunk n h).dki t k : ℝ) : EReal) := by
  refine (congrFun (A.w16_1.get1 2 rfl) _).trans ?_
  pointwise
  rw [A.w16_1.get2 1 rfl]
  pointwise
  simp only [A.v900, A.v66, ← EReal.coe_mul, ← coe_total]
  rfl

theorem v904 (n t : Fin 64) (h : Fin 4) (k : Fin 128) : (g main_v904 : S1x64x64x4x128.Idx → EReal) (ix5 0 n t h k) = ((∑ s, (X.chunk n h).da s t * (X.chunk n h).ki s k : ℝ) : EReal) := by
  refine (congrFun (A.w16_1.get1 4 rfl) _).trans ?_
  pointwise
  rw [A.w16_1.get2 3 rfl]
  pointwise
  simp only [A.v900, A.v69, ← EReal.coe_mul, ← coe_total]

theorem v905 (n t : Fin 64) (h : Fin 4) (k : Fin 128) : (g main_v905 : S1x64x64x4x128.Idx → EReal) (ix5 0 n t h k) = (((X.chunk n h).dqd t k : ℝ) : EReal) := by
  refine (congrFun (A.w16_1.get2 5 rfl) _).trans ?_
  pointwise
  rw [A.v422, A.v904, ← EReal.coe_add, add_comm]
  rfl

theorem v908 (n t : Fin 64) (h : Fin 4) (k : Fin 128) : (g main_v908 : S1x64x64x4x128.Idx → EReal) (ix5 0 n t h k) = (((X.chunk n h).dke t k * (X.chunk n h).eend t k + (X.chunk n h).dki t k * (X.chunk n h).emb t k : ℝ) : EReal) := by
  refine (congrFun (A.w16_1.get2 8 rfl) _).trans ?_
  pointwise
  rw [A.w16_1.get2 7 rfl]
  pointwise
  rw [A.v884, A.v902, A.v68, ← EReal.coe_mul, ← EReal.coe_add]

theorem v911 (n t : Fin 64) (h : Fin 4) (k : Fin 128) : (g main_v911 : S1x64x64x4x128.Idx → EReal) (ix5 0 n t h k) = ((-(X.chunk n h).gke t k + (if t = 63 then (X.chunk n h).dbend k else 0) - (X.chunk n h).dki t k * (X.chunk n h).ki t k : ℝ) : EReal) := by
  refine (congrFun (A.w16_1.get2 11 rfl) _).trans ?_
  pointwise
  rw [A.w16_1.get1 10 rfl, A.w16_1.get2 9 rfl, A.w16_1.get2 6 rfl]
  pointwise
  rw [A.v894, A.v61, A.v902, A.v68, ← EReal.coe_mul, ← EReal.coe_mul, ← EReal.coe_neg, ← EReal.coe_add]
  refine congrArg _ ?_
  unfold Chunk.ki; ring

theorem v913 (n t : Fin 64) (h : Fin 4) (k : Fin 128) : (g main_v913 : S1x64x64x4x128.Idx → EReal) (ix5 0 n t h k) = (((X.chunk n h).dqd t k * (X.chunk n h).eb t k : ℝ) : EReal) := by
  refine (congrFun (A.w16_1.get2 13 rfl) _).trans ?_
  pointwise
  rw [A.v905, A.v65, ← EReal.coe_mul]

theorem v915 (n t : Fin 64) (h : Fin 4) (k : Fin 128) : (g main_v915 : S1x64x64x4x128.Idx → EReal) (ix5 0 n t h k) = (((X.chunk n h).db t k : ℝ) : EReal) := by
  refine (congrFun (A.w16_1.get2 15 rfl) _).trans ?_
  pointwise
  rw [A.w16_1.get2 14 rfl, A.w16_1.get2 12 rfl]
  pointwise
  rw [A.v911, A.v60, A.v905, A.v65, ← EReal.coe_mul, ← EReal.coe_mul, ← EReal.coe_add]
  refine congrArg _ ?_
  unfold Chunk.db Chunk.qd; ring

theorem v916 (n t : Fin 64) (h : Fin 4) (k : Fin 128) : (g main_v916 : S1x64x64x4x128.Idx → EReal) (ix5 0 n t h k) = (((X.chunk n h).dlogf t k : ℝ) : EReal) := by
  refine (congrFun ((by exact A.w16_1.get2 18 rfl : g main_v916 = ((fun x v => Host.reduceWindowAdd (F := Ideal) (φ := .f32) ![1, 1, 64, 1, 1] ![1, 1, 1, 1, 1] ![0, 0, 0, 0, 0] ![0, 0, 63, 0, 0] x v reduceWindows_S1x64x64x4x128_S1x64x64x4x128_w1s1p0_0_w1s1p0_0_w64s1p0_63_w1s1p0_0_w1s1p0_0 h_S_) : (⟨S1x64x64x4x128, .f32⟩ : BufTy).Contents (Elt Ideal) → (⟨S_, .f32⟩ : BufTy).Contents (Elt Ideal) → (⟨S1x64x64x4x128, .f32⟩ : BufTy).Contents (Elt Ideal)) (g main_v915) (g main_call6_call0_v0))) _).trans ((run_sum_back _ _ _ _ ?_ n t h k).trans ?_)
  · rw [(by exact A.w16_1.get1 17 rfl : g main_call6_call0_v0 = ((broadcastInDim S_ ![] bcast_S_S_) : (⟨S_, .f32⟩ : BufTy).Contents (Elt Ideal) → (⟨S_, .f32⟩ : BufTy).Contents (Elt Ideal)) (g main_call6_call0_cst)), (by exact A.w16_1.get0 16 rfl : g main_call6_call0_cst = ((constant (F := Ideal) S_ .f32 0x00000000#32) : (⟨S_, .f32⟩ : BufTy).Contents (Elt Ideal)) )]
    exact Ideal.ofBits_zero_f32
  · rw [Chunk.dlogf, coe_total]
    refine Finset.sum_congr rfl fun s _ => ?_
    rw [apply_ite (fun x : ℝ => (x : EReal)), ← A.v915, EReal.coe_zero]

theorem v917 (n t : Fin 64) (h : Fin 4) (k : Fin 128) : (g main_v917 : S1x4096x4x128.Idx → EReal) (ix4 0 (pos n t) h k) = (((X.chunk n h).di t k : ℝ) : EReal) := by
  refine (congrFun (A.w16_1.getR 19 rfl) _).trans ?_
  pointwise
  rw [pos_div, pos_mod, A.v899]

theorem v918 (n t : Fin 64) (h : Fin 4) (k : Fin 128) : (g main_v918 : S1x4096x4x128.Idx → EReal) (ix4 0 (pos n t) h k) = (((X.chunk n h).dlogf t k : ℝ) : EReal) := by
  refine (congrFun (A.w16_1.getR 20 rfl) _).trans ?_
  pointwise
  rw [pos_div, pos_mod, A.v916]

theorem v919 (n t : Fin 64) (h : Fin 4) (k : Fin 128) : (g main_v919 : S1x4096x4x128.Idx → EReal) (ix4 0 (pos n t) h k) = (((X.chunk n h).dke t k * (X.chunk n h).eend t k + (X.chunk n h).dki t k * (X.chunk n h).emb t k : ℝ) : EReal) := by
  refine (congrFun (A.w16_1.getR 21 rfl) _).trans ?_
  pointwise
  rw [pos_div, pos_mod, A.v908]

theorem v920 (n t : Fin 64) (h : Fin 4) (k : Fin 128) : (g main_v920 : S1x4096x4x128.Idx → EReal) (ix4 0 (pos n t) h k) = (((X.chunk n h).dqd t k * (X.chunk n h).eb t k : ℝ) : EReal) := by
  refine (congrFun (A.w16_1.getR 22 rfl) _).trans ?_
  pointwise
  rw [pos_div, pos_mod, A.v913]

theorem v923 (n t : Fin 64) (h : Fin 4) (k : Fin 128) : (g main_v923 : S1x4096x4x128.Idx → EReal) (ix4 0 (pos n t) h k) = (((X.chunk n h).dforget t k : ℝ) : EReal) := by
  refine (congrFun (A.w16_1.get2 25 rfl) _).trans ?_
  pointwise
  rw [A.w16_1.get1 24 rfl, A.w16_1.get2 23 rfl]
  pointwise
  rw [A.v918, A.v919, A.v56, Ideal.div_coe (Chunk.forget_ne _ t k (X.proper n h)), ← EReal.coe_mul, ← EReal.coe_neg, ← EReal.coe_add]
  refine congrArg _ ?_
  unfold Chunk.dforget; ring

theorem v926 (h : Fin 4) (k : Fin 128) : (g main_v926 : S4x128.Idx → EReal) (ix2 h k) = ((∑ n, ∑ t, (X.chunk n h).dforget t k : ℝ) : EReal) := by
  refine (congrFun (A.w16_2.get2 0 rfl) _).trans ?_
  pointwise
  rw [A.w16_1.getR 28 rfl, A.w16_1.get0 29 rfl, A.w16_1.get2 27 rfl, A.w16_1.get0 26 rfl]
  pointwise
  rw [lone4]
  refine (sum_pos (M := EReal) fun x => (g main_v923 : S1x4096x4x128.Idx → EReal) (ix4 0 x h k)).trans ?_
  simp only [A.v923, ← coe_total]

theorem v932 (h : Fin 4) (k : Fin 128) : (g main_v932 : S4x128.Idx → EReal) (ix2 h k) = ((∑ n, ∑ t, (X.chunk n h).dforget t k * (X.chunk n h).sg t k : ℝ) : EReal) := by
  refine (congrFun (A.w17.get2 4 rfl) _).trans ?_
  pointwise
  rw [A.w17.getR 2 rfl, A.w17.get0 3 rfl, A.w17.get2 1 rfl, A.w16_2.get2 3 rfl, A.w17.get0 0 rfl]
  pointwise
  rw [lone4]
  refine (sum_pos fun x => prod2 (g main_v923) (g main_v47) (ix4 0 x h k)).trans ?_
  unfold prod2
  simp only [A.v923, A.v47, ← EReal.coe_mul, ← coe_total]

theorem v933 (n t : Fin 64) (h : Fin 4) (k : Fin 128) : (g main_v933 : S1x4096x4x128.Idx → EReal) (ix4 0 (pos n t) h k) = (((X.chunk n h).gf t k : ℝ) : EReal) := by
  refine (congrFun (A.w17.get2 5 rfl) _).trans ?_
  pointwise
  rw [A.w16_2.get2 2 rfl, A.w16_2.get1 1 rfl]
  pointwise
  rw [A.v51, A.v923, A.v50, ← EReal.coe_mul, ← EReal.coe_mul]
  refine congrArg _ ?_
  unfold Chunk.gf
  show (1 - X.lbv _) * _ * _ = _ * (1 - X.lbv _) * _ * _
  ring

theorem v935 (h : Fin 4) (k : Fin 128) : (g main_v935 : S4x128.Idx → EReal) (ix2 h k) = ((X.glb h k : ℝ) : EReal) := by
  refine (congrFun (A.w17.get2 7 rfl) _).trans ?_
  pointwise
  rw [A.w17.get1 6 rfl]
  pointwise
  rw [A.v926, A.v932, ← EReal.coe_neg, ← EReal.coe_add, Data.glb, ← sub_eq_add_neg, ← Finset.sum_sub_distrib]
  refine congrArg _ (Finset.sum_congr rfl fun n _ => ?_)
  rw [← Finset.sum_sub_distrib, Chunk.glb]
  exact Finset.sum_congr rfl fun t _ => by ring

theorem v936 (n t : Fin 64) (h : Fin 4) (k : Fin 128) : (g main_v936 : S1x4096x4x128.Idx → EReal) (ix4 0 (pos n t) h k) = (((X.chunk n h).gq t k : ℝ) : EReal) := by
  refine (congrFun ((by exact A.w17.get2 11 rfl : g main_v936 = (addf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_call7_v1) (g main_call7_v2))) _).trans ?_
  pointwise
  rw [(by exact A.w17.get2 9 rfl : g main_call7_v1 = (mulf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_v920) (g main_v39_2)), (by exact A.w17.get2 10 rfl : g main_call7_v2 = (mulf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_call7_v0) (g main_v39_1)), (by exact A.w17.get2 8 rfl : g main_call7_v0 = (mulf (F := Ideal) (φ := .f32) : (⟨S1x4096x4x128, .f32⟩ : BufTy).Contents (Elt Ideal) → (⟨S1x4096x4x128, .f32⟩ : BufTy).Contents (Elt Ideal) → (⟨S1x4096x4x128, .f32⟩ : BufTy).Contents (Elt Ideal)) (g main_v36) (g main_v920))]
  pointwise
  rw [A.v920, A.v39_2, A.v36, A.v39_1, ← EReal.coe_mul, ← EReal.coe_mul, ← EReal.coe_mul, ← EReal.coe_add]
  refine congrArg _ ?_
  unfold Chunk.gq
  show _ + (X.chunk n h).q t k * _ * _ = _
  ring

theorem v939 (n t : Fin 64) (h : Fin 4) (k : Fin 128) : (g main_v939 : S4096x512.Idx → EReal) (ix2 (pos n t) (lane h k)) = (((X.chunk n h).gq t k : ℝ) : EReal) := by
  refine (congrFun (A.w17.getR 14 rfl) _).trans ?_
  pointwise
  rw [lane_div, lane_mod, A.v936]

theorem v938 (n t : Fin 64) (h : Fin 4) (k : Fin 128) : (g main_v938 : S4096x512.Idx → EReal) (ix2 (pos n t) (lane h k)) = (((X.chunk n h).gf t k : ℝ) : EReal) := by
  refine (congrFun (A.w17.getR 13 rfl) _).trans ?_
  pointwise
  rw [lane_div, lane_mod, A.v933]

theorem v937 (n t : Fin 64) (h : Fin 4) (k : Fin 128) : (g main_v937 : S4096x512.Idx → EReal) (ix2 (pos n t) (lane h k)) = (((X.chunk n h).di t k : ℝ) : EReal) := by
  refine (congrFun (A.w17.getR 12 rfl) _).trans ?_
  pointwise
  rw [lane_div, lane_mod, A.v917]

end Args₀

end Cert.ReferenceIdeal.Steps
-- ==== Proof.RefC.lean ====
/- The reference's backward stages, read at an index. -/
module

public import proofs.«01_k».proof.Proof.RefB

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators

theorem zero_of {x : S_.Idx → EReal} {c : S_.Idx → EReal} (i : S_.Idx) (hx : x = broadcastInDim S_ ![] bcast_S_S_ c)
    (hc : c = constant (F := Ideal) S_ .f32 0x00000000#32) : x i = 0 := by
  subst hx hc
  exact Ideal.ofBits_zero_f32

namespace Args₀
variable {g : Valuation τ sig (Elt Ideal)} {X : Data} (A : Args₀ g X)
include A

theorem v940 (h : Fin 4) (k : Fin 128) : (g main_v940 : S512.Idx → EReal) (ix1 (lane h k)) = ((X.glb h k : ℝ) : EReal) := by
  refine (congrFun (A.w17.getR 15 rfl) _).trans ?_
  pointwise
  rw [lane_div, lane_mod, A.v935]
theorem v942a (h : Fin 4) (k : Fin 128) : (g main_v942 : S2x512.Idx → EReal) (ix2 0 (lane h k)) = ((X.glb h k : ℝ) : EReal) := by
  refine (congrFun (A.w17.get2 18 rfl) _).trans ?_
  pointwise
  rw [A.w17.get1 16 rfl]
  pointwise
  rw [A.v940]
theorem v942b (l : Fin 512) : (g main_v942 : S2x512.Idx → EReal) (ix2 1 l) = (0 : EReal) := by
  refine (congrFun (A.w17.get2 18 rfl) _).trans ?_
  pointwise
  rw [A.w17.get0 17 rfl]
  pointwise
theorem v944a (h : Fin 4) (k : Fin 128) : (g main_v944 : S2x512.Idx → EReal) (ix2 0 (lane h k)) = ((X.glb h k : ℝ) : EReal) := by
  refine (congrFun ((by exact A.w17.get2 22 rfl : g main_v944 = ((fun x v => Host.reduceWindowAdd (F := Ideal) (φ := .f32) ![2, 1] ![1, 1] ![0, 0] ![1, 0] x v reduceWindows_S2x512_S2x512_w2s1p0_1_w1s1p0_0 h_S_) : (⟨S2x512, .f32⟩ : BufTy).Contents (Elt Ideal) → (⟨S_, .f32⟩ : BufTy).Contents (Elt Ideal) → (⟨S2x512, .f32⟩ : BufTy).Contents (Elt Ideal)) (g main_v942) (g main_call8_call0_v0))) _).trans ?_
  refine (run_two_back0 (g main_v942) _ _ _ ?_ _).trans ?_
  · exact zero_of _ ((by exact A.w17.get1 21 rfl : g main_call8_call0_v0 = ((broadcastInDim S_ ![] bcast_S_S_) : (⟨S_, .f32⟩ : BufTy).Contents (Elt Ideal) → (⟨S_, .f32⟩ : BufTy).Contents (Elt Ideal)) (g main_call8_call0_cst))) ((by exact A.w17.get0 20 rfl : g main_call8_call0_cst = ((constant (F := Ideal) S_ .f32 0x00000000#32) : (⟨S_, .f32⟩ : BufTy).Contents (Elt Ideal)) ))
  · rw [A.v942a, A.v942b, add_zero]
theorem v944b (l : Fin 512) : (g main_v944 : S2x512.Idx → EReal) (ix2 1 l) = (0 : EReal) := by
  refine (congrFun ((by exact A.w17.get2 22 rfl : g main_v944 = ((fun x v => Host.reduceWindowAdd (F := Ideal) (φ := .f32) ![2, 1] ![1, 1] ![0, 0] ![1, 0] x v reduceWindows_S2x512_S2x512_w2s1p0_1_w1s1p0_0 h_S_) : (⟨S2x512, .f32⟩ : BufTy).Contents (Elt Ideal) → (⟨S_, .f32⟩ : BufTy).Contents (Elt Ideal) → (⟨S2x512, .f32⟩ : BufTy).Contents (Elt Ideal)) (g main_v942) (g main_call8_call0_v0))) _).trans ?_
  refine (run_two_back1 (g main_v942) _ _ _ ?_ _).trans (A.v942b l)
  exact zero_of _ ((by exact A.w17.get1 21 rfl : g main_call8_call0_v0 = ((broadcastInDim S_ ![] bcast_S_S_) : (⟨S_, .f32⟩ : BufTy).Contents (Elt Ideal) → (⟨S_, .f32⟩ : BufTy).Contents (Elt Ideal)) (g main_call8_call0_cst))) ((by exact A.w17.get0 20 rfl : g main_call8_call0_cst = ((constant (F := Ideal) S_ .f32 0x00000000#32) : (⟨S_, .f32⟩ : BufTy).Contents (Elt Ideal)) ))
theorem v947a (h : Fin 4) (k : Fin 128) :
    (g main_v947 : S2x512.Idx → EReal) (ix2 0 (lane h k)) = ((X.glb h k * (1 / (den X (lane h k) * den X (lane h k))) * ex X 0 (lane h k) : ℝ) : EReal) := by
  refine (congrFun (A.w17.get2 25 rfl) _).trans ?_
  pointwise
  rw [A.w17.get2 24 rfl]
  pointwise
  rw [A.w17.get1 23 rfl]
  pointwise
  rw [A.v944a, A.v28, A.v21, ← EReal.coe_mul, ← EReal.coe_mul]
theorem v947b (l : Fin 512) : (g main_v947 : S2x512.Idx → EReal) (ix2 1 l) = (0 : EReal) := by
  refine (congrFun (A.w17.get2 25 rfl) _).trans ?_
  pointwise
  rw [A.w17.get2 24 rfl]
  pointwise
  rw [A.v944b, zero_mul, zero_mul]
theorem v948 (h : Fin 4) (k : Fin 128) :
    (g main_v948 : S512.Idx → EReal) (ix1 (lane h k)) = ((X.glb h k * (1 / (den X (lane h k) * den X (lane h k))) * ex X 0 (lane h k) : ℝ) : EReal) := by
  refine (congrFun (A.w17.get2 27 rfl) _).trans ?_
  pointwise
  rw [A.w17.get0 26 rfl]
  pointwise
  rw [Fin.sum_univ_two, A.v947a, A.v947b, add_zero]
theorem v954 (r : Fin 2) (h : Fin 4) (k : Fin 128) :
    (g main_v954 : S2x512.Idx → EReal) (ix2 r (lane h k)) = ((-(X.glb h k * (1 / (den X (lane h k) * den X (lane h k))) * ex X 0 (lane h k)) : ℝ) : EReal) := by
  refine (congrFun (A.w17.get1 34 rfl) _).trans ?_
  pointwise
  rw [A.w17.get2 33 rfl, A.w17.get0 32 rfl]
  pointwise
  rw [A.w17.get1 29 rfl]
  pointwise
  rw [A.w17.getR 28 rfl]
  pointwise
  rw [A.v948, ← EReal.coe_neg]
  simp only [Finset.univ_unique, Finset.sum_singleton]
theorem v952 (r : Fin 2) (l : Fin 512) (a : ℝ) (e : (g main_v944 : S2x512.Idx → EReal) (ix2 r l) = (a : EReal)) :
    (g main_v952 : S2x512.Idx → EReal) (ix2 r l) = ((a * (1 / den X l) : ℝ) : EReal) := by
  refine (congrFun (A.w17.get2 31 rfl) _).trans ?_
  pointwise
  rw [A.w17.get1 30 rfl]
  pointwise
  rw [e, A.v23, Ideal.div_coe (den_pos X l).ne', ← EReal.coe_mul]
/-- The gradient of the first row of logits. -/
theorem v956a (h : Fin 4) (k : Fin 128) : (g main_v956 : S2x512.Idx → EReal) (ix2 0 (lane h k)) = ((X.glb h k * X.lbv (lane h k) * (1 - X.lbv (lane h k)) : ℝ) : EReal) := by
  refine (congrFun (A.w17.get2 36 rfl) _).trans ?_
  pointwise
  rw [A.w17.get2 35 rfl]
  pointwise
  rw [A.v952 0 _ _ (A.v944a h k), A.v954, A.v21, ← EReal.coe_add, ← EReal.coe_mul]
  refine congrArg _ ?_
  have e : X.lbv (lane h k) = ex X 0 (lane h k) / den X (lane h k) := rfl
  have := (den_pos X (lane h k)).ne'
  rw [e]
  field_simp
  ring
/-- The gradient of the second row of logits. -/
theorem v956b (h : Fin 4) (k : Fin 128) : (g main_v956 : S2x512.Idx → EReal) (ix2 1 (lane h k)) = ((0 - X.glb h k * X.lbv (lane h k) * (1 - X.lbv (lane h k)) : ℝ) : EReal) := by
  refine (congrFun (A.w17.get2 36 rfl) _).trans ?_
  pointwise
  rw [A.w17.get2 35 rfl]
  pointwise
  rw [A.v952 1 _ 0 ((A.v944b _).trans EReal.coe_zero.symm), A.v954, A.v21, ← EReal.coe_add, ← EReal.coe_mul]
  refine congrArg _ ?_
  have e : X.lbv (lane h k) = ex X 0 (lane h k) / den X (lane h k) := rfl
  have e1 : ex X 1 (lane h k) = den X (lane h k) - ex X 0 (lane h k) := by unfold den; ring
  have := (den_pos X (lane h k)).ne'
  rw [e, e1]
  field_simp
  ring
/-- The gradient of the query part. -/
theorem v957_0 (n t : Fin 64) (h : Fin 4) (k : Fin 128) :
    (g main_v957 : S4096x1536.Idx → EReal) (ix2 (pos n t) ⟨(lane h k).val, by omega⟩) = ((((X.chunk n h).gq t k : ℝ) : ℝ) : EReal) := by
  refine (congrFun (A.w17.get1 37 rfl) _).trans ?_
  pointwise
  rw [A.w17.getN 19 rfl]
  pointwise [fn_main_v943]
  exact A.v939 n t h k
/-- The gradient of the forget part. -/
theorem v957_1 (n t : Fin 64) (h : Fin 4) (k : Fin 128) :
    (g main_v957 : S4096x1536.Idx → EReal) (ix2 (pos n t) ⟨512 + (lane h k).val, by omega⟩) = ((((X.chunk n h).gf t k : ℝ) : ℝ) : EReal) := by
  refine (congrFun (A.w17.get1 37 rfl) _).trans ?_
  pointwise
  rw [A.w17.getN 19 rfl]
  pointwise [fn_main_v943]
  exact A.v938 n t h k
/-- The gradient of the value part. -/
theorem v957_2 (n t : Fin 64) (h : Fin 4) (k : Fin 128) :
    (g main_v957 : S4096x1536.Idx → EReal) (ix2 (pos n t) ⟨1024 + (lane h k).val, by omega⟩) = ((((X.chunk n h).di t k : ℝ) : ℝ) : EReal) := by
  refine (congrFun (A.w17.get1 37 rfl) _).trans ?_
  pointwise
  rw [A.w17.getN 19 rfl]
  pointwise [fn_main_v943]
  rw [dif_neg (show ¬ 1024 + (lane h k).val < 512 by omega), dif_neg (show ¬ 1024 + (lane h k).val - 512 < 512 by omega)]
  refine Eq.trans (congrArg (fun j => (g main_v937 : S4096x512.Idx → EReal) (ix2 (pos n t) j)) (Fin.ext ?_)) (A.v937 n t h k)
  show 1024 + (lane h k).val - 512 - 512 = (lane h k).val
  omega

end Args₀

end Cert.ReferenceIdeal.Steps
-- ==== Proof.Ends.lean ====
/- The two programs end with the same results, from finite arguments. -/
module

public import proofs.«01_k».proof.Defs
public import proofs.«01_k».proof.Proof.Entry
public import proofs.«01_k».proof.Proof.Output
public import proofs.«01_k».proof.Proof.RefC

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

/-- Real arguments give the reference's operations real values. -/
theorem args (U : Valuation τ sig (Elt Ideal)) (X : Data)
    (p : ∀ r l, (U main_arg0 : S4096x2048.Idx → EReal) (ix2 r l) = ((X.P r l : ℝ) : EReal))
    (g : ∀ r l, (U main_arg1 : S2x512.Idx → EReal) (ix2 r l) = ((X.G r l : ℝ) : EReal))
    (o : ∀ r l, (U main_arg2 : S4096x512.Idx → EReal) (ix2 r l) = ((X.O r l : ℝ) : EReal)) : Args₀ (after ops U) X := by
  have k0 := line.keep U main_arg0 (by decide)
  have k1 := line.keep U main_arg1 (by decide)
  have k2 := line.keep U main_arg2 (by decide)
  have H := line.solved U
  generalize after ops U = W at H k0 k1 k2
  have a0 := H.of_append
  have a00 := a0.1.of_append
  have a01 := a00.2.of_append
  have a1 := a0.2.of_append
  have a10 := a1.1.of_append
  have a11 := a10.2.of_append
  have a2 := a1.2.of_append
  have a3 := a2.2.of_append
  have a4 := a3.2.of_append
  have a5 := a4.2.of_append
  have a6 := a5.2.of_append
  have a7 := a6.2.of_append
  have a8 := a7.2.of_append
  have a9 := a8.2.of_append
  have b0 := a9.2.of_append
  have b1 := b0.2.of_append
  have b2 := b1.2.of_append
  have b3 := b2.2.of_append
  have b4 := b3.2.of_append
  have b5 := b4.2.of_append
  have b6 := b5.2.of_append
  have c0 := b6.1.of_append
  have c1 := c0.2.of_append
  exact
    { all := H, w0_0 := a00.1, w0_1 := a01.1, w0_2 := a01.2, w1_0 := a10.1, w1_1 := a11.1, w1_2 := a11.2
      w2 := a2.1, w3 := a3.1, w4 := a4.1, w5 := a5.1, w6 := a6.1, w7 := a7.1, w8 := a8.1, w9 := a9.1
      w10 := b0.1, w11 := b1.1, w12 := b2.1, w13 := b3.1, w14 := b4.1, w15 := b5.1
      w16_0 := c0.1, w16_1 := c1.1, w16_2 := c1.2, w17 := b6.2
      p := fun r l => (congrFun k0 _).trans (p r l)
      o := fun r l => (congrFun k2 _).trans (o r l)
      g := fun r l => (congrFun k1 _).trans (g r l) }

/-- The arguments end as they began. -/
theorem kept (U : Valuation τ sig (Elt Ideal)) : after ops U main_arg0 = U main_arg0 ∧ after ops U main_arg1 = U main_arg1 ∧ after ops U main_arg2 = U main_arg2 :=
  ⟨line.keep U main_arg0 (by decide), line.keep U main_arg1 (by decide), line.keep U main_arg2 (by decide)⟩

end Cert.ReferenceIdeal.Steps

namespace Cert

open Idealize.ShloMosaic Idealize.ShloMosaic.TcCoe Idealize.SL.Sem

/-- An array whose magnitudes are all below infinity is real. -/
theorem real_of_finite {s : Shape} (x : s.Idx → EReal) (b : (⟨0, ![]⟩ : Shape).BroadcastsInDim s (![] : Fin 0 → Fin s.rank))
    (h : cmpf (F := Ideal) (φ := .f32) .olt (Host.absf (F := Ideal) (φ := .f32) x) (broadcastInDim s ![] b (constant (F := Ideal) ⟨0, ![]⟩ .f32 0x7F800000#32)) = fun _ => 1#1)
    (i : s.Idx) : x i = (((x i).toReal : ℝ) : EReal) := by
  have e : Ideal.cmp .olt (max (x i) (-(x i))) (Ideal.ofBits FTy.f32 2139095040#32) = 1#1 := congrFun h i
  rw [pos_inf] at e
  have lt : max (x i) (-(x i)) < ⊤ := by
    by_contra hn
    have : Ideal.cmp .olt (max (x i) (-(x i))) ⊤ = 0#1 := by
      show BitVec.ofBool (decide (max (x i) (-(x i)) < ⊤)) = 0#1
      rw [decide_eq_false hn]; rfl
    rw [this] at e
    exact absurd e (by decide)
  refine (EReal.coe_toReal ?_ ?_).symm
  · intro ht; rw [ht] at lt; exact absurd lt (by simp)
  · intro hb; rw [hb] at lt; exact absurd lt (by simp)

instance finiteFacts : Cert.Pre_finite.Facts where
  bcast_S_S4096x2048 := by decide
  bcast_S_S2x512 := by decide
  bcast_S_S4096x512 := by decide

/-- The real parts of the arguments. -/
def realParts (a : (⟨2, ![4096, 2048]⟩ : Shape).Idx → EReal) (b : (⟨2, ![2, 512]⟩ : Shape).Idx → EReal) (d : (⟨2, ![4096, 512]⟩ : Shape).Idx → EReal) : Data :=
  ⟨fun r l => (a (ix2 r l)).toReal, fun r l => (b (ix2 r l)).toReal, fun r l => (d (ix2 r l)).toReal⟩

open Cert.KernelIdeal.Gen Cert.KernelIdeal.Chain in
/-- Every index of the gradient of the projection is a position, a part, a head and a lane. -/
theorem same_grad (x y : (⟨2, ![4096, 1536]⟩ : Shape).Idx → EReal) (w : Fin 3 → Fin 64 → Fin 4 → Fin 64 → Fin 128 → EReal)
    (hx : ∀ n u p h k, x (ix2 (pos n u) (col p h k)) = w p n h u k) (hy : ∀ n u p h k, y (ix2 (pos n u) (col p h k)) = w p n h u k) : x = y := by
  funext i
  have h0 : (i 0).val < 4096 := (i 0).isLt
  have h1 : (i 1).val < 1536 := (i 1).isLt
  have e : i = ix2 (pos ⟨(i 0).val / 64, by omega⟩ ⟨(i 0).val % 64, by omega⟩)
      (col ⟨(i 1).val / 512, by omega⟩ ⟨(i 1).val % 512 / 128, by omega⟩ ⟨(i 1).val % 128, by omega⟩) :=
    funext fun a => match a with
      | ⟨0, _⟩ => Fin.ext (by show (i 0).val = 64 * ((i 0).val / 64) + (i 0).val % 64; omega)
      | ⟨1, _⟩ => Fin.ext (by show (i 1).val = 512 * ((i 1).val / 512) + 128 * ((i 1).val % 512 / 128) + (i 1).val % 128; omega)
  rw [e, hx, hy]

/-- Every index of the gradient of the logits is a row, a head and a lane. -/
theorem same_rows (x y : (⟨2, ![2, 512]⟩ : Shape).Idx → EReal) (w : Fin 2 → Fin 4 → Fin 128 → EReal)
    (hx : ∀ r h k, x (ix2 r (lane h k)) = w r h k) (hy : ∀ r h k, y (ix2 r (lane h k)) = w r h k) : x = y := by
  funext i
  have h1 : (i 1).val < 512 := (i 1).isLt
  have e : i = ix2 (i 0) (lane ⟨(i 1).val / 128, by omega⟩ ⟨(i 1).val % 128, by omega⟩) :=
    funext fun a => match a with
      | ⟨0, _⟩ => rfl
      | ⟨1, _⟩ => Fin.ext (by show (i 1).val = 128 * ((i 1).val / 128) + (i 1).val % 128; omega)
  rw [e]
  exact (hx _ _ _).trans (hy _ _ _).symm

section Equal

variable (m : (ℓ : Loc Cert.KernelIdeal.nD Cert.KernelIdeal.τ Cert.KernelIdeal.sig) → Buf (Elt Ideal) ℓ)
  (U : Valuation Cert.ReferenceIdeal.τ Cert.ReferenceIdeal.sig (Elt Ideal)) (c : Dev Cert.KernelIdeal.nD) (X : Data)
  (R : Cert.KernelIdeal.Chain.RealIn m c X) (A : Cert.ReferenceIdeal.Steps.Args₀ U X)
include R A

open Cert.KernelIdeal.Gen Cert.KernelIdeal.Chain in
theorem equal0 : ((dats m 0 c).arrAt 6 Cert.KernelIdeal.cfg0.N : Cert.KernelIdeal.S4096x1536.Idx → EReal)
    = (U Cert.ReferenceIdeal.main_v957 : Cert.ReferenceIdeal.S4096x1536.Idx → EReal) := by
  refine same_grad _ _ (fun p n h u k => ((X.grad p n h u k : ℝ) : EReal)) (fun n u p h k => R.result0 n u p h k) fun n u p h k => ?_
  have e : ∀ q : Fin 1536, q.val = (col p h k).val → (U Cert.ReferenceIdeal.main_v957 : Cert.ReferenceIdeal.S4096x1536.Idx → EReal) (ix2 (pos n u) (col p h k))
      = (U Cert.ReferenceIdeal.main_v957 : Cert.ReferenceIdeal.S4096x1536.Idx → EReal) (ix2 (pos n u) q) := fun q hq => by rw [Fin.ext hq]
  match p with
  | 0 => exact (e _ (by show 128 * h.val + k.val = 512 * 0 + 128 * h.val + k.val; omega)).trans (A.v957_0 n u h k)
  | 1 => exact (e _ (by show 512 + (128 * h.val + k.val) = 512 * 1 + 128 * h.val + k.val; omega)).trans (A.v957_1 n u h k)
  | 2 => exact (e _ (by show 1024 + (128 * h.val + k.val) = 512 * 2 + 128 * h.val + k.val; omega)).trans (A.v957_2 n u h k)

open Cert.KernelIdeal.Gen Cert.KernelIdeal.Chain in
theorem equal1 : ((dats m 0 c).arrAt 7 Cert.KernelIdeal.cfg0.N : Cert.KernelIdeal.S2x512.Idx → EReal)
    = (U Cert.ReferenceIdeal.main_v956 : Cert.ReferenceIdeal.S2x512.Idx → EReal) := by
  refine same_rows _ _ (fun r h k => if r = 0 then ((X.gl h k : ℝ) : EReal) else ((0 - X.gl h k : ℝ) : EReal)) (fun r h k => ?_) fun r h k => ?_
  · match r with
    | 0 => exact (R.result1 h k).1
    | 1 => exact (R.result1 h k).2
  · match r with
    | 0 => exact A.v956a h k
    | 1 => exact A.v956b h k

end Equal

end Cert
-- ==== Proof.DwDown.lean ====
/- The gradient of the down projection's weights: the blocks the kernel writes, and the reference's product. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DwDown

open Idealize.ShloMosaic Idealize.ShloMosaic.TcCoe Idealize.SL.Sem Cert.Kernel4Ideal Cert.Kernel4Ideal.Gen Cert.Kernel4Ideal.Value

theorem zero2 : (![0, 0] : Fin 2 → ℕ) = fun _ => 0 := by funext a; fin_cases a <;> rfl

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The block of point `t`: the transposed panel of the forward's input times the gradient. -/
theorem block_eq (t : Fin cfg0.N) : outsAt0 m c t = k0_pay2 (k0_pay1 (iblk m c 0 t)) (iblk m c 1 t) := by
  unfold outsAt0 out0_A_2
  refine (View.read_writes_eq_canon _ _ _ (cover0_A_2 c (grid0.coords t) (ms0_0 t) (hs0_0 t) (ms0_1 t) (hs0_1 t) (ms0_2 t) (hs0_2 t) scM0_0 (Memref.isWhole_whole _) (hcond0_0 t) (iblk m c 0 t) (iblk m c 1 t))).trans ?_
  unfold kernelRun0_A
  dsimp only
  sl_unfold_words
  rw [View.canon_cons_unit_zero (S := S256x1024) zero2, View.readCov_unit_zero (S := S256x4096) _ zero2]
  simp only [View.readAt_eq_ld, (hs0_0 t).read_unread, (hs0_1 t).read_unread,
    View.ld_unit_zero (S := S4096x256) zero2, View.ld_unit_zero (S := S4096x1024) zero2]

theorem product_apply (x : FVec Ideal S4096x256 .bf16) (y : FVec Ideal S4096x1024 .bf16) (r : Fin 256) (l : Fin 1024) :
    (k0_pay2 (F := Ideal) (k0_pay1 (F := Ideal) x) y (ix2 r l) : EReal) = ∑ s : Fin 4096, (x (ix2 s r) : EReal) * y (ix2 s l) := by
  pointwise [k0_pay2, k0_pay1]; try simp

/-- The arguments as arrays of numbers. -/
def inA (s : Fin 4096) (r : Fin 2816) : EReal := (V m c main_arg0 : S4096x2816.Idx → EReal) (ix2 s r)
def inD (s : Fin 4096) (l : Fin 1024) : EReal := (V m c main_arg1 : S4096x1024.Idx → EReal) (ix2 s l)

theorem blk0 (t : Fin cfg0.N) (s : Fin 4096) (j : Fin 256) (r : Fin 2816) (h : r.val = 256 * t.val + j.val) :
    (iblk m c 0 t : S4096x256.Idx → EReal) (ix2 s j) = inA m c s r := by
  unfold inA
  blk_ext [iblk, idx t]
theorem blk1 (t : Fin cfg0.N) (s : Fin 4096) (l : Fin 1024) :
    (iblk m c 1 t : S4096x1024.Idx → EReal) (ix2 s l) = inD m c s l := by
  unfold inD
  blk_ext [iblk, idx t]

/-- The result array at an index. -/
theorem result (r : Fin 2816) (l : Fin 1024) :
    ((dats m 0 c).arrAt 2 cfg0.N : S2816x1024.Idx → EReal) (ix2 r l)
      = ∑ s : Fin 4096, inA m c s r * inD m c s l := by
  let t : Fin cfg0.N := ⟨r.val / 256, lt_of_lt_of_eq (show r.val / 256 < 11 by omega) (show 11 = cfg0.N from N_0.symm)⟩
  let j : Fin 256 := ⟨r.val % 256, by omega⟩
  have hr : r.val = 256 * t.val + j.val := (Nat.div_add_mod r.val 256).symm
  have e := congrFun (blocks2 m c t (flush0_2 t)) (ix2 j l)
  rw [flushed2] at e
  have a := (congrFun (block_eq m c t) (ix2 j l)).trans (product_apply _ _ j l)
  simp only [blk0 m c t _ j r hr, blk1] at a
  refine Eq.trans ?_ ((e.trans ?_).trans a)
  · have ht : t.val = r.val / 256 := rfl
    have hj : j.val = r.val % 256 := rfl
    symm
    blk_ext [idx t]
  · blk_ext [idx t]

end Cert.DwDown

namespace Cert.DwDown

open Idealize.ShloMosaic Idealize.ShloMosaic.TcCoe Cert.Reference4Ideal Cert.Reference4Ideal.Gen

/-- The reference's operations on its two arguments. -/
def refTerm (a : FVec Ideal S4096x2816 .bf16) (d : FVec Ideal S4096x1024 .bf16) : FVec Ideal S2816x1024 .bf16 :=
  truncf .bf16 (transpose S2816x1024 [1, 0] (Host.dotGeneral dot_S4096x1024_S4096x2816_S1024x2816_0_0_1_1_n_n none (extf .f32 d bitsLt_bf16_f32) (extf .f32 a bitsLt_bf16_f32)) transposes_S1024x2816_S2816x1024_1_0) bitsLt_bf16_f32

theorem refTerm_apply (a : FVec Ideal S4096x2816 .bf16) (d : FVec Ideal S4096x1024 .bf16) (r : Fin 2816) (l : Fin 1024) :
    refTerm a d (ix2 r l) = ∑ s : Fin 4096, (a (ix2 s r) : EReal) * (d (ix2 s l) : EReal) := by
  pointwise [refTerm]
  exact Finset.sum_congr rfl fun s _ => mul_comm _ _

end Cert.DwDown

end
-- ==== Proof.DwOut.lean ====
/- The gradient of the out projection's weights: the blocks the kernel writes, and the reference's product. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DwOut

open Idealize.ShloMosaic Idealize.ShloMosaic.TcCoe Idealize.SL.Sem Cert.Kernel5Ideal Cert.Kernel5Ideal.Gen Cert.Kernel5Ideal.Value

theorem zero2 : (![0, 0] : Fin 2 → ℕ) = fun _ => 0 := by funext a; fin_cases a <;> rfl

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The block of point `t`: the transposed panel of the forward's input times the gradient. -/
theorem block_eq (t : Fin cfg0.N) : outsAt0 m c t = k0_pay2 (k0_pay1 (iblk m c 0 t)) (iblk m c 1 t) := by
  unfold outsAt0 out0_A_2
  refine (View.read_writes_eq_canon _ _ _ (cover0_A_2 c (grid0.coords t) (ms0_0 t) (hs0_0 t) (ms0_1 t) (hs0_1 t) (ms0_2 t) (hs0_2 t) scM0_0 (Memref.isWhole_whole _) (hcond0_0 t) (iblk m c 0 t) (iblk m c 1 t))).trans ?_
  unfold kernelRun0_A
  dsimp only
  sl_unfold_words
  rw [View.canon_cons_unit_zero (S := S512x1024) zero2, View.readCov_unit_zero (S := S512x4096) _ zero2]
  simp only [View.readAt_eq_ld, (hs0_0 t).read_unread, (hs0_1 t).read_unread,
    View.ld_unit_zero (S := S4096x512) zero2, View.ld_unit_zero (S := S4096x1024) zero2]

theorem product_apply (x : FVec Ideal S4096x512 .bf16) (y : FVec Ideal S4096x1024 .bf16) (r : Fin 512) (l : Fin 1024) :
    (k0_pay2 (F := Ideal) (k0_pay1 (F := Ideal) x) y (ix2 r l) : EReal) = ∑ s : Fin 4096, (x (ix2 s r) : EReal) * y (ix2 s l) := by
  pointwise [k0_pay2, k0_pay1]; try simp

/-- The arguments as arrays of numbers. -/
def inA (s : Fin 4096) (r : Fin 1024) : EReal := (V m c main_arg0 : S4096x1024.Idx → EReal) (ix2 s r)
def inD (s : Fin 4096) (l : Fin 1024) : EReal := (V m c main_arg1 : S4096x1024.Idx → EReal) (ix2 s l)

theorem blk0 (t : Fin cfg0.N) (s : Fin 4096) (j : Fin 512) (r : Fin 1024) (h : r.val = 512 * t.val + j.val) :
    (iblk m c 0 t : S4096x512.Idx → EReal) (ix2 s j) = inA m c s r := by
  unfold inA
  blk_ext [iblk, idx t]
theorem blk1 (t : Fin cfg0.N) (s : Fin 4096) (l : Fin 1024) :
    (iblk m c 1 t : S4096x1024.Idx → EReal) (ix2 s l) = inD m c s l := by
  unfold inD
  blk_ext [iblk, idx t]

/-- The result array at an index. -/
theorem result (r : Fin 1024) (l : Fin 1024) :
    ((dats m 0 c).arrAt 2 cfg0.N : S1024x1024.Idx → EReal) (ix2 r l)
      = ∑ s : Fin 4096, inA m c s r * inD m c s l := by
  let t : Fin cfg0.N := ⟨r.val / 512, lt_of_lt_of_eq (show r.val / 512 < 2 by omega) (show 2 = cfg0.N from N_0.symm)⟩
  let j : Fin 512 := ⟨r.val % 512, by omega⟩
  have hr : r.val = 512 * t.val + j.val := (Nat.div_add_mod r.val 512).symm
  have e := congrFun (blocks2 m c t (flush0_2 t)) (ix2 j l)
  rw [flushed2] at e
  have a := (congrFun (block_eq m c t) (ix2 j l)).trans (product_apply _ _ j l)
  simp only [blk0 m c t _ j r hr, blk1] at a
  refine Eq.trans ?_ ((e.trans ?_).trans a)
  · have ht : t.val = r.val / 512 := rfl
    have hj : j.val = r.val % 512 := rfl
    symm
    blk_ext [idx t]
  · blk_ext [idx t]

end Cert.DwOut

namespace Cert.DwOut

open Idealize.ShloMosaic Idealize.ShloMosaic.TcCoe Cert.Reference5Ideal Cert.Reference5Ideal.Gen

/-- The reference's operations on its two arguments. -/
def refTerm (a : FVec Ideal S4096x1024 .bf16) (d : FVec Ideal S4096x1024 .bf16) : FVec Ideal S1024x1024 .bf16 :=
  truncf .bf16 (transpose S1024x1024 [1, 0] (Host.dotGeneral dot_S4096x1024_S4096x1024_S1024x1024_0_0_1_1_n_n none (extf .f32 d bitsLt_bf16_f32) (extf .f32 a bitsLt_bf16_f32)) transposes_S1024x1024_S1024x1024_1_0) bitsLt_bf16_f32

theorem refTerm_apply (a : FVec Ideal S4096x1024 .bf16) (d : FVec Ideal S4096x1024 .bf16) (r : Fin 1024) (l : Fin 1024) :
    refTerm a d (ix2 r l) = ∑ s : Fin 4096, (a (ix2 s r) : EReal) * (d (ix2 s l) : EReal) := by
  pointwise [refTerm]
  exact Finset.sum_congr rfl fun s _ => mul_comm _ _

end Cert.DwOut

end
-- ==== Proof.DwIn.lean ====
/- The gradient of the input projection's weights, the mixer's columns: the blocks the kernel writes into the array, and the reference's product. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DwIn

open Idealize.ShloMosaic Idealize.ShloMosaic.TcCoe Idealize.SL.Sem Cert.Kernel6Ideal Cert.Kernel6Ideal.Gen Cert.Kernel6Ideal.Value

theorem zero2 : (![0, 0] : Fin 2 → ℕ) = fun _ => 0 := by funext a; fin_cases a <;> rfl

variable (m : (ℓ : Loc nD τ sig) → Buf (Elt Ideal) ℓ) (c : Dev nD)

theorem idx : ∀ t : Fin cfg0.N, win0_0.index t = ![0, min t.val 5] ∧ win0_1.index t = ![0, t.val - 6] ∧ win0_2.index t = ![0, 0] ∧ win0_3.index t = ![t.val + 6, 0] ∧ (grid0.coords t 0).val = t.val :=
  (by decide +kernel : ∀ t : Fin grid0.N, win0_0.index t = ![0, min t.val 5] ∧ win0_1.index t = ![0, t.val - 6] ∧ win0_2.index t = ![0, 0] ∧ win0_3.index t = ![t.val + 6, 0] ∧ (grid0.coords t 0).val = t.val)

theorem lt8 (t : Fin cfg0.N) : t.val < 8 := lt_of_lt_of_eq t.isLt (show cfg0.N = 8 from N_0)

/-- The block of point `t`: the transposed panel of the cotangent times the norm's output. -/
theorem block_eq (t : Fin cfg0.N) : outsAt0 m c t = k0_pay2 (k0_pay1 (grid0.coords t) (iblk m c 0 t) (iblk m c 1 t)) (iblk m c 2 t) := by
  unfold outsAt0 out0_A_3
  refine (View.read_writes_eq_canon _ _ _ (cover0_A_3 c (grid0.coords t) (ms0_0 t) (hs0_0 t) (ms0_1 t) (hs0_1 t) (ms0_2 t) (hs0_2 t) (ms0_3 t) (hs0_3 t) scM0_0 (Memref.isWhole_whole _) (hcond0_0 t) (iblk m c 0 t) (iblk m c 1 t) (iblk m c 2 t))).trans ?_
  unfold kernelRun0_A
  dsimp only
  sl_unfold_words
  rw [View.canon_cons_unit_zero (S := S256x1024) zero2, View.readCov_unit_zero (S := S256x4096) _ zero2]
  simp only [View.readAt_eq_ld, (hs0_0 t).read_unread, (hs0_1 t).read_unread, (hs0_2 t).read_unread,
    View.ld_unit_zero (S := S4096x256) zero2, View.ld_unit_zero (S := S4096x1024) zero2]

/-- The panel at an index: the second operand from point 6 on. -/
theorem panel_apply (i : grid0.Coords) (x0 x1 : FVec Ideal S4096x256 .bf16) (r : Fin 256) (s : Fin 4096) :
    k0_pay1 i x0 x1 (ix2 r s) = if 6 ≤ (i 0).val then x1 (ix2 s r) else x0 (ix2 s r) := by
  have hs : ∀ t : Fin 8, Scalar.cmpi .sge (BitVec.ofNat 32 t.val) 6#32 = if 6 ≤ t.val then 1#1 else 0#1 := by decide +kernel
  have hi := hs (i 0)
  unfold k0_pay1
  dsimp only
  rw [hi]
  by_cases h : 6 ≤ (i 0).val
  · rw [if_pos h, if_pos h]; pointwise
  · rw [if_neg h, if_neg h]; pointwise

theorem product_apply (x : FVec Ideal S256x4096 .bf16) (y : FVec Ideal S4096x1024 .bf16) (r : Fin 256) (l : Fin 1024) :
    k0_pay2 x y (ix2 r l) = ∑ s : Fin 4096, (x (ix2 r s) : EReal) * y (ix2 s l) := by
  pointwise [k0_pay2]; try simp

/-- The entries of the cotangents set side by side, at a row of the weights (the mixer's rows begin at 1536). -/
def side (a : S4096x1536.Idx → EReal) (b : S4096x512.Idx → EReal) (s : Fin 4096) (r : Fin 3584) : EReal :=
  if h : r.val < 3072 then a (ix2 s ⟨r.val - 1536, by omega⟩) else b (ix2 s ⟨r.val - 3072, by omega⟩)

/-- What the array holds at the end: the rows of attention as they came in, the mixer's rows with the product. -/
def final (a : S4096x1536.Idx → EReal) (b : S4096x512.Idx → EReal) (u : S4096x1024.Idx → EReal) (w : S3584x1024.Idx → EReal) (r : Fin 3584) (l : Fin 1024) : EReal :=
  if r.val < 1536 then w (ix2 r l) else ∑ s : Fin 4096, side a b s r * u (ix2 s l)

section Side
variable (a : S4096x1536.Idx → EReal) (b : S4096x512.Idx → EReal) (s : Fin 4096) (r : Fin 3584)
theorem side_low (h : r.val < 3072) : side a b s r = a (ix2 s ⟨r.val - 1536, by omega⟩) := dif_pos h
theorem side_high (h : ¬ r.val < 3072) : side a b s r = b (ix2 s ⟨r.val - 3072, by omega⟩) := dif_neg h
end Side
section Final
variable (a : S4096x1536.Idx → EReal) (b : S4096x512.Idx → EReal) (u : S4096x1024.Idx → EReal) (w : S3584x1024.Idx → EReal) (r : Fin 3584) (l : Fin 1024)
theorem final_low (h : r.val < 1536) : final a b u w r l = w (ix2 r l) := if_pos h
theorem final_high (h : ¬ r.val < 1536) : final a b u w r l = ∑ s : Fin 4096, side a b s r * u (ix2 s l) := if_neg h
end Final

theorem blkL (t : Fin cfg0.N) (ht : t.val < 6) (s : Fin 4096) (j : Fin 256) (k : Fin 1536) (hk : k.val = 256 * t.val + j.val) :
    (iblk m c 0 t : S4096x256.Idx → EReal) (ix2 s j) = (V m c main_arg0 : S4096x1536.Idx → EReal) (ix2 s k) := by
  have e : min t.val 5 = t.val := by omega
  have hi := (idx t).1
  rw [e] at hi
  blk_ext [iblk, hi]
theorem blkR (t : Fin cfg0.N) (ht : 6 ≤ t.val) (s : Fin 4096) (j : Fin 256) (k : Fin 512) (hk : k.val = 256 * (t.val - 6) + j.val) :
    (iblk m c 1 t : S4096x256.Idx → EReal) (ix2 s j) = (V m c main_arg1 : S4096x512.Idx → EReal) (ix2 s k) := by
  blk_ext [iblk, idx t]
theorem blkU (t : Fin cfg0.N) (s : Fin 4096) (l : Fin 1024) :
    (iblk m c 2 t : S4096x1024.Idx → EReal) (ix2 s l) = (V m c main_arg2 : S4096x1024.Idx → EReal) (ix2 s l) := by
  blk_ext [iblk, idx t]

/-- The block of point `t` at an index. -/
theorem block_apply (t : Fin cfg0.N) (j : Fin 256) (l : Fin 1024) (r : Fin 3584) (hr : r.val = 256 * (t.val + 6) + j.val) :
    outsAt0 m c t (ix2 j l) = ∑ s : Fin 4096, side (V m c main_arg0) (V m c main_arg1) s r * (V m c main_arg2 : S4096x1024.Idx → EReal) (ix2 s l) := by
  have ht := lt8 t
  rw [block_eq, product_apply]
  refine Finset.sum_congr rfl fun s _ => ?_
  rw [panel_apply, (idx t).2.2.2.2, blkU]
  refine congrArg (· * _) ?_
  unfold side
  by_cases h : 6 ≤ t.val
  · rw [if_pos h, dif_neg (by omega)]
    exact blkR m c t h s j _ (by show r.val - 3072 = _; omega)
  · rw [if_neg h, dif_pos (by omega)]
    exact blkL m c t (by omega) s j _ (by show r.val - 1536 = _; omega)

/-- The result array at an index. -/
theorem result (r : Fin 3584) (l : Fin 1024) :
    ((dats m 0 c).arrAt 3 cfg0.N : S3584x1024.Idx → EReal) (ix2 r l) = final (V m c main_arg0) (V m c main_arg1) (V m c main_arg2) (V m c main_arg3) r l := by
  unfold final
  by_cases h : r.val < 1536
  · rw [if_pos h]
    refine (entry3 m c (ix2 r l) fun t _ hm => ?_).trans ?_
    · obtain ⟨y, -, hy⟩ := Finset.mem_map.mp hm
      have h0 := congrArg (fun z : S3584x1024.Idx => (z 0).val) hy
      have h1 : ((((cfg0.win 3).blk t).view.emb y : S3584x1024.Idx) 0).val = 256 * (t.val + 6) + (y 0).val := by
        blk_simp
        simp [idx t]
        omega
      have h2 : ((((cfg0.win 3).blk t).view.emb y : S3584x1024.Idx) 0).val = r.val := h0
      omega
    · rfl
  · rw [if_neg h]
    let t : Fin cfg0.N := ⟨r.val / 256 - 6, lt_of_lt_of_eq (show r.val / 256 - 6 < 8 by omega) (show 8 = cfg0.N from N_0.symm)⟩
    let j : Fin 256 := ⟨r.val % 256, by omega⟩
    have ht : t.val = r.val / 256 - 6 := rfl
    have hj : j.val = r.val % 256 := rfl
    have e := congrFun (blocks3 m c t (flush0_3 t)) (ix2 j l)
    rw [flushed3] at e
    refine Eq.trans ?_ ((e.trans ?_).trans (block_apply m c t j l r (by omega)))
    · symm
      blk_ext [idx t]
    · blk_ext [idx t]

end Cert.DwIn

namespace Cert.DwIn

open Idealize.ShloMosaic Idealize.ShloMosaic.TcCoe Cert.Reference6Ideal Cert.Reference6Ideal.Gen

/-- The reference's operations on its four arguments. -/
def refTerm (a : FVec Ideal S4096x1536 .bf16) (b : FVec Ideal S4096x512 .bf16) (u : FVec Ideal S4096x1024 .bf16) (w : FVec Ideal S3584x1024 .bf16) : FVec Ideal S3584x1024 .bf16 :=
  concatenate S3584x1024 0 [⟨S1536x1024, (extractStridedSlice S1536x1024 ![0, 0] w slices_S3584x1024_S1536x1024_0_0)⟩, ⟨S2048x1024, (truncf .bf16 (transpose S2048x1024 [1, 0] (transpose S1024x2048 [1, 0] (Host.dotGeneral dot_S4096x2048_S4096x1024_S2048x1024_0_0_1_1_n_n none (addf (pad S4096x2048 ![0, 1536] ![0, 0] ![0, 0] (extf .f32 b bitsLt_bf16_f32) (constant S_ .f32 0x00000000#32) pads_S4096x512_S4096x2048_000_153600 h_S_) (pad S4096x2048 ![0, 0] ![0, 512] ![0, 0] (extf .f32 a bitsLt_bf16_f32) (constant S_ .f32 0x00000000#32) pads_S4096x1536_S4096x2048_000_05120 h_S_)) (extf .f32 u bitsLt_bf16_f32)) transposes_S2048x1024_S1024x2048_1_0) transposes_S1024x2048_S2048x1024_1_0) bitsLt_bf16_f32)⟩] concatenates_S1536x1024_S2048x1024_S3584x1024_d0

theorem refTerm_apply (a : FVec Ideal S4096x1536 .bf16) (b : FVec Ideal S4096x512 .bf16) (u : FVec Ideal S4096x1024 .bf16) (w : FVec Ideal S3584x1024 .bf16) (r : Fin 3584) (l : Fin 1024) :
    (refTerm a b u w (ix2 r l) : EReal) = final a b u w r l := by
  pointwise [refTerm]
  by_cases h : r.val < 1536
  · rw [dif_pos h]
    exact (final_low a b u w r l h).symm
  · rw [dif_neg h]
    refine Eq.trans ?_ (final_high a b u w r l h).symm
    refine Finset.sum_congr rfl fun s _ => ?_
    refine congrArg (fun z : EReal => z * (u (ix2 s l) : EReal)) ?_
    by_cases h' : r.val < 3072
    · have h1 : ¬ (1536 ≤ r.val - 1536 ∧ r.val - 1536 - 1536 < 512) := by omega
      have h2 : r.val - 1536 < 1536 := by omega
      refine Eq.trans ?_ (side_low a b s r h').symm
      exact (congrArg₂ (· + ·) (dif_neg h1) (dif_pos h2)).trans (zero_add _)
    · have hr := r.isLt
      have h1 : 1536 ≤ r.val - 1536 ∧ r.val - 1536 - 1536 < 512 := by omega
      have h2 : ¬ r.val - 1536 < 1536 := by omega
      refine Eq.trans ?_ (side_high a b s r h').symm
      refine ((congrArg₂ (· + ·) (dif_pos h1) (dif_neg h2)).trans (add_zero _)).trans ?_
      exact congrArg (fun z => (b (ix2 s z) : EReal)) (Fin.ext (by show r.val - 1536 - 1536 = r.val - 3072; omega))

end Cert.DwIn

end
-- ==== Proof.DuNorm.lean ====
/- The gradient of the second norm's input: what a point of the kernel leaves in its three blocks. -/
module

public import proofs.«01_k».proof.Proof.Gen.Kernel2Ideal.Value
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DuNorm

open Idealize.ShloMosaic Idealize.ShloMosaic.TcCoe Idealize.SL.Sem Cert.Kernel2Ideal Cert.Kernel2Ideal.Gen

variable {F : FTy → Type} [FloatOps F]

theorem zero2 : (![0, 0] : Fin 2 → ℕ) = fun _ => 0 := by funext a; fin_cases a <;> rfl

/-- The two halves of a block of 512 rows, and of the 5632 rows of the weights. -/
def dTop (x : Vec F S512x2816 .bf16) : Vec F S256x2816 .bf16 := View.ld x (Rect.unit (s := S512x2816) ![0, 0] S256x2816.size inb_S512x2816_S256x2816_0_0)
def dBot (x : Vec F S512x2816 .bf16) : Vec F S256x2816 .bf16 := View.ld x (Rect.unit (s := S512x2816) ![256, 0] S256x2816.size inb_S512x2816_S256x2816_256_0)
def wTop (x : Vec F S5632x1024 .bf16) : Vec F S2816x1024 .bf16 := View.ld x (Rect.unit (s := S5632x1024) ![0, 0] S2816x1024.size inb_S5632x1024_S2816x1024_0_0)
def wBot (x : Vec F S5632x1024 .bf16) : Vec F S2816x1024 .bf16 := View.ld x (Rect.unit (s := S5632x1024) ![2816, 0] S2816x1024.size inb_S5632x1024_S2816x1024_2816_0)
def hTop (x : Vec F S512x1024 .f32) : Vec F S256x1024 .f32 := View.ld x (Rect.unit (s := S512x1024) ![0, 0] S256x1024.size inb_S512x1024_S256x1024_0_0)
def hBot (x : Vec F S512x1024 .f32) : Vec F S256x1024 .f32 := View.ld x (Rect.unit (s := S512x1024) ![256, 0] S256x1024.size inb_S512x1024_S256x1024_256_0)

section Terms
variable (x0 : Vec F S512x2816 .bf16) (x1 : Vec F S512x2816 .bf16) (x2 : Vec F S5632x1024 .bf16) (x3 : Vec F S512x1024 .f32) (x4 : Vec F S1x1024 .f32) (x5 : Vec F S512x1024 .f32)

/-- The cotangent of the norm's output, by halves. -/
def duTop : FVec F S256x1024 .f32 := k0_pay5 (dTop x0) (wTop x2) (dTop x1) (wBot x2)
def duBot : FVec F S256x1024 .f32 := k0_pay6 (dBot x0) (wTop x2) (dBot x1) (wBot x2)
/-- The gradient of the residual stream, by halves. -/
def outTop : FVec F S256x1024 .f32 := k0_pay11 (k0_pay7 (hTop x3)) (k0_pay8 (hTop x3)) (k0_pay9 (dTop x0) (wTop x2) (dTop x1) (wBot x2) x4) (k0_pay10 (dTop x0) (wTop x2) (dTop x1) (wBot x2) (hTop x3) x4) (hTop x5)
def outBot : FVec F S256x1024 .f32 := k0_pay1 (k0_pay16 (duBot x0 x1 x2) (hBot x3) x4) (hBot x5)
/-- The gradient of the gains over the rows of the block. -/
def gains : FVec F S1x1024 .f32 := k0_pay3 (k0_pay13 (duTop x0 x1 x2) (k0_pay8 (hTop x3))) (k0_pay17 (duBot x0 x1 x2) (hBot x3))
end Terms

def pieces6 (t b : FVec F S256x1024 .f32) : List (View.Piece (Elt F) S512x1024 .f32) :=
  [⟨Rect.unit (s := S512x1024) ![256, 0] S256x1024.size inb_S512x1024_S256x1024_256_0, b⟩, ⟨Rect.unit (s := S512x1024) ![0, 0] S256x1024.size inb_S512x1024_S256x1024_0_0, t⟩]
def pieces7 (t b : FVec F S256x1024 .bf16) : List (View.Piece (Elt F) S512x1024 .bf16) :=
  [⟨Rect.unit (s := S512x1024) ![256, 0] S256x1024.size inb_S512x1024_S256x1024_256_0, b⟩, ⟨Rect.unit (s := S512x1024) ![0, 0] S256x1024.size inb_S512x1024_S256x1024_0_0, t⟩]

theorem outA6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i) (hc1 : ¬cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) :
    out0_A_6 c i arg1 harg1 arg2 harg2 arg3 harg3 arg4 harg4 arg5 harg5 arg6 harg6 arg7 harg7 arg8 harg8 arg9 harg9 hc0 hc1 x0 x1 x2 x3 x4 x5 = View.canon (pieces6 (outTop x0 x1 x2 x3 x4 x5) (outBot x0 x1 x2 x3 x4 x5)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg9.read_unread, View.ld_unit_zero (S := S1x1024) zero2]
  rfl

theorem outA7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i) (hc1 : ¬cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) :
    out0_A_7 c i arg1 harg1 arg2 harg2 arg3 harg3 arg4 harg4 arg5 harg5 arg6 harg6 arg7 harg7 arg8 harg8 arg9 harg9 hc0 hc1 x0 x1 x2 x3 x4 x5 = View.canon (pieces7 (truncf .bf16 (outTop x0 x1 x2 x3 x4 x5) bitsLt_bf16_f32) (truncf .bf16 (outBot x0 x1 x2 x3 x4 x5) bitsLt_bf16_f32)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg9.read_unread, View.ld_unit_zero (S := S1x1024) zero2]
  rfl

theorem outA8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i) (hc1 : ¬cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) :
    out0_A_8 c i arg1 harg1 arg2 harg2 arg3 harg3 arg4 harg4 arg5 harg5 arg6 harg6 arg7 harg7 arg8 harg8 arg9 harg9 hc0 hc1 x0 x1 x2 x3 x4 x5 = gains x0 x1 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1024) zero2]
  skip
  simp only [View.readAt_eq_ld, harg1.read_unread, harg2.read_unread, harg3.read_unread, harg4.read_unread, harg5.read_unread, harg6.read_unread, harg9.read_unread, View.ld_unit_zero (S := S1x1024) zero2]
  skip
  rfl

theorem outB6 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i) (hc1 : cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) (xo8 : Vec F S1x1024 .f32) :
    out0_B_6 c i arg1 harg1 arg2 harg2 arg3 harg3 arg4 harg4 arg5 harg5 arg6 harg6 arg7 harg7 arg8 harg8 arg9 harg9 hc0 hc1 x0 x1 x2 x3 x4 x5 xo8 = View.canon (pieces6 (outTop x0 x1 x2 x3 x4 x5) (outBot x0 x1 x2 x3 x4 x5)) := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 x5 xo8)]
  unfold kernelRun0_B
  dsimp only
  sl_unfold_words
  simp only [View.readAt_eq_ld, harg1.read_unread, harg2.read_unread, harg3.read_unread, harg4.read_unread, harg5.read_unread, harg6.read_unread, harg9.read_unread, View.ld_unit_zero (S := S1x1024) zero2]
  rfl

theorem outB7 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i) (hc1 : cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) (xo8 : Vec F S1x1024 .f32) :
    out0_B_7 c i arg1 harg1 arg2 harg2 arg3 harg3 arg4 harg4 arg5 harg5 arg6 harg6 arg7 harg7 arg8 harg8 arg9 harg9 hc0 hc1 x0 x1 x2 x3 x4 x5 xo8 = View.canon (pieces7 (truncf .bf16 (outTop x0 x1 x2 x3 x4 x5) bitsLt_bf16_f32) (truncf .bf16 (outBot x0 x1 x2 x3 x4 x5) bitsLt_bf16_f32)) := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 x5 xo8)]
  unfold kernelRun0_B
  dsimp only
  sl_unfold_words
  simp only [View.readAt_eq_ld, harg1.read_unread, harg2.read_unread, harg3.read_unread, harg4.read_unread, harg5.read_unread, harg6.read_unread, harg9.read_unread, View.ld_unit_zero (S := S1x1024) zero2]
  rfl

theorem outB8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i) (hc1 : cond0_1 i)
    (x0 : Vec F S512x2816 .bf16) (x1 : Vec F S512x2816 .bf16) (x2 : Vec F S5632x1024 .bf16) (x3 : Vec F S512x1024 .f32) (x4 : Vec F S1x1024 .f32) (x5 : Vec F S512x1024 .f32) (xo8 : Vec F S1x1024 .f32) :
    out0_B_8 c i arg1 harg1 arg2 harg2 arg3 harg3 arg4 harg4 arg5 harg5 arg6 harg6 arg7 harg7 arg8 harg8 arg9 harg9 hc0 hc1 x0 x1 x2 x3 x4 x5 xo8 = addf xo8 (gains x0 x1 x2 x3) := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 x5 xo8)]
  unfold kernelRun0_B
  dsimp only
  sl_unfold_words
  rw [View.canon_cons_unit_zero (S := S1x1024) zero2]
  unfold k0_pay4
  simp only [View.readAt_eq_ld, harg1.read_unread, harg2.read_unread, harg3.read_unread, harg4.read_unread, harg5.read_unread, harg6.read_unread, harg9.read_unread, View.ld_unit_zero (S := S1x1024) zero2]
  rw [shapeCast_self]
  rfl

end Cert.DuNorm

end
-- ==== Proof.NormGrad.lean ====
/- The gradient of the root-mean-square norm at one row, over the extended reals: the form the kernel computes and the form
   the derivative's operations compute are equal for every row, infinite entries included. -/
module

public import Idealize.ShloMosaic.Lib.IdealHost
public import Idealize.ShloMosaic.Lib.Pointwise

@[expose] public section

noncomputable section

namespace Cert.NormGrad

open Idealize.ShloMosaic

theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_eps : ∃ e : ℝ, 0 < e ∧ Ideal.ofBits .f32 0x358637BD#32 = (e : EReal) := by
  refine ⟨(1 + 407485 / 8388608) * (2 : ℝ) ^ (-20 : ℤ), by positivity, ?_⟩
  simp [Ideal.ofBits, Ideal.ieee, -EReal.coe_mul]; norm_num

variable (x d : Fin 1024 → EReal)

/-- The mean square and the small constant. -/
def ms : EReal := Ideal.div (∑ l, x l * x l) (Ideal.ofBits .f32 0x44800000#32) + Ideal.ofBits .f32 0x358637BD#32

/-- The kernel's gradient: the part of `d` across the normalised row, scaled back. -/
def across (l : Fin 1024) : EReal :=
  Ideal.rsqrt (ms x) * (d l - x l * Ideal.rsqrt (ms x) * Ideal.div (∑ j, d j * (x j * Ideal.rsqrt (ms x))) (Ideal.ofBits .f32 0x44800000#32))

/-- The derivative of the mean square, as the operations of the derivative compute it: one of its two equal halves. -/
def half : EReal :=
  Ideal.div ((∑ j, x j * d j) * (Ideal.ofBits .f32 0xBF000000#32 * Ideal.div (Ideal.rsqrt (ms x)) (ms x))) (Ideal.ofBits .f32 0x44800000#32)

theorem sum_mul (c : ℝ) (hc : 0 ≤ c) (f : Fin 1024 → EReal) : ∑ j, f j * (c : EReal) = (∑ j, f j) * (c : EReal) := by
  classical
  have h : ∀ s : Finset (Fin 1024), ∑ j ∈ s, f j * (c : EReal) = (∑ j ∈ s, f j) * (c : EReal) := by
    intro s
    induction s using Finset.induction_on with
    | empty => simp
    | insert a s ha ih => rw [Finset.sum_insert ha, Finset.sum_insert ha, ih, EReal.right_distrib_of_nonneg_of_ne_top (EReal.coe_nonneg.mpr hc) (EReal.coe_ne_top c)]
  exact h _

theorem sq_nonneg' (a : EReal) : 0 ≤ a * a := by
  induction a with
  | bot => simp
  | top => simp
  | coe r => rw [← EReal.coe_mul]; exact EReal.coe_nonneg.mpr (mul_self_nonneg r)

/-- A mean square that is not infinite is a positive real, and the row's entries are real. -/
theorem ms_cases : ms x = ⊤ ∨ ∃ v : ℝ, 0 < v ∧ ms x = (v : EReal) ∧ ∀ l, ∃ a : ℝ, x l = (a : EReal) := by
  obtain ⟨e, he, hE⟩ := lit_eps
  have hm : ms x = (∑ l, x l * x l) * ((1 / 1024 : ℝ) : EReal) + (e : EReal) := by
    unfold ms; rw [lit_1024, Ideal.div_coe (by norm_num), hE]
  have h0 : 0 ≤ ∑ l, x l * x l := Finset.sum_nonneg fun l _ => sq_nonneg' (x l)
  rw [hm]
  generalize hS : ∑ l, x l * x l = S at *
  induction S with
  | bot => simp at h0
  | top => left; rw [EReal.top_mul_coe_of_pos (by norm_num)]; exact EReal.top_add_coe e
  | coe s =>
    right
    have hs : 0 ≤ s := EReal.coe_nonneg.mp h0
    refine ⟨s * (1 / 1024) + e, by positivity, by norm_cast, fun l => ?_⟩
    have hle : x l * x l ≤ (s : EReal) := by
      rw [← hS]; exact Finset.single_le_sum (f := fun l => x l * x l) (fun l _ => sq_nonneg' (x l)) (Finset.mem_univ l)
    generalize x l = a at hle
    induction a with
    | bot => simp at hle
    | top => simp at hle
    | coe r => exact ⟨r, rfl⟩

theorem twice (a : ℝ) (T : EReal) : (a : EReal) * T + (a : EReal) * T = ((2 * a : ℝ) : EReal) * T := by
  have h := EReal.right_distrib_of_nonneg (a := 1) (b := 1) (c := (a : EReal) * T) (by norm_num) (by norm_num)
  rw [one_mul] at h
  rw [← h, ← mul_assoc]
  refine congrArg (· * T) ?_
  norm_num
  norm_cast

/-- The two forms, with the gradient that passes beside the norm. -/
theorem forms (h : EReal) (l : Fin 1024) :
    h + across x d l = h + d l * Ideal.rsqrt (ms x) + x l * half x d + half x d * x l := by
  rcases ms_cases x with hv | ⟨v, hv0, hv, hx⟩
  · have hr : Ideal.rsqrt (ms x) = 0 := by rw [hv]; rfl
    have hz : half x d = 0 := by
      unfold half
      rw [hr, lit_1024, Ideal.div_coe (by norm_num), hv]
      simp [Ideal.div]
    unfold across
    rw [hr, hz]; simp
  · have hs : Real.sqrt v ≠ 0 := (Real.sqrt_pos.mpr hv0).ne'
    have hr : Ideal.rsqrt (ms x) = (((Real.sqrt v)⁻¹ : ℝ) : EReal) := by
      rw [hv, Ideal.rsqrt_coe, if_neg (not_lt.mpr hv0.le), if_neg hv0.ne']
    have hp : 0 ≤ (Real.sqrt v)⁻¹ := by positivity
    set ρ : ℝ := (Real.sqrt v)⁻¹ with hρ
    obtain ⟨a, ha⟩ := hx l
    have hT : ∑ j, d j * (x j * (ρ : EReal)) = (∑ j, x j * d j) * (ρ : EReal) := by
      rw [← sum_mul ρ hp]
      exact Finset.sum_congr rfl fun j _ => by rw [← mul_assoc, mul_comm (d j)]
    have hvr : v⁻¹ = ρ * ρ := by rw [hρ, ← mul_inv, Real.mul_self_sqrt hv0.le]
    unfold across half
    rw [hr, hT, ha, hv, lit_1024, lit_neg_half]
    simp only [Ideal.div_coe (show (1024 : ℝ) ≠ 0 by norm_num), Ideal.div_coe hv0.ne']
    generalize ∑ j, x j * d j = T
    have e1 : (a : EReal) * (ρ : EReal) * (T * (ρ : EReal) * ((1 / 1024 : ℝ) : EReal)) = ((a * ρ * ρ * (1 / 1024) : ℝ) : EReal) * T := by
      simp only [EReal.coe_mul]; ac_rfl
    have e2 : (a : EReal) * (T * (((-(1 / 2) : ℝ) : EReal) * ((ρ : EReal) * ((1 / v : ℝ) : EReal))) * ((1 / 1024 : ℝ) : EReal))
        = ((a * (-(1 / 2)) * ρ * (1 / v) * (1 / 1024) : ℝ) : EReal) * T := by
      simp only [EReal.coe_mul]; ac_rfl
    rw [e1, mul_comm _ (a : EReal), e2, sub_eq_add_neg, ← EReal.neg_mul, ← EReal.coe_neg,
      EReal.left_distrib_of_nonneg_of_ne_top (EReal.coe_nonneg.mpr hp) (EReal.coe_ne_top ρ), add_assoc (h + _), twice, ← add_assoc, mul_comm (ρ : EReal) (d l), ← mul_assoc,
      ← EReal.coe_mul]
    congr 3
    rw [one_div v, hvr]; ring

end Cert.NormGrad

end
-- ==== Proof.DuNormOut.lean ====
/- The gradient of the second norm's input: the three arrays the kernel leaves, read at an index. -/
module

public import proofs.«01_k».proof.Proof.DuNorm
public import proofs.«01_k».proof.Proof.NormGrad

@[expose] public section

noncomputable section

namespace Cert.DuNorm

open Idealize.ShloMosaic Idealize.ShloMosaic.TcCoe Idealize.SL.Sem Cert.Kernel2Ideal Cert.Kernel2Ideal.Gen Cert.Kernel2Ideal.Value Cert.NormGrad

section Halves
variable {F : FTy → Type} [FloatOps F]

/-- Row `r` of half `b` of 512 rows. -/
def hrow (b : Fin 2) (r : Fin 256) : Fin 512 := ⟨256 * b.val + r.val, by omega⟩
/-- Row `k` of half `b` of the weights. -/
def wrow (b : Fin 2) (k : Fin 2816) : Fin 5632 := ⟨2816 * b.val + k.val, by omega⟩

theorem dTop_apply (x : Vec F S512x2816 .bf16) (r : Fin 256) (k : Fin 2816) : dTop x (ix2 r k) = x (ix2 (hrow 0 r) k) :=
  View.ld_unit_apply_of x _ _ _ (ix2 r k) (ix2 (hrow 0 r) k) fun a => by
    match a with
    | ⟨0, _⟩ => show 256 * 0 + r.val = 0 + r.val; omega
    | ⟨1, _⟩ => show k.val = 0 + k.val; omega
theorem dBot_apply (x : Vec F S512x2816 .bf16) (r : Fin 256) (k : Fin 2816) : dBot x (ix2 r k) = x (ix2 (hrow 1 r) k) :=
  View.ld_unit_apply_of x _ _ _ (ix2 r k) (ix2 (hrow 1 r) k) fun a => by
    match a with
    | ⟨0, _⟩ => show 256 * 1 + r.val = 256 + r.val; omega
    | ⟨1, _⟩ => show k.val = 0 + k.val; omega
theorem wTop_apply (x : Vec F S5632x1024 .bf16) (r : Fin 2816) (k : Fin 1024) : wTop x (ix2 r k) = x (ix2 (wrow 0 r) k) :=
  View.ld_unit_apply_of x _ _ _ (ix2 r k) (ix2 (wrow 0 r) k) fun a => by
    match a with
    | ⟨0, _⟩ => show 2816 * 0 + r.val = 0 + r.val; omega
    | ⟨1, _⟩ => show k.val = 0 + k.val; omega
theorem wBot_apply (x : Vec F S5632x1024 .bf16) (r : Fin 2816) (k : Fin 1024) : wBot x (ix2 r k) = x (ix2 (wrow 1 r) k) :=
  View.ld_unit_apply_of x _ _ _ (ix2 r k) (ix2 (wrow 1 r) k) fun a => by
    match a with
    | ⟨0, _⟩ => show 2816 * 1 + r.val = 2816 + r.val; omega
    | ⟨1, _⟩ => show k.val = 0 + k.val; omega
theorem hTop_apply (x : Vec F S512x1024 .f32) (r : Fin 256) (k : Fin 1024) : hTop x (ix2 r k) = x (ix2 (hrow 0 r) k) :=
  View.ld_unit_apply_of x _ _ _ (ix2 r k) (ix2 (hrow 0 r) k) fun a => by
    match a with
    | ⟨0, _⟩ => show 256 * 0 + r.val = 0 + r.val; omega
    | ⟨1, _⟩ => show k.val = 0 + k.val; omega
theorem hBot_apply (x : Vec F S512x1024 .f32) (r : Fin 256) (k : Fin 1024) : hBot x (ix2 r k) = x (ix2 (hrow 1 r) k) :=
  View.ld_unit_apply_of x _ _ _ (ix2 r k) (ix2 (hrow 1 r) k) fun a => by
    match a with
    | ⟨0, _⟩ => show 256 * 1 + r.val = 256 + r.val; omega
    | ⟨1, _⟩ => show k.val = 0 + k.val; omega

/-- The two stores of a block, read back. -/
theorem canon6 (t b : FVec F S256x1024 .f32) (h : Fin 2) (r : Fin 256) (l : Fin 1024) :
    View.canon (pieces6 t b) (ix2 (hrow h r) l) = if h = 0 then t (ix2 r l) else b (ix2 r l) := by
  unfold pieces6
  match h with
  | 0 =>
    rw [View.canon_cons_of_not_mem _ _ fun hm => ?_, if_pos rfl]
    · have hy : (Rect.unit (s := S512x1024) ![0, 0] S256x1024.size inb_S512x1024_S256x1024_0_0).emb (ix2 r l) = ix2 (hrow 0 r) l := by
        funext a; apply Fin.ext
        match a with
        | ⟨0, _⟩ => show 0 + 1 * r.val = 256 * 0 + r.val; omega
        | ⟨1, _⟩ => show 0 + 1 * l.val = l.val; omega
      rw [← hy]; exact View.canon_cons_emb _ _ _ _
    · have e1 : 256 ≤ 256 * 0 + r.val ∧ _ := (Rect.mem_set_unit (inb := inb_S512x1024_S256x1024_256_0)).mp hm 0
      have := r.isLt
      omega
  | 1 =>
    rw [if_neg (by decide)]
    have hy : (Rect.unit (s := S512x1024) ![256, 0] S256x1024.size inb_S512x1024_S256x1024_256_0).emb (ix2 r l) = ix2 (hrow 1 r) l := by
      funext a; apply Fin.ext
      match a with
      | ⟨0, _⟩ => show 256 + 1 * r.val = 256 * 1 + r.val; omega
      | ⟨1, _⟩ => show 0 + 1 * l.val = l.val; omega
    rw [← hy]; exact View.canon_cons_emb _ _ _ _
theorem canon7 (t b : FVec F S256x1024 .bf16) (h : Fin 2) (r : Fin 256) (l : Fin 1024) :
    View.canon (pieces7 t b) (ix2 (hrow h r) l) = if h = 0 then t (ix2 r l) else b (ix2 r l) := by
  unfold pieces7
  match h with
  | 0 =>
    rw [View.canon_cons_of_not_mem _ _ fun hm => ?_, if_pos rfl]
    · have hy : (Rect.unit (s := S512x1024) ![0, 0] S256x1024.size inb_S512x1024_S256x1024_0_0).emb (ix2 r l) = ix2 (hrow 0 r) l := by
        funext a; apply Fin.ext
        match a with
        | ⟨0, _⟩ => show 0 + 1 * r.val = 256 * 0 + r.val; omega
        | ⟨1, _⟩ => show 0 + 1 * l.val = l.val; omega
      rw [← hy]; exact View.canon_cons_emb _ _ _ _
    · have e1 : 256 ≤ 256 * 0 + r.val ∧ _ := (Rect.mem_set_unit (inb := inb_S512x1024_S256x1024_256_0)).mp hm 0
      have := r.isLt
      omega
  | 1 =>
    rw [if_neg (by decide)]
    have hy : (Rect.unit (s := S512x1024) ![256, 0] S256x1024.size inb_S512x1024_S256x1024_256_0).emb (ix2 r l) = ix2 (hrow 1 r) l := by
      funext a; apply Fin.ext
      match a with
      | ⟨0, _⟩ => show 256 + 1 * r.val = 256 * 1 + r.val; omega
      | ⟨1, _⟩ => show 0 + 1 * l.val = l.val; omega
    rw [← hy]; exact View.canon_cons_emb _ _ _ _
end Halves

/-- The cotangent of the norm's output at a row: the two halves of the product. -/
def du (x0 x1 : Fin 2816 → EReal) (w : S5632x1024.Idx → EReal) (l : Fin 1024) : EReal :=
  ∑ k, x0 k * w (ix2 (wrow 0 k) l) + ∑ k, x1 k * w (ix2 (wrow 1 k) l)

section Point
variable (x0 x1 : FVec Ideal S512x2816 .bf16) (x2 : FVec Ideal S5632x1024 .bf16) (x3 : FVec Ideal S512x1024 .f32) (x4 : FVec Ideal S1x1024 .f32) (x5 : FVec Ideal S512x1024 .f32)

theorem outTop_apply (r : Fin 256) (l : Fin 1024) : outTop x0 x1 x2 x3 x4 x5 (ix2 r l)
    = x5 (ix2 (hrow 0 r) l) + across (fun l => x3 (ix2 (hrow 0 r) l)) (fun l => du (fun k => x0 (ix2 (hrow 0 r) k)) (fun k => x1 (ix2 (hrow 0 r) k)) x2 l * x4 (ix2 0 l)) l := by
  pointwise [outTop, k0_pay11, k0_pay10, k0_pay9, k0_pay8, k0_pay7, k0_pay5]
  simp only [dTop_apply, wTop_apply, wBot_apply, hTop_apply]
  rfl
theorem outBot_apply (r : Fin 256) (l : Fin 1024) : outBot x0 x1 x2 x3 x4 x5 (ix2 r l)
    = x5 (ix2 (hrow 1 r) l) + across (fun l => x3 (ix2 (hrow 1 r) l)) (fun l => du (fun k => x0 (ix2 (hrow 1 r) k)) (fun k => x1 (ix2 (hrow 1 r) k)) x2 l * x4 (ix2 0 l)) l := by
  pointwise [outBot, k0_pay1, k0_pay16, k0_pay15, k0_pay14, duBot, k0_pay6]
  simp only [dBot_apply, wTop_apply, wBot_apply, hBot_apply]
  rfl

/-- One row's share of the gradient of the gains. -/
def gain (x d : Fin 1024 → EReal) (l : Fin 1024) : EReal := d l * (x l * Ideal.rsqrt (ms x))

theorem gains_apply (l : Fin 1024) : (gains (F := Ideal) x0 x1 x2 x3 (ix2 0 l) : EReal)
    = ∑ r : Fin 512, gain (fun l => x3 (ix2 r l)) (du (fun k => x0 (ix2 r k)) (fun k => x1 (ix2 r k)) x2) l := by
  have e : ∀ f : Fin 512 → EReal, ∑ r, f r = ∑ r, f (hrow 0 r) + ∑ r, f (hrow 1 r) := by
    intro f
    refine (Fin.sum_univ_add (a := 256) (b := 256) f).trans ?_
    refine congrArg₂ (· + ·) (Finset.sum_congr rfl fun r _ => congrArg f (Fin.ext ?_)) (Finset.sum_congr rfl fun r _ => congrArg f (Fin.ext ?_))
    · show r.val = 256 * 0 + r.val; omega
    · show 256 + r.val = 256 * 1 + r.val; omega
  rw [e]
  pointwise [gains, k0_pay3, k0_pay13, k0_pay17, k0_pay15, k0_pay14, duBot, duTop, k0_pay5, k0_pay6, k0_pay7, k0_pay8]
  simp only [dTop_apply, dBot_apply, wTop_apply, wBot_apply, hTop_apply, hBot_apply]
  rfl
end Point

/-! ## The arrays -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0])

theorem lt8 (t : Fin cfg0.N) : t.val < 8 := lt_of_lt_of_eq t.isLt (show cfg0.N = 8 from N_0)

/-- Row `r` of block `t` of the 4096 rows. -/
def brow (t : ℕ) (r : Fin 512) : Fin 4096 := ⟨(512 * t + r.val) % 4096, Nat.mod_lt _ (by decide)⟩
theorem brow_val (t : Fin cfg0.N) (r : Fin 512) : (brow t.val r).val = 512 * t.val + r.val := by
  have := lt8 t
  show (512 * t.val + r.val) % 4096 = _; omega

section Blocks
variable (t : Fin cfg0.N) (r : Fin 512)
theorem blk0 (k : Fin 2816) : (iblk m c 0 t : S512x2816.Idx → EReal) (ix2 r k) = (V m c main_arg0 : S4096x2816.Idx → EReal) (ix2 (brow t.val r) k) := by
  have hb := brow_val t r
  blk_ext [iblk, idx t]
theorem blk1 (k : Fin 2816) : (iblk m c 1 t : S512x2816.Idx → EReal) (ix2 r k) = (V m c main_arg1 : S4096x2816.Idx → EReal) (ix2 (brow t.val r) k) := by
  have hb := brow_val t r
  blk_ext [iblk, idx t]
theorem blk2 : (iblk m c 2 t : S5632x1024.Idx → EReal) = (V m c main_arg2 : S5632x1024.Idx → EReal) := by
  funext y
  blk_ext [iblk, idx t]
theorem blk3 (k : Fin 1024) : (iblk m c 3 t : S512x1024.Idx → EReal) (ix2 r k) = (V m c main_arg3 : S4096x1024.Idx → EReal) (ix2 (brow t.val r) k) := by
  have hb := brow_val t r
  blk_ext [iblk, idx t]
theorem blk4 (k : Fin 1024) : (iblk m c 4 t : S1x1024.Idx → EReal) (ix2 0 k) = (V m c main_arg4 : S1x1024.Idx → EReal) (ix2 0 k) := by
  blk_ext [iblk, idx t]
theorem blk5 (k : Fin 1024) : (iblk m c 5 t : S512x1024.Idx → EReal) (ix2 r k) = (V m c main_arg5 : S4096x1024.Idx → EReal) (ix2 (brow t.val r) k) := by
  have hb := brow_val t r
  blk_ext [iblk, idx t]
end Blocks

/-- The cotangent of the norm's output and the input of the norm, at a row of the arrays. -/
def duAt (s : Fin 4096) : Fin 1024 → EReal :=
  du (fun k => (V m c main_arg0 : S4096x2816.Idx → EReal) (ix2 s k)) (fun k => (V m c main_arg1 : S4096x2816.Idx → EReal) (ix2 s k)) (V m c main_arg2)
def xAt (s : Fin 4096) (l : Fin 1024) : EReal := (V m c main_arg3 : S4096x1024.Idx → EReal) (ix2 s l)
def gAt (l : Fin 1024) : EReal := (V m c main_arg4 : S1x1024.Idx → EReal) (ix2 0 l)
def dhAt (s : Fin 4096) (l : Fin 1024) : EReal := (V m c main_arg5 : S4096x1024.Idx → EReal) (ix2 s l)
/-- The gradient of the residual stream at a row. -/
def outAt (s : Fin 4096) (l : Fin 1024) : EReal :=
  dhAt m c s l + across (xAt m c s) (fun l => duAt m c s l * gAt m c l) l

/-- What point `t` leaves: the pieces of both row blocks, and the running gradient of the gains. -/
theorem left (t : Fin cfg0.N) :
    ∃ acc : FVec Ideal S1x1024 .f32,
      outsAt0 m c t.val t.isLt = (View.canon (pieces6 (outTop (iblk m c 0 t) (iblk m c 1 t) (iblk m c 2 t) (iblk m c 3 t) (iblk m c 4 t) (iblk m c 5 t)) (outBot (iblk m c 0 t) (iblk m c 1 t) (iblk m c 2 t) (iblk m c 3 t) (iblk m c 4 t) (iblk m c 5 t))),
        View.canon (pieces7 (truncf .bf16 (outTop (iblk m c 0 t) (iblk m c 1 t) (iblk m c 2 t) (iblk m c 3 t) (iblk m c 4 t) (iblk m c 5 t)) bitsLt_bf16_f32) (truncf .bf16 (outBot (iblk m c 0 t) (iblk m c 1 t) (iblk m c 2 t) (iblk m c 3 t) (iblk m c 4 t) (iblk m c 5 t)) bitsLt_bf16_f32)), acc)
      ∧ ∀ l, (acc (ix2 0 l) : EReal) = (if t.val = 0 then 0 else (outsAt0 m c (t.val - 1) (Nat.lt_of_le_of_lt (Nat.sub_le _ _) t.isLt)).2.2 (ix2 0 l))
          + gains (F := Ideal) (iblk m c 0 t) (iblk m c 1 t) (iblk m c 2 t) (iblk m c 3 t) (ix2 0 l) := by
  have ht := lt8 t
  by_cases h : t.val = 0
  · rw [outsAt0_A m c t (by omega) (by omega), outA6, outA7, outA8]
    exact ⟨_, rfl, fun l => by rw [if_pos h, zero_add]⟩
  · rw [outsAt0_B m c t (by omega) (by omega), outB6, outB7, outB8]
    exact ⟨_, rfl, fun l => by rw [if_neg h]; rfl⟩

theorem outTop_of (x0 x1 : FVec Ideal S512x2816 .bf16) (x2 : FVec Ideal S5632x1024 .bf16) (x3 : FVec Ideal S512x1024 .f32) (x4 : FVec Ideal S1x1024 .f32) (x5 : FVec Ideal S512x1024 .f32)
    (u : Fin 256) (l : Fin 1024) (a b : Fin 2816 → EReal) (w : S5632x1024.Idx → EReal) (x g d : Fin 1024 → EReal)
    (h0 : ∀ k, x0 (ix2 (hrow 0 u) k) = a k) (h1 : ∀ k, x1 (ix2 (hrow 0 u) k) = b k) (h2 : x2 = w) (h3 : ∀ k, x3 (ix2 (hrow 0 u) k) = x k) (h4 : ∀ k, x4 (ix2 0 k) = g k)
    (h5 : ∀ k, x5 (ix2 (hrow 0 u) k) = d k) :
    (outTop (F := Ideal) x0 x1 x2 x3 x4 x5 (ix2 u l) : EReal) = d l + across x (fun l => du a b w l * g l) l := by
  rw [outTop_apply, h2, h5]
  simp only [h0, h1, h3, h4]

theorem top_eq (t : Fin cfg0.N) (u : Fin 256) (l : Fin 1024) :
    (outTop (F := Ideal) (iblk m c 0 t) (iblk m c 1 t) (iblk m c 2 t) (iblk m c 3 t) (iblk m c 4 t) (iblk m c 5 t) (ix2 u l) : EReal) = outAt m c (brow t.val (hrow 0 u)) l :=
  outTop_of _ _ _ _ _ _ u l _ _ _ _ _ _ (blk0 m c t (hrow 0 u)) (blk1 m c t (hrow 0 u)) (blk2 m c t) (blk3 m c t (hrow 0 u)) (blk4 m c t) (blk5 m c t (hrow 0 u))

theorem outBot_of (x0 x1 : FVec Ideal S512x2816 .bf16) (x2 : FVec Ideal S5632x1024 .bf16) (x3 : FVec Ideal S512x1024 .f32) (x4 : FVec Ideal S1x1024 .f32) (x5 : FVec Ideal S512x1024 .f32)
    (u : Fin 256) (l : Fin 1024) (a b : Fin 2816 → EReal) (w : S5632x1024.Idx → EReal) (x g d : Fin 1024 → EReal)
    (h0 : ∀ k, x0 (ix2 (hrow 1 u) k) = a k) (h1 : ∀ k, x1 (ix2 (hrow 1 u) k) = b k) (h2 : x2 = w) (h3 : ∀ k, x3 (ix2 (hrow 1 u) k) = x k) (h4 : ∀ k, x4 (ix2 0 k) = g k)
    (h5 : ∀ k, x5 (ix2 (hrow 1 u) k) = d k) :
    (outBot (F := Ideal) x0 x1 x2 x3 x4 x5 (ix2 u l) : EReal) = d l + across x (fun l => du a b w l * g l) l := by
  rw [outBot_apply, h2, h5]
  simp only [h0, h1, h3, h4]

theorem bot_eq (t : Fin cfg0.N) (u : Fin 256) (l : Fin 1024) :
    (outBot (F := Ideal) (iblk m c 0 t) (iblk m c 1 t) (iblk m c 2 t) (iblk m c 3 t) (iblk m c 4 t) (iblk m c 5 t) (ix2 u l) : EReal) = outAt m c (brow t.val (hrow 1 u)) l :=
  outBot_of _ _ _ _ _ _ u l _ _ _ _ _ _ (blk0 m c t (hrow 1 u)) (blk1 m c t (hrow 1 u)) (blk2 m c t) (blk3 m c t (hrow 1 u)) (blk4 m c t) (blk5 m c t (hrow 1 u))

theorem half_cases (r : Fin 512) : ∃ (h : Fin 2) (u : Fin 256), r = hrow h u :=
  ⟨⟨r.val / 256, by omega⟩, ⟨r.val % 256, by omega⟩, Fin.ext (Nat.div_add_mod r.val 256).symm⟩

theorem rows_of {z : FVec Ideal S512x1024 .f32 × FVec Ideal S512x1024 .bf16 × FVec Ideal S1x1024 .f32} {p b : FVec Ideal S256x1024 .f32} {acc : FVec Ideal S1x1024 .f32}
    (e : z = (View.canon (pieces6 p b), View.canon (pieces7 (truncf .bf16 p bitsLt_bf16_f32) (truncf .bf16 b bitsLt_bf16_f32)), acc))
    (h : Fin 2) (u : Fin 256) (l : Fin 1024) (v : Fin 2 → EReal) (hp : (p (ix2 u l) : EReal) = v 0) (hb : (b (ix2 u l) : EReal) = v 1) :
    (z.1 (ix2 (hrow h u) l) : EReal) = v h ∧ (z.2.1 (ix2 (hrow h u) l) : EReal) = v h := by
  subst e
  dsimp only
  rw [canon6, canon7]
  match h with
  | 0 => exact ⟨hp, hp⟩
  | 1 => exact ⟨hb, hb⟩

theorem rows6 (t : Fin cfg0.N) (r : Fin 512) (l : Fin 1024) :
    ((outsAt0 m c t.val t.isLt).1 (ix2 r l) : EReal) = outAt m c (brow t.val r) l ∧ ((outsAt0 m c t.val t.isLt).2.1 (ix2 r l) : EReal) = outAt m c (brow t.val r) l := by
  obtain ⟨acc, e, -⟩ := left m c t
  obtain ⟨h, u, rfl⟩ := half_cases r
  exact rows_of e h u l (fun h => outAt m c (brow t.val (hrow h u)) l) (top_eq m c t u l) (bot_eq m c t u l)

/-- The share of the rows of block `t` in the gradient of the gains. -/
def share (t : ℕ) (l : Fin 1024) : EReal := ∑ r : Fin 512, gain (xAt m c (brow t r)) (duAt m c (brow t r)) l

theorem acc_eq (l : Fin 1024) : ∀ (n : ℕ) (hn : n < cfg0.N), ((outsAt0 m c n hn).2.2 (ix2 0 l) : EReal) = ∑ t ∈ Finset.range (n + 1), share m c t l := by
  have hg : ∀ t : Fin cfg0.N, (gains (F := Ideal) (iblk m c 0 t) (iblk m c 1 t) (iblk m c 2 t) (iblk m c 3 t) (ix2 0 l) : EReal) = share m c t.val l := by
    intro t
    rw [gains_apply]
    simp only [blk0, blk1, blk3, blk2]
    rfl
  intro n
  induction n with
  | zero =>
    intro hn
    obtain ⟨acc, e, h⟩ := left m c ⟨0, hn⟩
    have h' := h l
    rw [if_pos rfl, zero_add, hg] at h'
    rw [Finset.sum_range_one, ← h']
    exact congrArg (fun z => z.2.2 (ix2 0 l)) e
  | succ n ih =>
    intro hn
    obtain ⟨acc, e, h⟩ := left m c ⟨n + 1, hn⟩
    have h' := h l
    rw [if_neg (Nat.succ_ne_zero n), hg] at h'
    rw [Finset.sum_range_succ, ← ih (Nat.lt_of_succ_lt hn)]
    exact (congrArg (fun z => z.2.2 (ix2 0 l)) e).trans h'

/-- The gradient of the residual stream. -/
theorem result0 (s : Fin 4096) (l : Fin 1024) :
    ((dats m 0 c).arrAt 6 cfg0.N : S4096x1024.Idx → EReal) (ix2 s l) = outAt m c s l := by
  have hN : s.val / 512 < cfg0.N := lt_of_lt_of_eq (show s.val / 512 < 8 by omega) (show 8 = cfg0.N from N_0.symm)
  let t : Fin cfg0.N := ⟨s.val / 512, hN⟩
  let j : Fin 512 := ⟨s.val % 512, by omega⟩
  have hr : brow t.val j = s := Fin.ext ((brow_val t j).trans (Nat.div_add_mod s.val 512))
  have e := congrFun (blocks6 m c t (flush0_6 t)) (ix2 j l)
  rw [flushed6] at e
  have a := (rows6 m c t j l).1
  rw [hr] at a
  rw [← a]
  refine Eq.trans ?_ (e.trans ?_)
  · have ht : t.val = s.val / 512 := rfl
    have hj : j.val = s.val % 512 := rfl
    symm
    blk_ext [idx t]
  · blk_ext [idx t]
/-- Its rounded copy. -/
theorem result1 (s : Fin 4096) (l : Fin 1024) :
    ((dats m 0 c).arrAt 7 cfg0.N : S4096x1024.Idx → EReal) (ix2 s l) = outAt m c s l := by
  have hN : s.val / 512 < cfg0.N := lt_of_lt_of_eq (show s.val / 512 < 8 by omega) (show 8 = cfg0.N from N_0.symm)
  let t : Fin cfg0.N := ⟨s.val / 512, hN⟩
  let j : Fin 512 := ⟨s.val % 512, by omega⟩
  have hr : brow t.val j = s := Fin.ext ((brow_val t j).trans (Nat.div_add_mod s.val 512))
  have e := congrFun (blocks7 m c t (flush0_7 t)) (ix2 j l)
  rw [flushed7] at e
  have a := (rows6 m c t j l).2
  rw [hr] at a
  rw [← a]
  refine Eq.trans ?_ (e.trans ?_)
  · have ht : t.val = s.val / 512 := rfl
    have hj : j.val = s.val % 512 := rfl
    symm
    blk_ext [idx t]
  · blk_ext [idx t]
/-- The gradient of the gains: all rows. -/
theorem result2 (l : Fin 1024) :
    ((dats m 0 c).arrAt 8 cfg0.N : S1x1024.Idx → EReal) (ix2 0 l) = ∑ s : Fin 4096, gain (xAt m c s) (duAt m c s) l := by
  have e : (dats m 0 c).arrAt 8 cfg0.N = (outsAt0 m c t0_7.val t0_7.isLt).2.2 := by
    refine (dats m 0 c).arrAt_eq_of_after_last 8 t0_7 (by decide +kernel) _ fun j => ?_
    rw [after0_8]
    blk_simp
    rfl
  rw [e]
  refine (acc_eq m c l t0_7.val t0_7.isLt).trans ?_
  have e8 : Finset.range (t0_7.val + 1) = Finset.range 8 := rfl
  rw [e8, Finset.sum_range, ← Fintype.sum_equiv (finProdFinEquiv (m := 8) (n := 512)) (fun p => gain (xAt m c (brow p.1.val p.2)) (duAt m c (brow p.1.val p.2)) l) _ fun p => ?_, Fintype.sum_prod_type]
  · rfl
  · have hp : brow p.1.val p.2 = finProdFinEquiv p := Fin.ext (by
      show (512 * p.1.val + p.2.val) % 4096 = p.2.val + 512 * p.1.val
      have := p.1.isLt; have := p.2.isLt; omega)
    rw [hp]

end Cert.DuNorm

end
-- ==== Proof.Du1.lean ====
/- The gradient of the first norm's input: what a point of the kernel leaves in its three blocks. -/
module

public import proofs.«01_k».proof.Proof.Gen.Kernel7Ideal.Value
public import proofs.«01_k».proof.Proof.DuNormOut

@[expose] public section

noncomputable section

namespace Cert.Du1

open Idealize.ShloMosaic Idealize.ShloMosaic.TcCoe Idealize.SL.Sem Cert.Kernel7Ideal Cert.Kernel7Ideal.Gen
open Cert.DuNorm (zero2 hTop hBot hTop_apply hBot_apply hrow pieces6 pieces7 gain)
open Cert.NormGrad (across ms)

section Terms
variable {F : FTy → Type} [FloatOps F]

/-- The two halves of a block of 512 rows, and the parts of the weights that belong to the recurrent mixer and to the gate. -/
def aTop (x : Vec F S512x1536 .bf16) : Vec F S256x1536 .bf16 := View.ld x (Rect.unit (s := S512x1536) ![0, 0] S256x1536.size inb_S512x1536_S256x1536_0_0)
def aBot (x : Vec F S512x1536 .bf16) : Vec F S256x1536 .bf16 := View.ld x (Rect.unit (s := S512x1536) ![256, 0] S256x1536.size inb_S512x1536_S256x1536_256_0)
def gTop (x : Vec F S512x512 .bf16) : Vec F S256x512 .bf16 := View.ld x (Rect.unit (s := S512x512) ![0, 0] S256x512.size inb_S512x512_S256x512_0_0)
def gBot (x : Vec F S512x512 .bf16) : Vec F S256x512 .bf16 := View.ld x (Rect.unit (s := S512x512) ![256, 0] S256x512.size inb_S512x512_S256x512_256_0)
def wMix (x : Vec F S3584x1024 .bf16) : Vec F S1536x1024 .bf16 := View.ld x (Rect.unit (s := S3584x1024) ![1536, 0] S1536x1024.size inb_S3584x1024_S1536x1024_1536_0)
def wGate (x : Vec F S3584x1024 .bf16) : Vec F S512x1024 .bf16 := View.ld x (Rect.unit (s := S3584x1024) ![3072, 0] S512x1024.size inb_S3584x1024_S512x1024_3072_0)

variable (x0 x1 : Vec F S512x1536 .bf16) (x2 : Vec F S512x512 .bf16) (x3 : Vec F S1536x1024 .bf16) (x4 : Vec F S3584x1024 .bf16) (x5 : Vec F S512x1024 .f32) (x6 : Vec F S1x1024 .f32) (x7 : Vec F S512x1024 .f32)

/-- The cotangent of the norm's output, by halves. -/
def duTop : FVec F S256x1024 .f32 := k0_pay7 (aTop x0) x3 (aTop x1) (wMix x4) (gTop x2) (wGate x4)
def duBot : FVec F S256x1024 .f32 := k0_pay8 (aBot x0) x3 (aBot x1) (wMix x4) (gBot x2) (wGate x4)
/-- The gradient of the residual stream, by halves. -/
def outTop : FVec F S256x1024 .f32 := k0_pay11 (duTop x0 x1 x2 x3 x4) (hTop x5) x6 (hTop x7)
def outBot : FVec F S256x1024 .f32 := k0_pay3 (duBot x0 x1 x2 x3 x4) (hBot x5) x6 (k0_pay14 (hBot x5)) k0_pay15 (hBot x7)
/-- The gradient of the gains over the rows of the block. -/
def gains : FVec F S1x1024 .f32 := k0_pay5 (duBot x0 x1 x2 x3 x4) (k0_pay13 (duTop x0 x1 x2 x3 x4) (hTop x5)) (hBot x5) (k0_pay14 (hBot x5)) k0_pay15

theorem aTop_apply (r : Fin 256) (k : Fin 1536) : aTop x0 (ix2 r k) = x0 (ix2 (hrow 0 r) k) :=
  View.ld_unit_apply_of x0 _ _ _ (ix2 r k) (ix2 (hrow 0 r) k) fun a => by
    match a with
    | ⟨0, _⟩ => show 256 * 0 + r.val = 0 + r.val; omega
    | ⟨1, _⟩ => show k.val = 0 + k.val; omega
theorem aBot_apply (r : Fin 256) (k : Fin 1536) : aBot x0 (ix2 r k) = x0 (ix2 (hrow 1 r) k) :=
  View.ld_unit_apply_of x0 _ _ _ (ix2 r k) (ix2 (hrow 1 r) k) fun a => by
    match a with
    | ⟨0, _⟩ => show 256 * 1 + r.val = 256 + r.val; omega
    | ⟨1, _⟩ => show k.val = 0 + k.val; omega
theorem gTop_apply (r : Fin 256) (k : Fin 512) : gTop x2 (ix2 r k) = x2 (ix2 (hrow 0 r) k) :=
  View.ld_unit_apply_of x2 _ _ _ (ix2 r k) (ix2 (hrow 0 r) k) fun a => by
    match a with
    | ⟨0, _⟩ => show 256 * 0 + r.val = 0 + r.val; omega
    | ⟨1, _⟩ => show k.val = 0 + k.val; omega
theorem gBot_apply (r : Fin 256) (k : Fin 512) : gBot x2 (ix2 r k) = x2 (ix2 (hrow 1 r) k) :=
  View.ld_unit_apply_of x2 _ _ _ (ix2 r k) (ix2 (hrow 1 r) k) fun a => by
    match a with
    | ⟨0, _⟩ => show 256 * 1 + r.val = 256 + r.val; omega
    | ⟨1, _⟩ => show k.val = 0 + k.val; omega

/-- Row `k` of the mixer's and of the gate's part of the weights. -/
def mixRow (k : Fin 1536) : Fin 3584 := ⟨1536 + k.val, by omega⟩
def gateRow (k : Fin 512) : Fin 3584 := ⟨3072 + k.val, by omega⟩
theorem wMix_apply (k : Fin 1536) (l : Fin 1024) : wMix x4 (ix2 k l) = x4 (ix2 (mixRow k) l) :=
  View.ld_unit_apply_of x4 _ _ _ (ix2 k l) (ix2 (mixRow k) l) fun a => by
    match a with
    | ⟨0, _⟩ => rfl
    | ⟨1, _⟩ => show l.val = 0 + l.val; omega
theorem wGate_apply (k : Fin 512) (l : Fin 1024) : wGate x4 (ix2 k l) = x4 (ix2 (gateRow k) l) :=
  View.ld_unit_apply_of x4 _ _ _ (ix2 k l) (ix2 (gateRow k) l) fun a => by
    match a with
    | ⟨0, _⟩ => rfl
    | ⟨1, _⟩ => show l.val = 0 + l.val; omega
end Terms

/-- The cotangent of the norm's output at a row: the three parts of the product, the attention's part with its own weights. -/
def du (a h : Fin 1536 → EReal) (g : Fin 512 → EReal) (v : S1536x1024.Idx → EReal) (w : S3584x1024.Idx → EReal) (l : Fin 1024) : EReal :=
  ∑ k, a k * v (ix2 k l) + ∑ k, h k * w (ix2 (mixRow k) l) + ∑ k, g k * w (ix2 (gateRow k) l)

section Point
variable (x0 x1 : FVec Ideal S512x1536 .bf16) (x2 : FVec Ideal S512x512 .bf16) (x3 : FVec Ideal S1536x1024 .bf16) (x4 : FVec Ideal S3584x1024 .bf16) (x5 : FVec Ideal S512x1024 .f32) (x6 : FVec Ideal S1x1024 .f32) (x7 : FVec Ideal S512x1024 .f32)

/-- The cotangent at row `r` of the block. -/
def duRow (r : Fin 512) : Fin 1024 → EReal := du (fun k => x0 (ix2 r k)) (fun k => x1 (ix2 r k)) (fun k => x2 (ix2 r k)) x3 x4

theorem duTop_apply (r : Fin 256) (l : Fin 1024) : (duTop (F := Ideal) x0 x1 x2 x3 x4 (ix2 r l) : EReal) = duRow x0 x1 x2 x3 x4 (hrow 0 r) l := by
  pointwise [duTop, k0_pay7]
  simp only [aTop_apply, gTop_apply, wMix_apply, wGate_apply]
  rfl
theorem duBot_apply (r : Fin 256) (l : Fin 1024) : (duBot (F := Ideal) x0 x1 x2 x3 x4 (ix2 r l) : EReal) = duRow x0 x1 x2 x3 x4 (hrow 1 r) l := by
  pointwise [duBot, k0_pay8]
  simp only [aBot_apply, gBot_apply, wMix_apply, wGate_apply]
  rfl

/-- The two halves from any cotangent. -/
theorem top_apply (d : FVec Ideal S256x1024 .f32) (r : Fin 256) (l : Fin 1024) : (k0_pay11 (F := Ideal) d (hTop x5) x6 (hTop x7) (ix2 r l) : EReal)
    = x7 (ix2 (hrow 0 r) l) + across (fun l => x5 (ix2 (hrow 0 r) l)) (fun l => d (ix2 r l) * x6 (ix2 0 l)) l := by
  pointwise [k0_pay11, k0_pay10, k0_pay9]
  simp only [hTop_apply]
  rfl
theorem bot_apply (d : FVec Ideal S256x1024 .f32) (r : Fin 256) (l : Fin 1024) : (k0_pay3 (F := Ideal) d (hBot x5) x6 (k0_pay14 (hBot x5)) k0_pay15 (hBot x7) (ix2 r l) : EReal)
    = x7 (ix2 (hrow 1 r) l) + across (fun l => x5 (ix2 (hrow 1 r) l)) (fun l => d (ix2 r l) * x6 (ix2 0 l)) l := by
  pointwise [k0_pay3, k0_pay2, k0_pay1, k0_pay14, k0_pay15]
  simp only [hBot_apply]
  rfl

theorem outTop_apply (r : Fin 256) (l : Fin 1024) : (outTop (F := Ideal) x0 x1 x2 x3 x4 x5 x6 x7 (ix2 r l) : EReal)
    = x7 (ix2 (hrow 0 r) l) + across (fun l => x5 (ix2 (hrow 0 r) l)) (fun l => duRow x0 x1 x2 x3 x4 (hrow 0 r) l * x6 (ix2 0 l)) l := by
  refine (top_apply x5 x6 x7 (duTop x0 x1 x2 x3 x4) r l).trans ?_
  simp only [duTop_apply]
theorem outBot_apply (r : Fin 256) (l : Fin 1024) : (outBot (F := Ideal) x0 x1 x2 x3 x4 x5 x6 x7 (ix2 r l) : EReal)
    = x7 (ix2 (hrow 1 r) l) + across (fun l => x5 (ix2 (hrow 1 r) l)) (fun l => duRow x0 x1 x2 x3 x4 (hrow 1 r) l * x6 (ix2 0 l)) l := by
  refine (bot_apply x5 x6 x7 (duBot x0 x1 x2 x3 x4) r l).trans ?_
  simp only [duBot_apply]

theorem sums_apply (d e : FVec Ideal S256x1024 .f32) (l : Fin 1024) :
    (k0_pay5 (F := Ideal) e (k0_pay13 (F := Ideal) d (hTop x5)) (hBot x5) (k0_pay14 (hBot x5)) k0_pay15 (ix2 0 l) : EReal)
      = ∑ r, gain (fun l => x5 (ix2 (hrow 0 r) l)) (fun l => d (ix2 r l)) l + ∑ r, gain (fun l => x5 (ix2 (hrow 1 r) l)) (fun l => e (ix2 r l)) l := by
  pointwise [k0_pay5, k0_pay13, k0_pay10, k0_pay9, k0_pay2, k0_pay1, k0_pay14, k0_pay15]
  simp only [hTop_apply, hBot_apply]
  rfl

theorem gains_apply (l : Fin 1024) : (gains (F := Ideal) x0 x1 x2 x3 x4 x5 (ix2 0 l) : EReal)
    = ∑ r : Fin 512, gain (fun l => x5 (ix2 r l)) (duRow x0 x1 x2 x3 x4 r) l := by
  refine (sums_apply x5 (duTop x0 x1 x2 x3 x4) (duBot x0 x1 x2 x3 x4) l).trans ?_
  simp only [duTop_apply, duBot_apply]
  refine Eq.symm ((Fin.sum_univ_add (a := 256) (b := 256) fun r => gain (fun l => x5 (ix2 r l)) (duRow x0 x1 x2 x3 x4 r) l).trans ?_)
  refine congrArg₂ (· + ·) (Finset.sum_congr rfl fun r _ => ?_) (Finset.sum_congr rfl fun r _ => ?_)
  · rw [show Fin.castAdd 256 r = hrow 0 r from Fin.ext (by show r.val = 256 * 0 + r.val; omega)]
  · rw [show Fin.natAdd 256 r = hrow 1 r from Fin.ext (by show 256 + r.val = 256 * 1 + r.val; omega)]
end Point

section Left
variable {F : FTy → Type} [FloatOps F] (m : (ℓ : Loc nD τ sig) → Buf (Elt F) ℓ) (c : Dev nD) (t : Fin cfg0.N)

/-- The blocks that point `t` leaves, and its share of the gradient of the gains. -/
def topAt : FVec F S256x1024 .f32 := outTop (iblk m c 0 t) (iblk m c 1 t) (iblk m c 2 t) (iblk m c 3 t) (iblk m c 4 t) (iblk m c 5 t) (iblk m c 6 t) (iblk m c 7 t)
def botAt : FVec F S256x1024 .f32 := outBot (iblk m c 0 t) (iblk m c 1 t) (iblk m c 2 t) (iblk m c 3 t) (iblk m c 4 t) (iblk m c 5 t) (iblk m c 6 t) (iblk m c 7 t)
def gainsAt : FVec F S1x1024 .f32 := gains (iblk m c 0 t) (iblk m c 1 t) (iblk m c 2 t) (iblk m c 3 t) (iblk m c 4 t) (iblk m c 5 t)

theorem leftA (h0 : t.val % 8 = 0) (h1 : ¬1 ≤ t.val) :
    outsAt0 m c t.val t.isLt = (View.canon (pieces6 (topAt m c t) (botAt m c t)),
      View.canon (pieces7 (truncf .bf16 (topAt m c t) bitsLt_bf16_f32) (truncf .bf16 (botAt m c t) bitsLt_bf16_f32)), gainsAt m c t) := by
  rw [outsAt0_A m c t h0 h1]
  refine congrArg₂ Prod.mk ?_ (congrArg₂ Prod.mk ?_ ?_)
  · unfold out0_A_8
    refine (View.read_writes_eq_canon _ _ _ fun y => cover0_A_8 (y := y) ..).trans ?_
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S1x1024) zero2, View.ld_unit_zero (S := S1536x1024) zero2]
    rfl
  · unfold out0_A_9
    refine (View.read_writes_eq_canon _ _ _ fun y => cover0_A_9 (y := y) ..).trans ?_
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S1x1024) zero2, View.ld_unit_zero (S := S1536x1024) zero2]
    rfl
  · unfold out0_A_10
    refine (View.read_writes_eq_canon _ _ _ fun y => cover0_A_10 (y := y) ..).trans ?_
    unfold kernelRun0_A
    dsimp only
    sl_unfold_words
    rw [View.canon_cons_unit_zero (S := S1x1024) zero2]
    simp only [View.readAt_eq_ld, (hs0_0 t).read_unread, (hs0_1 t).read_unread, (hs0_2 t).read_unread, (hs0_3 t).read_unread, (hs0_4 t).read_unread, (hs0_5 t).read_unread,
      View.ld_unit_zero (S := S1536x1024) zero2]
    rfl

theorem leftB (h0 : ¬t.val % 8 = 0) (h1 : 1 ≤ t.val) :
    outsAt0 m c t.val t.isLt = (View.canon (pieces6 (topAt m c t) (botAt m c t)),
      View.canon (pieces7 (truncf .bf16 (topAt m c t) bitsLt_bf16_f32) (truncf .bf16 (botAt m c t) bitsLt_bf16_f32)),
      addf (outsAt0 m c (t.val - 1) (Nat.lt_of_le_of_lt (Nat.sub_le _ _) t.isLt)).2.2 (gainsAt m c t)) := by
  rw [outsAt0_B m c t h0 h1]
  refine congrArg₂ Prod.mk ?_ (congrArg₂ Prod.mk ?_ ?_)
  · unfold out0_B_8
    refine (View.read_writes_eq_canon _ _ _ fun y => cover0_B_8 (y := y) ..).trans ?_
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S1x1024) zero2, View.ld_unit_zero (S := S1536x1024) zero2]
    rfl
  · unfold out0_B_9
    refine (View.read_writes_eq_canon _ _ _ fun y => cover0_B_9 (y := y) ..).trans ?_
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, View.ld_unit_zero (S := S1x1024) zero2, View.ld_unit_zero (S := S1536x1024) zero2]
    rfl
  · unfold out0_B_10
    refine (View.read_writes_eq_canon _ _ _ fun y => cover0_B_10 (y := y) ..).trans ?_
    unfold kernelRun0_B
    dsimp only
    sl_unfold_words
    rw [View.canon_cons_unit_zero (S := S1x1024) zero2]
    unfold k0_pay6
    simp only [View.readAt_eq_ld, (hs0_0 t).read_unread, (hs0_1 t).read_unread, (hs0_2 t).read_unread, (hs0_3 t).read_unread, (hs0_4 t).read_unread, (hs0_5 t).read_unread,
      (hs0_10 t).read_unread, View.ld_unit_zero (S := S1x1024) zero2, View.ld_unit_zero (S := S1536x1024) zero2]
    rw [shapeCast_self]
    rfl
end Left

end Cert.Du1

end
-- ==== Proof.Du1Out.lean ====
/- The call du1_norm1_bwd: its results at every index. -/
module

public import proofs.«01_k».proof.Proof.Du1

@[expose] public section

noncomputable section

namespace Cert.Du1

open Idealize.ShloMosaic Idealize.ShloMosaic.TcCoe Idealize.SL.Sem Cert.Kernel7Ideal Cert.Kernel7Ideal.Gen Cert.Kernel7Ideal.Value
open Cert.DuNorm (hrow pieces6 pieces7 gain brow half_cases rows_of)
open Cert.NormGrad (across ms)

variable (m : (ℓ : Loc nD τ sig) → Buf (Elt Ideal) ℓ) (c : Dev nD)

/-- The row of the weights that the attention's column `k` belongs to: the columns come by pairs of heads, in a pair first the queries, then the keys, then the values. -/
def order (k : Fin 1536) : Fin 3584 := ⟨k.val / 128 % 3 * 512 + k.val / 384 * 128 + k.val % 128, by omega⟩

/-- The weights in the order of the attention's columns. -/
def pairs (w : FVec Ideal S3584x1024 .bf16) : FVec Ideal S1536x1024 .bf16 :=
  shapeCast S1536x1024 (transpose S4x3x128x1024 [1, 0, 2, 3] (shapeCast S3x4x128x1024 (extractStridedSlice S1536x1024 ![0, 0] w slices_S3584x1024_S1536x1024_0_0) shapeCasts_S1536x1024_S3x4x128x1024)
    transposes_S3x4x128x1024_S4x3x128x1024_1_0_2_3) shapeCasts_S4x3x128x1024_S1536x1024

theorem pairs_eq : (V m c main_v3 : FVec Ideal S1536x1024 .bf16) = pairs (V m c main_arg3) := by
  rw [V_main_arg3]
  show StableHlo.after hostOps0 (fun b => m (c, b)) (Proc.devRef .tc main_v3) = _
  unfold hostOps0 pairs
  after_results_simp <;> rfl

theorem pairs_apply (w : FVec Ideal S3584x1024 .bf16) (k : Fin 1536) (l : Fin 1024) : (pairs w (ix2 k l) : EReal) = w (ix2 (order k) l) := by
  pointwise [pairs]
  refine congrArg (fun j : Fin 3584 => (w (ix2 j l) : EReal)) (Fin.ext ?_)
  simp only [order]

theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![t.val, 0] ∧ win0_8.index t = ![t.val, 0])

theorem lt8 (t : Fin cfg0.N) : t.val < 8 := lt_of_lt_of_eq t.isLt (show cfg0.N = 8 from N_0)
theorem brow_val (t : Fin cfg0.N) (r : Fin 512) : (brow t.val r).val = 512 * t.val + r.val := by
  have := lt8 t
  show (512 * t.val + r.val) % 4096 = _; omega

section Blocks
variable (t : Fin cfg0.N) (r : Fin 512)
theorem blk0 (k : Fin 1536) : (iblk m c 0 t : S512x1536.Idx → EReal) (ix2 r k) = (V m c main_arg0 : S4096x1536.Idx → EReal) (ix2 (brow t.val r) k) := by
  have hb := brow_val t r
  blk_ext [iblk, idx t]
theorem blk1 (k : Fin 1536) : (iblk m c 1 t : S512x1536.Idx → EReal) (ix2 r k) = (V m c main_arg1 : S4096x1536.Idx → EReal) (ix2 (brow t.val r) k) := by
  have hb := brow_val t r
  blk_ext [iblk, idx t]
theorem blk2 (k : Fin 512) : (iblk m c 2 t : S512x512.Idx → EReal) (ix2 r k) = (V m c main_arg2 : S4096x512.Idx → EReal) (ix2 (brow t.val r) k) := by
  have hb := brow_val t r
  blk_ext [iblk, idx t]
theorem blk3 : (iblk m c 3 t : S1536x1024.Idx → EReal) = (V m c main_v3 : S1536x1024.Idx → EReal) := by
  funext y
  blk_ext [iblk, idx t]
theorem blk4 : (iblk m c 4 t : S3584x1024.Idx → EReal) = (V m c main_arg3 : S3584x1024.Idx → EReal) := by
  funext y
  blk_ext [iblk, idx t]
theorem blk5 (k : Fin 1024) : (iblk m c 5 t : S512x1024.Idx → EReal) (ix2 r k) = (V m c main_arg4 : S4096x1024.Idx → EReal) (ix2 (brow t.val r) k) := by
  have hb := brow_val t r
  blk_ext [iblk, idx t]
theorem blk6 (k : Fin 1024) : (iblk m c 6 t : S1x1024.Idx → EReal) (ix2 0 k) = (V m c main_arg5 : S1x1024.Idx → EReal) (ix2 0 k) := by
  blk_ext [iblk, idx t]
theorem blk7 (k : Fin 1024) : (iblk m c 7 t : S512x1024.Idx → EReal) (ix2 r k) = (V m c main_arg6 : S4096x1024.Idx → EReal) (ix2 (brow t.val r) k) := by
  have hb := brow_val t r
  blk_ext [iblk, idx t]
end Blocks

/-- The cotangent of the norm's output from the arrays, at a row. -/
def duOf (a h : S4096x1536.Idx → EReal) (g : S4096x512.Idx → EReal) (w : S3584x1024.Idx → EReal) (s : Fin 4096) : Fin 1024 → EReal :=
  du (fun k => a (ix2 s k)) (fun k => h (ix2 s k)) (fun k => g (ix2 s k)) (pairs w) w
/-- The cotangent of the norm's output and the input of the norm, at a row of the arrays. -/
def duAt (s : Fin 4096) : Fin 1024 → EReal := duOf (V m c main_arg0) (V m c main_arg1) (V m c main_arg2) (V m c main_arg3) s
def xAt (s : Fin 4096) (l : Fin 1024) : EReal := (V m c main_arg4 : S4096x1024.Idx → EReal) (ix2 s l)
def gAt (l : Fin 1024) : EReal := (V m c main_arg5 : S1x1024.Idx → EReal) (ix2 0 l)
def dhAt (s : Fin 4096) (l : Fin 1024) : EReal := (V m c main_arg6 : S4096x1024.Idx → EReal) (ix2 s l)
/-- The gradient of the residual stream at a row. -/
def outAt (s : Fin 4096) (l : Fin 1024) : EReal :=
  dhAt m c s l + across (xAt m c s) (fun l => duAt m c s l * gAt m c l) l

theorem duRow_eq (t : Fin cfg0.N) (r : Fin 512) :
    duRow (iblk m c 0 t) (iblk m c 1 t) (iblk m c 2 t) (iblk m c 3 t) (iblk m c 4 t) r = duAt m c (brow t.val r) := by
  have e : ∀ (a a' h h' : Fin 1536 → EReal) (g g' : Fin 512 → EReal) (v v' : S1536x1024.Idx → EReal) (w w' : S3584x1024.Idx → EReal),
      (∀ k, a k = a' k) → (∀ k, h k = h' k) → (∀ k, g k = g' k) → v = v' → w = w' → du a h g v w = du a' h' g' v' w' := by
    intro a a' h h' g g' v v' w w' e0 e1 e2 e3 e4
    rw [funext e0, funext e1, funext e2, e3, e4]
  exact e _ _ _ _ _ _ _ _ _ _ (blk0 m c t r) (blk1 m c t r) (blk2 m c t r) ((blk3 m c t).trans (pairs_eq m c)) (blk4 m c t)

theorem across_of (x x' d d' g g' : Fin 1024 → EReal) (y y' : EReal) (l : Fin 1024) (hx : ∀ k, x k = x' k) (hd : d = d') (hg : ∀ k, g k = g' k) (hy : y = y') :
    y + across x (fun l => d l * g l) l = y' + across x' (fun l => d' l * g' l) l := by
  rw [funext hx, hd, funext hg, hy]

theorem top_eq (t : Fin cfg0.N) (u : Fin 256) (l : Fin 1024) : (topAt (F := Ideal) m c t (ix2 u l) : EReal) = outAt m c (brow t.val (hrow 0 u)) l :=
  (outTop_apply _ _ _ _ _ _ _ _ u l).trans
    (across_of _ _ _ _ _ _ _ _ l (blk5 m c t (hrow 0 u)) (duRow_eq m c t (hrow 0 u)) (blk6 m c t) (blk7 m c t (hrow 0 u) l))
theorem bot_eq (t : Fin cfg0.N) (u : Fin 256) (l : Fin 1024) : (botAt (F := Ideal) m c t (ix2 u l) : EReal) = outAt m c (brow t.val (hrow 1 u)) l :=
  (outBot_apply _ _ _ _ _ _ _ _ u l).trans
    (across_of _ _ _ _ _ _ _ _ l (blk5 m c t (hrow 1 u)) (duRow_eq m c t (hrow 1 u)) (blk6 m c t) (blk7 m c t (hrow 1 u) l))

/-- What point `t` leaves: the pieces of both row blocks, and the running gradient of the gains. -/
theorem left (t : Fin cfg0.N) :
    ∃ acc : FVec Ideal S1x1024 .f32,
      outsAt0 m c t.val t.isLt = (View.canon (pieces6 (topAt m c t) (botAt m c t)),
        View.canon (pieces7 (truncf .bf16 (topAt m c t) bitsLt_bf16_f32) (truncf .bf16 (botAt m c t) bitsLt_bf16_f32)), acc)
      ∧ ∀ l, (acc (ix2 0 l) : EReal) = (if t.val = 0 then 0 else (outsAt0 m c (t.val - 1) (Nat.lt_of_le_of_lt (Nat.sub_le _ _) t.isLt)).2.2 (ix2 0 l))
          + gainsAt (F := Ideal) m c t (ix2 0 l) := by
  have ht := lt8 t
  by_cases h : t.val = 0
  · exact ⟨_, leftA m c t (by omega) (by omega), fun l => by rw [if_pos h, zero_add]⟩
  · exact ⟨_, leftB m c t (by omega) (by omega), fun l => by rw [if_neg h]; rfl⟩

theorem rows (t : Fin cfg0.N) (r : Fin 512) (l : Fin 1024) : ((outsAt0 m c t.val t.isLt).1 (ix2 r l) : EReal) = outAt m c (brow t.val r) l := by
  obtain ⟨acc, e, -⟩ := left m c t
  obtain ⟨h, u, rfl⟩ := half_cases r
  exact (rows_of e h u l (fun h => outAt m c (brow t.val (hrow h u)) l) (top_eq m c t u l) (bot_eq m c t u l)).1

/-- The share of the rows of block `t` in the gradient of the gains. -/
def share (t : ℕ) (l : Fin 1024) : EReal := ∑ r : Fin 512, gain (xAt m c (brow t r)) (duAt m c (brow t r)) l

theorem gains_eq (t : Fin cfg0.N) (l : Fin 1024) : (gainsAt (F := Ideal) m c t (ix2 0 l) : EReal) = share m c t.val l := by
  refine (gains_apply _ _ _ _ _ _ l).trans (Finset.sum_congr rfl fun r _ => ?_)
  have e : ∀ (x x' d d' : Fin 1024 → EReal), (∀ k, x k = x' k) → d = d' → gain x d l = gain x' d' l := by
    intro x x' d d' hx hd
    rw [funext hx, hd]
  exact e _ _ _ _ (blk5 m c t r) (duRow_eq m c t r)

theorem acc_eq (l : Fin 1024) : ∀ (n : ℕ) (hn : n < cfg0.N), ((outsAt0 m c n hn).2.2 (ix2 0 l) : EReal) = ∑ t ∈ Finset.range (n + 1), share m c t l := by
  intro n
  induction n with
  | zero =>
    intro hn
    obtain ⟨acc, e, h⟩ := left m c ⟨0, hn⟩
    have h' := h l
    rw [if_pos rfl, zero_add, gains_eq] at h'
    rw [Finset.sum_range_one, ← h']
    exact congrArg (fun z => z.2.2 (ix2 0 l)) e
  | succ n ih =>
    intro hn
    obtain ⟨acc, e, h⟩ := left m c ⟨n + 1, hn⟩
    have h' := h l
    rw [if_neg (Nat.succ_ne_zero n), gains_eq] at h'
    rw [Finset.sum_range_succ, ← ih (Nat.lt_of_succ_lt hn)]
    exact (congrArg (fun z => z.2.2 (ix2 0 l)) e).trans h'

/-- The gradient of the residual stream. -/
theorem result0 (s : Fin 4096) (l : Fin 1024) :
    ((dats m 0 c).arrAt 8 cfg0.N : S4096x1024.Idx → EReal) (ix2 s l) = outAt m c s l := by
  have hN : s.val / 512 < cfg0.N := lt_of_lt_of_eq (show s.val / 512 < 8 by omega) (show 8 = cfg0.N from N_0.symm)
  let t : Fin cfg0.N := ⟨s.val / 512, hN⟩
  let j : Fin 512 := ⟨s.val % 512, by omega⟩
  have hr : brow t.val j = s := Fin.ext ((brow_val t j).trans (Nat.div_add_mod s.val 512))
  have e := congrFun (blocks8 m c t (flush0_8 t)) (ix2 j l)
  rw [flushed8] at e
  have a := rows m c t j l
  rw [hr] at a
  rw [← a]
  refine Eq.trans ?_ (e.trans ?_)
  · have ht : t.val = s.val / 512 := rfl
    have hj : j.val = s.val % 512 := rfl
    symm
    blk_ext [idx t]
  · blk_ext [idx t]
/-- The gradient of the gains: all rows. -/
theorem result1 (l : Fin 1024) :
    ((dats m 0 c).arrAt 10 cfg0.N : S1x1024.Idx → EReal) (ix2 0 l) = ∑ s : Fin 4096, gain (xAt m c s) (duAt m c s) l := by
  have e : (dats m 0 c).arrAt 10 cfg0.N = (outsAt0 m c t0_7.val t0_7.isLt).2.2 := by
    refine (dats m 0 c).arrAt_eq_of_after_last 10 t0_7 (by decide +kernel) _ fun j => ?_
    rw [after0_10]
    blk_simp
    rfl
  rw [e]
  refine (acc_eq m c l t0_7.val t0_7.isLt).trans ?_
  have e8 : Finset.range (t0_7.val + 1) = Finset.range 8 := rfl
  rw [e8, Finset.sum_range, ← Fintype.sum_equiv (finProdFinEquiv (m := 8) (n := 512)) (fun p => gain (xAt m c (brow p.1.val p.2)) (duAt m c (brow p.1.val p.2)) l) _ fun p => ?_, Fintype.sum_prod_type]
  · rfl
  · have hp : brow p.1.val p.2 = finProdFinEquiv p := Fin.ext (by
      show (512 * p.1.val + p.2.val) % 4096 = p.2.val + 512 * p.1.val
      have := p.1.isLt; have := p.2.isLt; omega)
    rw [hp]

end Cert.Du1

end
-- ==== Proof.Du1Ref.lean ====
/- The call du1_norm1_bwd against its reference: at every index the same two results. -/
module

public import proofs.«01_k».proof.Proof.Du1Out
public import proofs.«01_k».proof.Proof.Gen.Reference7Ideal.Run

@[expose] public section

noncomputable section

namespace Cert.Du1

open Idealize.ShloMosaic Idealize.ShloMosaic.TcCoe Idealize.SL.Sem Cert.Reference7Ideal Cert.Reference7Ideal.Gen
open Cert.DuNorm (gain)
open Cert.NormGrad (across forms)

/-- The reference's operations on its arguments: the cotangent of the norm's output. -/
def dotTerm (x0 x1 : FVec Ideal S4096x1536 .bf16) (x2 : FVec Ideal S4096x512 .bf16) (x3 : FVec Ideal S3584x1024 .bf16) : FVec Ideal S4096x1024 .f32 :=
  Host.dotGeneral dot_S4096x3584_S1024x3584_S4096x1024_1_1_0_0_n_n none (addf (addf (pad S4096x3584 ![0, 3072] ![0, 0] ![0, 0] (extf .f32 x2 bitsLt_bf16_f32) (constant S_ .f32 0x00000000#32)
    pads_S4096x512_S4096x3584_000_307200 h_S_) (pad S4096x3584 ![0, 1536] ![0, 512] ![0, 0] (extf .f32 x1 bitsLt_bf16_f32) (constant S_ .f32 0x00000000#32)
    pads_S4096x1536_S4096x3584_000_15365120 h_S_)) (pad S4096x3584 ![0, 0] ![0, 2048] ![0, 0] (shapeCast S4096x1536 (transpose S4096x3x4x128 [0, 2, 1, 3] (shapeCast S4096x4x3x128 (extf .f32 x0 bitsLt_bf16_f32) shapeCasts_S4096x1536_S4096x4x3x128) transposes_S4096x4x3x128_S4096x3x4x128_0_2_1_3) shapeCasts_S4096x3x4x128_S4096x1536) (constant S_ .f32 0x00000000#32) pads_S4096x1536_S4096x3584_000_020480 h_S_)) (transpose S1024x3584 [1, 0] (extf .f32 x3 bitsLt_bf16_f32) transposes_S3584x1024_S1024x3584_1_0)
/-- The mean square of the rows and the norm's small constant. -/
def meanTerm (x4 : FVec Ideal S4096x1024 .f32) : FVec Ideal S4096x1 .f32 :=
  addf (Host.divf (broadcastInDim S4096x1 ![0] bcast_S4096_S4096x1_0 (Host.reduceAdd (mulf x4 x4) (constant S_ .f32 0x00000000#32) reducesTo_S4096x1024_S4096_d1 h_S_)) (broadcastInDim S4096x1
    ![] bcast_S_S4096x1 (constant S_ .f32 0x44800000#32))) (broadcastInDim S4096x1 ![] bcast_S_S4096x1 (constant S_ .f32 0x358637BD#32))
/-- The share of the mean square in the gradient, from any cotangent. -/
def spreadTerm (D x4 : FVec Ideal S4096x1024 .f32) (x5 : FVec Ideal S1x1024 .f32) : FVec Ideal S4096x1024 .f32 :=
  broadcastInDim S4096x1024 ![0] bcast_S4096_S4096x1024_0 (Host.reduceAdd (Host.divf (mulf (shapeCast S4096x1 (Host.reduceAdd (mulf x4 (mulf D (broadcastInDim S4096x1024 ![0, 1]
    bcast_S1x1024_S4096x1024_0_1 x5))) (constant S_ .f32 0x00000000#32) reducesTo_S4096x1024_S4096_d1 h_S_) shapeCasts_S4096_S4096x1) (mulf (broadcastInDim S4096x1 ![] bcast_S_S4096x1 (constant
    S_ .f32 0xBF000000#32)) (Host.divf (Host.rsqrt (meanTerm x4)) (meanTerm x4)))) (broadcastInDim S4096x1 ![] bcast_S_S4096x1 (constant S_ .f32 0x44800000#32))) (constant S_ .f32 0x00000000#32)
    reducesTo_S4096x1_S4096_d1 h_S_)
/-- The gradient of the residual stream, from any cotangent. -/
def resTerm (D x4 : FVec Ideal S4096x1024 .f32) (x5 : FVec Ideal S1x1024 .f32) (x6 : FVec Ideal S4096x1024 .f32) : FVec Ideal S4096x1024 .f32 :=
  addf (addf (addf x6 (mulf (mulf D (broadcastInDim S4096x1024 ![0, 1] bcast_S1x1024_S4096x1024_0_1 x5)) (broadcastInDim S4096x1024 ![0, 1] bcast_S4096x1_S4096x1024_0_1 (Host.rsqrt (meanTerm
    x4))))) (mulf x4 (spreadTerm D x4 x5))) (mulf (spreadTerm D x4 x5) x4)
/-- The gradient of the gains, from any cotangent. -/
def sumTerm (D x4 : FVec Ideal S4096x1024 .f32) : FVec Ideal S1x1024 .f32 :=
  shapeCast S1x1024 (Host.reduceAdd (mulf (mulf x4 (broadcastInDim S4096x1024 ![0, 1] bcast_S4096x1_S4096x1024_0_1 (Host.rsqrt (meanTerm x4)))) D) (constant S_ .f32 0x00000000#32)
    reducesTo_S4096x1024_S1024_d0 h_S_) shapeCasts_S1024_S1x1024
def gainsTerm (x0 x1 : FVec Ideal S4096x1536 .bf16) (x2 : FVec Ideal S4096x512 .bf16) (x3 : FVec Ideal S3584x1024 .bf16) (x4 : FVec Ideal S4096x1024 .f32) : FVec Ideal S1x1024 .f32 :=
  sumTerm (dotTerm x0 x1 x2 x3) x4

/-- Column `j` of the attention in the reference's order, in the order by pairs of heads; and back. -/
def column (j : Fin 1536) : Fin 1536 := ⟨j.val / 128 % 4 * 384 + j.val / 512 * 128 + j.val % 128, by omega⟩
def rank (k : Fin 1536) : Fin 1536 := ⟨k.val / 128 % 3 * 512 + k.val / 384 * 128 + k.val % 128, by omega⟩
theorem column_rank : ∀ k : Fin 1536, column (rank k) = k := by decide +kernel
theorem rank_column : ∀ j : Fin 1536, rank (column j) = j := by decide +kernel

theorem sum_parts (f : Fin 3584 → EReal) :
    ∑ x, f x = ∑ j : Fin 1536, f ⟨j.val, by omega⟩ + (∑ j : Fin 1536, f (mixRow j) + ∑ j : Fin 512, f (gateRow j)) := by
  refine (Fin.sum_univ_add (a := 1536) (b := 2048) f).trans (congrArg₂ (· + ·) rfl ((Fin.sum_univ_add (a := 1536) (b := 512) fun j => f (Fin.natAdd 1536 j)).trans (congrArg₂ (· + ·) rfl ?_)))
  exact Finset.sum_congr rfl fun j _ => congrArg f (Fin.ext (by show 1536 + (1536 + j.val) = 3072 + j.val; omega))

theorem dotTerm_apply (x0 x1 : FVec Ideal S4096x1536 .bf16) (x2 : FVec Ideal S4096x512 .bf16) (x3 : FVec Ideal S3584x1024 .bf16) (s : Fin 4096) (l : Fin 1024) :
    (dotTerm x0 x1 x2 x3 (ix2 s l) : EReal) = duOf x0 x1 x2 x3 s l := by
  pointwise [dotTerm]
  refine (sum_parts _).trans ?_
  rw [← add_assoc]
  refine congrArg₂ (fun a b : EReal => a + b) (congrArg₂ (fun a b : EReal => a + b) ?_ (Finset.sum_congr rfl fun j _ => ?_)) (Finset.sum_congr rfl fun j _ => ?_)
  · refine Fintype.sum_equiv (Equiv.mk column rank rank_column column_rank) _ _ fun j => ?_
    have hj := j.isLt
    dsimp only
    rw [dif_neg (by omega), dif_neg (by omega), dif_pos hj, zero_add, zero_add, pairs_apply]
    refine congrArg₂ (fun a b : EReal => a * b) rfl (congrArg (fun k : Fin 3584 => (x3 (ix2 k l) : EReal)) (Fin.ext ?_))
    exact (congrArg Fin.val (rank_column j)).symm
  · have hj := j.isLt
    have e : (mixRow j).val = 1536 + j.val := rfl
    rw [dif_neg (by omega), dif_pos (by omega), dif_neg (by omega), zero_add, add_zero]
    exact congrArg (fun k : Fin 1536 => (x1 (ix2 s k) : EReal) * x3 (ix2 (mixRow j) l)) (Fin.ext (by show 1536 + j.val - 1536 = j.val; omega))
  · have hj := j.isLt
    have e : (gateRow j).val = 3072 + j.val := rfl
    rw [dif_pos (by omega), dif_neg (by omega), dif_neg (by omega), add_zero, add_zero]
    exact congrArg (fun k : Fin 512 => (x2 (ix2 s k) : EReal) * x3 (ix2 (gateRow j) l)) (Fin.ext (by show 3072 + j.val - 3072 = j.val; omega))

theorem resTerm_apply (D x4 : FVec Ideal S4096x1024 .f32) (x5 : FVec Ideal S1x1024 .f32) (x6 : FVec Ideal S4096x1024 .f32) (s : Fin 4096) (l : Fin 1024) :
    (resTerm D x4 x5 x6 (ix2 s l) : EReal) = x6 (ix2 s l) + across (fun l => x4 (ix2 s l)) (fun l => D (ix2 s l) * x5 (ix2 0 l)) l := by
  refine Eq.trans ?_ (forms _ _ _ _).symm
  pointwise [resTerm, spreadTerm, meanTerm]
  simp only [Finset.univ_unique, Finset.sum_singleton]
  rfl

theorem sumTerm_apply (D x4 : FVec Ideal S4096x1024 .f32) (l : Fin 1024) :
    (sumTerm D x4 (ix2 0 l) : EReal) = ∑ s : Fin 4096, gain (fun l => x4 (ix2 s l)) (fun l => D (ix2 s l)) l := by
  pointwise [sumTerm, meanTerm]
  exact Finset.sum_congr rfl fun s _ => mul_comm _ _

theorem gainsTerm_apply (x0 x1 : FVec Ideal S4096x1536 .bf16) (x2 : FVec Ideal S4096x512 .bf16) (x3 : FVec Ideal S3584x1024 .bf16) (x4 : FVec Ideal S4096x1024 .f32) (l : Fin 1024) :
    (gainsTerm x0 x1 x2 x3 x4 (ix2 0 l) : EReal) = ∑ s : Fin 4096, gain (fun l => x4 (ix2 s l)) (duOf x0 x1 x2 x3 s) l := by
  refine (sumTerm_apply (dotTerm x0 x1 x2 x3) x4 l).trans (Finset.sum_congr rfl fun s _ => congrArg (fun d => gain (fun l => x4 (ix2 s l)) d l) (funext fun l => ?_))
  exact dotTerm_apply x0 x1 x2 x3 s l

variable (m : (ℓ : Loc nD τ sig) → Buf (Elt Ideal) ℓ) (c : Dev nD)

/-- The gradient of the residual stream at a row. -/
theorem ref0 (x0 x1 : S4096x1536.Idx → EReal) (x2 : S4096x512.Idx → EReal) (x3 : S3584x1024.Idx → EReal) (x4 : S4096x1024.Idx → EReal) (x5 : S1x1024.Idx → EReal) (x6 : S4096x1024.Idx → EReal)
    (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) (h5 : m ((c.tc : Thread nD τ).loc main_arg5) = x5)
    (h6 : m ((c.tc : Thread nD τ).loc main_arg6) = x6) (s : Fin 4096) (l : Fin 1024) :
    (Cert.Reference7Ideal.Value.res_main_v55 m c (ix2 s l) : EReal)
      = x6 (ix2 s l) + across (fun l => x4 (ix2 s l)) (fun l => duOf x0 x1 x2 x3 s l * x5 (ix2 0 l)) l := by
  have e : Cert.Reference7Ideal.Value.res_main_v55 m c = resTerm (dotTerm x0 x1 x2 x3) x4 x5 x6 := by
    unfold Cert.Reference7Ideal.Value.res_main_v55
    rw [h0, h1, h2, h3, h4, h5, h6]
    rfl
  rw [e]
  refine (resTerm_apply _ _ _ _ s l).trans ?_
  simp only [dotTerm_apply]

end Cert.Du1

end
-- ==== Proof.InProj.lean ====
/- The call in_proj: the first norm and its product with the input projection's weights, against the reference, at every index. -/
module

public import proofs.«01_k».proof.Proof.Du1Out
public import proofs.«01_k».proof.Proof.Gen.Kernel8Ideal.Value
public import proofs.«01_k».proof.Proof.Gen.Reference8Ideal.Run

@[expose] public section

noncomputable section

namespace Cert.InProj

open Idealize.ShloMosaic Idealize.ShloMosaic.TcCoe Idealize.SL.Sem
open Cert.DuNorm (zero2 brow)
open Cert.Du1 (order pairs pairs_apply)
open Cert.NormGrad (ms)

section Kernel
open Cert.Kernel8Ideal Cert.Kernel8Ideal.Gen Cert.Kernel8Ideal.Value

/-- The norm of a row, with its gains. -/
def normed (x g : Fin 1024 → EReal) (k : Fin 1024) : EReal := x k * Ideal.rsqrt (ms x) * g k
/-- A row's product with a row of the weights. -/
def along (u : Fin 1024 → EReal) (w : S3584x1024.Idx → EReal) (j : Fin 3584) : EReal := ∑ k, u k * w (ix2 j k)
/-- The weights' row of the mixer's and the gate's column `j`. -/
def above (j : Fin 2048) : Fin 3584 := ⟨1536 + j.val, by omega⟩
/-- The column of the mixer's forget gate. -/
def forget (j : Fin 512) : Fin 2048 := ⟨512 + j.val, by omega⟩

section Point
variable (x0 : FVec Ideal S512x1024 .f32) (x1 : FVec Ideal S1x1024 .f32) (x2 : FVec Ideal S1536x1024 .bf16) (x3 : Vec Ideal S3584x1024 .bf16) (r : Fin 512)

/-- The norm of row `r` of the block. -/
def rowOf : Fin 1024 → EReal := normed (fun k => x0 (ix2 r k)) fun k => x1 (ix2 0 k)

theorem u_apply (k : Fin 1024) : (k0_pay1 (F := Ideal) x0 x1 (ix2 r k) : EReal) = rowOf x0 x1 r k := by
  pointwise [k0_pay1]
  rfl
theorem a_apply (j : Fin 1536) : (k0_pay2 (F := Ideal) x0 x1 x2 (ix2 r j) : EReal) = ∑ k, rowOf x0 x1 r k * x2 (ix2 j k) := by
  pointwise [k0_pay2]
  simp only [u_apply]
theorem p_apply (w : FVec Ideal S2048x1024 .bf16) (j : Fin 2048) : (k0_pay3 (F := Ideal) x0 x1 w (ix2 r j) : EReal) = ∑ k, rowOf x0 x1 r k * w (ix2 j k) := by
  pointwise [k0_pay3]
  simp only [u_apply]

/-- The mixer's and the gate's rows of the weights. -/
def low (x : Vec Ideal S3584x1024 .bf16) : Vec Ideal S2048x1024 .bf16 := View.ld x (Rect.unit (s := S3584x1024) ![1536, 0] S2048x1024.size inb_S3584x1024_S2048x1024_1536_0)
theorem low_apply (j : Fin 2048) (k : Fin 1024) : low x3 (ix2 j k) = x3 (ix2 (above j) k) :=
  View.ld_unit_apply_of x3 _ _ _ (ix2 j k) (ix2 (above j) k) fun a => by
    match a with
    | ⟨0, _⟩ => rfl
    | ⟨1, _⟩ => show k.val = 0 + k.val; omega

theorem out4 (k : Fin 1024) : (out0_4 (F := Ideal) x0 x1 x2 x3 (ix2 r k) : EReal) = rowOf x0 x1 r k := by
  unfold out0_4
  rw [View.canon_cons_unit_zero (S := S512x1024) zero2, View.ld_unit_zero (S := S512x1024) zero2, View.ld_unit_zero (S := S1x1024) zero2]
  exact u_apply x0 x1 r k
theorem out5 (j : Fin 1536) : (out0_5 (F := Ideal) x0 x1 x2 x3 (ix2 r j) : EReal) = ∑ k, rowOf x0 x1 r k * x2 (ix2 j k) := by
  unfold out0_5
  rw [View.canon_cons_unit_zero (S := S512x1536) zero2, View.ld_unit_zero (S := S512x1024) zero2, View.ld_unit_zero (S := S1x1024) zero2, View.ld_unit_zero (S := S1536x1024) zero2]
  exact a_apply x0 x1 x2 r j
theorem out6 (j : Fin 2048) : (out0_6 (F := Ideal) x0 x1 x2 x3 (ix2 r j) : EReal) = along (rowOf x0 x1 r) x3 (above j) := by
  unfold out0_6
  rw [View.canon_cons_unit_zero (S := S512x2048) zero2, View.ld_unit_zero (S := S512x1024) zero2, View.ld_unit_zero (S := S1x1024) zero2]
  refine (p_apply x0 x1 r (low x3) j).trans ?_
  simp only [low_apply]
  rfl
theorem out7 (j : Fin 512) : (out0_7 (F := Ideal) x0 x1 x2 x3 (ix2 r j) : EReal) = along (rowOf x0 x1 r) x3 (above (forget j)) := by
  unfold out0_7
  rw [View.canon_cons_unit_zero (S := S512x512) zero2, View.ld_unit_zero (S := S512x1024) zero2, View.ld_unit_zero (S := S1x1024) zero2]
  have e : (k0_pay5 (F := Ideal) x0 x1 (low x3) (ix2 r j) : EReal) = k0_pay3 (F := Ideal) x0 x1 (low x3) (ix2 r (forget j)) := by
    pointwise [k0_pay5]
    rfl
  refine e.trans ((p_apply x0 x1 r (low x3) (forget j)).trans ?_)
  simp only [low_apply]
  rfl
end Point

/-! ## The arrays -/

variable (m : (ℓ : Loc nD τ sig) → Buf (Elt Ideal) ℓ) (c : Dev nD)

theorem pairs_eq : (V m c main_v3 : FVec Ideal S1536x1024 .bf16) = pairs (V m c main_arg2) := by
  rw [V_main_arg2]
  show StableHlo.after hostOps0 (fun b => m (c, b)) (Proc.devRef .tc main_v3) = _
  unfold hostOps0 pairs
  after_results_simp <;> rfl

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0])

theorem brow_val (t : Fin cfg0.N) (r : Fin 512) : (brow t.val r).val = 512 * t.val + r.val := by
  have := lt_of_lt_of_eq t.isLt (show cfg0.N = 8 from N_0)
  show (512 * t.val + r.val) % 4096 = _; omega

section Blocks
variable (t : Fin cfg0.N) (r : Fin 512)
theorem blk0 (k : Fin 1024) : (iblk m c 0 t : S512x1024.Idx → EReal) (ix2 r k) = (V m c main_arg0 : S4096x1024.Idx → EReal) (ix2 (brow t.val r) k) := by
  have hb := brow_val t r
  blk_ext [iblk, idx t]
theorem blk1 (k : Fin 1024) : (iblk m c 1 t : S1x1024.Idx → EReal) (ix2 0 k) = (V m c main_arg1 : S1x1024.Idx → EReal) (ix2 0 k) := by
  blk_ext [iblk, idx t]
theorem blk2 : (iblk m c 2 t : S1536x1024.Idx → EReal) = (V m c main_v3 : S1536x1024.Idx → EReal) := by
  funext y
  blk_ext [iblk, idx t]
theorem blk3 : (iblk m c 3 t : S3584x1024.Idx → EReal) = (V m c main_arg2 : S3584x1024.Idx → EReal) := by
  funext y
  blk_ext [iblk, idx t]
end Blocks

/-- The norm of row `s` of the array. -/
def normOf (x : S4096x1024.Idx → EReal) (g : S1x1024.Idx → EReal) (s : Fin 4096) : Fin 1024 → EReal := normed (fun k => x (ix2 s k)) fun k => g (ix2 0 k)
def normAt : Fin 4096 → Fin 1024 → EReal := normOf (V m c main_arg0) (V m c main_arg1)
def weights : S3584x1024.Idx → EReal := V m c main_arg2

theorem row_eq (t : Fin cfg0.N) (r : Fin 512) : rowOf (iblk m c 0 t) (iblk m c 1 t) r = normAt m c (brow t.val r) := by
  have e : ∀ x x' g g' : Fin 1024 → EReal, (∀ k, x k = x' k) → (∀ k, g k = g' k) → normed x g = normed x' g' := by
    intro x x' g g' hx hg
    rw [funext hx, funext hg]
  exact e _ _ _ _ (blk0 m c t r) (blk1 m c t)

theorem left4 (t : Fin cfg0.N) (r : Fin 512) (k : Fin 1024) :
    (out0_4 (F := Ideal) (iblk m c 0 t) (iblk m c 1 t) (iblk m c 2 t) (iblk m c 3 t) (ix2 r k) : EReal) = normAt m c (brow t.val r) k :=
  (out4 _ _ _ _ r k).trans (congrFun (row_eq m c t r) k)
theorem left5 (t : Fin cfg0.N) (r : Fin 512) (j : Fin 1536) :
    (out0_5 (F := Ideal) (iblk m c 0 t) (iblk m c 1 t) (iblk m c 2 t) (iblk m c 3 t) (ix2 r j) : EReal) = along (normAt m c (brow t.val r)) (weights m c) (order j) := by
  have e : ∀ (u u' : Fin 1024 → EReal) (v v' : S1536x1024.Idx → EReal), u = u' → v = v' → ∑ k, u k * v (ix2 j k) = ∑ k, u' k * v' (ix2 j k) := by
    intro u u' v v' hu hv
    rw [hu, hv]
  refine (out5 _ _ _ _ r j).trans ((e _ _ _ _ (row_eq m c t r) ((blk2 m c t).trans (pairs_eq m c))).trans (Finset.sum_congr rfl fun k _ => ?_))
  exact congrArg (fun z : EReal => normAt m c (brow t.val r) k * (z : EReal)) (pairs_apply _ j k)
theorem along_of (u u' : Fin 1024 → EReal) (w w' : S3584x1024.Idx → EReal) (j : Fin 3584) (hu : u = u') (hw : w = w') : along u w j = along u' w' j := by
  rw [hu, hw]
theorem left6 (t : Fin cfg0.N) (r : Fin 512) (j : Fin 2048) :
    (out0_6 (F := Ideal) (iblk m c 0 t) (iblk m c 1 t) (iblk m c 2 t) (iblk m c 3 t) (ix2 r j) : EReal) = along (normAt m c (brow t.val r)) (weights m c) (above j) :=
  (out6 _ _ _ _ r j).trans (along_of _ _ _ _ _ (row_eq m c t r) (blk3 m c t))
theorem left7 (t : Fin cfg0.N) (r : Fin 512) (j : Fin 512) :
    (out0_7 (F := Ideal) (iblk m c 0 t) (iblk m c 1 t) (iblk m c 2 t) (iblk m c 3 t) (ix2 r j) : EReal) = along (normAt m c (brow t.val r)) (weights m c) (above (forget j)) :=
  (out7 _ _ _ _ r j).trans (along_of _ _ _ _ _ (row_eq m c t r) (blk3 m c t))

/-- Row `s` of the arrays is row `s % 512` of the block of point `s / 512`. -/
theorem place (s : Fin 4096) : ∃ (t : Fin cfg0.N) (r : Fin 512), t.val = s.val / 512 ∧ r.val = s.val % 512 ∧ brow t.val r = s :=
  ⟨⟨s.val / 512, lt_of_lt_of_eq (show s.val / 512 < 8 by omega) (show 8 = cfg0.N from N_0.symm)⟩, ⟨s.val % 512, by omega⟩, rfl, rfl,
    Fin.ext ((brow_val _ _).trans (Nat.div_add_mod s.val 512))⟩

/-- The norm. -/
theorem result0 (s : Fin 4096) (k : Fin 1024) : ((dats m 0 c).arrAt 4 cfg0.N : S4096x1024.Idx → EReal) (ix2 s k) = normAt m c s k := by
  obtain ⟨t, r, ht, hj, hr⟩ := place s
  have e := congrFun (blocks4 m c t (flush0_4 t)) (ix2 r k)
  rw [flushed4] at e
  have a := left4 m c t r k
  generalize out0_4 (F := Ideal) (iblk m c 0 t) (iblk m c 1 t) (iblk m c 2 t) (iblk m c 3 t) = q at e a
  rw [hr] at a
  rw [← a]
  refine Eq.trans ?_ (e.trans ?_)
  · symm
    blk_ext [idx t]
  · blk_ext [idx t]
/-- The attention's columns, by pairs of heads. -/
theorem result1 (s : Fin 4096) (j : Fin 1536) : ((dats m 0 c).arrAt 5 cfg0.N : S4096x1536.Idx → EReal) (ix2 s j) = along (normAt m c s) (weights m c) (order j) := by
  obtain ⟨t, r, ht, hj, hr⟩ := place s
  have e := congrFun (blocks5 m c t (flush0_5 t)) (ix2 r j)
  rw [flushed5] at e
  have a := left5 m c t r j
  generalize out0_5 (F := Ideal) (iblk m c 0 t) (iblk m c 1 t) (iblk m c 2 t) (iblk m c 3 t) = q at e a
  rw [hr] at a
  rw [← a]
  refine Eq.trans ?_ (e.trans ?_)
  · symm
    blk_ext [idx t]
  · blk_ext [idx t]
/-- The mixer's and the gate's columns. -/
theorem result2 (s : Fin 4096) (j : Fin 2048) : ((dats m 0 c).arrAt 6 cfg0.N : S4096x2048.Idx → EReal) (ix2 s j) = along (normAt m c s) (weights m c) (above j) := by
  obtain ⟨t, r, ht, hj, hr⟩ := place s
  have e := congrFun (blocks6 m c t (flush0_6 t)) (ix2 r j)
  rw [flushed6] at e
  have a := left6 m c t r j
  generalize out0_6 (F := Ideal) (iblk m c 0 t) (iblk m c 1 t) (iblk m c 2 t) (iblk m c 3 t) = q at e a
  rw [hr] at a
  rw [← a]
  refine Eq.trans ?_ (e.trans ?_)
  · symm
    blk_ext [idx t]
  · blk_ext [idx t]
/-- The forget gate's columns. -/
theorem result3 (s : Fin 4096) (j : Fin 512) : ((dats m 0 c).arrAt 7 cfg0.N : S4096x512.Idx → EReal) (ix2 s j) = along (normAt m c s) (weights m c) (above (forget j)) := by
  obtain ⟨t, r, ht, hj, hr⟩ := place s
  have e := congrFun (blocks7 m c t (flush0_7 t)) (ix2 r j)
  rw [flushed7] at e
  have a := left7 m c t r j
  generalize out0_7 (F := Ideal) (iblk m c 0 t) (iblk m c 1 t) (iblk m c 2 t) (iblk m c 3 t) = q at e a
  rw [hr] at a
  rw [← a]
  refine Eq.trans ?_ (e.trans ?_)
  · symm
    blk_ext [idx t]
  · blk_ext [idx t]

end Kernel

/-! ## The reference -/

section Reference
open Cert.Reference8Ideal Cert.Reference8Ideal.Gen
variable (x0 : FVec Ideal S4096x1024 .f32) (x1 : FVec Ideal S1x1024 .f32) (x2 : FVec Ideal S3584x1024 .bf16) (s : Fin 4096)

/-- The reference's operations on its arguments: the norm, and its product with the weights. -/
def normTerm : FVec Ideal S4096x1024 .f32 :=
  mulf (mulf x0 (broadcastInDim S4096x1024 ![0, 1] bcast_S4096x1_S4096x1024_0_1 (Host.rsqrt (addf (Host.divf (broadcastInDim S4096x1 ![0] bcast_S4096_S4096x1_0
    (Host.reduceAdd (mulf x0 x0) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 x1)
def projTerm (u : FVec Ideal S4096x1024 .f32) : FVec Ideal S4096x3584 .f32 :=
  Host.dotGeneral dot_S4096x1024_S1024x3584_S4096x3584_1_0_0_1_n_n none u (transpose S1024x3584 [1, 0] (extf .f32 x2 bitsLt_bf16_f32) transposes_S3584x1024_S1024x3584_1_0)
/-- The four results. -/
def ref0Term : FVec Ideal S4096x1024 .bf16 := truncf .bf16 (normTerm x0 x1) bitsLt_bf16_f32
def ref1Term : FVec Ideal S4096x1536 .bf16 :=
  truncf .bf16 (shapeCast S4096x1536 (transpose S4096x4x3x128 [0, 2, 1, 3] (shapeCast S4096x3x4x128 (extractStridedSlice S4096x1536 ![0, 0] (projTerm x2 (normTerm x0 x1))
    slices_S4096x3584_S4096x1536_0_0) shapeCasts_S4096x1536_S4096x3x4x128) transposes_S4096x3x4x128_S4096x4x3x128_0_2_1_3) shapeCasts_S4096x4x3x128_S4096x1536) bitsLt_bf16_f32
def ref2Term : FVec Ideal S4096x2048 .bf16 := truncf .bf16 (extractStridedSlice S4096x2048 ![0, 1536] (projTerm x2 (normTerm x0 x1)) slices_S4096x3584_S4096x2048_0_1536) bitsLt_bf16_f32
def ref3Term : FVec Ideal S4096x512 .f32 := extractStridedSlice S4096x512 ![0, 2048] (projTerm x2 (normTerm x0 x1)) slices_S4096x3584_S4096x512_0_2048

theorem normTerm_apply (k : Fin 1024) : (normTerm x0 x1 (ix2 s k) : EReal) = normOf x0 x1 s k := by
  pointwise [normTerm]
  rfl
theorem projTerm_apply (j : Fin 3584) : (projTerm x2 (normTerm x0 x1) (ix2 s j) : EReal) = along (normOf x0 x1 s) x2 j := by
  have e : ∀ u : FVec Ideal S4096x1024 .f32, (projTerm x2 u (ix2 s j) : EReal) = along (fun k => u (ix2 s k)) x2 j := by
    intro u
    pointwise [projTerm]
    rfl
  exact (e _).trans (congrArg (fun u => along u x2 j) (funext fun k => normTerm_apply x0 x1 s k))

theorem ref0 (k : Fin 1024) : (ref0Term x0 x1 (ix2 s k) : EReal) = normOf x0 x1 s k := normTerm_apply x0 x1 s k
theorem ref1 (j : Fin 1536) : (ref1Term x0 x1 x2 (ix2 s j) : EReal) = along (normOf x0 x1 s) x2 (order j) := by
  refine Eq.trans ?_ (projTerm_apply x0 x1 x2 s (order j))
  unfold ref1Term
  generalize projTerm x2 (normTerm x0 x1) = p
  pointwise []
  refine congrArg (fun i : Fin 3584 => (p (ix2 s i) : EReal)) (Fin.ext ?_)
  simp only [order]
  try omega
theorem ref2 (j : Fin 2048) : (ref2Term x0 x1 x2 (ix2 s j) : EReal) = along (normOf x0 x1 s) x2 (above j) := by
  refine Eq.trans ?_ (projTerm_apply x0 x1 x2 s (above j))
  unfold ref2Term
  generalize projTerm x2 (normTerm x0 x1) = p
  pointwise []
  rfl
theorem ref3 (j : Fin 512) : (ref3Term x0 x1 x2 (ix2 s j) : EReal) = along (normOf x0 x1 s) x2 (above (forget j)) := by
  refine Eq.trans ?_ (projTerm_apply x0 x1 x2 s (above (forget j)))
  unfold ref3Term
  generalize projTerm x2 (normTerm x0 x1) = p
  pointwise []
  refine congrArg (fun i : Fin 3584 => (p (ix2 s i) : EReal)) (Fin.ext ?_)
  show 2048 + j.val = 1536 + (512 + j.val)
  omega
end Reference

end Cert.InProj

end
-- ==== Proof.DownLoss.lean ====
/- The call down_loss: the residual stream, the final norm, the loss and its gradient at a point of the grid, and what every point leaves. -/
module

public import proofs.«01_k».proof.Proof.NormGrad
public import proofs.«01_k».proof.Proof.DuNormOut
public import proofs.«01_k».proof.Proof.Gen.Kernel9Ideal.Value

@[expose] public section

noncomputable section

namespace Cert.DownLoss

open Idealize.ShloMosaic Idealize.ShloMosaic.TcCoe Idealize.SL.Sem Cert.Kernel9Ideal Cert.Kernel9Ideal.Gen Cert.Kernel9Ideal.Value
open Cert.DuNorm (zero2 gain)
open Cert.NormGrad (ms across lit_1024)

/-! ## A row -/

/-- The residual stream after the layer: a row of it and the product of a row of the activations with the weights. -/
def stream (a : Fin 2816 → EReal) (w : S2816x1024.Idx → EReal) (h : Fin 1024 → EReal) (l : Fin 1024) : EReal := h l + ∑ k, a k * w (ix2 k l)
/-- The difference of the normalised row and the target. -/
def err (x g t : Fin 1024 → EReal) (l : Fin 1024) : EReal := x l * Ideal.rsqrt (ms x) * g l - t l
/-- The cotangent of the normalised row. -/
def cot (x g t : Fin 1024 → EReal) (l : Fin 1024) : EReal := err x g t l * Ideal.ofBits .f32 0x3A800000#32
/-- The mean of the squared differences. -/
def meanSq (x g t : Fin 1024 → EReal) : EReal := Ideal.div (∑ l, err x g t l * err x g t l) (Ideal.ofBits .f32 0x44800000#32)
/-- The gradient of the residual stream. -/
def grad (x g t : Fin 1024 → EReal) (l : Fin 1024) : EReal := across x (fun l => cot x g t l * g l) l

theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_part : Ideal.ofBits .f32 0x3A800000#32 = ((1 / 1024 : ℝ) : EReal) := by
  simp [Ideal.ofBits, Ideal.ieee, -EReal.coe_mul]; norm_num

/-- The derivative of a square, scaled as the loss is. -/
theorem scaled (e : EReal) :
    Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  rw [lit_half, lit_one, lit_1024, lit_two, lit_part, Ideal.div_coe (by norm_num), ← EReal.coe_mul, ← EReal.coe_mul, ← mul_assoc, ← EReal.coe_mul, mul_comm]
  refine congrArg (fun z : ℝ => e * (z : EReal)) ?_
  norm_num
theorem half_add (a b : EReal) : Ideal.ofBits .f32 0x3F000000#32 * (a + b) = Ideal.ofBits .f32 0x3F000000#32 * a + Ideal.ofBits .f32 0x3F000000#32 * b := by
  rw [lit_half, mul_comm, EReal.right_distrib_of_nonneg_of_ne_top (EReal.coe_nonneg.mpr (by norm_num)) (EReal.coe_ne_top _), mul_comm a, mul_comm b]

/-! ## The terms at a row of the block -/

section Point
variable (x0 : FVec Ideal S512x2816 .bf16) (x1 : FVec Ideal S2816x1024 .bf16) (x2 : FVec Ideal S512x1024 .f32) (x3 : FVec Ideal S1x1024 .f32) (x4 : FVec Ideal S512x1024 .f32) (r : Fin 512)

/-- Row `r` of the residual stream, of the target, and the gains. -/
def xRow : Fin 1024 → EReal := stream (fun k => x0 (ix2 r k)) x1 fun l => x2 (ix2 r l)
def tRow (l : Fin 1024) : EReal := x4 (ix2 r l)
def gRow (l : Fin 1024) : EReal := x3 (ix2 0 l)

theorem x_apply (l : Fin 1024) : (k0_pay7 (F := Ideal) x2 x0 x1 (ix2 r l) : EReal) = xRow x0 x1 x2 r l := by
  pointwise [k0_pay7]
  rfl
theorem r_apply (z : Fin 1) : (k0_pay8 (F := Ideal) x2 x0 x1 (ix2 r z) : EReal) = Ideal.rsqrt (ms (xRow x0 x1 x2 r)) := by
  pointwise [k0_pay8]
  simp only [x_apply]
  rfl
theorem xh_apply (l : Fin 1024) : (k0_pay9 (F := Ideal) x2 x0 x1 (ix2 r l) : EReal) = xRow x0 x1 x2 r l * Ideal.rsqrt (ms (xRow x0 x1 x2 r)) := by
  pointwise [k0_pay9]
  simp only [x_apply, r_apply]
theorem err_apply (l : Fin 1024) : (k0_pay10 (F := Ideal) x2 x0 x1 x3 x4 (ix2 r l) : EReal) = err (xRow x0 x1 x2 r) (gRow x3) (tRow x4 r) l := by
  pointwise [k0_pay10]
  simp only [xh_apply]
  rfl
theorem cot_apply (l : Fin 1024) : (k0_pay12 (F := Ideal) x2 x0 x1 x3 x4 (ix2 r l) : EReal) = cot (xRow x0 x1 x2 r) (gRow x3) (tRow x4 r) l := by
  pointwise [k0_pay12]
  simp only [err_apply]
  rfl
theorem d_apply (l : Fin 1024) : (k0_pay13 (F := Ideal) x2 x0 x1 x3 x4 (ix2 r l) : EReal) = cot (xRow x0 x1 x2 r) (gRow x3) (tRow x4 r) l * gRow x3 l := by
  pointwise [k0_pay13]
  simp only [cot_apply]
  rfl
theorem dot_apply (z : Fin 1) : (k0_pay14 (F := Ideal) x2 x0 x1 x3 x4 (ix2 r z) : EReal)
    = ∑ l, cot (xRow x0 x1 x2 r) (gRow x3) (tRow x4 r) l * gRow x3 l * (xRow x0 x1 x2 r l * Ideal.rsqrt (ms (xRow x0 x1 x2 r))) := by
  pointwise [k0_pay14]
  simp only [d_apply, xh_apply]
end Point

section Terms
variable {F : FTy → Type} [FloatOps F] (x0 : Vec F S512x2816 .bf16) (x1 : Vec F S2816x1024 .bf16) (x2 : Vec F S512x1024 .f32) (x3 : Vec F S1x1024 .f32) (x4 : Vec F S512x1024 .f32)
/-- The block's gradient of the residual stream, and its shares of the gradient of the gains and of the loss. -/
def out : FVec F S512x1024 .f32 :=
  k0_pay1 (k0_pay8 x2 x0 x1) (k0_pay9 x2 x0 x1) (k0_pay13 x2 x0 x1 x3 x4) (k0_pay14 x2 x0 x1 x3 x4) (Scalar.ofBits .f32 0x44800000#32)
def gains : FVec F S1x1024 .f32 := k0_pay3 (k0_pay9 x2 x0 x1) (k0_pay12 x2 x0 x1 x3 x4)
def loss : FVec F S1x128 .f32 := k0_pay5 (k0_pay11 x2 x0 x1 x3 x4)
end Terms

section Values
variable (x0 : FVec Ideal S512x2816 .bf16) (x1 : FVec Ideal S2816x1024 .bf16) (x2 : FVec Ideal S512x1024 .f32) (x3 : FVec Ideal S1x1024 .f32) (x4 : FVec Ideal S512x1024 .f32)
theorem out_apply (r : Fin 512) (l : Fin 1024) : (out (F := Ideal) x0 x1 x2 x3 x4 (ix2 r l) : EReal) = grad (xRow x0 x1 x2 r) (gRow x3) (tRow x4 r) l := by
  pointwise [out, k0_pay1]
  simp only [r_apply, xh_apply, d_apply, dot_apply]
  rfl
theorem gains_apply (l : Fin 1024) : (gains (F := Ideal) x0 x1 x2 x3 x4 (ix2 0 l) : EReal) = ∑ r : Fin 512, gain (xRow x0 x1 x2 r) (cot (xRow x0 x1 x2 r) (gRow x3) (tRow x4 r)) l := by
  pointwise [gains, k0_pay3]
  simp only [xh_apply, cot_apply]
  rfl
theorem loss_apply (j : Fin 128) : (loss (F := Ideal) x0 x1 x2 x3 x4 (ix2 0 j) : EReal)
    = Ideal.ofBits .f32 0x3F000000#32 * ∑ r : Fin 512, meanSq (xRow x0 x1 x2 r) (gRow x3) (tRow x4 r) := by
  pointwise [loss, k0_pay5, k0_pay11]
  simp only [err_apply]
  rfl
end Values

/-! ## What a point leaves -/

section Left
variable {F : FTy → Type} [FloatOps F] (m : (ℓ : Loc nD τ sig) → Buf (Elt F) ℓ) (c : Dev nD) (t : Fin cfg0.N)

def outAt : FVec F S512x1024 .f32 := out (iblk m c 0 t) (iblk m c 1 t) (iblk m c 2 t) (iblk m c 3 t) (iblk m c 4 t)
def gainsAt : FVec F S1x1024 .f32 := gains (iblk m c 0 t) (iblk m c 1 t) (iblk m c 2 t) (iblk m c 3 t) (iblk m c 4 t)
def lossAt : FVec F S1x128 .f32 := loss (iblk m c 0 t) (iblk m c 1 t) (iblk m c 2 t) (iblk m c 3 t) (iblk m c 4 t)

theorem leftA (h0 : t.val % 8 = 0) (h1 : ¬1 ≤ t.val) :
    outsAt0 m c t.val t.isLt = (outAt m c t, truncf .bf16 (outAt m c t) bitsLt_bf16_f32, gainsAt m c t, lossAt m c t) := by
  rw [outsAt0_A m c t h0 h1 h0 h1]
  refine congrArg₂ Prod.mk ?_ (congrArg₂ Prod.mk ?_ (congrArg₂ Prod.mk ?_ ?_))
  · unfold out0_A_5
    refine (View.read_writes_eq_canon _ _ _ fun y => cover0_A_5 (y := y) ..).trans ?_
    unfold kernelRun0_A
    dsimp only
    sl_unfold_words
    rw [View.canon_cons_unit_zero (S := S512x1024) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl
  · unfold out0_A_6
    refine (View.read_writes_eq_canon _ _ _ fun y => cover0_A_6 (y := y) ..).trans ?_
    unfold kernelRun0_A
    dsimp only
    sl_unfold_words
    rw [View.canon_cons_unit_zero (S := S512x1024) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl
  · unfold out0_A_7
    refine (View.read_writes_eq_canon _ _ _ fun y => cover0_A_7 (y := y) ..).trans ?_
    unfold kernelRun0_A
    dsimp only
    sl_unfold_words
    rw [View.canon_cons_unit_zero (S := S1x1024) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl
  · unfold out0_A_8
    refine (View.read_writes_eq_canon _ _ _ fun y => cover0_A_8 (y := y) ..).trans ?_
    unfold kernelRun0_A
    dsimp only
    sl_unfold_words
    rw [View.canon_cons_unit_zero (S := S1x128) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl

theorem leftB (h0 : ¬t.val % 8 = 0) (h1 : 1 ≤ t.val) :
    outsAt0 m c t.val t.isLt = (outAt m c t, truncf .bf16 (outAt m c t) bitsLt_bf16_f32,
      addf (outsAt0 m c (t.val - 1) (Nat.lt_of_le_of_lt (Nat.sub_le _ _) t.isLt)).2.2.1 (gainsAt m c t),
      addf (outsAt0 m c (t.val - 1) (Nat.lt_of_le_of_lt (Nat.sub_le _ _) t.isLt)).2.2.2 (lossAt m c t)) := by
  rw [outsAt0_B m c t h0 h1 h0 h1]
  refine congrArg₂ Prod.mk ?_ (congrArg₂ Prod.mk ?_ (congrArg₂ Prod.mk ?_ ?_))
  · unfold out0_B_5
    refine (View.read_writes_eq_canon _ _ _ fun y => cover0_B_5 (y := y) ..).trans ?_
    unfold kernelRun0_B
    dsimp only
    sl_unfold_words
    rw [View.canon_cons_unit_zero (S := S512x1024) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl
  · unfold out0_B_6
    refine (View.read_writes_eq_canon _ _ _ fun y => cover0_B_6 (y := y) ..).trans ?_
    unfold kernelRun0_B
    dsimp only
    sl_unfold_words
    rw [View.canon_cons_unit_zero (S := S512x1024) zero2]
    simp only [View.readAt_eq_ld, (hs0_0 t).read_unread, (hs0_1 t).read_unread, (hs0_2 t).read_unread, (hs0_3 t).read_unread, (hs0_4 t).read_unread, View.ld_unit_zero (S := S1x1024) zero2,
      View.ld_unit_zero (S := S512x1024) zero2, View.ld_unit_zero (S := S512x2816) zero2, View.ld_unit_zero (S := S2816x1024) zero2]
    rfl
  · unfold out0_B_7
    refine (View.read_writes_eq_canon _ _ _ fun y => cover0_B_7 (y := y) ..).trans ?_
    unfold kernelRun0_B
    dsimp only
    sl_unfold_words
    rw [View.canon_cons_unit_zero (S := S1x1024) zero2]
    unfold k0_pay4
    simp only [View.readAt_eq_ld, (hs0_0 t).read_unread, (hs0_1 t).read_unread, (hs0_2 t).read_unread, (hs0_3 t).read_unread, (hs0_4 t).read_unread, (hs0_7 t).read_unread,
      View.ld_unit_zero (S := S1x1024) zero2, View.ld_unit_zero (S := S512x1024) zero2, View.ld_unit_zero (S := S512x2816) zero2, View.ld_unit_zero (S := S2816x1024) zero2]
    rw [shapeCast_self]
    rfl
  · unfold out0_B_8
    refine (View.read_writes_eq_canon _ _ _ fun y => cover0_B_8 (y := y) ..).trans ?_
    unfold kernelRun0_B
    dsimp only
    sl_unfold_words
    rw [View.canon_cons_unit_zero (S := S1x128) zero2]
    unfold k0_pay6
    simp only [View.readAt_eq_ld, (hs0_0 t).read_unread, (hs0_1 t).read_unread, (hs0_2 t).read_unread, (hs0_3 t).read_unread, (hs0_4 t).read_unread, (hs0_8 t).read_unread,
      View.ld_unit_zero (S := S1x1024) zero2, View.ld_unit_zero (S := S1x128) zero2, View.ld_unit_zero (S := S512x1024) zero2, View.ld_unit_zero (S := S512x2816) zero2, View.ld_unit_zero (S := S2816x1024) zero2]
    rw [shapeCast_self]
    rfl
end Left

end Cert.DownLoss

end
-- ==== Proof.DownLossOut.lean ====
/- The call down_loss: its results at every index, and the reference's. -/
module

public import proofs.«01_k».proof.Proof.DownLoss
public import proofs.«01_k».proof.Proof.Gen.Reference9Ideal.Run

@[expose] public section

noncomputable section

namespace Cert.DownLoss

open Idealize.ShloMosaic Idealize.ShloMosaic.TcCoe Idealize.SL.Sem
open Cert.DuNorm (gain brow)
open Cert.NormGrad (across ms forms)

section Kernel
open Cert.Kernel9Ideal Cert.Kernel9Ideal.Gen Cert.Kernel9Ideal.Value
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0])

theorem lt8 (t : Fin cfg0.N) : t.val < 8 := lt_of_lt_of_eq t.isLt (show cfg0.N = 8 from N_0)
theorem brow_val (t : Fin cfg0.N) (r : Fin 512) : (brow t.val r).val = 512 * t.val + r.val := by
  have := lt8 t
  show (512 * t.val + r.val) % 4096 = _; omega

section Blocks
variable (t : Fin cfg0.N) (r : Fin 512)
theorem blk0 (k : Fin 2816) : (iblk m c 0 t : S512x2816.Idx → EReal) (ix2 r k) = (V m c main_arg0 : S4096x2816.Idx → EReal) (ix2 (brow t.val r) k) := by
  have hb := brow_val t r
  blk_ext [iblk, idx t]
theorem blk1 : (iblk m c 1 t : S2816x1024.Idx → EReal) = (V m c main_arg1 : S2816x1024.Idx → EReal) := by
  funext y
  blk_ext [iblk, idx t]
theorem blk2 (k : Fin 1024) : (iblk m c 2 t : S512x1024.Idx → EReal) (ix2 r k) = (V m c main_arg2 : S4096x1024.Idx → EReal) (ix2 (brow t.val r) k) := by
  have hb := brow_val t r
  blk_ext [iblk, idx t]
theorem blk3 (k : Fin 1024) : (iblk m c 3 t : S1x1024.Idx → EReal) (ix2 0 k) = (V m c main_arg3 : S1x1024.Idx → EReal) (ix2 0 k) := by
  blk_ext [iblk, idx t]
theorem blk4 (k : Fin 1024) : (iblk m c 4 t : S512x1024.Idx → EReal) (ix2 r k) = (V m c main_arg4 : S4096x1024.Idx → EReal) (ix2 (brow t.val r) k) := by
  have hb := brow_val t r
  blk_ext [iblk, idx t]
end Blocks

/-- Row `s` of the residual stream, from the arrays. -/
def xOf (a : S4096x2816.Idx → EReal) (w : S2816x1024.Idx → EReal) (h : S4096x1024.Idx → EReal) (s : Fin 4096) : Fin 1024 → EReal := stream (fun k => a (ix2 s k)) w fun l => h (ix2 s l)
def xAt : Fin 4096 → Fin 1024 → EReal := xOf (V m c main_arg0) (V m c main_arg1) (V m c main_arg2)
def gAt (l : Fin 1024) : EReal := (V m c main_arg3 : S1x1024.Idx → EReal) (ix2 0 l)
def tAt (s : Fin 4096) (l : Fin 1024) : EReal := (V m c main_arg4 : S4096x1024.Idx → EReal) (ix2 s l)

theorem xRow_eq (t : Fin cfg0.N) (r : Fin 512) : xRow (iblk m c 0 t) (iblk m c 1 t) (iblk m c 2 t) r = xAt m c (brow t.val r) := by
  have e : ∀ (a a' : Fin 2816 → EReal) (w w' : S2816x1024.Idx → EReal) (h h' : Fin 1024 → EReal), (∀ k, a k = a' k) → w = w' → (∀ k, h k = h' k) → stream a w h = stream a' w' h' := by
    intro a a' w w' h h' ha hw hh
    rw [funext ha, hw, funext hh]
  exact e _ _ _ _ _ _ (blk0 m c t r) (blk1 m c t) (blk2 m c t r)
theorem gRow_eq (t : Fin cfg0.N) : gRow (iblk m c 3 t) = gAt m c := funext (blk3 m c t)
theorem tRow_eq (t : Fin cfg0.N) (r : Fin 512) : tRow (iblk m c 4 t) r = tAt m c (brow t.val r) := funext (blk4 m c t r)

/-- The shares of the rows of block `t` in the gradient of the gains and in the loss. -/
def share (t : ℕ) (l : Fin 1024) : EReal := ∑ r : Fin 512, gain (xAt m c (brow t r)) (cot (xAt m c (brow t r)) (gAt m c) (tAt m c (brow t r))) l
def part (t : ℕ) : EReal := ∑ r : Fin 512, meanSq (xAt m c (brow t r)) (gAt m c) (tAt m c (brow t r))

theorem outAt_eq (t : Fin cfg0.N) (r : Fin 512) (l : Fin 1024) :
    (outAt (F := Ideal) m c t (ix2 r l) : EReal) = grad (xAt m c (brow t.val r)) (gAt m c) (tAt m c (brow t.val r)) l := by
  refine (out_apply _ _ _ _ _ r l).trans ?_
  rw [xRow_eq, gRow_eq, tRow_eq]
theorem gainsAt_eq (t : Fin cfg0.N) (l : Fin 1024) : (gainsAt (F := Ideal) m c t (ix2 0 l) : EReal) = share m c t.val l := by
  refine (gains_apply _ _ _ _ _ l).trans (Finset.sum_congr rfl fun r _ => ?_)
  rw [xRow_eq, gRow_eq, tRow_eq]
theorem lossAt_eq (t : Fin cfg0.N) (j : Fin 128) : (lossAt (F := Ideal) m c t (ix2 0 j) : EReal) = Ideal.ofBits .f32 0x3F000000#32 * part m c t.val := by
  refine (loss_apply _ _ _ _ _ j).trans (congrArg (fun z : EReal => Ideal.ofBits .f32 0x3F000000#32 * z) (Finset.sum_congr rfl fun r _ => ?_))
  rw [xRow_eq, gRow_eq, tRow_eq]

/-- What point `t` leaves: its rows, and the running gradient of the gains and the running loss. -/
theorem left (t : Fin cfg0.N) :
    ∃ (acc : FVec Ideal S1x1024 .f32) (sum : FVec Ideal S1x128 .f32),
      outsAt0 m c t.val t.isLt = (outAt m c t, truncf .bf16 (outAt m c t) bitsLt_bf16_f32, acc, sum)
      ∧ (∀ l, (acc (ix2 0 l) : EReal) = (if t.val = 0 then 0 else (outsAt0 m c (t.val - 1) (Nat.lt_of_le_of_lt (Nat.sub_le _ _) t.isLt)).2.2.1 (ix2 0 l)) + gainsAt (F := Ideal) m c t (ix2 0 l))
      ∧ ∀ j, (sum (ix2 0 j) : EReal) = (if t.val = 0 then 0 else (outsAt0 m c (t.val - 1) (Nat.lt_of_le_of_lt (Nat.sub_le _ _) t.isLt)).2.2.2 (ix2 0 j)) + lossAt (F := Ideal) m c t (ix2 0 j) := by
  have ht := lt8 t
  by_cases h : t.val = 0
  · exact ⟨_, _, leftA m c t (by omega) (by omega), fun l => by rw [if_pos h, zero_add], fun l => by rw [if_pos h, zero_add]⟩
  · exact ⟨_, _, leftB m c t (by omega) (by omega), fun l => by rw [if_neg h]; rfl, fun l => by rw [if_neg h]; rfl⟩

theorem acc_eq (l : Fin 1024) : ∀ (n : ℕ) (hn : n < cfg0.N), ((outsAt0 m c n hn).2.2.1 (ix2 0 l) : EReal) = ∑ t ∈ Finset.range (n + 1), share m c t l := by
  intro n
  induction n with
  | zero =>
    intro hn
    obtain ⟨acc, sum, e, h, -⟩ := left m c ⟨0, hn⟩
    have h' := h l
    rw [if_pos rfl, zero_add, gainsAt_eq] at h'
    rw [Finset.sum_range_one, ← h']
    exact congrArg (fun z => z.2.2.1 (ix2 0 l)) e
  | succ n ih =>
    intro hn
    obtain ⟨acc, sum, e, h, -⟩ := left m c ⟨n + 1, hn⟩
    have h' := h l
    rw [if_neg (Nat.succ_ne_zero n), gainsAt_eq] at h'
    rw [Finset.sum_range_succ, ← ih (Nat.lt_of_succ_lt hn)]
    exact (congrArg (fun z => z.2.2.1 (ix2 0 l)) e).trans h'
theorem sum_eq (j : Fin 128) : ∀ (n : ℕ) (hn : n < cfg0.N),
    ((outsAt0 m c n hn).2.2.2 (ix2 0 j) : EReal) = Ideal.ofBits .f32 0x3F000000#32 * ∑ t ∈ Finset.range (n + 1), part m c t := by
  intro n
  induction n with
  | zero =>
    intro hn
    obtain ⟨acc, sum, e, -, h⟩ := left m c ⟨0, hn⟩
    have h' := h j
    rw [if_pos rfl, zero_add, lossAt_eq] at h'
    rw [Finset.sum_range_one, ← h']
    exact congrArg (fun z => z.2.2.2 (ix2 0 j)) e
  | succ n ih =>
    intro hn
    obtain ⟨acc, sum, e, -, h⟩ := left m c ⟨n + 1, hn⟩
    have h' := h j
    rw [if_neg (Nat.succ_ne_zero n), lossAt_eq] at h'
    rw [Finset.sum_range_succ, half_add, ← ih (Nat.lt_of_succ_lt hn)]
    exact (congrArg (fun z => z.2.2.2 (ix2 0 j)) e).trans h'

/-- A sum over the rows of the eight blocks is a sum over all rows. -/
theorem all_rows (f : Fin 4096 → EReal) : ∑ t ∈ Finset.range 8, ∑ r : Fin 512, f (brow t r) = ∑ s : Fin 4096, f s := by
  rw [Finset.sum_range, ← Fintype.sum_equiv (finProdFinEquiv (m := 8) (n := 512)) (fun p => f (brow p.1.val p.2)) _ fun p => ?_, Fintype.sum_prod_type]
  have hp : brow p.1.val p.2 = finProdFinEquiv p := Fin.ext (by
    show (512 * p.1.val + p.2.val) % 4096 = p.2.val + 512 * p.1.val
    have := p.1.isLt; have := p.2.isLt; omega)
  rw [hp]

/-- Row `s` of the arrays is row `s % 512` of the block of point `s / 512`. -/
theorem place (s : Fin 4096) : ∃ (t : Fin cfg0.N) (r : Fin 512), t.val = s.val / 512 ∧ r.val = s.val % 512 ∧ brow t.val r = s :=
  ⟨⟨s.val / 512, lt_of_lt_of_eq (show s.val / 512 < 8 by omega) (show 8 = cfg0.N from N_0.symm)⟩, ⟨s.val % 512, by omega⟩, rfl, rfl,
    Fin.ext ((brow_val _ _).trans (Nat.div_add_mod s.val 512))⟩

/-- The gradient of the residual stream, in single precision and rounded. -/
theorem result0 (s : Fin 4096) (l : Fin 1024) : ((dats m 0 c).arrAt 5 cfg0.N : S4096x1024.Idx → EReal) (ix2 s l) = grad (xAt m c s) (gAt m c) (tAt m c s) l := by
  obtain ⟨t, r, ht, hj, hr⟩ := place s
  have e := congrFun (blocks5 m c t (flush0_5 t)) (ix2 r l)
  obtain ⟨acc, sum, o, -⟩ := left m c t
  rw [flushed5, o] at e
  have a := outAt_eq m c t r l
  rw [hr] at a
  rw [← a]
  dsimp only at e
  generalize outAt (F := Ideal) m c t = q at e ⊢
  refine Eq.trans ?_ (e.trans ?_)
  · symm
    blk_ext [idx t]
  · blk_ext [idx t]
theorem result1 (s : Fin 4096) (l : Fin 1024) : ((dats m 0 c).arrAt 6 cfg0.N : S4096x1024.Idx → EReal) (ix2 s l) = grad (xAt m c s) (gAt m c) (tAt m c s) l := by
  obtain ⟨t, r, ht, hj, hr⟩ := place s
  have e := congrFun (blocks6 m c t (flush0_6 t)) (ix2 r l)
  obtain ⟨acc, sum, o, -⟩ := left m c t
  rw [flushed6, o] at e
  have a : ((truncf (F := Ideal) .bf16 (outAt m c t) bitsLt_bf16_f32 : FVec Ideal S512x1024 .bf16) (ix2 r l) : EReal) = _ := outAt_eq m c t r l
  rw [hr] at a
  rw [← a]
  dsimp only at e
  generalize truncf (F := Ideal) .bf16 (outAt m c t) bitsLt_bf16_f32 = q at e ⊢
  refine Eq.trans ?_ (e.trans ?_)
  · symm
    blk_ext [idx t]
  · blk_ext [idx t]
/-- The gradient of the gains: all rows. -/
theorem result2 (l : Fin 1024) :
    ((dats m 0 c).arrAt 7 cfg0.N : S1x1024.Idx → EReal) (ix2 0 l) = ∑ s : Fin 4096, gain (xAt m c s) (cot (xAt m c s) (gAt m c) (tAt m c s)) l := by
  have e : (dats m 0 c).arrAt 7 cfg0.N = (outsAt0 m c t0_7.val t0_7.isLt).2.2.1 := by
    refine (dats m 0 c).arrAt_eq_of_after_last 7 t0_7 (by decide +kernel) _ fun j => ?_
    rw [after0_7]
    blk_simp
    rfl
  rw [e]
  exact (acc_eq m c l t0_7.val t0_7.isLt).trans (all_rows fun s => gain (xAt m c s) (cot (xAt m c s) (gAt m c) (tAt m c s)) l)
/-- The loss: all rows. -/
theorem result3 (j : Fin 128) :
    ((dats m 0 c).arrAt 8 cfg0.N : S1x128.Idx → EReal) (ix2 0 j) = Ideal.ofBits .f32 0x3F000000#32 * ∑ s : Fin 4096, meanSq (xAt m c s) (gAt m c) (tAt m c s) := by
  have e : (dats m 0 c).arrAt 8 cfg0.N = (outsAt0 m c t0_7.val t0_7.isLt).2.2.2 := by
    refine (dats m 0 c).arrAt_eq_of_after_last 8 t0_7 (by decide +kernel) _ fun j => ?_
    rw [after0_8]
    blk_simp
    rfl
  rw [e]
  exact (sum_eq m c j t0_7.val t0_7.isLt).trans (congrArg (fun z : EReal => Ideal.ofBits .f32 0x3F000000#32 * z)
    (all_rows fun s => meanSq (xAt m c s) (gAt m c) (tAt m c s)))
end Kernel

/-! ## The reference -/

section Reference
open Cert.Reference9Ideal Cert.Reference9Ideal.Gen
variable (x0 : FVec Ideal S4096x2816 .bf16) (x1 : FVec Ideal S2816x1024 .bf16) (x2 : FVec Ideal S4096x1024 .f32) (x3 : FVec Ideal S1x1024 .f32) (x4 : FVec Ideal S4096x1024 .f32)
variable (X D E : FVec Ideal S4096x1024 .f32) (s : Fin 4096)

/-- The reference's operations on its arguments: the residual stream, its mean square with the norm's small constant, the difference, and the cotangent of the normalised rows. -/
def xTerm : FVec Ideal S4096x1024 .f32 :=
  addf x2 (Host.dotGeneral dot_S4096x2816_S2816x1024_S4096x1024_1_0_0_1_n_n none (extf .f32 x0 bitsLt_bf16_f32) (extf .f32 x1 bitsLt_bf16_f32))
def meanTerm : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1
    ![] bcast_S_S4096x1 (constant S_ .f32 0x44800000#32))) (broadcastInDim S4096x1 ![] bcast_S_S4096x1 (constant S_ .f32 0x358637BD#32))
def errTerm : FVec Ideal S4096x1024 .f32 :=
  subf (mulf (mulf X (broadcastInDim S4096x1024 ![0, 1] bcast_S4096x1_S4096x1024_0_1 (Host.rsqrt (meanTerm X)))) (broadcastInDim S4096x1024 ![0, 1] bcast_S1x1024_S4096x1024_0_1 x3)) x4
def cotTerm : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) E)
/-- The share of the mean square in the gradient, from any cotangent. -/
def spreadTerm : FVec Ideal S4096x1024 .f32 :=
  broadcastInDim S4096x1024 ![0] bcast_S4096_S4096x1024_0 (Host.reduceAdd (Host.divf (mulf (shapeCast S4096x1 (Host.reduceAdd (mulf X (mulf D (broadcastInDim S4096x1024 ![0, 1]
    bcast_S1x1024_S4096x1024_0_1 x3))) (constant S_ .f32 0x00000000#32) reducesTo_S4096x1024_S4096_d1 h_S_) shapeCasts_S4096_S4096x1) (mulf (broadcastInDim S4096x1 ![] bcast_S_S4096x1 (constant
    S_ .f32 0xBF000000#32)) (Host.divf (Host.rsqrt (meanTerm X)) (meanTerm X)))) (broadcastInDim S4096x1 ![] bcast_S_S4096x1 (constant S_ .f32 0x44800000#32))) (constant S_ .f32 0x00000000#32)
    reducesTo_S4096x1_S4096_d1 h_S_)
/-- The gradients of the residual stream and of the gains, and the loss. -/
def gradTerm : FVec Ideal S4096x1024 .f32 :=
  addf (addf (mulf (mulf D (broadcastInDim S4096x1024 ![0, 1] bcast_S1x1024_S4096x1024_0_1 x3)) (broadcastInDim S4096x1024 ![0, 1] bcast_S4096x1_S4096x1024_0_1 (Host.rsqrt (meanTerm X))))
    (mulf X (spreadTerm x3 X D))) (mulf (spreadTerm x3 X D) X)
def sumTerm : FVec Ideal S1x1024 .f32 :=
  shapeCast S1x1024 (Host.reduceAdd (mulf (mulf X (broadcastInDim S4096x1024 ![0, 1] bcast_S4096x1_S4096x1024_0_1 (Host.rsqrt (meanTerm X)))) D) (constant S_ .f32 0x00000000#32)
    reducesTo_S4096x1024_S1024_d0 h_S_) shapeCasts_S1024_S1x1024
def lossTerm : FVec Ideal S1x128 .f32 :=
  broadcastInDim S1x128 ![] bcast_S_S1x128 (mulf (constant S_ .f32 0x3F000000#32) (Host.reduceAdd (Host.divf (Host.reduceAdd (mulf E E) (constant S_ .f32 0x00000000#32)
    reducesTo_S4096x1024_S4096_d1 h_S_) (broadcastInDim S4096 ![] bcast_S_S4096 (constant S_ .f32 0x44800000#32))) (constant S_ .f32 0x00000000#32) reducesTo_S4096_S_d0 h_S_))

/-- A row of an array. -/
def rowOf (l : Fin 1024) : EReal := X (ix2 s l)
def lineOf (l : Fin 1024) : EReal := x3 (ix2 0 l)

theorem xTerm_row : rowOf (xTerm x0 x1 x2) s = xOf x0 x1 x2 s := by
  funext l
  show (xTerm x0 x1 x2 (ix2 s l) : EReal) = _
  pointwise [xTerm]
  rfl
theorem errTerm_row : rowOf (errTerm x3 x4 X) s = err (rowOf X s) (lineOf x3) (rowOf x4 s) := by
  funext l
  show (errTerm x3 x4 X (ix2 s l) : EReal) = _
  pointwise [errTerm, meanTerm]
  rfl
theorem cotTerm_row : rowOf (cotTerm E) s = fun l => rowOf E s l * Ideal.ofBits .f32 0x3A800000#32 := by
  funext l
  show (cotTerm E (ix2 s l) : EReal) = _
  refine Eq.trans ?_ (scaled _)
  pointwise [cotTerm]
  rfl
theorem gradTerm_apply (l : Fin 1024) : (gradTerm x3 X D (ix2 s l) : EReal) = across (rowOf X s) (fun l => rowOf D s l * lineOf x3 l) l := by
  have f := forms (rowOf X s) (fun l => rowOf D s l * lineOf x3 l) 0 l
  rw [zero_add, zero_add] at f
  refine Eq.trans ?_ f.symm
  pointwise [gradTerm, spreadTerm, meanTerm]
  simp only [Finset.univ_unique, Finset.sum_singleton]
  rfl
theorem sumTerm_apply (l : Fin 1024) : (sumTerm X D (ix2 0 l) : EReal) = ∑ s : Fin 4096, gain (rowOf X s) (rowOf D s) l := by
  pointwise [sumTerm, meanTerm]
  exact Finset.sum_congr rfl fun s _ => mul_comm _ _
theorem lossTerm_apply (j : Fin 128) : (lossTerm E (ix2 0 j) : EReal)
    = Ideal.ofBits .f32 0x3F000000#32 * ∑ s : Fin 4096, Ideal.div (∑ l, rowOf E s l * rowOf E s l) (Ideal.ofBits .f32 0x44800000#32) := by
  pointwise [lossTerm]
  rfl

theorem cot_row : rowOf (cotTerm (errTerm x3 x4 (xTerm x0 x1 x2))) s = cot (xOf x0 x1 x2 s) (lineOf x3) (rowOf x4 s) := by
  rw [cotTerm_row, errTerm_row, xTerm_row]
  rfl
/-- The reference's gradients and loss. -/
theorem grad_ref (l : Fin 1024) : (gradTerm x3 (xTerm x0 x1 x2) (cotTerm (errTerm x3 x4 (xTerm x0 x1 x2))) (ix2 s l) : EReal) = grad (xOf x0 x1 x2 s) (lineOf x3) (rowOf x4 s) l := by
  refine (gradTerm_apply x3 _ _ s l).trans ?_
  rw [cot_row, xTerm_row]
  rfl
theorem sum_ref (l : Fin 1024) : (sumTerm (xTerm x0 x1 x2) (cotTerm (errTerm x3 x4 (xTerm x0 x1 x2))) (ix2 0 l) : EReal)
    = ∑ s : Fin 4096, gain (xOf x0 x1 x2 s) (cot (xOf x0 x1 x2 s) (lineOf x3) (rowOf x4 s)) l := by
  refine (sumTerm_apply _ _ l).trans (Finset.sum_congr rfl fun s _ => ?_)
  rw [cot_row, xTerm_row]
theorem loss_ref (j : Fin 128) : (lossTerm (errTerm x3 x4 (xTerm x0 x1 x2)) (ix2 0 j) : EReal)
    = Ideal.ofBits .f32 0x3F000000#32 * ∑ s : Fin 4096, meanSq (xOf x0 x1 x2 s) (lineOf x3) (rowOf x4 s) := by
  refine (lossTerm_apply _ j).trans (congrArg (fun z : EReal => Ideal.ofBits .f32 0x3F000000#32 * z) (Finset.sum_congr rfl fun s _ => ?_))
  rw [errTerm_row, xTerm_row]
  rfl

variable (m : (ℓ : Loc nD τ sig) → Buf (Elt Ideal) ℓ) (c : Dev nD)
/-- The reference's results are these terms of its arguments. -/
theorem res0 (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) :
    Cert.Reference9Ideal.Value.res_main_v52 m c = gradTerm x3 (xTerm x0 x1 x2) (cotTerm (errTerm x3 x4 (xTerm x0 x1 x2))) := by
  unfold Cert.Reference9Ideal.Value.res_main_v52
  rw [h0, h1, h2, h3, h4]
  rfl
theorem res1 (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) :
    Cert.Reference9Ideal.Value.res_main_v53 m c = truncf .bf16 (gradTerm x3 (xTerm x0 x1 x2) (cotTerm (errTerm x3 x4 (xTerm x0 x1 x2)))) bitsLt_bf16_f32 := by
  unfold Cert.Reference9Ideal.Value.res_main_v53
  rw [h0, h1, h2, h3, h4]
  rfl
end Reference

end Cert.DownLoss

end
-- ==== Proof.DwAttn.lean ====
/- The gradient of the input projection's weights, the attention's columns: the blocks the kernel writes, the rows kept of its array, and the reference's product. -/
module

public import proofs.«01_k».proof.Proof.Gen.Kernel10Ideal.Frame
public import proofs.«01_k».proof.Proof.Gen.Reference10Ideal.Run
public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DwAttn

open Idealize.ShloMosaic Idealize.ShloMosaic.TcCoe Idealize.SL.Sem Cert.Kernel10Ideal Cert.Kernel10Ideal.Gen

theorem zero2 : (![0, 0] : Fin 2 → ℕ) = fun _ => 0 := by funext a; fin_cases a <;> rfl

variable (m : (ℓ : Loc nD τ sig) → Buf (Elt Ideal) ℓ) (ρ : Dev nD → PrngReg) (c : Dev nD)

/-- The rows kept of the array that the call leaves. -/
def kept : FVec Ideal S1536x1024 .bf16 :=
  extractStridedSlice S1536x1024 ![0, 0] ((dats m 0 c).arrAt 2 cfg0.N : FVec Ideal S3584x1024 .bf16) slices_S3584x1024_S1536x1024_0_0

/-- The line after the call reads the array as the call left it. -/
theorem after_call : Pipeline.afterTail₀ cfgs (dats m) 0 (V0 m) [hostOps1] c main_v1 = kept m c := by
  have e : Pipeline.withArrays spec0 c (V0 m c) (fun w => (dats m 0 c).arrAt w cfg0.N) (Proc.devRef .tc main_v0) = (dats m 0 c).arrAt 2 cfg0.N :=
    Pipeline.withArrays_arr spec0 launch0.win.arr_inj c (V0 m c) (fun w => (dats m 0 c).arrAt w cfg0.N) 2
  unfold Pipeline.afterTail₀ kept
  rw [← e]
  after_results <;> rfl

/-- The program's run: the result is the rows kept, the arguments are as they were. -/
theorem run : θ_run defs (onTc (τ := τ) (main (F := Ideal))) ⟨m, fun _ => 0, ρ⟩ fun r => ∀ c : Dev nD,
      r.2.mem ((c.tc : Thread nD τ).loc main_v1) = kept m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (Pipeline.mem_restRefs_of main_v1 (by decide) (by decide))).trans (after_call m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

theorem idx : ∀ t : Fin cfg0.N, win0_0.index t = ![0, t.val] ∧ win0_1.index t = ![0, 0] ∧ win0_2.index t = ![4 * (t.val % 3) + t.val / 3, 0] :=
  (by decide +kernel : ∀ t : Fin grid0.N, win0_0.index t = ![0, t.val] ∧ win0_1.index t = ![0, 0] ∧ win0_2.index t = ![4 * (t.val % 3) + t.val / 3, 0])

theorem flush : ∀ t : Fin cfg0.N, (cfg0.win 2).flush t = true :=
  (by decide +kernel : ∀ t : Fin grid0.N, (cfg0.win 2).flush t = true)

/-- Different points write different blocks. -/
theorem apart (t t' : Fin cfg0.N) (_ : (cfg0.win 2).flush t = true) (_ : (cfg0.win 2).flush t' = true) (ne : t ≠ t') :
    Disjoint ((cfg0.win 2).blk t).view.set ((cfg0.win 2).blk t').view.set := by
  refine (cfg0.win 2).disjoint_blk fun h => ne ?_
  exact (by decide +kernel : ∀ t t' : Fin grid0.N, win0_2.index t = win0_2.index t' → t = t') t t' h

/-- The block of point `t` in the array at the end is what the body left there. -/
theorem written (t : Fin cfg0.N) : ((cfg0.win 2).blk t).view.read (Elt Ideal) ((dats m 0 c).arrAt 2 cfg0.N) = (cfg0.win 2).cut (grid0.coords t) (outsAt0 m c t) := by
  refine ((dats m 0 c).read_blk_arrAt_eq_flushed 2 apart cfg0.N t t.isLt (flush t)).trans ?_
  show (cfg0.win 2).cut (grid0.coords t) ((dats m 0 c).after 2 t) = _
  rw [after0_2]

/-- The block of point `t`: the transposed panel of the cotangent times the norm's output. -/
theorem block_eq (t : Fin cfg0.N) : outsAt0 m c t = k0_pay2 (k0_pay1 (iblk m c 0 t)) (iblk m c 1 t) := by
  unfold outsAt0 out0_A_2
  refine (View.read_writes_eq_canon _ _ _ (cover0_A_2 c (grid0.coords t) (ms0_0 t) (hs0_0 t) (ms0_1 t) (hs0_1 t) (ms0_2 t) (hs0_2 t) scM0_0 (Memref.isWhole_whole _) (hcond0_0 t) (iblk m c 0 t) (iblk m c 1 t))).trans ?_
  unfold kernelRun0_A
  dsimp only
  sl_unfold_words
  rw [View.canon_cons_unit_zero (S := S128x1024) zero2, View.readCov_unit_zero (S := S128x4096) _ zero2]
  simp only [View.readAt_eq_ld, (hs0_0 t).read_unread, (hs0_1 t).read_unread,
    View.ld_unit_zero (S := S4096x128) zero2, View.ld_unit_zero (S := S4096x1024) zero2]

theorem product_apply (x : FVec Ideal S4096x128 .bf16) (y : FVec Ideal S4096x1024 .bf16) (r : Fin 128) (l : Fin 1024) :
    (k0_pay2 (F := Ideal) (k0_pay1 (F := Ideal) x) y (ix2 r l) : EReal) = ∑ s : Fin 4096, (x (ix2 s r) : EReal) * y (ix2 s l) := by
  pointwise [k0_pay2, k0_pay1]; try simp

/-- Where the cotangent of the weights' row `r` stands among the columns that are ordered by pairs of heads. -/
def place (r : Fin 1536) : Fin 1536 := ⟨128 * (3 * (r.val / 128 % 4) + r.val / 512) + r.val % 128, by omega⟩

/-- The arguments as arrays of numbers. -/
def inA (s : Fin 4096) (k : Fin 1536) : EReal := (V m c main_arg0 : S4096x1536.Idx → EReal) (ix2 s k)
def inU (s : Fin 4096) (l : Fin 1024) : EReal := (V m c main_arg1 : S4096x1024.Idx → EReal) (ix2 s l)

theorem blk0 (t : Fin cfg0.N) (s : Fin 4096) (j : Fin 128) (k : Fin 1536) (h : k.val = 128 * t.val + j.val) :
    (iblk m c 0 t : S4096x128.Idx → EReal) (ix2 s j) = inA m c s k := by
  unfold inA
  blk_ext [iblk, idx t]
theorem blk1 (t : Fin cfg0.N) (s : Fin 4096) (l : Fin 1024) :
    (iblk m c 1 t : S4096x1024.Idx → EReal) (ix2 s l) = inU m c s l := by
  unfold inU
  blk_ext [iblk, idx t]

/-- The array at the end, at an index that the call writes. -/
theorem array (r : Fin 1536) (l : Fin 1024) :
    ((dats m 0 c).arrAt 2 cfg0.N : S3584x1024.Idx → EReal) (ix2 (⟨r.val, by omega⟩ : Fin 3584) l)
      = ∑ s : Fin 4096, inA m c s (place r) * inU m c s l := by
  let t : Fin cfg0.N := ⟨3 * (r.val / 128 % 4) + r.val / 512, lt_of_lt_of_eq (show 3 * (r.val / 128 % 4) + r.val / 512 < 12 by omega) (show 12 = cfg0.N from N_0.symm)⟩
  let j : Fin 128 := ⟨r.val % 128, by omega⟩
  have ht : t.val = 3 * (r.val / 128 % 4) + r.val / 512 := rfl
  have hj : j.val = r.val % 128 := rfl
  have hk : (place r).val = 128 * t.val + j.val := rfl
  have e := congrFun (written m c t) (ix2 j l)
  have a := (congrFun (block_eq m c t) (ix2 j l)).trans (product_apply _ _ j l)
  simp only [blk0 m c t _ j (place r) hk, blk1] at a
  have hr : r.val = 128 * (4 * (t.val % 3) + t.val / 3) + j.val := by
    have h1 : t.val % 3 = r.val / 512 := by rw [ht]; omega
    have h2 : t.val / 3 = r.val / 128 % 4 := by rw [ht]; omega
    rw [h1, h2, hj]
    omega
  refine Eq.trans ?_ ((e.trans ?_).trans a)
  · symm
    blk_ext [idx t]
  · blk_ext [idx t]

/-- The result at an index. -/
theorem result (r : Fin 1536) (l : Fin 1024) :
    (kept m c (ix2 r l) : EReal)
      = ∑ s : Fin 4096, inA m c s (place r) * inU m c s l := by
  refine Eq.trans ?_ (array m c r l)
  unfold kept
  generalize ((dats m 0 c).arrAt 2 cfg0.N : FVec Ideal S3584x1024 .bf16) = q
  pointwise []
  try rfl

end Cert.DwAttn

namespace Cert.DwAttn

open Idealize.ShloMosaic Idealize.ShloMosaic.TcCoe Cert.Reference10Ideal Cert.Reference10Ideal.Gen

/-- The reference's operations on its two arguments. -/
def refTerm (a : FVec Ideal S4096x1536 .bf16) (u : FVec Ideal S4096x1024 .bf16) : FVec Ideal S1536x1024 .bf16 :=
  truncf .bf16 (transpose S1536x1024 [1, 0] (transpose S1024x1536 [1, 0] (Host.dotGeneral dot_S4096x1536_S4096x1024_S1536x1024_0_0_1_1_n_n none
    (shapeCast S4096x1536 (transpose S4096x3x4x128 [0, 2, 1, 3] (shapeCast S4096x4x3x128 (extf .f32 a bitsLt_bf16_f32) shapeCasts_S4096x1536_S4096x4x3x128)
      transposes_S4096x4x3x128_S4096x3x4x128_0_2_1_3) shapeCasts_S4096x3x4x128_S4096x1536)
    (extf .f32 u bitsLt_bf16_f32)) transposes_S1536x1024_S1024x1536_1_0) transposes_S1024x1536_S1536x1024_1_0) bitsLt_bf16_f32

theorem refTerm_apply (a : FVec Ideal S4096x1536 .bf16) (u : FVec Ideal S4096x1024 .bf16) (r : Fin 1536) (l : Fin 1024) :
    (refTerm a u (ix2 r l) : EReal) = ∑ s : Fin 4096, (a (ix2 s (place r)) : EReal) * (u (ix2 s l) : EReal) := by
  pointwise [refTerm]
  refine Finset.sum_congr rfl fun s _ => congrArg (fun i : Fin 1536 => (a (ix2 s i) : EReal) * (u (ix2 s l) : EReal)) (Fin.ext ?_)
  simp only [place]
  omega

end Cert.DwAttn

end
-- ==== Proof.DwUp.lean ====
/- The gradient of the up projection's weights: the blocks the kernel writes, and the reference's product. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.IdealHost
public import Idealize.ShloMosaic.Lib.ValueIdx

@[expose] public section

noncomputable section

namespace Cert.DwUp

open Idealize.ShloMosaic Idealize.ShloMosaic.TcCoe Idealize.SL.Sem Cert.Kernel3Ideal Cert.Kernel3Ideal.Gen Cert.Kernel3Ideal.Value

section Body
variable {F : FTy → Type} [FloatOps F]

theorem zero2 : (![0, 0] : Fin 2 → ℕ) = fun _ => 0 := by funext a; fin_cases a <;> rfl

/-- What the body leaves in its block: the product of the transposed panel with the forward's input. -/
theorem out_eq (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S256x4096 .bf16) (harg6 : arg6.IsWhole) (hc0 : cond0_0 i)
    (x0 : Vec F S4096x256 .bf16) (x1 : Vec F S4096x256 .bf16) (x2 : Vec F S4096x1024 .bf16) :
    out0_A_3 c i arg2 harg2 arg3 harg3 arg4 harg4 arg5 harg5 arg6 harg6 hc0 x0 x1 x2 = k0_pay2 (k0_pay1 i x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S256x1024) zero2, View.readCov_unit_zero (S := S256x4096) _ zero2]
  simp only [View.readAt_eq_ld, harg2.read_unread, harg3.read_unread, harg4.read_unread,
    View.ld_unit_zero (S := S4096x256) zero2, View.ld_unit_zero (S := S4096x1024) zero2]

end Body

/-- The panel at an index: the second operand from point 11 on. -/
theorem panel_apply (i : grid0.Coords) (x0 x1 : FVec Ideal S4096x256 .bf16) (r : Fin 256) (s : Fin 4096) :
    k0_pay1 i x0 x1 (ix2 r s) = if 11 ≤ (i 0).val then x1 (ix2 s r) else x0 (ix2 s r) := by
  have hs : ∀ t : Fin 22, Scalar.cmpi .sge (BitVec.ofNat 32 t.val) 11#32 = if 11 ≤ t.val then 1#1 else 0#1 := by decide +kernel
  have hi := hs (i 0)
  unfold k0_pay1
  dsimp only
  rw [hi]
  by_cases h : 11 ≤ (i 0).val
  · rw [if_pos h, if_pos h]; pointwise
  · rw [if_neg h, if_neg h]; pointwise

theorem product_apply (x : FVec Ideal S256x4096 .bf16) (y : FVec Ideal S4096x1024 .bf16) (r : Fin 256) (l : Fin 1024) :
    k0_pay2 x y (ix2 r l) = ∑ s : Fin 4096, (x (ix2 r s) : EReal) * y (ix2 s l) := by
  pointwise [k0_pay2]; try simp

theorem idx : ∀ t : Fin cfg0.N, win0_0.index t = ![0, min t.val 10] ∧ win0_1.index t = ![0, t.val - 11] ∧ win0_2.index t = ![0, 0] ∧ win0_3.index t = ![t.val, 0] ∧ (grid0.coords t 0).val = t.val :=
  (by decide +kernel : ∀ t : Fin grid0.N, win0_0.index t = ![0, min t.val 10] ∧ win0_1.index t = ![0, t.val - 11] ∧ win0_2.index t = ![0, 0] ∧ win0_3.index t = ![t.val, 0] ∧ (grid0.coords t 0).val = t.val)

variable (m : (ℓ : Loc nD τ sig) → Buf (Elt Ideal) ℓ) (c : Dev nD)

theorem lt22 (t : Fin cfg0.N) : t.val < 22 := lt_of_lt_of_eq t.isLt (show cfg0.N = 22 from N_0)

/-- The entries of the cotangents set side by side. -/
def side (a b : S4096x2816.Idx → EReal) (s : Fin 4096) (r : Fin 5632) : EReal :=
  if h : r.val < 2816 then a (ix2 s ⟨r.val, h⟩) else b (ix2 s ⟨r.val - 2816, by omega⟩)

theorem blkL (t : Fin cfg0.N) (ht : t.val < 11) (s : Fin 4096) (r : Fin 256) :
    (iblk m c 0 t : S4096x256.Idx → EReal) (ix2 s r) = (V m c main_arg0 : S4096x2816.Idx → EReal) (ix2 s ⟨256 * t.val + r.val, by omega⟩) := by
  have e : min t.val 10 = t.val := by omega
  have hi := (idx t).1
  rw [e] at hi
  blk_ext [iblk, hi]
theorem blkR (t : Fin cfg0.N) (ht : 11 ≤ t.val) (s : Fin 4096) (r : Fin 256) :
    (iblk m c 1 t : S4096x256.Idx → EReal) (ix2 s r) = (V m c main_arg1 : S4096x2816.Idx → EReal) (ix2 s ⟨256 * (t.val - 11) + r.val, by have := lt22 t; omega⟩) := by
  blk_ext [iblk, idx t]
theorem blkU (t : Fin cfg0.N) (s : Fin 4096) (l : Fin 1024) :
    (iblk m c 2 t : S4096x1024.Idx → EReal) (ix2 s l) = (V m c main_arg2 : S4096x1024.Idx → EReal) (ix2 s l) := by
  blk_ext [iblk, idx t]

/-- The block of point `t` at an index. -/
theorem block_apply (t : Fin cfg0.N) (r : Fin 256) (l : Fin 1024) :
    outsAt0 m c t (ix2 r l) = ∑ s : Fin 4096, side (V m c main_arg0) (V m c main_arg1) s ⟨256 * t.val + r.val, by have := lt22 t; omega⟩
      * (V m c main_arg2 : S4096x1024.Idx → EReal) (ix2 s l) := by
  have ht := lt22 t
  unfold outsAt0
  rw [out_eq, product_apply]
  refine Finset.sum_congr rfl fun s _ => ?_
  rw [panel_apply, (idx t).2.2.2.2, blkU]
  refine congrArg (· * _) ?_
  unfold side
  by_cases h : 11 ≤ t.val
  · rw [if_pos h, dif_neg (by show ¬ (256 * t.val + r.val < 2816); omega), blkR m c t h]
    exact congrArg (fun z => (V m c main_arg1 : S4096x2816.Idx → EReal) (ix2 s z)) (Fin.ext (by show 256 * (t.val - 11) + r.val = 256 * t.val + r.val - 2816; omega))
  · rw [if_neg h, dif_pos (by show 256 * t.val + r.val < 2816; omega), blkL m c t (by omega)]

/-- The result array at an index. -/
theorem result (r : Fin 5632) (l : Fin 1024) :
    ((dats m 0 c).arrAt 3 cfg0.N : S5632x1024.Idx → EReal) (ix2 r l)
      = ∑ s : Fin 4096, side (V m c main_arg0) (V m c main_arg1) s r * (V m c main_arg2 : S4096x1024.Idx → EReal) (ix2 s l) := by
  have hN : r.val / 256 < cfg0.N := lt_of_lt_of_eq (show r.val / 256 < 22 by omega) (show 22 = cfg0.N from N_0.symm)
  let t : Fin cfg0.N := ⟨r.val / 256, hN⟩
  let j : Fin 256 := ⟨r.val % 256, by omega⟩
  have hr : (⟨256 * t.val + j.val, by have := lt22 t; omega⟩ : Fin 5632) = r := Fin.ext (Nat.div_add_mod r.val 256)
  have e := congrFun (blocks3 m c t (flush0_3 t)) (ix2 j l)
  rw [flushed3] at e
  have a := block_apply m c t j l
  rw [hr] at a
  rw [← a]
  refine Eq.trans ?_ (e.trans ?_)
  · have ht : t.val = r.val / 256 := rfl
    have hj : j.val = r.val % 256 := rfl
    symm
    blk_ext [idx t]
  · blk_ext [idx t]

end Cert.DwUp

namespace Cert.DwUp

open Idealize.ShloMosaic Idealize.ShloMosaic.TcCoe Cert.Reference3Ideal Cert.Reference3Ideal.Gen

/-- The reference's operations on its three arguments. -/
def refTerm (a b : FVec Ideal S4096x2816 .bf16) (u : FVec Ideal S4096x1024 .bf16) : FVec Ideal S5632x1024 .bf16 :=
  truncf .bf16 (transpose S5632x1024 [1, 0] (transpose S1024x5632 [1, 0] (Host.dotGeneral dot_S4096x5632_S4096x1024_S5632x1024_0_0_1_1_n_n none (concatenate S4096x5632 1 [⟨S4096x2816, (extf .f32 a bitsLt_bf16_f32)⟩, ⟨S4096x2816, (extf .f32 b bitsLt_bf16_f32)⟩] concatenates_S4096x2816_S4096x2816_S4096x5632_d1) (extf .f32 u bitsLt_bf16_f32)) transposes_S5632x1024_S1024x5632_1_0) transposes_S1024x5632_S5632x1024_1_0) bitsLt_bf16_f32

theorem refTerm_apply (a b : FVec Ideal S4096x2816 .bf16) (u : FVec Ideal S4096x1024 .bf16) (r : Fin 5632) (l : Fin 1024) :
    refTerm a b u (ix2 r l) = ∑ s : Fin 4096, side a b s r * (u (ix2 s l) : EReal) := by
  pointwise [refTerm]
  rfl

end Cert.DwUp

end
-- ==== Proof.DuNormRef.lean ====
/- The call du2_norm2_bwd against its reference: at every index the same three results. -/
module

public import proofs.«01_k».proof.Proof.DuNormOut
public import proofs.«01_k».proof.Proof.Gen.Reference2Ideal.Run

@[expose] public section

noncomputable section

namespace Cert.DuNorm

open Idealize.ShloMosaic Idealize.ShloMosaic.TcCoe Idealize.SL.Sem Cert.Reference2Ideal Cert.Reference2Ideal.Gen Cert.NormGrad

variable (m : (ℓ : Loc nD τ sig) → Buf (Elt Ideal) ℓ) (c : Dev nD)

theorem low_half (k : Fin 2816) (p : k.val < 5632) : (⟨k.val, p⟩ : Fin 5632) = wrow 0 k := Fin.ext (by show k.val = 2816 * 0 + k.val; omega)
theorem high_half (k : Fin 2816) (p : 2816 + k.val < 5632) : (⟨2816 + k.val, p⟩ : Fin 5632) = wrow 1 k := Fin.ext (by show 2816 + k.val = 2816 * 1 + k.val; omega)

/-- The gradient of the residual stream at a row. -/
theorem ref0 (x0 x1 : S4096x2816.Idx → EReal) (x2 : S5632x1024.Idx → EReal) (x3 : S4096x1024.Idx → EReal) (x4 : S1x1024.Idx → EReal) (x5 : S4096x1024.Idx → EReal)
    (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) (h5 : m ((c.tc : Thread nD τ).loc main_arg5) = x5) (s : Fin 4096) (l : Fin 1024) :
    (Cert.Reference2Ideal.Value.res_main_v43 m c (ix2 s l) : EReal)
      = x5 (ix2 s l) + across (fun l => x3 (ix2 s l)) (fun l => du (fun k => x0 (ix2 s k)) (fun k => x1 (ix2 s k)) x2 l * x4 (ix2 0 l)) l := by
  refine Eq.trans ?_ (forms _ _ _ _).symm
  pointwise [Cert.Reference2Ideal.Value.res_main_v43]
  rw [h0, h1, h2, h3, h4, h5]
  simp only [low_half, high_half, Finset.univ_unique, Finset.sum_singleton]
  rfl
/-- Its rounded copy. -/
theorem ref1 (s : Fin 4096) (l : Fin 1024) :
    (Cert.Reference2Ideal.Value.res_main_v44 m c (ix2 s l) : EReal) = Cert.Reference2Ideal.Value.res_main_v43 m c (ix2 s l) := by
  rfl

/-- The reference's operations on its arguments, up to the gradient of the gains. -/
def gainsTerm (x0 x1 : FVec Ideal S4096x2816 .bf16) (x2 : FVec Ideal S5632x1024 .bf16) (x3 : FVec Ideal S4096x1024 .f32) : FVec Ideal S1x1024 .f32 :=
  shapeCast S1x1024 (Host.reduceAdd (mulf (mulf x3 (broadcastInDim S4096x1024 ![0, 1] bcast_S4096x1_S4096x1024_0_1 (Host.rsqrt (addf (Host.divf
    (broadcastInDim S4096x1 ![0] bcast_S4096_S4096x1_0 (Host.reduceAdd (mulf x3 x3) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))))))
    (Host.dotGeneral dot_S4096x5632_S1024x5632_S4096x1024_1_1_0_0_n_n none (concatenate S4096x5632 1 [⟨S4096x2816, extf .f32 x0 bitsLt_bf16_f32⟩, ⟨S4096x2816, extf .f32 x1 bitsLt_bf16_f32⟩]
      concatenates_S4096x2816_S4096x2816_S4096x5632_d1) (transpose S1024x5632 [1, 0] (extf .f32 x2 bitsLt_bf16_f32) transposes_S5632x1024_S1024x5632_1_0)))
    (constant S_ .f32 0x00000000#32) reducesTo_S4096x1024_S1024_d0 h_S_) shapeCasts_S1024_S1x1024

theorem gainsTerm_apply (x0 x1 : FVec Ideal S4096x2816 .bf16) (x2 : FVec Ideal S5632x1024 .bf16) (x3 : FVec Ideal S4096x1024 .f32) (l : Fin 1024) :
    (gainsTerm x0 x1 x2 x3 (ix2 0 l) : EReal) = ∑ s : Fin 4096, gain (fun l => x3 (ix2 s l)) (du (fun k => x0 (ix2 s k)) (fun k => x1 (ix2 s k)) x2) l := by
  pointwise [gainsTerm]
  simp only [low_half, high_half]
  exact Finset.sum_congr rfl fun s _ => mul_comm _ _

end Cert.DuNorm

end
-- ==== Proof.lean ====
module

public import proofs.«01_k».proof.Defs
public import proofs.«01_k».proof.Proof.Gen.KernelIdeal.Value
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6Ideal.Value
public import proofs.«01_k».proof.Proof.Gen.Reference6Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7Ideal.Value
public import proofs.«01_k».proof.Proof.Gen.Reference7Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8Ideal.Value
public import proofs.«01_k».proof.Proof.Gen.Reference8Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9Ideal.Value
public import proofs.«01_k».proof.Proof.Gen.Reference9Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10Ideal.Frame
public import proofs.«01_k».proof.Proof.Gen.Reference10Ideal.Run
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Ends
public import proofs.«01_k».proof.Proof.DwDown
public import proofs.«01_k».proof.Proof.DwOut
public import proofs.«01_k».proof.Proof.DwIn
public import proofs.«01_k».proof.Proof.Du1Ref
public import proofs.«01_k».proof.Proof.InProj
public import proofs.«01_k».proof.Proof.DownLossOut
public import proofs.«01_k».proof.Proof.DwAttn
public import proofs.«01_k».proof.Proof.DwUp
public import proofs.«01_k».proof.Proof.DuNormRef
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and leaves every counter at zero. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c =>
      have k := Cert.ReferenceIdeal.Steps.kept (StableHlo.launchContents m c)
      ⟨(h c Cert.ReferenceIdeal.main_arg0).trans k.1, (h c Cert.ReferenceIdeal.main_arg1).trans k.2.1, (h c Cert.ReferenceIdeal.main_arg2).trans k.2.2⟩,
    sem_eq_zero_of_no_sems (by decide) r.2⟩) (Cert.ReferenceIdeal.Steps.run m g)

theorem reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2.2.2, sem_eq_zero_of_no_sems (by decide) r.2⟩) (Cert.Reference2Ideal.Value.run m g)

theorem reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run _ _ _).mono (fun r h => ⟨fun c => (h c).2, sem_eq_zero_of_no_sems (by decide) r.2⟩) (Cert.Reference3Ideal.Value.run m g)

theorem reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Value.run m g)

theorem reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems (by decide) r.2⟩) (Cert.Reference5Ideal.Value.run m g)

theorem reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run _ _ _).mono (fun r h => ⟨fun c => (h c).2, sem_eq_zero_of_no_sems (by decide) r.2⟩) (Cert.Reference6Ideal.Value.run m g)

theorem reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0) :=
  (θ_run _ _ _).mono (fun r h => ⟨fun c => (h c).2.2, sem_eq_zero_of_no_sems (by decide) r.2⟩) (Cert.Reference7Ideal.Value.run m g)

theorem reference8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2.2.2.2, sem_eq_zero_of_no_sems (by decide) r.2⟩) (Cert.Reference8Ideal.Value.run m g)

theorem reference9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0) :=
  (θ_run _ _ _).mono (fun r h => ⟨fun c => (h c).2.2.2.2, sem_eq_zero_of_no_sems (by decide) r.2⟩) (Cert.Reference9Ideal.Value.run m g)

theorem reference10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2, sem_eq_zero_of_no_sems (by decide) r.2⟩) (Cert.Reference10Ideal.Value.run m g)

/-- From finite arguments the kernel's host lines and the reference read the same real numbers. -/
theorem reals (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a : Cert.KernelIdeal.S4096x2048.Idx → EReal) (b : Cert.KernelIdeal.S2x512.Idx → EReal) (d : Cert.KernelIdeal.S4096x512.Idx → EReal)
    (fa : ∀ i, a i = (((a i).toReal : ℝ) : EReal)) (fb : ∀ i, b i = (((b i).toReal : ℝ) : EReal)) (fd : ∀ i, d i = (((d i).toReal : ℝ) : EReal))
    (ha : m ((c.tc : Thread Cert.KernelIdeal.nD Cert.KernelIdeal.τ).loc Cert.KernelIdeal.main_arg0) = a)
    (hb : m ((c.tc : Thread Cert.KernelIdeal.nD Cert.KernelIdeal.τ).loc Cert.KernelIdeal.main_arg1) = b)
    (hd : m ((c.tc : Thread Cert.KernelIdeal.nD Cert.KernelIdeal.τ).loc Cert.KernelIdeal.main_arg2) = d)
    (ha' : m' ((c.tc : Thread Cert.ReferenceIdeal.nD Cert.ReferenceIdeal.τ).loc Cert.ReferenceIdeal.main_arg0) = a)
    (hb' : m' ((c.tc : Thread Cert.ReferenceIdeal.nD Cert.ReferenceIdeal.τ).loc Cert.ReferenceIdeal.main_arg1) = b)
    (hd' : m' ((c.tc : Thread Cert.ReferenceIdeal.nD Cert.ReferenceIdeal.τ).loc Cert.ReferenceIdeal.main_arg2) = d) :
    Cert.KernelIdeal.Chain.RealIn m c (Cert.realParts a b d)
      ∧ Cert.ReferenceIdeal.Steps.Args₀ (StableHlo.after Cert.ReferenceIdeal.Steps.ops (StableHlo.launchContents m' c)) (Cert.realParts a b d) :=
  ⟨Cert.KernelIdeal.Chain.realIn m c _ (fun r l => (congrFun ha _).trans (fa _)) (fun r l => (congrFun hb _).trans (fb _)) (fun r l => (congrFun hd _).trans (fd _)),
   Cert.ReferenceIdeal.Steps.args _ _ (fun r l => (congrFun ha' _).trans (fa _)) (fun r l => (congrFun hb' _).trans (fb _)) (fun r l => (congrFun hd' _).trans (fd _))⟩

instance : Cert.Kernel.Facts := Cert.Kernel.Gen.facts
instance : Cert.KernelIdeal.Facts := Cert.KernelIdeal.Gen.facts
instance : Cert.ReferenceIdeal.Facts := Cert.ReferenceIdeal.Gen.facts

theorem algebraic : Cert.algebraic_KernelIdeal_ReferenceIdeal_pre_finite := by
  intro m g m' g' pre same
  have both := fun c => reals m m' c _ _ _ (Cert.real_of_finite _ _ (pre c).1) (Cert.real_of_finite _ _ (pre c).2.1) (Cert.real_of_finite _ _ (pre c).2.2)
    rfl rfl rfl (same c).1 (same c).2.1 (same c).2.2
  refine ⟨fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, ?_⟩
  refine (θ_run _ _ _).mono (fun r h c => ?_) (Cert.ReferenceIdeal.Steps.run m' g')
  have k := Cert.ReferenceIdeal.Steps.kept (StableHlo.launchContents m' c)
  exact ⟨(h c Cert.ReferenceIdeal.main_v957).trans (Cert.equal0 m _ c _ (both c).1 (both c).2).symm,
    (h c Cert.ReferenceIdeal.main_v956).trans (Cert.equal1 m _ c _ (both c).1 (both c).2).symm,
    (h c Cert.ReferenceIdeal.main_arg0).trans k.1, (h c Cert.ReferenceIdeal.main_arg1).trans k.2.1, (h c Cert.ReferenceIdeal.main_arg2).trans k.2.2⟩

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts

/-- An index of a two-axis array is its two coordinates. -/
theorem at_ix2 {a b : ℕ} {α : Type} {f g : (⟨2, ![a, b]⟩ : Shape).Idx → α} (h : ∀ r l, f (ix2 r l) = g (ix2 r l)) : f = g :=
  funext fun y => by
    have e : y = ix2 (y 0) (y 1) := funext fun i => by
      match i with
      | ⟨0, _⟩ => rfl
      | ⟨1, _⟩ => rfl
    rw [e]; exact h _ _

theorem algebraic2 : Cert.algebraic_Kernel2Ideal_Reference2Ideal := by
  intro m g m' g' pre same
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, Cert.Kernel2Ideal.Value.run_blocks m g, ?_⟩
  refine (θ_run _ _ _).mono (fun r h c => ?_) (Cert.Reference2Ideal.Value.run m' g')
  obtain ⟨h0, h1, h2, kept⟩ := h c
  obtain ⟨s0, s1, s2, s3, s4, s5⟩ := same c
  have row : ∀ s l, (Cert.Reference2Ideal.Value.res_main_v43 m' c (ix2 s l) : EReal) = Cert.DuNorm.outAt m c s l :=
    Cert.DuNorm.ref0 m' c _ _ _ _ _ _ s0 s1 s2 s3 s4 s5
  refine ⟨h0.trans (at_ix2 fun s l => (row s l).trans (Cert.DuNorm.result0 m c s l).symm),
    h1.trans (at_ix2 fun s l => (Cert.DuNorm.ref1 m' c s l).trans ((row s l).trans (Cert.DuNorm.result1 m c s l).symm)),
    h2.trans (at_ix2 fun z l => ?_), kept⟩
  rw [s0, s1, s2, s3, Subsingleton.elim z (0 : Fin 1)]
  exact (Cert.DuNorm.gainsTerm_apply _ _ _ _ l).trans (Cert.DuNorm.result2 m c l).symm

theorem algebraic3 : Cert.algebraic_Kernel3Ideal_Reference3Ideal := by
  intro m g m' g' pre same
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run m' g')
  obtain ⟨h0, kept⟩ := h c
  obtain ⟨s0, s1, s2⟩ := same c
  refine ⟨h0.trans (at_ix2 fun s l => ?_), kept⟩
  rw [s0, s1, s2]
  exact (Cert.DwUp.refTerm_apply _ _ _ s l).trans (Cert.DwUp.result m c s l).symm

theorem algebraic4 : Cert.algebraic_Kernel4Ideal_Reference4Ideal := by
  intro m g m' g' pre same
  refine ⟨fun c => (Cert.Kernel4Ideal.Gen.dats m 0 c).arrAt 2 Cert.Kernel4Ideal.cfg0.N, Cert.Kernel4Ideal.Value.run_blocks m g, ?_⟩
  refine (θ_run _ _ _).mono (fun r h c => ?_) (Cert.Reference4Ideal.Value.run m' g')
  obtain ⟨h0, kept⟩ := h c
  obtain ⟨s0, s1⟩ := same c
  refine ⟨h0.trans (at_ix2 fun s l => ?_), kept⟩
  rw [s0, s1]
  exact (Cert.DwDown.refTerm_apply _ _ s l).trans (Cert.DwDown.result m c s l).symm

theorem algebraic5 : Cert.algebraic_Kernel5Ideal_Reference5Ideal := by
  intro m g m' g' pre same
  refine ⟨fun c => (Cert.Kernel5Ideal.Gen.dats m 0 c).arrAt 2 Cert.Kernel5Ideal.cfg0.N, Cert.Kernel5Ideal.Value.run_blocks m g, ?_⟩
  refine (θ_run _ _ _).mono (fun r h c => ?_) (Cert.Reference5Ideal.Value.run m' g')
  obtain ⟨h0, kept⟩ := h c
  obtain ⟨s0, s1⟩ := same c
  refine ⟨h0.trans (at_ix2 fun s l => ?_), kept⟩
  rw [s0, s1]
  exact (Cert.DwOut.refTerm_apply _ _ s l).trans (Cert.DwOut.result m c s l).symm

theorem algebraic6 : Cert.algebraic_Kernel6Ideal_Reference6Ideal := by
  intro m g m' g' pre same
  refine ⟨fun c => (Cert.Kernel6Ideal.Gen.dats m 0 c).arrAt 3 Cert.Kernel6Ideal.cfg0.N, Cert.Kernel6Ideal.Value.run_blocks m g, ?_⟩
  refine (θ_run _ _ _).mono (fun r h c => ?_) (Cert.Reference6Ideal.Value.run m' g')
  obtain ⟨h0, kept⟩ := h c
  obtain ⟨s0, s1, s2, s3⟩ := same c
  refine ⟨h0.trans (at_ix2 fun s l => ?_), kept⟩
  rw [s0, s1, s2, s3]
  exact (Cert.DwIn.refTerm_apply _ _ _ _ s l).trans (Cert.DwIn.result m c s l).symm

theorem algebraic7 : Cert.algebraic_Kernel7Ideal_Reference7Ideal := by
  intro m g m' g' pre same
  refine ⟨fun c => (Cert.Kernel7Ideal.Gen.dats m 0 c).arrAt 8 Cert.Kernel7Ideal.cfg0.N, fun c => (Cert.Kernel7Ideal.Gen.dats m 0 c).arrAt 10 Cert.Kernel7Ideal.cfg0.N,
    (θ_run _ _ _).mono (fun r h c => ⟨(h c).1, (h c).2.2⟩) (Cert.Kernel7Ideal.Value.run_blocks m g), ?_⟩
  refine (θ_run _ _ _).mono (fun r h c => ?_) (Cert.Reference7Ideal.Value.run m' g')
  obtain ⟨h0, h1, kept⟩ := h c
  obtain ⟨s0, s1, s2, s3, s4, s5, s6⟩ := same c
  refine ⟨h0.trans (at_ix2 fun s l => ?_), h1.trans (at_ix2 fun z l => ?_), kept⟩
  · exact (Cert.Du1.ref0 m' c _ _ _ _ _ _ _ s0 s1 s2 s3 s4 s5 s6 s l).trans (Cert.Du1.result0 m c s l).symm
  · rw [s0, s1, s2, s3, s4, Subsingleton.elim z (0 : Fin 1)]
    exact (Cert.Du1.gainsTerm_apply _ _ _ _ _ l).trans (Cert.Du1.result1 m c l).symm

theorem algebraic8 : Cert.algebraic_Kernel8Ideal_Reference8Ideal := by
  intro m g m' g' pre same
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    Cert.Kernel8Ideal.Value.run_blocks m g, ?_⟩
  refine (θ_run _ _ _).mono (fun r h c => ?_) (Cert.Reference8Ideal.Value.run m' g')
  obtain ⟨h0, h1, h2, h3, kept⟩ := h c
  obtain ⟨s0, s1, s2⟩ := same c
  refine ⟨h0.trans (at_ix2 fun s l => ?_), h1.trans (at_ix2 fun s l => ?_), h2.trans (at_ix2 fun s l => ?_), h3.trans (at_ix2 fun s l => ?_), kept⟩
  · rw [s0, s1]
    exact (Cert.InProj.ref0 _ _ s l).trans (Cert.InProj.result0 m c s l).symm
  · rw [s0, s1, s2]
    exact (Cert.InProj.ref1 _ _ _ s l).trans (Cert.InProj.result1 m c s l).symm
  · rw [s0, s1, s2]
    exact (Cert.InProj.ref2 _ _ _ s l).trans (Cert.InProj.result2 m c s l).symm
  · rw [s0, s1, s2]
    exact (Cert.InProj.ref3 _ _ _ s l).trans (Cert.InProj.result3 m c s l).symm

theorem algebraic9 : Cert.algebraic_Kernel9Ideal_Reference9Ideal := by
  intro m g m' g' pre same
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    Cert.Kernel9Ideal.Value.run_blocks m g, ?_⟩
  refine (θ_run _ _ _).mono (fun r h c => ?_) (Cert.Reference9Ideal.Value.run m' g')
  obtain ⟨h0, h1, h2, h3, kept⟩ := h c
  obtain ⟨s0, s1, s2, s3, s4⟩ := same c
  refine ⟨h0.trans (at_ix2 fun s l => ?_), h1.trans (at_ix2 fun s l => ?_), h2.trans (at_ix2 fun z l => ?_), h3.trans (at_ix2 fun z j => ?_), kept⟩
  · rw [Cert.DownLoss.res0 _ _ _ _ _ m' c s0 s1 s2 s3 s4]
    exact (Cert.DownLoss.grad_ref _ _ _ _ _ s l).trans (Cert.DownLoss.result0 m c s l).symm
  · rw [Cert.DownLoss.res1 _ _ _ _ _ m' c s0 s1 s2 s3 s4]
    exact (Cert.DownLoss.grad_ref _ _ _ _ _ s l).trans (Cert.DownLoss.result1 m c s l).symm
  · rw [s0, s1, s2, s3, s4, Subsingleton.elim z (0 : Fin 1)]
    exact (Cert.DownLoss.sum_ref _ _ _ _ _ l).trans (Cert.DownLoss.result2 m c l).symm
  · rw [s0, s1, s2, s3, s4, Subsingleton.elim z (0 : Fin 1)]
    exact (Cert.DownLoss.loss_ref _ _ _ _ _ j).trans (Cert.DownLoss.result3 m c j).symm

theorem algebraic10 : Cert.algebraic_Kernel10Ideal_Reference10Ideal := by
  intro m g m' g' pre same
  refine ⟨fun c => Cert.DwAttn.kept m c, Cert.DwAttn.run m g, ?_⟩
  refine (θ_run _ _ _).mono (fun r h c => ?_) (Cert.Reference10Ideal.Value.run m' g')
  obtain ⟨h0, kept⟩ := h c
  obtain ⟨s0, s1⟩ := same c
  refine ⟨h0.trans (at_ix2 fun s l => ?_), kept⟩
  rw [s0, s1]
  exact (Cert.DwAttn.refTerm_apply _ _ s l).trans (Cert.DwAttn.result m c s l).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.finiteFacts,
    fun m g _ => Cert.Kernel.Gen.frame m g, fun m g _ => Cert.KernelIdeal.Gen.frame m g, fun m g _ => Cert.KernelIdeal.Gen.frame m g,
    fun m g _ => reference m g, fun m g _ => reference m g,
    fun m g _ => Cert.Kernel2.Gen.frame m g, fun m g _ => Cert.Kernel2Ideal.Gen.frame m g, fun m g _ => reference2 m g,
    fun m g _ => Cert.Kernel3.Gen.frame m g, fun m g _ => Cert.Kernel3Ideal.Gen.frame m g, fun m g _ => reference3 m g,
    fun m g _ => Cert.Kernel4.Gen.frame m g, fun m g _ => Cert.Kernel4Ideal.Gen.frame m g, fun m g _ => reference4 m g,
    fun m g _ => Cert.Kernel5.Gen.frame m g, fun m g _ => Cert.Kernel5Ideal.Gen.frame m g, fun m g _ => reference5 m g,
    fun m g _ => Cert.Kernel6.Gen.frame m g, fun m g _ => Cert.Kernel6Ideal.Gen.frame m g, fun m g _ => reference6 m g,
    fun m g _ => Cert.Kernel7.Gen.frame m g, fun m g _ => Cert.Kernel7Ideal.Gen.frame m g, fun m g _ => reference7 m g,
    fun m g _ => Cert.Kernel8.Gen.frame m g, fun m g _ => Cert.Kernel8Ideal.Gen.frame m g, fun m g _ => reference8 m g,
    fun m g _ => Cert.Kernel9.Gen.frame m g, fun m g _ => Cert.Kernel9Ideal.Gen.frame m g, fun m g _ => reference9 m g,
    fun m g _ => Cert.Kernel10.Gen.frame m g, fun m g _ => Cert.Kernel10Ideal.Gen.frame m g, fun m g _ => reference10 m g,
    trivial, algebraic, trivial, algebraic2, trivial, algebraic3, trivial, algebraic4, trivial, algebraic5, trivial, algebraic6, trivial, algebraic7, trivial, algebraic8, trivial, algebraic9, trivial, algebraic10⟩

end Cert.Proof

end
